-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwReferenceIdeal (m : (ℓ : Loc Cert.GateUpDwReferenceIdeal.nD Cert.GateUpDwReferenceIdeal.τ Cert.GateUpDwReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwReferenceIdeal (m : (ℓ : Loc Cert.MixDwReferenceIdeal.nD Cert.MixDwReferenceIdeal.τ Cert.MixDwReferenceIdeal.sig) → Buf (Elt Ideal) ℓ) : Prop :=
  True

def Pre_AttnDw (m : (ℓ : Loc Cert.AttnDw.nD Cert.AttnDw.τ Cert.AttnDw.sig) → Buf (Elt Bits) ℓ) : Prop :=
  True

def Pre_AttnDwIdeal (m : (ℓ : Loc Cert.AttnDwIdeal.nD Cert.AttnDwIdeal.τ Cert.AttnDwIdeal.sig) → Buf (Elt Ideal) ℓ) : Prop :=
  True

def Pre_AttnDwReferenceIdeal (m : (ℓ : Loc Cert.AttnDwReferenceIdeal.nD Cert.AttnDwReferenceIdeal.τ Cert.AttnDwReferenceIdeal.sig) → Buf (Elt Ideal) ℓ) : Prop :=
  True

def Pre_ConvDw (m : (ℓ : Loc Cert.ConvDw.nD Cert.ConvDw.τ Cert.ConvDw.sig) → Buf (Elt Bits) ℓ) : Prop :=
  True

def Pre_ConvDwIdeal (m : (ℓ : Loc Cert.ConvDwIdeal.nD Cert.ConvDwIdeal.τ Cert.ConvDwIdeal.sig) → Buf (Elt Ideal) ℓ) : Prop :=
  True

def Pre_ConvDwReferenceIdeal (m : (ℓ : Loc Cert.ConvDwReferenceIdeal.nD Cert.ConvDwReferenceIdeal.τ Cert.ConvDwReferenceIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxReferenceIdeal (m : (ℓ : Loc Cert.MixDxReferenceIdeal.nD Cert.MixDxReferenceIdeal.τ Cert.MixDxReferenceIdeal.sig) → Buf (Elt Ideal) ℓ) : Prop :=
  True

def Pre_AttnDx (m : (ℓ : Loc Cert.AttnDx.nD Cert.AttnDx.τ Cert.AttnDx.sig) → Buf (Elt Bits) ℓ) : Prop :=
  True

def Pre_AttnDxIdeal (m : (ℓ : Loc Cert.AttnDxIdeal.nD Cert.AttnDxIdeal.τ Cert.AttnDxIdeal.sig) → Buf (Elt Ideal) ℓ) : Prop :=
  True

def Pre_AttnDxReferenceIdeal (m : (ℓ : Loc Cert.AttnDxReferenceIdeal.nD Cert.AttnDxReferenceIdeal.τ Cert.AttnDxReferenceIdeal.sig) → Buf (Elt Ideal) ℓ) : Prop :=
  True

def Pre_ConvDx (m : (ℓ : Loc Cert.ConvDx.nD Cert.ConvDx.τ Cert.ConvDx.sig) → Buf (Elt Bits) ℓ) : Prop :=
  True

def Pre_ConvDxIdeal (m : (ℓ : Loc Cert.ConvDxIdeal.nD Cert.ConvDxIdeal.τ Cert.ConvDxIdeal.sig) → Buf (Elt Ideal) ℓ) : Prop :=
  True

def Pre_ConvDxReferenceIdeal (m : (ℓ : Loc Cert.ConvDxReferenceIdeal.nD Cert.ConvDxReferenceIdeal.τ Cert.ConvDxReferenceIdeal.sig) → Buf (Elt Ideal) ℓ) : Prop :=
  True

def Pre_InQ (m : (ℓ : Loc Cert.InQ.nD Cert.InQ.τ Cert.InQ.sig) → Buf (Elt Bits) ℓ) : Prop :=
  True

def Pre_InQIdeal (m : (ℓ : Loc Cert.InQIdeal.nD Cert.InQIdeal.τ Cert.InQIdeal.sig) → Buf (Elt Ideal) ℓ) : Prop :=
  True

def Pre_InQReferenceIdeal (m : (ℓ : Loc Cert.InQReferenceIdeal.nD Cert.InQReferenceIdeal.τ Cert.InQReferenceIdeal.sig) → Buf (Elt Ideal) ℓ) : Prop :=
  True

def Pre_InKv (m : (ℓ : Loc Cert.InKv.nD Cert.InKv.τ Cert.InKv.sig) → Buf (Elt Bits) ℓ) : Prop :=
  True

def Pre_InKvIdeal (m : (ℓ : Loc Cert.InKvIdeal.nD Cert.InKvIdeal.τ Cert.InKvIdeal.sig) → Buf (Elt Ideal) ℓ) : Prop :=
  True

def Pre_InKvReferenceIdeal (m : (ℓ : Loc Cert.InKvReferenceIdeal.nD Cert.InKvReferenceIdeal.τ Cert.InKvReferenceIdeal.sig) → Buf (Elt Ideal) ℓ) : Prop :=
  True

def Pre_InConv (m : (ℓ : Loc Cert.InConv.nD Cert.InConv.τ Cert.InConv.sig) → Buf (Elt Bits) ℓ) : Prop :=
  True

def Pre_InConvIdeal (m : (ℓ : Loc Cert.InConvIdeal.nD Cert.InConvIdeal.τ Cert.InConvIdeal.sig) → Buf (Elt Ideal) ℓ) : Prop :=
  True

def Pre_InConvReferenceIdeal (m : (ℓ : Loc Cert.InConvReferenceIdeal.nD Cert.InConvReferenceIdeal.τ Cert.InConvReferenceIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesReferenceIdeal (m : (ℓ : Loc Cert.InGatesReferenceIdeal.nD Cert.InGatesReferenceIdeal.τ Cert.InGatesReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_GateUpDx (m : (ℓ : Loc Cert.GateUpDx.nD Cert.GateUpDx.τ Cert.GateUpDx.sig) → Buf (Elt Bits) ℓ) : Prop :=
  True

def Pre_GateUpDxIdeal (m : (ℓ : Loc Cert.GateUpDxIdeal.nD Cert.GateUpDxIdeal.τ Cert.GateUpDxIdeal.sig) → Buf (Elt Ideal) ℓ) : Prop :=
  True

def Pre_GateUpDxReferenceIdeal (m : (ℓ : Loc Cert.GateUpDxReferenceIdeal.nD Cert.GateUpDxReferenceIdeal.τ Cert.GateUpDxReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_SwigluDx (m : (ℓ : Loc Cert.SwigluDx.nD Cert.SwigluDx.τ Cert.SwigluDx.sig) → Buf (Elt Bits) ℓ) : Prop :=
  True

def Pre_SwigluDxIdeal (m : (ℓ : Loc Cert.SwigluDxIdeal.nD Cert.SwigluDxIdeal.τ Cert.SwigluDxIdeal.sig) → Buf (Elt Ideal) ℓ) : Prop :=
  True

def Pre_SwigluDxIdeal_finite_products [hPre_finite_products : Cert.Pre_finite_products.Facts] (m : (ℓ : Loc Cert.SwigluDxIdeal.nD Cert.SwigluDxIdeal.τ Cert.SwigluDxIdeal.sig) → Buf (Elt Ideal) ℓ) : Prop :=
  ∀ c : Dev Cert.SwigluDxIdeal.nD,
    (Cert.Pre_finite_products.fn (F := Ideal) (m ((c.tc : Thread Cert.SwigluDxIdeal.nD Cert.SwigluDxIdeal.τ).loc Cert.SwigluDxIdeal.main_arg0)) (m ((c.tc : Thread Cert.SwigluDxIdeal.nD Cert.SwigluDxIdeal.τ).loc Cert.SwigluDxIdeal.main_arg1)) (m ((c.tc : Thread Cert.SwigluDxIdeal.nD Cert.SwigluDxIdeal.τ).loc Cert.SwigluDxIdeal.main_arg2)) (m ((c.tc : Thread Cert.SwigluDxIdeal.nD Cert.SwigluDxIdeal.τ).loc Cert.SwigluDxIdeal.main_arg3))).1 = (fun _ => 1#1)
    ∧ (Cert.Pre_finite_products.fn (F := Ideal) (m ((c.tc : Thread Cert.SwigluDxIdeal.nD Cert.SwigluDxIdeal.τ).loc Cert.SwigluDxIdeal.main_arg0)) (m ((c.tc : Thread Cert.SwigluDxIdeal.nD Cert.SwigluDxIdeal.τ).loc Cert.SwigluDxIdeal.main_arg1)) (m ((c.tc : Thread Cert.SwigluDxIdeal.nD Cert.SwigluDxIdeal.τ).loc Cert.SwigluDxIdeal.main_arg2)) (m ((c.tc : Thread Cert.SwigluDxIdeal.nD Cert.SwigluDxIdeal.τ).loc Cert.SwigluDxIdeal.main_arg3))).2.1 = (fun _ => 1#1)
    ∧ (Cert.Pre_finite_products.fn (F := Ideal) (m ((c.tc : Thread Cert.SwigluDxIdeal.nD Cert.SwigluDxIdeal.τ).loc Cert.SwigluDxIdeal.main_arg0)) (m ((c.tc : Thread Cert.SwigluDxIdeal.nD Cert.SwigluDxIdeal.τ).loc Cert.SwigluDxIdeal.main_arg1)) (m ((c.tc : Thread Cert.SwigluDxIdeal.nD Cert.SwigluDxIdeal.τ).loc Cert.SwigluDxIdeal.main_arg2)) (m ((c.tc : Thread Cert.SwigluDxIdeal.nD Cert.SwigluDxIdeal.τ).loc Cert.SwigluDxIdeal.main_arg3))).2.2 = (fun _ => 1#1)

def Pre_SwigluDxReferenceIdeal (m : (ℓ : Loc Cert.SwigluDxReferenceIdeal.nD Cert.SwigluDxReferenceIdeal.τ Cert.SwigluDxReferenceIdeal.sig) → Buf (Elt Ideal) ℓ) : Prop :=
  True

def Pre_SwigluDxReferenceIdeal_finite_products [hPre_finite_products : Cert.Pre_finite_products.Facts] (m : (ℓ : Loc Cert.SwigluDxReferenceIdeal.nD Cert.SwigluDxReferenceIdeal.τ Cert.SwigluDxReferenceIdeal.sig) → Buf (Elt Ideal) ℓ) : Prop :=
  ∀ c : Dev Cert.SwigluDxReferenceIdeal.nD,
    (Cert.Pre_finite_products.fn (F := Ideal) (m ((c.tc : Thread Cert.SwigluDxReferenceIdeal.nD Cert.SwigluDxReferenceIdeal.τ).loc Cert.SwigluDxReferenceIdeal.main_arg0)) (m ((c.tc : Thread Cert.SwigluDxReferenceIdeal.nD Cert.SwigluDxReferenceIdeal.τ).loc Cert.SwigluDxReferenceIdeal.main_arg1)) (m ((c.tc : Thread Cert.SwigluDxReferenceIdeal.nD Cert.SwigluDxReferenceIdeal.τ).loc Cert.SwigluDxReferenceIdeal.main_arg2)) (m ((c.tc : Thread Cert.SwigluDxReferenceIdeal.nD Cert.SwigluDxReferenceIdeal.τ).loc Cert.SwigluDxReferenceIdeal.main_arg3))).1 = (fun _ => 1#1)
    ∧ (Cert.Pre_finite_products.fn (F := Ideal) (m ((c.tc : Thread Cert.SwigluDxReferenceIdeal.nD Cert.SwigluDxReferenceIdeal.τ).loc Cert.SwigluDxReferenceIdeal.main_arg0)) (m ((c.tc : Thread Cert.SwigluDxReferenceIdeal.nD Cert.SwigluDxReferenceIdeal.τ).loc Cert.SwigluDxReferenceIdeal.main_arg1)) (m ((c.tc : Thread Cert.SwigluDxReferenceIdeal.nD Cert.SwigluDxReferenceIdeal.τ).loc Cert.SwigluDxReferenceIdeal.main_arg2)) (m ((c.tc : Thread Cert.SwigluDxReferenceIdeal.nD Cert.SwigluDxReferenceIdeal.τ).loc Cert.SwigluDxReferenceIdeal.main_arg3))).2.1 = (fun _ => 1#1)
    ∧ (Cert.Pre_finite_products.fn (F := Ideal) (m ((c.tc : Thread Cert.SwigluDxReferenceIdeal.nD Cert.SwigluDxReferenceIdeal.τ).loc Cert.SwigluDxReferenceIdeal.main_arg0)) (m ((c.tc : Thread Cert.SwigluDxReferenceIdeal.nD Cert.SwigluDxReferenceIdeal.τ).loc Cert.SwigluDxReferenceIdeal.main_arg1)) (m ((c.tc : Thread Cert.SwigluDxReferenceIdeal.nD Cert.SwigluDxReferenceIdeal.τ).loc Cert.SwigluDxReferenceIdeal.main_arg2)) (m ((c.tc : Thread Cert.SwigluDxReferenceIdeal.nD Cert.SwigluDxReferenceIdeal.τ).loc Cert.SwigluDxReferenceIdeal.main_arg3))).2.2 = (fun _ => 1#1)

def Pre_AdamWide (m : (ℓ : Loc Cert.AdamWide.nD Cert.AdamWide.τ Cert.AdamWide.sig) → Buf (Elt Bits) ℓ) : Prop :=
  True

def Pre_AdamWideIdeal (m : (ℓ : Loc Cert.AdamWideIdeal.nD Cert.AdamWideIdeal.τ Cert.AdamWideIdeal.sig) → Buf (Elt Ideal) ℓ) : Prop :=
  True

def Pre_AdamWideReferenceIdeal (m : (ℓ : Loc Cert.AdamWideReferenceIdeal.nD Cert.AdamWideReferenceIdeal.τ Cert.AdamWideReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_SumAttn [hPre_chip_for_attn : Cert.Pre_chip_for_attn.Facts] (m : (ℓ : Loc Cert.SumAttn.nD Cert.SumAttn.τ Cert.SumAttn.sig) → Buf (Elt Bits) ℓ) : Prop :=
  ∀ c : Dev Cert.SumAttn.nD,
    (Cert.Pre_chip_for_attn.fn (F := Bits) (m ((c.tc : Thread Cert.SumAttn.nD Cert.SumAttn.τ).loc Cert.SumAttn.main_arg0)) (m ((c.tc : Thread Cert.SumAttn.nD Cert.SumAttn.τ).loc Cert.SumAttn.main_arg1)) (m ((c.tc : Thread Cert.SumAttn.nD Cert.SumAttn.τ).loc Cert.SumAttn.main_arg2))).1 = (fun _ => 1#1)
    ∧ (Cert.Pre_chip_for_attn.fn (F := Bits) (m ((c.tc : Thread Cert.SumAttn.nD Cert.SumAttn.τ).loc Cert.SumAttn.main_arg0)) (m ((c.tc : Thread Cert.SumAttn.nD Cert.SumAttn.τ).loc Cert.SumAttn.main_arg1)) (m ((c.tc : Thread Cert.SumAttn.nD Cert.SumAttn.τ).loc Cert.SumAttn.main_arg2))).2 = (fun _ => 1#1)

def Pre_SumAttnIdeal [hPre_chip_for_attn : Cert.Pre_chip_for_attn.Facts] (m : (ℓ : Loc Cert.SumAttnIdeal.nD Cert.SumAttnIdeal.τ Cert.SumAttnIdeal.sig) → Buf (Elt Ideal) ℓ) : Prop :=
  ∀ c : Dev Cert.SumAttnIdeal.nD,
    (Cert.Pre_chip_for_attn.fn (F := Ideal) (m ((c.tc : Thread Cert.SumAttnIdeal.nD Cert.SumAttnIdeal.τ).loc Cert.SumAttnIdeal.main_arg0)) (m ((c.tc : Thread Cert.SumAttnIdeal.nD Cert.SumAttnIdeal.τ).loc Cert.SumAttnIdeal.main_arg1)) (m ((c.tc : Thread Cert.SumAttnIdeal.nD Cert.SumAttnIdeal.τ).loc Cert.SumAttnIdeal.main_arg2))).1 = (fun _ => 1#1)
    ∧ (Cert.Pre_chip_for_attn.fn (F := Ideal) (m ((c.tc : Thread Cert.SumAttnIdeal.nD Cert.SumAttnIdeal.τ).loc Cert.SumAttnIdeal.main_arg0)) (m ((c.tc : Thread Cert.SumAttnIdeal.nD Cert.SumAttnIdeal.τ).loc Cert.SumAttnIdeal.main_arg1)) (m ((c.tc : Thread Cert.SumAttnIdeal.nD Cert.SumAttnIdeal.τ).loc Cert.SumAttnIdeal.main_arg2))).2 = (fun _ => 1#1)

def Pre_SumAttnReferenceIdeal (m : (ℓ : Loc Cert.SumAttnReferenceIdeal.nD Cert.SumAttnReferenceIdeal.τ Cert.SumAttnReferenceIdeal.sig) → Buf (Elt Ideal) ℓ) : Prop :=
  True

def Pre_SumAttnReferenceIdeal_chip_for_attn [hPre_chip_for_attn : Cert.Pre_chip_for_attn.Facts] (m : (ℓ : Loc Cert.SumAttnReferenceIdeal.nD Cert.SumAttnReferenceIdeal.τ Cert.SumAttnReferenceIdeal.sig) → Buf (Elt Ideal) ℓ) : Prop :=
  ∀ c : Dev Cert.SumAttnReferenceIdeal.nD,
    (Cert.Pre_chip_for_attn.fn (F := Ideal) (m ((c.tc : Thread Cert.SumAttnReferenceIdeal.nD Cert.SumAttnReferenceIdeal.τ).loc Cert.SumAttnReferenceIdeal.main_arg0)) (m ((c.tc : Thread Cert.SumAttnReferenceIdeal.nD Cert.SumAttnReferenceIdeal.τ).loc Cert.SumAttnReferenceIdeal.main_arg1)) (m ((c.tc : Thread Cert.SumAttnReferenceIdeal.nD Cert.SumAttnReferenceIdeal.τ).loc Cert.SumAttnReferenceIdeal.main_arg2))).1 = (fun _ => 1#1)
    ∧ (Cert.Pre_chip_for_attn.fn (F := Ideal) (m ((c.tc : Thread Cert.SumAttnReferenceIdeal.nD Cert.SumAttnReferenceIdeal.τ).loc Cert.SumAttnReferenceIdeal.main_arg0)) (m ((c.tc : Thread Cert.SumAttnReferenceIdeal.nD Cert.SumAttnReferenceIdeal.τ).loc Cert.SumAttnReferenceIdeal.main_arg1)) (m ((c.tc : Thread Cert.SumAttnReferenceIdeal.nD Cert.SumAttnReferenceIdeal.τ).loc Cert.SumAttnReferenceIdeal.main_arg2))).2 = (fun _ => 1#1)

def Pre_StepDown [hPre_chip_for_down : Cert.Pre_chip_for_down.Facts] (m : (ℓ : Loc Cert.StepDown.nD Cert.StepDown.τ Cert.StepDown.sig) → Buf (Elt Bits) ℓ) : Prop :=
  ∀ c : Dev Cert.StepDown.nD,
    (Cert.Pre_chip_for_down.fn (F := Bits) (m ((c.tc : Thread Cert.StepDown.nD Cert.StepDown.τ).loc Cert.StepDown.main_arg0)) (m ((c.tc : Thread Cert.StepDown.nD Cert.StepDown.τ).loc Cert.StepDown.main_arg1)) (m ((c.tc : Thread Cert.StepDown.nD Cert.StepDown.τ).loc Cert.StepDown.main_arg2)) (m ((c.tc : Thread Cert.StepDown.nD Cert.StepDown.τ).loc Cert.StepDown.main_arg3)) (m ((c.tc : Thread Cert.StepDown.nD Cert.StepDown.τ).loc Cert.StepDown.main_arg4)) (m ((c.tc : Thread Cert.StepDown.nD Cert.StepDown.τ).loc Cert.StepDown.main_arg5))).1 = (fun _ => 1#1)
    ∧ (Cert.Pre_chip_for_down.fn (F := Bits) (m ((c.tc : Thread Cert.StepDown.nD Cert.StepDown.τ).loc Cert.StepDown.main_arg0)) (m ((c.tc : Thread Cert.StepDown.nD Cert.StepDown.τ).loc Cert.StepDown.main_arg1)) (m ((c.tc : Thread Cert.StepDown.nD Cert.StepDown.τ).loc Cert.StepDown.main_arg2)) (m ((c.tc : Thread Cert.StepDown.nD Cert.StepDown.τ).loc Cert.StepDown.main_arg3)) (m ((c.tc : Thread Cert.StepDown.nD Cert.StepDown.τ).loc Cert.StepDown.main_arg4)) (m ((c.tc : Thread Cert.StepDown.nD Cert.StepDown.τ).loc Cert.StepDown.main_arg5))).2 = (fun _ => 1#1)

def Pre_StepDownIdeal [hPre_chip_for_down : Cert.Pre_chip_for_down.Facts] (m : (ℓ : Loc Cert.StepDownIdeal.nD Cert.StepDownIdeal.τ Cert.StepDownIdeal.sig) → Buf (Elt Ideal) ℓ) : Prop :=
  ∀ c : Dev Cert.StepDownIdeal.nD,
    (Cert.Pre_chip_for_down.fn (F := Ideal) (m ((c.tc : Thread Cert.StepDownIdeal.nD Cert.StepDownIdeal.τ).loc Cert.StepDownIdeal.main_arg0)) (m ((c.tc : Thread Cert.StepDownIdeal.nD Cert.StepDownIdeal.τ).loc Cert.StepDownIdeal.main_arg1)) (m ((c.tc : Thread Cert.StepDownIdeal.nD Cert.StepDownIdeal.τ).loc Cert.StepDownIdeal.main_arg2)) (m ((c.tc : Thread Cert.StepDownIdeal.nD Cert.StepDownIdeal.τ).loc Cert.StepDownIdeal.main_arg3)) (m ((c.tc : Thread Cert.StepDownIdeal.nD Cert.StepDownIdeal.τ).loc Cert.StepDownIdeal.main_arg4)) (m ((c.tc : Thread Cert.StepDownIdeal.nD Cert.StepDownIdeal.τ).loc Cert.StepDownIdeal.main_arg5))).1 = (fun _ => 1#1)
    ∧ (Cert.Pre_chip_for_down.fn (F := Ideal) (m ((c.tc : Thread Cert.StepDownIdeal.nD Cert.StepDownIdeal.τ).loc Cert.StepDownIdeal.main_arg0)) (m ((c.tc : Thread Cert.StepDownIdeal.nD Cert.StepDownIdeal.τ).loc Cert.StepDownIdeal.main_arg1)) (m ((c.tc : Thread Cert.StepDownIdeal.nD Cert.StepDownIdeal.τ).loc Cert.StepDownIdeal.main_arg2)) (m ((c.tc : Thread Cert.StepDownIdeal.nD Cert.StepDownIdeal.τ).loc Cert.StepDownIdeal.main_arg3)) (m ((c.tc : Thread Cert.StepDownIdeal.nD Cert.StepDownIdeal.τ).loc Cert.StepDownIdeal.main_arg4)) (m ((c.tc : Thread Cert.StepDownIdeal.nD Cert.StepDownIdeal.τ).loc Cert.StepDownIdeal.main_arg5))).2 = (fun _ => 1#1)

def Pre_StepDownReferenceIdeal (m : (ℓ : Loc Cert.StepDownReferenceIdeal.nD Cert.StepDownReferenceIdeal.τ Cert.StepDownReferenceIdeal.sig) → Buf (Elt Ideal) ℓ) : Prop :=
  True

def Pre_StepDownReferenceIdeal_chip_for_down [hPre_chip_for_down : Cert.Pre_chip_for_down.Facts] (m : (ℓ : Loc Cert.StepDownReferenceIdeal.nD Cert.StepDownReferenceIdeal.τ Cert.StepDownReferenceIdeal.sig) → Buf (Elt Ideal) ℓ) : Prop :=
  ∀ c : Dev Cert.StepDownReferenceIdeal.nD,
    (Cert.Pre_chip_for_down.fn (F := Ideal) (m ((c.tc : Thread Cert.StepDownReferenceIdeal.nD Cert.StepDownReferenceIdeal.τ).loc Cert.StepDownReferenceIdeal.main_arg0)) (m ((c.tc : Thread Cert.StepDownReferenceIdeal.nD Cert.StepDownReferenceIdeal.τ).loc Cert.StepDownReferenceIdeal.main_arg1)) (m ((c.tc : Thread Cert.StepDownReferenceIdeal.nD Cert.StepDownReferenceIdeal.τ).loc Cert.StepDownReferenceIdeal.main_arg2)) (m ((c.tc : Thread Cert.StepDownReferenceIdeal.nD Cert.StepDownReferenceIdeal.τ).loc Cert.StepDownReferenceIdeal.main_arg3)) (m ((c.tc : Thread Cert.StepDownReferenceIdeal.nD Cert.StepDownReferenceIdeal.τ).loc Cert.StepDownReferenceIdeal.main_arg4)) (m ((c.tc : Thread Cert.StepDownReferenceIdeal.nD Cert.StepDownReferenceIdeal.τ).loc Cert.StepDownReferenceIdeal.main_arg5))).1 = (fun _ => 1#1)
    ∧ (Cert.Pre_chip_for_down.fn (F := Ideal) (m ((c.tc : Thread Cert.StepDownReferenceIdeal.nD Cert.StepDownReferenceIdeal.τ).loc Cert.StepDownReferenceIdeal.main_arg0)) (m ((c.tc : Thread Cert.StepDownReferenceIdeal.nD Cert.StepDownReferenceIdeal.τ).loc Cert.StepDownReferenceIdeal.main_arg1)) (m ((c.tc : Thread Cert.StepDownReferenceIdeal.nD Cert.StepDownReferenceIdeal.τ).loc Cert.StepDownReferenceIdeal.main_arg2)) (m ((c.tc : Thread Cert.StepDownReferenceIdeal.nD Cert.StepDownReferenceIdeal.τ).loc Cert.StepDownReferenceIdeal.main_arg3)) (m ((c.tc : Thread Cert.StepDownReferenceIdeal.nD Cert.StepDownReferenceIdeal.τ).loc Cert.StepDownReferenceIdeal.main_arg4)) (m ((c.tc : Thread Cert.StepDownReferenceIdeal.nD Cert.StepDownReferenceIdeal.τ).loc Cert.StepDownReferenceIdeal.main_arg5))).2 = (fun _ => 1#1)

def Pre_StepGateUp [hPre_chip_for_gate_up : Cert.Pre_chip_for_gate_up.Facts] (m : (ℓ : Loc Cert.StepGateUp.nD Cert.StepGateUp.τ Cert.StepGateUp.sig) → Buf (Elt Bits) ℓ) : Prop :=
  ∀ c : Dev Cert.StepGateUp.nD,
    (Cert.Pre_chip_for_gate_up.fn (F := Bits) (m ((c.tc : Thread Cert.StepGateUp.nD Cert.StepGateUp.τ).loc Cert.StepGateUp.main_arg0)) (m ((c.tc : Thread Cert.StepGateUp.nD Cert.StepGateUp.τ).loc Cert.StepGateUp.main_arg1)) (m ((c.tc : Thread Cert.StepGateUp.nD Cert.StepGateUp.τ).loc Cert.StepGateUp.main_arg2)) (m ((c.tc : Thread Cert.StepGateUp.nD Cert.StepGateUp.τ).loc Cert.StepGateUp.main_arg3)) (m ((c.tc : Thread Cert.StepGateUp.nD Cert.StepGateUp.τ).loc Cert.StepGateUp.main_arg4)) (m ((c.tc : Thread Cert.StepGateUp.nD Cert.StepGateUp.τ).loc Cert.StepGateUp.main_arg5))).1 = (fun _ => 1#1)
    ∧ (Cert.Pre_chip_for_gate_up.fn (F := Bits) (m ((c.tc : Thread Cert.StepGateUp.nD Cert.StepGateUp.τ).loc Cert.StepGateUp.main_arg0)) (m ((c.tc : Thread Cert.StepGateUp.nD Cert.StepGateUp.τ).loc Cert.StepGateUp.main_arg1)) (m ((c.tc : Thread Cert.StepGateUp.nD Cert.StepGateUp.τ).loc Cert.StepGateUp.main_arg2)) (m ((c.tc : Thread Cert.StepGateUp.nD Cert.StepGateUp.τ).loc Cert.StepGateUp.main_arg3)) (m ((c.tc : Thread Cert.StepGateUp.nD Cert.StepGateUp.τ).loc Cert.StepGateUp.main_arg4)) (m ((c.tc : Thread Cert.StepGateUp.nD Cert.StepGateUp.τ).loc Cert.StepGateUp.main_arg5))).2 = (fun _ => 1#1)

def Pre_StepGateUpIdeal [hPre_chip_for_gate_up : Cert.Pre_chip_for_gate_up.Facts] (m : (ℓ : Loc Cert.StepGateUpIdeal.nD Cert.StepGateUpIdeal.τ Cert.StepGateUpIdeal.sig) → Buf (Elt Ideal) ℓ) : Prop :=
  ∀ c : Dev Cert.StepGateUpIdeal.nD,
    (Cert.Pre_chip_for_gate_up.fn (F := Ideal) (m ((c.tc : Thread Cert.StepGateUpIdeal.nD Cert.StepGateUpIdeal.τ).loc Cert.StepGateUpIdeal.main_arg0)) (m ((c.tc : Thread Cert.StepGateUpIdeal.nD Cert.StepGateUpIdeal.τ).loc Cert.StepGateUpIdeal.main_arg1)) (m ((c.tc : Thread Cert.StepGateUpIdeal.nD Cert.StepGateUpIdeal.τ).loc Cert.StepGateUpIdeal.main_arg2)) (m ((c.tc : Thread Cert.StepGateUpIdeal.nD Cert.StepGateUpIdeal.τ).loc Cert.StepGateUpIdeal.main_arg3)) (m ((c.tc : Thread Cert.StepGateUpIdeal.nD Cert.StepGateUpIdeal.τ).loc Cert.StepGateUpIdeal.main_arg4)) (m ((c.tc : Thread Cert.StepGateUpIdeal.nD Cert.StepGateUpIdeal.τ).loc Cert.StepGateUpIdeal.main_arg5))).1 = (fun _ => 1#1)
    ∧ (Cert.Pre_chip_for_gate_up.fn (F := Ideal) (m ((c.tc : Thread Cert.StepGateUpIdeal.nD Cert.StepGateUpIdeal.τ).loc Cert.StepGateUpIdeal.main_arg0)) (m ((c.tc : Thread Cert.StepGateUpIdeal.nD Cert.StepGateUpIdeal.τ).loc Cert.StepGateUpIdeal.main_arg1)) (m ((c.tc : Thread Cert.StepGateUpIdeal.nD Cert.StepGateUpIdeal.τ).loc Cert.StepGateUpIdeal.main_arg2)) (m ((c.tc : Thread Cert.StepGateUpIdeal.nD Cert.StepGateUpIdeal.τ).loc Cert.StepGateUpIdeal.main_arg3)) (m ((c.tc : Thread Cert.StepGateUpIdeal.nD Cert.StepGateUpIdeal.τ).loc Cert.StepGateUpIdeal.main_arg4)) (m ((c.tc : Thread Cert.StepGateUpIdeal.nD Cert.StepGateUpIdeal.τ).loc Cert.StepGateUpIdeal.main_arg5))).2 = (fun _ => 1#1)

def Pre_StepGateUpReferenceIdeal (m : (ℓ : Loc Cert.StepGateUpReferenceIdeal.nD Cert.StepGateUpReferenceIdeal.τ Cert.StepGateUpReferenceIdeal.sig) → Buf (Elt Ideal) ℓ) : Prop :=
  True

def Pre_StepGateUpReferenceIdeal_chip_for_gate_up [hPre_chip_for_gate_up : Cert.Pre_chip_for_gate_up.Facts] (m : (ℓ : Loc Cert.StepGateUpReferenceIdeal.nD Cert.StepGateUpReferenceIdeal.τ Cert.StepGateUpReferenceIdeal.sig) → Buf (Elt Ideal) ℓ) : Prop :=
  ∀ c : Dev Cert.StepGateUpReferenceIdeal.nD,
    (Cert.Pre_chip_for_gate_up.fn (F := Ideal) (m ((c.tc : Thread Cert.StepGateUpReferenceIdeal.nD Cert.StepGateUpReferenceIdeal.τ).loc Cert.StepGateUpReferenceIdeal.main_arg0)) (m ((c.tc : Thread Cert.StepGateUpReferenceIdeal.nD Cert.StepGateUpReferenceIdeal.τ).loc Cert.StepGateUpReferenceIdeal.main_arg1)) (m ((c.tc : Thread Cert.StepGateUpReferenceIdeal.nD Cert.StepGateUpReferenceIdeal.τ).loc Cert.StepGateUpReferenceIdeal.main_arg2)) (m ((c.tc : Thread Cert.StepGateUpReferenceIdeal.nD Cert.StepGateUpReferenceIdeal.τ).loc Cert.StepGateUpReferenceIdeal.main_arg3)) (m ((c.tc : Thread Cert.StepGateUpReferenceIdeal.nD Cert.StepGateUpReferenceIdeal.τ).loc Cert.StepGateUpReferenceIdeal.main_arg4)) (m ((c.tc : Thread Cert.StepGateUpReferenceIdeal.nD Cert.StepGateUpReferenceIdeal.τ).loc Cert.StepGateUpReferenceIdeal.main_arg5))).1 = (fun _ => 1#1)
    ∧ (Cert.Pre_chip_for_gate_up.fn (F := Ideal) (m ((c.tc : Thread Cert.StepGateUpReferenceIdeal.nD Cert.StepGateUpReferenceIdeal.τ).loc Cert.StepGateUpReferenceIdeal.main_arg0)) (m ((c.tc : Thread Cert.StepGateUpReferenceIdeal.nD Cert.StepGateUpReferenceIdeal.τ).loc Cert.StepGateUpReferenceIdeal.main_arg1)) (m ((c.tc : Thread Cert.StepGateUpReferenceIdeal.nD Cert.StepGateUpReferenceIdeal.τ).loc Cert.StepGateUpReferenceIdeal.main_arg2)) (m ((c.tc : Thread Cert.StepGateUpReferenceIdeal.nD Cert.StepGateUpReferenceIdeal.τ).loc Cert.StepGateUpReferenceIdeal.main_arg3)) (m ((c.tc : Thread Cert.StepGateUpReferenceIdeal.nD Cert.StepGateUpReferenceIdeal.τ).loc Cert.StepGateUpReferenceIdeal.main_arg4)) (m ((c.tc : Thread Cert.StepGateUpReferenceIdeal.nD Cert.StepGateUpReferenceIdeal.τ).loc Cert.StepGateUpReferenceIdeal.main_arg5))).2 = (fun _ => 1#1)

def Pre_StepOut [hPre_chip_for_out : Cert.Pre_chip_for_out.Facts] (m : (ℓ : Loc Cert.StepOut.nD Cert.StepOut.τ Cert.StepOut.sig) → Buf (Elt Bits) ℓ) : Prop :=
  ∀ c : Dev Cert.StepOut.nD,
    (Cert.Pre_chip_for_out.fn (F := Bits) (m ((c.tc : Thread Cert.StepOut.nD Cert.StepOut.τ).loc Cert.StepOut.main_arg0)) (m ((c.tc : Thread Cert.StepOut.nD Cert.StepOut.τ).loc Cert.StepOut.main_arg1)) (m ((c.tc : Thread Cert.StepOut.nD Cert.StepOut.τ).loc Cert.StepOut.main_arg2)) (m ((c.tc : Thread Cert.StepOut.nD Cert.StepOut.τ).loc Cert.StepOut.main_arg3)) (m ((c.tc : Thread Cert.StepOut.nD Cert.StepOut.τ).loc Cert.StepOut.main_arg4)) (m ((c.tc : Thread Cert.StepOut.nD Cert.StepOut.τ).loc Cert.StepOut.main_arg5))).1 = (fun _ => 1#1)
    ∧ (Cert.Pre_chip_for_out.fn (F := Bits) (m ((c.tc : Thread Cert.StepOut.nD Cert.StepOut.τ).loc Cert.StepOut.main_arg0)) (m ((c.tc : Thread Cert.StepOut.nD Cert.StepOut.τ).loc Cert.StepOut.main_arg1)) (m ((c.tc : Thread Cert.StepOut.nD Cert.StepOut.τ).loc Cert.StepOut.main_arg2)) (m ((c.tc : Thread Cert.StepOut.nD Cert.StepOut.τ).loc Cert.StepOut.main_arg3)) (m ((c.tc : Thread Cert.StepOut.nD Cert.StepOut.τ).loc Cert.StepOut.main_arg4)) (m ((c.tc : Thread Cert.StepOut.nD Cert.StepOut.τ).loc Cert.StepOut.main_arg5))).2 = (fun _ => 1#1)

def Pre_StepOutIdeal [hPre_chip_for_out : Cert.Pre_chip_for_out.Facts] (m : (ℓ : Loc Cert.StepOutIdeal.nD Cert.StepOutIdeal.τ Cert.StepOutIdeal.sig) → Buf (Elt Ideal) ℓ) : Prop :=
  ∀ c : Dev Cert.StepOutIdeal.nD,
    (Cert.Pre_chip_for_out.fn (F := Ideal) (m ((c.tc : Thread Cert.StepOutIdeal.nD Cert.StepOutIdeal.τ).loc Cert.StepOutIdeal.main_arg0)) (m ((c.tc : Thread Cert.StepOutIdeal.nD Cert.StepOutIdeal.τ).loc Cert.StepOutIdeal.main_arg1)) (m ((c.tc : Thread Cert.StepOutIdeal.nD Cert.StepOutIdeal.τ).loc Cert.StepOutIdeal.main_arg2)) (m ((c.tc : Thread Cert.StepOutIdeal.nD Cert.StepOutIdeal.τ).loc Cert.StepOutIdeal.main_arg3)) (m ((c.tc : Thread Cert.StepOutIdeal.nD Cert.StepOutIdeal.τ).loc Cert.StepOutIdeal.main_arg4)) (m ((c.tc : Thread Cert.StepOutIdeal.nD Cert.StepOutIdeal.τ).loc Cert.StepOutIdeal.main_arg5))).1 = (fun _ => 1#1)
    ∧ (Cert.Pre_chip_for_out.fn (F := Ideal) (m ((c.tc : Thread Cert.StepOutIdeal.nD Cert.StepOutIdeal.τ).loc Cert.StepOutIdeal.main_arg0)) (m ((c.tc : Thread Cert.StepOutIdeal.nD Cert.StepOutIdeal.τ).loc Cert.StepOutIdeal.main_arg1)) (m ((c.tc : Thread Cert.StepOutIdeal.nD Cert.StepOutIdeal.τ).loc Cert.StepOutIdeal.main_arg2)) (m ((c.tc : Thread Cert.StepOutIdeal.nD Cert.StepOutIdeal.τ).loc Cert.StepOutIdeal.main_arg3)) (m ((c.tc : Thread Cert.StepOutIdeal.nD Cert.StepOutIdeal.τ).loc Cert.StepOutIdeal.main_arg4)) (m ((c.tc : Thread Cert.StepOutIdeal.nD Cert.StepOutIdeal.τ).loc Cert.StepOutIdeal.main_arg5))).2 = (fun _ => 1#1)

def Pre_StepOutReferenceIdeal (m : (ℓ : Loc Cert.StepOutReferenceIdeal.nD Cert.StepOutReferenceIdeal.τ Cert.StepOutReferenceIdeal.sig) → Buf (Elt Ideal) ℓ) : Prop :=
  True

def Pre_StepOutReferenceIdeal_chip_for_out [hPre_chip_for_out : Cert.Pre_chip_for_out.Facts] (m : (ℓ : Loc Cert.StepOutReferenceIdeal.nD Cert.StepOutReferenceIdeal.τ Cert.StepOutReferenceIdeal.sig) → Buf (Elt Ideal) ℓ) : Prop :=
  ∀ c : Dev Cert.StepOutReferenceIdeal.nD,
    (Cert.Pre_chip_for_out.fn (F := Ideal) (m ((c.tc : Thread Cert.StepOutReferenceIdeal.nD Cert.StepOutReferenceIdeal.τ).loc Cert.StepOutReferenceIdeal.main_arg0)) (m ((c.tc : Thread Cert.StepOutReferenceIdeal.nD Cert.StepOutReferenceIdeal.τ).loc Cert.StepOutReferenceIdeal.main_arg1)) (m ((c.tc : Thread Cert.StepOutReferenceIdeal.nD Cert.StepOutReferenceIdeal.τ).loc Cert.StepOutReferenceIdeal.main_arg2)) (m ((c.tc : Thread Cert.StepOutReferenceIdeal.nD Cert.StepOutReferenceIdeal.τ).loc Cert.StepOutReferenceIdeal.main_arg3)) (m ((c.tc : Thread Cert.StepOutReferenceIdeal.nD Cert.StepOutReferenceIdeal.τ).loc Cert.StepOutReferenceIdeal.main_arg4)) (m ((c.tc : Thread Cert.StepOutReferenceIdeal.nD Cert.StepOutReferenceIdeal.τ).loc Cert.StepOutReferenceIdeal.main_arg5))).1 = (fun _ => 1#1)
    ∧ (Cert.Pre_chip_for_out.fn (F := Ideal) (m ((c.tc : Thread Cert.StepOutReferenceIdeal.nD Cert.StepOutReferenceIdeal.τ).loc Cert.StepOutReferenceIdeal.main_arg0)) (m ((c.tc : Thread Cert.StepOutReferenceIdeal.nD Cert.StepOutReferenceIdeal.τ).loc Cert.StepOutReferenceIdeal.main_arg1)) (m ((c.tc : Thread Cert.StepOutReferenceIdeal.nD Cert.StepOutReferenceIdeal.τ).loc Cert.StepOutReferenceIdeal.main_arg2)) (m ((c.tc : Thread Cert.StepOutReferenceIdeal.nD Cert.StepOutReferenceIdeal.τ).loc Cert.StepOutReferenceIdeal.main_arg3)) (m ((c.tc : Thread Cert.StepOutReferenceIdeal.nD Cert.StepOutReferenceIdeal.τ).loc Cert.StepOutReferenceIdeal.main_arg4)) (m ((c.tc : Thread Cert.StepOutReferenceIdeal.nD Cert.StepOutReferenceIdeal.τ).loc Cert.StepOutReferenceIdeal.main_arg5))).2 = (fun _ => 1#1)

def Pre_StepIn [hPre_chip_for_in : Cert.Pre_chip_for_in.Facts] (m : (ℓ : Loc Cert.StepIn.nD Cert.StepIn.τ Cert.StepIn.sig) → Buf (Elt Bits) ℓ) : Prop :=
  ∀ c : Dev Cert.StepIn.nD,
    (Cert.Pre_chip_for_in.fn (F := Bits) (m ((c.tc : Thread Cert.StepIn.nD Cert.StepIn.τ).loc Cert.StepIn.main_arg0)) (m ((c.tc : Thread Cert.StepIn.nD Cert.StepIn.τ).loc Cert.StepIn.main_arg1)) (m ((c.tc : Thread Cert.StepIn.nD Cert.StepIn.τ).loc Cert.StepIn.main_arg2)) (m ((c.tc : Thread Cert.StepIn.nD Cert.StepIn.τ).loc Cert.StepIn.main_arg3)) (m ((c.tc : Thread Cert.StepIn.nD Cert.StepIn.τ).loc Cert.StepIn.main_arg4)) (m ((c.tc : Thread Cert.StepIn.nD Cert.StepIn.τ).loc Cert.StepIn.main_arg5))).1 = (fun _ => 1#1)
    ∧ (Cert.Pre_chip_for_in.fn (F := Bits) (m ((c.tc : Thread Cert.StepIn.nD Cert.StepIn.τ).loc Cert.StepIn.main_arg0)) (m ((c.tc : Thread Cert.StepIn.nD Cert.StepIn.τ).loc Cert.StepIn.main_arg1)) (m ((c.tc : Thread Cert.StepIn.nD Cert.StepIn.τ).loc Cert.StepIn.main_arg2)) (m ((c.tc : Thread Cert.StepIn.nD Cert.StepIn.τ).loc Cert.StepIn.main_arg3)) (m ((c.tc : Thread Cert.StepIn.nD Cert.StepIn.τ).loc Cert.StepIn.main_arg4)) (m ((c.tc : Thread Cert.StepIn.nD Cert.StepIn.τ).loc Cert.StepIn.main_arg5))).2 = (fun _ => 1#1)

def Pre_StepInIdeal [hPre_chip_for_in : Cert.Pre_chip_for_in.Facts] (m : (ℓ : Loc Cert.StepInIdeal.nD Cert.StepInIdeal.τ Cert.StepInIdeal.sig) → Buf (Elt Ideal) ℓ) : Prop :=
  ∀ c : Dev Cert.StepInIdeal.nD,
    (Cert.Pre_chip_for_in.fn (F := Ideal) (m ((c.tc : Thread Cert.StepInIdeal.nD Cert.StepInIdeal.τ).loc Cert.StepInIdeal.main_arg0)) (m ((c.tc : Thread Cert.StepInIdeal.nD Cert.StepInIdeal.τ).loc Cert.StepInIdeal.main_arg1)) (m ((c.tc : Thread Cert.StepInIdeal.nD Cert.StepInIdeal.τ).loc Cert.StepInIdeal.main_arg2)) (m ((c.tc : Thread Cert.StepInIdeal.nD Cert.StepInIdeal.τ).loc Cert.StepInIdeal.main_arg3)) (m ((c.tc : Thread Cert.StepInIdeal.nD Cert.StepInIdeal.τ).loc Cert.StepInIdeal.main_arg4)) (m ((c.tc : Thread Cert.StepInIdeal.nD Cert.StepInIdeal.τ).loc Cert.StepInIdeal.main_arg5))).1 = (fun _ => 1#1)
    ∧ (Cert.Pre_chip_for_in.fn (F := Ideal) (m ((c.tc : Thread Cert.StepInIdeal.nD Cert.StepInIdeal.τ).loc Cert.StepInIdeal.main_arg0)) (m ((c.tc : Thread Cert.StepInIdeal.nD Cert.StepInIdeal.τ).loc Cert.StepInIdeal.main_arg1)) (m ((c.tc : Thread Cert.StepInIdeal.nD Cert.StepInIdeal.τ).loc Cert.StepInIdeal.main_arg2)) (m ((c.tc : Thread Cert.StepInIdeal.nD Cert.StepInIdeal.τ).loc Cert.StepInIdeal.main_arg3)) (m ((c.tc : Thread Cert.StepInIdeal.nD Cert.StepInIdeal.τ).loc Cert.StepInIdeal.main_arg4)) (m ((c.tc : Thread Cert.StepInIdeal.nD Cert.StepInIdeal.τ).loc Cert.StepInIdeal.main_arg5))).2 = (fun _ => 1#1)

def Pre_StepInReferenceIdeal (m : (ℓ : Loc Cert.StepInReferenceIdeal.nD Cert.StepInReferenceIdeal.τ Cert.StepInReferenceIdeal.sig) → Buf (Elt Ideal) ℓ) : Prop :=
  True

def Pre_StepInReferenceIdeal_chip_for_in [hPre_chip_for_in : Cert.Pre_chip_for_in.Facts] (m : (ℓ : Loc Cert.StepInReferenceIdeal.nD Cert.StepInReferenceIdeal.τ Cert.StepInReferenceIdeal.sig) → Buf (Elt Ideal) ℓ) : Prop :=
  ∀ c : Dev Cert.StepInReferenceIdeal.nD,
    (Cert.Pre_chip_for_in.fn (F := Ideal) (m ((c.tc : Thread Cert.StepInReferenceIdeal.nD Cert.StepInReferenceIdeal.τ).loc Cert.StepInReferenceIdeal.main_arg0)) (m ((c.tc : Thread Cert.StepInReferenceIdeal.nD Cert.StepInReferenceIdeal.τ).loc Cert.StepInReferenceIdeal.main_arg1)) (m ((c.tc : Thread Cert.StepInReferenceIdeal.nD Cert.StepInReferenceIdeal.τ).loc Cert.StepInReferenceIdeal.main_arg2)) (m ((c.tc : Thread Cert.StepInReferenceIdeal.nD Cert.StepInReferenceIdeal.τ).loc Cert.StepInReferenceIdeal.main_arg3)) (m ((c.tc : Thread Cert.StepInReferenceIdeal.nD Cert.StepInReferenceIdeal.τ).loc Cert.StepInReferenceIdeal.main_arg4)) (m ((c.tc : Thread Cert.StepInReferenceIdeal.nD Cert.StepInReferenceIdeal.τ).loc Cert.StepInReferenceIdeal.main_arg5))).1 = (fun _ => 1#1)
    ∧ (Cert.Pre_chip_for_in.fn (F := Ideal) (m ((c.tc : Thread Cert.StepInReferenceIdeal.nD Cert.StepInReferenceIdeal.τ).loc Cert.StepInReferenceIdeal.main_arg0)) (m ((c.tc : Thread Cert.StepInReferenceIdeal.nD Cert.StepInReferenceIdeal.τ).loc Cert.StepInReferenceIdeal.main_arg1)) (m ((c.tc : Thread Cert.StepInReferenceIdeal.nD Cert.StepInReferenceIdeal.τ).loc Cert.StepInReferenceIdeal.main_arg2)) (m ((c.tc : Thread Cert.StepInReferenceIdeal.nD Cert.StepInReferenceIdeal.τ).loc Cert.StepInReferenceIdeal.main_arg3)) (m ((c.tc : Thread Cert.StepInReferenceIdeal.nD Cert.StepInReferenceIdeal.τ).loc Cert.StepInReferenceIdeal.main_arg4)) (m ((c.tc : Thread Cert.StepInReferenceIdeal.nD Cert.StepInReferenceIdeal.τ).loc Cert.StepInReferenceIdeal.main_arg5))).2 = (fun _ => 1#1)

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateReferenceIdeal (m : (ℓ : Loc Cert.ConvGateReferenceIdeal.nD Cert.ConvGateReferenceIdeal.τ Cert.ConvGateReferenceIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormReferenceIdeal (m : (ℓ : Loc Cert.FfnNormReferenceIdeal.nD Cert.FfnNormReferenceIdeal.τ Cert.FfnNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ r.2.sem = fun _ => 0)

def quiescent_GateUpDwReferenceIdeal [hGateUpDwReferenceIdeal : Cert.GateUpDwReferenceIdeal.Facts] : Prop :=
  ∀ (m : (ℓ : Loc Cert.GateUpDwReferenceIdeal.nD Cert.GateUpDwReferenceIdeal.τ Cert.GateUpDwReferenceIdeal.sig) → Buf (Elt Ideal) ℓ) (g : Dev Cert.GateUpDwReferenceIdeal.nD → PrngReg), Pre_GateUpDwReferenceIdeal m →
    θ_run (Cert.GateUpDwReferenceIdeal.defs (F := Ideal)) (onTc (τ := Cert.GateUpDwReferenceIdeal.τ) (Cert.GateUpDwReferenceIdeal.main (F := Ideal))) ⟨m, fun _ => 0, g⟩ (fun r => (∀ c : Dev Cert.GateUpDwReferenceIdeal.nD,
      r.2.mem ((c.tc : Thread Cert.GateUpDwReferenceIdeal.nD Cert.GateUpDwReferenceIdeal.τ).loc Cert.GateUpDwReferenceIdeal.main_arg0) = m ((c.tc : Thread Cert.GateUpDwReferenceIdeal.nD Cert.GateUpDwReferenceIdeal.τ).loc Cert.GateUpDwReferenceIdeal.main_arg0)
      ∧ r.2.mem ((c.tc : Thread Cert.GateUpDwReferenceIdeal.nD Cert.GateUpDwReferenceIdeal.τ).loc Cert.GateUpDwReferenceIdeal.main_arg1) = m ((c.tc : Thread Cert.GateUpDwReferenceIdeal.nD Cert.GateUpDwReferenceIdeal.τ).loc Cert.GateUpDwReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwReferenceIdeal [hMixDwReferenceIdeal : Cert.MixDwReferenceIdeal.Facts] : Prop :=
  ∀ (m : (ℓ : Loc Cert.MixDwReferenceIdeal.nD Cert.MixDwReferenceIdeal.τ Cert.MixDwReferenceIdeal.sig) → Buf (Elt Ideal) ℓ) (g : Dev Cert.MixDwReferenceIdeal.nD → PrngReg), Pre_MixDwReferenceIdeal m →
    θ_run (Cert.MixDwReferenceIdeal.defs (F := Ideal)) (onTc (τ := Cert.MixDwReferenceIdeal.τ) (Cert.MixDwReferenceIdeal.main (F := Ideal))) ⟨m, fun _ => 0, g⟩ (fun r => (∀ c : Dev Cert.MixDwReferenceIdeal.nD,
      r.2.mem ((c.tc : Thread Cert.MixDwReferenceIdeal.nD Cert.MixDwReferenceIdeal.τ).loc Cert.MixDwReferenceIdeal.main_arg0) = m ((c.tc : Thread Cert.MixDwReferenceIdeal.nD Cert.MixDwReferenceIdeal.τ).loc Cert.MixDwReferenceIdeal.main_arg0)
      ∧ r.2.mem ((c.tc : Thread Cert.MixDwReferenceIdeal.nD Cert.MixDwReferenceIdeal.τ).loc Cert.MixDwReferenceIdeal.main_arg1) = m ((c.tc : Thread Cert.MixDwReferenceIdeal.nD Cert.MixDwReferenceIdeal.τ).loc Cert.MixDwReferenceIdeal.main_arg1))
      ∧ r.2.sem = fun _ => 0)

def quiescent_AttnDw [hAttnDw : Cert.AttnDw.Facts] : Prop :=
  ∀ (m : (ℓ : Loc Cert.AttnDw.nD Cert.AttnDw.τ Cert.AttnDw.sig) → Buf (Elt Bits) ℓ) (g : Dev Cert.AttnDw.nD → PrngReg), Pre_AttnDw m →
    θ_run (Cert.AttnDw.defs (F := Bits)) (onTc (τ := Cert.AttnDw.τ) (Cert.AttnDw.main (F := Bits))) ⟨m, fun _ => 0, g⟩ (fun r => (∀ c : Dev Cert.AttnDw.nD,
      r.2.mem ((c.tc : Thread Cert.AttnDw.nD Cert.AttnDw.τ).loc Cert.AttnDw.main_arg0) = m ((c.tc : Thread Cert.AttnDw.nD Cert.AttnDw.τ).loc Cert.AttnDw.main_arg0)
      ∧ r.2.mem ((c.tc : Thread Cert.AttnDw.nD Cert.AttnDw.τ).loc Cert.AttnDw.main_arg1) = m ((c.tc : Thread Cert.AttnDw.nD Cert.AttnDw.τ).loc Cert.AttnDw.main_arg1))
      ∧ r.2.sem = fun _ => 0)

def quiescent_AttnDwIdeal [hAttnDwIdeal : Cert.AttnDwIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg), Pre_AttnDwIdeal m →
    θ_run (Cert.AttnDwIdeal.defs (F := Ideal)) (onTc (τ := Cert.AttnDwIdeal.τ) (Cert.AttnDwIdeal.main (F := Ideal))) ⟨m, fun _ => 0, g⟩ (fun r => (∀ c : Dev Cert.AttnDwIdeal.nD,
      r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
      ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1))
      ∧ r.2.sem = fun _ => 0)

def quiescent_AttnDwReferenceIdeal [hAttnDwReferenceIdeal : Cert.AttnDwReferenceIdeal.Facts] : Prop :=
  ∀ (m : (ℓ : Loc Cert.AttnDwReferenceIdeal.nD Cert.AttnDwReferenceIdeal.τ Cert.AttnDwReferenceIdeal.sig) → Buf (Elt Ideal) ℓ) (g : Dev Cert.AttnDwReferenceIdeal.nD → PrngReg), Pre_AttnDwReferenceIdeal m →
    θ_run (Cert.AttnDwReferenceIdeal.defs (F := Ideal)) (onTc (τ := Cert.AttnDwReferenceIdeal.τ) (Cert.AttnDwReferenceIdeal.main (F := Ideal))) ⟨m, fun _ => 0, g⟩ (fun r => (∀ c : Dev Cert.AttnDwReferenceIdeal.nD,
      r.2.mem ((c.tc : Thread Cert.AttnDwReferenceIdeal.nD Cert.AttnDwReferenceIdeal.τ).loc Cert.AttnDwReferenceIdeal.main_arg0) = m ((c.tc : Thread Cert.AttnDwReferenceIdeal.nD Cert.AttnDwReferenceIdeal.τ).loc Cert.AttnDwReferenceIdeal.main_arg0)
      ∧ r.2.mem ((c.tc : Thread Cert.AttnDwReferenceIdeal.nD Cert.AttnDwReferenceIdeal.τ).loc Cert.AttnDwReferenceIdeal.main_arg1) = m ((c.tc : Thread Cert.AttnDwReferenceIdeal.nD Cert.AttnDwReferenceIdeal.τ).loc Cert.AttnDwReferenceIdeal.main_arg1))
      ∧ r.2.sem = fun _ => 0)

def quiescent_ConvDw [hConvDw : Cert.ConvDw.Facts] : Prop :=
  ∀ (m : (ℓ : Loc Cert.ConvDw.nD Cert.ConvDw.τ Cert.ConvDw.sig) → Buf (Elt Bits) ℓ) (g : Dev Cert.ConvDw.nD → PrngReg), Pre_ConvDw m →
    θ_run (Cert.ConvDw.defs (F := Bits)) (onTc (τ := Cert.ConvDw.τ) (Cert.ConvDw.main (F := Bits))) ⟨m, fun _ => 0, g⟩ (fun r => (∀ c : Dev Cert.ConvDw.nD,
      r.2.mem ((c.tc : Thread Cert.ConvDw.nD Cert.ConvDw.τ).loc Cert.ConvDw.main_arg0) = m ((c.tc : Thread Cert.ConvDw.nD Cert.ConvDw.τ).loc Cert.ConvDw.main_arg0)
      ∧ r.2.mem ((c.tc : Thread Cert.ConvDw.nD Cert.ConvDw.τ).loc Cert.ConvDw.main_arg1) = m ((c.tc : Thread Cert.ConvDw.nD Cert.ConvDw.τ).loc Cert.ConvDw.main_arg1))
      ∧ r.2.sem = fun _ => 0)

def quiescent_ConvDwIdeal [hConvDwIdeal : Cert.ConvDwIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg), Pre_ConvDwIdeal m →
    θ_run (Cert.ConvDwIdeal.defs (F := Ideal)) (onTc (τ := Cert.ConvDwIdeal.τ) (Cert.ConvDwIdeal.main (F := Ideal))) ⟨m, fun _ => 0, g⟩ (fun r => (∀ c : Dev Cert.ConvDwIdeal.nD,
      r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
      ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1))
      ∧ r.2.sem = fun _ => 0)

def quiescent_ConvDwReferenceIdeal [hConvDwReferenceIdeal : Cert.ConvDwReferenceIdeal.Facts] : Prop :=
  ∀ (m : (ℓ : Loc Cert.ConvDwReferenceIdeal.nD Cert.ConvDwReferenceIdeal.τ Cert.ConvDwReferenceIdeal.sig) → Buf (Elt Ideal) ℓ) (g : Dev Cert.ConvDwReferenceIdeal.nD → PrngReg), Pre_ConvDwReferenceIdeal m →
    θ_run (Cert.ConvDwReferenceIdeal.defs (F := Ideal)) (onTc (τ := Cert.ConvDwReferenceIdeal.τ) (Cert.ConvDwReferenceIdeal.main (F := Ideal))) ⟨m, fun _ => 0, g⟩ (fun r => (∀ c : Dev Cert.ConvDwReferenceIdeal.nD,
      r.2.mem ((c.tc : Thread Cert.ConvDwReferenceIdeal.nD Cert.ConvDwReferenceIdeal.τ).loc Cert.ConvDwReferenceIdeal.main_arg0) = m ((c.tc : Thread Cert.ConvDwReferenceIdeal.nD Cert.ConvDwReferenceIdeal.τ).loc Cert.ConvDwReferenceIdeal.main_arg0)
      ∧ r.2.mem ((c.tc : Thread Cert.ConvDwReferenceIdeal.nD Cert.ConvDwReferenceIdeal.τ).loc Cert.ConvDwReferenceIdeal.main_arg1) = m ((c.tc : Thread Cert.ConvDwReferenceIdeal.nD Cert.ConvDwReferenceIdeal.τ).loc Cert.ConvDwReferenceIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxReferenceIdeal [hMixDxReferenceIdeal : Cert.MixDxReferenceIdeal.Facts] : Prop :=
  ∀ (m : (ℓ : Loc Cert.MixDxReferenceIdeal.nD Cert.MixDxReferenceIdeal.τ Cert.MixDxReferenceIdeal.sig) → Buf (Elt Ideal) ℓ) (g : Dev Cert.MixDxReferenceIdeal.nD → PrngReg), Pre_MixDxReferenceIdeal m →
    θ_run (Cert.MixDxReferenceIdeal.defs (F := Ideal)) (onTc (τ := Cert.MixDxReferenceIdeal.τ) (Cert.MixDxReferenceIdeal.main (F := Ideal))) ⟨m, fun _ => 0, g⟩ (fun r => (∀ c : Dev Cert.MixDxReferenceIdeal.nD,
      r.2.mem ((c.tc : Thread Cert.MixDxReferenceIdeal.nD Cert.MixDxReferenceIdeal.τ).loc Cert.MixDxReferenceIdeal.main_arg0) = m ((c.tc : Thread Cert.MixDxReferenceIdeal.nD Cert.MixDxReferenceIdeal.τ).loc Cert.MixDxReferenceIdeal.main_arg0)
      ∧ r.2.mem ((c.tc : Thread Cert.MixDxReferenceIdeal.nD Cert.MixDxReferenceIdeal.τ).loc Cert.MixDxReferenceIdeal.main_arg1) = m ((c.tc : Thread Cert.MixDxReferenceIdeal.nD Cert.MixDxReferenceIdeal.τ).loc Cert.MixDxReferenceIdeal.main_arg1))
      ∧ r.2.sem = fun _ => 0)

def quiescent_AttnDx [hAttnDx : Cert.AttnDx.Facts] : Prop :=
  ∀ (m : (ℓ : Loc Cert.AttnDx.nD Cert.AttnDx.τ Cert.AttnDx.sig) → Buf (Elt Bits) ℓ) (g : Dev Cert.AttnDx.nD → PrngReg), Pre_AttnDx m →
    θ_run (Cert.AttnDx.defs (F := Bits)) (onTc (τ := Cert.AttnDx.τ) (Cert.AttnDx.main (F := Bits))) ⟨m, fun _ => 0, g⟩ (fun r => (∀ c : Dev Cert.AttnDx.nD,
      r.2.mem ((c.tc : Thread Cert.AttnDx.nD Cert.AttnDx.τ).loc Cert.AttnDx.main_arg0) = m ((c.tc : Thread Cert.AttnDx.nD Cert.AttnDx.τ).loc Cert.AttnDx.main_arg0)
      ∧ r.2.mem ((c.tc : Thread Cert.AttnDx.nD Cert.AttnDx.τ).loc Cert.AttnDx.main_arg1) = m ((c.tc : Thread Cert.AttnDx.nD Cert.AttnDx.τ).loc Cert.AttnDx.main_arg1))
      ∧ r.2.sem = fun _ => 0)

def quiescent_AttnDxIdeal [hAttnDxIdeal : Cert.AttnDxIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg), Pre_AttnDxIdeal m →
    θ_run (Cert.AttnDxIdeal.defs (F := Ideal)) (onTc (τ := Cert.AttnDxIdeal.τ) (Cert.AttnDxIdeal.main (F := Ideal))) ⟨m, fun _ => 0, g⟩ (fun r => (∀ c : Dev Cert.AttnDxIdeal.nD,
      r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
      ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1))
      ∧ r.2.sem = fun _ => 0)

def quiescent_AttnDxReferenceIdeal [hAttnDxReferenceIdeal : Cert.AttnDxReferenceIdeal.Facts] : Prop :=
  ∀ (m : (ℓ : Loc Cert.AttnDxReferenceIdeal.nD Cert.AttnDxReferenceIdeal.τ Cert.AttnDxReferenceIdeal.sig) → Buf (Elt Ideal) ℓ) (g : Dev Cert.AttnDxReferenceIdeal.nD → PrngReg), Pre_AttnDxReferenceIdeal m →
    θ_run (Cert.AttnDxReferenceIdeal.defs (F := Ideal)) (onTc (τ := Cert.AttnDxReferenceIdeal.τ) (Cert.AttnDxReferenceIdeal.main (F := Ideal))) ⟨m, fun _ => 0, g⟩ (fun r => (∀ c : Dev Cert.AttnDxReferenceIdeal.nD,
      r.2.mem ((c.tc : Thread Cert.AttnDxReferenceIdeal.nD Cert.AttnDxReferenceIdeal.τ).loc Cert.AttnDxReferenceIdeal.main_arg0) = m ((c.tc : Thread Cert.AttnDxReferenceIdeal.nD Cert.AttnDxReferenceIdeal.τ).loc Cert.AttnDxReferenceIdeal.main_arg0)
      ∧ r.2.mem ((c.tc : Thread Cert.AttnDxReferenceIdeal.nD Cert.AttnDxReferenceIdeal.τ).loc Cert.AttnDxReferenceIdeal.main_arg1) = m ((c.tc : Thread Cert.AttnDxReferenceIdeal.nD Cert.AttnDxReferenceIdeal.τ).loc Cert.AttnDxReferenceIdeal.main_arg1))
      ∧ r.2.sem = fun _ => 0)

def quiescent_ConvDx [hConvDx : Cert.ConvDx.Facts] : Prop :=
  ∀ (m : (ℓ : Loc Cert.ConvDx.nD Cert.ConvDx.τ Cert.ConvDx.sig) → Buf (Elt Bits) ℓ) (g : Dev Cert.ConvDx.nD → PrngReg), Pre_ConvDx m →
    θ_run (Cert.ConvDx.defs (F := Bits)) (onTc (τ := Cert.ConvDx.τ) (Cert.ConvDx.main (F := Bits))) ⟨m, fun _ => 0, g⟩ (fun r => (∀ c : Dev Cert.ConvDx.nD,
      r.2.mem ((c.tc : Thread Cert.ConvDx.nD Cert.ConvDx.τ).loc Cert.ConvDx.main_arg0) = m ((c.tc : Thread Cert.ConvDx.nD Cert.ConvDx.τ).loc Cert.ConvDx.main_arg0)
      ∧ r.2.mem ((c.tc : Thread Cert.ConvDx.nD Cert.ConvDx.τ).loc Cert.ConvDx.main_arg1) = m ((c.tc : Thread Cert.ConvDx.nD Cert.ConvDx.τ).loc Cert.ConvDx.main_arg1))
      ∧ r.2.sem = fun _ => 0)

def quiescent_ConvDxIdeal [hConvDxIdeal : Cert.ConvDxIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg), Pre_ConvDxIdeal m →
    θ_run (Cert.ConvDxIdeal.defs (F := Ideal)) (onTc (τ := Cert.ConvDxIdeal.τ) (Cert.ConvDxIdeal.main (F := Ideal))) ⟨m, fun _ => 0, g⟩ (fun r => (∀ c : Dev Cert.ConvDxIdeal.nD,
      r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
      ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ r.2.sem = fun _ => 0)

def quiescent_ConvDxReferenceIdeal [hConvDxReferenceIdeal : Cert.ConvDxReferenceIdeal.Facts] : Prop :=
  ∀ (m : (ℓ : Loc Cert.ConvDxReferenceIdeal.nD Cert.ConvDxReferenceIdeal.τ Cert.ConvDxReferenceIdeal.sig) → Buf (Elt Ideal) ℓ) (g : Dev Cert.ConvDxReferenceIdeal.nD → PrngReg), Pre_ConvDxReferenceIdeal m →
    θ_run (Cert.ConvDxReferenceIdeal.defs (F := Ideal)) (onTc (τ := Cert.ConvDxReferenceIdeal.τ) (Cert.ConvDxReferenceIdeal.main (F := Ideal))) ⟨m, fun _ => 0, g⟩ (fun r => (∀ c : Dev Cert.ConvDxReferenceIdeal.nD,
      r.2.mem ((c.tc : Thread Cert.ConvDxReferenceIdeal.nD Cert.ConvDxReferenceIdeal.τ).loc Cert.ConvDxReferenceIdeal.main_arg0) = m ((c.tc : Thread Cert.ConvDxReferenceIdeal.nD Cert.ConvDxReferenceIdeal.τ).loc Cert.ConvDxReferenceIdeal.main_arg0)
      ∧ r.2.mem ((c.tc : Thread Cert.ConvDxReferenceIdeal.nD Cert.ConvDxReferenceIdeal.τ).loc Cert.ConvDxReferenceIdeal.main_arg1) = m ((c.tc : Thread Cert.ConvDxReferenceIdeal.nD Cert.ConvDxReferenceIdeal.τ).loc Cert.ConvDxReferenceIdeal.main_arg1))
      ∧ r.2.sem = fun _ => 0)

def quiescent_InQ [hInQ : Cert.InQ.Facts] : Prop :=
  ∀ (m : (ℓ : Loc Cert.InQ.nD Cert.InQ.τ Cert.InQ.sig) → Buf (Elt Bits) ℓ) (g : Dev Cert.InQ.nD → PrngReg), Pre_InQ m →
    θ_run (Cert.InQ.defs (F := Bits)) (onTc (τ := Cert.InQ.τ) (Cert.InQ.main (F := Bits))) ⟨m, fun _ => 0, g⟩ (fun r => (∀ c : Dev Cert.InQ.nD,
      r.2.mem ((c.tc : Thread Cert.InQ.nD Cert.InQ.τ).loc Cert.InQ.main_arg0) = m ((c.tc : Thread Cert.InQ.nD Cert.InQ.τ).loc Cert.InQ.main_arg0)
      ∧ r.2.mem ((c.tc : Thread Cert.InQ.nD Cert.InQ.τ).loc Cert.InQ.main_arg1) = m ((c.tc : Thread Cert.InQ.nD Cert.InQ.τ).loc Cert.InQ.main_arg1)
      ∧ r.2.mem ((c.tc : Thread Cert.InQ.nD Cert.InQ.τ).loc Cert.InQ.main_arg2) = m ((c.tc : Thread Cert.InQ.nD Cert.InQ.τ).loc Cert.InQ.main_arg2))
      ∧ r.2.sem = fun _ => 0)

def quiescent_InQIdeal [hInQIdeal : Cert.InQIdeal.Facts] : Prop :=
  ∀ (m : (ℓ : Loc Cert.InQIdeal.nD Cert.InQIdeal.τ Cert.InQIdeal.sig) → Buf (Elt Ideal) ℓ) (g : Dev Cert.InQIdeal.nD → PrngReg), Pre_InQIdeal m →
    θ_run (Cert.InQIdeal.defs (F := Ideal)) (onTc (τ := Cert.InQIdeal.τ) (Cert.InQIdeal.main (F := Ideal))) ⟨m, fun _ => 0, g⟩ (fun r => (∀ c : Dev Cert.InQIdeal.nD,
      r.2.mem ((c.tc : Thread Cert.InQIdeal.nD Cert.InQIdeal.τ).loc Cert.InQIdeal.main_arg0) = m ((c.tc : Thread Cert.InQIdeal.nD Cert.InQIdeal.τ).loc Cert.InQIdeal.main_arg0)
      ∧ r.2.mem ((c.tc : Thread Cert.InQIdeal.nD Cert.InQIdeal.τ).loc Cert.InQIdeal.main_arg1) = m ((c.tc : Thread Cert.InQIdeal.nD Cert.InQIdeal.τ).loc Cert.InQIdeal.main_arg1)
      ∧ r.2.mem ((c.tc : Thread Cert.InQIdeal.nD Cert.InQIdeal.τ).loc Cert.InQIdeal.main_arg2) = m ((c.tc : Thread Cert.InQIdeal.nD Cert.InQIdeal.τ).loc Cert.InQIdeal.main_arg2))
      ∧ r.2.sem = fun _ => 0)

def quiescent_InQReferenceIdeal [hInQReferenceIdeal : Cert.InQReferenceIdeal.Facts] : Prop :=
  ∀ (m : (ℓ : Loc Cert.InQReferenceIdeal.nD Cert.InQReferenceIdeal.τ Cert.InQReferenceIdeal.sig) → Buf (Elt Ideal) ℓ) (g : Dev Cert.InQReferenceIdeal.nD → PrngReg), Pre_InQReferenceIdeal m →
    θ_run (Cert.InQReferenceIdeal.defs (F := Ideal)) (onTc (τ := Cert.InQReferenceIdeal.τ) (Cert.InQReferenceIdeal.main (F := Ideal))) ⟨m, fun _ => 0, g⟩ (fun r => (∀ c : Dev Cert.InQReferenceIdeal.nD,
      r.2.mem ((c.tc : Thread Cert.InQReferenceIdeal.nD Cert.InQReferenceIdeal.τ).loc Cert.InQReferenceIdeal.main_arg0) = m ((c.tc : Thread Cert.InQReferenceIdeal.nD Cert.InQReferenceIdeal.τ).loc Cert.InQReferenceIdeal.main_arg0)
      ∧ r.2.mem ((c.tc : Thread Cert.InQReferenceIdeal.nD Cert.InQReferenceIdeal.τ).loc Cert.InQReferenceIdeal.main_arg1) = m ((c.tc : Thread Cert.InQReferenceIdeal.nD Cert.InQReferenceIdeal.τ).loc Cert.InQReferenceIdeal.main_arg1)
      ∧ r.2.mem ((c.tc : Thread Cert.InQReferenceIdeal.nD Cert.InQReferenceIdeal.τ).loc Cert.InQReferenceIdeal.main_arg2) = m ((c.tc : Thread Cert.InQReferenceIdeal.nD Cert.InQReferenceIdeal.τ).loc Cert.InQReferenceIdeal.main_arg2))
      ∧ r.2.sem = fun _ => 0)

def quiescent_InKv [hInKv : Cert.InKv.Facts] : Prop :=
  ∀ (m : (ℓ : Loc Cert.InKv.nD Cert.InKv.τ Cert.InKv.sig) → Buf (Elt Bits) ℓ) (g : Dev Cert.InKv.nD → PrngReg), Pre_InKv m →
    θ_run (Cert.InKv.defs (F := Bits)) (onTc (τ := Cert.InKv.τ) (Cert.InKv.main (F := Bits))) ⟨m, fun _ => 0, g⟩ (fun r => (∀ c : Dev Cert.InKv.nD,
      r.2.mem ((c.tc : Thread Cert.InKv.nD Cert.InKv.τ).loc Cert.InKv.main_arg0) = m ((c.tc : Thread Cert.InKv.nD Cert.InKv.τ).loc Cert.InKv.main_arg0)
      ∧ r.2.mem ((c.tc : Thread Cert.InKv.nD Cert.InKv.τ).loc Cert.InKv.main_arg1) = m ((c.tc : Thread Cert.InKv.nD Cert.InKv.τ).loc Cert.InKv.main_arg1)
      ∧ r.2.mem ((c.tc : Thread Cert.InKv.nD Cert.InKv.τ).loc Cert.InKv.main_arg2) = m ((c.tc : Thread Cert.InKv.nD Cert.InKv.τ).loc Cert.InKv.main_arg2))
      ∧ r.2.sem = fun _ => 0)

def quiescent_InKvIdeal [hInKvIdeal : Cert.InKvIdeal.Facts] : Prop :=
  ∀ (m : (ℓ : Loc Cert.InKvIdeal.nD Cert.InKvIdeal.τ Cert.InKvIdeal.sig) → Buf (Elt Ideal) ℓ) (g : Dev Cert.InKvIdeal.nD → PrngReg), Pre_InKvIdeal m →
    θ_run (Cert.InKvIdeal.defs (F := Ideal)) (onTc (τ := Cert.InKvIdeal.τ) (Cert.InKvIdeal.main (F := Ideal))) ⟨m, fun _ => 0, g⟩ (fun r => (∀ c : Dev Cert.InKvIdeal.nD,
      r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
      ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1)
      ∧ r.2.mem ((c.tc : Thread Cert.InKvIdeal.nD Cert.InKvIdeal.τ).loc Cert.InKvIdeal.main_arg2) = m ((c.tc : Thread Cert.InKvIdeal.nD Cert.InKvIdeal.τ).loc Cert.InKvIdeal.main_arg2))
      ∧ r.2.sem = fun _ => 0)

def quiescent_InKvReferenceIdeal [hInKvReferenceIdeal : Cert.InKvReferenceIdeal.Facts] : Prop :=
  ∀ (m : (ℓ : Loc Cert.InKvReferenceIdeal.nD Cert.InKvReferenceIdeal.τ Cert.InKvReferenceIdeal.sig) → Buf (Elt Ideal) ℓ) (g : Dev Cert.InKvReferenceIdeal.nD → PrngReg), Pre_InKvReferenceIdeal m →
    θ_run (Cert.InKvReferenceIdeal.defs (F := Ideal)) (onTc (τ := Cert.InKvReferenceIdeal.τ) (Cert.InKvReferenceIdeal.main (F := Ideal))) ⟨m, fun _ => 0, g⟩ (fun r => (∀ c : Dev Cert.InKvReferenceIdeal.nD,
      r.2.mem ((c.tc : Thread Cert.InKvReferenceIdeal.nD Cert.InKvReferenceIdeal.τ).loc Cert.InKvReferenceIdeal.main_arg0) = m ((c.tc : Thread Cert.InKvReferenceIdeal.nD Cert.InKvReferenceIdeal.τ).loc Cert.InKvReferenceIdeal.main_arg0)
      ∧ r.2.mem ((c.tc : Thread Cert.InKvReferenceIdeal.nD Cert.InKvReferenceIdeal.τ).loc Cert.InKvReferenceIdeal.main_arg1) = m ((c.tc : Thread Cert.InKvReferenceIdeal.nD Cert.InKvReferenceIdeal.τ).loc Cert.InKvReferenceIdeal.main_arg1)
      ∧ r.2.mem ((c.tc : Thread Cert.InKvReferenceIdeal.nD Cert.InKvReferenceIdeal.τ).loc Cert.InKvReferenceIdeal.main_arg2) = m ((c.tc : Thread Cert.InKvReferenceIdeal.nD Cert.InKvReferenceIdeal.τ).loc Cert.InKvReferenceIdeal.main_arg2))
      ∧ r.2.sem = fun _ => 0)

def quiescent_InConv [hInConv : Cert.InConv.Facts] : Prop :=
  ∀ (m : (ℓ : Loc Cert.InConv.nD Cert.InConv.τ Cert.InConv.sig) → Buf (Elt Bits) ℓ) (g : Dev Cert.InConv.nD → PrngReg), Pre_InConv m →
    θ_run (Cert.InConv.defs (F := Bits)) (onTc (τ := Cert.InConv.τ) (Cert.InConv.main (F := Bits))) ⟨m, fun _ => 0, g⟩ (fun r => (∀ c : Dev Cert.InConv.nD,
      r.2.mem ((c.tc : Thread Cert.InConv.nD Cert.InConv.τ).loc Cert.InConv.main_arg0) = m ((c.tc : Thread Cert.InConv.nD Cert.InConv.τ).loc Cert.InConv.main_arg0)
      ∧ r.2.mem ((c.tc : Thread Cert.InConv.nD Cert.InConv.τ).loc Cert.InConv.main_arg1) = m ((c.tc : Thread Cert.InConv.nD Cert.InConv.τ).loc Cert.InConv.main_arg1)
      ∧ r.2.mem ((c.tc : Thread Cert.InConv.nD Cert.InConv.τ).loc Cert.InConv.main_arg2) = m ((c.tc : Thread Cert.InConv.nD Cert.InConv.τ).loc Cert.InConv.main_arg2))
      ∧ r.2.sem = fun _ => 0)

def quiescent_InConvIdeal [hInConvIdeal : Cert.InConvIdeal.Facts] : Prop :=
  ∀ (m : (ℓ : Loc Cert.InConvIdeal.nD Cert.InConvIdeal.τ Cert.InConvIdeal.sig) → Buf (Elt Ideal) ℓ) (g : Dev Cert.InConvIdeal.nD → PrngReg), Pre_InConvIdeal m →
    θ_run (Cert.InConvIdeal.defs (F := Ideal)) (onTc (τ := Cert.InConvIdeal.τ) (Cert.InConvIdeal.main (F := Ideal))) ⟨m, fun _ => 0, g⟩ (fun r => (∀ c : Dev Cert.InConvIdeal.nD,
      r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
      ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1)
      ∧ r.2.mem ((c.tc : Thread Cert.InConvIdeal.nD Cert.InConvIdeal.τ).loc Cert.InConvIdeal.main_arg2) = m ((c.tc : Thread Cert.InConvIdeal.nD Cert.InConvIdeal.τ).loc Cert.InConvIdeal.main_arg2))
      ∧ r.2.sem = fun _ => 0)

def quiescent_InConvReferenceIdeal [hInConvReferenceIdeal : Cert.InConvReferenceIdeal.Facts] : Prop :=
  ∀ (m : (ℓ : Loc Cert.InConvReferenceIdeal.nD Cert.InConvReferenceIdeal.τ Cert.InConvReferenceIdeal.sig) → Buf (Elt Ideal) ℓ) (g : Dev Cert.InConvReferenceIdeal.nD → PrngReg), Pre_InConvReferenceIdeal m →
    θ_run (Cert.InConvReferenceIdeal.defs (F := Ideal)) (onTc (τ := Cert.InConvReferenceIdeal.τ) (Cert.InConvReferenceIdeal.main (F := Ideal))) ⟨m, fun _ => 0, g⟩ (fun r => (∀ c : Dev Cert.InConvReferenceIdeal.nD,
      r.2.mem ((c.tc : Thread Cert.InConvReferenceIdeal.nD Cert.InConvReferenceIdeal.τ).loc Cert.InConvReferenceIdeal.main_arg0) = m ((c.tc : Thread Cert.InConvReferenceIdeal.nD Cert.InConvReferenceIdeal.τ).loc Cert.InConvReferenceIdeal.main_arg0)
      ∧ r.2.mem ((c.tc : Thread Cert.InConvReferenceIdeal.nD Cert.InConvReferenceIdeal.τ).loc Cert.InConvReferenceIdeal.main_arg1) = m ((c.tc : Thread Cert.InConvReferenceIdeal.nD Cert.InConvReferenceIdeal.τ).loc Cert.InConvReferenceIdeal.main_arg1)
      ∧ r.2.mem ((c.tc : Thread Cert.InConvReferenceIdeal.nD Cert.InConvReferenceIdeal.τ).loc Cert.InConvReferenceIdeal.main_arg2) = m ((c.tc : Thread Cert.InConvReferenceIdeal.nD Cert.InConvReferenceIdeal.τ).loc Cert.InConvReferenceIdeal.main_arg2))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1)
      ∧ r.2.mem ((c.tc : Thread Cert.InGates.nD Cert.InGates.τ).loc Cert.InGates.main_arg2) = m ((c.tc : Thread Cert.InGates.nD Cert.InGates.τ).loc Cert.InGates.main_arg2))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1)
      ∧ r.2.mem ((c.tc : Thread Cert.InGatesIdeal.nD Cert.InGatesIdeal.τ).loc Cert.InGatesIdeal.main_arg2) = m ((c.tc : Thread Cert.InGatesIdeal.nD Cert.InGatesIdeal.τ).loc Cert.InGatesIdeal.main_arg2))
      ∧ r.2.sem = fun _ => 0)

def quiescent_InGatesReferenceIdeal [hInGatesReferenceIdeal : Cert.InGatesReferenceIdeal.Facts] : Prop :=
  ∀ (m : (ℓ : Loc Cert.InGatesReferenceIdeal.nD Cert.InGatesReferenceIdeal.τ Cert.InGatesReferenceIdeal.sig) → Buf (Elt Ideal) ℓ) (g : Dev Cert.InGatesReferenceIdeal.nD → PrngReg), Pre_InGatesReferenceIdeal m →
    θ_run (Cert.InGatesReferenceIdeal.defs (F := Ideal)) (onTc (τ := Cert.InGatesReferenceIdeal.τ) (Cert.InGatesReferenceIdeal.main (F := Ideal))) ⟨m, fun _ => 0, g⟩ (fun r => (∀ c : Dev Cert.InGatesReferenceIdeal.nD,
      r.2.mem ((c.tc : Thread Cert.InGatesReferenceIdeal.nD Cert.InGatesReferenceIdeal.τ).loc Cert.InGatesReferenceIdeal.main_arg0) = m ((c.tc : Thread Cert.InGatesReferenceIdeal.nD Cert.InGatesReferenceIdeal.τ).loc Cert.InGatesReferenceIdeal.main_arg0)
      ∧ r.2.mem ((c.tc : Thread Cert.InGatesReferenceIdeal.nD Cert.InGatesReferenceIdeal.τ).loc Cert.InGatesReferenceIdeal.main_arg1) = m ((c.tc : Thread Cert.InGatesReferenceIdeal.nD Cert.InGatesReferenceIdeal.τ).loc Cert.InGatesReferenceIdeal.main_arg1)
      ∧ r.2.mem ((c.tc : Thread Cert.InGatesReferenceIdeal.nD Cert.InGatesReferenceIdeal.τ).loc Cert.InGatesReferenceIdeal.main_arg2) = m ((c.tc : Thread Cert.InGatesReferenceIdeal.nD Cert.InGatesReferenceIdeal.τ).loc Cert.InGatesReferenceIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_GateUpDx [hGateUpDx : Cert.GateUpDx.Facts] : Prop :=
  ∀ (m : (ℓ : Loc Cert.GateUpDx.nD Cert.GateUpDx.τ Cert.GateUpDx.sig) → Buf (Elt Bits) ℓ) (g : Dev Cert.GateUpDx.nD → PrngReg), Pre_GateUpDx m →
    θ_run (Cert.GateUpDx.defs (F := Bits)) (onTc (τ := Cert.GateUpDx.τ) (Cert.GateUpDx.main (F := Bits))) ⟨m, fun _ => 0, g⟩ (fun r => (∀ c : Dev Cert.GateUpDx.nD,
      r.2.mem ((c.tc : Thread Cert.GateUpDx.nD Cert.GateUpDx.τ).loc Cert.GateUpDx.main_arg0) = m ((c.tc : Thread Cert.GateUpDx.nD Cert.GateUpDx.τ).loc Cert.GateUpDx.main_arg0)
      ∧ r.2.mem ((c.tc : Thread Cert.GateUpDx.nD Cert.GateUpDx.τ).loc Cert.GateUpDx.main_arg1) = m ((c.tc : Thread Cert.GateUpDx.nD Cert.GateUpDx.τ).loc Cert.GateUpDx.main_arg1))
      ∧ r.2.sem = fun _ => 0)

def quiescent_GateUpDxIdeal [hGateUpDxIdeal : Cert.GateUpDxIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1))
      ∧ r.2.sem = fun _ => 0)

def quiescent_GateUpDxReferenceIdeal [hGateUpDxReferenceIdeal : Cert.GateUpDxReferenceIdeal.Facts] : Prop :=
  ∀ (m : (ℓ : Loc Cert.GateUpDxReferenceIdeal.nD Cert.GateUpDxReferenceIdeal.τ Cert.GateUpDxReferenceIdeal.sig) → Buf (Elt Ideal) ℓ) (g : Dev Cert.GateUpDxReferenceIdeal.nD → PrngReg), Pre_GateUpDxReferenceIdeal m →
    θ_run (Cert.GateUpDxReferenceIdeal.defs (F := Ideal)) (onTc (τ := Cert.GateUpDxReferenceIdeal.τ) (Cert.GateUpDxReferenceIdeal.main (F := Ideal))) ⟨m, fun _ => 0, g⟩ (fun r => (∀ c : Dev Cert.GateUpDxReferenceIdeal.nD,
      r.2.mem ((c.tc : Thread Cert.GateUpDxReferenceIdeal.nD Cert.GateUpDxReferenceIdeal.τ).loc Cert.GateUpDxReferenceIdeal.main_arg0) = m ((c.tc : Thread Cert.GateUpDxReferenceIdeal.nD Cert.GateUpDxReferenceIdeal.τ).loc Cert.GateUpDxReferenceIdeal.main_arg0)
      ∧ r.2.mem ((c.tc : Thread Cert.GateUpDxReferenceIdeal.nD Cert.GateUpDxReferenceIdeal.τ).loc Cert.GateUpDxReferenceIdeal.main_arg1) = m ((c.tc : Thread Cert.GateUpDxReferenceIdeal.nD Cert.GateUpDxReferenceIdeal.τ).loc Cert.GateUpDxReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_SwigluDx [hSwigluDx : Cert.SwigluDx.Facts] : Prop :=
  ∀ (m : (ℓ : Loc Cert.SwigluDx.nD Cert.SwigluDx.τ Cert.SwigluDx.sig) → Buf (Elt Bits) ℓ) (g : Dev Cert.SwigluDx.nD → PrngReg), Pre_SwigluDx m →
    θ_run (Cert.SwigluDx.defs (F := Bits)) (onTc (τ := Cert.SwigluDx.τ) (Cert.SwigluDx.main (F := Bits))) ⟨m, fun _ => 0, g⟩ (fun r => (∀ c : Dev Cert.SwigluDx.nD,
      r.2.mem ((c.tc : Thread Cert.SwigluDx.nD Cert.SwigluDx.τ).loc Cert.SwigluDx.main_arg0) = m ((c.tc : Thread Cert.SwigluDx.nD Cert.SwigluDx.τ).loc Cert.SwigluDx.main_arg0)
      ∧ r.2.mem ((c.tc : Thread Cert.SwigluDx.nD Cert.SwigluDx.τ).loc Cert.SwigluDx.main_arg1) = m ((c.tc : Thread Cert.SwigluDx.nD Cert.SwigluDx.τ).loc Cert.SwigluDx.main_arg1)
      ∧ r.2.mem ((c.tc : Thread Cert.SwigluDx.nD Cert.SwigluDx.τ).loc Cert.SwigluDx.main_arg2) = m ((c.tc : Thread Cert.SwigluDx.nD Cert.SwigluDx.τ).loc Cert.SwigluDx.main_arg2)
      ∧ r.2.mem ((c.tc : Thread Cert.SwigluDx.nD Cert.SwigluDx.τ).loc Cert.SwigluDx.main_arg3) = m ((c.tc : Thread Cert.SwigluDx.nD Cert.SwigluDx.τ).loc Cert.SwigluDx.main_arg3))
      ∧ r.2.sem = fun _ => 0)

def quiescent_SwigluDxIdeal [hSwigluDxIdeal : Cert.SwigluDxIdeal.Facts] : Prop :=
  ∀ (m : (ℓ : Loc Cert.SwigluDxIdeal.nD Cert.SwigluDxIdeal.τ Cert.SwigluDxIdeal.sig) → Buf (Elt Ideal) ℓ) (g : Dev Cert.SwigluDxIdeal.nD → PrngReg), Pre_SwigluDxIdeal m →
    θ_run (Cert.SwigluDxIdeal.defs (F := Ideal)) (onTc (τ := Cert.SwigluDxIdeal.τ) (Cert.SwigluDxIdeal.main (F := Ideal))) ⟨m, fun _ => 0, g⟩ (fun r => (∀ c : Dev Cert.SwigluDxIdeal.nD,
      r.2.mem ((c.tc : Thread Cert.SwigluDxIdeal.nD Cert.SwigluDxIdeal.τ).loc Cert.SwigluDxIdeal.main_arg0) = m ((c.tc : Thread Cert.SwigluDxIdeal.nD Cert.SwigluDxIdeal.τ).loc Cert.SwigluDxIdeal.main_arg0)
      ∧ r.2.mem ((c.tc : Thread Cert.SwigluDxIdeal.nD Cert.SwigluDxIdeal.τ).loc Cert.SwigluDxIdeal.main_arg1) = m ((c.tc : Thread Cert.SwigluDxIdeal.nD Cert.SwigluDxIdeal.τ).loc Cert.SwigluDxIdeal.main_arg1)
      ∧ r.2.mem ((c.tc : Thread Cert.SwigluDxIdeal.nD Cert.SwigluDxIdeal.τ).loc Cert.SwigluDxIdeal.main_arg2) = m ((c.tc : Thread Cert.SwigluDxIdeal.nD Cert.SwigluDxIdeal.τ).loc Cert.SwigluDxIdeal.main_arg2)
      ∧ r.2.mem ((c.tc : Thread Cert.SwigluDxIdeal.nD Cert.SwigluDxIdeal.τ).loc Cert.SwigluDxIdeal.main_arg3) = m ((c.tc : Thread Cert.SwigluDxIdeal.nD Cert.SwigluDxIdeal.τ).loc Cert.SwigluDxIdeal.main_arg3))
      ∧ r.2.sem = fun _ => 0)

def quiescent_SwigluDxIdeal_pre_finite_products [hSwigluDxIdeal : Cert.SwigluDxIdeal.Facts] [hPre_finite_products : Cert.Pre_finite_products.Facts] : Prop :=
  ∀ (m : (ℓ : Loc Cert.SwigluDxIdeal.nD Cert.SwigluDxIdeal.τ Cert.SwigluDxIdeal.sig) → Buf (Elt Ideal) ℓ) (g : Dev Cert.SwigluDxIdeal.nD → PrngReg), Pre_SwigluDxIdeal_finite_products m →
    θ_run (Cert.SwigluDxIdeal.defs (F := Ideal)) (onTc (τ := Cert.SwigluDxIdeal.τ) (Cert.SwigluDxIdeal.main (F := Ideal))) ⟨m, fun _ => 0, g⟩ (fun r => (∀ c : Dev Cert.SwigluDxIdeal.nD,
      r.2.mem ((c.tc : Thread Cert.SwigluDxIdeal.nD Cert.SwigluDxIdeal.τ).loc Cert.SwigluDxIdeal.main_arg0) = m ((c.tc : Thread Cert.SwigluDxIdeal.nD Cert.SwigluDxIdeal.τ).loc Cert.SwigluDxIdeal.main_arg0)
      ∧ r.2.mem ((c.tc : Thread Cert.SwigluDxIdeal.nD Cert.SwigluDxIdeal.τ).loc Cert.SwigluDxIdeal.main_arg1) = m ((c.tc : Thread Cert.SwigluDxIdeal.nD Cert.SwigluDxIdeal.τ).loc Cert.SwigluDxIdeal.main_arg1)
      ∧ r.2.mem ((c.tc : Thread Cert.SwigluDxIdeal.nD Cert.SwigluDxIdeal.τ).loc Cert.SwigluDxIdeal.main_arg2) = m ((c.tc : Thread Cert.SwigluDxIdeal.nD Cert.SwigluDxIdeal.τ).loc Cert.SwigluDxIdeal.main_arg2)
      ∧ r.2.mem ((c.tc : Thread Cert.SwigluDxIdeal.nD Cert.SwigluDxIdeal.τ).loc Cert.SwigluDxIdeal.main_arg3) = m ((c.tc : Thread Cert.SwigluDxIdeal.nD Cert.SwigluDxIdeal.τ).loc Cert.SwigluDxIdeal.main_arg3))
      ∧ r.2.sem = fun _ => 0)

def quiescent_SwigluDxReferenceIdeal [hSwigluDxReferenceIdeal : Cert.SwigluDxReferenceIdeal.Facts] : Prop :=
  ∀ (m : (ℓ : Loc Cert.SwigluDxReferenceIdeal.nD Cert.SwigluDxReferenceIdeal.τ Cert.SwigluDxReferenceIdeal.sig) → Buf (Elt Ideal) ℓ) (g : Dev Cert.SwigluDxReferenceIdeal.nD → PrngReg), Pre_SwigluDxReferenceIdeal m →
    θ_run (Cert.SwigluDxReferenceIdeal.defs (F := Ideal)) (onTc (τ := Cert.SwigluDxReferenceIdeal.τ) (Cert.SwigluDxReferenceIdeal.main (F := Ideal))) ⟨m, fun _ => 0, g⟩ (fun r => (∀ c : Dev Cert.SwigluDxReferenceIdeal.nD,
      r.2.mem ((c.tc : Thread Cert.SwigluDxReferenceIdeal.nD Cert.SwigluDxReferenceIdeal.τ).loc Cert.SwigluDxReferenceIdeal.main_arg0) = m ((c.tc : Thread Cert.SwigluDxReferenceIdeal.nD Cert.SwigluDxReferenceIdeal.τ).loc Cert.SwigluDxReferenceIdeal.main_arg0)
      ∧ r.2.mem ((c.tc : Thread Cert.SwigluDxReferenceIdeal.nD Cert.SwigluDxReferenceIdeal.τ).loc Cert.SwigluDxReferenceIdeal.main_arg1) = m ((c.tc : Thread Cert.SwigluDxReferenceIdeal.nD Cert.SwigluDxReferenceIdeal.τ).loc Cert.SwigluDxReferenceIdeal.main_arg1)
      ∧ r.2.mem ((c.tc : Thread Cert.SwigluDxReferenceIdeal.nD Cert.SwigluDxReferenceIdeal.τ).loc Cert.SwigluDxReferenceIdeal.main_arg2) = m ((c.tc : Thread Cert.SwigluDxReferenceIdeal.nD Cert.SwigluDxReferenceIdeal.τ).loc Cert.SwigluDxReferenceIdeal.main_arg2)
      ∧ r.2.mem ((c.tc : Thread Cert.SwigluDxReferenceIdeal.nD Cert.SwigluDxReferenceIdeal.τ).loc Cert.SwigluDxReferenceIdeal.main_arg3) = m ((c.tc : Thread Cert.SwigluDxReferenceIdeal.nD Cert.SwigluDxReferenceIdeal.τ).loc Cert.SwigluDxReferenceIdeal.main_arg3))
      ∧ r.2.sem = fun _ => 0)

def quiescent_SwigluDxReferenceIdeal_pre_finite_products [hSwigluDxReferenceIdeal : Cert.SwigluDxReferenceIdeal.Facts] [hPre_finite_products : Cert.Pre_finite_products.Facts] : Prop :=
  ∀ (m : (ℓ : Loc Cert.SwigluDxReferenceIdeal.nD Cert.SwigluDxReferenceIdeal.τ Cert.SwigluDxReferenceIdeal.sig) → Buf (Elt Ideal) ℓ) (g : Dev Cert.SwigluDxReferenceIdeal.nD → PrngReg), Pre_SwigluDxReferenceIdeal_finite_products m →
    θ_run (Cert.SwigluDxReferenceIdeal.defs (F := Ideal)) (onTc (τ := Cert.SwigluDxReferenceIdeal.τ) (Cert.SwigluDxReferenceIdeal.main (F := Ideal))) ⟨m, fun _ => 0, g⟩ (fun r => (∀ c : Dev Cert.SwigluDxReferenceIdeal.nD,
      r.2.mem ((c.tc : Thread Cert.SwigluDxReferenceIdeal.nD Cert.SwigluDxReferenceIdeal.τ).loc Cert.SwigluDxReferenceIdeal.main_arg0) = m ((c.tc : Thread Cert.SwigluDxReferenceIdeal.nD Cert.SwigluDxReferenceIdeal.τ).loc Cert.SwigluDxReferenceIdeal.main_arg0)
      ∧ r.2.mem ((c.tc : Thread Cert.SwigluDxReferenceIdeal.nD Cert.SwigluDxReferenceIdeal.τ).loc Cert.SwigluDxReferenceIdeal.main_arg1) = m ((c.tc : Thread Cert.SwigluDxReferenceIdeal.nD Cert.SwigluDxReferenceIdeal.τ).loc Cert.SwigluDxReferenceIdeal.main_arg1)
      ∧ r.2.mem ((c.tc : Thread Cert.SwigluDxReferenceIdeal.nD Cert.SwigluDxReferenceIdeal.τ).loc Cert.SwigluDxReferenceIdeal.main_arg2) = m ((c.tc : Thread Cert.SwigluDxReferenceIdeal.nD Cert.SwigluDxReferenceIdeal.τ).loc Cert.SwigluDxReferenceIdeal.main_arg2)
      ∧ r.2.mem ((c.tc : Thread Cert.SwigluDxReferenceIdeal.nD Cert.SwigluDxReferenceIdeal.τ).loc Cert.SwigluDxReferenceIdeal.main_arg3) = m ((c.tc : Thread Cert.SwigluDxReferenceIdeal.nD Cert.SwigluDxReferenceIdeal.τ).loc Cert.SwigluDxReferenceIdeal.main_arg3))
      ∧ r.2.sem = fun _ => 0)

def quiescent_AdamWide [hAdamWide : Cert.AdamWide.Facts] : Prop :=
  ∀ (m : (ℓ : Loc Cert.AdamWide.nD Cert.AdamWide.τ Cert.AdamWide.sig) → Buf (Elt Bits) ℓ) (g : Dev Cert.AdamWide.nD → PrngReg), Pre_AdamWide m →
    θ_run (Cert.AdamWide.defs (F := Bits)) (onTc (τ := Cert.AdamWide.τ) (Cert.AdamWide.main (F := Bits))) ⟨m, fun _ => 0, g⟩ (fun r => (∀ c : Dev Cert.AdamWide.nD,
      r.2.mem ((c.tc : Thread Cert.AdamWide.nD Cert.AdamWide.τ).loc Cert.AdamWide.main_arg0) = m ((c.tc : Thread Cert.AdamWide.nD Cert.AdamWide.τ).loc Cert.AdamWide.main_arg0)
      ∧ r.2.mem ((c.tc : Thread Cert.AdamWide.nD Cert.AdamWide.τ).loc Cert.AdamWide.main_arg1) = m ((c.tc : Thread Cert.AdamWide.nD Cert.AdamWide.τ).loc Cert.AdamWide.main_arg1)
      ∧ r.2.mem ((c.tc : Thread Cert.AdamWide.nD Cert.AdamWide.τ).loc Cert.AdamWide.main_arg2) = m ((c.tc : Thread Cert.AdamWide.nD Cert.AdamWide.τ).loc Cert.AdamWide.main_arg2)
      ∧ r.2.mem ((c.tc : Thread Cert.AdamWide.nD Cert.AdamWide.τ).loc Cert.AdamWide.main_arg3) = m ((c.tc : Thread Cert.AdamWide.nD Cert.AdamWide.τ).loc Cert.AdamWide.main_arg3))
      ∧ r.2.sem = fun _ => 0)

def quiescent_AdamWideIdeal [hAdamWideIdeal : Cert.AdamWideIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg), Pre_AdamWideIdeal m →
    θ_run (Cert.AdamWideIdeal.defs (F := Ideal)) (onTc (τ := Cert.AdamWideIdeal.τ) (Cert.AdamWideIdeal.main (F := Ideal))) ⟨m, fun _ => 0, g⟩ (fun r => (∀ c : Dev Cert.AdamWideIdeal.nD,
      r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
      ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
      ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
      ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3))
      ∧ r.2.sem = fun _ => 0)

def quiescent_AdamWideReferenceIdeal [hAdamWideReferenceIdeal : Cert.AdamWideReferenceIdeal.Facts] : Prop :=
  ∀ (m : (ℓ : Loc Cert.AdamWideReferenceIdeal.nD Cert.AdamWideReferenceIdeal.τ Cert.AdamWideReferenceIdeal.sig) → Buf (Elt Ideal) ℓ) (g : Dev Cert.AdamWideReferenceIdeal.nD → PrngReg), Pre_AdamWideReferenceIdeal m →
    θ_run (Cert.AdamWideReferenceIdeal.defs (F := Ideal)) (onTc (τ := Cert.AdamWideReferenceIdeal.τ) (Cert.AdamWideReferenceIdeal.main (F := Ideal))) ⟨m, fun _ => 0, g⟩ (fun r => (∀ c : Dev Cert.AdamWideReferenceIdeal.nD,
      r.2.mem ((c.tc : Thread Cert.AdamWideReferenceIdeal.nD Cert.AdamWideReferenceIdeal.τ).loc Cert.AdamWideReferenceIdeal.main_arg0) = m ((c.tc : Thread Cert.AdamWideReferenceIdeal.nD Cert.AdamWideReferenceIdeal.τ).loc Cert.AdamWideReferenceIdeal.main_arg0)
      ∧ r.2.mem ((c.tc : Thread Cert.AdamWideReferenceIdeal.nD Cert.AdamWideReferenceIdeal.τ).loc Cert.AdamWideReferenceIdeal.main_arg1) = m ((c.tc : Thread Cert.AdamWideReferenceIdeal.nD Cert.AdamWideReferenceIdeal.τ).loc Cert.AdamWideReferenceIdeal.main_arg1)
      ∧ r.2.mem ((c.tc : Thread Cert.AdamWideReferenceIdeal.nD Cert.AdamWideReferenceIdeal.τ).loc Cert.AdamWideReferenceIdeal.main_arg2) = m ((c.tc : Thread Cert.AdamWideReferenceIdeal.nD Cert.AdamWideReferenceIdeal.τ).loc Cert.AdamWideReferenceIdeal.main_arg2)
      ∧ r.2.mem ((c.tc : Thread Cert.AdamWideReferenceIdeal.nD Cert.AdamWideReferenceIdeal.τ).loc Cert.AdamWideReferenceIdeal.main_arg3) = m ((c.tc : Thread Cert.AdamWideReferenceIdeal.nD Cert.AdamWideReferenceIdeal.τ).loc Cert.AdamWideReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_SumAttn [hSumAttn : Cert.SumAttn.Facts] [hPre_chip_for_attn : Cert.Pre_chip_for_attn.Facts] : Prop :=
  ∀ (m : (ℓ : Loc Cert.SumAttn.nD Cert.SumAttn.τ Cert.SumAttn.sig) → Buf (Elt Bits) ℓ) (g : Dev Cert.SumAttn.nD → PrngReg), Pre_SumAttn m →
    θ_run (Cert.SumAttn.defs (F := Bits)) (onTc (τ := Cert.SumAttn.τ) (Cert.SumAttn.main (F := Bits))) ⟨m, fun _ => 0, g⟩ (fun r => (∀ c : Dev Cert.SumAttn.nD,
      r.2.mem ((c.tc : Thread Cert.SumAttn.nD Cert.SumAttn.τ).loc Cert.SumAttn.main_arg0) = m ((c.tc : Thread Cert.SumAttn.nD Cert.SumAttn.τ).loc Cert.SumAttn.main_arg0)
      ∧ r.2.mem ((c.tc : Thread Cert.SumAttn.nD Cert.SumAttn.τ).loc Cert.SumAttn.main_arg1) = m ((c.tc : Thread Cert.SumAttn.nD Cert.SumAttn.τ).loc Cert.SumAttn.main_arg1)
      ∧ r.2.mem ((c.tc : Thread Cert.SumAttn.nD Cert.SumAttn.τ).loc Cert.SumAttn.main_arg2) = m ((c.tc : Thread Cert.SumAttn.nD Cert.SumAttn.τ).loc Cert.SumAttn.main_arg2))
      ∧ r.2.sem = fun _ => 0)

def quiescent_SumAttnIdeal [hSumAttnIdeal : Cert.SumAttnIdeal.Facts] [hPre_chip_for_attn : Cert.Pre_chip_for_attn.Facts] : Prop :=
  ∀ (m : (ℓ : Loc Cert.SumAttnIdeal.nD Cert.SumAttnIdeal.τ Cert.SumAttnIdeal.sig) → Buf (Elt Ideal) ℓ) (g : Dev Cert.SumAttnIdeal.nD → PrngReg), Pre_SumAttnIdeal m →
    θ_run (Cert.SumAttnIdeal.defs (F := Ideal)) (onTc (τ := Cert.SumAttnIdeal.τ) (Cert.SumAttnIdeal.main (F := Ideal))) ⟨m, fun _ => 0, g⟩ (fun r => (∀ c : Dev Cert.SumAttnIdeal.nD,
      r.2.mem ((c.tc : Thread Cert.SumAttnIdeal.nD Cert.SumAttnIdeal.τ).loc Cert.SumAttnIdeal.main_arg0) = m ((c.tc : Thread Cert.SumAttnIdeal.nD Cert.SumAttnIdeal.τ).loc Cert.SumAttnIdeal.main_arg0)
      ∧ r.2.mem ((c.tc : Thread Cert.SumAttnIdeal.nD Cert.SumAttnIdeal.τ).loc Cert.SumAttnIdeal.main_arg1) = m ((c.tc : Thread Cert.SumAttnIdeal.nD Cert.SumAttnIdeal.τ).loc Cert.SumAttnIdeal.main_arg1)
      ∧ r.2.mem ((c.tc : Thread Cert.SumAttnIdeal.nD Cert.SumAttnIdeal.τ).loc Cert.SumAttnIdeal.main_arg2) = m ((c.tc : Thread Cert.SumAttnIdeal.nD Cert.SumAttnIdeal.τ).loc Cert.SumAttnIdeal.main_arg2))
      ∧ r.2.sem = fun _ => 0)

def quiescent_SumAttnReferenceIdeal [hSumAttnReferenceIdeal : Cert.SumAttnReferenceIdeal.Facts] : Prop :=
  ∀ (m : (ℓ : Loc Cert.SumAttnReferenceIdeal.nD Cert.SumAttnReferenceIdeal.τ Cert.SumAttnReferenceIdeal.sig) → Buf (Elt Ideal) ℓ) (g : Dev Cert.SumAttnReferenceIdeal.nD → PrngReg), Pre_SumAttnReferenceIdeal m →
    θ_run (Cert.SumAttnReferenceIdeal.defs (F := Ideal)) (onTc (τ := Cert.SumAttnReferenceIdeal.τ) (Cert.SumAttnReferenceIdeal.main (F := Ideal))) ⟨m, fun _ => 0, g⟩ (fun r => (∀ c : Dev Cert.SumAttnReferenceIdeal.nD,
      r.2.mem ((c.tc : Thread Cert.SumAttnReferenceIdeal.nD Cert.SumAttnReferenceIdeal.τ).loc Cert.SumAttnReferenceIdeal.main_arg0) = m ((c.tc : Thread Cert.SumAttnReferenceIdeal.nD Cert.SumAttnReferenceIdeal.τ).loc Cert.SumAttnReferenceIdeal.main_arg0)
      ∧ r.2.mem ((c.tc : Thread Cert.SumAttnReferenceIdeal.nD Cert.SumAttnReferenceIdeal.τ).loc Cert.SumAttnReferenceIdeal.main_arg1) = m ((c.tc : Thread Cert.SumAttnReferenceIdeal.nD Cert.SumAttnReferenceIdeal.τ).loc Cert.SumAttnReferenceIdeal.main_arg1)
      ∧ r.2.mem ((c.tc : Thread Cert.SumAttnReferenceIdeal.nD Cert.SumAttnReferenceIdeal.τ).loc Cert.SumAttnReferenceIdeal.main_arg2) = m ((c.tc : Thread Cert.SumAttnReferenceIdeal.nD Cert.SumAttnReferenceIdeal.τ).loc Cert.SumAttnReferenceIdeal.main_arg2))
      ∧ r.2.sem = fun _ => 0)

def quiescent_SumAttnReferenceIdeal_pre_chip_for_attn [hSumAttnReferenceIdeal : Cert.SumAttnReferenceIdeal.Facts] [hPre_chip_for_attn : Cert.Pre_chip_for_attn.Facts] : Prop :=
  ∀ (m : (ℓ : Loc Cert.SumAttnReferenceIdeal.nD Cert.SumAttnReferenceIdeal.τ Cert.SumAttnReferenceIdeal.sig) → Buf (Elt Ideal) ℓ) (g : Dev Cert.SumAttnReferenceIdeal.nD → PrngReg), Pre_SumAttnReferenceIdeal_chip_for_attn m →
    θ_run (Cert.SumAttnReferenceIdeal.defs (F := Ideal)) (onTc (τ := Cert.SumAttnReferenceIdeal.τ) (Cert.SumAttnReferenceIdeal.main (F := Ideal))) ⟨m, fun _ => 0, g⟩ (fun r => (∀ c : Dev Cert.SumAttnReferenceIdeal.nD,
      r.2.mem ((c.tc : Thread Cert.SumAttnReferenceIdeal.nD Cert.SumAttnReferenceIdeal.τ).loc Cert.SumAttnReferenceIdeal.main_arg0) = m ((c.tc : Thread Cert.SumAttnReferenceIdeal.nD Cert.SumAttnReferenceIdeal.τ).loc Cert.SumAttnReferenceIdeal.main_arg0)
      ∧ r.2.mem ((c.tc : Thread Cert.SumAttnReferenceIdeal.nD Cert.SumAttnReferenceIdeal.τ).loc Cert.SumAttnReferenceIdeal.main_arg1) = m ((c.tc : Thread Cert.SumAttnReferenceIdeal.nD Cert.SumAttnReferenceIdeal.τ).loc Cert.SumAttnReferenceIdeal.main_arg1)
      ∧ r.2.mem ((c.tc : Thread Cert.SumAttnReferenceIdeal.nD Cert.SumAttnReferenceIdeal.τ).loc Cert.SumAttnReferenceIdeal.main_arg2) = m ((c.tc : Thread Cert.SumAttnReferenceIdeal.nD Cert.SumAttnReferenceIdeal.τ).loc Cert.SumAttnReferenceIdeal.main_arg2))
      ∧ r.2.sem = fun _ => 0)

def quiescent_StepDown [hStepDown : Cert.StepDown.Facts] [hPre_chip_for_down : Cert.Pre_chip_for_down.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3)
      ∧ r.2.mem ((c.tc : Thread Cert.StepDown.nD Cert.StepDown.τ).loc Cert.StepDown.main_arg4) = m ((c.tc : Thread Cert.StepDown.nD Cert.StepDown.τ).loc Cert.StepDown.main_arg4)
      ∧ r.2.mem ((c.tc : Thread Cert.StepDown.nD Cert.StepDown.τ).loc Cert.StepDown.main_arg5) = m ((c.tc : Thread Cert.StepDown.nD Cert.StepDown.τ).loc Cert.StepDown.main_arg5))
      ∧ r.2.sem = fun _ => 0)

def quiescent_StepDownIdeal [hStepDownIdeal : Cert.StepDownIdeal.Facts] [hPre_chip_for_down : Cert.Pre_chip_for_down.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
      ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4)
      ∧ r.2.mem ((c.tc : Thread Cert.StepDownIdeal.nD Cert.StepDownIdeal.τ).loc Cert.StepDownIdeal.main_arg5) = m ((c.tc : Thread Cert.StepDownIdeal.nD Cert.StepDownIdeal.τ).loc Cert.StepDownIdeal.main_arg5))
      ∧ r.2.sem = fun _ => 0)

def quiescent_StepDownReferenceIdeal [hStepDownReferenceIdeal : Cert.StepDownReferenceIdeal.Facts] : Prop :=
  ∀ (m : (ℓ : Loc Cert.StepDownReferenceIdeal.nD Cert.StepDownReferenceIdeal.τ Cert.StepDownReferenceIdeal.sig) → Buf (Elt Ideal) ℓ) (g : Dev Cert.StepDownReferenceIdeal.nD → PrngReg), Pre_StepDownReferenceIdeal m →
    θ_run (Cert.StepDownReferenceIdeal.defs (F := Ideal)) (onTc (τ := Cert.StepDownReferenceIdeal.τ) (Cert.StepDownReferenceIdeal.main (F := Ideal))) ⟨m, fun _ => 0, g⟩ (fun r => (∀ c : Dev Cert.StepDownReferenceIdeal.nD,
      r.2.mem ((c.tc : Thread Cert.StepDownReferenceIdeal.nD Cert.StepDownReferenceIdeal.τ).loc Cert.StepDownReferenceIdeal.main_arg0) = m ((c.tc : Thread Cert.StepDownReferenceIdeal.nD Cert.StepDownReferenceIdeal.τ).loc Cert.StepDownReferenceIdeal.main_arg0)
      ∧ r.2.mem ((c.tc : Thread Cert.StepDownReferenceIdeal.nD Cert.StepDownReferenceIdeal.τ).loc Cert.StepDownReferenceIdeal.main_arg1) = m ((c.tc : Thread Cert.StepDownReferenceIdeal.nD Cert.StepDownReferenceIdeal.τ).loc Cert.StepDownReferenceIdeal.main_arg1)
      ∧ r.2.mem ((c.tc : Thread Cert.StepDownReferenceIdeal.nD Cert.StepDownReferenceIdeal.τ).loc Cert.StepDownReferenceIdeal.main_arg2) = m ((c.tc : Thread Cert.StepDownReferenceIdeal.nD Cert.StepDownReferenceIdeal.τ).loc Cert.StepDownReferenceIdeal.main_arg2)
      ∧ r.2.mem ((c.tc : Thread Cert.StepDownReferenceIdeal.nD Cert.StepDownReferenceIdeal.τ).loc Cert.StepDownReferenceIdeal.main_arg3) = m ((c.tc : Thread Cert.StepDownReferenceIdeal.nD Cert.StepDownReferenceIdeal.τ).loc Cert.StepDownReferenceIdeal.main_arg3)
      ∧ r.2.mem ((c.tc : Thread Cert.StepDownReferenceIdeal.nD Cert.StepDownReferenceIdeal.τ).loc Cert.StepDownReferenceIdeal.main_arg4) = m ((c.tc : Thread Cert.StepDownReferenceIdeal.nD Cert.StepDownReferenceIdeal.τ).loc Cert.StepDownReferenceIdeal.main_arg4)
      ∧ r.2.mem ((c.tc : Thread Cert.StepDownReferenceIdeal.nD Cert.StepDownReferenceIdeal.τ).loc Cert.StepDownReferenceIdeal.main_arg5) = m ((c.tc : Thread Cert.StepDownReferenceIdeal.nD Cert.StepDownReferenceIdeal.τ).loc Cert.StepDownReferenceIdeal.main_arg5))
      ∧ r.2.sem = fun _ => 0)

def quiescent_StepDownReferenceIdeal_pre_chip_for_down [hStepDownReferenceIdeal : Cert.StepDownReferenceIdeal.Facts] [hPre_chip_for_down : Cert.Pre_chip_for_down.Facts] : Prop :=
  ∀ (m : (ℓ : Loc Cert.StepDownReferenceIdeal.nD Cert.StepDownReferenceIdeal.τ Cert.StepDownReferenceIdeal.sig) → Buf (Elt Ideal) ℓ) (g : Dev Cert.StepDownReferenceIdeal.nD → PrngReg), Pre_StepDownReferenceIdeal_chip_for_down m →
    θ_run (Cert.StepDownReferenceIdeal.defs (F := Ideal)) (onTc (τ := Cert.StepDownReferenceIdeal.τ) (Cert.StepDownReferenceIdeal.main (F := Ideal))) ⟨m, fun _ => 0, g⟩ (fun r => (∀ c : Dev Cert.StepDownReferenceIdeal.nD,
      r.2.mem ((c.tc : Thread Cert.StepDownReferenceIdeal.nD Cert.StepDownReferenceIdeal.τ).loc Cert.StepDownReferenceIdeal.main_arg0) = m ((c.tc : Thread Cert.StepDownReferenceIdeal.nD Cert.StepDownReferenceIdeal.τ).loc Cert.StepDownReferenceIdeal.main_arg0)
      ∧ r.2.mem ((c.tc : Thread Cert.StepDownReferenceIdeal.nD Cert.StepDownReferenceIdeal.τ).loc Cert.StepDownReferenceIdeal.main_arg1) = m ((c.tc : Thread Cert.StepDownReferenceIdeal.nD Cert.StepDownReferenceIdeal.τ).loc Cert.StepDownReferenceIdeal.main_arg1)
      ∧ r.2.mem ((c.tc : Thread Cert.StepDownReferenceIdeal.nD Cert.StepDownReferenceIdeal.τ).loc Cert.StepDownReferenceIdeal.main_arg2) = m ((c.tc : Thread Cert.StepDownReferenceIdeal.nD Cert.StepDownReferenceIdeal.τ).loc Cert.StepDownReferenceIdeal.main_arg2)
      ∧ r.2.mem ((c.tc : Thread Cert.StepDownReferenceIdeal.nD Cert.StepDownReferenceIdeal.τ).loc Cert.StepDownReferenceIdeal.main_arg3) = m ((c.tc : Thread Cert.StepDownReferenceIdeal.nD Cert.StepDownReferenceIdeal.τ).loc Cert.StepDownReferenceIdeal.main_arg3)
      ∧ r.2.mem ((c.tc : Thread Cert.StepDownReferenceIdeal.nD Cert.StepDownReferenceIdeal.τ).loc Cert.StepDownReferenceIdeal.main_arg4) = m ((c.tc : Thread Cert.StepDownReferenceIdeal.nD Cert.StepDownReferenceIdeal.τ).loc Cert.StepDownReferenceIdeal.main_arg4)
      ∧ r.2.mem ((c.tc : Thread Cert.StepDownReferenceIdeal.nD Cert.StepDownReferenceIdeal.τ).loc Cert.StepDownReferenceIdeal.main_arg5) = m ((c.tc : Thread Cert.StepDownReferenceIdeal.nD Cert.StepDownReferenceIdeal.τ).loc Cert.StepDownReferenceIdeal.main_arg5))
      ∧ r.2.sem = fun _ => 0)

def quiescent_StepGateUp [hStepGateUp : Cert.StepGateUp.Facts] [hPre_chip_for_gate_up : Cert.Pre_chip_for_gate_up.Facts] : Prop :=
  ∀ (m : (ℓ : Loc Cert.StepGateUp.nD Cert.StepGateUp.τ Cert.StepGateUp.sig) → Buf (Elt Bits) ℓ) (g : Dev Cert.StepGateUp.nD → PrngReg), Pre_StepGateUp m →
    θ_run (Cert.StepGateUp.defs (F := Bits)) (onTc (τ := Cert.StepGateUp.τ) (Cert.StepGateUp.main (F := Bits))) ⟨m, fun _ => 0, g⟩ (fun r => (∀ c : Dev Cert.StepGateUp.nD,
      r.2.mem ((c.tc : Thread Cert.StepGateUp.nD Cert.StepGateUp.τ).loc Cert.StepGateUp.main_arg0) = m ((c.tc : Thread Cert.StepGateUp.nD Cert.StepGateUp.τ).loc Cert.StepGateUp.main_arg0)
      ∧ r.2.mem ((c.tc : Thread Cert.StepGateUp.nD Cert.StepGateUp.τ).loc Cert.StepGateUp.main_arg1) = m ((c.tc : Thread Cert.StepGateUp.nD Cert.StepGateUp.τ).loc Cert.StepGateUp.main_arg1)
      ∧ r.2.mem ((c.tc : Thread Cert.StepGateUp.nD Cert.StepGateUp.τ).loc Cert.StepGateUp.main_arg2) = m ((c.tc : Thread Cert.StepGateUp.nD Cert.StepGateUp.τ).loc Cert.StepGateUp.main_arg2)
      ∧ r.2.mem ((c.tc : Thread Cert.StepGateUp.nD Cert.StepGateUp.τ).loc Cert.StepGateUp.main_arg3) = m ((c.tc : Thread Cert.StepGateUp.nD Cert.StepGateUp.τ).loc Cert.StepGateUp.main_arg3)
      ∧ r.2.mem ((c.tc : Thread Cert.StepGateUp.nD Cert.StepGateUp.τ).loc Cert.StepGateUp.main_arg4) = m ((c.tc : Thread Cert.StepGateUp.nD Cert.StepGateUp.τ).loc Cert.StepGateUp.main_arg4)
      ∧ r.2.mem ((c.tc : Thread Cert.StepGateUp.nD Cert.StepGateUp.τ).loc Cert.StepGateUp.main_arg5) = m ((c.tc : Thread Cert.StepGateUp.nD Cert.StepGateUp.τ).loc Cert.StepGateUp.main_arg5))
      ∧ r.2.sem = fun _ => 0)

def quiescent_StepGateUpIdeal [hStepGateUpIdeal : Cert.StepGateUpIdeal.Facts] [hPre_chip_for_gate_up : Cert.Pre_chip_for_gate_up.Facts] : Prop :=
  ∀ (m : (ℓ : Loc Cert.StepGateUpIdeal.nD Cert.StepGateUpIdeal.τ Cert.StepGateUpIdeal.sig) → Buf (Elt Ideal) ℓ) (g : Dev Cert.StepGateUpIdeal.nD → PrngReg), Pre_StepGateUpIdeal m →
    θ_run (Cert.StepGateUpIdeal.defs (F := Ideal)) (onTc (τ := Cert.StepGateUpIdeal.τ) (Cert.StepGateUpIdeal.main (F := Ideal))) ⟨m, fun _ => 0, g⟩ (fun r => (∀ c : Dev Cert.StepGateUpIdeal.nD,
      r.2.mem ((c.tc : Thread Cert.StepGateUpIdeal.nD Cert.StepGateUpIdeal.τ).loc Cert.StepGateUpIdeal.main_arg0) = m ((c.tc : Thread Cert.StepGateUpIdeal.nD Cert.StepGateUpIdeal.τ).loc Cert.StepGateUpIdeal.main_arg0)
      ∧ r.2.mem ((c.tc : Thread Cert.StepGateUpIdeal.nD Cert.StepGateUpIdeal.τ).loc Cert.StepGateUpIdeal.main_arg1) = m ((c.tc : Thread Cert.StepGateUpIdeal.nD Cert.StepGateUpIdeal.τ).loc Cert.StepGateUpIdeal.main_arg1)
      ∧ r.2.mem ((c.tc : Thread Cert.StepGateUpIdeal.nD Cert.StepGateUpIdeal.τ).loc Cert.StepGateUpIdeal.main_arg2) = m ((c.tc : Thread Cert.StepGateUpIdeal.nD Cert.StepGateUpIdeal.τ).loc Cert.StepGateUpIdeal.main_arg2)
      ∧ r.2.mem ((c.tc : Thread Cert.StepGateUpIdeal.nD Cert.StepGateUpIdeal.τ).loc Cert.StepGateUpIdeal.main_arg3) = m ((c.tc : Thread Cert.StepGateUpIdeal.nD Cert.StepGateUpIdeal.τ).loc Cert.StepGateUpIdeal.main_arg3)
      ∧ r.2.mem ((c.tc : Thread Cert.StepGateUpIdeal.nD Cert.StepGateUpIdeal.τ).loc Cert.StepGateUpIdeal.main_arg4) = m ((c.tc : Thread Cert.StepGateUpIdeal.nD Cert.StepGateUpIdeal.τ).loc Cert.StepGateUpIdeal.main_arg4)
      ∧ r.2.mem ((c.tc : Thread Cert.StepGateUpIdeal.nD Cert.StepGateUpIdeal.τ).loc Cert.StepGateUpIdeal.main_arg5) = m ((c.tc : Thread Cert.StepGateUpIdeal.nD Cert.StepGateUpIdeal.τ).loc Cert.StepGateUpIdeal.main_arg5))
      ∧ r.2.sem = fun _ => 0)

def quiescent_StepGateUpReferenceIdeal [hStepGateUpReferenceIdeal : Cert.StepGateUpReferenceIdeal.Facts] : Prop :=
  ∀ (m : (ℓ : Loc Cert.StepGateUpReferenceIdeal.nD Cert.StepGateUpReferenceIdeal.τ Cert.StepGateUpReferenceIdeal.sig) → Buf (Elt Ideal) ℓ) (g : Dev Cert.StepGateUpReferenceIdeal.nD → PrngReg), Pre_StepGateUpReferenceIdeal m →
    θ_run (Cert.StepGateUpReferenceIdeal.defs (F := Ideal)) (onTc (τ := Cert.StepGateUpReferenceIdeal.τ) (Cert.StepGateUpReferenceIdeal.main (F := Ideal))) ⟨m, fun _ => 0, g⟩ (fun r => (∀ c : Dev Cert.StepGateUpReferenceIdeal.nD,
      r.2.mem ((c.tc : Thread Cert.StepGateUpReferenceIdeal.nD Cert.StepGateUpReferenceIdeal.τ).loc Cert.StepGateUpReferenceIdeal.main_arg0) = m ((c.tc : Thread Cert.StepGateUpReferenceIdeal.nD Cert.StepGateUpReferenceIdeal.τ).loc Cert.StepGateUpReferenceIdeal.main_arg0)
      ∧ r.2.mem ((c.tc : Thread Cert.StepGateUpReferenceIdeal.nD Cert.StepGateUpReferenceIdeal.τ).loc Cert.StepGateUpReferenceIdeal.main_arg1) = m ((c.tc : Thread Cert.StepGateUpReferenceIdeal.nD Cert.StepGateUpReferenceIdeal.τ).loc Cert.StepGateUpReferenceIdeal.main_arg1)
      ∧ r.2.mem ((c.tc : Thread Cert.StepGateUpReferenceIdeal.nD Cert.StepGateUpReferenceIdeal.τ).loc Cert.StepGateUpReferenceIdeal.main_arg2) = m ((c.tc : Thread Cert.StepGateUpReferenceIdeal.nD Cert.StepGateUpReferenceIdeal.τ).loc Cert.StepGateUpReferenceIdeal.main_arg2)
      ∧ r.2.mem ((c.tc : Thread Cert.StepGateUpReferenceIdeal.nD Cert.StepGateUpReferenceIdeal.τ).loc Cert.StepGateUpReferenceIdeal.main_arg3) = m ((c.tc : Thread Cert.StepGateUpReferenceIdeal.nD Cert.StepGateUpReferenceIdeal.τ).loc Cert.StepGateUpReferenceIdeal.main_arg3)
      ∧ r.2.mem ((c.tc : Thread Cert.StepGateUpReferenceIdeal.nD Cert.StepGateUpReferenceIdeal.τ).loc Cert.StepGateUpReferenceIdeal.main_arg4) = m ((c.tc : Thread Cert.StepGateUpReferenceIdeal.nD Cert.StepGateUpReferenceIdeal.τ).loc Cert.StepGateUpReferenceIdeal.main_arg4)
      ∧ r.2.mem ((c.tc : Thread Cert.StepGateUpReferenceIdeal.nD Cert.StepGateUpReferenceIdeal.τ).loc Cert.StepGateUpReferenceIdeal.main_arg5) = m ((c.tc : Thread Cert.StepGateUpReferenceIdeal.nD Cert.StepGateUpReferenceIdeal.τ).loc Cert.StepGateUpReferenceIdeal.main_arg5))
      ∧ r.2.sem = fun _ => 0)

def quiescent_StepGateUpReferenceIdeal_pre_chip_for_gate_up [hStepGateUpReferenceIdeal : Cert.StepGateUpReferenceIdeal.Facts] [hPre_chip_for_gate_up : Cert.Pre_chip_for_gate_up.Facts] : Prop :=
  ∀ (m : (ℓ : Loc Cert.StepGateUpReferenceIdeal.nD Cert.StepGateUpReferenceIdeal.τ Cert.StepGateUpReferenceIdeal.sig) → Buf (Elt Ideal) ℓ) (g : Dev Cert.StepGateUpReferenceIdeal.nD → PrngReg), Pre_StepGateUpReferenceIdeal_chip_for_gate_up m →
    θ_run (Cert.StepGateUpReferenceIdeal.defs (F := Ideal)) (onTc (τ := Cert.StepGateUpReferenceIdeal.τ) (Cert.StepGateUpReferenceIdeal.main (F := Ideal))) ⟨m, fun _ => 0, g⟩ (fun r => (∀ c : Dev Cert.StepGateUpReferenceIdeal.nD,
      r.2.mem ((c.tc : Thread Cert.StepGateUpReferenceIdeal.nD Cert.StepGateUpReferenceIdeal.τ).loc Cert.StepGateUpReferenceIdeal.main_arg0) = m ((c.tc : Thread Cert.StepGateUpReferenceIdeal.nD Cert.StepGateUpReferenceIdeal.τ).loc Cert.StepGateUpReferenceIdeal.main_arg0)
      ∧ r.2.mem ((c.tc : Thread Cert.StepGateUpReferenceIdeal.nD Cert.StepGateUpReferenceIdeal.τ).loc Cert.StepGateUpReferenceIdeal.main_arg1) = m ((c.tc : Thread Cert.StepGateUpReferenceIdeal.nD Cert.StepGateUpReferenceIdeal.τ).loc Cert.StepGateUpReferenceIdeal.main_arg1)
      ∧ r.2.mem ((c.tc : Thread Cert.StepGateUpReferenceIdeal.nD Cert.StepGateUpReferenceIdeal.τ).loc Cert.StepGateUpReferenceIdeal.main_arg2) = m ((c.tc : Thread Cert.StepGateUpReferenceIdeal.nD Cert.StepGateUpReferenceIdeal.τ).loc Cert.StepGateUpReferenceIdeal.main_arg2)
      ∧ r.2.mem ((c.tc : Thread Cert.StepGateUpReferenceIdeal.nD Cert.StepGateUpReferenceIdeal.τ).loc Cert.StepGateUpReferenceIdeal.main_arg3) = m ((c.tc : Thread Cert.StepGateUpReferenceIdeal.nD Cert.StepGateUpReferenceIdeal.τ).loc Cert.StepGateUpReferenceIdeal.main_arg3)
      ∧ r.2.mem ((c.tc : Thread Cert.StepGateUpReferenceIdeal.nD Cert.StepGateUpReferenceIdeal.τ).loc Cert.StepGateUpReferenceIdeal.main_arg4) = m ((c.tc : Thread Cert.StepGateUpReferenceIdeal.nD Cert.StepGateUpReferenceIdeal.τ).loc Cert.StepGateUpReferenceIdeal.main_arg4)
      ∧ r.2.mem ((c.tc : Thread Cert.StepGateUpReferenceIdeal.nD Cert.StepGateUpReferenceIdeal.τ).loc Cert.StepGateUpReferenceIdeal.main_arg5) = m ((c.tc : Thread Cert.StepGateUpReferenceIdeal.nD Cert.StepGateUpReferenceIdeal.τ).loc Cert.StepGateUpReferenceIdeal.main_arg5))
      ∧ r.2.sem = fun _ => 0)

def quiescent_StepOut [hStepOut : Cert.StepOut.Facts] [hPre_chip_for_out : Cert.Pre_chip_for_out.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3)
      ∧ r.2.mem ((c.tc : Thread Cert.StepOut.nD Cert.StepOut.τ).loc Cert.StepOut.main_arg4) = m ((c.tc : Thread Cert.StepOut.nD Cert.StepOut.τ).loc Cert.StepOut.main_arg4)
      ∧ r.2.mem ((c.tc : Thread Cert.StepOut.nD Cert.StepOut.τ).loc Cert.StepOut.main_arg5) = m ((c.tc : Thread Cert.StepOut.nD Cert.StepOut.τ).loc Cert.StepOut.main_arg5))
      ∧ r.2.sem = fun _ => 0)

def quiescent_StepOutIdeal [hStepOutIdeal : Cert.StepOutIdeal.Facts] [hPre_chip_for_out : Cert.Pre_chip_for_out.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
      ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
      ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3)
      ∧ r.2.mem ((c.tc : Thread Cert.StepOutReferenceIdeal.nD Cert.StepOutReferenceIdeal.τ).loc Cert.StepOutReferenceIdeal.main_arg4) = m ((c.tc : Thread Cert.StepOutReferenceIdeal.nD Cert.StepOutReferenceIdeal.τ).loc Cert.StepOutReferenceIdeal.main_arg4)
      ∧ r.2.mem ((c.tc : Thread Cert.StepOutReferenceIdeal.nD Cert.StepOutReferenceIdeal.τ).loc Cert.StepOutReferenceIdeal.main_arg5) = m ((c.tc : Thread Cert.StepOutReferenceIdeal.nD Cert.StepOutReferenceIdeal.τ).loc Cert.StepOutReferenceIdeal.main_arg5))
      ∧ r.2.sem = fun _ => 0)

def quiescent_StepOutReferenceIdeal_pre_chip_for_out [hStepOutReferenceIdeal : Cert.StepOutReferenceIdeal.Facts] [hPre_chip_for_out : Cert.Pre_chip_for_out.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal_chip_for_out m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3)
      ∧ r.2.mem ((c.tc : Thread Cert.StepOutReferenceIdeal.nD Cert.StepOutReferenceIdeal.τ).loc Cert.StepOutReferenceIdeal.main_arg4) = m ((c.tc : Thread Cert.StepOutReferenceIdeal.nD Cert.StepOutReferenceIdeal.τ).loc Cert.StepOutReferenceIdeal.main_arg4)
      ∧ r.2.mem ((c.tc : Thread Cert.StepOutReferenceIdeal.nD Cert.StepOutReferenceIdeal.τ).loc Cert.StepOutReferenceIdeal.main_arg5) = m ((c.tc : Thread Cert.StepOutReferenceIdeal.nD Cert.StepOutReferenceIdeal.τ).loc Cert.StepOutReferenceIdeal.main_arg5))
      ∧ r.2.sem = fun _ => 0)

def quiescent_StepIn [hStepIn : Cert.StepIn.Facts] [hPre_chip_for_in : Cert.Pre_chip_for_in.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3)
      ∧ r.2.mem ((c.tc : Thread Cert.StepIn.nD Cert.StepIn.τ).loc Cert.StepIn.main_arg4) = m ((c.tc : Thread Cert.StepIn.nD Cert.StepIn.τ).loc Cert.StepIn.main_arg4)
      ∧ r.2.mem ((c.tc : Thread Cert.StepIn.nD Cert.StepIn.τ).loc Cert.StepIn.main_arg5) = m ((c.tc : Thread Cert.StepIn.nD Cert.StepIn.τ).loc Cert.StepIn.main_arg5))
      ∧ r.2.sem = fun _ => 0)

def quiescent_StepInIdeal [hStepInIdeal : Cert.StepInIdeal.Facts] [hPre_chip_for_in : Cert.Pre_chip_for_in.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
      ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
      ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ r.2.sem = fun _ => 0)

def quiescent_StepInReferenceIdeal [hStepInReferenceIdeal : Cert.StepInReferenceIdeal.Facts] : Prop :=
  ∀ (m : (ℓ : Loc Cert.StepInReferenceIdeal.nD Cert.StepInReferenceIdeal.τ Cert.StepInReferenceIdeal.sig) → Buf (Elt Ideal) ℓ) (g : Dev Cert.StepInReferenceIdeal.nD → PrngReg), Pre_StepInReferenceIdeal m →
    θ_run (Cert.StepInReferenceIdeal.defs (F := Ideal)) (onTc (τ := Cert.StepInReferenceIdeal.τ) (Cert.StepInReferenceIdeal.main (F := Ideal))) ⟨m, fun _ => 0, g⟩ (fun r => (∀ c : Dev Cert.StepInReferenceIdeal.nD,
      r.2.mem ((c.tc : Thread Cert.StepInReferenceIdeal.nD Cert.StepInReferenceIdeal.τ).loc Cert.StepInReferenceIdeal.main_arg0) = m ((c.tc : Thread Cert.StepInReferenceIdeal.nD Cert.StepInReferenceIdeal.τ).loc Cert.StepInReferenceIdeal.main_arg0)
      ∧ r.2.mem ((c.tc : Thread Cert.StepInReferenceIdeal.nD Cert.StepInReferenceIdeal.τ).loc Cert.StepInReferenceIdeal.main_arg1) = m ((c.tc : Thread Cert.StepInReferenceIdeal.nD Cert.StepInReferenceIdeal.τ).loc Cert.StepInReferenceIdeal.main_arg1)
      ∧ r.2.mem ((c.tc : Thread Cert.StepInReferenceIdeal.nD Cert.StepInReferenceIdeal.τ).loc Cert.StepInReferenceIdeal.main_arg2) = m ((c.tc : Thread Cert.StepInReferenceIdeal.nD Cert.StepInReferenceIdeal.τ).loc Cert.StepInReferenceIdeal.main_arg2)
      ∧ r.2.mem ((c.tc : Thread Cert.StepInReferenceIdeal.nD Cert.StepInReferenceIdeal.τ).loc Cert.StepInReferenceIdeal.main_arg3) = m ((c.tc : Thread Cert.StepInReferenceIdeal.nD Cert.StepInReferenceIdeal.τ).loc Cert.StepInReferenceIdeal.main_arg3)
      ∧ r.2.mem ((c.tc : Thread Cert.StepInReferenceIdeal.nD Cert.StepInReferenceIdeal.τ).loc Cert.StepInReferenceIdeal.main_arg4) = m ((c.tc : Thread Cert.StepInReferenceIdeal.nD Cert.StepInReferenceIdeal.τ).loc Cert.StepInReferenceIdeal.main_arg4)
      ∧ r.2.mem ((c.tc : Thread Cert.StepInReferenceIdeal.nD Cert.StepInReferenceIdeal.τ).loc Cert.StepInReferenceIdeal.main_arg5) = m ((c.tc : Thread Cert.StepInReferenceIdeal.nD Cert.StepInReferenceIdeal.τ).loc Cert.StepInReferenceIdeal.main_arg5))
      ∧ r.2.sem = fun _ => 0)

def quiescent_StepInReferenceIdeal_pre_chip_for_in [hStepInReferenceIdeal : Cert.StepInReferenceIdeal.Facts] [hPre_chip_for_in : Cert.Pre_chip_for_in.Facts] : Prop :=
  ∀ (m : (ℓ : Loc Cert.StepInReferenceIdeal.nD Cert.StepInReferenceIdeal.τ Cert.StepInReferenceIdeal.sig) → Buf (Elt Ideal) ℓ) (g : Dev Cert.StepInReferenceIdeal.nD → PrngReg), Pre_StepInReferenceIdeal_chip_for_in m →
    θ_run (Cert.StepInReferenceIdeal.defs (F := Ideal)) (onTc (τ := Cert.StepInReferenceIdeal.τ) (Cert.StepInReferenceIdeal.main (F := Ideal))) ⟨m, fun _ => 0, g⟩ (fun r => (∀ c : Dev Cert.StepInReferenceIdeal.nD,
      r.2.mem ((c.tc : Thread Cert.StepInReferenceIdeal.nD Cert.StepInReferenceIdeal.τ).loc Cert.StepInReferenceIdeal.main_arg0) = m ((c.tc : Thread Cert.StepInReferenceIdeal.nD Cert.StepInReferenceIdeal.τ).loc Cert.StepInReferenceIdeal.main_arg0)
      ∧ r.2.mem ((c.tc : Thread Cert.StepInReferenceIdeal.nD Cert.StepInReferenceIdeal.τ).loc Cert.StepInReferenceIdeal.main_arg1) = m ((c.tc : Thread Cert.StepInReferenceIdeal.nD Cert.StepInReferenceIdeal.τ).loc Cert.StepInReferenceIdeal.main_arg1)
      ∧ r.2.mem ((c.tc : Thread Cert.StepInReferenceIdeal.nD Cert.StepInReferenceIdeal.τ).loc Cert.StepInReferenceIdeal.main_arg2) = m ((c.tc : Thread Cert.StepInReferenceIdeal.nD Cert.StepInReferenceIdeal.τ).loc Cert.StepInReferenceIdeal.main_arg2)
      ∧ r.2.mem ((c.tc : Thread Cert.StepInReferenceIdeal.nD Cert.StepInReferenceIdeal.τ).loc Cert.StepInReferenceIdeal.main_arg3) = m ((c.tc : Thread Cert.StepInReferenceIdeal.nD Cert.StepInReferenceIdeal.τ).loc Cert.StepInReferenceIdeal.main_arg3)
      ∧ r.2.mem ((c.tc : Thread Cert.StepInReferenceIdeal.nD Cert.StepInReferenceIdeal.τ).loc Cert.StepInReferenceIdeal.main_arg4) = m ((c.tc : Thread Cert.StepInReferenceIdeal.nD Cert.StepInReferenceIdeal.τ).loc Cert.StepInReferenceIdeal.main_arg4)
      ∧ r.2.mem ((c.tc : Thread Cert.StepInReferenceIdeal.nD Cert.StepInReferenceIdeal.τ).loc Cert.StepInReferenceIdeal.main_arg5) = m ((c.tc : Thread Cert.StepInReferenceIdeal.nD Cert.StepInReferenceIdeal.τ).loc Cert.StepInReferenceIdeal.main_arg5))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2)
      ∧ r.2.mem ((c.tc : Thread Cert.ConvGate.nD Cert.ConvGate.τ).loc Cert.ConvGate.main_arg3) = m ((c.tc : Thread Cert.ConvGate.nD Cert.ConvGate.τ).loc Cert.ConvGate.main_arg3)
      ∧ r.2.mem ((c.tc : Thread Cert.ConvGate.nD Cert.ConvGate.τ).loc Cert.ConvGate.main_arg4) = m ((c.tc : Thread Cert.ConvGate.nD Cert.ConvGate.τ).loc Cert.ConvGate.main_arg4))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
      ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3)
      ∧ r.2.mem ((c.tc : Thread Cert.ConvGateIdeal.nD Cert.ConvGateIdeal.τ).loc Cert.ConvGateIdeal.main_arg4) = m ((c.tc : Thread Cert.ConvGateIdeal.nD Cert.ConvGateIdeal.τ).loc Cert.ConvGateIdeal.main_arg4))
      ∧ r.2.sem = fun _ => 0)

def quiescent_ConvGateReferenceIdeal [hConvGateReferenceIdeal : Cert.ConvGateReferenceIdeal.Facts] : Prop :=
  ∀ (m : (ℓ : Loc Cert.ConvGateReferenceIdeal.nD Cert.ConvGateReferenceIdeal.τ Cert.ConvGateReferenceIdeal.sig) → Buf (Elt Ideal) ℓ) (g : Dev Cert.ConvGateReferenceIdeal.nD → PrngReg), Pre_ConvGateReferenceIdeal m →
    θ_run (Cert.ConvGateReferenceIdeal.defs (F := Ideal)) (onTc (τ := Cert.ConvGateReferenceIdeal.τ) (Cert.ConvGateReferenceIdeal.main (F := Ideal))) ⟨m, fun _ => 0, g⟩ (fun r => (∀ c : Dev Cert.ConvGateReferenceIdeal.nD,
      r.2.mem ((c.tc : Thread Cert.ConvGateReferenceIdeal.nD Cert.ConvGateReferenceIdeal.τ).loc Cert.ConvGateReferenceIdeal.main_arg0) = m ((c.tc : Thread Cert.ConvGateReferenceIdeal.nD Cert.ConvGateReferenceIdeal.τ).loc Cert.ConvGateReferenceIdeal.main_arg0)
      ∧ r.2.mem ((c.tc : Thread Cert.ConvGateReferenceIdeal.nD Cert.ConvGateReferenceIdeal.τ).loc Cert.ConvGateReferenceIdeal.main_arg1) = m ((c.tc : Thread Cert.ConvGateReferenceIdeal.nD Cert.ConvGateReferenceIdeal.τ).loc Cert.ConvGateReferenceIdeal.main_arg1)
      ∧ r.2.mem ((c.tc : Thread Cert.ConvGateReferenceIdeal.nD Cert.ConvGateReferenceIdeal.τ).loc Cert.ConvGateReferenceIdeal.main_arg2) = m ((c.tc : Thread Cert.ConvGateReferenceIdeal.nD Cert.ConvGateReferenceIdeal.τ).loc Cert.ConvGateReferenceIdeal.main_arg2)
      ∧ r.2.mem ((c.tc : Thread Cert.ConvGateReferenceIdeal.nD Cert.ConvGateReferenceIdeal.τ).loc Cert.ConvGateReferenceIdeal.main_arg3) = m ((c.tc : Thread Cert.ConvGateReferenceIdeal.nD Cert.ConvGateReferenceIdeal.τ).loc Cert.ConvGateReferenceIdeal.main_arg3)
      ∧ r.2.mem ((c.tc : Thread Cert.ConvGateReferenceIdeal.nD Cert.ConvGateReferenceIdeal.τ).loc Cert.ConvGateReferenceIdeal.main_arg4) = m ((c.tc : Thread Cert.ConvGateReferenceIdeal.nD Cert.ConvGateReferenceIdeal.τ).loc Cert.ConvGateReferenceIdeal.main_arg4))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ r.2.sem = fun _ => 0)

def quiescent_FfnNormReferenceIdeal [hFfnNormReferenceIdeal : Cert.FfnNormReferenceIdeal.Facts] : Prop :=
  ∀ (m : (ℓ : Loc Cert.FfnNormReferenceIdeal.nD Cert.FfnNormReferenceIdeal.τ Cert.FfnNormReferenceIdeal.sig) → Buf (Elt Ideal) ℓ) (g : Dev Cert.FfnNormReferenceIdeal.nD → PrngReg), Pre_FfnNormReferenceIdeal m →
    θ_run (Cert.FfnNormReferenceIdeal.defs (F := Ideal)) (onTc (τ := Cert.FfnNormReferenceIdeal.τ) (Cert.FfnNormReferenceIdeal.main (F := Ideal))) ⟨m, fun _ => 0, g⟩ (fun r => (∀ c : Dev Cert.FfnNormReferenceIdeal.nD,
      r.2.mem ((c.tc : Thread Cert.FfnNormReferenceIdeal.nD Cert.FfnNormReferenceIdeal.τ).loc Cert.FfnNormReferenceIdeal.main_arg0) = m ((c.tc : Thread Cert.FfnNormReferenceIdeal.nD Cert.FfnNormReferenceIdeal.τ).loc Cert.FfnNormReferenceIdeal.main_arg0)
      ∧ r.2.mem ((c.tc : Thread Cert.FfnNormReferenceIdeal.nD Cert.FfnNormReferenceIdeal.τ).loc Cert.FfnNormReferenceIdeal.main_arg1) = m ((c.tc : Thread Cert.FfnNormReferenceIdeal.nD Cert.FfnNormReferenceIdeal.τ).loc Cert.FfnNormReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_v202) = v3 c
          ∧ r.2.mem ((c.tc : Thread Cert.ReferenceIdeal.nD Cert.ReferenceIdeal.τ).loc Cert.ReferenceIdeal.main_v204) = v4 c
          ∧ r.2.mem ((c.tc : Thread Cert.ReferenceIdeal.nD Cert.ReferenceIdeal.τ).loc Cert.ReferenceIdeal.main_v205) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_GateUpDwIdeal_GateUpDwReferenceIdeal [hGateUpDwIdeal : Cert.GateUpDwIdeal.Facts] [hGateUpDwReferenceIdeal : Cert.GateUpDwReferenceIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwReferenceIdeal.nD Cert.GateUpDwReferenceIdeal.τ Cert.GateUpDwReferenceIdeal.sig) → Buf (Elt Ideal) ℓ) (g' : Dev Cert.GateUpDwReferenceIdeal.nD → PrngReg), Pre_GateUpDwIdeal m →
    (∀ c : Dev Cert.GateUpDwIdeal.nD,
      m' ((c.tc : Thread Cert.GateUpDwReferenceIdeal.nD Cert.GateUpDwReferenceIdeal.τ).loc Cert.GateUpDwReferenceIdeal.main_arg0) = m ((c.tc : Thread Cert.GateUpDwIdeal.nD Cert.GateUpDwIdeal.τ).loc Cert.GateUpDwIdeal.main_arg0)
      ∧ m' ((c.tc : Thread Cert.GateUpDwReferenceIdeal.nD Cert.GateUpDwReferenceIdeal.τ).loc Cert.GateUpDwReferenceIdeal.main_arg1) = m ((c.tc : Thread Cert.GateUpDwIdeal.nD Cert.GateUpDwIdeal.τ).loc Cert.GateUpDwIdeal.main_arg1)) →
    ∃ (v0 : (c : Dev Cert.GateUpDwIdeal.nD) → Buf (Elt Ideal) ((c.tc : Thread Cert.GateUpDwIdeal.nD Cert.GateUpDwIdeal.τ).loc Cert.GateUpDwIdeal.main_v0)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v0) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ θ_run (Cert.GateUpDwReferenceIdeal.defs (F := Ideal)) (onTc (τ := Cert.GateUpDwReferenceIdeal.τ) (Cert.GateUpDwReferenceIdeal.main (F := Ideal))) ⟨m', fun _ => 0, g'⟩ (fun r => ∀ c : Dev Cert.GateUpDwReferenceIdeal.nD,
          r.2.mem ((c.tc : Thread Cert.GateUpDwReferenceIdeal.nD Cert.GateUpDwReferenceIdeal.τ).loc Cert.GateUpDwReferenceIdeal.main_v12) = v0 c
          ∧ r.2.mem ((c.tc : Thread Cert.GateUpDwReferenceIdeal.nD Cert.GateUpDwReferenceIdeal.τ).loc Cert.GateUpDwReferenceIdeal.main_arg0) = m' ((c.tc : Thread Cert.GateUpDwReferenceIdeal.nD Cert.GateUpDwReferenceIdeal.τ).loc Cert.GateUpDwReferenceIdeal.main_arg0)
          ∧ r.2.mem ((c.tc : Thread Cert.GateUpDwReferenceIdeal.nD Cert.GateUpDwReferenceIdeal.τ).loc Cert.GateUpDwReferenceIdeal.main_arg1) = m' ((c.tc : Thread Cert.GateUpDwReferenceIdeal.nD Cert.GateUpDwReferenceIdeal.τ).loc Cert.GateUpDwReferenceIdeal.main_arg1))

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v7) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def algebraic_MixDwIdeal_MixDwReferenceIdeal [hMixDwIdeal : Cert.MixDwIdeal.Facts] [hMixDwReferenceIdeal : Cert.MixDwReferenceIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwReferenceIdeal.nD Cert.MixDwReferenceIdeal.τ Cert.MixDwReferenceIdeal.sig) → Buf (Elt Ideal) ℓ) (g' : Dev Cert.MixDwReferenceIdeal.nD → PrngReg), Pre_MixDwIdeal m →
    (∀ c : Dev Cert.MixDwIdeal.nD,
      m' ((c.tc : Thread Cert.MixDwReferenceIdeal.nD Cert.MixDwReferenceIdeal.τ).loc Cert.MixDwReferenceIdeal.main_arg0) = m ((c.tc : Thread Cert.MixDwIdeal.nD Cert.MixDwIdeal.τ).loc Cert.MixDwIdeal.main_arg0)
      ∧ m' ((c.tc : Thread Cert.MixDwReferenceIdeal.nD Cert.MixDwReferenceIdeal.τ).loc Cert.MixDwReferenceIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwReferenceIdeal.defs (F := Ideal)) (onTc (τ := Cert.MixDwReferenceIdeal.τ) (Cert.MixDwReferenceIdeal.main (F := Ideal))) ⟨m', fun _ => 0, g'⟩ (fun r => ∀ c : Dev Cert.MixDwReferenceIdeal.nD,
          r.2.mem ((c.tc : Thread Cert.MixDwReferenceIdeal.nD Cert.MixDwReferenceIdeal.τ).loc Cert.MixDwReferenceIdeal.main_v6) = v0 c
          ∧ r.2.mem ((c.tc : Thread Cert.MixDwReferenceIdeal.nD Cert.MixDwReferenceIdeal.τ).loc Cert.MixDwReferenceIdeal.main_arg0) = m' ((c.tc : Thread Cert.MixDwReferenceIdeal.nD Cert.MixDwReferenceIdeal.τ).loc Cert.MixDwReferenceIdeal.main_arg0)
          ∧ r.2.mem ((c.tc : Thread Cert.MixDwReferenceIdeal.nD Cert.MixDwReferenceIdeal.τ).loc Cert.MixDwReferenceIdeal.main_arg1) = m' ((c.tc : Thread Cert.MixDwReferenceIdeal.nD Cert.MixDwReferenceIdeal.τ).loc Cert.MixDwReferenceIdeal.main_arg1))

def algebraic_AttnDwIdeal_AttnDwReferenceIdeal [hAttnDwIdeal : Cert.AttnDwIdeal.Facts] [hAttnDwReferenceIdeal : Cert.AttnDwReferenceIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg)
    (m' : (ℓ : Loc Cert.AttnDwReferenceIdeal.nD Cert.AttnDwReferenceIdeal.τ Cert.AttnDwReferenceIdeal.sig) → Buf (Elt Ideal) ℓ) (g' : Dev Cert.AttnDwReferenceIdeal.nD → PrngReg), Pre_AttnDwIdeal m →
    (∀ c : Dev Cert.AttnDwIdeal.nD,
      m' ((c.tc : Thread Cert.AttnDwReferenceIdeal.nD Cert.AttnDwReferenceIdeal.τ).loc Cert.AttnDwReferenceIdeal.main_arg0) = m ((c.tc : Thread Cert.AttnDwIdeal.nD Cert.AttnDwIdeal.τ).loc Cert.AttnDwIdeal.main_arg0)
      ∧ m' ((c.tc : Thread Cert.AttnDwReferenceIdeal.nD Cert.AttnDwReferenceIdeal.τ).loc Cert.AttnDwReferenceIdeal.main_arg1) = m ((c.tc : Thread Cert.AttnDwIdeal.nD Cert.AttnDwIdeal.τ).loc Cert.AttnDwIdeal.main_arg1)) →
    ∃ (v0 : (c : Dev Cert.AttnDwIdeal.nD) → Buf (Elt Ideal) ((c.tc : Thread Cert.AttnDwIdeal.nD Cert.AttnDwIdeal.τ).loc Cert.AttnDwIdeal.main_v0)),
      θ_run (Cert.AttnDwIdeal.defs (F := Ideal)) (onTc (τ := Cert.AttnDwIdeal.τ) (Cert.AttnDwIdeal.main (F := Ideal))) ⟨m, fun _ => 0, g⟩ (fun r => ∀ c : Dev Cert.AttnDwIdeal.nD,
          r.2.mem ((c.tc : Thread Cert.AttnDwIdeal.nD Cert.AttnDwIdeal.τ).loc Cert.AttnDwIdeal.main_v0) = v0 c
          ∧ r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
          ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1))
      ∧ θ_run (Cert.AttnDwReferenceIdeal.defs (F := Ideal)) (onTc (τ := Cert.AttnDwReferenceIdeal.τ) (Cert.AttnDwReferenceIdeal.main (F := Ideal))) ⟨m', fun _ => 0, g'⟩ (fun r => ∀ c : Dev Cert.AttnDwReferenceIdeal.nD,
          r.2.mem ((c.tc : Thread Cert.AttnDwReferenceIdeal.nD Cert.AttnDwReferenceIdeal.τ).loc Cert.AttnDwReferenceIdeal.main_v7) = v0 c
          ∧ r.2.mem ((c.tc : Thread Cert.AttnDwReferenceIdeal.nD Cert.AttnDwReferenceIdeal.τ).loc Cert.AttnDwReferenceIdeal.main_arg0) = m' ((c.tc : Thread Cert.AttnDwReferenceIdeal.nD Cert.AttnDwReferenceIdeal.τ).loc Cert.AttnDwReferenceIdeal.main_arg0)
          ∧ r.2.mem ((c.tc : Thread Cert.AttnDwReferenceIdeal.nD Cert.AttnDwReferenceIdeal.τ).loc Cert.AttnDwReferenceIdeal.main_arg1) = m' ((c.tc : Thread Cert.AttnDwReferenceIdeal.nD Cert.AttnDwReferenceIdeal.τ).loc Cert.AttnDwReferenceIdeal.main_arg1))

def algebraic_ConvDwIdeal_ConvDwReferenceIdeal [hConvDwIdeal : Cert.ConvDwIdeal.Facts] [hConvDwReferenceIdeal : Cert.ConvDwReferenceIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg)
    (m' : (ℓ : Loc Cert.ConvDwReferenceIdeal.nD Cert.ConvDwReferenceIdeal.τ Cert.ConvDwReferenceIdeal.sig) → Buf (Elt Ideal) ℓ) (g' : Dev Cert.ConvDwReferenceIdeal.nD → PrngReg), Pre_ConvDwIdeal m →
    (∀ c : Dev Cert.ConvDwIdeal.nD,
      m' ((c.tc : Thread Cert.ConvDwReferenceIdeal.nD Cert.ConvDwReferenceIdeal.τ).loc Cert.ConvDwReferenceIdeal.main_arg0) = m ((c.tc : Thread Cert.ConvDwIdeal.nD Cert.ConvDwIdeal.τ).loc Cert.ConvDwIdeal.main_arg0)
      ∧ m' ((c.tc : Thread Cert.ConvDwReferenceIdeal.nD Cert.ConvDwReferenceIdeal.τ).loc Cert.ConvDwReferenceIdeal.main_arg1) = m ((c.tc : Thread Cert.ConvDwIdeal.nD Cert.ConvDwIdeal.τ).loc Cert.ConvDwIdeal.main_arg1)) →
    ∃ (v0 : (c : Dev Cert.ConvDwIdeal.nD) → Buf (Elt Ideal) ((c.tc : Thread Cert.ConvDwIdeal.nD Cert.ConvDwIdeal.τ).loc Cert.ConvDwIdeal.main_v0)),
      θ_run (Cert.ConvDwIdeal.defs (F := Ideal)) (onTc (τ := Cert.ConvDwIdeal.τ) (Cert.ConvDwIdeal.main (F := Ideal))) ⟨m, fun _ => 0, g⟩ (fun r => ∀ c : Dev Cert.ConvDwIdeal.nD,
          r.2.mem ((c.tc : Thread Cert.ConvDwIdeal.nD Cert.ConvDwIdeal.τ).loc Cert.ConvDwIdeal.main_v0) = v0 c
          ∧ r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
          ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1))
      ∧ θ_run (Cert.ConvDwReferenceIdeal.defs (F := Ideal)) (onTc (τ := Cert.ConvDwReferenceIdeal.τ) (Cert.ConvDwReferenceIdeal.main (F := Ideal))) ⟨m', fun _ => 0, g'⟩ (fun r => ∀ c : Dev Cert.ConvDwReferenceIdeal.nD,
          r.2.mem ((c.tc : Thread Cert.ConvDwReferenceIdeal.nD Cert.ConvDwReferenceIdeal.τ).loc Cert.ConvDwReferenceIdeal.main_v7) = v0 c
          ∧ r.2.mem ((c.tc : Thread Cert.ConvDwReferenceIdeal.nD Cert.ConvDwReferenceIdeal.τ).loc Cert.ConvDwReferenceIdeal.main_arg0) = m' ((c.tc : Thread Cert.ConvDwReferenceIdeal.nD Cert.ConvDwReferenceIdeal.τ).loc Cert.ConvDwReferenceIdeal.main_arg0)
          ∧ r.2.mem ((c.tc : Thread Cert.ConvDwReferenceIdeal.nD Cert.ConvDwReferenceIdeal.τ).loc Cert.ConvDwReferenceIdeal.main_arg1) = m' ((c.tc : Thread Cert.ConvDwReferenceIdeal.nD Cert.ConvDwReferenceIdeal.τ).loc Cert.ConvDwReferenceIdeal.main_arg1))

def algebraic_MixDxIdeal_MixDxReferenceIdeal [hMixDxIdeal : Cert.MixDxIdeal.Facts] [hMixDxReferenceIdeal : Cert.MixDxReferenceIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxReferenceIdeal.nD Cert.MixDxReferenceIdeal.τ Cert.MixDxReferenceIdeal.sig) → Buf (Elt Ideal) ℓ) (g' : Dev Cert.MixDxReferenceIdeal.nD → PrngReg), Pre_MixDxIdeal m →
    (∀ c : Dev Cert.MixDxIdeal.nD,
      m' ((c.tc : Thread Cert.MixDxReferenceIdeal.nD Cert.MixDxReferenceIdeal.τ).loc Cert.MixDxReferenceIdeal.main_arg0) = m ((c.tc : Thread Cert.MixDxIdeal.nD Cert.MixDxIdeal.τ).loc Cert.MixDxIdeal.main_arg0)
      ∧ m' ((c.tc : Thread Cert.MixDxReferenceIdeal.nD Cert.MixDxReferenceIdeal.τ).loc Cert.MixDxReferenceIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxReferenceIdeal.defs (F := Ideal)) (onTc (τ := Cert.MixDxReferenceIdeal.τ) (Cert.MixDxReferenceIdeal.main (F := Ideal))) ⟨m', fun _ => 0, g'⟩ (fun r => ∀ c : Dev Cert.MixDxReferenceIdeal.nD,
          r.2.mem ((c.tc : Thread Cert.MixDxReferenceIdeal.nD Cert.MixDxReferenceIdeal.τ).loc Cert.MixDxReferenceIdeal.main_v5) = v0 c
          ∧ r.2.mem ((c.tc : Thread Cert.MixDxReferenceIdeal.nD Cert.MixDxReferenceIdeal.τ).loc Cert.MixDxReferenceIdeal.main_arg0) = m' ((c.tc : Thread Cert.MixDxReferenceIdeal.nD Cert.MixDxReferenceIdeal.τ).loc Cert.MixDxReferenceIdeal.main_arg0)
          ∧ r.2.mem ((c.tc : Thread Cert.MixDxReferenceIdeal.nD Cert.MixDxReferenceIdeal.τ).loc Cert.MixDxReferenceIdeal.main_arg1) = m' ((c.tc : Thread Cert.MixDxReferenceIdeal.nD Cert.MixDxReferenceIdeal.τ).loc Cert.MixDxReferenceIdeal.main_arg1))

def algebraic_AttnDxIdeal_AttnDxReferenceIdeal [hAttnDxIdeal : Cert.AttnDxIdeal.Facts] [hAttnDxReferenceIdeal : Cert.AttnDxReferenceIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg)
    (m' : (ℓ : Loc Cert.AttnDxReferenceIdeal.nD Cert.AttnDxReferenceIdeal.τ Cert.AttnDxReferenceIdeal.sig) → Buf (Elt Ideal) ℓ) (g' : Dev Cert.AttnDxReferenceIdeal.nD → PrngReg), Pre_AttnDxIdeal m →
    (∀ c : Dev Cert.AttnDxIdeal.nD,
      m' ((c.tc : Thread Cert.AttnDxReferenceIdeal.nD Cert.AttnDxReferenceIdeal.τ).loc Cert.AttnDxReferenceIdeal.main_arg0) = m ((c.tc : Thread Cert.AttnDxIdeal.nD Cert.AttnDxIdeal.τ).loc Cert.AttnDxIdeal.main_arg0)
      ∧ m' ((c.tc : Thread Cert.AttnDxReferenceIdeal.nD Cert.AttnDxReferenceIdeal.τ).loc Cert.AttnDxReferenceIdeal.main_arg1) = m ((c.tc : Thread Cert.AttnDxIdeal.nD Cert.AttnDxIdeal.τ).loc Cert.AttnDxIdeal.main_arg1)) →
    ∃ (v0 : (c : Dev Cert.AttnDxIdeal.nD) → Buf (Elt Ideal) ((c.tc : Thread Cert.AttnDxIdeal.nD Cert.AttnDxIdeal.τ).loc Cert.AttnDxIdeal.main_v0)),
      θ_run (Cert.AttnDxIdeal.defs (F := Ideal)) (onTc (τ := Cert.AttnDxIdeal.τ) (Cert.AttnDxIdeal.main (F := Ideal))) ⟨m, fun _ => 0, g⟩ (fun r => ∀ c : Dev Cert.AttnDxIdeal.nD,
          r.2.mem ((c.tc : Thread Cert.AttnDxIdeal.nD Cert.AttnDxIdeal.τ).loc Cert.AttnDxIdeal.main_v0) = v0 c
          ∧ r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
          ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1))
      ∧ θ_run (Cert.AttnDxReferenceIdeal.defs (F := Ideal)) (onTc (τ := Cert.AttnDxReferenceIdeal.τ) (Cert.AttnDxReferenceIdeal.main (F := Ideal))) ⟨m', fun _ => 0, g'⟩ (fun r => ∀ c : Dev Cert.AttnDxReferenceIdeal.nD,
          r.2.mem ((c.tc : Thread Cert.AttnDxReferenceIdeal.nD Cert.AttnDxReferenceIdeal.τ).loc Cert.AttnDxReferenceIdeal.main_v6) = v0 c
          ∧ r.2.mem ((c.tc : Thread Cert.AttnDxReferenceIdeal.nD Cert.AttnDxReferenceIdeal.τ).loc Cert.AttnDxReferenceIdeal.main_arg0) = m' ((c.tc : Thread Cert.AttnDxReferenceIdeal.nD Cert.AttnDxReferenceIdeal.τ).loc Cert.AttnDxReferenceIdeal.main_arg0)
          ∧ r.2.mem ((c.tc : Thread Cert.AttnDxReferenceIdeal.nD Cert.AttnDxReferenceIdeal.τ).loc Cert.AttnDxReferenceIdeal.main_arg1) = m' ((c.tc : Thread Cert.AttnDxReferenceIdeal.nD Cert.AttnDxReferenceIdeal.τ).loc Cert.AttnDxReferenceIdeal.main_arg1))

def algebraic_ConvDxIdeal_ConvDxReferenceIdeal [hConvDxIdeal : Cert.ConvDxIdeal.Facts] [hConvDxReferenceIdeal : Cert.ConvDxReferenceIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg)
    (m' : (ℓ : Loc Cert.ConvDxReferenceIdeal.nD Cert.ConvDxReferenceIdeal.τ Cert.ConvDxReferenceIdeal.sig) → Buf (Elt Ideal) ℓ) (g' : Dev Cert.ConvDxReferenceIdeal.nD → PrngReg), Pre_ConvDxIdeal m →
    (∀ c : Dev Cert.ConvDxIdeal.nD,
      m' ((c.tc : Thread Cert.ConvDxReferenceIdeal.nD Cert.ConvDxReferenceIdeal.τ).loc Cert.ConvDxReferenceIdeal.main_arg0) = m ((c.tc : Thread Cert.ConvDxIdeal.nD Cert.ConvDxIdeal.τ).loc Cert.ConvDxIdeal.main_arg0)
      ∧ m' ((c.tc : Thread Cert.ConvDxReferenceIdeal.nD Cert.ConvDxReferenceIdeal.τ).loc Cert.ConvDxReferenceIdeal.main_arg1) = m ((c.tc : Thread Cert.ConvDxIdeal.nD Cert.ConvDxIdeal.τ).loc Cert.ConvDxIdeal.main_arg1)) →
    ∃ (v0 : (c : Dev Cert.ConvDxIdeal.nD) → Buf (Elt Ideal) ((c.tc : Thread Cert.ConvDxIdeal.nD Cert.ConvDxIdeal.τ).loc Cert.ConvDxIdeal.main_v0)),
      θ_run (Cert.ConvDxIdeal.defs (F := Ideal)) (onTc (τ := Cert.ConvDxIdeal.τ) (Cert.ConvDxIdeal.main (F := Ideal))) ⟨m, fun _ => 0, g⟩ (fun r => ∀ c : Dev Cert.ConvDxIdeal.nD,
          r.2.mem ((c.tc : Thread Cert.ConvDxIdeal.nD Cert.ConvDxIdeal.τ).loc Cert.ConvDxIdeal.main_v0) = v0 c
          ∧ r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
          ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ θ_run (Cert.ConvDxReferenceIdeal.defs (F := Ideal)) (onTc (τ := Cert.ConvDxReferenceIdeal.τ) (Cert.ConvDxReferenceIdeal.main (F := Ideal))) ⟨m', fun _ => 0, g'⟩ (fun r => ∀ c : Dev Cert.ConvDxReferenceIdeal.nD,
          r.2.mem ((c.tc : Thread Cert.ConvDxReferenceIdeal.nD Cert.ConvDxReferenceIdeal.τ).loc Cert.ConvDxReferenceIdeal.main_v5) = v0 c
          ∧ r.2.mem ((c.tc : Thread Cert.ConvDxReferenceIdeal.nD Cert.ConvDxReferenceIdeal.τ).loc Cert.ConvDxReferenceIdeal.main_arg0) = m' ((c.tc : Thread Cert.ConvDxReferenceIdeal.nD Cert.ConvDxReferenceIdeal.τ).loc Cert.ConvDxReferenceIdeal.main_arg0)
          ∧ r.2.mem ((c.tc : Thread Cert.ConvDxReferenceIdeal.nD Cert.ConvDxReferenceIdeal.τ).loc Cert.ConvDxReferenceIdeal.main_arg1) = m' ((c.tc : Thread Cert.ConvDxReferenceIdeal.nD Cert.ConvDxReferenceIdeal.τ).loc Cert.ConvDxReferenceIdeal.main_arg1))

def algebraic_InQIdeal_InQReferenceIdeal [hInQIdeal : Cert.InQIdeal.Facts] [hInQReferenceIdeal : Cert.InQReferenceIdeal.Facts] : Prop :=
  ∀ (m : (ℓ : Loc Cert.InQIdeal.nD Cert.InQIdeal.τ Cert.InQIdeal.sig) → Buf (Elt Ideal) ℓ) (g : Dev Cert.InQIdeal.nD → PrngReg)
    (m' : (ℓ : Loc Cert.InQReferenceIdeal.nD Cert.InQReferenceIdeal.τ Cert.InQReferenceIdeal.sig) → Buf (Elt Ideal) ℓ) (g' : Dev Cert.InQReferenceIdeal.nD → PrngReg), Pre_InQIdeal m →
    (∀ c : Dev Cert.InQIdeal.nD,
      m' ((c.tc : Thread Cert.InQReferenceIdeal.nD Cert.InQReferenceIdeal.τ).loc Cert.InQReferenceIdeal.main_arg0) = m ((c.tc : Thread Cert.InQIdeal.nD Cert.InQIdeal.τ).loc Cert.InQIdeal.main_arg0)
      ∧ m' ((c.tc : Thread Cert.InQReferenceIdeal.nD Cert.InQReferenceIdeal.τ).loc Cert.InQReferenceIdeal.main_arg1) = m ((c.tc : Thread Cert.InQIdeal.nD Cert.InQIdeal.τ).loc Cert.InQIdeal.main_arg1)
      ∧ m' ((c.tc : Thread Cert.InQReferenceIdeal.nD Cert.InQReferenceIdeal.τ).loc Cert.InQReferenceIdeal.main_arg2) = m ((c.tc : Thread Cert.InQIdeal.nD Cert.InQIdeal.τ).loc Cert.InQIdeal.main_arg2)) →
    ∃ (v0 : (c : Dev Cert.InQIdeal.nD) → Buf (Elt Ideal) ((c.tc : Thread Cert.InQIdeal.nD Cert.InQIdeal.τ).loc Cert.InQIdeal.main_v0)),
      θ_run (Cert.InQIdeal.defs (F := Ideal)) (onTc (τ := Cert.InQIdeal.τ) (Cert.InQIdeal.main (F := Ideal))) ⟨m, fun _ => 0, g⟩ (fun r => ∀ c : Dev Cert.InQIdeal.nD,
          r.2.mem ((c.tc : Thread Cert.InQIdeal.nD Cert.InQIdeal.τ).loc Cert.InQIdeal.main_v0) = v0 c
          ∧ r.2.mem ((c.tc : Thread Cert.InQIdeal.nD Cert.InQIdeal.τ).loc Cert.InQIdeal.main_arg0) = m ((c.tc : Thread Cert.InQIdeal.nD Cert.InQIdeal.τ).loc Cert.InQIdeal.main_arg0)
          ∧ r.2.mem ((c.tc : Thread Cert.InQIdeal.nD Cert.InQIdeal.τ).loc Cert.InQIdeal.main_arg1) = m ((c.tc : Thread Cert.InQIdeal.nD Cert.InQIdeal.τ).loc Cert.InQIdeal.main_arg1)
          ∧ r.2.mem ((c.tc : Thread Cert.InQIdeal.nD Cert.InQIdeal.τ).loc Cert.InQIdeal.main_arg2) = m ((c.tc : Thread Cert.InQIdeal.nD Cert.InQIdeal.τ).loc Cert.InQIdeal.main_arg2))
      ∧ θ_run (Cert.InQReferenceIdeal.defs (F := Ideal)) (onTc (τ := Cert.InQReferenceIdeal.τ) (Cert.InQReferenceIdeal.main (F := Ideal))) ⟨m', fun _ => 0, g'⟩ (fun r => ∀ c : Dev Cert.InQReferenceIdeal.nD,
          r.2.mem ((c.tc : Thread Cert.InQReferenceIdeal.nD Cert.InQReferenceIdeal.τ).loc Cert.InQReferenceIdeal.main_v7) = v0 c
          ∧ r.2.mem ((c.tc : Thread Cert.InQReferenceIdeal.nD Cert.InQReferenceIdeal.τ).loc Cert.InQReferenceIdeal.main_arg0) = m' ((c.tc : Thread Cert.InQReferenceIdeal.nD Cert.InQReferenceIdeal.τ).loc Cert.InQReferenceIdeal.main_arg0)
          ∧ r.2.mem ((c.tc : Thread Cert.InQReferenceIdeal.nD Cert.InQReferenceIdeal.τ).loc Cert.InQReferenceIdeal.main_arg1) = m' ((c.tc : Thread Cert.InQReferenceIdeal.nD Cert.InQReferenceIdeal.τ).loc Cert.InQReferenceIdeal.main_arg1)
          ∧ r.2.mem ((c.tc : Thread Cert.InQReferenceIdeal.nD Cert.InQReferenceIdeal.τ).loc Cert.InQReferenceIdeal.main_arg2) = m' ((c.tc : Thread Cert.InQReferenceIdeal.nD Cert.InQReferenceIdeal.τ).loc Cert.InQReferenceIdeal.main_arg2))

def algebraic_InKvIdeal_InKvReferenceIdeal [hInKvIdeal : Cert.InKvIdeal.Facts] [hInKvReferenceIdeal : Cert.InKvReferenceIdeal.Facts] : Prop :=
  ∀ (m : (ℓ : Loc Cert.InKvIdeal.nD Cert.InKvIdeal.τ Cert.InKvIdeal.sig) → Buf (Elt Ideal) ℓ) (g : Dev Cert.InKvIdeal.nD → PrngReg)
    (m' : (ℓ : Loc Cert.InKvReferenceIdeal.nD Cert.InKvReferenceIdeal.τ Cert.InKvReferenceIdeal.sig) → Buf (Elt Ideal) ℓ) (g' : Dev Cert.InKvReferenceIdeal.nD → PrngReg), Pre_InKvIdeal m →
    (∀ c : Dev Cert.InKvIdeal.nD,
      m' ((c.tc : Thread Cert.InKvReferenceIdeal.nD Cert.InKvReferenceIdeal.τ).loc Cert.InKvReferenceIdeal.main_arg0) = m ((c.tc : Thread Cert.InKvIdeal.nD Cert.InKvIdeal.τ).loc Cert.InKvIdeal.main_arg0)
      ∧ m' ((c.tc : Thread Cert.InKvReferenceIdeal.nD Cert.InKvReferenceIdeal.τ).loc Cert.InKvReferenceIdeal.main_arg1) = m ((c.tc : Thread Cert.InKvIdeal.nD Cert.InKvIdeal.τ).loc Cert.InKvIdeal.main_arg1)
      ∧ m' ((c.tc : Thread Cert.InKvReferenceIdeal.nD Cert.InKvReferenceIdeal.τ).loc Cert.InKvReferenceIdeal.main_arg2) = m ((c.tc : Thread Cert.InKvIdeal.nD Cert.InKvIdeal.τ).loc Cert.InKvIdeal.main_arg2)) →
    ∃ (v0 : (c : Dev Cert.InKvIdeal.nD) → Buf (Elt Ideal) ((c.tc : Thread Cert.InKvIdeal.nD Cert.InKvIdeal.τ).loc Cert.InKvIdeal.main_v0)),
      θ_run (Cert.InKvIdeal.defs (F := Ideal)) (onTc (τ := Cert.InKvIdeal.τ) (Cert.InKvIdeal.main (F := Ideal))) ⟨m, fun _ => 0, g⟩ (fun r => ∀ c : Dev Cert.InKvIdeal.nD,
          r.2.mem ((c.tc : Thread Cert.InKvIdeal.nD Cert.InKvIdeal.τ).loc Cert.InKvIdeal.main_v0) = v0 c
          ∧ r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
          ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1)
          ∧ r.2.mem ((c.tc : Thread Cert.InKvIdeal.nD Cert.InKvIdeal.τ).loc Cert.InKvIdeal.main_arg2) = m ((c.tc : Thread Cert.InKvIdeal.nD Cert.InKvIdeal.τ).loc Cert.InKvIdeal.main_arg2))
      ∧ θ_run (Cert.InKvReferenceIdeal.defs (F := Ideal)) (onTc (τ := Cert.InKvReferenceIdeal.τ) (Cert.InKvReferenceIdeal.main (F := Ideal))) ⟨m', fun _ => 0, g'⟩ (fun r => ∀ c : Dev Cert.InKvReferenceIdeal.nD,
          r.2.mem ((c.tc : Thread Cert.InKvReferenceIdeal.nD Cert.InKvReferenceIdeal.τ).loc Cert.InKvReferenceIdeal.main_v7) = v0 c
          ∧ r.2.mem ((c.tc : Thread Cert.InKvReferenceIdeal.nD Cert.InKvReferenceIdeal.τ).loc Cert.InKvReferenceIdeal.main_arg0) = m' ((c.tc : Thread Cert.InKvReferenceIdeal.nD Cert.InKvReferenceIdeal.τ).loc Cert.InKvReferenceIdeal.main_arg0)
          ∧ r.2.mem ((c.tc : Thread Cert.InKvReferenceIdeal.nD Cert.InKvReferenceIdeal.τ).loc Cert.InKvReferenceIdeal.main_arg1) = m' ((c.tc : Thread Cert.InKvReferenceIdeal.nD Cert.InKvReferenceIdeal.τ).loc Cert.InKvReferenceIdeal.main_arg1)
          ∧ r.2.mem ((c.tc : Thread Cert.InKvReferenceIdeal.nD Cert.InKvReferenceIdeal.τ).loc Cert.InKvReferenceIdeal.main_arg2) = m' ((c.tc : Thread Cert.InKvReferenceIdeal.nD Cert.InKvReferenceIdeal.τ).loc Cert.InKvReferenceIdeal.main_arg2))

def algebraic_InConvIdeal_InConvReferenceIdeal [hInConvIdeal : Cert.InConvIdeal.Facts] [hInConvReferenceIdeal : Cert.InConvReferenceIdeal.Facts] : Prop :=
  ∀ (m : (ℓ : Loc Cert.InConvIdeal.nD Cert.InConvIdeal.τ Cert.InConvIdeal.sig) → Buf (Elt Ideal) ℓ) (g : Dev Cert.InConvIdeal.nD → PrngReg)
    (m' : (ℓ : Loc Cert.InConvReferenceIdeal.nD Cert.InConvReferenceIdeal.τ Cert.InConvReferenceIdeal.sig) → Buf (Elt Ideal) ℓ) (g' : Dev Cert.InConvReferenceIdeal.nD → PrngReg), Pre_InConvIdeal m →
    (∀ c : Dev Cert.InConvIdeal.nD,
      m' ((c.tc : Thread Cert.InConvReferenceIdeal.nD Cert.InConvReferenceIdeal.τ).loc Cert.InConvReferenceIdeal.main_arg0) = m ((c.tc : Thread Cert.InConvIdeal.nD Cert.InConvIdeal.τ).loc Cert.InConvIdeal.main_arg0)
      ∧ m' ((c.tc : Thread Cert.InConvReferenceIdeal.nD Cert.InConvReferenceIdeal.τ).loc Cert.InConvReferenceIdeal.main_arg1) = m ((c.tc : Thread Cert.InConvIdeal.nD Cert.InConvIdeal.τ).loc Cert.InConvIdeal.main_arg1)
      ∧ m' ((c.tc : Thread Cert.InConvReferenceIdeal.nD Cert.InConvReferenceIdeal.τ).loc Cert.InConvReferenceIdeal.main_arg2) = m ((c.tc : Thread Cert.InConvIdeal.nD Cert.InConvIdeal.τ).loc Cert.InConvIdeal.main_arg2)) →
    ∃ (v0 : (c : Dev Cert.InConvIdeal.nD) → Buf (Elt Ideal) ((c.tc : Thread Cert.InConvIdeal.nD Cert.InConvIdeal.τ).loc Cert.InConvIdeal.main_v0)),
      θ_run (Cert.InConvIdeal.defs (F := Ideal)) (onTc (τ := Cert.InConvIdeal.τ) (Cert.InConvIdeal.main (F := Ideal))) ⟨m, fun _ => 0, g⟩ (fun r => ∀ c : Dev Cert.InConvIdeal.nD,
          r.2.mem ((c.tc : Thread Cert.InConvIdeal.nD Cert.InConvIdeal.τ).loc Cert.InConvIdeal.main_v0) = v0 c
          ∧ r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
          ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1)
          ∧ r.2.mem ((c.tc : Thread Cert.InConvIdeal.nD Cert.InConvIdeal.τ).loc Cert.InConvIdeal.main_arg2) = m ((c.tc : Thread Cert.InConvIdeal.nD Cert.InConvIdeal.τ).loc Cert.InConvIdeal.main_arg2))
      ∧ θ_run (Cert.InConvReferenceIdeal.defs (F := Ideal)) (onTc (τ := Cert.InConvReferenceIdeal.τ) (Cert.InConvReferenceIdeal.main (F := Ideal))) ⟨m', fun _ => 0, g'⟩ (fun r => ∀ c : Dev Cert.InConvReferenceIdeal.nD,
          r.2.mem ((c.tc : Thread Cert.InConvReferenceIdeal.nD Cert.InConvReferenceIdeal.τ).loc Cert.InConvReferenceIdeal.main_v7) = v0 c
          ∧ r.2.mem ((c.tc : Thread Cert.InConvReferenceIdeal.nD Cert.InConvReferenceIdeal.τ).loc Cert.InConvReferenceIdeal.main_arg0) = m' ((c.tc : Thread Cert.InConvReferenceIdeal.nD Cert.InConvReferenceIdeal.τ).loc Cert.InConvReferenceIdeal.main_arg0)
          ∧ r.2.mem ((c.tc : Thread Cert.InConvReferenceIdeal.nD Cert.InConvReferenceIdeal.τ).loc Cert.InConvReferenceIdeal.main_arg1) = m' ((c.tc : Thread Cert.InConvReferenceIdeal.nD Cert.InConvReferenceIdeal.τ).loc Cert.InConvReferenceIdeal.main_arg1)
          ∧ r.2.mem ((c.tc : Thread Cert.InConvReferenceIdeal.nD Cert.InConvReferenceIdeal.τ).loc Cert.InConvReferenceIdeal.main_arg2) = m' ((c.tc : Thread Cert.InConvReferenceIdeal.nD Cert.InConvReferenceIdeal.τ).loc Cert.InConvReferenceIdeal.main_arg2))

def algebraic_InGatesIdeal_InGatesReferenceIdeal [hInGatesIdeal : Cert.InGatesIdeal.Facts] [hInGatesReferenceIdeal : Cert.InGatesReferenceIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesReferenceIdeal.nD Cert.InGatesReferenceIdeal.τ Cert.InGatesReferenceIdeal.sig) → Buf (Elt Ideal) ℓ) (g' : Dev Cert.InGatesReferenceIdeal.nD → PrngReg), Pre_InGatesIdeal m →
    (∀ c : Dev Cert.InGatesIdeal.nD,
      m' ((c.tc : Thread Cert.InGatesReferenceIdeal.nD Cert.InGatesReferenceIdeal.τ).loc Cert.InGatesReferenceIdeal.main_arg0) = m ((c.tc : Thread Cert.InGatesIdeal.nD Cert.InGatesIdeal.τ).loc Cert.InGatesIdeal.main_arg0)
      ∧ m' ((c.tc : Thread Cert.InGatesReferenceIdeal.nD Cert.InGatesReferenceIdeal.τ).loc Cert.InGatesReferenceIdeal.main_arg1) = m ((c.tc : Thread Cert.InGatesIdeal.nD Cert.InGatesIdeal.τ).loc Cert.InGatesIdeal.main_arg1)
      ∧ m' ((c.tc : Thread Cert.InGatesReferenceIdeal.nD Cert.InGatesReferenceIdeal.τ).loc Cert.InGatesReferenceIdeal.main_arg2) = m ((c.tc : Thread Cert.InGatesIdeal.nD Cert.InGatesIdeal.τ).loc Cert.InGatesIdeal.main_arg2)) →
    ∃ (v0 : (c : Dev Cert.InGatesIdeal.nD) → Buf (Elt Ideal) ((c.tc : Thread Cert.InGatesIdeal.nD Cert.InGatesIdeal.τ).loc Cert.InGatesIdeal.main_v0)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v0) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1)
          ∧ r.2.mem ((c.tc : Thread Cert.InGatesIdeal.nD Cert.InGatesIdeal.τ).loc Cert.InGatesIdeal.main_arg2) = m ((c.tc : Thread Cert.InGatesIdeal.nD Cert.InGatesIdeal.τ).loc Cert.InGatesIdeal.main_arg2))
      ∧ θ_run (Cert.InGatesReferenceIdeal.defs (F := Ideal)) (onTc (τ := Cert.InGatesReferenceIdeal.τ) (Cert.InGatesReferenceIdeal.main (F := Ideal))) ⟨m', fun _ => 0, g'⟩ (fun r => ∀ c : Dev Cert.InGatesReferenceIdeal.nD,
          r.2.mem ((c.tc : Thread Cert.InGatesReferenceIdeal.nD Cert.InGatesReferenceIdeal.τ).loc Cert.InGatesReferenceIdeal.main_v7) = v0 c
          ∧ r.2.mem ((c.tc : Thread Cert.InGatesReferenceIdeal.nD Cert.InGatesReferenceIdeal.τ).loc Cert.InGatesReferenceIdeal.main_arg0) = m' ((c.tc : Thread Cert.InGatesReferenceIdeal.nD Cert.InGatesReferenceIdeal.τ).loc Cert.InGatesReferenceIdeal.main_arg0)
          ∧ r.2.mem ((c.tc : Thread Cert.InGatesReferenceIdeal.nD Cert.InGatesReferenceIdeal.τ).loc Cert.InGatesReferenceIdeal.main_arg1) = m' ((c.tc : Thread Cert.InGatesReferenceIdeal.nD Cert.InGatesReferenceIdeal.τ).loc Cert.InGatesReferenceIdeal.main_arg1)
          ∧ r.2.mem ((c.tc : Thread Cert.InGatesReferenceIdeal.nD Cert.InGatesReferenceIdeal.τ).loc Cert.InGatesReferenceIdeal.main_arg2) = m' ((c.tc : Thread Cert.InGatesReferenceIdeal.nD Cert.InGatesReferenceIdeal.τ).loc Cert.InGatesReferenceIdeal.main_arg2))

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v4) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1))

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v3) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2))

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v3) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def algebraic_GateUpDxIdeal_GateUpDxReferenceIdeal [hGateUpDxIdeal : Cert.GateUpDxIdeal.Facts] [hGateUpDxReferenceIdeal : Cert.GateUpDxReferenceIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg)
    (m' : (ℓ : Loc Cert.GateUpDxReferenceIdeal.nD Cert.GateUpDxReferenceIdeal.τ Cert.GateUpDxReferenceIdeal.sig) → Buf (Elt Ideal) ℓ) (g' : Dev Cert.GateUpDxReferenceIdeal.nD → PrngReg), Pre_GateUpDxIdeal m →
    (∀ c : Dev Cert.GateUpDxIdeal.nD,
      m' ((c.tc : Thread Cert.GateUpDxReferenceIdeal.nD Cert.GateUpDxReferenceIdeal.τ).loc Cert.GateUpDxReferenceIdeal.main_arg0) = m ((c.tc : Thread Cert.GateUpDxIdeal.nD Cert.GateUpDxIdeal.τ).loc Cert.GateUpDxIdeal.main_arg0)
      ∧ m' ((c.tc : Thread Cert.GateUpDxReferenceIdeal.nD Cert.GateUpDxReferenceIdeal.τ).loc Cert.GateUpDxReferenceIdeal.main_arg1) = m ((c.tc : Thread Cert.GateUpDxIdeal.nD Cert.GateUpDxIdeal.τ).loc Cert.GateUpDxIdeal.main_arg1)) →
    ∃ (v0 : (c : Dev Cert.GateUpDxIdeal.nD) → Buf (Elt Ideal) ((c.tc : Thread Cert.GateUpDxIdeal.nD Cert.GateUpDxIdeal.τ).loc Cert.GateUpDxIdeal.main_v0)),
      θ_run (Cert.GateUpDxIdeal.defs (F := Ideal)) (onTc (τ := Cert.GateUpDxIdeal.τ) (Cert.GateUpDxIdeal.main (F := Ideal))) ⟨m, fun _ => 0, g⟩ (fun r => ∀ c : Dev Cert.GateUpDxIdeal.nD,
          r.2.mem ((c.tc : Thread Cert.GateUpDxIdeal.nD Cert.GateUpDxIdeal.τ).loc Cert.GateUpDxIdeal.main_v0) = v0 c
          ∧ r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
          ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1))
      ∧ θ_run (Cert.GateUpDxReferenceIdeal.defs (F := Ideal)) (onTc (τ := Cert.GateUpDxReferenceIdeal.τ) (Cert.GateUpDxReferenceIdeal.main (F := Ideal))) ⟨m', fun _ => 0, g'⟩ (fun r => ∀ c : Dev Cert.GateUpDxReferenceIdeal.nD,
          r.2.mem ((c.tc : Thread Cert.GateUpDxReferenceIdeal.nD Cert.GateUpDxReferenceIdeal.τ).loc Cert.GateUpDxReferenceIdeal.main_v10) = v0 c
          ∧ r.2.mem ((c.tc : Thread Cert.GateUpDxReferenceIdeal.nD Cert.GateUpDxReferenceIdeal.τ).loc Cert.GateUpDxReferenceIdeal.main_arg0) = m' ((c.tc : Thread Cert.GateUpDxReferenceIdeal.nD Cert.GateUpDxReferenceIdeal.τ).loc Cert.GateUpDxReferenceIdeal.main_arg0)
          ∧ r.2.mem ((c.tc : Thread Cert.GateUpDxReferenceIdeal.nD Cert.GateUpDxReferenceIdeal.τ).loc Cert.GateUpDxReferenceIdeal.main_arg1) = m' ((c.tc : Thread Cert.GateUpDxReferenceIdeal.nD Cert.GateUpDxReferenceIdeal.τ).loc Cert.GateUpDxReferenceIdeal.main_arg1))

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v5) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def algebraic_SwigluDxIdeal_SwigluDxReferenceIdeal_pre_finite_products [hSwigluDxIdeal : Cert.SwigluDxIdeal.Facts] [hSwigluDxReferenceIdeal : Cert.SwigluDxReferenceIdeal.Facts] [hPre_finite_products : Cert.Pre_finite_products.Facts] : Prop :=
  ∀ (m : (ℓ : Loc Cert.SwigluDxIdeal.nD Cert.SwigluDxIdeal.τ Cert.SwigluDxIdeal.sig) → Buf (Elt Ideal) ℓ) (g : Dev Cert.SwigluDxIdeal.nD → PrngReg)
    (m' : (ℓ : Loc Cert.SwigluDxReferenceIdeal.nD Cert.SwigluDxReferenceIdeal.τ Cert.SwigluDxReferenceIdeal.sig) → Buf (Elt Ideal) ℓ) (g' : Dev Cert.SwigluDxReferenceIdeal.nD → PrngReg), Pre_SwigluDxIdeal_finite_products m →
    (∀ c : Dev Cert.SwigluDxIdeal.nD,
      m' ((c.tc : Thread Cert.SwigluDxReferenceIdeal.nD Cert.SwigluDxReferenceIdeal.τ).loc Cert.SwigluDxReferenceIdeal.main_arg0) = m ((c.tc : Thread Cert.SwigluDxIdeal.nD Cert.SwigluDxIdeal.τ).loc Cert.SwigluDxIdeal.main_arg0)
      ∧ m' ((c.tc : Thread Cert.SwigluDxReferenceIdeal.nD Cert.SwigluDxReferenceIdeal.τ).loc Cert.SwigluDxReferenceIdeal.main_arg1) = m ((c.tc : Thread Cert.SwigluDxIdeal.nD Cert.SwigluDxIdeal.τ).loc Cert.SwigluDxIdeal.main_arg1)
      ∧ m' ((c.tc : Thread Cert.SwigluDxReferenceIdeal.nD Cert.SwigluDxReferenceIdeal.τ).loc Cert.SwigluDxReferenceIdeal.main_arg2) = m ((c.tc : Thread Cert.SwigluDxIdeal.nD Cert.SwigluDxIdeal.τ).loc Cert.SwigluDxIdeal.main_arg2)
      ∧ m' ((c.tc : Thread Cert.SwigluDxReferenceIdeal.nD Cert.SwigluDxReferenceIdeal.τ).loc Cert.SwigluDxReferenceIdeal.main_arg3) = m ((c.tc : Thread Cert.SwigluDxIdeal.nD Cert.SwigluDxIdeal.τ).loc Cert.SwigluDxIdeal.main_arg3)) →
    ∃ (v0 : (c : Dev Cert.SwigluDxIdeal.nD) → Buf (Elt Ideal) ((c.tc : Thread Cert.SwigluDxIdeal.nD Cert.SwigluDxIdeal.τ).loc Cert.SwigluDxIdeal.main_v0)),
      θ_run (Cert.SwigluDxIdeal.defs (F := Ideal)) (onTc (τ := Cert.SwigluDxIdeal.τ) (Cert.SwigluDxIdeal.main (F := Ideal))) ⟨m, fun _ => 0, g⟩ (fun r => ∀ c : Dev Cert.SwigluDxIdeal.nD,
          r.2.mem ((c.tc : Thread Cert.SwigluDxIdeal.nD Cert.SwigluDxIdeal.τ).loc Cert.SwigluDxIdeal.main_v0) = v0 c
          ∧ r.2.mem ((c.tc : Thread Cert.SwigluDxIdeal.nD Cert.SwigluDxIdeal.τ).loc Cert.SwigluDxIdeal.main_arg0) = m ((c.tc : Thread Cert.SwigluDxIdeal.nD Cert.SwigluDxIdeal.τ).loc Cert.SwigluDxIdeal.main_arg0)
          ∧ r.2.mem ((c.tc : Thread Cert.SwigluDxIdeal.nD Cert.SwigluDxIdeal.τ).loc Cert.SwigluDxIdeal.main_arg1) = m ((c.tc : Thread Cert.SwigluDxIdeal.nD Cert.SwigluDxIdeal.τ).loc Cert.SwigluDxIdeal.main_arg1)
          ∧ r.2.mem ((c.tc : Thread Cert.SwigluDxIdeal.nD Cert.SwigluDxIdeal.τ).loc Cert.SwigluDxIdeal.main_arg2) = m ((c.tc : Thread Cert.SwigluDxIdeal.nD Cert.SwigluDxIdeal.τ).loc Cert.SwigluDxIdeal.main_arg2)
          ∧ r.2.mem ((c.tc : Thread Cert.SwigluDxIdeal.nD Cert.SwigluDxIdeal.τ).loc Cert.SwigluDxIdeal.main_arg3) = m ((c.tc : Thread Cert.SwigluDxIdeal.nD Cert.SwigluDxIdeal.τ).loc Cert.SwigluDxIdeal.main_arg3))
      ∧ θ_run (Cert.SwigluDxReferenceIdeal.defs (F := Ideal)) (onTc (τ := Cert.SwigluDxReferenceIdeal.τ) (Cert.SwigluDxReferenceIdeal.main (F := Ideal))) ⟨m', fun _ => 0, g'⟩ (fun r => ∀ c : Dev Cert.SwigluDxReferenceIdeal.nD,
          r.2.mem ((c.tc : Thread Cert.SwigluDxReferenceIdeal.nD Cert.SwigluDxReferenceIdeal.τ).loc Cert.SwigluDxReferenceIdeal.main_v14) = v0 c
          ∧ r.2.mem ((c.tc : Thread Cert.SwigluDxReferenceIdeal.nD Cert.SwigluDxReferenceIdeal.τ).loc Cert.SwigluDxReferenceIdeal.main_arg0) = m' ((c.tc : Thread Cert.SwigluDxReferenceIdeal.nD Cert.SwigluDxReferenceIdeal.τ).loc Cert.SwigluDxReferenceIdeal.main_arg0)
          ∧ r.2.mem ((c.tc : Thread Cert.SwigluDxReferenceIdeal.nD Cert.SwigluDxReferenceIdeal.τ).loc Cert.SwigluDxReferenceIdeal.main_arg1) = m' ((c.tc : Thread Cert.SwigluDxReferenceIdeal.nD Cert.SwigluDxReferenceIdeal.τ).loc Cert.SwigluDxReferenceIdeal.main_arg1)
          ∧ r.2.mem ((c.tc : Thread Cert.SwigluDxReferenceIdeal.nD Cert.SwigluDxReferenceIdeal.τ).loc Cert.SwigluDxReferenceIdeal.main_arg2) = m' ((c.tc : Thread Cert.SwigluDxReferenceIdeal.nD Cert.SwigluDxReferenceIdeal.τ).loc Cert.SwigluDxReferenceIdeal.main_arg2)
          ∧ r.2.mem ((c.tc : Thread Cert.SwigluDxReferenceIdeal.nD Cert.SwigluDxReferenceIdeal.τ).loc Cert.SwigluDxReferenceIdeal.main_arg3) = m' ((c.tc : Thread Cert.SwigluDxReferenceIdeal.nD Cert.SwigluDxReferenceIdeal.τ).loc Cert.SwigluDxReferenceIdeal.main_arg3))

def algebraic_AdamWideIdeal_AdamWideReferenceIdeal [hAdamWideIdeal : Cert.AdamWideIdeal.Facts] [hAdamWideReferenceIdeal : Cert.AdamWideReferenceIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg)
    (m' : (ℓ : Loc Cert.AdamWideReferenceIdeal.nD Cert.AdamWideReferenceIdeal.τ Cert.AdamWideReferenceIdeal.sig) → Buf (Elt Ideal) ℓ) (g' : Dev Cert.AdamWideReferenceIdeal.nD → PrngReg), Pre_AdamWideIdeal m →
    (∀ c : Dev Cert.AdamWideIdeal.nD,
      m' ((c.tc : Thread Cert.AdamWideReferenceIdeal.nD Cert.AdamWideReferenceIdeal.τ).loc Cert.AdamWideReferenceIdeal.main_arg0) = m ((c.tc : Thread Cert.AdamWideIdeal.nD Cert.AdamWideIdeal.τ).loc Cert.AdamWideIdeal.main_arg0)
      ∧ m' ((c.tc : Thread Cert.AdamWideReferenceIdeal.nD Cert.AdamWideReferenceIdeal.τ).loc Cert.AdamWideReferenceIdeal.main_arg1) = m ((c.tc : Thread Cert.AdamWideIdeal.nD Cert.AdamWideIdeal.τ).loc Cert.AdamWideIdeal.main_arg1)
      ∧ m' ((c.tc : Thread Cert.AdamWideReferenceIdeal.nD Cert.AdamWideReferenceIdeal.τ).loc Cert.AdamWideReferenceIdeal.main_arg2) = m ((c.tc : Thread Cert.AdamWideIdeal.nD Cert.AdamWideIdeal.τ).loc Cert.AdamWideIdeal.main_arg2)
      ∧ m' ((c.tc : Thread Cert.AdamWideReferenceIdeal.nD Cert.AdamWideReferenceIdeal.τ).loc Cert.AdamWideReferenceIdeal.main_arg3) = m ((c.tc : Thread Cert.AdamWideIdeal.nD Cert.AdamWideIdeal.τ).loc Cert.AdamWideIdeal.main_arg3)) →
    ∃ (v0 : (c : Dev Cert.AdamWideIdeal.nD) → Buf (Elt Ideal) ((c.tc : Thread Cert.AdamWideIdeal.nD Cert.AdamWideIdeal.τ).loc Cert.AdamWideIdeal.main_v0_0)) (v1 : (c : Dev Cert.AdamWideIdeal.nD) → Buf (Elt Ideal) ((c.tc : Thread Cert.AdamWideIdeal.nD Cert.AdamWideIdeal.τ).loc Cert.AdamWideIdeal.main_v0_1)) (v2 : (c : Dev Cert.AdamWideIdeal.nD) → Buf (Elt Ideal) ((c.tc : Thread Cert.AdamWideIdeal.nD Cert.AdamWideIdeal.τ).loc Cert.AdamWideIdeal.main_v0_2)),
      θ_run (Cert.AdamWideIdeal.defs (F := Ideal)) (onTc (τ := Cert.AdamWideIdeal.τ) (Cert.AdamWideIdeal.main (F := Ideal))) ⟨m, fun _ => 0, g⟩ (fun r => ∀ c : Dev Cert.AdamWideIdeal.nD,
          r.2.mem ((c.tc : Thread Cert.AdamWideIdeal.nD Cert.AdamWideIdeal.τ).loc Cert.AdamWideIdeal.main_v0_0) = v0 c
          ∧ r.2.mem ((c.tc : Thread Cert.AdamWideIdeal.nD Cert.AdamWideIdeal.τ).loc Cert.AdamWideIdeal.main_v0_1) = v1 c
          ∧ r.2.mem ((c.tc : Thread Cert.AdamWideIdeal.nD Cert.AdamWideIdeal.τ).loc Cert.AdamWideIdeal.main_v0_2) = v2 c
          ∧ r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
          ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
          ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
          ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3))
      ∧ θ_run (Cert.AdamWideReferenceIdeal.defs (F := Ideal)) (onTc (τ := Cert.AdamWideReferenceIdeal.τ) (Cert.AdamWideReferenceIdeal.main (F := Ideal))) ⟨m', fun _ => 0, g'⟩ (fun r => ∀ c : Dev Cert.AdamWideReferenceIdeal.nD,
          r.2.mem ((c.tc : Thread Cert.AdamWideReferenceIdeal.nD Cert.AdamWideReferenceIdeal.τ).loc Cert.AdamWideReferenceIdeal.main_v23) = v0 c
          ∧ r.2.mem ((c.tc : Thread Cert.AdamWideReferenceIdeal.nD Cert.AdamWideReferenceIdeal.τ).loc Cert.AdamWideReferenceIdeal.main_v4) = v1 c
          ∧ r.2.mem ((c.tc : Thread Cert.AdamWideReferenceIdeal.nD Cert.AdamWideReferenceIdeal.τ).loc Cert.AdamWideReferenceIdeal.main_v10) = v2 c
          ∧ r.2.mem ((c.tc : Thread Cert.AdamWideReferenceIdeal.nD Cert.AdamWideReferenceIdeal.τ).loc Cert.AdamWideReferenceIdeal.main_arg0) = m' ((c.tc : Thread Cert.AdamWideReferenceIdeal.nD Cert.AdamWideReferenceIdeal.τ).loc Cert.AdamWideReferenceIdeal.main_arg0)
          ∧ r.2.mem ((c.tc : Thread Cert.AdamWideReferenceIdeal.nD Cert.AdamWideReferenceIdeal.τ).loc Cert.AdamWideReferenceIdeal.main_arg1) = m' ((c.tc : Thread Cert.AdamWideReferenceIdeal.nD Cert.AdamWideReferenceIdeal.τ).loc Cert.AdamWideReferenceIdeal.main_arg1)
          ∧ r.2.mem ((c.tc : Thread Cert.AdamWideReferenceIdeal.nD Cert.AdamWideReferenceIdeal.τ).loc Cert.AdamWideReferenceIdeal.main_arg2) = m' ((c.tc : Thread Cert.AdamWideReferenceIdeal.nD Cert.AdamWideReferenceIdeal.τ).loc Cert.AdamWideReferenceIdeal.main_arg2)
          ∧ r.2.mem ((c.tc : Thread Cert.AdamWideReferenceIdeal.nD Cert.AdamWideReferenceIdeal.τ).loc Cert.AdamWideReferenceIdeal.main_arg3) = m' ((c.tc : Thread Cert.AdamWideReferenceIdeal.nD Cert.AdamWideReferenceIdeal.τ).loc Cert.AdamWideReferenceIdeal.main_arg3))

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def algebraic_SumAttnIdeal_SumAttnReferenceIdeal [hSumAttnIdeal : Cert.SumAttnIdeal.Facts] [hSumAttnReferenceIdeal : Cert.SumAttnReferenceIdeal.Facts] [hPre_chip_for_attn : Cert.Pre_chip_for_attn.Facts] : Prop :=
  ∀ (m : (ℓ : Loc Cert.SumAttnIdeal.nD Cert.SumAttnIdeal.τ Cert.SumAttnIdeal.sig) → Buf (Elt Ideal) ℓ) (g : Dev Cert.SumAttnIdeal.nD → PrngReg)
    (m' : (ℓ : Loc Cert.SumAttnReferenceIdeal.nD Cert.SumAttnReferenceIdeal.τ Cert.SumAttnReferenceIdeal.sig) → Buf (Elt Ideal) ℓ) (g' : Dev Cert.SumAttnReferenceIdeal.nD → PrngReg), Pre_SumAttnIdeal m →
    (∀ c : Dev Cert.SumAttnIdeal.nD,
      m' ((c.tc : Thread Cert.SumAttnReferenceIdeal.nD Cert.SumAttnReferenceIdeal.τ).loc Cert.SumAttnReferenceIdeal.main_arg0) = m ((c.tc : Thread Cert.SumAttnIdeal.nD Cert.SumAttnIdeal.τ).loc Cert.SumAttnIdeal.main_arg0)
      ∧ m' ((c.tc : Thread Cert.SumAttnReferenceIdeal.nD Cert.SumAttnReferenceIdeal.τ).loc Cert.SumAttnReferenceIdeal.main_arg1) = m ((c.tc : Thread Cert.SumAttnIdeal.nD Cert.SumAttnIdeal.τ).loc Cert.SumAttnIdeal.main_arg1)
      ∧ m' ((c.tc : Thread Cert.SumAttnReferenceIdeal.nD Cert.SumAttnReferenceIdeal.τ).loc Cert.SumAttnReferenceIdeal.main_arg2) = m ((c.tc : Thread Cert.SumAttnIdeal.nD Cert.SumAttnIdeal.τ).loc Cert.SumAttnIdeal.main_arg2)) →
    ∃ (v0 : (c : Dev Cert.SumAttnIdeal.nD) → Buf (Elt Ideal) ((c.tc : Thread Cert.SumAttnIdeal.nD Cert.SumAttnIdeal.τ).loc Cert.SumAttnIdeal.main_v0)),
      θ_run (Cert.SumAttnIdeal.defs (F := Ideal)) (onTc (τ := Cert.SumAttnIdeal.τ) (Cert.SumAttnIdeal.main (F := Ideal))) ⟨m, fun _ => 0, g⟩ (fun r => ∀ c : Dev Cert.SumAttnIdeal.nD,
          r.2.mem ((c.tc : Thread Cert.SumAttnIdeal.nD Cert.SumAttnIdeal.τ).loc Cert.SumAttnIdeal.main_v0) = v0 c
          ∧ r.2.mem ((c.tc : Thread Cert.SumAttnIdeal.nD Cert.SumAttnIdeal.τ).loc Cert.SumAttnIdeal.main_arg0) = m ((c.tc : Thread Cert.SumAttnIdeal.nD Cert.SumAttnIdeal.τ).loc Cert.SumAttnIdeal.main_arg0)
          ∧ r.2.mem ((c.tc : Thread Cert.SumAttnIdeal.nD Cert.SumAttnIdeal.τ).loc Cert.SumAttnIdeal.main_arg1) = m ((c.tc : Thread Cert.SumAttnIdeal.nD Cert.SumAttnIdeal.τ).loc Cert.SumAttnIdeal.main_arg1)
          ∧ r.2.mem ((c.tc : Thread Cert.SumAttnIdeal.nD Cert.SumAttnIdeal.τ).loc Cert.SumAttnIdeal.main_arg2) = m ((c.tc : Thread Cert.SumAttnIdeal.nD Cert.SumAttnIdeal.τ).loc Cert.SumAttnIdeal.main_arg2))
      ∧ θ_run (Cert.SumAttnReferenceIdeal.defs (F := Ideal)) (onTc (τ := Cert.SumAttnReferenceIdeal.τ) (Cert.SumAttnReferenceIdeal.main (F := Ideal))) ⟨m', fun _ => 0, g'⟩ (fun r => ∀ c : Dev Cert.SumAttnReferenceIdeal.nD,
          r.2.mem ((c.tc : Thread Cert.SumAttnReferenceIdeal.nD Cert.SumAttnReferenceIdeal.τ).loc Cert.SumAttnReferenceIdeal.main_v8) = v0 c
          ∧ r.2.mem ((c.tc : Thread Cert.SumAttnReferenceIdeal.nD Cert.SumAttnReferenceIdeal.τ).loc Cert.SumAttnReferenceIdeal.main_arg0) = m' ((c.tc : Thread Cert.SumAttnReferenceIdeal.nD Cert.SumAttnReferenceIdeal.τ).loc Cert.SumAttnReferenceIdeal.main_arg0)
          ∧ r.2.mem ((c.tc : Thread Cert.SumAttnReferenceIdeal.nD Cert.SumAttnReferenceIdeal.τ).loc Cert.SumAttnReferenceIdeal.main_arg1) = m' ((c.tc : Thread Cert.SumAttnReferenceIdeal.nD Cert.SumAttnReferenceIdeal.τ).loc Cert.SumAttnReferenceIdeal.main_arg1)
          ∧ r.2.mem ((c.tc : Thread Cert.SumAttnReferenceIdeal.nD Cert.SumAttnReferenceIdeal.τ).loc Cert.SumAttnReferenceIdeal.main_arg2) = m' ((c.tc : Thread Cert.SumAttnReferenceIdeal.nD Cert.SumAttnReferenceIdeal.τ).loc Cert.SumAttnReferenceIdeal.main_arg2))

def algebraic_StepDownIdeal_StepDownReferenceIdeal [hStepDownIdeal : Cert.StepDownIdeal.Facts] [hStepDownReferenceIdeal : Cert.StepDownReferenceIdeal.Facts] [hPre_chip_for_down : Cert.Pre_chip_for_down.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownReferenceIdeal.nD Cert.StepDownReferenceIdeal.τ Cert.StepDownReferenceIdeal.sig) → Buf (Elt Ideal) ℓ) (g' : Dev Cert.StepDownReferenceIdeal.nD → PrngReg), Pre_StepDownIdeal m →
    (∀ c : Dev Cert.StepDownIdeal.nD,
      m' ((c.tc : Thread Cert.StepDownReferenceIdeal.nD Cert.StepDownReferenceIdeal.τ).loc Cert.StepDownReferenceIdeal.main_arg0) = m ((c.tc : Thread Cert.StepDownIdeal.nD Cert.StepDownIdeal.τ).loc Cert.StepDownIdeal.main_arg0)
      ∧ m' ((c.tc : Thread Cert.StepDownReferenceIdeal.nD Cert.StepDownReferenceIdeal.τ).loc Cert.StepDownReferenceIdeal.main_arg1) = m ((c.tc : Thread Cert.StepDownIdeal.nD Cert.StepDownIdeal.τ).loc Cert.StepDownIdeal.main_arg1)
      ∧ m' ((c.tc : Thread Cert.StepDownReferenceIdeal.nD Cert.StepDownReferenceIdeal.τ).loc Cert.StepDownReferenceIdeal.main_arg2) = m ((c.tc : Thread Cert.StepDownIdeal.nD Cert.StepDownIdeal.τ).loc Cert.StepDownIdeal.main_arg2)
      ∧ m' ((c.tc : Thread Cert.StepDownReferenceIdeal.nD Cert.StepDownReferenceIdeal.τ).loc Cert.StepDownReferenceIdeal.main_arg3) = m ((c.tc : Thread Cert.StepDownIdeal.nD Cert.StepDownIdeal.τ).loc Cert.StepDownIdeal.main_arg3)
      ∧ m' ((c.tc : Thread Cert.StepDownReferenceIdeal.nD Cert.StepDownReferenceIdeal.τ).loc Cert.StepDownReferenceIdeal.main_arg4) = m ((c.tc : Thread Cert.StepDownIdeal.nD Cert.StepDownIdeal.τ).loc Cert.StepDownIdeal.main_arg4)
      ∧ m' ((c.tc : Thread Cert.StepDownReferenceIdeal.nD Cert.StepDownReferenceIdeal.τ).loc Cert.StepDownReferenceIdeal.main_arg5) = m ((c.tc : Thread Cert.StepDownIdeal.nD Cert.StepDownIdeal.τ).loc Cert.StepDownIdeal.main_arg5)) →
    ∃ (v0 : (c : Dev Cert.StepDownIdeal.nD) → Buf (Elt Ideal) ((c.tc : Thread Cert.StepDownIdeal.nD Cert.StepDownIdeal.τ).loc Cert.StepDownIdeal.main_v0_0)) (v1 : (c : Dev Cert.StepDownIdeal.nD) → Buf (Elt Ideal) ((c.tc : Thread Cert.StepDownIdeal.nD Cert.StepDownIdeal.τ).loc Cert.StepDownIdeal.main_v0_1)) (v2 : (c : Dev Cert.StepDownIdeal.nD) → Buf (Elt Ideal) ((c.tc : Thread Cert.StepDownIdeal.nD Cert.StepDownIdeal.τ).loc Cert.StepDownIdeal.main_v0_2)) (v3 : (c : Dev Cert.StepDownIdeal.nD) → Buf (Elt Ideal) ((c.tc : Thread Cert.StepDownIdeal.nD Cert.StepDownIdeal.τ).loc Cert.StepDownIdeal.main_v0_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v0_0) = v0 c
          ∧ r.2.mem ((c.tc : Thread Cert.StepDownIdeal.nD Cert.StepDownIdeal.τ).loc Cert.StepDownIdeal.main_v0_1) = v1 c
          ∧ r.2.mem ((c.tc : Thread Cert.StepDownIdeal.nD Cert.StepDownIdeal.τ).loc Cert.StepDownIdeal.main_v0_2) = v2 c
          ∧ r.2.mem ((c.tc : Thread Cert.StepDownIdeal.nD Cert.StepDownIdeal.τ).loc Cert.StepDownIdeal.main_v0_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
          ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4)
          ∧ r.2.mem ((c.tc : Thread Cert.StepDownIdeal.nD Cert.StepDownIdeal.τ).loc Cert.StepDownIdeal.main_arg5) = m ((c.tc : Thread Cert.StepDownIdeal.nD Cert.StepDownIdeal.τ).loc Cert.StepDownIdeal.main_arg5))
      ∧ θ_run (Cert.StepDownReferenceIdeal.defs (F := Ideal)) (onTc (τ := Cert.StepDownReferenceIdeal.τ) (Cert.StepDownReferenceIdeal.main (F := Ideal))) ⟨m', fun _ => 0, g'⟩ (fun r => ∀ c : Dev Cert.StepDownReferenceIdeal.nD,
          r.2.mem ((c.tc : Thread Cert.StepDownReferenceIdeal.nD Cert.StepDownReferenceIdeal.τ).loc Cert.StepDownReferenceIdeal.main_v8) = v0 c
          ∧ r.2.mem ((c.tc : Thread Cert.StepDownReferenceIdeal.nD Cert.StepDownReferenceIdeal.τ).loc Cert.StepDownReferenceIdeal.main_v32) = v1 c
          ∧ r.2.mem ((c.tc : Thread Cert.StepDownReferenceIdeal.nD Cert.StepDownReferenceIdeal.τ).loc Cert.StepDownReferenceIdeal.main_v13) = v2 c
          ∧ r.2.mem ((c.tc : Thread Cert.StepDownReferenceIdeal.nD Cert.StepDownReferenceIdeal.τ).loc Cert.StepDownReferenceIdeal.main_v19) = v3 c
          ∧ r.2.mem ((c.tc : Thread Cert.StepDownReferenceIdeal.nD Cert.StepDownReferenceIdeal.τ).loc Cert.StepDownReferenceIdeal.main_arg0) = m' ((c.tc : Thread Cert.StepDownReferenceIdeal.nD Cert.StepDownReferenceIdeal.τ).loc Cert.StepDownReferenceIdeal.main_arg0)
          ∧ r.2.mem ((c.tc : Thread Cert.StepDownReferenceIdeal.nD Cert.StepDownReferenceIdeal.τ).loc Cert.StepDownReferenceIdeal.main_arg1) = m' ((c.tc : Thread Cert.StepDownReferenceIdeal.nD Cert.StepDownReferenceIdeal.τ).loc Cert.StepDownReferenceIdeal.main_arg1)
          ∧ r.2.mem ((c.tc : Thread Cert.StepDownReferenceIdeal.nD Cert.StepDownReferenceIdeal.τ).loc Cert.StepDownReferenceIdeal.main_arg2) = m' ((c.tc : Thread Cert.StepDownReferenceIdeal.nD Cert.StepDownReferenceIdeal.τ).loc Cert.StepDownReferenceIdeal.main_arg2)
          ∧ r.2.mem ((c.tc : Thread Cert.StepDownReferenceIdeal.nD Cert.StepDownReferenceIdeal.τ).loc Cert.StepDownReferenceIdeal.main_arg3) = m' ((c.tc : Thread Cert.StepDownReferenceIdeal.nD Cert.StepDownReferenceIdeal.τ).loc Cert.StepDownReferenceIdeal.main_arg3)
          ∧ r.2.mem ((c.tc : Thread Cert.StepDownReferenceIdeal.nD Cert.StepDownReferenceIdeal.τ).loc Cert.StepDownReferenceIdeal.main_arg4) = m' ((c.tc : Thread Cert.StepDownReferenceIdeal.nD Cert.StepDownReferenceIdeal.τ).loc Cert.StepDownReferenceIdeal.main_arg4)
          ∧ r.2.mem ((c.tc : Thread Cert.StepDownReferenceIdeal.nD Cert.StepDownReferenceIdeal.τ).loc Cert.StepDownReferenceIdeal.main_arg5) = m' ((c.tc : Thread Cert.StepDownReferenceIdeal.nD Cert.StepDownReferenceIdeal.τ).loc Cert.StepDownReferenceIdeal.main_arg5))

def algebraic_StepGateUpIdeal_StepGateUpReferenceIdeal [hStepGateUpIdeal : Cert.StepGateUpIdeal.Facts] [hStepGateUpReferenceIdeal : Cert.StepGateUpReferenceIdeal.Facts] [hPre_chip_for_gate_up : Cert.Pre_chip_for_gate_up.Facts] : Prop :=
  ∀ (m : (ℓ : Loc Cert.StepGateUpIdeal.nD Cert.StepGateUpIdeal.τ Cert.StepGateUpIdeal.sig) → Buf (Elt Ideal) ℓ) (g : Dev Cert.StepGateUpIdeal.nD → PrngReg)
    (m' : (ℓ : Loc Cert.StepGateUpReferenceIdeal.nD Cert.StepGateUpReferenceIdeal.τ Cert.StepGateUpReferenceIdeal.sig) → Buf (Elt Ideal) ℓ) (g' : Dev Cert.StepGateUpReferenceIdeal.nD → PrngReg), Pre_StepGateUpIdeal m →
    (∀ c : Dev Cert.StepGateUpIdeal.nD,
      m' ((c.tc : Thread Cert.StepGateUpReferenceIdeal.nD Cert.StepGateUpReferenceIdeal.τ).loc Cert.StepGateUpReferenceIdeal.main_arg0) = m ((c.tc : Thread Cert.StepGateUpIdeal.nD Cert.StepGateUpIdeal.τ).loc Cert.StepGateUpIdeal.main_arg0)
      ∧ m' ((c.tc : Thread Cert.StepGateUpReferenceIdeal.nD Cert.StepGateUpReferenceIdeal.τ).loc Cert.StepGateUpReferenceIdeal.main_arg1) = m ((c.tc : Thread Cert.StepGateUpIdeal.nD Cert.StepGateUpIdeal.τ).loc Cert.StepGateUpIdeal.main_arg1)
      ∧ m' ((c.tc : Thread Cert.StepGateUpReferenceIdeal.nD Cert.StepGateUpReferenceIdeal.τ).loc Cert.StepGateUpReferenceIdeal.main_arg2) = m ((c.tc : Thread Cert.StepGateUpIdeal.nD Cert.StepGateUpIdeal.τ).loc Cert.StepGateUpIdeal.main_arg2)
      ∧ m' ((c.tc : Thread Cert.StepGateUpReferenceIdeal.nD Cert.StepGateUpReferenceIdeal.τ).loc Cert.StepGateUpReferenceIdeal.main_arg3) = m ((c.tc : Thread Cert.StepGateUpIdeal.nD Cert.StepGateUpIdeal.τ).loc Cert.StepGateUpIdeal.main_arg3)
      ∧ m' ((c.tc : Thread Cert.StepGateUpReferenceIdeal.nD Cert.StepGateUpReferenceIdeal.τ).loc Cert.StepGateUpReferenceIdeal.main_arg4) = m ((c.tc : Thread Cert.StepGateUpIdeal.nD Cert.StepGateUpIdeal.τ).loc Cert.StepGateUpIdeal.main_arg4)
      ∧ m' ((c.tc : Thread Cert.StepGateUpReferenceIdeal.nD Cert.StepGateUpReferenceIdeal.τ).loc Cert.StepGateUpReferenceIdeal.main_arg5) = m ((c.tc : Thread Cert.StepGateUpIdeal.nD Cert.StepGateUpIdeal.τ).loc Cert.StepGateUpIdeal.main_arg5)) →
    ∃ (v0 : (c : Dev Cert.StepGateUpIdeal.nD) → Buf (Elt Ideal) ((c.tc : Thread Cert.StepGateUpIdeal.nD Cert.StepGateUpIdeal.τ).loc Cert.StepGateUpIdeal.main_v0_0)) (v1 : (c : Dev Cert.StepGateUpIdeal.nD) → Buf (Elt Ideal) ((c.tc : Thread Cert.StepGateUpIdeal.nD Cert.StepGateUpIdeal.τ).loc Cert.StepGateUpIdeal.main_v0_1)) (v2 : (c : Dev Cert.StepGateUpIdeal.nD) → Buf (Elt Ideal) ((c.tc : Thread Cert.StepGateUpIdeal.nD Cert.StepGateUpIdeal.τ).loc Cert.StepGateUpIdeal.main_v0_2)) (v3 : (c : Dev Cert.StepGateUpIdeal.nD) → Buf (Elt Ideal) ((c.tc : Thread Cert.StepGateUpIdeal.nD Cert.StepGateUpIdeal.τ).loc Cert.StepGateUpIdeal.main_v0_3)),
      θ_run (Cert.StepGateUpIdeal.defs (F := Ideal)) (onTc (τ := Cert.StepGateUpIdeal.τ) (Cert.StepGateUpIdeal.main (F := Ideal))) ⟨m, fun _ => 0, g⟩ (fun r => ∀ c : Dev Cert.StepGateUpIdeal.nD,
          r.2.mem ((c.tc : Thread Cert.StepGateUpIdeal.nD Cert.StepGateUpIdeal.τ).loc Cert.StepGateUpIdeal.main_v0_0) = v0 c
          ∧ r.2.mem ((c.tc : Thread Cert.StepGateUpIdeal.nD Cert.StepGateUpIdeal.τ).loc Cert.StepGateUpIdeal.main_v0_1) = v1 c
          ∧ r.2.mem ((c.tc : Thread Cert.StepGateUpIdeal.nD Cert.StepGateUpIdeal.τ).loc Cert.StepGateUpIdeal.main_v0_2) = v2 c
          ∧ r.2.mem ((c.tc : Thread Cert.StepGateUpIdeal.nD Cert.StepGateUpIdeal.τ).loc Cert.StepGateUpIdeal.main_v0_3) = v3 c
          ∧ r.2.mem ((c.tc : Thread Cert.StepGateUpIdeal.nD Cert.StepGateUpIdeal.τ).loc Cert.StepGateUpIdeal.main_arg0) = m ((c.tc : Thread Cert.StepGateUpIdeal.nD Cert.StepGateUpIdeal.τ).loc Cert.StepGateUpIdeal.main_arg0)
          ∧ r.2.mem ((c.tc : Thread Cert.StepGateUpIdeal.nD Cert.StepGateUpIdeal.τ).loc Cert.StepGateUpIdeal.main_arg1) = m ((c.tc : Thread Cert.StepGateUpIdeal.nD Cert.StepGateUpIdeal.τ).loc Cert.StepGateUpIdeal.main_arg1)
          ∧ r.2.mem ((c.tc : Thread Cert.StepGateUpIdeal.nD Cert.StepGateUpIdeal.τ).loc Cert.StepGateUpIdeal.main_arg2) = m ((c.tc : Thread Cert.StepGateUpIdeal.nD Cert.StepGateUpIdeal.τ).loc Cert.StepGateUpIdeal.main_arg2)
          ∧ r.2.mem ((c.tc : Thread Cert.StepGateUpIdeal.nD Cert.StepGateUpIdeal.τ).loc Cert.StepGateUpIdeal.main_arg3) = m ((c.tc : Thread Cert.StepGateUpIdeal.nD Cert.StepGateUpIdeal.τ).loc Cert.StepGateUpIdeal.main_arg3)
          ∧ r.2.mem ((c.tc : Thread Cert.StepGateUpIdeal.nD Cert.StepGateUpIdeal.τ).loc Cert.StepGateUpIdeal.main_arg4) = m ((c.tc : Thread Cert.StepGateUpIdeal.nD Cert.StepGateUpIdeal.τ).loc Cert.StepGateUpIdeal.main_arg4)
          ∧ r.2.mem ((c.tc : Thread Cert.StepGateUpIdeal.nD Cert.StepGateUpIdeal.τ).loc Cert.StepGateUpIdeal.main_arg5) = m ((c.tc : Thread Cert.StepGateUpIdeal.nD Cert.StepGateUpIdeal.τ).loc Cert.StepGateUpIdeal.main_arg5))
      ∧ θ_run (Cert.StepGateUpReferenceIdeal.defs (F := Ideal)) (onTc (τ := Cert.StepGateUpReferenceIdeal.τ) (Cert.StepGateUpReferenceIdeal.main (F := Ideal))) ⟨m', fun _ => 0, g'⟩ (fun r => ∀ c : Dev Cert.StepGateUpReferenceIdeal.nD,
          r.2.mem ((c.tc : Thread Cert.StepGateUpReferenceIdeal.nD Cert.StepGateUpReferenceIdeal.τ).loc Cert.StepGateUpReferenceIdeal.main_v8) = v0 c
          ∧ r.2.mem ((c.tc : Thread Cert.StepGateUpReferenceIdeal.nD Cert.StepGateUpReferenceIdeal.τ).loc Cert.StepGateUpReferenceIdeal.main_v32) = v1 c
          ∧ r.2.mem ((c.tc : Thread Cert.StepGateUpReferenceIdeal.nD Cert.StepGateUpReferenceIdeal.τ).loc Cert.StepGateUpReferenceIdeal.main_v13) = v2 c
          ∧ r.2.mem ((c.tc : Thread Cert.StepGateUpReferenceIdeal.nD Cert.StepGateUpReferenceIdeal.τ).loc Cert.StepGateUpReferenceIdeal.main_v19) = v3 c
          ∧ r.2.mem ((c.tc : Thread Cert.StepGateUpReferenceIdeal.nD Cert.StepGateUpReferenceIdeal.τ).loc Cert.StepGateUpReferenceIdeal.main_arg0) = m' ((c.tc : Thread Cert.StepGateUpReferenceIdeal.nD Cert.StepGateUpReferenceIdeal.τ).loc Cert.StepGateUpReferenceIdeal.main_arg0)
          ∧ r.2.mem ((c.tc : Thread Cert.StepGateUpReferenceIdeal.nD Cert.StepGateUpReferenceIdeal.τ).loc Cert.StepGateUpReferenceIdeal.main_arg1) = m' ((c.tc : Thread Cert.StepGateUpReferenceIdeal.nD Cert.StepGateUpReferenceIdeal.τ).loc Cert.StepGateUpReferenceIdeal.main_arg1)
          ∧ r.2.mem ((c.tc : Thread Cert.StepGateUpReferenceIdeal.nD Cert.StepGateUpReferenceIdeal.τ).loc Cert.StepGateUpReferenceIdeal.main_arg2) = m' ((c.tc : Thread Cert.StepGateUpReferenceIdeal.nD Cert.StepGateUpReferenceIdeal.τ).loc Cert.StepGateUpReferenceIdeal.main_arg2)
          ∧ r.2.mem ((c.tc : Thread Cert.StepGateUpReferenceIdeal.nD Cert.StepGateUpReferenceIdeal.τ).loc Cert.StepGateUpReferenceIdeal.main_arg3) = m' ((c.tc : Thread Cert.StepGateUpReferenceIdeal.nD Cert.StepGateUpReferenceIdeal.τ).loc Cert.StepGateUpReferenceIdeal.main_arg3)
          ∧ r.2.mem ((c.tc : Thread Cert.StepGateUpReferenceIdeal.nD Cert.StepGateUpReferenceIdeal.τ).loc Cert.StepGateUpReferenceIdeal.main_arg4) = m' ((c.tc : Thread Cert.StepGateUpReferenceIdeal.nD Cert.StepGateUpReferenceIdeal.τ).loc Cert.StepGateUpReferenceIdeal.main_arg4)
          ∧ r.2.mem ((c.tc : Thread Cert.StepGateUpReferenceIdeal.nD Cert.StepGateUpReferenceIdeal.τ).loc Cert.StepGateUpReferenceIdeal.main_arg5) = m' ((c.tc : Thread Cert.StepGateUpReferenceIdeal.nD Cert.StepGateUpReferenceIdeal.τ).loc Cert.StepGateUpReferenceIdeal.main_arg5))

def algebraic_StepOutIdeal_StepOutReferenceIdeal [hStepOutIdeal : Cert.StepOutIdeal.Facts] [hStepOutReferenceIdeal : Cert.StepOutReferenceIdeal.Facts] [hPre_chip_for_out : Cert.Pre_chip_for_out.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutIdeal m →
    (∀ c : Dev Cert.StepOutIdeal.nD,
      m' ((c.tc : Thread Cert.StepOutReferenceIdeal.nD Cert.StepOutReferenceIdeal.τ).loc Cert.StepOutReferenceIdeal.main_arg0) = m ((c.tc : Thread Cert.StepOutIdeal.nD Cert.StepOutIdeal.τ).loc Cert.StepOutIdeal.main_arg0)
      ∧ m' ((c.tc : Thread Cert.StepOutReferenceIdeal.nD Cert.StepOutReferenceIdeal.τ).loc Cert.StepOutReferenceIdeal.main_arg1) = m ((c.tc : Thread Cert.StepOutIdeal.nD Cert.StepOutIdeal.τ).loc Cert.StepOutIdeal.main_arg1)
      ∧ m' ((c.tc : Thread Cert.StepOutReferenceIdeal.nD Cert.StepOutReferenceIdeal.τ).loc Cert.StepOutReferenceIdeal.main_arg2) = m ((c.tc : Thread Cert.StepOutIdeal.nD Cert.StepOutIdeal.τ).loc Cert.StepOutIdeal.main_arg2)
      ∧ m' ((c.tc : Thread Cert.StepOutReferenceIdeal.nD Cert.StepOutReferenceIdeal.τ).loc Cert.StepOutReferenceIdeal.main_arg3) = m ((c.tc : Thread Cert.StepOutIdeal.nD Cert.StepOutIdeal.τ).loc Cert.StepOutIdeal.main_arg3)
      ∧ m' ((c.tc : Thread Cert.StepOutReferenceIdeal.nD Cert.StepOutReferenceIdeal.τ).loc Cert.StepOutReferenceIdeal.main_arg4) = m ((c.tc : Thread Cert.StepOutIdeal.nD Cert.StepOutIdeal.τ).loc Cert.StepOutIdeal.main_arg4)
      ∧ m' ((c.tc : Thread Cert.StepOutReferenceIdeal.nD Cert.StepOutReferenceIdeal.τ).loc Cert.StepOutReferenceIdeal.main_arg5) = m ((c.tc : Thread Cert.StepOutIdeal.nD Cert.StepOutIdeal.τ).loc Cert.StepOutIdeal.main_arg5)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
          ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
          ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v8) = v0 c
          ∧ r.2.mem ((c.tc : Thread Cert.StepOutReferenceIdeal.nD Cert.StepOutReferenceIdeal.τ).loc Cert.StepOutReferenceIdeal.main_v32) = v1 c
          ∧ r.2.mem ((c.tc : Thread Cert.StepOutReferenceIdeal.nD Cert.StepOutReferenceIdeal.τ).loc Cert.StepOutReferenceIdeal.main_v13) = v2 c
          ∧ r.2.mem ((c.tc : Thread Cert.StepOutReferenceIdeal.nD Cert.StepOutReferenceIdeal.τ).loc Cert.StepOutReferenceIdeal.main_v19) = v3 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3)
          ∧ r.2.mem ((c.tc : Thread Cert.StepOutReferenceIdeal.nD Cert.StepOutReferenceIdeal.τ).loc Cert.StepOutReferenceIdeal.main_arg4) = m' ((c.tc : Thread Cert.StepOutReferenceIdeal.nD Cert.StepOutReferenceIdeal.τ).loc Cert.StepOutReferenceIdeal.main_arg4)
          ∧ r.2.mem ((c.tc : Thread Cert.StepOutReferenceIdeal.nD Cert.StepOutReferenceIdeal.τ).loc Cert.StepOutReferenceIdeal.main_arg5) = m' ((c.tc : Thread Cert.StepOutReferenceIdeal.nD Cert.StepOutReferenceIdeal.τ).loc Cert.StepOutReferenceIdeal.main_arg5))

def algebraic_StepInIdeal_StepInReferenceIdeal [hStepInIdeal : Cert.StepInIdeal.Facts] [hStepInReferenceIdeal : Cert.StepInReferenceIdeal.Facts] [hPre_chip_for_in : Cert.Pre_chip_for_in.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInReferenceIdeal.nD Cert.StepInReferenceIdeal.τ Cert.StepInReferenceIdeal.sig) → Buf (Elt Ideal) ℓ) (g' : Dev Cert.StepInReferenceIdeal.nD → PrngReg), Pre_StepInIdeal m →
    (∀ c : Dev Cert.StepInIdeal.nD,
      m' ((c.tc : Thread Cert.StepInReferenceIdeal.nD Cert.StepInReferenceIdeal.τ).loc Cert.StepInReferenceIdeal.main_arg0) = m ((c.tc : Thread Cert.StepInIdeal.nD Cert.StepInIdeal.τ).loc Cert.StepInIdeal.main_arg0)
      ∧ m' ((c.tc : Thread Cert.StepInReferenceIdeal.nD Cert.StepInReferenceIdeal.τ).loc Cert.StepInReferenceIdeal.main_arg1) = m ((c.tc : Thread Cert.StepInIdeal.nD Cert.StepInIdeal.τ).loc Cert.StepInIdeal.main_arg1)
      ∧ m' ((c.tc : Thread Cert.StepInReferenceIdeal.nD Cert.StepInReferenceIdeal.τ).loc Cert.StepInReferenceIdeal.main_arg2) = m ((c.tc : Thread Cert.StepInIdeal.nD Cert.StepInIdeal.τ).loc Cert.StepInIdeal.main_arg2)
      ∧ m' ((c.tc : Thread Cert.StepInReferenceIdeal.nD Cert.StepInReferenceIdeal.τ).loc Cert.StepInReferenceIdeal.main_arg3) = m ((c.tc : Thread Cert.StepInIdeal.nD Cert.StepInIdeal.τ).loc Cert.StepInIdeal.main_arg3)
      ∧ m' ((c.tc : Thread Cert.StepInReferenceIdeal.nD Cert.StepInReferenceIdeal.τ).loc Cert.StepInReferenceIdeal.main_arg4) = m ((c.tc : Thread Cert.StepInIdeal.nD Cert.StepInIdeal.τ).loc Cert.StepInIdeal.main_arg4)
      ∧ m' ((c.tc : Thread Cert.StepInReferenceIdeal.nD Cert.StepInReferenceIdeal.τ).loc Cert.StepInReferenceIdeal.main_arg5) = m ((c.tc : Thread Cert.StepInIdeal.nD Cert.StepInIdeal.τ).loc Cert.StepInIdeal.main_arg5)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
          ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
          ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ θ_run (Cert.StepInReferenceIdeal.defs (F := Ideal)) (onTc (τ := Cert.StepInReferenceIdeal.τ) (Cert.StepInReferenceIdeal.main (F := Ideal))) ⟨m', fun _ => 0, g'⟩ (fun r => ∀ c : Dev Cert.StepInReferenceIdeal.nD,
          r.2.mem ((c.tc : Thread Cert.StepInReferenceIdeal.nD Cert.StepInReferenceIdeal.τ).loc Cert.StepInReferenceIdeal.main_v8) = v0 c
          ∧ r.2.mem ((c.tc : Thread Cert.StepInReferenceIdeal.nD Cert.StepInReferenceIdeal.τ).loc Cert.StepInReferenceIdeal.main_v32) = v1 c
          ∧ r.2.mem ((c.tc : Thread Cert.StepInReferenceIdeal.nD Cert.StepInReferenceIdeal.τ).loc Cert.StepInReferenceIdeal.main_v13) = v2 c
          ∧ r.2.mem ((c.tc : Thread Cert.StepInReferenceIdeal.nD Cert.StepInReferenceIdeal.τ).loc Cert.StepInReferenceIdeal.main_v19) = v3 c
          ∧ r.2.mem ((c.tc : Thread Cert.StepInReferenceIdeal.nD Cert.StepInReferenceIdeal.τ).loc Cert.StepInReferenceIdeal.main_arg0) = m' ((c.tc : Thread Cert.StepInReferenceIdeal.nD Cert.StepInReferenceIdeal.τ).loc Cert.StepInReferenceIdeal.main_arg0)
          ∧ r.2.mem ((c.tc : Thread Cert.StepInReferenceIdeal.nD Cert.StepInReferenceIdeal.τ).loc Cert.StepInReferenceIdeal.main_arg1) = m' ((c.tc : Thread Cert.StepInReferenceIdeal.nD Cert.StepInReferenceIdeal.τ).loc Cert.StepInReferenceIdeal.main_arg1)
          ∧ r.2.mem ((c.tc : Thread Cert.StepInReferenceIdeal.nD Cert.StepInReferenceIdeal.τ).loc Cert.StepInReferenceIdeal.main_arg2) = m' ((c.tc : Thread Cert.StepInReferenceIdeal.nD Cert.StepInReferenceIdeal.τ).loc Cert.StepInReferenceIdeal.main_arg2)
          ∧ r.2.mem ((c.tc : Thread Cert.StepInReferenceIdeal.nD Cert.StepInReferenceIdeal.τ).loc Cert.StepInReferenceIdeal.main_arg3) = m' ((c.tc : Thread Cert.StepInReferenceIdeal.nD Cert.StepInReferenceIdeal.τ).loc Cert.StepInReferenceIdeal.main_arg3)
          ∧ r.2.mem ((c.tc : Thread Cert.StepInReferenceIdeal.nD Cert.StepInReferenceIdeal.τ).loc Cert.StepInReferenceIdeal.main_arg4) = m' ((c.tc : Thread Cert.StepInReferenceIdeal.nD Cert.StepInReferenceIdeal.τ).loc Cert.StepInReferenceIdeal.main_arg4)
          ∧ r.2.mem ((c.tc : Thread Cert.StepInReferenceIdeal.nD Cert.StepInReferenceIdeal.τ).loc Cert.StepInReferenceIdeal.main_arg5) = m' ((c.tc : Thread Cert.StepInReferenceIdeal.nD Cert.StepInReferenceIdeal.τ).loc Cert.StepInReferenceIdeal.main_arg5))

def algebraic_ConvGateIdeal_ConvGateReferenceIdeal [hConvGateIdeal : Cert.ConvGateIdeal.Facts] [hConvGateReferenceIdeal : Cert.ConvGateReferenceIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateReferenceIdeal.nD Cert.ConvGateReferenceIdeal.τ Cert.ConvGateReferenceIdeal.sig) → Buf (Elt Ideal) ℓ) (g' : Dev Cert.ConvGateReferenceIdeal.nD → PrngReg), Pre_ConvGateIdeal m →
    (∀ c : Dev Cert.ConvGateIdeal.nD,
      m' ((c.tc : Thread Cert.ConvGateReferenceIdeal.nD Cert.ConvGateReferenceIdeal.τ).loc Cert.ConvGateReferenceIdeal.main_arg0) = m ((c.tc : Thread Cert.ConvGateIdeal.nD Cert.ConvGateIdeal.τ).loc Cert.ConvGateIdeal.main_arg0)
      ∧ m' ((c.tc : Thread Cert.ConvGateReferenceIdeal.nD Cert.ConvGateReferenceIdeal.τ).loc Cert.ConvGateReferenceIdeal.main_arg1) = m ((c.tc : Thread Cert.ConvGateIdeal.nD Cert.ConvGateIdeal.τ).loc Cert.ConvGateIdeal.main_arg1)
      ∧ m' ((c.tc : Thread Cert.ConvGateReferenceIdeal.nD Cert.ConvGateReferenceIdeal.τ).loc Cert.ConvGateReferenceIdeal.main_arg2) = m ((c.tc : Thread Cert.ConvGateIdeal.nD Cert.ConvGateIdeal.τ).loc Cert.ConvGateIdeal.main_arg2)
      ∧ m' ((c.tc : Thread Cert.ConvGateReferenceIdeal.nD Cert.ConvGateReferenceIdeal.τ).loc Cert.ConvGateReferenceIdeal.main_arg3) = m ((c.tc : Thread Cert.ConvGateIdeal.nD Cert.ConvGateIdeal.τ).loc Cert.ConvGateIdeal.main_arg3)
      ∧ m' ((c.tc : Thread Cert.ConvGateReferenceIdeal.nD Cert.ConvGateReferenceIdeal.τ).loc Cert.ConvGateReferenceIdeal.main_arg4) = m ((c.tc : Thread Cert.ConvGateIdeal.nD Cert.ConvGateIdeal.τ).loc Cert.ConvGateIdeal.main_arg4)) →
    ∃ (v0 : (c : Dev Cert.ConvGateIdeal.nD) → Buf (Elt Ideal) ((c.tc : Thread Cert.ConvGateIdeal.nD Cert.ConvGateIdeal.τ).loc Cert.ConvGateIdeal.main_v0_0)) (v1 : (c : Dev Cert.ConvGateIdeal.nD) → Buf (Elt Ideal) ((c.tc : Thread Cert.ConvGateIdeal.nD Cert.ConvGateIdeal.τ).loc Cert.ConvGateIdeal.main_v0_1)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v0_0) = v0 c
          ∧ r.2.mem ((c.tc : Thread Cert.ConvGateIdeal.nD Cert.ConvGateIdeal.τ).loc Cert.ConvGateIdeal.main_v0_1) = v1 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
          ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3)
          ∧ r.2.mem ((c.tc : Thread Cert.ConvGateIdeal.nD Cert.ConvGateIdeal.τ).loc Cert.ConvGateIdeal.main_arg4) = m ((c.tc : Thread Cert.ConvGateIdeal.nD Cert.ConvGateIdeal.τ).loc Cert.ConvGateIdeal.main_arg4))
      ∧ θ_run (Cert.ConvGateReferenceIdeal.defs (F := Ideal)) (onTc (τ := Cert.ConvGateReferenceIdeal.τ) (Cert.ConvGateReferenceIdeal.main (F := Ideal))) ⟨m', fun _ => 0, g'⟩ (fun r => ∀ c : Dev Cert.ConvGateReferenceIdeal.nD,
          r.2.mem ((c.tc : Thread Cert.ConvGateReferenceIdeal.nD Cert.ConvGateReferenceIdeal.τ).loc Cert.ConvGateReferenceIdeal.main_v25) = v0 c
          ∧ r.2.mem ((c.tc : Thread Cert.ConvGateReferenceIdeal.nD Cert.ConvGateReferenceIdeal.τ).loc Cert.ConvGateReferenceIdeal.main_v26) = v1 c
          ∧ r.2.mem ((c.tc : Thread Cert.ConvGateReferenceIdeal.nD Cert.ConvGateReferenceIdeal.τ).loc Cert.ConvGateReferenceIdeal.main_arg0) = m' ((c.tc : Thread Cert.ConvGateReferenceIdeal.nD Cert.ConvGateReferenceIdeal.τ).loc Cert.ConvGateReferenceIdeal.main_arg0)
          ∧ r.2.mem ((c.tc : Thread Cert.ConvGateReferenceIdeal.nD Cert.ConvGateReferenceIdeal.τ).loc Cert.ConvGateReferenceIdeal.main_arg1) = m' ((c.tc : Thread Cert.ConvGateReferenceIdeal.nD Cert.ConvGateReferenceIdeal.τ).loc Cert.ConvGateReferenceIdeal.main_arg1)
          ∧ r.2.mem ((c.tc : Thread Cert.ConvGateReferenceIdeal.nD Cert.ConvGateReferenceIdeal.τ).loc Cert.ConvGateReferenceIdeal.main_arg2) = m' ((c.tc : Thread Cert.ConvGateReferenceIdeal.nD Cert.ConvGateReferenceIdeal.τ).loc Cert.ConvGateReferenceIdeal.main_arg2)
          ∧ r.2.mem ((c.tc : Thread Cert.ConvGateReferenceIdeal.nD Cert.ConvGateReferenceIdeal.τ).loc Cert.ConvGateReferenceIdeal.main_arg3) = m' ((c.tc : Thread Cert.ConvGateReferenceIdeal.nD Cert.ConvGateReferenceIdeal.τ).loc Cert.ConvGateReferenceIdeal.main_arg3)
          ∧ r.2.mem ((c.tc : Thread Cert.ConvGateReferenceIdeal.nD Cert.ConvGateReferenceIdeal.τ).loc Cert.ConvGateReferenceIdeal.main_arg4) = m' ((c.tc : Thread Cert.ConvGateReferenceIdeal.nD Cert.ConvGateReferenceIdeal.τ).loc Cert.ConvGateReferenceIdeal.main_arg4))

def algebraic_FfnNormIdeal_FfnNormReferenceIdeal [hFfnNormIdeal : Cert.FfnNormIdeal.Facts] [hFfnNormReferenceIdeal : Cert.FfnNormReferenceIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormReferenceIdeal.nD Cert.FfnNormReferenceIdeal.τ Cert.FfnNormReferenceIdeal.sig) → Buf (Elt Ideal) ℓ) (g' : Dev Cert.FfnNormReferenceIdeal.nD → PrngReg), Pre_FfnNormIdeal m →
    (∀ c : Dev Cert.FfnNormIdeal.nD,
      m' ((c.tc : Thread Cert.FfnNormReferenceIdeal.nD Cert.FfnNormReferenceIdeal.τ).loc Cert.FfnNormReferenceIdeal.main_arg0) = m ((c.tc : Thread Cert.FfnNormIdeal.nD Cert.FfnNormIdeal.τ).loc Cert.FfnNormIdeal.main_arg0)
      ∧ m' ((c.tc : Thread Cert.FfnNormReferenceIdeal.nD Cert.FfnNormReferenceIdeal.τ).loc Cert.FfnNormReferenceIdeal.main_arg1) = m ((c.tc : Thread Cert.FfnNormIdeal.nD Cert.FfnNormIdeal.τ).loc Cert.FfnNormIdeal.main_arg1)) →
    ∃ (v0 : (c : Dev Cert.FfnNormIdeal.nD) → Buf (Elt Ideal) ((c.tc : Thread Cert.FfnNormIdeal.nD Cert.FfnNormIdeal.τ).loc Cert.FfnNormIdeal.main_v0)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ θ_run (Cert.FfnNormReferenceIdeal.defs (F := Ideal)) (onTc (τ := Cert.FfnNormReferenceIdeal.τ) (Cert.FfnNormReferenceIdeal.main (F := Ideal))) ⟨m', fun _ => 0, g'⟩ (fun r => ∀ c : Dev Cert.FfnNormReferenceIdeal.nD,
          r.2.mem ((c.tc : Thread Cert.FfnNormReferenceIdeal.nD Cert.FfnNormReferenceIdeal.τ).loc Cert.FfnNormReferenceIdeal.main_v12) = v0 c
          ∧ r.2.mem ((c.tc : Thread Cert.FfnNormReferenceIdeal.nD Cert.FfnNormReferenceIdeal.τ).loc Cert.FfnNormReferenceIdeal.main_arg0) = m' ((c.tc : Thread Cert.FfnNormReferenceIdeal.nD Cert.FfnNormReferenceIdeal.τ).loc Cert.FfnNormReferenceIdeal.main_arg0)
          ∧ r.2.mem ((c.tc : Thread Cert.FfnNormReferenceIdeal.nD Cert.FfnNormReferenceIdeal.τ).loc Cert.FfnNormReferenceIdeal.main_arg1) = m' ((c.tc : Thread Cert.FfnNormReferenceIdeal.nD Cert.FfnNormReferenceIdeal.τ).loc Cert.FfnNormReferenceIdeal.main_arg1))

def Claim : Prop :=
  ∃ (hKernel : Cert.Kernel.Facts) (hKernelIdeal : Cert.KernelIdeal.Facts) (hReferenceIdeal : Cert.ReferenceIdeal.Facts) (hGateUpDw : Cert.GateUpDw.Facts) (hGateUpDwIdeal : Cert.GateUpDwIdeal.Facts) (hGateUpDwReferenceIdeal : Cert.GateUpDwReferenceIdeal.Facts) (hInDw : Cert.InDw.Facts) (hInDwIdeal : Cert.InDwIdeal.Facts) (hInDwReferenceIdeal : Cert.InDwReferenceIdeal.Facts) (hDownDw : Cert.DownDw.Facts) (hDownDwIdeal : Cert.DownDwIdeal.Facts) (hDownDwReferenceIdeal : Cert.DownDwReferenceIdeal.Facts) (hMixDw : Cert.MixDw.Facts) (hMixDwIdeal : Cert.MixDwIdeal.Facts) (hMixDwReferenceIdeal : Cert.MixDwReferenceIdeal.Facts) (hAttnDw : Cert.AttnDw.Facts) (hAttnDwIdeal : Cert.AttnDwIdeal.Facts) (hAttnDwReferenceIdeal : Cert.AttnDwReferenceIdeal.Facts) (hConvDw : Cert.ConvDw.Facts) (hConvDwIdeal : Cert.ConvDwIdeal.Facts) (hConvDwReferenceIdeal : Cert.ConvDwReferenceIdeal.Facts) (hMixDx : Cert.MixDx.Facts) (hMixDxIdeal : Cert.MixDxIdeal.Facts) (hMixDxReferenceIdeal : Cert.MixDxReferenceIdeal.Facts) (hAttnDx : Cert.AttnDx.Facts) (hAttnDxIdeal : Cert.AttnDxIdeal.Facts) (hAttnDxReferenceIdeal : Cert.AttnDxReferenceIdeal.Facts) (hConvDx : Cert.ConvDx.Facts) (hConvDxIdeal : Cert.ConvDxIdeal.Facts) (hConvDxReferenceIdeal : Cert.ConvDxReferenceIdeal.Facts) (hInQ : Cert.InQ.Facts) (hInQIdeal : Cert.InQIdeal.Facts) (hInQReferenceIdeal : Cert.InQReferenceIdeal.Facts) (hInKv : Cert.InKv.Facts) (hInKvIdeal : Cert.InKvIdeal.Facts) (hInKvReferenceIdeal : Cert.InKvReferenceIdeal.Facts) (hInConv : Cert.InConv.Facts) (hInConvIdeal : Cert.InConvIdeal.Facts) (hInConvReferenceIdeal : Cert.InConvReferenceIdeal.Facts) (hInGates : Cert.InGates.Facts) (hInGatesIdeal : Cert.InGatesIdeal.Facts) (hInGatesReferenceIdeal : Cert.InGatesReferenceIdeal.Facts) (hAttnOut : Cert.AttnOut.Facts) (hAttnOutIdeal : Cert.AttnOutIdeal.Facts) (hAttnOutReferenceIdeal : Cert.AttnOutReferenceIdeal.Facts) (hMixOut : Cert.MixOut.Facts) (hMixOutIdeal : Cert.MixOutIdeal.Facts) (hMixOutReferenceIdeal : Cert.MixOutReferenceIdeal.Facts) (hFfnDown : Cert.FfnDown.Facts) (hFfnDownIdeal : Cert.FfnDownIdeal.Facts) (hFfnDownReferenceIdeal : Cert.FfnDownReferenceIdeal.Facts) (hGateUpDx : Cert.GateUpDx.Facts) (hGateUpDxIdeal : Cert.GateUpDxIdeal.Facts) (hGateUpDxReferenceIdeal : Cert.GateUpDxReferenceIdeal.Facts) (hInDx : Cert.InDx.Facts) (hInDxIdeal : Cert.InDxIdeal.Facts) (hInDxReferenceIdeal : Cert.InDxReferenceIdeal.Facts) (hSwigluDx : Cert.SwigluDx.Facts) (hSwigluDxIdeal : Cert.SwigluDxIdeal.Facts) (hSwigluDxReferenceIdeal : Cert.SwigluDxReferenceIdeal.Facts) (hAdamWide : Cert.AdamWide.Facts) (hAdamWideIdeal : Cert.AdamWideIdeal.Facts) (hAdamWideReferenceIdeal : Cert.AdamWideReferenceIdeal.Facts) (hAdamSmall : Cert.AdamSmall.Facts) (hAdamSmallIdeal : Cert.AdamSmallIdeal.Facts) (hAdamSmallReferenceIdeal : Cert.AdamSmallReferenceIdeal.Facts) (hSumSmall : Cert.SumSmall.Facts) (hSumSmallIdeal : Cert.SumSmallIdeal.Facts) (hSumSmallReferenceIdeal : Cert.SumSmallReferenceIdeal.Facts) (hSumAttn : Cert.SumAttn.Facts) (hSumAttnIdeal : Cert.SumAttnIdeal.Facts) (hSumAttnReferenceIdeal : Cert.SumAttnReferenceIdeal.Facts) (hStepDown : Cert.StepDown.Facts) (hStepDownIdeal : Cert.StepDownIdeal.Facts) (hStepDownReferenceIdeal : Cert.StepDownReferenceIdeal.Facts) (hStepGateUp : Cert.StepGateUp.Facts) (hStepGateUpIdeal : Cert.StepGateUpIdeal.Facts) (hStepGateUpReferenceIdeal : Cert.StepGateUpReferenceIdeal.Facts) (hStepOut : Cert.StepOut.Facts) (hStepOutIdeal : Cert.StepOutIdeal.Facts) (hStepOutReferenceIdeal : Cert.StepOutReferenceIdeal.Facts) (hStepIn : Cert.StepIn.Facts) (hStepInIdeal : Cert.StepInIdeal.Facts) (hStepInReferenceIdeal : Cert.StepInReferenceIdeal.Facts) (hConvGate : Cert.ConvGate.Facts) (hConvGateIdeal : Cert.ConvGateIdeal.Facts) (hConvGateReferenceIdeal : Cert.ConvGateReferenceIdeal.Facts) (hFfnNorm : Cert.FfnNorm.Facts) (hFfnNormIdeal : Cert.FfnNormIdeal.Facts) (hFfnNormReferenceIdeal : Cert.FfnNormReferenceIdeal.Facts) (hPre_finite_scores : Cert.Pre_finite_scores.Facts) (hPre_finite_products : Cert.Pre_finite_products.Facts) (hPre_chip_for_attn : Cert.Pre_chip_for_attn.Facts) (hPre_chip_for_down : Cert.Pre_chip_for_down.Facts) (hPre_chip_for_gate_up : Cert.Pre_chip_for_gate_up.Facts) (hPre_chip_for_out : Cert.Pre_chip_for_out.Facts) (hPre_chip_for_in : Cert.Pre_chip_for_in.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_GateUpDw (hGateUpDw := hGateUpDw)
    ∧ quiescent_GateUpDwIdeal (hGateUpDwIdeal := hGateUpDwIdeal)
    ∧ quiescent_GateUpDwReferenceIdeal (hGateUpDwReferenceIdeal := hGateUpDwReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_MixDw (hMixDw := hMixDw)
    ∧ quiescent_MixDwIdeal (hMixDwIdeal := hMixDwIdeal)
    ∧ quiescent_MixDwReferenceIdeal (hMixDwReferenceIdeal := hMixDwReferenceIdeal)
    ∧ quiescent_AttnDw (hAttnDw := hAttnDw)
    ∧ quiescent_AttnDwIdeal (hAttnDwIdeal := hAttnDwIdeal)
    ∧ quiescent_AttnDwReferenceIdeal (hAttnDwReferenceIdeal := hAttnDwReferenceIdeal)
    ∧ quiescent_ConvDw (hConvDw := hConvDw)
    ∧ quiescent_ConvDwIdeal (hConvDwIdeal := hConvDwIdeal)
    ∧ quiescent_ConvDwReferenceIdeal (hConvDwReferenceIdeal := hConvDwReferenceIdeal)
    ∧ quiescent_MixDx (hMixDx := hMixDx)
    ∧ quiescent_MixDxIdeal (hMixDxIdeal := hMixDxIdeal)
    ∧ quiescent_MixDxReferenceIdeal (hMixDxReferenceIdeal := hMixDxReferenceIdeal)
    ∧ quiescent_AttnDx (hAttnDx := hAttnDx)
    ∧ quiescent_AttnDxIdeal (hAttnDxIdeal := hAttnDxIdeal)
    ∧ quiescent_AttnDxReferenceIdeal (hAttnDxReferenceIdeal := hAttnDxReferenceIdeal)
    ∧ quiescent_ConvDx (hConvDx := hConvDx)
    ∧ quiescent_ConvDxIdeal (hConvDxIdeal := hConvDxIdeal)
    ∧ quiescent_ConvDxReferenceIdeal (hConvDxReferenceIdeal := hConvDxReferenceIdeal)
    ∧ quiescent_InQ (hInQ := hInQ)
    ∧ quiescent_InQIdeal (hInQIdeal := hInQIdeal)
    ∧ quiescent_InQReferenceIdeal (hInQReferenceIdeal := hInQReferenceIdeal)
    ∧ quiescent_InKv (hInKv := hInKv)
    ∧ quiescent_InKvIdeal (hInKvIdeal := hInKvIdeal)
    ∧ quiescent_InKvReferenceIdeal (hInKvReferenceIdeal := hInKvReferenceIdeal)
    ∧ quiescent_InConv (hInConv := hInConv)
    ∧ quiescent_InConvIdeal (hInConvIdeal := hInConvIdeal)
    ∧ quiescent_InConvReferenceIdeal (hInConvReferenceIdeal := hInConvReferenceIdeal)
    ∧ quiescent_InGates (hInGates := hInGates)
    ∧ quiescent_InGatesIdeal (hInGatesIdeal := hInGatesIdeal)
    ∧ quiescent_InGatesReferenceIdeal (hInGatesReferenceIdeal := hInGatesReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_GateUpDx (hGateUpDx := hGateUpDx)
    ∧ quiescent_GateUpDxIdeal (hGateUpDxIdeal := hGateUpDxIdeal)
    ∧ quiescent_GateUpDxReferenceIdeal (hGateUpDxReferenceIdeal := hGateUpDxReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_SwigluDx (hSwigluDx := hSwigluDx)
    ∧ quiescent_SwigluDxIdeal (hSwigluDxIdeal := hSwigluDxIdeal)
    ∧ quiescent_SwigluDxIdeal_pre_finite_products (hSwigluDxIdeal := hSwigluDxIdeal) (hPre_finite_products := hPre_finite_products)
    ∧ quiescent_SwigluDxReferenceIdeal (hSwigluDxReferenceIdeal := hSwigluDxReferenceIdeal)
    ∧ quiescent_SwigluDxReferenceIdeal_pre_finite_products (hSwigluDxReferenceIdeal := hSwigluDxReferenceIdeal) (hPre_finite_products := hPre_finite_products)
    ∧ quiescent_AdamWide (hAdamWide := hAdamWide)
    ∧ quiescent_AdamWideIdeal (hAdamWideIdeal := hAdamWideIdeal)
    ∧ quiescent_AdamWideReferenceIdeal (hAdamWideReferenceIdeal := hAdamWideReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_SumAttn (hSumAttn := hSumAttn) (hPre_chip_for_attn := hPre_chip_for_attn)
    ∧ quiescent_SumAttnIdeal (hSumAttnIdeal := hSumAttnIdeal) (hPre_chip_for_attn := hPre_chip_for_attn)
    ∧ quiescent_SumAttnReferenceIdeal (hSumAttnReferenceIdeal := hSumAttnReferenceIdeal)
    ∧ quiescent_SumAttnReferenceIdeal_pre_chip_for_attn (hSumAttnReferenceIdeal := hSumAttnReferenceIdeal) (hPre_chip_for_attn := hPre_chip_for_attn)
    ∧ quiescent_StepDown (hStepDown := hStepDown) (hPre_chip_for_down := hPre_chip_for_down)
    ∧ quiescent_StepDownIdeal (hStepDownIdeal := hStepDownIdeal) (hPre_chip_for_down := hPre_chip_for_down)
    ∧ quiescent_StepDownReferenceIdeal (hStepDownReferenceIdeal := hStepDownReferenceIdeal)
    ∧ quiescent_StepDownReferenceIdeal_pre_chip_for_down (hStepDownReferenceIdeal := hStepDownReferenceIdeal) (hPre_chip_for_down := hPre_chip_for_down)
    ∧ quiescent_StepGateUp (hStepGateUp := hStepGateUp) (hPre_chip_for_gate_up := hPre_chip_for_gate_up)
    ∧ quiescent_StepGateUpIdeal (hStepGateUpIdeal := hStepGateUpIdeal) (hPre_chip_for_gate_up := hPre_chip_for_gate_up)
    ∧ quiescent_StepGateUpReferenceIdeal (hStepGateUpReferenceIdeal := hStepGateUpReferenceIdeal)
    ∧ quiescent_StepGateUpReferenceIdeal_pre_chip_for_gate_up (hStepGateUpReferenceIdeal := hStepGateUpReferenceIdeal) (hPre_chip_for_gate_up := hPre_chip_for_gate_up)
    ∧ quiescent_StepOut (hStepOut := hStepOut) (hPre_chip_for_out := hPre_chip_for_out)
    ∧ quiescent_StepOutIdeal (hStepOutIdeal := hStepOutIdeal) (hPre_chip_for_out := hPre_chip_for_out)
    ∧ quiescent_StepOutReferenceIdeal (hStepOutReferenceIdeal := hStepOutReferenceIdeal)
    ∧ quiescent_StepOutReferenceIdeal_pre_chip_for_out (hStepOutReferenceIdeal := hStepOutReferenceIdeal) (hPre_chip_for_out := hPre_chip_for_out)
    ∧ quiescent_StepIn (hStepIn := hStepIn) (hPre_chip_for_in := hPre_chip_for_in)
    ∧ quiescent_StepInIdeal (hStepInIdeal := hStepInIdeal) (hPre_chip_for_in := hPre_chip_for_in)
    ∧ quiescent_StepInReferenceIdeal (hStepInReferenceIdeal := hStepInReferenceIdeal)
    ∧ quiescent_StepInReferenceIdeal_pre_chip_for_in (hStepInReferenceIdeal := hStepInReferenceIdeal) (hPre_chip_for_in := hPre_chip_for_in)
    ∧ quiescent_ConvGate (hConvGate := hConvGate)
    ∧ quiescent_ConvGateIdeal (hConvGateIdeal := hConvGateIdeal)
    ∧ quiescent_ConvGateReferenceIdeal (hConvGateReferenceIdeal := hConvGateReferenceIdeal)
    ∧ quiescent_FfnNorm (hFfnNorm := hFfnNorm)
    ∧ quiescent_FfnNormIdeal (hFfnNormIdeal := hFfnNormIdeal)
    ∧ quiescent_FfnNormReferenceIdeal (hFfnNormReferenceIdeal := hFfnNormReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ algebraic_GateUpDwIdeal_GateUpDwReferenceIdeal (hGateUpDwIdeal := hGateUpDwIdeal) (hGateUpDwReferenceIdeal := hGateUpDwReferenceIdeal)
    ∧ algebraic_InDwIdeal_InDwReferenceIdeal (hInDwIdeal := hInDwIdeal) (hInDwReferenceIdeal := hInDwReferenceIdeal)
    ∧ algebraic_DownDwIdeal_DownDwReferenceIdeal (hDownDwIdeal := hDownDwIdeal) (hDownDwReferenceIdeal := hDownDwReferenceIdeal)
    ∧ algebraic_MixDwIdeal_MixDwReferenceIdeal (hMixDwIdeal := hMixDwIdeal) (hMixDwReferenceIdeal := hMixDwReferenceIdeal)
    ∧ algebraic_AttnDwIdeal_AttnDwReferenceIdeal (hAttnDwIdeal := hAttnDwIdeal) (hAttnDwReferenceIdeal := hAttnDwReferenceIdeal)
    ∧ algebraic_ConvDwIdeal_ConvDwReferenceIdeal (hConvDwIdeal := hConvDwIdeal) (hConvDwReferenceIdeal := hConvDwReferenceIdeal)
    ∧ algebraic_MixDxIdeal_MixDxReferenceIdeal (hMixDxIdeal := hMixDxIdeal) (hMixDxReferenceIdeal := hMixDxReferenceIdeal)
    ∧ algebraic_AttnDxIdeal_AttnDxReferenceIdeal (hAttnDxIdeal := hAttnDxIdeal) (hAttnDxReferenceIdeal := hAttnDxReferenceIdeal)
    ∧ algebraic_ConvDxIdeal_ConvDxReferenceIdeal (hConvDxIdeal := hConvDxIdeal) (hConvDxReferenceIdeal := hConvDxReferenceIdeal)
    ∧ algebraic_InQIdeal_InQReferenceIdeal (hInQIdeal := hInQIdeal) (hInQReferenceIdeal := hInQReferenceIdeal)
    ∧ algebraic_InKvIdeal_InKvReferenceIdeal (hInKvIdeal := hInKvIdeal) (hInKvReferenceIdeal := hInKvReferenceIdeal)
    ∧ algebraic_InConvIdeal_InConvReferenceIdeal (hInConvIdeal := hInConvIdeal) (hInConvReferenceIdeal := hInConvReferenceIdeal)
    ∧ algebraic_InGatesIdeal_InGatesReferenceIdeal (hInGatesIdeal := hInGatesIdeal) (hInGatesReferenceIdeal := hInGatesReferenceIdeal)
    ∧ algebraic_AttnOutIdeal_AttnOutReferenceIdeal (hAttnOutIdeal := hAttnOutIdeal) (hAttnOutReferenceIdeal := hAttnOutReferenceIdeal)
    ∧ algebraic_MixOutIdeal_MixOutReferenceIdeal (hMixOutIdeal := hMixOutIdeal) (hMixOutReferenceIdeal := hMixOutReferenceIdeal)
    ∧ algebraic_FfnDownIdeal_FfnDownReferenceIdeal (hFfnDownIdeal := hFfnDownIdeal) (hFfnDownReferenceIdeal := hFfnDownReferenceIdeal)
    ∧ algebraic_GateUpDxIdeal_GateUpDxReferenceIdeal (hGateUpDxIdeal := hGateUpDxIdeal) (hGateUpDxReferenceIdeal := hGateUpDxReferenceIdeal)
    ∧ algebraic_InDxIdeal_InDxReferenceIdeal (hInDxIdeal := hInDxIdeal) (hInDxReferenceIdeal := hInDxReferenceIdeal)
    ∧ algebraic_SwigluDxIdeal_SwigluDxReferenceIdeal_pre_finite_products (hSwigluDxIdeal := hSwigluDxIdeal) (hSwigluDxReferenceIdeal := hSwigluDxReferenceIdeal) (hPre_finite_products := hPre_finite_products)
    ∧ algebraic_AdamWideIdeal_AdamWideReferenceIdeal (hAdamWideIdeal := hAdamWideIdeal) (hAdamWideReferenceIdeal := hAdamWideReferenceIdeal)
    ∧ algebraic_AdamSmallIdeal_AdamSmallReferenceIdeal (hAdamSmallIdeal := hAdamSmallIdeal) (hAdamSmallReferenceIdeal := hAdamSmallReferenceIdeal)
    ∧ algebraic_SumSmallIdeal_SumSmallReferenceIdeal (hSumSmallIdeal := hSumSmallIdeal) (hSumSmallReferenceIdeal := hSumSmallReferenceIdeal)
    ∧ algebraic_SumAttnIdeal_SumAttnReferenceIdeal (hSumAttnIdeal := hSumAttnIdeal) (hSumAttnReferenceIdeal := hSumAttnReferenceIdeal) (hPre_chip_for_attn := hPre_chip_for_attn)
    ∧ algebraic_StepDownIdeal_StepDownReferenceIdeal (hStepDownIdeal := hStepDownIdeal) (hStepDownReferenceIdeal := hStepDownReferenceIdeal) (hPre_chip_for_down := hPre_chip_for_down)
    ∧ algebraic_StepGateUpIdeal_StepGateUpReferenceIdeal (hStepGateUpIdeal := hStepGateUpIdeal) (hStepGateUpReferenceIdeal := hStepGateUpReferenceIdeal) (hPre_chip_for_gate_up := hPre_chip_for_gate_up)
    ∧ algebraic_StepOutIdeal_StepOutReferenceIdeal (hStepOutIdeal := hStepOutIdeal) (hStepOutReferenceIdeal := hStepOutReferenceIdeal) (hPre_chip_for_out := hPre_chip_for_out)
    ∧ algebraic_StepInIdeal_StepInReferenceIdeal (hStepInIdeal := hStepInIdeal) (hStepInReferenceIdeal := hStepInReferenceIdeal) (hPre_chip_for_in := hPre_chip_for_in)
    ∧ algebraic_ConvGateIdeal_ConvGateReferenceIdeal (hConvGateIdeal := hConvGateIdeal) (hConvGateReferenceIdeal := hConvGateReferenceIdeal)
    ∧ algebraic_FfnNormIdeal_FfnNormReferenceIdeal (hFfnNormIdeal := hFfnNormIdeal) (hFfnNormReferenceIdeal := hFfnNormReferenceIdeal)
-- ==== Pre_chip_for_attn.lean ====
abbrev S1 : Shape := ⟨1, ![1]⟩
abbrev S4x512x2048 : Shape := ⟨3, ![4, 512, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x512x2048 .bf16) (main_arg2 : FVec F S4x512x2048 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_chip_for_down.lean ====
abbrev S1 : Shape := ⟨1, ![1]⟩
abbrev S4x1376x4096 : Shape := ⟨3, ![4, 1376, 4096]⟩
abbrev S1376x4096 : Shape := ⟨2, ![1376, 4096]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x1376x4096 .bf16) (main_arg2 : FVec F S4x1376x4096 .bf16) (main_arg3 : FVec F S1376x4096 .f32) (main_arg4 : FVec F S1376x4096 .f32) (main_arg5 : FVec F S1376x4096 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_chip_for_gate_up.lean ====
abbrev S1 : Shape := ⟨1, ![1]⟩
abbrev S4x2752x4096 : Shape := ⟨3, ![4, 2752, 4096]⟩
abbrev S2752x4096 : Shape := ⟨2, ![2752, 4096]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2752x4096 .bf16) (main_arg2 : FVec F S4x2752x4096 .bf16) (main_arg3 : FVec F S2752x4096 .f32) (main_arg4 : FVec F S2752x4096 .f32) (main_arg5 : FVec F S2752x4096 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_chip_for_in.lean ====
abbrev S1 : Shape := ⟨1, ![1]⟩
abbrev S4x1856x4096 : Shape := ⟨3, ![4, 1856, 4096]⟩
abbrev S1856x4096 : Shape := ⟨2, ![1856, 4096]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x1856x4096 .bf16) (main_arg2 : FVec F S4x1856x4096 .bf16) (main_arg3 : FVec F S1856x4096 .f32) (main_arg4 : FVec F S1856x4096 .f32) (main_arg5 : FVec F S1856x4096 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_chip_for_out.lean ====
abbrev S1 : Shape := ⟨1, ![1]⟩
abbrev S4x512x4096 : Shape := ⟨3, ![4, 512, 4096]⟩
abbrev S512x4096 : Shape := ⟨2, ![512, 4096]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x512x4096 .bf16) (main_arg2 : FVec F S4x512x4096 .bf16) (main_arg3 : FVec F S512x4096 .f32) (main_arg4 : FVec F S512x4096 .f32) (main_arg5 : FVec F S512x4096 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_finite_products.lean ====
abbrev S4224x4096 : Shape := ⟨2, ![4224, 4096]⟩
abbrev S11008x4096 : Shape := ⟨2, ![11008, 4096]⟩
abbrev S4224x11008 : Shape := ⟨2, ![4224, 11008]⟩
abbrev S_ : Shape := ⟨0, ![]⟩

class Facts : Prop where
  bitsLt_bf16_f32 : FTy.bits .bf16 < FTy.bits .f32
  bcast_S_S4224x4096 : S_.BroadcastsInDim S4224x4096 (![] : Fin 0 → Fin S4224x4096.rank)
  bcast_S_S11008x4096 : S_.BroadcastsInDim S11008x4096 (![] : Fin 0 → Fin S11008x4096.rank)
  bcast_S_S4224x11008 : S_.BroadcastsInDim S4224x11008 (![] : Fin 0 → Fin S4224x11008.rank)

variable [Facts]

def fn {F : FTy → Type} [FloatOps F] (main_arg0 : FVec F S4224x4096 .bf16) (main_arg1 : FVec F S11008x4096 .bf16) (main_arg2 : FVec F S4224x11008 .bf16) (main_arg3 : FVec F S4224x11008 .bf16) : IVec S4224x4096 1 × IVec S11008x4096 1 × IVec S4224x11008 1 :=
  let main_v0 : FVec F S4224x4096 .f32 := (extf .f32 · bitsLt_bf16_f32) main_arg0
  let main_cst : FVec F S_ .f32 := constant S_ .f32 0xFF800000#32
  let main_v1 : FVec F S4224x4096 .f32 := broadcastInDim S4224x4096 ![] bcast_S_S4224x4096 main_cst
  let main_v2 : IVec S4224x4096 1 := cmpf .ogt main_v0 main_v1
  let main_cst_0 : FVec F S_ .f32 := constant S_ .f32 0x7F800000#32
  let main_v3 : FVec F S4224x4096 .f32 := broadcastInDim S4224x4096 ![] bcast_S_S4224x4096 main_cst_0
  let main_v4 : IVec S4224x4096 1 := cmpf .olt main_v0 main_v3
  let main_v5 : IVec S4224x4096 1 := andi main_v2 main_v4
  let main_v6 : FVec F S11008x4096 .f32 := (extf .f32 · bitsLt_bf16_f32) main_arg1
  let main_cst_1 : FVec F S_ .f32 := constant S_ .f32 0xFF800000#32
  let main_v7 : FVec F S11008x4096 .f32 := broadcastInDim S11008x4096 ![] bcast_S_S11008x4096 main_cst_1
  let main_v8 : IVec S11008x4096 1 := cmpf .ogt main_v6 main_v7
  let main_cst_2 : FVec F S_ .f32 := constant S_ .f32 0x7F800000#32
  let main_v9 : FVec F S11008x4096 .f32 := broadcastInDim S11008x4096 ![] bcast_S_S11008x4096 main_cst_2
  let main_v10 : IVec S11008x4096 1 := cmpf .olt main_v6 main_v9
  let main_v11 : IVec S11008x4096 1 := andi main_v8 main_v10
  let main_v12 : FVec F S4224x11008 .f32 := (extf .f32 · bitsLt_bf16_f32) main_arg3
  let main_cst_3 : FVec F S_ .f32 := constant S_ .f32 0xFF800000#32
  let main_v13 : FVec F S4224x11008 .f32 := broadcastInDim S4224x11008 ![] bcast_S_S4224x11008 main_cst_3
  let main_v14 : IVec S4224x11008 1 := cmpf .ogt main_v12 main_v13
  let main_cst_4 : FVec F S_ .f32 := constant S_ .f32 0x7F800000#32
  let main_v15 : FVec F S4224x11008 .f32 := broadcastInDim S4224x11008 ![] bcast_S_S4224x11008 main_cst_4
  let main_v16 : IVec S4224x11008 1 := cmpf .olt main_v12 main_v15
  let main_v17 : IVec S4224x11008 1 := andi main_v14 main_v16
  (main_v5, main_v11, main_v17)
-- ==== Pre_finite_scores.lean ====
abbrev S4224x2048 : Shape := ⟨2, ![4224, 2048]⟩
abbrev S4x4352x64 : Shape := ⟨3, ![4, 4352, 64]⟩
abbrev S1x32 : Shape := ⟨2, ![1, 32]⟩
abbrev S_ : Shape := ⟨0, ![]⟩

class Facts : Prop where
  bitsLt_bf16_f32 : FTy.bits .bf16 < FTy.bits .f32
  bcast_S_S4224x2048 : S_.BroadcastsInDim S4224x2048 (![] : Fin 0 → Fin S4224x2048.rank)
  bcast_S_S4x4352x64 : S_.BroadcastsInDim S4x4352x64 (![] : Fin 0 → Fin S4x4352x64.rank)
  bcast_S_S1x32 : S_.BroadcastsInDim S1x32 (![] : Fin 0 → Fin S1x32.rank)

variable [Facts]

def fn {F : FTy → Type} [FloatOps F] (main_arg0 : FVec F S4224x2048 .bf16) (main_arg1 : FVec F S4x4352x64 .bf16) (main_arg2 : FVec F S4x4352x64 .bf16) (main_arg3 : FVec F S1x32 .f32) (main_arg4 : FVec F S4224x2048 .bf16) : IVec S4224x2048 1 × IVec S4x4352x64 1 × IVec S1x32 1 :=
  let main_v0 : FVec F S4224x2048 .f32 := (extf .f32 · bitsLt_bf16_f32) main_arg0
  let main_cst : FVec F S_ .f32 := constant S_ .f32 0xFF800000#32
  let main_v1 : FVec F S4224x2048 .f32 := broadcastInDim S4224x2048 ![] bcast_S_S4224x2048 main_cst
  let main_v2 : IVec S4224x2048 1 := cmpf .ogt main_v0 main_v1
  let main_cst_0 : FVec F S_ .f32 := constant S_ .f32 0x7F800000#32
  let main_v3 : FVec F S4224x2048 .f32 := broadcastInDim S4224x2048 ![] bcast_S_S4224x2048 main_cst_0
  let main_v4 : IVec S4224x2048 1 := cmpf .olt main_v0 main_v3
  let main_v5 : IVec S4224x2048 1 := andi main_v2 main_v4
  let main_v6 : FVec F S4x4352x64 .f32 := (extf .f32 · bitsLt_bf16_f32) main_arg1
  let main_cst_1 : FVec F S_ .f32 := constant S_ .f32 0xFF800000#32
  let main_v7 : FVec F S4x4352x64 .f32 := broadcastInDim S4x4352x64 ![] bcast_S_S4x4352x64 main_cst_1
  let main_v8 : IVec S4x4352x64 1 := cmpf .ogt main_v6 main_v7
  let main_cst_2 : FVec F S_ .f32 := constant S_ .f32 0x7F800000#32
  let main_v9 : FVec F S4x4352x64 .f32 := broadcastInDim S4x4352x64 ![] bcast_S_S4x4352x64 main_cst_2
  let main_v10 : IVec S4x4352x64 1 := cmpf .olt main_v6 main_v9
  let main_v11 : IVec S4x4352x64 1 := andi main_v8 main_v10
  let main_cst_3 : FVec F S_ .f32 := constant S_ .f32 0xFF800000#32
  let main_v12 : FVec F S1x32 .f32 := broadcastInDim S1x32 ![] bcast_S_S1x32 main_cst_3
  let main_v13 : IVec S1x32 1 := cmpf .ogt main_arg3 main_v12
  let main_cst_4 : FVec F S_ .f32 := constant S_ .f32 0x7F800000#32
  let main_v14 : FVec F S1x32 .f32 := broadcastInDim S1x32 ![] bcast_S_S1x32 main_cst_4
  let main_v15 : IVec S1x32 1 := cmpf .olt main_arg3 main_v14
  let main_v16 : IVec S1x32 1 := andi main_v13 main_v15
  (main_v5, main_v11, main_v16)
-- ==== Kernel.lean ====
abbrev S4224x2048 : Shape := ⟨2, ![4224, 2048]⟩
abbrev S4x4352x64 : Shape := ⟨3, ![4, 4352, 64]⟩
abbrev S1x32 : Shape := ⟨2, ![1, 32]⟩
abbrev S4x4224x64 : Shape := ⟨3, ![4, 4224, 64]⟩
abbrev S4x128x64 : Shape := ⟨3, ![4, 128, 64]⟩
abbrev S1x128 : Shape := ⟨2, ![1, 128]⟩
abbrev S128x2048 : Shape := ⟨2, ![128, 2048]⟩
abbrev S128x384 : Shape := ⟨2, ![128, 384]⟩
abbrev S1024x384 : Shape := ⟨2, ![1024, 384]⟩
abbrev S1x128x64 : Shape := ⟨3, ![1, 128, 64]⟩
abbrev S128x64 : Shape := ⟨2, ![128, 64]⟩
abbrev S384x64 : Shape := ⟨2, ![384, 64]⟩
abbrev S1024x64 : Shape := ⟨2, ![1024, 64]⟩
abbrev S1x1 : Shape := ⟨2, ![1, 1]⟩
abbrev S128x1 : Shape := ⟨2, ![128, 1]⟩
abbrev S1024x1 : Shape := ⟨2, ![1024, 1]⟩
abbrev S1024 : Shape := ⟨1, ![1024]⟩
abbrev S1 : Shape := ⟨1, ![1]⟩

abbrev nBuf : Space → Nat
  | .hbm => 11
  | .vmem => 26
  | .smem => 0
  | _ => 0

abbrev bufTy : (tb : Table) → Fin (tcTables nBuf tb) → BufTy
  | .hbm, ⟨0, _⟩ => ⟨S4224x2048, .bf16⟩
  | .hbm, ⟨1, _⟩ => ⟨S4x4352x64, .bf16⟩
  | .hbm, ⟨2, _⟩ => ⟨S4x4352x64, .bf16⟩
  | .hbm, ⟨3, _⟩ => ⟨S1x32, .f32⟩
  | .hbm, ⟨4, _⟩ => ⟨S4224x2048, .bf16⟩
  | .hbm, ⟨5, _⟩ => ⟨S4224x2048, .f32⟩
  | .hbm, ⟨6, _⟩ => ⟨S4x4224x64, .f32⟩
  | .hbm, ⟨7, _⟩ => ⟨S4x4224x64, .f32⟩
  | .hbm, ⟨8, _⟩ => ⟨S4x128x64, .f32⟩
  | .hbm, ⟨9, _⟩ => ⟨S4x128x64, .f32⟩
  | .hbm, ⟨10, _⟩ => ⟨S1x128, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S4x128x64, .bf16⟩
  | .local _ .vmem, ⟨5, _⟩ => ⟨S4x128x64, .bf16⟩
  | .local _ .vmem, ⟨6, _⟩ => ⟨S4x128x64, .bf16⟩
  | .local _ .vmem, ⟨7, _⟩ => ⟨S4x128x64, .bf16⟩
  | .local _ .vmem, ⟨8, _⟩ => ⟨S4x128x64, .bf16⟩
  | .local _ .vmem, ⟨9, _⟩ => ⟨S4x128x64, .bf16⟩
  | .local _ .vmem, ⟨10, _⟩ => ⟨S4x128x64, .bf16⟩
  | .local _ .vmem, ⟨11, _⟩ => ⟨S4x128x64, .bf16⟩
  | .local _ .vmem, ⟨12, _⟩ => ⟨S4x128x64, .bf16⟩
  | .local _ .vmem, ⟨13, _⟩ => ⟨S4x128x64, .bf16⟩
  | .local _ .vmem, ⟨14, _⟩ => ⟨S1x32, .f32⟩
  | .local _ .vmem, ⟨15, _⟩ => ⟨S128x2048, .f32⟩
  | .local _ .vmem, ⟨16, _⟩ => ⟨S128x2048, .f32⟩
  | .local _ .vmem, ⟨17, _⟩ => ⟨S4x128x64, .f32⟩
  | .local _ .vmem, ⟨18, _⟩ => ⟨S4x128x64, .f32⟩
  | .local _ .vmem, ⟨19, _⟩ => ⟨S4x128x64, .f32⟩
  | .local _ .vmem, ⟨20, _⟩ => ⟨S4x128x64, .f32⟩
  | .local _ .vmem, ⟨21, _⟩ => ⟨S4x128x64, .f32⟩
  | .local _ .vmem, ⟨22, _⟩ => ⟨S4x128x64, .f32⟩
  | .local _ .vmem, ⟨23, _⟩ => ⟨S1x128, .f32⟩
  | .local _ .vmem, ⟨24, _⟩ => ⟨S4x128x64, .f32⟩
  | .local _ .vmem, ⟨25, _⟩ => ⟨S4x128x64, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c33_i32 : BitVec 32 := 33#32
  let v3 : BitVec 1 := Scalar.cmpi .slt arg0 c33_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c33_i32_2 : BitVec 32 := 33#32
  let v6 : BitVec 1 := Scalar.cmpi .eq arg0 c33_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.minsi arg0 c32_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c32_i32 : BitVec 32 := 32#32
  let v0 : BitVec 32 := Scalar.minsi arg0 c32_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4224x2048 : Shape := ⟨2, ![4224, 2048]⟩
abbrev S4x4352x64 : Shape := ⟨3, ![4, 4352, 64]⟩
abbrev S1x32 : Shape := ⟨2, ![1, 32]⟩
abbrev S4112x2048 : Shape := ⟨2, ![4112, 2048]⟩
abbrev S4112x32x64 : Shape := ⟨3, ![4112, 32, 64]⟩
abbrev S4x4112x64 : Shape := ⟨3, ![4, 4112, 64]⟩
abbrev S4112x4x64 : Shape := ⟨3, ![4112, 4, 64]⟩
abbrev S16x4x64 : Shape := ⟨3, ![16, 4, 64]⟩
abbrev S_ : Shape := ⟨0, ![]⟩
abbrev S112x32x64 : Shape := ⟨3, ![112, 32, 64]⟩
abbrev S4224x32x64 : Shape := ⟨3, ![4224, 32, 64]⟩
abbrev S33x128x4x8x64 : Shape := ⟨5, ![33, 128, 4, 8, 64]⟩
abbrev S112x4x64 : Shape := ⟨3, ![112, 4, 64]⟩
abbrev S4224x4x64 : Shape := ⟨3, ![4224, 4, 64]⟩
abbrev S33x128x4x64 : Shape := ⟨4, ![33, 128, 4, 64]⟩
abbrev S1x128x4x64 : Shape := ⟨4, ![1, 128, 4, 64]⟩
abbrev S32x128x4x64 : Shape := ⟨4, ![32, 128, 4, 64]⟩
abbrev S33x256x4x64 : Shape := ⟨4, ![33, 256, 4, 64]⟩
abbrev S33x4x256x128x8 : Shape := ⟨5, ![33, 4, 256, 128, 8]⟩
abbrev S33x4x8x128x256 : Shape := ⟨5, ![33, 4, 8, 128, 256]⟩
abbrev S4x16x33x128x8 : Shape := ⟨5, ![4, 16, 33, 128, 8]⟩
abbrev S33x4x8x128x16 : Shape := ⟨5, ![33, 4, 8, 128, 16]⟩
abbrev S33 : Shape := ⟨1, ![33]⟩
abbrev S33x1 : Shape := ⟨2, ![33, 1]⟩
abbrev S128 : Shape := ⟨1, ![128]⟩
abbrev S1x128 : Shape := ⟨2, ![1, 128]⟩
abbrev S33x128 : Shape := ⟨2, ![33, 128]⟩
abbrev S256 : Shape := ⟨1, ![256]⟩
abbrev S1x256 : Shape := ⟨2, ![1, 256]⟩
abbrev S33x256 : Shape := ⟨2, ![33, 256]⟩
abbrev S33x128x1 : Shape := ⟨3, ![33, 128, 1]⟩
abbrev S33x1x256 : Shape := ⟨3, ![33, 1, 256]⟩
abbrev S33x128x256 : Shape := ⟨3, ![33, 128, 256]⟩
abbrev S16 : Shape := ⟨1, ![16]⟩
abbrev S1x1x16 : Shape := ⟨3, ![1, 1, 16]⟩
abbrev S33x128x16 : Shape := ⟨3, ![33, 128, 16]⟩
abbrev S33x1x1x128x256 : Shape := ⟨5, ![33, 1, 1, 128, 256]⟩
abbrev S33x1x1x128x16 : Shape := ⟨5, ![33, 1, 1, 128, 16]⟩
abbrev S4x8 : Shape := ⟨2, ![4, 8]⟩
abbrev S1x4x8x1x1 : Shape := ⟨5, ![1, 4, 8, 1, 1]⟩
abbrev S33x4x8x128x1 : Shape := ⟨5, ![33, 4, 8, 128, 1]⟩
abbrev S33x4x8x128x273 : Shape := ⟨5, ![33, 4, 8, 128, 273]⟩
abbrev S33x4x8x128 : Shape := ⟨4, ![33, 4, 8, 128]⟩
abbrev S33x4x64x8x128 : Shape := ⟨5, ![33, 4, 64, 8, 128]⟩
abbrev S4x64x33x8x128 : Shape := ⟨5, ![4, 64, 33, 8, 128]⟩
abbrev S4x33x8x128x16 : Shape := ⟨5, ![4, 33, 8, 128, 16]⟩
abbrev S4x64x16 : Shape := ⟨3, ![4, 64, 16]⟩
abbrev S33x4x64x256 : Shape := ⟨4, ![33, 4, 64, 256]⟩
abbrev S4x33x128x8x64 : Shape := ⟨5, ![4, 33, 128, 8, 64]⟩
abbrev S4x16x64 : Shape := ⟨3, ![4, 16, 64]⟩
abbrev S33x4x128x8x64 : Shape := ⟨5, ![33, 4, 128, 8, 64]⟩
abbrev S33x4x256x64 : Shape := ⟨4, ![33, 4, 256, 64]⟩
abbrev S4x4224x64 : Shape := ⟨3, ![4, 4224, 64]⟩
abbrev S4x128x64 : Shape := ⟨3, ![4, 128, 64]⟩

abbrev nBuf : Space → Nat
  | .hbm => 273
  | .vmem => 0
  | .smem => 0
  | _ => 0

abbrev hbmTy0_0 (i : Nat) : BufTy := match i % 128 with
  | 0 => ⟨S4224x2048, .bf16⟩
  | 1 => ⟨S4x4352x64, .bf16⟩
  | 2 => ⟨S4x4352x64, .bf16⟩
  | 3 => ⟨S1x32, .f32⟩
  | 4 => ⟨S4224x2048, .bf16⟩
  | 5 => ⟨S4112x2048, .bf16⟩
  | 6 => ⟨S4112x2048, .f32⟩
  | 7 => ⟨S4112x32x64, .f32⟩
  | 8 => ⟨S4x4112x64, .bf16⟩
  | 9 => ⟨S4x4112x64, .f32⟩
  | 10 => ⟨S4112x4x64, .f32⟩
  | 11 => ⟨S4x4112x64, .bf16⟩
  | 12 => ⟨S4x4112x64, .f32⟩
  | 13 => ⟨S4112x4x64, .f32⟩
  | 14 => ⟨S16x4x64, .f32⟩
  | 15 => ⟨S16x4x64, .f32⟩
  | 16 => ⟨S_, .f32⟩
  | 17 => ⟨S112x32x64, .f32⟩
  | 18 => ⟨S4224x32x64, .f32⟩
  | 19 => ⟨S_, .f32⟩
  | 20 => ⟨S112x32x64, .f32⟩
  | 21 => ⟨S33x128x4x8x64, .f32⟩
  | 22 => ⟨S_, .f32⟩
  | 23 => ⟨S112x4x64, .f32⟩
  | 24 => ⟨S4224x4x64, .f32⟩
  | 25 => ⟨S_, .f32⟩
  | 26 => ⟨S112x4x64, .f32⟩
  | 27 => ⟨S33x128x4x64, .f32⟩
  | 28 => ⟨S_, .f32⟩
  | 29 => ⟨S112x4x64, .f32⟩
  | 30 => ⟨S4224x4x64, .f32⟩
  | 31 => ⟨S_, .f32⟩
  | 32 => ⟨S112x4x64, .f32⟩
  | 33 => ⟨S33x128x4x64, .f32⟩
  | 34 => ⟨S1x128x4x64, .f32⟩
  | 35 => ⟨S_, .f32⟩
  | 36 => ⟨S1x128x4x64, .f32⟩
  | 37 => ⟨S32x128x4x64, .f32⟩
  | 38 => ⟨S33x128x4x64, .f32⟩
  | 39 => ⟨S_, .f32⟩
  | 40 => ⟨S1x128x4x64, .f32⟩
  | 41 => ⟨S1x128x4x64, .f32⟩
  | 42 => ⟨S_, .f32⟩
  | 43 => ⟨S1x128x4x64, .f32⟩
  | 44 => ⟨S32x128x4x64, .f32⟩
  | 45 => ⟨S33x128x4x64, .f32⟩
  | 46 => ⟨S_, .f32⟩
  | 47 => ⟨S1x128x4x64, .f32⟩
  | 48 => ⟨S33x256x4x64, .f32⟩
  | 49 => ⟨S33x256x4x64, .f32⟩
  | 50 => ⟨S33x4x256x128x8, .f32⟩
  | 51 => ⟨S33x4x8x128x256, .f32⟩
  | 52 => ⟨S4x16x33x128x8, .f32⟩
  | 53 => ⟨S33x4x8x128x16, .f32⟩
  | 54 => ⟨S33, .i32⟩
  | 55 => ⟨S33x1, .i32⟩
  | 56 => ⟨S_, .i32⟩
  | 57 => ⟨S33x1, .i32⟩
  | 58 => ⟨S33x1, .i32⟩
  | 59 => ⟨S128, .i32⟩
  | 60 => ⟨S1x128, .i32⟩
  | 61 => ⟨S33x128, .i32⟩
  | 62 => ⟨S33x128, .i32⟩
  | 63 => ⟨S33x128, .i32⟩
  | 64 => ⟨S_, .i32⟩
  | 65 => ⟨S33x128, .i32⟩
  | 66 => ⟨S33x128, .i32⟩
  | 67 => ⟨S_, .i32⟩
  | 68 => ⟨S33x1, .i32⟩
  | 69 => ⟨S33x1, .i32⟩
  | 70 => ⟨S_, .i32⟩
  | 71 => ⟨S33x1, .i32⟩
  | 72 => ⟨S33x1, .i32⟩
  | 73 => ⟨S256, .i32⟩
  | 74 => ⟨S1x256, .i32⟩
  | 75 => ⟨S33x256, .i32⟩
  | 76 => ⟨S33x256, .i32⟩
  | 77 => ⟨S33x256, .i32⟩
  | 78 => ⟨S_, .i32⟩
  | 79 => ⟨S33x256, .i32⟩
  | 80 => ⟨S33x256, .i32⟩
  | 81 => ⟨S33x128x1, .i32⟩
  | 82 => ⟨S33x1x256, .i32⟩
  | 83 => ⟨S_, .i32⟩
  | 84 => ⟨S33x1x256, .i32⟩
  | 85 => ⟨S33x1x256, .i1⟩
  | 86 => ⟨S33x128x256, .i32⟩
  | 87 => ⟨S33x128x256, .i32⟩
  | 88 => ⟨S33x128x256, .i1⟩
  | 89 => ⟨S33x128x256, .i1⟩
  | 90 => ⟨S33x128x256, .i1⟩
  | 91 => ⟨S33x128x256, .i32⟩
  | 92 => ⟨S33x128x256, .i32⟩
  | 93 => ⟨S33x128x256, .i32⟩
  | 94 => ⟨S_, .i32⟩
  | 95 => ⟨S33x128x256, .i32⟩
  | 96 => ⟨S33x128x256, .i1⟩
  | 97 => ⟨S33x128x256, .i1⟩
  | 98 => ⟨S16, .i32⟩
  | 99 => ⟨S1x1x16, .i32⟩
  | 100 => ⟨S33x128x16, .i32⟩
  | 101 => ⟨S33x128x16, .i32⟩
  | 102 => ⟨S33x128x16, .i1⟩
  | 103 => ⟨S33x1x1x128x256, .i1⟩
  | 104 => ⟨S_, .f32⟩
  | 105 => ⟨S33x4x8x128x256, .i1⟩
  | 106 => ⟨S33x4x8x128x256, .f32⟩
  | 107 => ⟨S33x4x8x128x256, .f32⟩
  | 108 => ⟨S_, .f32⟩
  | 109 => ⟨S33x4x8x128x256, .f32⟩
  | 110 => ⟨S33x1x1x128x16, .i1⟩
  | 111 => ⟨S_, .f32⟩
  | 112 => ⟨S33x4x8x128x16, .i1⟩
  | 113 => ⟨S33x4x8x128x16, .f32⟩
  | 114 => ⟨S33x4x8x128x16, .f32⟩
  | 115 => ⟨S_, .f32⟩
  | 116 => ⟨S33x4x8x128x16, .f32⟩
  | 117 => ⟨S4x8, .f32⟩
  | 118 => ⟨S1x4x8x1x1, .f32⟩
  | 119 => ⟨S33x4x8x128x1, .f32⟩
  | 120 => ⟨S33x4x8x128x273, .f32⟩
  | 121 => ⟨S_, .f32⟩
  | 122 => ⟨S33x4x8x128, .f32⟩
  | 123 => ⟨S33x4x8x128x1, .f32⟩
  | 124 => ⟨S33x4x8x128x273, .f32⟩
  | 125 => ⟨S33x4x8x128x273, .i1⟩
  | 126 => ⟨S33x4x8x128x273, .f32⟩
  | 127 => ⟨S_, .f32⟩
  | _ => ⟨S4224x2048, .bf16⟩

abbrev hbmTy0_1 (i : Nat) : BufTy := match i % 128 with
  | 0 => ⟨S33x4x8x128, .f32⟩
  | 1 => ⟨S_, .f32⟩
  | 2 => ⟨S33x4x8x128, .f32⟩
  | 3 => ⟨S33x4x8x128, .f32⟩
  | 4 => ⟨S_, .f32⟩
  | 5 => ⟨S33x4x8x128, .f32⟩
  | 6 => ⟨S33x4x8x128, .i1⟩
  | 7 => ⟨S_, .f32⟩
  | 8 => ⟨S33x4x8x128, .f32⟩
  | 9 => ⟨S33x4x8x128, .i1⟩
  | 10 => ⟨S_, .f32⟩
  | 11 => ⟨S33x4x8x128, .f32⟩
  | 12 => ⟨S_, .f32⟩
  | 13 => ⟨S33x4x8x128, .f32⟩
  | 14 => ⟨S_, .f32⟩
  | 15 => ⟨S33x4x8x128, .f32⟩
  | 16 => ⟨S33x4x8x128, .f32⟩
  | 17 => ⟨S33x4x8x128, .f32⟩
  | 18 => ⟨S33x4x8x128x1, .f32⟩
  | 19 => ⟨S33x4x8x128x273, .f32⟩
  | 20 => ⟨S33x4x8x128x273, .f32⟩
  | 21 => ⟨S33x4x8x128x273, .f32⟩
  | 22 => ⟨S_, .f32⟩
  | 23 => ⟨S33x4x8x128, .f32⟩
  | 24 => ⟨S33x4x8x128x1, .f32⟩
  | 25 => ⟨S33x4x8x128x273, .f32⟩
  | 26 => ⟨S33x4x8x128x273, .f32⟩
  | 27 => ⟨S33x4x8x128x1, .f32⟩
  | 28 => ⟨S_, .f32⟩
  | 29 => ⟨S33x4x8x128x1, .f32⟩
  | 30 => ⟨S33x4x8x128x1, .f32⟩
  | 31 => ⟨S33x4x8x128x256, .f32⟩
  | 32 => ⟨S33x4x8x128x16, .f32⟩
  | 33 => ⟨S33x4x64x8x128, .f32⟩
  | 34 => ⟨S33x128x4x8x64, .f32⟩
  | 35 => ⟨S4x64x33x8x128, .f32⟩
  | 36 => ⟨S33x128x4x8x64, .f32⟩
  | 37 => ⟨S33x128x4x8x64, .f32⟩
  | 38 => ⟨S4224x2048, .f32⟩
  | 39 => ⟨S4112x2048, .f32⟩
  | 40 => ⟨S4112x2048, .bf16⟩
  | 41 => ⟨S4112x2048, .f32⟩
  | 42 => ⟨S_, .f32⟩
  | 43 => ⟨S4224x2048, .f32⟩
  | 44 => ⟨S33x128x4x8x64, .f32⟩
  | 45 => ⟨S4x64x33x8x128, .f32⟩
  | 46 => ⟨S4x33x8x128x16, .f32⟩
  | 47 => ⟨S33x4x8x128x16, .f32⟩
  | 48 => ⟨S4x64x16, .f32⟩
  | 49 => ⟨S16x4x64, .f32⟩
  | 50 => ⟨S33x4x64x8x128, .f32⟩
  | 51 => ⟨S33x4x8x128x256, .f32⟩
  | 52 => ⟨S33x4x64x256, .f32⟩
  | 53 => ⟨S33x256x4x64, .f32⟩
  | 54 => ⟨S_, .f32⟩
  | 55 => ⟨S33x4x8x128x273, .f32⟩
  | 56 => ⟨S_, .f32⟩
  | 57 => ⟨S33x4x8x128x273, .f32⟩
  | 58 => ⟨S33x4x8x128x273, .f32⟩
  | 59 => ⟨S33x4x8x128x273, .f32⟩
  | 60 => ⟨S33x4x8x128x273, .f32⟩
  | 61 => ⟨S33x4x8x128x273, .f32⟩
  | 62 => ⟨S_, .f32⟩
  | 63 => ⟨S33x4x8x128, .f32⟩
  | 64 => ⟨S33x4x8x128x1, .f32⟩
  | 65 => ⟨S33x4x8x128x1, .f32⟩
  | 66 => ⟨S33x4x8x128x273, .f32⟩
  | 67 => ⟨S33x4x8x128x273, .f32⟩
  | 68 => ⟨S_, .f32⟩
  | 69 => ⟨S33x4x8x128, .f32⟩
  | 70 => ⟨S33x4x8x128x273, .f32⟩
  | 71 => ⟨S33x4x8x128x273, .f32⟩
  | 72 => ⟨S33x4x8x128x273, .f32⟩
  | 73 => ⟨S33x4x8x128x256, .f32⟩
  | 74 => ⟨S33x4x8x128x16, .f32⟩
  | 75 => ⟨S33x4x8x128x1, .f32⟩
  | 76 => ⟨S_, .f32⟩
  | 77 => ⟨S4x8, .f32⟩
  | 78 => ⟨S1x4x8x1x1, .f32⟩
  | 79 => ⟨S_, .f32⟩
  | 80 => ⟨S4x8, .f32⟩
  | 81 => ⟨S1x32, .f32⟩
  | 82 => ⟨S_, .f32⟩
  | 83 => ⟨S33x4x8x128x16, .f32⟩
  | 84 => ⟨S33x4x8x128x16, .f32⟩
  | 85 => ⟨S_, .f32⟩
  | 86 => ⟨S33x4x8x128x256, .f32⟩
  | 87 => ⟨S33x4x8x128x256, .f32⟩
  | 88 => ⟨S4x16x33x128x8, .f32⟩
  | 89 => ⟨S4x33x128x8x64, .f32⟩
  | 90 => ⟨S33x128x4x8x64, .f32⟩
  | 91 => ⟨S4x16x64, .f32⟩
  | 92 => ⟨S16x4x64, .f32⟩
  | 93 => ⟨S33x4x256x128x8, .f32⟩
  | 94 => ⟨S33x4x128x8x64, .f32⟩
  | 95 => ⟨S33x128x4x8x64, .f32⟩
  | 96 => ⟨S33x128x4x8x64, .f32⟩
  | 97 => ⟨S33x4x256x64, .f32⟩
  | 98 => ⟨S33x256x4x64, .f32⟩
  | 99 => ⟨S33x128x4x64, .f32⟩
  | 100 => ⟨S33x128x4x64, .f32⟩
  | 101 => ⟨S33x128x4x64, .f32⟩
  | 102 => ⟨S33x128x4x64, .f32⟩
  | 103 => ⟨S1x128x4x64, .f32⟩
  | 104 => ⟨S32x128x4x64, .f32⟩
  | 105 => ⟨S_, .f32⟩
  | 106 => ⟨S33x128x4x64, .f32⟩
  | 107 => ⟨S33x128x4x64, .f32⟩
  | 108 => ⟨S1x128x4x64, .f32⟩
  | 109 => ⟨S32x128x4x64, .f32⟩
  | 110 => ⟨S_, .f32⟩
  | 111 => ⟨S33x128x4x64, .f32⟩
  | 112 => ⟨S33x128x4x64, .f32⟩
  | 113 => ⟨S4224x4x64, .f32⟩
  | 114 => ⟨S112x4x64, .f32⟩
  | 115 => ⟨S4112x4x64, .f32⟩
  | 116 => ⟨S4224x4x64, .f32⟩
  | 117 => ⟨S112x4x64, .f32⟩
  | 118 => ⟨S4112x4x64, .f32⟩
  | 119 => ⟨S4224x32x64, .f32⟩
  | 120 => ⟨S112x32x64, .f32⟩
  | 121 => ⟨S4112x32x64, .f32⟩
  | 122 => ⟨S4112x2048, .f32⟩
  | 123 => ⟨S_, .i32⟩
  | 124 => ⟨S_, .f32⟩
  | 125 => ⟨S4224x2048, .f32⟩
  | 126 => ⟨S4x4112x64, .f32⟩
  | 127 => ⟨S_, .i32⟩
  | _ => ⟨S4224x2048, .bf16⟩

abbrev hbmTy0_2 (i : Nat) : BufTy := match i % 128 with
  | 0 => ⟨S_, .f32⟩
  | 1 => ⟨S4x4224x64, .f32⟩
  | 2 => ⟨S4x4112x64, .f32⟩
  | 3 => ⟨S_, .i32⟩
  | 4 => ⟨S_, .f32⟩
  | 5 => ⟨S4x4224x64, .f32⟩
  | 6 => ⟨S4x16x64, .f32⟩
  | 7 => ⟨S_, .i32⟩
  | 8 => ⟨S_, .f32⟩
  | 9 => ⟨S4x128x64, .f32⟩
  | 10 => ⟨S4x16x64, .f32⟩
  | 11 => ⟨S_, .i32⟩
  | 12 => ⟨S_, .f32⟩
  | 13 => ⟨S4x128x64, .f32⟩
  | 14 => ⟨S_, .i32⟩
  | 15 => ⟨S_, .f32⟩
  | 16 => ⟨S1x128, .f32⟩
  | _ => ⟨S4224x2048, .bf16⟩

abbrev hbmTy (i : Nat) : BufTy := match i / 128 with
  | 0 => hbmTy0_0 i
  | 1 => hbmTy0_1 i
  | 2 => hbmTy0_2 i
  | _ => ⟨S4224x2048, .bf16⟩

abbrev bufTy : (tb : Table) → Fin (tcTables nBuf tb) → BufTy
  | .hbm, ⟨i, _⟩ => hbmTy i
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_9 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82_1 : Ref sig .tc := ⟨.hbm, 105, rfl⟩
abbrev main_call0_v1 : Ref sig .tc := ⟨.hbm, 106, rfl⟩
abbrev main_v82_0 : Ref sig .tc := ⟨.hbm, 107, rfl⟩
abbrev main_call0_cst : Ref sig .tc := ⟨.hbm, 108, rfl⟩
abbrev main_v82_2 : Ref sig .tc := ⟨.hbm, 109, rfl⟩
abbrev main_v83 : Ref sig .tc := ⟨.hbm, 110, rfl⟩
abbrev main_cst_16 : Ref sig .tc := ⟨.hbm, 111, rfl⟩
abbrev main_v84_1 : Ref sig .tc := ⟨.hbm, 112, rfl⟩
abbrev main_call1_v1 : Ref sig .tc := ⟨.hbm, 113, rfl⟩
abbrev main_v84_0 : Ref sig .tc := ⟨.hbm, 114, rfl⟩
abbrev main_call1_cst : Ref sig .tc := ⟨.hbm, 115, rfl⟩
abbrev main_v84_2 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_cst_23 : Ref sig .tc := ⟨.hbm, 140, rfl⟩
abbrev main_v102 : Ref sig .tc := ⟨.hbm, 141, rfl⟩
abbrev main_cst_24 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_26 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_27 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_28 : Ref sig .tc := ⟨.hbm, 182, rfl⟩
abbrev main_v139 : Ref sig .tc := ⟨.hbm, 183, rfl⟩
abbrev main_cst_29 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_30 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_31 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_32 : Ref sig .tc := ⟨.hbm, 204, rfl⟩
abbrev main_v157 : Ref sig .tc := ⟨.hbm, 205, rfl⟩
abbrev main_v158 : Ref sig .tc := ⟨.hbm, 206, rfl⟩
abbrev main_cst_33 : Ref sig .tc := ⟨.hbm, 207, rfl⟩
abbrev main_v159 : Ref sig .tc := ⟨.hbm, 208, rfl⟩
abbrev main_v160 : Ref sig .tc := ⟨.hbm, 209, rfl⟩
abbrev main_call2_cst : Ref sig .tc := ⟨.hbm, 210, rfl⟩
abbrev main_call2_v0 : Ref sig .tc := ⟨.hbm, 211, rfl⟩
abbrev main_v161 : Ref sig .tc := ⟨.hbm, 212, rfl⟩
abbrev main_call3_cst : Ref sig .tc := ⟨.hbm, 213, rfl⟩
abbrev main_call3_v0 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_cst_34 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_35 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_c_36 : Ref sig .tc := ⟨.hbm, 251, rfl⟩
abbrev main_call4_v0 : Ref sig .tc := ⟨.hbm, 252, rfl⟩
abbrev main_v196 : Ref sig .tc := ⟨.hbm, 253, rfl⟩
abbrev main_v197 : Ref sig .tc := ⟨.hbm, 254, rfl⟩
abbrev main_c_37 : Ref sig .tc := ⟨.hbm, 255, rfl⟩
abbrev main_call5_v0 : Ref sig .tc := ⟨.hbm, 256, rfl⟩
abbrev main_v198 : Ref sig .tc := ⟨.hbm, 257, rfl⟩
abbrev main_v199 : Ref sig .tc := ⟨.hbm, 258, rfl⟩
abbrev main_c_38 : Ref sig .tc := ⟨.hbm, 259, rfl⟩
abbrev main_call6_v0 : Ref sig .tc := ⟨.hbm, 260, rfl⟩
abbrev main_v200 : Ref sig .tc := ⟨.hbm, 261, rfl⟩
abbrev main_v201 : Ref sig .tc := ⟨.hbm, 262, rfl⟩
abbrev main_c_39 : Ref sig .tc := ⟨.hbm, 263, rfl⟩
abbrev main_call7_v0 : Ref sig .tc := ⟨.hbm, 264, rfl⟩
abbrev main_v202 : Ref sig .tc := ⟨.hbm, 265, rfl⟩
abbrev main_v203 : Ref sig .tc := ⟨.hbm, 266, rfl⟩
abbrev main_c_40 : Ref sig .tc := ⟨.hbm, 267, rfl⟩
abbrev main_call8_v0 : Ref sig .tc := ⟨.hbm, 268, rfl⟩
abbrev main_v204 : Ref sig .tc := ⟨.hbm, 269, rfl⟩
abbrev main_c_41 : Ref sig .tc := ⟨.hbm, 270, rfl⟩
abbrev main_call9_v0 : Ref sig .tc := ⟨.hbm, 271, rfl⟩
abbrev main_v205 : Ref sig .tc := ⟨.hbm, 272, rfl⟩

abbrev nD : Nat := 1
abbrev τ : Topo := Topo.v7x

variable {F : FTy → Type} [FloatOps F]
-- ==== GateUpDw.lean ====
abbrev S2x4224x11008 : Shape := ⟨3, ![2, 4224, 11008]⟩
abbrev S4224x4096 : Shape := ⟨2, ![4224, 4096]⟩
abbrev S22016x4096 : Shape := ⟨2, ![22016, 4096]⟩
abbrev S1x4224x256 : Shape := ⟨3, ![1, 4224, 256]⟩
abbrev S4224x2048 : Shape := ⟨2, ![4224, 2048]⟩
abbrev S256x2048 : Shape := ⟨2, ![256, 2048]⟩
abbrev S4224x256 : Shape := ⟨2, ![4224, 256]⟩

abbrev nBuf : Space → Nat
  | .hbm => 3
  | .vmem => 6
  | .smem => 0
  | _ => 0

abbrev bufTy : (tb : Table) → Fin (tcTables nBuf tb) → BufTy
  | .hbm, ⟨0, _⟩ => ⟨S2x4224x11008, .bf16⟩
  | .hbm, ⟨1, _⟩ => ⟨S4224x4096, .bf16⟩
  | .hbm, ⟨2, _⟩ => ⟨S22016x4096, .bf16⟩
  | .local _ .vmem, ⟨0, _⟩ => ⟨S1x4224x256, .bf16⟩
  | .local _ .vmem, ⟨1, _⟩ => ⟨S1x4224x256, .bf16⟩
  | .local _ .vmem, ⟨2, _⟩ => ⟨S4224x2048, .bf16⟩
  | .local _ .vmem, ⟨3, _⟩ => ⟨S4224x2048, .bf16⟩
  | .local _ .vmem, ⟨4, _⟩ => ⟨S256x2048, .bf16⟩
  | .local _ .vmem, ⟨5, _⟩ => ⟨S256x2048, .bf16⟩
  | _, _ => ⟨S2x4224x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 86, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.divsi arg1 c43_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c43_i32 c0_i32_1
  let v7 : BitVec 32 := Scalar.extui v6
  let c0_i32_2 : BitVec 32 := 0#32
  let v8 : BitVec 1 := Scalar.cmpi .slt c43_i32 c0_i32_2
  let v9 : BitVec 32 := Scalar.extui v8
  let v10 : BitVec 32 := Scalar.subi v7 v9
  let v11 : BitVec 1 := Scalar.cmpi .ne v5 v10
  let v12 : BitVec 32 := Scalar.remsi arg1 c43_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c43_i32_4 : BitVec 32 := 43#32
  let c0_i32_5 : BitVec 32 := 0#32
  let v17 : BitVec 1 := Scalar.cmpi .eq c43_i32_4 c0_i32_5
  let c1_i32_6 : BitVec 32 := 1#32
  let v18 : BitVec 32 := Scalar.select v17 c1_i32_6 c43_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDwReferenceIdeal.lean ====
abbrev S2x4224x11008 : Shape := ⟨3, ![2, 4224, 11008]⟩
abbrev S4224x4096 : Shape := ⟨2, ![4224, 4096]⟩
abbrev S1x4224x11008 : Shape := ⟨3, ![1, 4224, 11008]⟩
abbrev S4224x11008 : Shape := ⟨2, ![4224, 11008]⟩
abbrev S4224x22016 : Shape := ⟨2, ![4224, 22016]⟩
abbrev S_ : Shape := ⟨0, ![]⟩
abbrev S4096x22016 : Shape := ⟨2, ![4096, 22016]⟩
abbrev S22016x4096 : Shape := ⟨2, ![22016, 4096]⟩

abbrev nBuf : Space → Nat
  | .hbm => 16
  | .vmem => 0
  | .smem => 0
  | _ => 0

abbrev bufTy : (tb : Table) → Fin (tcTables nBuf tb) → BufTy
  | .hbm, ⟨0, _⟩ => ⟨S2x4224x11008, .bf16⟩
  | .hbm, ⟨1, _⟩ => ⟨S4224x4096, .bf16⟩
  | .hbm, ⟨2, _⟩ => ⟨S2x4224x11008, .f32⟩
  | .hbm, ⟨3, _⟩ => ⟨S1x4224x11008, .f32⟩
  | .hbm, ⟨4, _⟩ => ⟨S4224x11008, .f32⟩
  | .hbm, ⟨5, _⟩ => ⟨S1x4224x11008, .f32⟩
  | .hbm, ⟨6, _⟩ => ⟨S4224x11008, .f32⟩
  | .hbm, ⟨7, _⟩ => ⟨S4224x22016, .f32⟩
  | .hbm, ⟨8, _⟩ => ⟨S4224x4096, .f32⟩
  | .hbm, ⟨9, _⟩ => ⟨S_, .f32⟩
  | .hbm, ⟨10, _⟩ => ⟨S4096x22016, .f32⟩
  | .hbm, ⟨11, _⟩ => ⟨S4224x22016, .f32⟩
  | .hbm, ⟨12, _⟩ => ⟨S22016x4096, .f32⟩
  | .hbm, ⟨13, _⟩ => ⟨S4096x22016, .f32⟩
  | .hbm, ⟨14, _⟩ => ⟨S22016x4096, .f32⟩
  | .hbm, ⟨15, _⟩ => ⟨S22016x4096, .bf16⟩
  | _, _ => ⟨S2x4224x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== InDw.lean ====
abbrev S4224x14848 : Shape := ⟨2, ![4224, 14848]⟩
abbrev S4224x4096 : Shape := ⟨2, ![4224, 4096]⟩
abbrev S14848x4096 : Shape := ⟨2, ![14848, 4096]⟩
abbrev S4224x512 : Shape := ⟨2, ![4224, 512]⟩
abbrev S4224x2048 : Shape := ⟨2, ![4224, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4224x14848, .bf16⟩
  | .hbm, ⟨1, _⟩ => ⟨S4224x4096, .bf16⟩
  | .hbm, ⟨2, _⟩ => ⟨S14848x4096, .bf16⟩
  | .local _ .vmem, ⟨0, _⟩ => ⟨S4224x512, .bf16⟩
  | .local _ .vmem, ⟨1, _⟩ => ⟨S4224x512, .bf16⟩
  | .local _ .vmem, ⟨2, _⟩ => ⟨S4224x2048, .bf16⟩
  | .local _ .vmem, ⟨3, _⟩ => ⟨S4224x2048, .bf16⟩
  | .local _ .vmem, ⟨4, _⟩ => ⟨S512x2048, .bf16⟩
  | .local _ .vmem, ⟨5, _⟩ => ⟨S512x2048, .bf16⟩
  | _, _ => ⟨S4224x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 29, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4224x14848 : Shape := ⟨2, ![4224, 14848]⟩
abbrev S4224x4096 : Shape := ⟨2, ![4224, 4096]⟩
abbrev S_ : Shape := ⟨0, ![]⟩
abbrev S4096x14848 : Shape := ⟨2, ![4096, 14848]⟩
abbrev S14848x4096 : Shape := ⟨2, ![14848, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4224x14848, .bf16⟩
  | .hbm, ⟨1, _⟩ => ⟨S4224x4096, .bf16⟩
  | .hbm, ⟨2, _⟩ => ⟨S4224x4096, .f32⟩
  | .hbm, ⟨3, _⟩ => ⟨S4224x14848, .f32⟩
  | .hbm, ⟨4, _⟩ => ⟨S_, .f32⟩
  | .hbm, ⟨5, _⟩ => ⟨S4096x14848, .f32⟩
  | .hbm, ⟨6, _⟩ => ⟨S4224x14848, .f32⟩
  | .hbm, ⟨7, _⟩ => ⟨S14848x4096, .f32⟩
  | .hbm, ⟨8, _⟩ => ⟨S4096x14848, .f32⟩
  | .hbm, ⟨9, _⟩ => ⟨S14848x4096, .f32⟩
  | .hbm, ⟨10, _⟩ => ⟨S14848x4096, .bf16⟩
  | _, _ => ⟨S4224x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDw.lean ====
abbrev S4224x11008 : Shape := ⟨2, ![4224, 11008]⟩
abbrev S4224x4096 : Shape := ⟨2, ![4224, 4096]⟩
abbrev S11008x4096 : Shape := ⟨2, ![11008, 4096]⟩
abbrev S4224x256 : Shape := ⟨2, ![4224, 256]⟩
abbrev S4224x2048 : Shape := ⟨2, ![4224, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4224x11008, .bf16⟩
  | .hbm, ⟨1, _⟩ => ⟨S4224x4096, .bf16⟩
  | .hbm, ⟨2, _⟩ => ⟨S11008x4096, .bf16⟩
  | .local _ .vmem, ⟨0, _⟩ => ⟨S4224x256, .bf16⟩
  | .local _ .vmem, ⟨1, _⟩ => ⟨S4224x256, .bf16⟩
  | .local _ .vmem, ⟨2, _⟩ => ⟨S4224x2048, .bf16⟩
  | .local _ .vmem, ⟨3, _⟩ => ⟨S4224x2048, .bf16⟩
  | .local _ .vmem, ⟨4, _⟩ => ⟨S256x2048, .bf16⟩
  | .local _ .vmem, ⟨5, _⟩ => ⟨S256x2048, .bf16⟩
  | _, _ => ⟨S4224x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4224x11008 : Shape := ⟨2, ![4224, 11008]⟩
abbrev S4224x4096 : Shape := ⟨2, ![4224, 4096]⟩
abbrev S_ : Shape := ⟨0, ![]⟩
abbrev S11008x4096 : Shape := ⟨2, ![11008, 4096]⟩
abbrev S4096x11008 : Shape := ⟨2, ![4096, 11008]⟩

abbrev nBuf : Space → Nat
  | .hbm => 10
  | .vmem => 0
  | .smem => 0
  | _ => 0

abbrev bufTy : (tb : Table) → Fin (tcTables nBuf tb) → BufTy
  | .hbm, ⟨0, _⟩ => ⟨S4224x11008, .bf16⟩
  | .hbm, ⟨1, _⟩ => ⟨S4224x4096, .bf16⟩
  | .hbm, ⟨2, _⟩ => ⟨S4224x11008, .f32⟩
  | .hbm, ⟨3, _⟩ => ⟨S4224x4096, .f32⟩
  | .hbm, ⟨4, _⟩ => ⟨S_, .f32⟩
  | .hbm, ⟨5, _⟩ => ⟨S11008x4096, .f32⟩
  | .hbm, ⟨6, _⟩ => ⟨S4224x4096, .f32⟩
  | .hbm, ⟨7, _⟩ => ⟨S4096x11008, .f32⟩
  | .hbm, ⟨8, _⟩ => ⟨S11008x4096, .f32⟩
  | .hbm, ⟨9, _⟩ => ⟨S11008x4096, .bf16⟩
  | _, _ => ⟨S4224x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixDw.lean ====
abbrev S4224x4096 : Shape := ⟨2, ![4224, 4096]⟩
abbrev S4096x4096 : Shape := ⟨2, ![4096, 4096]⟩
abbrev S4224x512 : Shape := ⟨2, ![4224, 512]⟩
abbrev S4224x2048 : Shape := ⟨2, ![4224, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S4096x4096, .bf16⟩
  | .local _ .vmem, ⟨0, _⟩ => ⟨S4224x512, .bf16⟩
  | .local _ .vmem, ⟨1, _⟩ => ⟨S4224x512, .bf16⟩
  | .local _ .vmem, ⟨2, _⟩ => ⟨S4224x2048, .bf16⟩
  | .local _ .vmem, ⟨3, _⟩ => ⟨S4224x2048, .bf16⟩
  | .local _ .vmem, ⟨4, _⟩ => ⟨S512x2048, .bf16⟩
  | .local _ .vmem, ⟨5, _⟩ => ⟨S512x2048, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwReferenceIdeal.lean ====
abbrev S4224x4096 : Shape := ⟨2, ![4224, 4096]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S4224x4096, .f32⟩
  | .hbm, ⟨3, _⟩ => ⟨S4224x4096, .f32⟩
  | .hbm, ⟨4, _⟩ => ⟨S_, .f32⟩
  | .hbm, ⟨5, _⟩ => ⟨S4096x4096, .f32⟩
  | .hbm, ⟨6, _⟩ => ⟨S4224x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnDw.lean ====
abbrev S4224x4096 : Shape := ⟨2, ![4224, 4096]⟩
abbrev S4224x2048 : Shape := ⟨2, ![4224, 2048]⟩
abbrev S4096x2048 : Shape := ⟨2, ![4096, 2048]⟩
abbrev S4224x512 : Shape := ⟨2, ![4224, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4224x4096, .bf16⟩
  | .hbm, ⟨1, _⟩ => ⟨S4224x2048, .bf16⟩
  | .hbm, ⟨2, _⟩ => ⟨S4096x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x2048, .bf16⟩
  | .local _ .vmem, ⟨3, _⟩ => ⟨S512x2048, .bf16⟩
  | .local _ .vmem, ⟨4, _⟩ => ⟨S512x2048, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4224x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnDwReferenceIdeal.lean ====
abbrev S4224x4096 : Shape := ⟨2, ![4224, 4096]⟩
abbrev S4224x2048 : Shape := ⟨2, ![4224, 2048]⟩
abbrev S_ : Shape := ⟨0, ![]⟩
abbrev S2048x4096 : Shape := ⟨2, ![2048, 4096]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x2048, .bf16⟩
  | .hbm, ⟨2, _⟩ => ⟨S4224x2048, .f32⟩
  | .hbm, ⟨3, _⟩ => ⟨S4224x4096, .f32⟩
  | .hbm, ⟨4, _⟩ => ⟨S_, .f32⟩
  | .hbm, ⟨5, _⟩ => ⟨S2048x4096, .f32⟩
  | .hbm, ⟨6, _⟩ => ⟨S4224x4096, .f32⟩
  | .hbm, ⟨7, _⟩ => ⟨S4096x2048, .f32⟩
  | .hbm, ⟨8, _⟩ => ⟨S2048x4096, .f32⟩
  | .hbm, ⟨9, _⟩ => ⟨S4096x2048, .f32⟩
  | .hbm, ⟨10, _⟩ => ⟨S4096x2048, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ConvDw.lean ====
abbrev S4224x4096 : Shape := ⟨2, ![4224, 4096]⟩
abbrev S4224x2048 : Shape := ⟨2, ![4224, 2048]⟩
abbrev S4096x2048 : Shape := ⟨2, ![4096, 2048]⟩
abbrev S4224x512 : Shape := ⟨2, ![4224, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4224x4096, .bf16⟩
  | .hbm, ⟨1, _⟩ => ⟨S4224x2048, .bf16⟩
  | .hbm, ⟨2, _⟩ => ⟨S4096x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x2048, .bf16⟩
  | .local _ .vmem, ⟨3, _⟩ => ⟨S512x2048, .bf16⟩
  | .local _ .vmem, ⟨4, _⟩ => ⟨S512x2048, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4224x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDwReferenceIdeal.lean ====
abbrev S4224x4096 : Shape := ⟨2, ![4224, 4096]⟩
abbrev S4224x2048 : Shape := ⟨2, ![4224, 2048]⟩
abbrev S_ : Shape := ⟨0, ![]⟩
abbrev S2048x4096 : Shape := ⟨2, ![2048, 4096]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x2048, .bf16⟩
  | .hbm, ⟨2, _⟩ => ⟨S4224x2048, .f32⟩
  | .hbm, ⟨3, _⟩ => ⟨S4224x4096, .f32⟩
  | .hbm, ⟨4, _⟩ => ⟨S_, .f32⟩
  | .hbm, ⟨5, _⟩ => ⟨S2048x4096, .f32⟩
  | .hbm, ⟨6, _⟩ => ⟨S4224x4096, .f32⟩
  | .hbm, ⟨7, _⟩ => ⟨S4096x2048, .f32⟩
  | .hbm, ⟨8, _⟩ => ⟨S2048x4096, .f32⟩
  | .hbm, ⟨9, _⟩ => ⟨S4096x2048, .f32⟩
  | .hbm, ⟨10, _⟩ => ⟨S4096x2048, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDx.lean ====
abbrev S4224x4096 : Shape := ⟨2, ![4224, 4096]⟩
abbrev S4096x4096 : Shape := ⟨2, ![4096, 4096]⟩
abbrev S2112x4096 : Shape := ⟨2, ![2112, 4096]⟩
abbrev S512x4096 : Shape := ⟨2, ![512, 4096]⟩
abbrev S2112x512 : Shape := ⟨2, ![2112, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .bf16⟩
  | .local _ .vmem, ⟨0, _⟩ => ⟨S2112x4096, .bf16⟩
  | .local _ .vmem, ⟨1, _⟩ => ⟨S2112x4096, .bf16⟩
  | .local _ .vmem, ⟨2, _⟩ => ⟨S512x4096, .bf16⟩
  | .local _ .vmem, ⟨3, _⟩ => ⟨S512x4096, .bf16⟩
  | .local _ .vmem, ⟨4, _⟩ => ⟨S2112x512, .bf16⟩
  | .local _ .vmem, ⟨5, _⟩ => ⟨S2112x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2112x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxReferenceIdeal.lean ====
abbrev S4224x4096 : Shape := ⟨2, ![4224, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4096x4096, .f32⟩
  | .hbm, ⟨3, _⟩ => ⟨S4224x4096, .f32⟩
  | .hbm, ⟨4, _⟩ => ⟨S_, .f32⟩
  | .hbm, ⟨5, _⟩ => ⟨S4224x4096, .f32⟩
  | .hbm, ⟨6, _⟩ => ⟨S4224x4096, .f32⟩
  | .hbm, ⟨7, _⟩ => ⟨S4224x4096, .f32⟩
  | .hbm, ⟨8, _⟩ => ⟨S4224x4096, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnDx.lean ====
abbrev S4224x4096 : Shape := ⟨2, ![4224, 4096]⟩
abbrev S4096x2048 : Shape := ⟨2, ![4096, 2048]⟩
abbrev S4224x2048 : Shape := ⟨2, ![4224, 2048]⟩
abbrev S1056x4096 : Shape := ⟨2, ![1056, 4096]⟩
abbrev S4096x1024 : Shape := ⟨2, ![4096, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4096x2048, .bf16⟩
  | .hbm, ⟨2, _⟩ => ⟨S4224x2048, .bf16⟩
  | .local _ .vmem, ⟨0, _⟩ => ⟨S1056x4096, .bf16⟩
  | .local _ .vmem, ⟨1, _⟩ => ⟨S1056x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1056x1024, .bf16⟩
  | .local _ .vmem, ⟨5, _⟩ => ⟨S1056x1024, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnDxReferenceIdeal.lean ====
abbrev S4224x4096 : Shape := ⟨2, ![4224, 4096]⟩
abbrev S4096x2048 : Shape := ⟨2, ![4096, 2048]⟩
abbrev S2048x4096 : Shape := ⟨2, ![2048, 4096]⟩
abbrev S_ : Shape := ⟨0, ![]⟩
abbrev S4224x2048 : Shape := ⟨2, ![4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x2048, .bf16⟩
  | .hbm, ⟨2, _⟩ => ⟨S4096x2048, .f32⟩
  | .hbm, ⟨3, _⟩ => ⟨S2048x4096, .f32⟩
  | .hbm, ⟨4, _⟩ => ⟨S4224x4096, .f32⟩
  | .hbm, ⟨5, _⟩ => ⟨S_, .f32⟩
  | .hbm, ⟨6, _⟩ => ⟨S4224x2048, .f32⟩
  | .hbm, ⟨7, _⟩ => ⟨S4224x4096, .f32⟩
  | .hbm, ⟨8, _⟩ => ⟨S4224x2048, .f32⟩
  | .hbm, ⟨9, _⟩ => ⟨S4224x2048, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvDx.lean ====
abbrev S4224x4096 : Shape := ⟨2, ![4224, 4096]⟩
abbrev S4096x2048 : Shape := ⟨2, ![4096, 2048]⟩
abbrev S4224x2048 : Shape := ⟨2, ![4224, 2048]⟩
abbrev S1056x4096 : Shape := ⟨2, ![1056, 4096]⟩
abbrev S4096x1024 : Shape := ⟨2, ![4096, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4096x2048, .bf16⟩
  | .hbm, ⟨2, _⟩ => ⟨S4224x2048, .f32⟩
  | .local _ .vmem, ⟨0, _⟩ => ⟨S1056x4096, .bf16⟩
  | .local _ .vmem, ⟨1, _⟩ => ⟨S1056x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1056x1024, .f32⟩
  | .local _ .vmem, ⟨5, _⟩ => ⟨S1056x1024, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDxReferenceIdeal.lean ====
abbrev S4224x4096 : Shape := ⟨2, ![4224, 4096]⟩
abbrev S4096x2048 : Shape := ⟨2, ![4096, 2048]⟩
abbrev S2048x4096 : Shape := ⟨2, ![2048, 4096]⟩
abbrev S_ : Shape := ⟨0, ![]⟩
abbrev S4224x2048 : Shape := ⟨2, ![4224, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x2048, .bf16⟩
  | .hbm, ⟨2, _⟩ => ⟨S4096x2048, .f32⟩
  | .hbm, ⟨3, _⟩ => ⟨S2048x4096, .f32⟩
  | .hbm, ⟨4, _⟩ => ⟨S4224x4096, .f32⟩
  | .hbm, ⟨5, _⟩ => ⟨S_, .f32⟩
  | .hbm, ⟨6, _⟩ => ⟨S4224x2048, .f32⟩
  | .hbm, ⟨7, _⟩ => ⟨S4224x4096, .f32⟩
  | .hbm, ⟨8, _⟩ => ⟨S4224x2048, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InQ.lean ====
abbrev S4224x4096 : Shape := ⟨2, ![4224, 4096]⟩
abbrev S14848x4096 : Shape := ⟨2, ![14848, 4096]⟩
abbrev S1x2048 : Shape := ⟨2, ![1, 2048]⟩
abbrev S4224x2048 : Shape := ⟨2, ![4224, 2048]⟩
abbrev S2112x4096 : Shape := ⟨2, ![2112, 4096]⟩
abbrev S512x4096 : Shape := ⟨2, ![512, 4096]⟩
abbrev S1x512 : Shape := ⟨2, ![1, 512]⟩
abbrev S2112x512 : Shape := ⟨2, ![2112, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x4096, .bf16⟩
  | .hbm, ⟨1, _⟩ => ⟨S14848x4096, .bf16⟩
  | .hbm, ⟨2, _⟩ => ⟨S1x2048, .f32⟩
  | .hbm, ⟨3, _⟩ => ⟨S4224x2048, .bf16⟩
  | .local _ .vmem, ⟨0, _⟩ => ⟨S2112x4096, .bf16⟩
  | .local _ .vmem, ⟨1, _⟩ => ⟨S2112x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S2112x512, .bf16⟩
  | .local _ .vmem, ⟨7, _⟩ => ⟨S2112x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2112x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InQReferenceIdeal.lean ====
abbrev S4224x4096 : Shape := ⟨2, ![4224, 4096]⟩
abbrev S14848x4096 : Shape := ⟨2, ![14848, 4096]⟩
abbrev S1x2048 : Shape := ⟨2, ![1, 2048]⟩
abbrev S2048x4096 : Shape := ⟨2, ![2048, 4096]⟩
abbrev S4096x2048 : Shape := ⟨2, ![4096, 2048]⟩
abbrev S4224x2048 : Shape := ⟨2, ![4224, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S14848x4096, .bf16⟩
  | .hbm, ⟨2, _⟩ => ⟨S1x2048, .f32⟩
  | .hbm, ⟨3, _⟩ => ⟨S14848x4096, .f32⟩
  | .hbm, ⟨4, _⟩ => ⟨S2048x4096, .f32⟩
  | .hbm, ⟨5, _⟩ => ⟨S4096x2048, .f32⟩
  | .hbm, ⟨6, _⟩ => ⟨S4224x4096, .f32⟩
  | .hbm, ⟨7, _⟩ => ⟨S4224x2048, .f32⟩
  | .hbm, ⟨8, _⟩ => ⟨S4224x2048, .f32⟩
  | .hbm, ⟨9, _⟩ => ⟨S4224x2048, .f32⟩
  | .hbm, ⟨10, _⟩ => ⟨S4224x2048, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InKv.lean ====
abbrev S4224x4096 : Shape := ⟨2, ![4224, 4096]⟩
abbrev S14848x4096 : Shape := ⟨2, ![14848, 4096]⟩
abbrev S1x512 : Shape := ⟨2, ![1, 512]⟩
abbrev S4224x512 : Shape := ⟨2, ![4224, 512]⟩
abbrev S2112x4096 : Shape := ⟨2, ![2112, 4096]⟩
abbrev S512x4096 : Shape := ⟨2, ![512, 4096]⟩
abbrev S2112x512 : Shape := ⟨2, ![2112, 512]⟩

abbrev nBuf : Space → Nat
  | .hbm => 4
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S14848x4096, .bf16⟩
  | .hbm, ⟨2, _⟩ => ⟨S1x512, .f32⟩
  | .hbm, ⟨3, _⟩ => ⟨S4224x512, .bf16⟩
  | .local _ .vmem, ⟨0, _⟩ => ⟨S2112x4096, .bf16⟩
  | .local _ .vmem, ⟨1, _⟩ => ⟨S2112x4096, .bf16⟩
  | .local _ .vmem, ⟨2, _⟩ => ⟨S512x4096, .bf16⟩
  | .local _ .vmem, ⟨3, _⟩ => ⟨S1x512, .f32⟩
  | .local _ .vmem, ⟨4, _⟩ => ⟨S2112x512, .bf16⟩
  | .local _ .vmem, ⟨5, _⟩ => ⟨S2112x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S2112x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InKvReferenceIdeal.lean ====
abbrev S4224x4096 : Shape := ⟨2, ![4224, 4096]⟩
abbrev S14848x4096 : Shape := ⟨2, ![14848, 4096]⟩
abbrev S1x512 : Shape := ⟨2, ![1, 512]⟩
abbrev S512x4096 : Shape := ⟨2, ![512, 4096]⟩
abbrev S4096x512 : Shape := ⟨2, ![4096, 512]⟩
abbrev S4224x512 : Shape := ⟨2, ![4224, 512]⟩

abbrev nBuf : Space → Nat
  | .hbm => 11
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S14848x4096, .bf16⟩
  | .hbm, ⟨2, _⟩ => ⟨S1x512, .f32⟩
  | .hbm, ⟨3, _⟩ => ⟨S14848x4096, .f32⟩
  | .hbm, ⟨4, _⟩ => ⟨S512x4096, .f32⟩
  | .hbm, ⟨5, _⟩ => ⟨S4096x512, .f32⟩
  | .hbm, ⟨6, _⟩ => ⟨S4224x4096, .f32⟩
  | .hbm, ⟨7, _⟩ => ⟨S4224x512, .f32⟩
  | .hbm, ⟨8, _⟩ => ⟨S4224x512, .f32⟩
  | .hbm, ⟨9, _⟩ => ⟨S4224x512, .f32⟩
  | .hbm, ⟨10, _⟩ => ⟨S4224x512, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InConv.lean ====
abbrev S4224x4096 : Shape := ⟨2, ![4224, 4096]⟩
abbrev S14848x4096 : Shape := ⟨2, ![14848, 4096]⟩
abbrev S1x4096 : Shape := ⟨2, ![1, 4096]⟩
abbrev S2112x4096 : Shape := ⟨2, ![2112, 4096]⟩
abbrev S512x4096 : Shape := ⟨2, ![512, 4096]⟩
abbrev S1x512 : Shape := ⟨2, ![1, 512]⟩
abbrev S2112x512 : Shape := ⟨2, ![2112, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x4096, .bf16⟩
  | .hbm, ⟨1, _⟩ => ⟨S14848x4096, .bf16⟩
  | .hbm, ⟨2, _⟩ => ⟨S1x4096, .f32⟩
  | .hbm, ⟨3, _⟩ => ⟨S4224x4096, .bf16⟩
  | .local _ .vmem, ⟨0, _⟩ => ⟨S2112x4096, .bf16⟩
  | .local _ .vmem, ⟨1, _⟩ => ⟨S2112x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S2112x512, .bf16⟩
  | .local _ .vmem, ⟨7, _⟩ => ⟨S2112x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2112x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InConvReferenceIdeal.lean ====
abbrev S4224x4096 : Shape := ⟨2, ![4224, 4096]⟩
abbrev S14848x4096 : Shape := ⟨2, ![14848, 4096]⟩
abbrev S1x4096 : Shape := ⟨2, ![1, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S14848x4096, .bf16⟩
  | .hbm, ⟨2, _⟩ => ⟨S1x4096, .f32⟩
  | .hbm, ⟨3, _⟩ => ⟨S14848x4096, .f32⟩
  | .hbm, ⟨4, _⟩ => ⟨S4096x4096, .f32⟩
  | .hbm, ⟨5, _⟩ => ⟨S4096x4096, .f32⟩
  | .hbm, ⟨6, _⟩ => ⟨S4224x4096, .f32⟩
  | .hbm, ⟨7, _⟩ => ⟨S4224x4096, .f32⟩
  | .hbm, ⟨8, _⟩ => ⟨S4224x4096, .f32⟩
  | .hbm, ⟨9, _⟩ => ⟨S4224x4096, .f32⟩
  | .hbm, ⟨10, _⟩ => ⟨S4224x4096, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InGates.lean ====
abbrev S4224x4096 : Shape := ⟨2, ![4224, 4096]⟩
abbrev S14848x4096 : Shape := ⟨2, ![14848, 4096]⟩
abbrev S1x8192 : Shape := ⟨2, ![1, 8192]⟩
abbrev S4224x8192 : Shape := ⟨2, ![4224, 8192]⟩
abbrev S2112x4096 : Shape := ⟨2, ![2112, 4096]⟩
abbrev S512x4096 : Shape := ⟨2, ![512, 4096]⟩
abbrev S1x512 : Shape := ⟨2, ![1, 512]⟩
abbrev S2112x512 : Shape := ⟨2, ![2112, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x4096, .bf16⟩
  | .hbm, ⟨1, _⟩ => ⟨S14848x4096, .bf16⟩
  | .hbm, ⟨2, _⟩ => ⟨S1x8192, .f32⟩
  | .hbm, ⟨3, _⟩ => ⟨S4224x8192, .bf16⟩
  | .local _ .vmem, ⟨0, _⟩ => ⟨S2112x4096, .bf16⟩
  | .local _ .vmem, ⟨1, _⟩ => ⟨S2112x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S2112x512, .bf16⟩
  | .local _ .vmem, ⟨7, _⟩ => ⟨S2112x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2112x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGatesReferenceIdeal.lean ====
abbrev S4224x4096 : Shape := ⟨2, ![4224, 4096]⟩
abbrev S14848x4096 : Shape := ⟨2, ![14848, 4096]⟩
abbrev S1x8192 : Shape := ⟨2, ![1, 8192]⟩
abbrev S8192x4096 : Shape := ⟨2, ![8192, 4096]⟩
abbrev S4096x8192 : Shape := ⟨2, ![4096, 8192]⟩
abbrev S4224x8192 : Shape := ⟨2, ![4224, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S14848x4096, .bf16⟩
  | .hbm, ⟨2, _⟩ => ⟨S1x8192, .f32⟩
  | .hbm, ⟨3, _⟩ => ⟨S14848x4096, .f32⟩
  | .hbm, ⟨4, _⟩ => ⟨S8192x4096, .f32⟩
  | .hbm, ⟨5, _⟩ => ⟨S4096x8192, .f32⟩
  | .hbm, ⟨6, _⟩ => ⟨S4224x4096, .f32⟩
  | .hbm, ⟨7, _⟩ => ⟨S4224x8192, .f32⟩
  | .hbm, ⟨8, _⟩ => ⟨S4224x8192, .f32⟩
  | .hbm, ⟨9, _⟩ => ⟨S4224x8192, .f32⟩
  | .hbm, ⟨10, _⟩ => ⟨S4224x8192, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttnOut.lean ====
abbrev S4224x2048 : Shape := ⟨2, ![4224, 2048]⟩
abbrev S4096x2048 : Shape := ⟨2, ![4096, 2048]⟩
abbrev S4224x4096 : Shape := ⟨2, ![4224, 4096]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4096x2048, .bf16⟩
  | .hbm, ⟨2, _⟩ => ⟨S4224x4096, .bf16⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .bf16⟩
  | .local _ .vmem, ⟨5, _⟩ => ⟨S1056x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutReferenceIdeal.lean ====
abbrev S4224x2048 : Shape := ⟨2, ![4224, 2048]⟩
abbrev S4096x2048 : Shape := ⟨2, ![4096, 2048]⟩
abbrev S2048x4096 : Shape := ⟨2, ![2048, 4096]⟩
abbrev S4224x4096 : Shape := ⟨2, ![4224, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4096x2048, .bf16⟩
  | .hbm, ⟨2, _⟩ => ⟨S4224x2048, .f32⟩
  | .hbm, ⟨3, _⟩ => ⟨S4096x2048, .f32⟩
  | .hbm, ⟨4, _⟩ => ⟨S2048x4096, .f32⟩
  | .hbm, ⟨5, _⟩ => ⟨S4224x4096, .f32⟩
  | .hbm, ⟨6, _⟩ => ⟨S4224x4096, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOut.lean ====
abbrev S4224x4096 : Shape := ⟨2, ![4224, 4096]⟩
abbrev S4096x4096 : Shape := ⟨2, ![4096, 4096]⟩
abbrev S1056x4096 : Shape := ⟨2, ![1056, 4096]⟩
abbrev S4096x512 : Shape := ⟨2, ![4096, 512]⟩
abbrev S1056x512 : Shape := ⟨2, ![1056, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S4224x4096, .f32⟩
  | .local _ .vmem, ⟨0, _⟩ => ⟨S1056x4096, .bf16⟩
  | .local _ .vmem, ⟨1, _⟩ => ⟨S1056x4096, .bf16⟩
  | .local _ .vmem, ⟨2, _⟩ => ⟨S4096x512, .bf16⟩
  | .local _ .vmem, ⟨3, _⟩ => ⟨S4096x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutReferenceIdeal.lean ====
abbrev S4224x4096 : Shape := ⟨2, ![4224, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S4224x4096, .f32⟩
  | .hbm, ⟨4, _⟩ => ⟨S4096x4096, .f32⟩
  | .hbm, ⟨5, _⟩ => ⟨S4224x4096, .f32⟩
  | .hbm, ⟨6, _⟩ => ⟨S4224x4096, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDown.lean ====
abbrev S4224x11008 : Shape := ⟨2, ![4224, 11008]⟩
abbrev S11008x4096 : Shape := ⟨2, ![11008, 4096]⟩
abbrev S4224x4096 : Shape := ⟨2, ![4224, 4096]⟩
abbrev S528x11008 : Shape := ⟨2, ![528, 11008]⟩
abbrev S11008x512 : Shape := ⟨2, ![11008, 512]⟩
abbrev S528x512 : Shape := ⟨2, ![528, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x11008, .bf16⟩
  | .hbm, ⟨1, _⟩ => ⟨S11008x4096, .bf16⟩
  | .hbm, ⟨2, _⟩ => ⟨S4224x4096, .f32⟩
  | .hbm, ⟨3, _⟩ => ⟨S4224x4096, .f32⟩
  | .local _ .vmem, ⟨0, _⟩ => ⟨S528x11008, .bf16⟩
  | .local _ .vmem, ⟨1, _⟩ => ⟨S528x11008, .bf16⟩
  | .local _ .vmem, ⟨2, _⟩ => ⟨S11008x512, .bf16⟩
  | .local _ .vmem, ⟨3, _⟩ => ⟨S11008x512, .bf16⟩
  | .local _ .vmem, ⟨4, _⟩ => ⟨S528x512, .f32⟩
  | .local _ .vmem, ⟨5, _⟩ => ⟨S528x512, .f32⟩
  | .local _ .vmem, ⟨6, _⟩ => ⟨S528x512, .f32⟩
  | .local _ .vmem, ⟨7, _⟩ => ⟨S528x512, .f32⟩
  | _, _ => ⟨S4224x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S528x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S528x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S528x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S4224x11008 : Shape := ⟨2, ![4224, 11008]⟩
abbrev S11008x4096 : Shape := ⟨2, ![11008, 4096]⟩
abbrev S4224x4096 : Shape := ⟨2, ![4224, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x11008, .bf16⟩
  | .hbm, ⟨1, _⟩ => ⟨S11008x4096, .bf16⟩
  | .hbm, ⟨2, _⟩ => ⟨S4224x4096, .f32⟩
  | .hbm, ⟨3, _⟩ => ⟨S4224x11008, .f32⟩
  | .hbm, ⟨4, _⟩ => ⟨S11008x4096, .f32⟩
  | .hbm, ⟨5, _⟩ => ⟨S4224x4096, .f32⟩
  | .hbm, ⟨6, _⟩ => ⟨S4224x4096, .f32⟩
  | _, _ => ⟨S4224x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateUpDx.lean ====
abbrev S2x4224x11008 : Shape := ⟨3, ![2, 4224, 11008]⟩
abbrev S22016x4096 : Shape := ⟨2, ![22016, 4096]⟩
abbrev S4224x4096 : Shape := ⟨2, ![4224, 4096]⟩
abbrev S1x1056x5504 : Shape := ⟨3, ![1, 1056, 5504]⟩
abbrev S5504x512 : Shape := ⟨2, ![5504, 512]⟩
abbrev S1056x512 : Shape := ⟨2, ![1056, 512]⟩
abbrev S1056x5504 : Shape := ⟨2, ![1056, 5504]⟩

abbrev nBuf : Space → Nat
  | .hbm => 3
  | .vmem => 7
  | .smem => 0
  | _ => 0

abbrev bufTy : (tb : Table) → Fin (tcTables nBuf tb) → BufTy
  | .hbm, ⟨0, _⟩ => ⟨S2x4224x11008, .bf16⟩
  | .hbm, ⟨1, _⟩ => ⟨S22016x4096, .bf16⟩
  | .hbm, ⟨2, _⟩ => ⟨S4224x4096, .f32⟩
  | .local _ .vmem, ⟨0, _⟩ => ⟨S1x1056x5504, .bf16⟩
  | .local _ .vmem, ⟨1, _⟩ => ⟨S1x1056x5504, .bf16⟩
  | .local _ .vmem, ⟨2, _⟩ => ⟨S5504x512, .bf16⟩
  | .local _ .vmem, ⟨3, _⟩ => ⟨S5504x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | _, _ => ⟨S2x4224x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDxReferenceIdeal.lean ====
abbrev S2x4224x11008 : Shape := ⟨3, ![2, 4224, 11008]⟩
abbrev S22016x4096 : Shape := ⟨2, ![22016, 4096]⟩
abbrev S4096x22016 : Shape := ⟨2, ![4096, 22016]⟩
abbrev S1x4224x11008 : Shape := ⟨3, ![1, 4224, 11008]⟩
abbrev S4224x11008 : Shape := ⟨2, ![4224, 11008]⟩
abbrev S4224x22016 : Shape := ⟨2, ![4224, 22016]⟩
abbrev S_ : Shape := ⟨0, ![]⟩
abbrev S4224x4096 : Shape := ⟨2, ![4224, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x4224x11008, .bf16⟩
  | .hbm, ⟨1, _⟩ => ⟨S22016x4096, .bf16⟩
  | .hbm, ⟨2, _⟩ => ⟨S2x4224x11008, .f32⟩
  | .hbm, ⟨3, _⟩ => ⟨S22016x4096, .f32⟩
  | .hbm, ⟨4, _⟩ => ⟨S4096x22016, .f32⟩
  | .hbm, ⟨5, _⟩ => ⟨S1x4224x11008, .f32⟩
  | .hbm, ⟨6, _⟩ => ⟨S4224x11008, .f32⟩
  | .hbm, ⟨7, _⟩ => ⟨S1x4224x11008, .f32⟩
  | .hbm, ⟨8, _⟩ => ⟨S4224x11008, .f32⟩
  | .hbm, ⟨9, _⟩ => ⟨S4224x22016, .f32⟩
  | .hbm, ⟨10, _⟩ => ⟨S_, .f32⟩
  | .hbm, ⟨11, _⟩ => ⟨S4224x4096, .f32⟩
  | .hbm, ⟨12, _⟩ => ⟨S4224x22016, .f32⟩
  | .hbm, ⟨13, _⟩ => ⟨S4224x4096, .f32⟩
  | _, _ => ⟨S2x4224x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InDx.lean ====
abbrev S4224x14848 : Shape := ⟨2, ![4224, 14848]⟩
abbrev S14848x4096 : Shape := ⟨2, ![14848, 4096]⟩
abbrev S4224x4096 : Shape := ⟨2, ![4224, 4096]⟩
abbrev S1056x3712 : Shape := ⟨2, ![1056, 3712]⟩
abbrev S3712x1024 : Shape := ⟨2, ![3712, 1024]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x14848, .bf16⟩
  | .hbm, ⟨1, _⟩ => ⟨S14848x4096, .bf16⟩
  | .hbm, ⟨2, _⟩ => ⟨S4224x4096, .f32⟩
  | .local _ .vmem, ⟨0, _⟩ => ⟨S1056x3712, .bf16⟩
  | .local _ .vmem, ⟨1, _⟩ => ⟨S1056x3712, .bf16⟩
  | .local _ .vmem, ⟨2, _⟩ => ⟨S3712x1024, .bf16⟩
  | .local _ .vmem, ⟨3, _⟩ => ⟨S3712x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3712x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S4224x14848 : Shape := ⟨2, ![4224, 14848]⟩
abbrev S14848x4096 : Shape := ⟨2, ![14848, 4096]⟩
abbrev S4096x14848 : Shape := ⟨2, ![4096, 14848]⟩
abbrev S_ : Shape := ⟨0, ![]⟩
abbrev S4224x4096 : Shape := ⟨2, ![4224, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4224x14848, .bf16⟩
  | .hbm, ⟨1, _⟩ => ⟨S14848x4096, .bf16⟩
  | .hbm, ⟨2, _⟩ => ⟨S14848x4096, .f32⟩
  | .hbm, ⟨3, _⟩ => ⟨S4096x14848, .f32⟩
  | .hbm, ⟨4, _⟩ => ⟨S4224x14848, .f32⟩
  | .hbm, ⟨5, _⟩ => ⟨S_, .f32⟩
  | .hbm, ⟨6, _⟩ => ⟨S4224x4096, .f32⟩
  | .hbm, ⟨7, _⟩ => ⟨S4224x14848, .f32⟩
  | .hbm, ⟨8, _⟩ => ⟨S4224x4096, .f32⟩
  | _, _ => ⟨S4224x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SwigluDx.lean ====
abbrev S4224x4096 : Shape := ⟨2, ![4224, 4096]⟩
abbrev S11008x4096 : Shape := ⟨2, ![11008, 4096]⟩
abbrev S4224x11008 : Shape := ⟨2, ![4224, 11008]⟩
abbrev S2x4224x11008 : Shape := ⟨3, ![2, 4224, 11008]⟩
abbrev S1056x4096 : Shape := ⟨2, ![1056, 4096]⟩
abbrev S256x4096 : Shape := ⟨2, ![256, 4096]⟩
abbrev S1056x256 : Shape := ⟨2, ![1056, 256]⟩
abbrev S2x1056x256 : Shape := ⟨3, ![2, 1056, 256]⟩
abbrev S1x1056x256 : Shape := ⟨3, ![1, 1056, 256]⟩

abbrev nBuf : Space → Nat
  | .hbm => 5
  | .vmem => 10
  | .smem => 0
  | _ => 0

abbrev bufTy : (tb : Table) → Fin (tcTables nBuf tb) → BufTy
  | .hbm, ⟨0, _⟩ => ⟨S4224x4096, .bf16⟩
  | .hbm, ⟨1, _⟩ => ⟨S11008x4096, .bf16⟩
  | .hbm, ⟨2, _⟩ => ⟨S4224x11008, .bf16⟩
  | .hbm, ⟨3, _⟩ => ⟨S4224x11008, .bf16⟩
  | .hbm, ⟨4, _⟩ => ⟨S2x4224x11008, .bf16⟩
  | .local _ .vmem, ⟨0, _⟩ => ⟨S1056x4096, .bf16⟩
  | .local _ .vmem, ⟨1, _⟩ => ⟨S1056x4096, .bf16⟩
  | .local _ .vmem, ⟨2, _⟩ => ⟨S256x4096, .bf16⟩
  | .local _ .vmem, ⟨3, _⟩ => ⟨S256x4096, .bf16⟩
  | .local _ .vmem, ⟨4, _⟩ => ⟨S1056x256, .bf16⟩
  | .local _ .vmem, ⟨5, _⟩ => ⟨S1056x256, .bf16⟩
  | .local _ .vmem, ⟨6, _⟩ => ⟨S1056x256, .bf16⟩
  | .local _ .vmem, ⟨7, _⟩ => ⟨S1056x256, .bf16⟩
  | .local _ .vmem, ⟨8, _⟩ => ⟨S2x1056x256, .bf16⟩
  | .local _ .vmem, ⟨9, _⟩ => ⟨S2x1056x256, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1056x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluDxReferenceIdeal.lean ====
abbrev S4224x4096 : Shape := ⟨2, ![4224, 4096]⟩
abbrev S11008x4096 : Shape := ⟨2, ![11008, 4096]⟩
abbrev S4224x11008 : Shape := ⟨2, ![4224, 11008]⟩
abbrev S_ : Shape := ⟨0, ![]⟩
abbrev S1x4224x11008 : Shape := ⟨3, ![1, 4224, 11008]⟩
abbrev S2x4224x11008 : Shape := ⟨3, ![2, 4224, 11008]⟩

abbrev nBuf : Space → Nat
  | .hbm => 34
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S11008x4096, .bf16⟩
  | .hbm, ⟨2, _⟩ => ⟨S4224x11008, .bf16⟩
  | .hbm, ⟨3, _⟩ => ⟨S4224x11008, .bf16⟩
  | .hbm, ⟨4, _⟩ => ⟨S4224x4096, .f32⟩
  | .hbm, ⟨5, _⟩ => ⟨S11008x4096, .f32⟩
  | .hbm, ⟨6, _⟩ => ⟨S4224x11008, .f32⟩
  | .hbm, ⟨7, _⟩ => ⟨S4224x11008, .f32⟩
  | .hbm, ⟨8, _⟩ => ⟨S4224x11008, .f32⟩
  | .hbm, ⟨9, _⟩ => ⟨S4224x11008, .f32⟩
  | .hbm, ⟨10, _⟩ => ⟨S_, .f32⟩
  | .hbm, ⟨11, _⟩ => ⟨S4224x11008, .f32⟩
  | .hbm, ⟨12, _⟩ => ⟨S4224x11008, .f32⟩
  | .hbm, ⟨13, _⟩ => ⟨S_, .f32⟩
  | .hbm, ⟨14, _⟩ => ⟨S4224x11008, .f32⟩
  | .hbm, ⟨15, _⟩ => ⟨S4224x11008, .f32⟩
  | .hbm, ⟨16, _⟩ => ⟨S_, .f32⟩
  | .hbm, ⟨17, _⟩ => ⟨S4224x11008, .f32⟩
  | .hbm, ⟨18, _⟩ => ⟨S4224x11008, .f32⟩
  | .hbm, ⟨19, _⟩ => ⟨S4224x11008, .f32⟩
  | .hbm, ⟨20, _⟩ => ⟨S4224x11008, .f32⟩
  | .hbm, ⟨21, _⟩ => ⟨S4224x11008, .f32⟩
  | .hbm, ⟨22, _⟩ => ⟨S4224x4096, .f32⟩
  | .hbm, ⟨23, _⟩ => ⟨S4224x11008, .f32⟩
  | .hbm, ⟨24, _⟩ => ⟨S4224x11008, .f32⟩
  | .hbm, ⟨25, _⟩ => ⟨S4224x11008, .f32⟩
  | .hbm, ⟨26, _⟩ => ⟨S4224x11008, .f32⟩
  | .hbm, ⟨27, _⟩ => ⟨S4224x11008, .f32⟩
  | .hbm, ⟨28, _⟩ => ⟨S4224x11008, .f32⟩
  | .hbm, ⟨29, _⟩ => ⟨S4224x11008, .f32⟩
  | .hbm, ⟨30, _⟩ => ⟨S1x4224x11008, .f32⟩
  | .hbm, ⟨31, _⟩ => ⟨S1x4224x11008, .f32⟩
  | .hbm, ⟨32, _⟩ => ⟨S2x4224x11008, .f32⟩
  | .hbm, ⟨33, _⟩ => ⟨S2x4224x11008, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== AdamWide.lean ====
abbrev S2048x512 : Shape := ⟨2, ![2048, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWideReferenceIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S424x128 : Shape := ⟨2, ![424, 128]⟩

abbrev nBuf : Space → Nat
  | .hbm => 7
  | .vmem => 7
  | .smem => 0
  | _ => 0

abbrev bufTy : (tb : Table) → Fin (tcTables nBuf tb) → BufTy
  | .hbm, ⟨0, _⟩ => ⟨S424x128, .f32⟩
  | .hbm, ⟨1, _⟩ => ⟨S424x128, .f32⟩
  | .hbm, ⟨2, _⟩ => ⟨S424x128, .f32⟩
  | .hbm, ⟨3, _⟩ => ⟨S424x128, .f32⟩
  | .hbm, ⟨4, _⟩ => ⟨S424x128, .f32⟩
  | .hbm, ⟨5, _⟩ => ⟨S424x128, .f32⟩
  | .hbm, ⟨6, _⟩ => ⟨S424x128, .f32⟩
  | .local _ .vmem, ⟨0, _⟩ => ⟨S424x128, .f32⟩
  | .local _ .vmem, ⟨1, _⟩ => ⟨S424x128, .f32⟩
  | .local _ .vmem, ⟨2, _⟩ => ⟨S424x128, .f32⟩
  | .local _ .vmem, ⟨3, _⟩ => ⟨S424x128, .f32⟩
  | .local _ .vmem, ⟨4, _⟩ => ⟨S424x128, .f32⟩
  | .local _ .vmem, ⟨5, _⟩ => ⟨S424x128, .f32⟩
  | .local _ .vmem, ⟨6, _⟩ => ⟨S424x128, .f32⟩
  | _, _ => ⟨S424x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S424x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S424x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S424x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S424x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S424x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S424x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S424x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallReferenceIdeal.lean ====
abbrev S424x128 : Shape := ⟨2, ![424, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S424x128, .f32⟩
  | .hbm, ⟨1, _⟩ => ⟨S424x128, .f32⟩
  | .hbm, ⟨2, _⟩ => ⟨S424x128, .f32⟩
  | .hbm, ⟨3, _⟩ => ⟨S424x128, .f32⟩
  | .hbm, ⟨4, _⟩ => ⟨S_, .f32⟩
  | .hbm, ⟨5, _⟩ => ⟨S424x128, .f32⟩
  | .hbm, ⟨6, _⟩ => ⟨S424x128, .f32⟩
  | .hbm, ⟨7, _⟩ => ⟨S_, .f32⟩
  | .hbm, ⟨8, _⟩ => ⟨S424x128, .f32⟩
  | .hbm, ⟨9, _⟩ => ⟨S424x128, .f32⟩
  | .hbm, ⟨10, _⟩ => ⟨S424x128, .f32⟩
  | .hbm, ⟨11, _⟩ => ⟨S_, .f32⟩
  | .hbm, ⟨12, _⟩ => ⟨S424x128, .f32⟩
  | .hbm, ⟨13, _⟩ => ⟨S424x128, .f32⟩
  | .hbm, ⟨14, _⟩ => ⟨S424x128, .f32⟩
  | .hbm, ⟨15, _⟩ => ⟨S_, .f32⟩
  | .hbm, ⟨16, _⟩ => ⟨S424x128, .f32⟩
  | .hbm, ⟨17, _⟩ => ⟨S424x128, .f32⟩
  | .hbm, ⟨18, _⟩ => ⟨S424x128, .f32⟩
  | .hbm, ⟨19, _⟩ => ⟨S_, .f32⟩
  | .hbm, ⟨20, _⟩ => ⟨S424x128, .f32⟩
  | .hbm, ⟨21, _⟩ => ⟨S424x128, .f32⟩
  | .hbm, ⟨22, _⟩ => ⟨S_, .f32⟩
  | .hbm, ⟨23, _⟩ => ⟨S424x128, .f32⟩
  | .hbm, ⟨24, _⟩ => ⟨S424x128, .f32⟩
  | .hbm, ⟨25, _⟩ => ⟨S424x128, .f32⟩
  | .hbm, ⟨26, _⟩ => ⟨S_, .f32⟩
  | .hbm, ⟨27, _⟩ => ⟨S424x128, .f32⟩
  | .hbm, ⟨28, _⟩ => ⟨S424x128, .f32⟩
  | .hbm, ⟨29, _⟩ => ⟨S424x128, .f32⟩
  | .hbm, ⟨30, _⟩ => ⟨S_, .f32⟩
  | .hbm, ⟨31, _⟩ => ⟨S424x128, .f32⟩
  | .hbm, ⟨32, _⟩ => ⟨S424x128, .f32⟩
  | .hbm, ⟨33, _⟩ => ⟨S424x128, .f32⟩
  | .hbm, ⟨34, _⟩ => ⟨S_, .f32⟩
  | .hbm, ⟨35, _⟩ => ⟨S424x128, .f32⟩
  | .hbm, ⟨36, _⟩ => ⟨S424x128, .f32⟩
  | _, _ => ⟨S424x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x1304x128 : Shape := ⟨3, ![8, 1304, 128]⟩
abbrev S1304x128 : Shape := ⟨2, ![1304, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1304x128, .f32⟩
  | .hbm, ⟨1, _⟩ => ⟨S1304x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | _, _ => ⟨S8x1304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![163], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallReferenceIdeal.lean ====
abbrev S8x1304x128 : Shape := ⟨3, ![8, 1304, 128]⟩
abbrev S_ : Shape := ⟨0, ![]⟩
abbrev S1304x128 : Shape := ⟨2, ![1304, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1304x128, .f32⟩
  | .hbm, ⟨1, _⟩ => ⟨S_, .f32⟩
  | .hbm, ⟨2, _⟩ => ⟨S1304x128, .f32⟩
  | _, _ => ⟨S8x1304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumAttn.lean ====
abbrev S1 : Shape := ⟨1, ![1]⟩
abbrev S4x512x2048 : Shape := ⟨3, ![4, 512, 2048]⟩
abbrev S512x2048 : Shape := ⟨2, ![512, 2048]⟩
abbrev S1x256x2048 : Shape := ⟨3, ![1, 256, 2048]⟩
abbrev S4x256x2048 : Shape := ⟨3, ![4, 256, 2048]⟩
abbrev S256x2048 : Shape := ⟨2, ![256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4x512x2048, .bf16⟩
  | .hbm, ⟨1, _⟩ => ⟨S4x512x2048, .bf16⟩
  | .hbm, ⟨2, _⟩ => ⟨S512x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S4x256x2048, .bf16⟩
  | .local _ .vmem, ⟨3, _⟩ => ⟨S4x256x2048, .bf16⟩
  | .local _ .vmem, ⟨4, _⟩ => ⟨S256x2048, .f32⟩
  | .local _ .vmem, ⟨5, _⟩ => ⟨S256x2048, .f32⟩
  | .local _ .smem, ⟨0, _⟩ => ⟨S1, .i32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumAttnReferenceIdeal.lean ====
abbrev S1 : Shape := ⟨1, ![1]⟩
abbrev S4x512x2048 : Shape := ⟨3, ![4, 512, 2048]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩
abbrev S512x2048 : Shape := ⟨2, ![512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x2048, .bf16⟩
  | .hbm, ⟨2, _⟩ => ⟨S4x512x2048, .bf16⟩
  | .hbm, ⟨3, _⟩ => ⟨S4, .i32⟩
  | .hbm, ⟨4, _⟩ => ⟨S4x1x1, .i32⟩
  | .hbm, ⟨5, _⟩ => ⟨S1x1x1, .i32⟩
  | .hbm, ⟨6, _⟩ => ⟨S4x1x1, .i32⟩
  | .hbm, ⟨7, _⟩ => ⟨S4x1x1, .i1⟩
  | .hbm, ⟨8, _⟩ => ⟨S4x512x2048, .f32⟩
  | .hbm, ⟨9, _⟩ => ⟨S4x512x2048, .f32⟩
  | .hbm, ⟨10, _⟩ => ⟨S4x512x2048, .i1⟩
  | .hbm, ⟨11, _⟩ => ⟨S4x512x2048, .f32⟩
  | .hbm, ⟨12, _⟩ => ⟨S_, .f32⟩
  | .hbm, ⟨13, _⟩ => ⟨S512x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== StepDown.lean ====
abbrev S1 : Shape := ⟨1, ![1]⟩
abbrev S4x1376x4096 : Shape := ⟨3, ![4, 1376, 4096]⟩
abbrev S1376x4096 : Shape := ⟨2, ![1376, 4096]⟩
abbrev S1x32x4096 : Shape := ⟨3, ![1, 32, 4096]⟩
abbrev S4x32x4096 : Shape := ⟨3, ![4, 32, 4096]⟩
abbrev S32x4096 : Shape := ⟨2, ![32, 4096]⟩

abbrev nBuf : Space → Nat
  | .hbm => 9
  | .vmem => 18
  | .smem => 1
  | _ => 0

abbrev bufTy : (tb : Table) → Fin (tcTables nBuf tb) → BufTy
  | .hbm, ⟨0, _⟩ => ⟨S4x1376x4096, .bf16⟩
  | .hbm, ⟨1, _⟩ => ⟨S4x1376x4096, .bf16⟩
  | .hbm, ⟨2, _⟩ => ⟨S1376x4096, .f32⟩
  | .hbm, ⟨3, _⟩ => ⟨S1376x4096, .f32⟩
  | .hbm, ⟨4, _⟩ => ⟨S1376x4096, .f32⟩
  | .hbm, ⟨5, _⟩ => ⟨S1376x4096, .f32⟩
  | .hbm, ⟨6, _⟩ => ⟨S1376x4096, .f32⟩
  | .hbm, ⟨7, _⟩ => ⟨S1376x4096, .f32⟩
  | .hbm, ⟨8, _⟩ => ⟨S1376x4096, .f32⟩
  | .local _ .vmem, ⟨0, _⟩ => ⟨S1x32x4096, .bf16⟩
  | .local _ .vmem, ⟨1, _⟩ => ⟨S1x32x4096, .bf16⟩
  | .local _ .vmem, ⟨2, _⟩ => ⟨S4x32x4096, .bf16⟩
  | .local _ .vmem, ⟨3, _⟩ => ⟨S4x32x4096, .bf16⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | .local _ .vmem, ⟨16, _⟩ => ⟨S32x4096, .f32⟩
  | .local _ .vmem, ⟨17, _⟩ => ⟨S32x4096, .f32⟩
  | .local _ .smem, ⟨0, _⟩ => ⟨S1, .i32⟩
  | _, _ => ⟨S4x1376x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![43], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepDownReferenceIdeal.lean ====
abbrev S1 : Shape := ⟨1, ![1]⟩
abbrev S4x1376x4096 : Shape := ⟨3, ![4, 1376, 4096]⟩
abbrev S1376x4096 : Shape := ⟨2, ![1376, 4096]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1376x4096, .bf16⟩
  | .hbm, ⟨2, _⟩ => ⟨S4x1376x4096, .bf16⟩
  | .hbm, ⟨3, _⟩ => ⟨S1376x4096, .f32⟩
  | .hbm, ⟨4, _⟩ => ⟨S1376x4096, .f32⟩
  | .hbm, ⟨5, _⟩ => ⟨S1376x4096, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x1376x4096, .f32⟩
  | .hbm, ⟨12, _⟩ => ⟨S4x1376x4096, .f32⟩
  | .hbm, ⟨13, _⟩ => ⟨S4x1376x4096, .i1⟩
  | .hbm, ⟨14, _⟩ => ⟨S4x1376x4096, .f32⟩
  | .hbm, ⟨15, _⟩ => ⟨S_, .f32⟩
  | .hbm, ⟨16, _⟩ => ⟨S1376x4096, .f32⟩
  | .hbm, ⟨17, _⟩ => ⟨S_, .f32⟩
  | .hbm, ⟨18, _⟩ => ⟨S1376x4096, .f32⟩
  | .hbm, ⟨19, _⟩ => ⟨S1376x4096, .f32⟩
  | .hbm, ⟨20, _⟩ => ⟨S_, .f32⟩
  | .hbm, ⟨21, _⟩ => ⟨S1376x4096, .f32⟩
  | .hbm, ⟨22, _⟩ => ⟨S1376x4096, .f32⟩
  | .hbm, ⟨23, _⟩ => ⟨S1376x4096, .f32⟩
  | .hbm, ⟨24, _⟩ => ⟨S_, .f32⟩
  | .hbm, ⟨25, _⟩ => ⟨S1376x4096, .f32⟩
  | .hbm, ⟨26, _⟩ => ⟨S1376x4096, .f32⟩
  | .hbm, ⟨27, _⟩ => ⟨S1376x4096, .f32⟩
  | .hbm, ⟨28, _⟩ => ⟨S_, .f32⟩
  | .hbm, ⟨29, _⟩ => ⟨S1376x4096, .f32⟩
  | .hbm, ⟨30, _⟩ => ⟨S1376x4096, .f32⟩
  | .hbm, ⟨31, _⟩ => ⟨S1376x4096, .f32⟩
  | .hbm, ⟨32, _⟩ => ⟨S_, .f32⟩
  | .hbm, ⟨33, _⟩ => ⟨S1376x4096, .f32⟩
  | .hbm, ⟨34, _⟩ => ⟨S1376x4096, .f32⟩
  | .hbm, ⟨35, _⟩ => ⟨S_, .f32⟩
  | .hbm, ⟨36, _⟩ => ⟨S1376x4096, .f32⟩
  | .hbm, ⟨37, _⟩ => ⟨S1376x4096, .f32⟩
  | .hbm, ⟨38, _⟩ => ⟨S1376x4096, .f32⟩
  | .hbm, ⟨39, _⟩ => ⟨S_, .f32⟩
  | .hbm, ⟨40, _⟩ => ⟨S1376x4096, .f32⟩
  | .hbm, ⟨41, _⟩ => ⟨S1376x4096, .f32⟩
  | .hbm, ⟨42, _⟩ => ⟨S1376x4096, .f32⟩
  | .hbm, ⟨43, _⟩ => ⟨S_, .f32⟩
  | .hbm, ⟨44, _⟩ => ⟨S1376x4096, .f32⟩
  | .hbm, ⟨45, _⟩ => ⟨S1376x4096, .f32⟩
  | .hbm, ⟨46, _⟩ => ⟨S1376x4096, .f32⟩
  | .hbm, ⟨47, _⟩ => ⟨S_, .f32⟩
  | .hbm, ⟨48, _⟩ => ⟨S1376x4096, .f32⟩
  | .hbm, ⟨49, _⟩ => ⟨S1376x4096, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== StepGateUp.lean ====
abbrev S1 : Shape := ⟨1, ![1]⟩
abbrev S4x2752x4096 : Shape := ⟨3, ![4, 2752, 4096]⟩
abbrev S2752x4096 : Shape := ⟨2, ![2752, 4096]⟩
abbrev S1x64x4096 : Shape := ⟨3, ![1, 64, 4096]⟩
abbrev S4x64x4096 : Shape := ⟨3, ![4, 64, 4096]⟩
abbrev S64x4096 : Shape := ⟨2, ![64, 4096]⟩

abbrev nBuf : Space → Nat
  | .hbm => 9
  | .vmem => 18
  | .smem => 1
  | _ => 0

abbrev bufTy : (tb : Table) → Fin (tcTables nBuf tb) → BufTy
  | .hbm, ⟨0, _⟩ => ⟨S4x2752x4096, .bf16⟩
  | .hbm, ⟨1, _⟩ => ⟨S4x2752x4096, .bf16⟩
  | .hbm, ⟨2, _⟩ => ⟨S2752x4096, .f32⟩
  | .hbm, ⟨3, _⟩ => ⟨S2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .hbm, ⟨8, _⟩ => ⟨S2752x4096, .f32⟩
  | .local _ .vmem, ⟨0, _⟩ => ⟨S1x64x4096, .bf16⟩
  | .local _ .vmem, ⟨1, _⟩ => ⟨S1x64x4096, .bf16⟩
  | .local _ .vmem, ⟨2, _⟩ => ⟨S4x64x4096, .bf16⟩
  | .local _ .vmem, ⟨3, _⟩ => ⟨S4x64x4096, .bf16⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .smem, ⟨0, _⟩ => ⟨S1, .i32⟩
  | _, _ => ⟨S4x2752x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![43], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepGateUpReferenceIdeal.lean ====
abbrev S1 : Shape := ⟨1, ![1]⟩
abbrev S4x2752x4096 : Shape := ⟨3, ![4, 2752, 4096]⟩
abbrev S2752x4096 : Shape := ⟨2, ![2752, 4096]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2752x4096, .bf16⟩
  | .hbm, ⟨2, _⟩ => ⟨S4x2752x4096, .bf16⟩
  | .hbm, ⟨3, _⟩ => ⟨S2752x4096, .f32⟩
  | .hbm, ⟨4, _⟩ => ⟨S2752x4096, .f32⟩
  | .hbm, ⟨5, _⟩ => ⟨S2752x4096, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x2752x4096, .f32⟩
  | .hbm, ⟨12, _⟩ => ⟨S4x2752x4096, .f32⟩
  | .hbm, ⟨13, _⟩ => ⟨S4x2752x4096, .i1⟩
  | .hbm, ⟨14, _⟩ => ⟨S4x2752x4096, .f32⟩
  | .hbm, ⟨15, _⟩ => ⟨S_, .f32⟩
  | .hbm, ⟨16, _⟩ => ⟨S2752x4096, .f32⟩
  | .hbm, ⟨17, _⟩ => ⟨S_, .f32⟩
  | .hbm, ⟨18, _⟩ => ⟨S2752x4096, .f32⟩
  | .hbm, ⟨19, _⟩ => ⟨S2752x4096, .f32⟩
  | .hbm, ⟨20, _⟩ => ⟨S_, .f32⟩
  | .hbm, ⟨21, _⟩ => ⟨S2752x4096, .f32⟩
  | .hbm, ⟨22, _⟩ => ⟨S2752x4096, .f32⟩
  | .hbm, ⟨23, _⟩ => ⟨S2752x4096, .f32⟩
  | .hbm, ⟨24, _⟩ => ⟨S_, .f32⟩
  | .hbm, ⟨25, _⟩ => ⟨S2752x4096, .f32⟩
  | .hbm, ⟨26, _⟩ => ⟨S2752x4096, .f32⟩
  | .hbm, ⟨27, _⟩ => ⟨S2752x4096, .f32⟩
  | .hbm, ⟨28, _⟩ => ⟨S_, .f32⟩
  | .hbm, ⟨29, _⟩ => ⟨S2752x4096, .f32⟩
  | .hbm, ⟨30, _⟩ => ⟨S2752x4096, .f32⟩
  | .hbm, ⟨31, _⟩ => ⟨S2752x4096, .f32⟩
  | .hbm, ⟨32, _⟩ => ⟨S_, .f32⟩
  | .hbm, ⟨33, _⟩ => ⟨S2752x4096, .f32⟩
  | .hbm, ⟨34, _⟩ => ⟨S2752x4096, .f32⟩
  | .hbm, ⟨35, _⟩ => ⟨S_, .f32⟩
  | .hbm, ⟨36, _⟩ => ⟨S2752x4096, .f32⟩
  | .hbm, ⟨37, _⟩ => ⟨S2752x4096, .f32⟩
  | .hbm, ⟨38, _⟩ => ⟨S2752x4096, .f32⟩
  | .hbm, ⟨39, _⟩ => ⟨S_, .f32⟩
  | .hbm, ⟨40, _⟩ => ⟨S2752x4096, .f32⟩
  | .hbm, ⟨41, _⟩ => ⟨S2752x4096, .f32⟩
  | .hbm, ⟨42, _⟩ => ⟨S2752x4096, .f32⟩
  | .hbm, ⟨43, _⟩ => ⟨S_, .f32⟩
  | .hbm, ⟨44, _⟩ => ⟨S2752x4096, .f32⟩
  | .hbm, ⟨45, _⟩ => ⟨S2752x4096, .f32⟩
  | .hbm, ⟨46, _⟩ => ⟨S2752x4096, .f32⟩
  | .hbm, ⟨47, _⟩ => ⟨S_, .f32⟩
  | .hbm, ⟨48, _⟩ => ⟨S2752x4096, .f32⟩
  | .hbm, ⟨49, _⟩ => ⟨S2752x4096, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== StepOut.lean ====
abbrev S1 : Shape := ⟨1, ![1]⟩
abbrev S4x512x4096 : Shape := ⟨3, ![4, 512, 4096]⟩
abbrev S512x4096 : Shape := ⟨2, ![512, 4096]⟩
abbrev S1x128x4096 : Shape := ⟨3, ![1, 128, 4096]⟩
abbrev S4x128x4096 : Shape := ⟨3, ![4, 128, 4096]⟩
abbrev S128x4096 : Shape := ⟨2, ![128, 4096]⟩

abbrev nBuf : Space → Nat
  | .hbm => 9
  | .vmem => 18
  | .smem => 1
  | _ => 0

abbrev bufTy : (tb : Table) → Fin (tcTables nBuf tb) → BufTy
  | .hbm, ⟨0, _⟩ => ⟨S4x512x4096, .bf16⟩
  | .hbm, ⟨1, _⟩ => ⟨S4x512x4096, .bf16⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .local _ .vmem, ⟨0, _⟩ => ⟨S1x128x4096, .bf16⟩
  | .local _ .vmem, ⟨1, _⟩ => ⟨S1x128x4096, .bf16⟩
  | .local _ .vmem, ⟨2, _⟩ => ⟨S4x128x4096, .bf16⟩
  | .local _ .vmem, ⟨3, _⟩ => ⟨S4x128x4096, .bf16⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .smem, ⟨0, _⟩ => ⟨S1, .i32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepOutReferenceIdeal.lean ====
abbrev S1 : Shape := ⟨1, ![1]⟩
abbrev S4x512x4096 : Shape := ⟨3, ![4, 512, 4096]⟩
abbrev S512x4096 : Shape := ⟨2, ![512, 4096]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x4096, .bf16⟩
  | .hbm, ⟨2, _⟩ => ⟨S4x512x4096, .bf16⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x512x4096, .f32⟩
  | .hbm, ⟨12, _⟩ => ⟨S4x512x4096, .f32⟩
  | .hbm, ⟨13, _⟩ => ⟨S4x512x4096, .i1⟩
  | .hbm, ⟨14, _⟩ => ⟨S4x512x4096, .f32⟩
  | .hbm, ⟨15, _⟩ => ⟨S_, .f32⟩
  | .hbm, ⟨16, _⟩ => ⟨S512x4096, .f32⟩
  | .hbm, ⟨17, _⟩ => ⟨S_, .f32⟩
  | .hbm, ⟨18, _⟩ => ⟨S512x4096, .f32⟩
  | .hbm, ⟨19, _⟩ => ⟨S512x4096, .f32⟩
  | .hbm, ⟨20, _⟩ => ⟨S_, .f32⟩
  | .hbm, ⟨21, _⟩ => ⟨S512x4096, .f32⟩
  | .hbm, ⟨22, _⟩ => ⟨S512x4096, .f32⟩
  | .hbm, ⟨23, _⟩ => ⟨S512x4096, .f32⟩
  | .hbm, ⟨24, _⟩ => ⟨S_, .f32⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S_, .f32⟩
  | .hbm, ⟨29, _⟩ => ⟨S512x4096, .f32⟩
  | .hbm, ⟨30, _⟩ => ⟨S512x4096, .f32⟩
  | .hbm, ⟨31, _⟩ => ⟨S512x4096, .f32⟩
  | .hbm, ⟨32, _⟩ => ⟨S_, .f32⟩
  | .hbm, ⟨33, _⟩ => ⟨S512x4096, .f32⟩
  | .hbm, ⟨34, _⟩ => ⟨S512x4096, .f32⟩
  | .hbm, ⟨35, _⟩ => ⟨S_, .f32⟩
  | .hbm, ⟨36, _⟩ => ⟨S512x4096, .f32⟩
  | .hbm, ⟨37, _⟩ => ⟨S512x4096, .f32⟩
  | .hbm, ⟨38, _⟩ => ⟨S512x4096, .f32⟩
  | .hbm, ⟨39, _⟩ => ⟨S_, .f32⟩
  | .hbm, ⟨40, _⟩ => ⟨S512x4096, .f32⟩
  | .hbm, ⟨41, _⟩ => ⟨S512x4096, .f32⟩
  | .hbm, ⟨42, _⟩ => ⟨S512x4096, .f32⟩
  | .hbm, ⟨43, _⟩ => ⟨S_, .f32⟩
  | .hbm, ⟨44, _⟩ => ⟨S512x4096, .f32⟩
  | .hbm, ⟨45, _⟩ => ⟨S512x4096, .f32⟩
  | .hbm, ⟨46, _⟩ => ⟨S512x4096, .f32⟩
  | .hbm, ⟨47, _⟩ => ⟨S_, .f32⟩
  | .hbm, ⟨48, _⟩ => ⟨S512x4096, .f32⟩
  | .hbm, ⟨49, _⟩ => ⟨S512x4096, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== StepIn.lean ====
abbrev S1 : Shape := ⟨1, ![1]⟩
abbrev S4x1856x4096 : Shape := ⟨3, ![4, 1856, 4096]⟩
abbrev S1856x4096 : Shape := ⟨2, ![1856, 4096]⟩
abbrev S1x64x4096 : Shape := ⟨3, ![1, 64, 4096]⟩
abbrev S4x64x4096 : Shape := ⟨3, ![4, 64, 4096]⟩
abbrev S64x4096 : Shape := ⟨2, ![64, 4096]⟩

abbrev nBuf : Space → Nat
  | .hbm => 9
  | .vmem => 18
  | .smem => 1
  | _ => 0

abbrev bufTy : (tb : Table) → Fin (tcTables nBuf tb) → BufTy
  | .hbm, ⟨0, _⟩ => ⟨S4x1856x4096, .bf16⟩
  | .hbm, ⟨1, _⟩ => ⟨S4x1856x4096, .bf16⟩
  | .hbm, ⟨2, _⟩ => ⟨S1856x4096, .f32⟩
  | .hbm, ⟨3, _⟩ => ⟨S1856x4096, .f32⟩
  | .hbm, ⟨4, _⟩ => ⟨S1856x4096, .f32⟩
  | .hbm, ⟨5, _⟩ => ⟨S1856x4096, .f32⟩
  | .hbm, ⟨6, _⟩ => ⟨S1856x4096, .f32⟩
  | .hbm, ⟨7, _⟩ => ⟨S1856x4096, .f32⟩
  | .hbm, ⟨8, _⟩ => ⟨S1856x4096, .f32⟩
  | .local _ .vmem, ⟨0, _⟩ => ⟨S1x64x4096, .bf16⟩
  | .local _ .vmem, ⟨1, _⟩ => ⟨S1x64x4096, .bf16⟩
  | .local _ .vmem, ⟨2, _⟩ => ⟨S4x64x4096, .bf16⟩
  | .local _ .vmem, ⟨3, _⟩ => ⟨S4x64x4096, .bf16⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .smem, ⟨0, _⟩ => ⟨S1, .i32⟩
  | _, _ => ⟨S4x1856x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![29], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepInReferenceIdeal.lean ====
abbrev S1 : Shape := ⟨1, ![1]⟩
abbrev S4x1856x4096 : Shape := ⟨3, ![4, 1856, 4096]⟩
abbrev S1856x4096 : Shape := ⟨2, ![1856, 4096]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1856x4096, .bf16⟩
  | .hbm, ⟨2, _⟩ => ⟨S4x1856x4096, .bf16⟩
  | .hbm, ⟨3, _⟩ => ⟨S1856x4096, .f32⟩
  | .hbm, ⟨4, _⟩ => ⟨S1856x4096, .f32⟩
  | .hbm, ⟨5, _⟩ => ⟨S1856x4096, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x1856x4096, .f32⟩
  | .hbm, ⟨12, _⟩ => ⟨S4x1856x4096, .f32⟩
  | .hbm, ⟨13, _⟩ => ⟨S4x1856x4096, .i1⟩
  | .hbm, ⟨14, _⟩ => ⟨S4x1856x4096, .f32⟩
  | .hbm, ⟨15, _⟩ => ⟨S_, .f32⟩
  | .hbm, ⟨16, _⟩ => ⟨S1856x4096, .f32⟩
  | .hbm, ⟨17, _⟩ => ⟨S_, .f32⟩
  | .hbm, ⟨18, _⟩ => ⟨S1856x4096, .f32⟩
  | .hbm, ⟨19, _⟩ => ⟨S1856x4096, .f32⟩
  | .hbm, ⟨20, _⟩ => ⟨S_, .f32⟩
  | .hbm, ⟨21, _⟩ => ⟨S1856x4096, .f32⟩
  | .hbm, ⟨22, _⟩ => ⟨S1856x4096, .f32⟩
  | .hbm, ⟨23, _⟩ => ⟨S1856x4096, .f32⟩
  | .hbm, ⟨24, _⟩ => ⟨S_, .f32⟩
  | .hbm, ⟨25, _⟩ => ⟨S1856x4096, .f32⟩
  | .hbm, ⟨26, _⟩ => ⟨S1856x4096, .f32⟩
  | .hbm, ⟨27, _⟩ => ⟨S1856x4096, .f32⟩
  | .hbm, ⟨28, _⟩ => ⟨S_, .f32⟩
  | .hbm, ⟨29, _⟩ => ⟨S1856x4096, .f32⟩
  | .hbm, ⟨30, _⟩ => ⟨S1856x4096, .f32⟩
  | .hbm, ⟨31, _⟩ => ⟨S1856x4096, .f32⟩
  | .hbm, ⟨32, _⟩ => ⟨S_, .f32⟩
  | .hbm, ⟨33, _⟩ => ⟨S1856x4096, .f32⟩
  | .hbm, ⟨34, _⟩ => ⟨S1856x4096, .f32⟩
  | .hbm, ⟨35, _⟩ => ⟨S_, .f32⟩
  | .hbm, ⟨36, _⟩ => ⟨S1856x4096, .f32⟩
  | .hbm, ⟨37, _⟩ => ⟨S1856x4096, .f32⟩
  | .hbm, ⟨38, _⟩ => ⟨S1856x4096, .f32⟩
  | .hbm, ⟨39, _⟩ => ⟨S_, .f32⟩
  | .hbm, ⟨40, _⟩ => ⟨S1856x4096, .f32⟩
  | .hbm, ⟨41, _⟩ => ⟨S1856x4096, .f32⟩
  | .hbm, ⟨42, _⟩ => ⟨S1856x4096, .f32⟩
  | .hbm, ⟨43, _⟩ => ⟨S_, .f32⟩
  | .hbm, ⟨44, _⟩ => ⟨S1856x4096, .f32⟩
  | .hbm, ⟨45, _⟩ => ⟨S1856x4096, .f32⟩
  | .hbm, ⟨46, _⟩ => ⟨S1856x4096, .f32⟩
  | .hbm, ⟨47, _⟩ => ⟨S_, .f32⟩
  | .hbm, ⟨48, _⟩ => ⟨S1856x4096, .f32⟩
  | .hbm, ⟨49, _⟩ => ⟨S1856x4096, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== ConvGate.lean ====
abbrev S4224x2048 : Shape := ⟨2, ![4224, 2048]⟩
abbrev S4096x2048 : Shape := ⟨2, ![4096, 2048]⟩
abbrev S1x4096 : Shape := ⟨2, ![1, 4096]⟩
abbrev S4224x4096 : Shape := ⟨2, ![4224, 4096]⟩
abbrev S4224x8192 : Shape := ⟨2, ![4224, 8192]⟩
abbrev S1056x2048 : Shape := ⟨2, ![1056, 2048]⟩
abbrev S1024x2048 : Shape := ⟨2, ![1024, 2048]⟩
abbrev S1x1024 : Shape := ⟨2, ![1, 1024]⟩
abbrev S1056x1024 : Shape := ⟨2, ![1056, 1024]⟩

abbrev nBuf : Space → Nat
  | .hbm => 7
  | .vmem => 16
  | .smem => 0
  | _ => 0

abbrev bufTy : (tb : Table) → Fin (tcTables nBuf tb) → BufTy
  | .hbm, ⟨0, _⟩ => ⟨S4224x2048, .bf16⟩
  | .hbm, ⟨1, _⟩ => ⟨S4096x2048, .bf16⟩
  | .hbm, ⟨2, _⟩ => ⟨S1x4096, .f32⟩
  | .hbm, ⟨3, _⟩ => ⟨S4224x4096, .bf16⟩
  | .hbm, ⟨4, _⟩ => ⟨S4224x8192, .bf16⟩
  | .hbm, ⟨5, _⟩ => ⟨S4224x4096, .bf16⟩
  | .hbm, ⟨6, _⟩ => ⟨S4224x4096, .bf16⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1056x1024, .bf16⟩
  | .local _ .vmem, ⟨7, _⟩ => ⟨S1056x1024, .bf16⟩
  | .local _ .vmem, ⟨8, _⟩ => ⟨S1056x1024, .bf16⟩
  | .local _ .vmem, ⟨9, _⟩ => ⟨S1056x1024, .bf16⟩
  | .local _ .vmem, ⟨10, _⟩ => ⟨S1056x1024, .bf16⟩
  | .local _ .vmem, ⟨11, _⟩ => ⟨S1056x1024, .bf16⟩
  | .local _ .vmem, ⟨12, _⟩ => ⟨S1056x1024, .bf16⟩
  | .local _ .vmem, ⟨13, _⟩ => ⟨S1056x1024, .bf16⟩
  | .local _ .vmem, ⟨14, _⟩ => ⟨S1056x1024, .bf16⟩
  | .local _ .vmem, ⟨15, _⟩ => ⟨S1056x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvGateReferenceIdeal.lean ====
abbrev S4224x2048 : Shape := ⟨2, ![4224, 2048]⟩
abbrev S4096x2048 : Shape := ⟨2, ![4096, 2048]⟩
abbrev S1x4096 : Shape := ⟨2, ![1, 4096]⟩
abbrev S4224x4096 : Shape := ⟨2, ![4224, 4096]⟩
abbrev S4224x8192 : Shape := ⟨2, ![4224, 8192]⟩
abbrev S2048x4096 : Shape := ⟨2, ![2048, 4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4096x2048, .bf16⟩
  | .hbm, ⟨2, _⟩ => ⟨S1x4096, .f32⟩
  | .hbm, ⟨3, _⟩ => ⟨S4224x4096, .bf16⟩
  | .hbm, ⟨4, _⟩ => ⟨S4224x8192, .bf16⟩
  | .hbm, ⟨5, _⟩ => ⟨S4224x2048, .f32⟩
  | .hbm, ⟨6, _⟩ => ⟨S4096x2048, .f32⟩
  | .hbm, ⟨7, _⟩ => ⟨S2048x4096, .f32⟩
  | .hbm, ⟨8, _⟩ => ⟨S4224x4096, .f32⟩
  | .hbm, ⟨9, _⟩ => ⟨S4224x4096, .f32⟩
  | .hbm, ⟨10, _⟩ => ⟨S4224x4096, .f32⟩
  | .hbm, ⟨11, _⟩ => ⟨S4224x8192, .f32⟩
  | .hbm, ⟨12, _⟩ => ⟨S4224x4096, .f32⟩
  | .hbm, ⟨13, _⟩ => ⟨S4224x4096, .f32⟩
  | .hbm, ⟨14, _⟩ => ⟨S4224x4096, .f32⟩
  | .hbm, ⟨15, _⟩ => ⟨S4224x4096, .f32⟩
  | .hbm, ⟨16, _⟩ => ⟨S_, .f32⟩
  | .hbm, ⟨17, _⟩ => ⟨S4224x4096, .f32⟩
  | .hbm, ⟨18, _⟩ => ⟨S4224x4096, .f32⟩
  | .hbm, ⟨19, _⟩ => ⟨S_, .f32⟩
  | .hbm, ⟨20, _⟩ => ⟨S4224x4096, .f32⟩
  | .hbm, ⟨21, _⟩ => ⟨S4224x4096, .f32⟩
  | .hbm, ⟨22, _⟩ => ⟨S4224x4096, .f32⟩
  | .hbm, ⟨23, _⟩ => ⟨S4224x4096, .f32⟩
  | .hbm, ⟨24, _⟩ => ⟨S4224x4096, .f32⟩
  | .hbm, ⟨25, _⟩ => ⟨S4224x4096, .f32⟩
  | .hbm, ⟨26, _⟩ => ⟨S_, .f32⟩
  | .hbm, ⟨27, _⟩ => ⟨S4224x4096, .f32⟩
  | .hbm, ⟨28, _⟩ => ⟨S4224x4096, .f32⟩
  | .hbm, ⟨29, _⟩ => ⟨S_, .f32⟩
  | .hbm, ⟨30, _⟩ => ⟨S4224x4096, .f32⟩
  | .hbm, ⟨31, _⟩ => ⟨S4224x4096, .f32⟩
  | .hbm, ⟨32, _⟩ => ⟨S4224x4096, .f32⟩
  | .hbm, ⟨33, _⟩ => ⟨S4224x4096, .f32⟩
  | .hbm, ⟨34, _⟩ => ⟨S4224x4096, .bf16⟩
  | .hbm, ⟨35, _⟩ => ⟨S4224x4096, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== FfnNorm.lean ====
abbrev S4224x4096 : Shape := ⟨2, ![4224, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S4224x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnNormReferenceIdeal.lean ====
abbrev S4224x4096 : Shape := ⟨2, ![4224, 4096]⟩
abbrev S1x4096 : Shape := ⟨2, ![1, 4096]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S4224x4096, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x4096, .f32⟩
  | .hbm, ⟨14, _⟩ => ⟨S4224x4096, .f32⟩
  | .hbm, ⟨15, _⟩ => ⟨S4224x4096, .f32⟩
  | .hbm, ⟨16, _⟩ => ⟨S4224x4096, .f32⟩
  | .hbm, ⟨17, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Dw.Product.lean ====
/- Products of matrices over the extended reals, and indices of matrices by their coordinates. -/
module

public import Idealize.ShloMosaic.Lib.Pointwise

@[expose] public section

noncomputable section

namespace Cert.Product

open Idealize.ShloMosaic

/-- An index of a matrix is its two coordinates. -/
theorem ix2_coords {a b : ℕ} (y : (⟨2, ![a, b]⟩ : Shape).Idx) : y = ix2 (n0 := a) (n1 := b) (y 0) (y 1) :=
  funext fun d => by fin_cases d <;> rfl

theorem zeros : (![0, 0] : Fin 2 → ℕ) = fun _ => 0 := funext fun a => by fin_cases a <;> rfl
theorem zeros3 : (![0, 0, 0] : Fin 3 → ℕ) = fun _ => 0 := funext fun a => by fin_cases a <;> rfl

variable {K M N R : ℕ} {φ : FTy}

/-- The transposed left matrix times the right one. -/
def tn (a : FVec Ideal ⟨2, ![K, M]⟩ .bf16) (b : FVec Ideal ⟨2, ![K, N]⟩ .bf16) : FVec Ideal ⟨2, ![M, N]⟩ φ :=
  fun y => ∑ k : Fin K, a (ix2 k (y 0)) * b (ix2 k (y 1))

/-- The left matrix times the transposed right one. -/
def nt (a : FVec Ideal ⟨2, ![M, K]⟩ .bf16) (b : FVec Ideal ⟨2, ![N, K]⟩ .bf16) : FVec Ideal ⟨2, ![M, N]⟩ φ :=
  fun y => ∑ k : Fin K, a (ix2 (y 0) k) * b (ix2 (y 1) k)

/-- The left matrix times the right one. -/
def nn (a : FVec Ideal ⟨2, ![M, K]⟩ .bf16) (b : FVec Ideal ⟨2, ![K, N]⟩ .bf16) : FVec Ideal ⟨2, ![M, N]⟩ φ :=
  fun y => ∑ k : Fin K, a (ix2 (y 0) k) * b (ix2 k (y 1))

/-- The left matrix times the transposed rows of the right one from row `first` on, and a bias. -/
def rows (first : ℕ) (h : first + N ≤ R) (a : FVec Ideal ⟨2, ![M, K]⟩ .bf16) (b : FVec Ideal ⟨2, ![R, K]⟩ .bf16)
    (d : FVec Ideal ⟨2, ![1, N]⟩ .f32) : FVec Ideal ⟨2, ![M, N]⟩ φ :=
  fun y => (∑ k : Fin K, a (ix2 (y 0) k) * b (ix2 ⟨first + (y 1).val, lt_of_lt_of_le (Nat.add_lt_add_left (y 1).isLt first) h⟩ k)) + d (ix2 0 (y 1))

/-- The left matrix times the right one, and a matrix added. -/
def plus (a : FVec Ideal ⟨2, ![M, K]⟩ .bf16) (b : FVec Ideal ⟨2, ![K, N]⟩ .bf16) (d : FVec Ideal ⟨2, ![M, N]⟩ .f32) :
    FVec Ideal ⟨2, ![M, N]⟩ .f32 :=
  fun y => (∑ k : Fin K, a (ix2 (y 0) k) * b (ix2 k (y 1))) + d (ix2 (y 0) (y 1))

end Cert.Product

end
-- ==== Proof.Dw.GateUpDw.lean ====
/- The gradient of `w_gate_up`, transposed: the kernel and the reference compute one product over the extended reals. -/
module

public import proofs.«01_k».proof.Defs
public import proofs.«01_k».proof.Proof.Dw.Product
public import proofs.«01_k».proof.Proof.Gen.GateUpDw.Frame
public import proofs.«01_k».proof.Proof.Gen.GateUpDwIdeal.Frame
public import proofs.«01_k».proof.Proof.Gen.GateUpDwReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.GateUpDwReferenceIdeal

open Cert.GateUpDwReferenceIdeal.Gen Cert.Product
open Idealize.ShloMosaic Idealize.SL.Sem

/-- Row `i` of the result is column `i % 11008` of half `i / 11008` of the left array times the right one. -/
def product (a : FVec Ideal S2x4224x11008 .bf16) (b : FVec Ideal S4224x4096 .bf16) : FVec Ideal S22016x4096 .bf16 :=
  fun y => ∑ k : Fin 4224,
    a (ix3 (⟨(y 0).val / 11008, Nat.div_lt_of_lt_mul (y 0).isLt⟩ : Fin 2) k (⟨(y 0).val % 11008, Nat.mod_lt _ (by decide)⟩ : Fin 11008)) * b (ix2 k (y 1))

/-- The reference's term is the product. -/
theorem value_eq (a : FVec Ideal S2x4224x11008 .bf16) (b : FVec Ideal S4224x4096 .bf16) :
    (truncf .bf16 (transpose S22016x4096 [1, 0] (transpose S4096x22016 [1, 0] (Host.dotGeneral (φ₁ := .f32) (φ₂ := .f32) dot_S4224x22016_S4224x4096_S22016x4096_0_0_1_1_n_n none (concatenate S4224x22016 1 [⟨S4224x11008, (shapeCast _ (extractStridedSlice S1x4224x11008 ![0, 0, 0] (extf .f32 a bitsLt_bf16_f32) slices_S2x4224x11008_S1x4224x11008_0_0_0) shapeCasts_S1x4224x11008_S4224x11008)⟩, ⟨S4224x11008, (shapeCast _ (extractStridedSlice S1x4224x11008 ![1, 0, 0] (extf .f32 a bitsLt_bf16_f32) slices_S2x4224x11008_S1x4224x11008_1_0_0) shapeCasts_S1x4224x11008_S4224x11008)⟩] concatenates_S4224x11008_S4224x11008_S4224x22016_d1) (extf .f32 b bitsLt_bf16_f32)) transposes_S22016x4096_S4096x22016_1_0) transposes_S4096x22016_S22016x4096_1_0) bitsLt_bf16_f32 : FVec Ideal S22016x4096 .bf16) = product a b := by
  refine funext fun y => ?_
  rw [ix2_coords y]
  unfold product
  pointwise
  have hy : (y 0).val < 22016 := (y 0).isLt
  refine Finset.sum_congr rfl fun k _ => congrArg (· * _) ?_
  split
  · exact congrArg₂ (fun p q => a (ix3 p k q)) (Fin.ext (by show 0 = (y 0).val / 11008; omega)) (Fin.ext (by show (y 0).val = (y 0).val % 11008; omega))
  · exact congrArg₂ (fun p q => a (ix3 p k q)) (Fin.ext (by show 1 = (y 0).val / 11008; omega)) (Fin.ext (by show (y 0).val - 11008 = (y 0).val % 11008; omega))

/-- The reference runs and its arguments end unchanged. -/
theorem frame : Cert.quiescent_GateUpDwReferenceIdeal := fun m ρ _ =>
  (θ_run defs _ _).mono (fun r h => ⟨fun c => (h c).2, sem_eq_zero_of_no_sems (by decide) r.2⟩) (Value.run (F := Ideal) m ρ)

end Cert.GateUpDwReferenceIdeal

namespace Cert.GateUpDwIdeal

open Cert.GateUpDwIdeal.Gen Cert.Product
open Idealize.ShloMosaic Idealize.ShloMosaic.TcCoe Idealize.SL.Sem
open Idealize.ShloMosaic.Pipeline (Dat)

/-- A tile of the result, entry by entry. -/
theorem tile_at (x0 : Vec Ideal S1x4224x256 .bf16) (x1 : Vec Ideal S4224x2048 .bf16) (i : Fin 256) (j : Fin 2048) :
    (k0_pay1 (F := Ideal) x0 x1) (ix2 i j) = ∑ k : Fin 4224, x0 (ix3 0 k i) * x1 (ix2 k j) := by
  pointwise [k0_pay1]

theorem out_eq (x0 : Vec Ideal S1x4224x256 .bf16) (x1 : Vec Ideal S4224x2048 .bf16) : out0_2 (F := Ideal) x0 x1 = k0_pay1 x0 x1 := by
  unfold out0_2
  rw [View.canon_unit_zero zeros, View.ld_unit_zero zeros3, View.ld_unit_zero zeros]

/-- Which blocks a point reads, by the block it writes. -/
theorem index_at : ∀ t : Fin cfg0.N, win0_0.index t = ![win0_2.index t 0 / 43, 0, win0_2.index t 0 % 43] ∧ win0_1.index t = ![0, win0_2.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = Cert.GateUpDwReferenceIdeal.product (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 256) (b := 2048) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = Cert.GateUpDwReferenceIdeal.product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_GateUpDwIdeal_GateUpDwReferenceIdeal := fun m g m' g' _ h =>
  ⟨fun c => Cert.GateUpDwReferenceIdeal.product (m ((c.tc : Thread nD τ).loc main_arg0)) (m ((c.tc : Thread nD τ).loc main_arg1)), run_value m g,
    (θ_run Cert.GateUpDwReferenceIdeal.defs _ _).mono (fun _ r c => ⟨(r c).1.trans ((Cert.GateUpDwReferenceIdeal.value_eq _ _ ).trans (congrArg₂ (Cert.GateUpDwReferenceIdeal.product) (h c).1 (h c).2)), (r c).2⟩)
      (Cert.GateUpDwReferenceIdeal.Value.run m' g')⟩

/-- The idealized kernel runs, its arguments end unchanged and every semaphore counter reads zero. -/
theorem ideal_frame : Cert.quiescent_GateUpDwIdeal := fun m ρ _ => frame m ρ

/-- The printed kernel runs, its arguments end unchanged and every semaphore counter reads zero. -/
theorem kernel_frame : Cert.quiescent_GateUpDw := fun m ρ _ => Cert.GateUpDw.Gen.frame m ρ

end Cert.GateUpDwIdeal

end
-- ==== Proof.Dw.InDw.lean ====
/- The gradient of `w_in`, transposed: the kernel and the reference compute one product over the extended reals. -/
module

public import proofs.«01_k».proof.Defs
public import proofs.«01_k».proof.Proof.Dw.Product
public import proofs.«01_k».proof.Proof.Gen.InDw.Frame
public import proofs.«01_k».proof.Proof.Gen.InDwIdeal.Frame
public import proofs.«01_k».proof.Proof.Gen.InDwReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.InDwReferenceIdeal

open Cert.InDwReferenceIdeal.Gen Cert.Product
open Idealize.ShloMosaic Idealize.SL.Sem

/-- The reference's term is the product. -/
theorem value_eq (a : FVec Ideal S4224x14848 .bf16) (b : FVec Ideal S4224x4096 .bf16) :
    (truncf .bf16 (transpose S14848x4096 [1, 0] (transpose S4096x14848 [1, 0] (Host.dotGeneral (φ₁ := .f32) (φ₂ := .f32) dot_S4224x14848_S4224x4096_S14848x4096_0_0_1_1_n_n none (extf .f32 a bitsLt_bf16_f32) (extf .f32 b bitsLt_bf16_f32)) transposes_S14848x4096_S4096x14848_1_0) transposes_S4096x14848_S14848x4096_1_0) bitsLt_bf16_f32 : FVec Ideal S14848x4096 .bf16) = tn (φ := .bf16) a b := by
  refine funext fun y => ?_
  rw [ix2_coords y]
  unfold tn
  pointwise

/-- The reference runs and its arguments end unchanged. -/
theorem frame : Cert.quiescent_InDwReferenceIdeal := fun m ρ _ =>
  (θ_run defs _ _).mono (fun r h => ⟨fun c => (h c).2, sem_eq_zero_of_no_sems (by decide) r.2⟩) (Value.run (F := Ideal) m ρ)

end Cert.InDwReferenceIdeal

namespace Cert.InDwIdeal

open Cert.InDwIdeal.Gen Cert.Product
open Idealize.ShloMosaic Idealize.ShloMosaic.TcCoe Idealize.SL.Sem
open Idealize.ShloMosaic.Pipeline (Dat)

/-- A tile of the result, entry by entry. -/
theorem tile_at (x0 : Vec Ideal S4224x512 .bf16) (x1 : Vec Ideal S4224x2048 .bf16) (i : Fin 512) (j : Fin 2048) :
    (k0_pay1 (F := Ideal) x0 x1) (ix2 i j) = ∑ k : Fin 4224, x0 (ix2 k i) * x1 (ix2 k j) := by
  pointwise [k0_pay1]

theorem out_eq (x0 : Vec Ideal S4224x512 .bf16) (x1 : Vec Ideal S4224x2048 .bf16) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![0, win0_2.index t 0] ∧ win0_1.index t = ![0, win0_2.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = tn (φ := .bf16) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 512) (b := 2048) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = tn (φ := .bf16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_InDwIdeal_InDwReferenceIdeal := fun m g m' g' _ h =>
  ⟨fun c => tn (φ := .bf16) (m ((c.tc : Thread nD τ).loc main_arg0)) (m ((c.tc : Thread nD τ).loc main_arg1)), run_value m g,
    (θ_run Cert.InDwReferenceIdeal.defs _ _).mono (fun _ r c => ⟨(r c).1.trans ((Cert.InDwReferenceIdeal.value_eq _ _ ).trans (congrArg₂ (tn (φ := .bf16)) (h c).1 (h c).2)), (r c).2⟩)
      (Cert.InDwReferenceIdeal.Value.run m' g')⟩

/-- The idealized kernel runs, its arguments end unchanged and every semaphore counter reads zero. -/
theorem ideal_frame : Cert.quiescent_InDwIdeal := fun m ρ _ => frame m ρ

/-- The printed kernel runs, its arguments end unchanged and every semaphore counter reads zero. -/
theorem kernel_frame : Cert.quiescent_InDw := fun m ρ _ => Cert.InDw.Gen.frame m ρ

end Cert.InDwIdeal

end
-- ==== Proof.Dw.DownDw.lean ====
/- The gradient of `w_down`: the kernel and the reference compute one product over the extended reals. -/
module

public import proofs.«01_k».proof.Defs
public import proofs.«01_k».proof.Proof.Dw.Product
public import proofs.«01_k».proof.Proof.Gen.DownDw.Frame
public import proofs.«01_k».proof.Proof.Gen.DownDwIdeal.Frame
public import proofs.«01_k».proof.Proof.Gen.DownDwReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.DownDwReferenceIdeal

open Cert.DownDwReferenceIdeal.Gen Cert.Product
open Idealize.ShloMosaic Idealize.SL.Sem

/-- The reference's term is the product. -/
theorem value_eq (a : FVec Ideal S4224x11008 .bf16) (b : FVec Ideal S4224x4096 .bf16) :
    (truncf .bf16 (transpose S11008x4096 [1, 0] (Host.dotGeneral (φ₁ := .f32) (φ₂ := .f32) dot_S4224x4096_S4224x11008_S4096x11008_0_0_1_1_n_n none (extf .f32 b bitsLt_bf16_f32) (extf .f32 a bitsLt_bf16_f32)) transposes_S4096x11008_S11008x4096_1_0) bitsLt_bf16_f32 : FVec Ideal S11008x4096 .bf16) = tn (φ := .bf16) a b := by
  refine funext fun y => ?_
  rw [ix2_coords y]
  unfold tn
  pointwise
  exact Finset.sum_congr rfl fun k _ => mul_comm _ _

/-- The reference runs and its arguments end unchanged. -/
theorem frame : Cert.quiescent_DownDwReferenceIdeal := fun m ρ _ =>
  (θ_run defs _ _).mono (fun r h => ⟨fun c => (h c).2, sem_eq_zero_of_no_sems (by decide) r.2⟩) (Value.run (F := Ideal) m ρ)

end Cert.DownDwReferenceIdeal

namespace Cert.DownDwIdeal

open Cert.DownDwIdeal.Gen Cert.Product
open Idealize.ShloMosaic Idealize.ShloMosaic.TcCoe Idealize.SL.Sem
open Idealize.ShloMosaic.Pipeline (Dat)

/-- A tile of the result, entry by entry. -/
theorem tile_at (x0 : Vec Ideal S4224x256 .bf16) (x1 : Vec Ideal S4224x2048 .bf16) (i : Fin 256) (j : Fin 2048) :
    (k0_pay1 (F := Ideal) x0 x1) (ix2 i j) = ∑ k : Fin 4224, x0 (ix2 k i) * x1 (ix2 k j) := by
  pointwise [k0_pay1]

theorem out_eq (x0 : Vec Ideal S4224x256 .bf16) (x1 : Vec Ideal S4224x2048 .bf16) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![0, win0_2.index t 0] ∧ win0_1.index t = ![0, win0_2.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = tn (φ := .bf16) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 256) (b := 2048) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = tn (φ := .bf16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_DownDwIdeal_DownDwReferenceIdeal := fun m g m' g' _ h =>
  ⟨fun c => tn (φ := .bf16) (m ((c.tc : Thread nD τ).loc main_arg0)) (m ((c.tc : Thread nD τ).loc main_arg1)), run_value m g,
    (θ_run Cert.DownDwReferenceIdeal.defs _ _).mono (fun _ r c => ⟨(r c).1.trans ((Cert.DownDwReferenceIdeal.value_eq _ _ ).trans (congrArg₂ (tn (φ := .bf16)) (h c).1 (h c).2)), (r c).2⟩)
      (Cert.DownDwReferenceIdeal.Value.run m' g')⟩

/-- The idealized kernel runs, its arguments end unchanged and every semaphore counter reads zero. -/
theorem ideal_frame : Cert.quiescent_DownDwIdeal := fun m ρ _ => frame m ρ

/-- The printed kernel runs, its arguments end unchanged and every semaphore counter reads zero. -/
theorem kernel_frame : Cert.quiescent_DownDw := fun m ρ _ => Cert.DownDw.Gen.frame m ρ

end Cert.DownDwIdeal

end
-- ==== Proof.Dw.MixDw.lean ====
/- The gradient of `w_out`: the kernel and the reference compute one product over the extended reals. -/
module

public import proofs.«01_k».proof.Defs
public import proofs.«01_k».proof.Proof.Dw.Product
public import proofs.«01_k».proof.Proof.Gen.MixDw.Frame
public import proofs.«01_k».proof.Proof.Gen.MixDwIdeal.Frame
public import proofs.«01_k».proof.Proof.Gen.MixDwReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.MixDwReferenceIdeal

open Cert.MixDwReferenceIdeal.Gen Cert.Product
open Idealize.ShloMosaic Idealize.SL.Sem

/-- The reference's term is the product. -/
theorem value_eq (a : FVec Ideal S4224x4096 .bf16) (b : FVec Ideal S4224x4096 .bf16) :
    (truncf .bf16 (transpose S4096x4096 [1, 0] (Host.dotGeneral (φ₁ := .f32) (φ₂ := .f32) dot_S4224x4096_S4224x4096_S4096x4096_0_0_1_1_n_n none (extf .f32 b bitsLt_bf16_f32) (extf .f32 a bitsLt_bf16_f32)) transposes_S4096x4096_S4096x4096_1_0) bitsLt_bf16_f32 : FVec Ideal S4096x4096 .bf16) = tn (φ := .bf16) a b := by
  refine funext fun y => ?_
  rw [ix2_coords y]
  unfold tn
  pointwise
  exact Finset.sum_congr rfl fun k _ => mul_comm _ _

/-- The reference runs and its arguments end unchanged. -/
theorem frame : Cert.quiescent_MixDwReferenceIdeal := fun m ρ _ =>
  (θ_run defs _ _).mono (fun r h => ⟨fun c => (h c).2, sem_eq_zero_of_no_sems (by decide) r.2⟩) (Value.run (F := Ideal) m ρ)

end Cert.MixDwReferenceIdeal

namespace Cert.MixDwIdeal

open Cert.MixDwIdeal.Gen Cert.Product
open Idealize.ShloMosaic Idealize.ShloMosaic.TcCoe Idealize.SL.Sem
open Idealize.ShloMosaic.Pipeline (Dat)

/-- A tile of the result, entry by entry. -/
theorem tile_at (x0 : Vec Ideal S4224x512 .bf16) (x1 : Vec Ideal S4224x2048 .bf16) (i : Fin 512) (j : Fin 2048) :
    (k0_pay1 (F := Ideal) x0 x1) (ix2 i j) = ∑ k : Fin 4224, x0 (ix2 k i) * x1 (ix2 k j) := by
  pointwise [k0_pay1]

theorem out_eq (x0 : Vec Ideal S4224x512 .bf16) (x1 : Vec Ideal S4224x2048 .bf16) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![0, win0_2.index t 0] ∧ win0_1.index t = ![0, win0_2.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = tn (φ := .bf16) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 512) (b := 2048) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = tn (φ := .bf16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_MixDwIdeal_MixDwReferenceIdeal := fun m g m' g' _ h =>
  ⟨fun c => tn (φ := .bf16) (m ((c.tc : Thread nD τ).loc main_arg0)) (m ((c.tc : Thread nD τ).loc main_arg1)), run_value m g,
    (θ_run Cert.MixDwReferenceIdeal.defs _ _).mono (fun _ r c => ⟨(r c).1.trans ((Cert.MixDwReferenceIdeal.value_eq _ _ ).trans (congrArg₂ (tn (φ := .bf16)) (h c).1 (h c).2)), (r c).2⟩)
      (Cert.MixDwReferenceIdeal.Value.run m' g')⟩

/-- The idealized kernel runs, its arguments end unchanged and every semaphore counter reads zero. -/
theorem ideal_frame : Cert.quiescent_MixDwIdeal := fun m ρ _ => frame m ρ

/-- The printed kernel runs, its arguments end unchanged and every semaphore counter reads zero. -/
theorem kernel_frame : Cert.quiescent_MixDw := fun m ρ _ => Cert.MixDw.Gen.frame m ρ

end Cert.MixDwIdeal

end
-- ==== Proof.Dw.AttnDw.lean ====
/- The gradient of `w_attn_o`, transposed: the kernel and the reference compute one product over the extended reals. -/
module

public import proofs.«01_k».proof.Defs
public import proofs.«01_k».proof.Proof.Dw.Product
public import proofs.«01_k».proof.Proof.Gen.AttnDw.Frame
public import proofs.«01_k».proof.Proof.Gen.AttnDwIdeal.Frame
public import proofs.«01_k».proof.Proof.Gen.AttnDwReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.AttnDwReferenceIdeal

open Cert.AttnDwReferenceIdeal.Gen Cert.Product
open Idealize.ShloMosaic Idealize.SL.Sem

/-- The reference's term is the product. -/
theorem value_eq (a : FVec Ideal S4224x4096 .bf16) (b : FVec Ideal S4224x2048 .bf16) :
    (truncf .bf16 (transpose S4096x2048 [1, 0] (transpose S2048x4096 [1, 0] (Host.dotGeneral (φ₁ := .f32) (φ₂ := .f32) dot_S4224x4096_S4224x2048_S4096x2048_0_0_1_1_n_n none (extf .f32 a bitsLt_bf16_f32) (extf .f32 b bitsLt_bf16_f32)) transposes_S4096x2048_S2048x4096_1_0) transposes_S2048x4096_S4096x2048_1_0) bitsLt_bf16_f32 : FVec Ideal S4096x2048 .bf16) = tn (φ := .bf16) a b := by
  refine funext fun y => ?_
  rw [ix2_coords y]
  unfold tn
  pointwise

/-- The reference runs and its arguments end unchanged. -/
theorem frame : Cert.quiescent_AttnDwReferenceIdeal := fun m ρ _ =>
  (θ_run defs _ _).mono (fun r h => ⟨fun c => (h c).2, sem_eq_zero_of_no_sems (by decide) r.2⟩) (Value.run (F := Ideal) m ρ)

end Cert.AttnDwReferenceIdeal

namespace Cert.AttnDwIdeal

open Cert.AttnDwIdeal.Gen Cert.Product
open Idealize.ShloMosaic Idealize.ShloMosaic.TcCoe Idealize.SL.Sem
open Idealize.ShloMosaic.Pipeline (Dat)

/-- A tile of the result, entry by entry. -/
theorem tile_at (x0 : Vec Ideal S4224x512 .bf16) (x1 : Vec Ideal S4224x2048 .bf16) (i : Fin 512) (j : Fin 2048) :
    (k0_pay1 (F := Ideal) x0 x1) (ix2 i j) = ∑ k : Fin 4224, x0 (ix2 k i) * x1 (ix2 k j) := by
  pointwise [k0_pay1]

theorem out_eq (x0 : Vec Ideal S4224x512 .bf16) (x1 : Vec Ideal S4224x2048 .bf16) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![0, win0_2.index t 0] ∧ win0_1.index t = ![0, win0_2.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = tn (φ := .bf16) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 512) (b := 2048) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = tn (φ := .bf16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_AttnDwIdeal_AttnDwReferenceIdeal := fun m g m' g' _ h =>
  ⟨fun c => tn (φ := .bf16) (m ((c.tc : Thread nD τ).loc main_arg0)) (m ((c.tc : Thread nD τ).loc main_arg1)), run_value m g,
    (θ_run Cert.AttnDwReferenceIdeal.defs _ _).mono (fun _ r c => ⟨(r c).1.trans ((Cert.AttnDwReferenceIdeal.value_eq _ _ ).trans (congrArg₂ (tn (φ := .bf16)) (h c).1 (h c).2)), (r c).2⟩)
      (Cert.AttnDwReferenceIdeal.Value.run m' g')⟩

/-- The idealized kernel runs, its arguments end unchanged and every semaphore counter reads zero. -/
theorem ideal_frame : Cert.quiescent_AttnDwIdeal := fun m ρ _ => frame m ρ

/-- The printed kernel runs, its arguments end unchanged and every semaphore counter reads zero. -/
theorem kernel_frame : Cert.quiescent_AttnDw := fun m ρ _ => Cert.AttnDw.Gen.frame m ρ

end Cert.AttnDwIdeal

end
-- ==== Proof.Dw.ConvDw.lean ====
/- The gradient of `w_conv_o`, transposed: the kernel and the reference compute one product over the extended reals. -/
module

public import proofs.«01_k».proof.Defs
public import proofs.«01_k».proof.Proof.Dw.Product
public import proofs.«01_k».proof.Proof.Gen.ConvDw.Frame
public import proofs.«01_k».proof.Proof.Gen.ConvDwIdeal.Frame
public import proofs.«01_k».proof.Proof.Gen.ConvDwReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.ConvDwReferenceIdeal

open Cert.ConvDwReferenceIdeal.Gen Cert.Product
open Idealize.ShloMosaic Idealize.SL.Sem

/-- The reference's term is the product. -/
theorem value_eq (a : FVec Ideal S4224x4096 .bf16) (b : FVec Ideal S4224x2048 .bf16) :
    (truncf .bf16 (transpose S4096x2048 [1, 0] (transpose S2048x4096 [1, 0] (Host.dotGeneral (φ₁ := .f32) (φ₂ := .f32) dot_S4224x4096_S4224x2048_S4096x2048_0_0_1_1_n_n none (extf .f32 a bitsLt_bf16_f32) (extf .f32 b bitsLt_bf16_f32)) transposes_S4096x2048_S2048x4096_1_0) transposes_S2048x4096_S4096x2048_1_0) bitsLt_bf16_f32 : FVec Ideal S4096x2048 .bf16) = tn (φ := .bf16) a b := by
  refine funext fun y => ?_
  rw [ix2_coords y]
  unfold tn
  pointwise

/-- The reference runs and its arguments end unchanged. -/
theorem frame : Cert.quiescent_ConvDwReferenceIdeal := fun m ρ _ =>
  (θ_run defs _ _).mono (fun r h => ⟨fun c => (h c).2, sem_eq_zero_of_no_sems (by decide) r.2⟩) (Value.run (F := Ideal) m ρ)

end Cert.ConvDwReferenceIdeal

namespace Cert.ConvDwIdeal

open Cert.ConvDwIdeal.Gen Cert.Product
open Idealize.ShloMosaic Idealize.ShloMosaic.TcCoe Idealize.SL.Sem
open Idealize.ShloMosaic.Pipeline (Dat)

/-- A tile of the result, entry by entry. -/
theorem tile_at (x0 : Vec Ideal S4224x512 .bf16) (x1 : Vec Ideal S4224x2048 .bf16) (i : Fin 512) (j : Fin 2048) :
    (k0_pay1 (F := Ideal) x0 x1) (ix2 i j) = ∑ k : Fin 4224, x0 (ix2 k i) * x1 (ix2 k j) := by
  pointwise [k0_pay1]

theorem out_eq (x0 : Vec Ideal S4224x512 .bf16) (x1 : Vec Ideal S4224x2048 .bf16) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![0, win0_2.index t 0] ∧ win0_1.index t = ![0, win0_2.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = tn (φ := .bf16) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 512) (b := 2048) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = tn (φ := .bf16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_ConvDwIdeal_ConvDwReferenceIdeal := fun m g m' g' _ h =>
  ⟨fun c => tn (φ := .bf16) (m ((c.tc : Thread nD τ).loc main_arg0)) (m ((c.tc : Thread nD τ).loc main_arg1)), run_value m g,
    (θ_run Cert.ConvDwReferenceIdeal.defs _ _).mono (fun _ r c => ⟨(r c).1.trans ((Cert.ConvDwReferenceIdeal.value_eq _ _ ).trans (congrArg₂ (tn (φ := .bf16)) (h c).1 (h c).2)), (r c).2⟩)
      (Cert.ConvDwReferenceIdeal.Value.run m' g')⟩

/-- The idealized kernel runs, its arguments end unchanged and every semaphore counter reads zero. -/
theorem ideal_frame : Cert.quiescent_ConvDwIdeal := fun m ρ _ => frame m ρ

/-- The printed kernel runs, its arguments end unchanged and every semaphore counter reads zero. -/
theorem kernel_frame : Cert.quiescent_ConvDw := fun m ρ _ => Cert.ConvDw.Gen.frame m ρ

end Cert.ConvDwIdeal

end
-- ==== Proof.Dw.MixDx.lean ====
/- The gradient of the merged branches: the kernel and the reference compute one product over the extended reals. -/
module

public import proofs.«01_k».proof.Defs
public import proofs.«01_k».proof.Proof.Dw.Product
public import proofs.«01_k».proof.Proof.Gen.MixDx.Frame
public import proofs.«01_k».proof.Proof.Gen.MixDxIdeal.Frame
public import proofs.«01_k».proof.Proof.Gen.MixDxReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.MixDxReferenceIdeal

open Cert.MixDxReferenceIdeal.Gen Cert.Product
open Idealize.ShloMosaic Idealize.SL.Sem

/-- The reference's term is the product. -/
theorem value_eq (a : FVec Ideal S4224x4096 .bf16) (b : FVec Ideal S4096x4096 .bf16) :
    (truncf .bf16 (Host.dotGeneral (φ₁ := .f32) (φ₂ := .f32) dot_S4224x4096_S4096x4096_S4224x4096_1_1_0_0_n_n none (extf .f32 a bitsLt_bf16_f32) (extf .f32 b bitsLt_bf16_f32)) bitsLt_bf16_f32 : FVec Ideal S4224x4096 .bf16) = nt (φ := .bf16) a b := by
  refine funext fun y => ?_
  rw [ix2_coords y]
  unfold nt
  pointwise

/-- The reference runs and its arguments end unchanged. -/
theorem frame : Cert.quiescent_MixDxReferenceIdeal := fun m ρ _ =>
  (θ_run defs _ _).mono (fun r h => ⟨fun c => (h c).2, sem_eq_zero_of_no_sems (by decide) r.2⟩) (Value.run (F := Ideal) m ρ)

end Cert.MixDxReferenceIdeal

namespace Cert.MixDxIdeal

open Cert.MixDxIdeal.Gen Cert.Product
open Idealize.ShloMosaic Idealize.ShloMosaic.TcCoe Idealize.SL.Sem
open Idealize.ShloMosaic.Pipeline (Dat)

/-- A tile of the result, entry by entry. -/
theorem tile_at (x0 : Vec Ideal S2112x4096 .bf16) (x1 : Vec Ideal S512x4096 .bf16) (i : Fin 2112) (j : Fin 512) :
    (k0_pay1 (F := Ideal) x0 x1) (ix2 i j) = ∑ k : Fin 4096, x0 (ix2 i k) * x1 (ix2 j k) := by
  pointwise [k0_pay1]

theorem out_eq (x0 : Vec Ideal S2112x4096 .bf16) (x1 : Vec Ideal S512x4096 .bf16) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![win0_2.index t 0, 0] ∧ win0_1.index t = ![win0_2.index t 1, 0] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = nt (φ := .bf16) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 2112) (b := 512) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = nt (φ := .bf16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_MixDxIdeal_MixDxReferenceIdeal := fun m g m' g' _ h =>
  ⟨fun c => nt (φ := .bf16) (m ((c.tc : Thread nD τ).loc main_arg0)) (m ((c.tc : Thread nD τ).loc main_arg1)), run_value m g,
    (θ_run Cert.MixDxReferenceIdeal.defs _ _).mono (fun _ r c => ⟨(r c).1.trans ((Cert.MixDxReferenceIdeal.value_eq _ _ ).trans (congrArg₂ (nt (φ := .bf16)) (h c).1 (h c).2)), (r c).2⟩)
      (Cert.MixDxReferenceIdeal.Value.run m' g')⟩

/-- The idealized kernel runs, its arguments end unchanged and every semaphore counter reads zero. -/
theorem ideal_frame : Cert.quiescent_MixDxIdeal := fun m ρ _ => frame m ρ

/-- The printed kernel runs, its arguments end unchanged and every semaphore counter reads zero. -/
theorem kernel_frame : Cert.quiescent_MixDx := fun m ρ _ => Cert.MixDx.Gen.frame m ρ

end Cert.MixDxIdeal

end
-- ==== Proof.Dw.AttnDx.lean ====
/- The gradient of attention's output: the kernel and the reference compute one product over the extended reals. -/
module

public import proofs.«01_k».proof.Defs
public import proofs.«01_k».proof.Proof.Dw.Product
public import proofs.«01_k».proof.Proof.Gen.AttnDx.Frame
public import proofs.«01_k».proof.Proof.Gen.AttnDxIdeal.Frame
public import proofs.«01_k».proof.Proof.Gen.AttnDxReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.AttnDxReferenceIdeal

open Cert.AttnDxReferenceIdeal.Gen Cert.Product
open Idealize.ShloMosaic Idealize.SL.Sem

/-- The reference's term is the product. -/
theorem value_eq (a : FVec Ideal S4224x4096 .bf16) (b : FVec Ideal S4096x2048 .bf16) :
    (truncf .bf16 (Host.dotGeneral (φ₁ := .f32) (φ₂ := .f32) dot_S4224x4096_S2048x4096_S4224x2048_1_1_0_0_n_n none (extf .f32 a bitsLt_bf16_f32) (transpose S2048x4096 [1, 0] (extf .f32 b bitsLt_bf16_f32) transposes_S4096x2048_S2048x4096_1_0)) bitsLt_bf16_f32 : FVec Ideal S4224x2048 .bf16) = nn (φ := .bf16) a b := by
  refine funext fun y => ?_
  rw [ix2_coords y]
  unfold nn
  pointwise

/-- The reference runs and its arguments end unchanged. -/
theorem frame : Cert.quiescent_AttnDxReferenceIdeal := fun m ρ _ =>
  (θ_run defs _ _).mono (fun r h => ⟨fun c => (h c).2, sem_eq_zero_of_no_sems (by decide) r.2⟩) (Value.run (F := Ideal) m ρ)

end Cert.AttnDxReferenceIdeal

namespace Cert.AttnDxIdeal

open Cert.AttnDxIdeal.Gen Cert.Product
open Idealize.ShloMosaic Idealize.ShloMosaic.TcCoe Idealize.SL.Sem
open Idealize.ShloMosaic.Pipeline (Dat)

/-- A tile of the result, entry by entry. -/
theorem tile_at (x0 : Vec Ideal S1056x4096 .bf16) (x1 : Vec Ideal S4096x1024 .bf16) (i : Fin 1056) (j : Fin 1024) :
    (k0_pay1 (F := Ideal) x0 x1) (ix2 i j) = ∑ k : Fin 4096, x0 (ix2 i k) * x1 (ix2 k j) := by
  pointwise [k0_pay1]

theorem out_eq (x0 : Vec Ideal S1056x4096 .bf16) (x1 : Vec Ideal S4096x1024 .bf16) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![win0_2.index t 0, 0] ∧ win0_1.index t = ![0, win0_2.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = nn (φ := .bf16) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 1056) (b := 1024) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = nn (φ := .bf16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_AttnDxIdeal_AttnDxReferenceIdeal := fun m g m' g' _ h =>
  ⟨fun c => nn (φ := .bf16) (m ((c.tc : Thread nD τ).loc main_arg0)) (m ((c.tc : Thread nD τ).loc main_arg1)), run_value m g,
    (θ_run Cert.AttnDxReferenceIdeal.defs _ _).mono (fun _ r c => ⟨(r c).1.trans ((Cert.AttnDxReferenceIdeal.value_eq _ _ ).trans (congrArg₂ (nn (φ := .bf16)) (h c).1 (h c).2)), (r c).2⟩)
      (Cert.AttnDxReferenceIdeal.Value.run m' g')⟩

/-- The idealized kernel runs, its arguments end unchanged and every semaphore counter reads zero. -/
theorem ideal_frame : Cert.quiescent_AttnDxIdeal := fun m ρ _ => frame m ρ

/-- The printed kernel runs, its arguments end unchanged and every semaphore counter reads zero. -/
theorem kernel_frame : Cert.quiescent_AttnDx := fun m ρ _ => Cert.AttnDx.Gen.frame m ρ

end Cert.AttnDxIdeal

end
-- ==== Proof.Dw.ConvDx.lean ====
/- The gradient of the convolution's output: the kernel and the reference compute one product over the extended reals. -/
module

public import proofs.«01_k».proof.Defs
public import proofs.«01_k».proof.Proof.Dw.Product
public import proofs.«01_k».proof.Proof.Gen.ConvDx.Frame
public import proofs.«01_k».proof.Proof.Gen.ConvDxIdeal.Frame
public import proofs.«01_k».proof.Proof.Gen.ConvDxReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.ConvDxReferenceIdeal

open Cert.ConvDxReferenceIdeal.Gen Cert.Product
open Idealize.ShloMosaic Idealize.SL.Sem

/-- The reference's term is the product. -/
theorem value_eq (a : FVec Ideal S4224x4096 .bf16) (b : FVec Ideal S4096x2048 .bf16) :
    (Host.dotGeneral (φ₁ := .f32) (φ₂ := .f32) dot_S4224x4096_S2048x4096_S4224x2048_1_1_0_0_n_n none (extf .f32 a bitsLt_bf16_f32) (transpose S2048x4096 [1, 0] (extf .f32 b bitsLt_bf16_f32) transposes_S4096x2048_S2048x4096_1_0) : FVec Ideal S4224x2048 .f32) = nn (φ := .f32) a b := by
  refine funext fun y => ?_
  rw [ix2_coords y]
  unfold nn
  pointwise

/-- The reference runs and its arguments end unchanged. -/
theorem frame : Cert.quiescent_ConvDxReferenceIdeal := fun m ρ _ =>
  (θ_run defs _ _).mono (fun r h => ⟨fun c => (h c).2, sem_eq_zero_of_no_sems (by decide) r.2⟩) (Value.run (F := Ideal) m ρ)

end Cert.ConvDxReferenceIdeal

namespace Cert.ConvDxIdeal

open Cert.ConvDxIdeal.Gen Cert.Product
open Idealize.ShloMosaic Idealize.ShloMosaic.TcCoe Idealize.SL.Sem
open Idealize.ShloMosaic.Pipeline (Dat)

/-- A tile of the result, entry by entry. -/
theorem tile_at (x0 : Vec Ideal S1056x4096 .bf16) (x1 : Vec Ideal S4096x1024 .bf16) (i : Fin 1056) (j : Fin 1024) :
    (k0_pay1 (F := Ideal) x0 x1) (ix2 i j) = ∑ k : Fin 4096, x0 (ix2 i k) * x1 (ix2 k j) := by
  pointwise [k0_pay1]

theorem out_eq (x0 : Vec Ideal S1056x4096 .bf16) (x1 : Vec Ideal S4096x1024 .bf16) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![win0_2.index t 0, 0] ∧ win0_1.index t = ![0, win0_2.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = nn (φ := .f32) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 1056) (b := 1024) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = nn (φ := .f32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_ConvDxIdeal_ConvDxReferenceIdeal := fun m g m' g' _ h =>
  ⟨fun c => nn (φ := .f32) (m ((c.tc : Thread nD τ).loc main_arg0)) (m ((c.tc : Thread nD τ).loc main_arg1)), run_value m g,
    (θ_run Cert.ConvDxReferenceIdeal.defs _ _).mono (fun _ r c => ⟨(r c).1.trans ((Cert.ConvDxReferenceIdeal.value_eq _ _ ).trans (congrArg₂ (nn (φ := .f32)) (h c).1 (h c).2)), (r c).2⟩)
      (Cert.ConvDxReferenceIdeal.Value.run m' g')⟩

/-- The idealized kernel runs, its arguments end unchanged and every semaphore counter reads zero. -/
theorem ideal_frame : Cert.quiescent_ConvDxIdeal := fun m ρ _ => frame m ρ

/-- The printed kernel runs, its arguments end unchanged and every semaphore counter reads zero. -/
theorem kernel_frame : Cert.quiescent_ConvDx := fun m ρ _ => Cert.ConvDx.Gen.frame m ρ

end Cert.ConvDxIdeal

end
-- ==== Proof.Dw.InQ.lean ====
/- The queries' columns of the combined projection: the kernel and the reference compute one product over the extended reals. -/
module

public import proofs.«01_k».proof.Defs
public import proofs.«01_k».proof.Proof.Dw.Product
public import proofs.«01_k».proof.Proof.Gen.InQ.Frame
public import proofs.«01_k».proof.Proof.Gen.InQIdeal.Frame
public import proofs.«01_k».proof.Proof.Gen.InQReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.InQReferenceIdeal

open Cert.InQReferenceIdeal.Gen Cert.Product
open Idealize.ShloMosaic Idealize.SL.Sem

/-- The reference's term is the product. -/
theorem value_eq (a : FVec Ideal S4224x4096 .bf16) (b : FVec Ideal S14848x4096 .bf16) (d : FVec Ideal S1x2048 .f32) :
    (truncf .bf16 (addf (Host.dotGeneral (φ₁ := .f32) (φ₂ := .f32) dot_S4224x4096_S4096x2048_S4224x2048_1_0_0_1_n_n none (extf .f32 a bitsLt_bf16_f32) (transpose S4096x2048 [1, 0] (extractStridedSlice S2048x4096 ![0, 0] (extf .f32 b bitsLt_bf16_f32) slices_S14848x4096_S2048x4096_0_0) transposes_S2048x4096_S4096x2048_1_0)) (broadcastInDim S4224x2048 ![0, 1] bcast_S1x2048_S4224x2048_0_1 d)) bitsLt_bf16_f32 : FVec Ideal S4224x2048 .bf16) = rows (φ := .bf16) 0 (by decide) a b d := by
  refine funext fun y => ?_
  rw [ix2_coords y]
  unfold rows
  pointwise

/-- The reference runs and its arguments end unchanged. -/
theorem frame : Cert.quiescent_InQReferenceIdeal := fun m ρ _ =>
  (θ_run defs _ _).mono (fun r h => ⟨fun c => (h c).2, sem_eq_zero_of_no_sems (by decide) r.2⟩) (Value.run (F := Ideal) m ρ)

end Cert.InQReferenceIdeal

namespace Cert.InQIdeal

open Cert.InQIdeal.Gen Cert.Product
open Idealize.ShloMosaic Idealize.ShloMosaic.TcCoe Idealize.SL.Sem
open Idealize.ShloMosaic.Pipeline (Dat)

/-- A tile of the result, entry by entry. -/
theorem tile_at (x0 : Vec Ideal S2112x4096 .bf16) (x1 : Vec Ideal S512x4096 .bf16) (x2 : Vec Ideal S1x512 .f32) (i : Fin 2112) (j : Fin 512) :
    (k0_pay1 (F := Ideal) x0 x1 x2) (ix2 i j) = (∑ k : Fin 4096, x0 (ix2 i k) * x1 (ix2 j k)) + x2 (ix2 0 j) := by
  pointwise [k0_pay1]

theorem out_eq (x0 : Vec Ideal S2112x4096 .bf16) (x1 : Vec Ideal S512x4096 .bf16) (x2 : Vec Ideal S1x512 .f32) : out0_3 (F := Ideal) x0 x1 x2 = k0_pay1 x0 x1 x2 := by
  unfold out0_3
  rw [View.canon_unit_zero zeros, View.ld_unit_zero zeros, View.ld_unit_zero zeros, View.ld_unit_zero zeros]

/-- Which blocks a point reads, by the block it writes. -/
theorem index_at : ∀ t : Fin cfg0.N, win0_0.index t = ![win0_3.index t 0, 0] ∧ win0_1.index t = ![win0_3.index t 1 + 0, 0] ∧ win0_2.index t = ![0, win0_3.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 3 cfg0.N = rows (φ := .bf16) 0 (by decide) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_eq]
  obtain ⟨i0, i1, i2⟩ := index_at t
  have hy := ix2_coords (a := 2112) (b := 512) y
  generalize hu : y 0 = u at hy
  generalize hv : y 1 = v at hy
  subst hy
  refine (tile_at _ _ _ u v).trans (congrArg₂ (· + ·) (Finset.sum_congr rfl fun k _ => congrArg₂ (· * ·) ?_ ?_) ?_)
  · blk_point [iblk, V, i0]
  · blk_point [iblk, V, i1]
  · blk_point [iblk, V, i2]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = rows (φ := .bf16) 0 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m g) (unchanged m g))

/-- Over the extended reals the kernel and the reference compute one array. -/
theorem same_value : Cert.algebraic_InQIdeal_InQReferenceIdeal := fun m g m' g' _ h =>
  ⟨fun c => rows (φ := .bf16) 0 (by decide) (m ((c.tc : Thread nD τ).loc main_arg0)) (m ((c.tc : Thread nD τ).loc main_arg1)) (m ((c.tc : Thread nD τ).loc main_arg2)), run_value m g,
    (θ_run Cert.InQReferenceIdeal.defs _ _).mono (fun _ r c => ⟨(r c).1.trans ((Cert.InQReferenceIdeal.value_eq _ _ _ ).trans (congr (congrArg₂ (rows (φ := .bf16) 0 (by decide)) (h c).1 (h c).2.1) (h c).2.2)), (r c).2⟩)
      (Cert.InQReferenceIdeal.Value.run m' g')⟩

/-- The idealized kernel runs, its arguments end unchanged and every semaphore counter reads zero. -/
theorem ideal_frame : Cert.quiescent_InQIdeal := fun m ρ _ => frame m ρ

/-- The printed kernel runs, its arguments end unchanged and every semaphore counter reads zero. -/
theorem kernel_frame : Cert.quiescent_InQ := fun m ρ _ => Cert.InQ.Gen.frame m ρ

end Cert.InQIdeal

end
-- ==== Proof.Dw.InKv.lean ====
/- The keys' and values' columns of the combined projection: the kernel and the reference compute one product over the extended reals. -/
module

public import proofs.«01_k».proof.Defs
public import proofs.«01_k».proof.Proof.Dw.Product
public import proofs.«01_k».proof.Proof.Gen.InKv.Frame
public import proofs.«01_k».proof.Proof.Gen.InKvIdeal.Frame
public import proofs.«01_k».proof.Proof.Gen.InKvReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.InKvReferenceIdeal

open Cert.InKvReferenceIdeal.Gen Cert.Product
open Idealize.ShloMosaic Idealize.SL.Sem

/-- The reference's term is the product. -/
theorem value_eq (a : FVec Ideal S4224x4096 .bf16) (b : FVec Ideal S14848x4096 .bf16) (d : FVec Ideal S1x512 .f32) :
    (truncf .bf16 (addf (Host.dotGeneral (φ₁ := .f32) (φ₂ := .f32) dot_S4224x4096_S4096x512_S4224x512_1_0_0_1_n_n none (extf .f32 a bitsLt_bf16_f32) (transpose S4096x512 [1, 0] (extractStridedSlice S512x4096 ![2048, 0] (extf .f32 b bitsLt_bf16_f32) slices_S14848x4096_S512x4096_2048_0) transposes_S512x4096_S4096x512_1_0)) (broadcastInDim S4224x512 ![0, 1] bcast_S1x512_S4224x512_0_1 d)) bitsLt_bf16_f32 : FVec Ideal S4224x512 .bf16) = rows (φ := .bf16) 2048 (by decide) a b d := by
  refine funext fun y => ?_
  rw [ix2_coords y]
  unfold rows
  pointwise

/-- The reference runs and its arguments end unchanged. -/
theorem frame : Cert.quiescent_InKvReferenceIdeal := fun m ρ _ =>
  (θ_run defs _ _).mono (fun r h => ⟨fun c => (h c).2, sem_eq_zero_of_no_sems (by decide) r.2⟩) (Value.run (F := Ideal) m ρ)

end Cert.InKvReferenceIdeal

namespace Cert.InKvIdeal

open Cert.InKvIdeal.Gen Cert.Product
open Idealize.ShloMosaic Idealize.ShloMosaic.TcCoe Idealize.SL.Sem
open Idealize.ShloMosaic.Pipeline (Dat)

/-- A tile of the result, entry by entry. -/
theorem tile_at (x0 : Vec Ideal S2112x4096 .bf16) (x1 : Vec Ideal S512x4096 .bf16) (x2 : Vec Ideal S1x512 .f32) (i : Fin 2112) (j : Fin 512) :
    (k0_pay1 (F := Ideal) x0 x1 x2) (ix2 i j) = (∑ k : Fin 4096, x0 (ix2 i k) * x1 (ix2 j k)) + x2 (ix2 0 j) := by
  pointwise [k0_pay1]

theorem out_eq (x0 : Vec Ideal S2112x4096 .bf16) (x1 : Vec Ideal S512x4096 .bf16) (x2 : Vec Ideal S1x512 .f32) : out0_3 (F := Ideal) x0 x1 x2 = k0_pay1 x0 x1 x2 := by
  unfold out0_3
  rw [View.canon_unit_zero zeros, View.ld_unit_zero zeros, View.ld_unit_zero zeros, View.ld_unit_zero zeros]

/-- Which blocks a point reads, by the block it writes. -/
theorem index_at : ∀ t : Fin cfg0.N, win0_0.index t = ![win0_3.index t 0, 0] ∧ win0_1.index t = ![win0_3.index t 1 + 4, 0] ∧ win0_2.index t = ![0, win0_3.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 3 cfg0.N = rows (φ := .bf16) 2048 (by decide) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_eq]
  obtain ⟨i0, i1, i2⟩ := index_at t
  have hy := ix2_coords (a := 2112) (b := 512) y
  generalize hu : y 0 = u at hy
  generalize hv : y 1 = v at hy
  subst hy
  refine (tile_at _ _ _ u v).trans (congrArg₂ (· + ·) (Finset.sum_congr rfl fun k _ => congrArg₂ (· * ·) ?_ ?_) ?_)
  · blk_point [iblk, V, i0]
  · blk_point [iblk, V, i1]
  · blk_point [iblk, V, i2]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = rows (φ := .bf16) 2048 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m g) (unchanged m g))

/-- Over the extended reals the kernel and the reference compute one array. -/
theorem same_value : Cert.algebraic_InKvIdeal_InKvReferenceIdeal := fun m g m' g' _ h =>
  ⟨fun c => rows (φ := .bf16) 2048 (by decide) (m ((c.tc : Thread nD τ).loc main_arg0)) (m ((c.tc : Thread nD τ).loc main_arg1)) (m ((c.tc : Thread nD τ).loc main_arg2)), run_value m g,
    (θ_run Cert.InKvReferenceIdeal.defs _ _).mono (fun _ r c => ⟨(r c).1.trans ((Cert.InKvReferenceIdeal.value_eq _ _ _ ).trans (congr (congrArg₂ (rows (φ := .bf16) 2048 (by decide)) (h c).1 (h c).2.1) (h c).2.2)), (r c).2⟩)
      (Cert.InKvReferenceIdeal.Value.run m' g')⟩

/-- The idealized kernel runs, its arguments end unchanged and every semaphore counter reads zero. -/
theorem ideal_frame : Cert.quiescent_InKvIdeal := fun m ρ _ => frame m ρ

/-- The printed kernel runs, its arguments end unchanged and every semaphore counter reads zero. -/
theorem kernel_frame : Cert.quiescent_InKv := fun m ρ _ => Cert.InKv.Gen.frame m ρ

end Cert.InKvIdeal

end
-- ==== Proof.Dw.InConv.lean ====
/- The convolution's columns of the combined projection: the kernel and the reference compute one product over the extended reals. -/
module

public import proofs.«01_k».proof.Defs
public import proofs.«01_k».proof.Proof.Dw.Product
public import proofs.«01_k».proof.Proof.Gen.InConv.Frame
public import proofs.«01_k».proof.Proof.Gen.InConvIdeal.Frame
public import proofs.«01_k».proof.Proof.Gen.InConvReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.InConvReferenceIdeal

open Cert.InConvReferenceIdeal.Gen Cert.Product
open Idealize.ShloMosaic Idealize.SL.Sem

/-- The reference's term is the product. -/
theorem value_eq (a : FVec Ideal S4224x4096 .bf16) (b : FVec Ideal S14848x4096 .bf16) (d : FVec Ideal S1x4096 .f32) :
    (truncf .bf16 (addf (Host.dotGeneral (φ₁ := .f32) (φ₂ := .f32) dot_S4224x4096_S4096x4096_S4224x4096_1_0_0_1_n_n none (extf .f32 a bitsLt_bf16_f32) (transpose S4096x4096 [1, 0] (extractStridedSlice S4096x4096 ![2560, 0] (extf .f32 b bitsLt_bf16_f32) slices_S14848x4096_S4096x4096_2560_0) transposes_S4096x4096_S4096x4096_1_0)) (broadcastInDim S4224x4096 ![0, 1] bcast_S1x4096_S4224x4096_0_1 d)) bitsLt_bf16_f32 : FVec Ideal S4224x4096 .bf16) = rows (φ := .bf16) 2560 (by decide) a b d := by
  refine funext fun y => ?_
  rw [ix2_coords y]
  unfold rows
  pointwise

/-- The reference runs and its arguments end unchanged. -/
theorem frame : Cert.quiescent_InConvReferenceIdeal := fun m ρ _ =>
  (θ_run defs _ _).mono (fun r h => ⟨fun c => (h c).2, sem_eq_zero_of_no_sems (by decide) r.2⟩) (Value.run (F := Ideal) m ρ)

end Cert.InConvReferenceIdeal

namespace Cert.InConvIdeal

open Cert.InConvIdeal.Gen Cert.Product
open Idealize.ShloMosaic Idealize.ShloMosaic.TcCoe Idealize.SL.Sem
open Idealize.ShloMosaic.Pipeline (Dat)

/-- A tile of the result, entry by entry. -/
theorem tile_at (x0 : Vec Ideal S2112x4096 .bf16) (x1 : Vec Ideal S512x4096 .bf16) (x2 : Vec Ideal S1x512 .f32) (i : Fin 2112) (j : Fin 512) :
    (k0_pay1 (F := Ideal) x0 x1 x2) (ix2 i j) = (∑ k : Fin 4096, x0 (ix2 i k) * x1 (ix2 j k)) + x2 (ix2 0 j) := by
  pointwise [k0_pay1]

theorem out_eq (x0 : Vec Ideal S2112x4096 .bf16) (x1 : Vec Ideal S512x4096 .bf16) (x2 : Vec Ideal S1x512 .f32) : out0_3 (F := Ideal) x0 x1 x2 = k0_pay1 x0 x1 x2 := by
  unfold out0_3
  rw [View.canon_unit_zero zeros, View.ld_unit_zero zeros, View.ld_unit_zero zeros, View.ld_unit_zero zeros]

/-- Which blocks a point reads, by the block it writes. -/
theorem index_at : ∀ t : Fin cfg0.N, win0_0.index t = ![win0_3.index t 0, 0] ∧ win0_1.index t = ![win0_3.index t 1 + 5, 0] ∧ win0_2.index t = ![0, win0_3.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 3 cfg0.N = rows (φ := .bf16) 2560 (by decide) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_eq]
  obtain ⟨i0, i1, i2⟩ := index_at t
  have hy := ix2_coords (a := 2112) (b := 512) y
  generalize hu : y 0 = u at hy
  generalize hv : y 1 = v at hy
  subst hy
  refine (tile_at _ _ _ u v).trans (congrArg₂ (· + ·) (Finset.sum_congr rfl fun k _ => congrArg₂ (· * ·) ?_ ?_) ?_)
  · blk_point [iblk, V, i0]
  · blk_point [iblk, V, i1]
  · blk_point [iblk, V, i2]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = rows (φ := .bf16) 2560 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m g) (unchanged m g))

/-- Over the extended reals the kernel and the reference compute one array. -/
theorem same_value : Cert.algebraic_InConvIdeal_InConvReferenceIdeal := fun m g m' g' _ h =>
  ⟨fun c => rows (φ := .bf16) 2560 (by decide) (m ((c.tc : Thread nD τ).loc main_arg0)) (m ((c.tc : Thread nD τ).loc main_arg1)) (m ((c.tc : Thread nD τ).loc main_arg2)), run_value m g,
    (θ_run Cert.InConvReferenceIdeal.defs _ _).mono (fun _ r c => ⟨(r c).1.trans ((Cert.InConvReferenceIdeal.value_eq _ _ _ ).trans (congr (congrArg₂ (rows (φ := .bf16) 2560 (by decide)) (h c).1 (h c).2.1) (h c).2.2)), (r c).2⟩)
      (Cert.InConvReferenceIdeal.Value.run m' g')⟩

/-- The idealized kernel runs, its arguments end unchanged and every semaphore counter reads zero. -/
theorem ideal_frame : Cert.quiescent_InConvIdeal := fun m ρ _ => frame m ρ

/-- The printed kernel runs, its arguments end unchanged and every semaphore counter reads zero. -/
theorem kernel_frame : Cert.quiescent_InConv := fun m ρ _ => Cert.InConv.Gen.frame m ρ

end Cert.InConvIdeal

end
-- ==== Proof.Dw.InGates.lean ====
/- The gates' columns of the combined projection: the kernel and the reference compute one product over the extended reals. -/
module

public import proofs.«01_k».proof.Defs
public import proofs.«01_k».proof.Proof.Dw.Product
public import proofs.«01_k».proof.Proof.Gen.InGates.Frame
public import proofs.«01_k».proof.Proof.Gen.InGatesIdeal.Frame
public import proofs.«01_k».proof.Proof.Gen.InGatesReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.InGatesReferenceIdeal

open Cert.InGatesReferenceIdeal.Gen Cert.Product
open Idealize.ShloMosaic Idealize.SL.Sem

/-- The reference's term is the product. -/
theorem value_eq (a : FVec Ideal S4224x4096 .bf16) (b : FVec Ideal S14848x4096 .bf16) (d : FVec Ideal S1x8192 .f32) :
    (truncf .bf16 (addf (Host.dotGeneral (φ₁ := .f32) (φ₂ := .f32) dot_S4224x4096_S4096x8192_S4224x8192_1_0_0_1_n_n none (extf .f32 a bitsLt_bf16_f32) (transpose S4096x8192 [1, 0] (extractStridedSlice S8192x4096 ![6656, 0] (extf .f32 b bitsLt_bf16_f32) slices_S14848x4096_S8192x4096_6656_0) transposes_S8192x4096_S4096x8192_1_0)) (broadcastInDim S4224x8192 ![0, 1] bcast_S1x8192_S4224x8192_0_1 d)) bitsLt_bf16_f32 : FVec Ideal S4224x8192 .bf16) = rows (φ := .bf16) 6656 (by decide) a b d := by
  refine funext fun y => ?_
  rw [ix2_coords y]
  unfold rows
  pointwise

/-- The reference runs and its arguments end unchanged. -/
theorem frame : Cert.quiescent_InGatesReferenceIdeal := fun m ρ _ =>
  (θ_run defs _ _).mono (fun r h => ⟨fun c => (h c).2, sem_eq_zero_of_no_sems (by decide) r.2⟩) (Value.run (F := Ideal) m ρ)

end Cert.InGatesReferenceIdeal

namespace Cert.InGatesIdeal

open Cert.InGatesIdeal.Gen Cert.Product
open Idealize.ShloMosaic Idealize.ShloMosaic.TcCoe Idealize.SL.Sem
open Idealize.ShloMosaic.Pipeline (Dat)

/-- A tile of the result, entry by entry. -/
theorem tile_at (x0 : Vec Ideal S2112x4096 .bf16) (x1 : Vec Ideal S512x4096 .bf16) (x2 : Vec Ideal S1x512 .f32) (i : Fin 2112) (j : Fin 512) :
    (k0_pay1 (F := Ideal) x0 x1 x2) (ix2 i j) = (∑ k : Fin 4096, x0 (ix2 i k) * x1 (ix2 j k)) + x2 (ix2 0 j) := by
  pointwise [k0_pay1]

theorem out_eq (x0 : Vec Ideal S2112x4096 .bf16) (x1 : Vec Ideal S512x4096 .bf16) (x2 : Vec Ideal S1x512 .f32) : out0_3 (F := Ideal) x0 x1 x2 = k0_pay1 x0 x1 x2 := by
  unfold out0_3
  rw [View.canon_unit_zero zeros, View.ld_unit_zero zeros, View.ld_unit_zero zeros, View.ld_unit_zero zeros]

/-- Which blocks a point reads, by the block it writes. -/
theorem index_at : ∀ t : Fin cfg0.N, win0_0.index t = ![win0_3.index t 0, 0] ∧ win0_1.index t = ![win0_3.index t 1 + 13, 0] ∧ win0_2.index t = ![0, win0_3.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 3 cfg0.N = rows (φ := .bf16) 6656 (by decide) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_eq]
  obtain ⟨i0, i1, i2⟩ := index_at t
  have hy := ix2_coords (a := 2112) (b := 512) y
  generalize hu : y 0 = u at hy
  generalize hv : y 1 = v at hy
  subst hy
  refine (tile_at _ _ _ u v).trans (congrArg₂ (· + ·) (Finset.sum_congr rfl fun k _ => congrArg₂ (· * ·) ?_ ?_) ?_)
  · blk_point [iblk, V, i0]
  · blk_point [iblk, V, i1]
  · blk_point [iblk, V, i2]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = rows (φ := .bf16) 6656 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m g) (unchanged m g))

/-- Over the extended reals the kernel and the reference compute one array. -/
theorem same_value : Cert.algebraic_InGatesIdeal_InGatesReferenceIdeal := fun m g m' g' _ h =>
  ⟨fun c => rows (φ := .bf16) 6656 (by decide) (m ((c.tc : Thread nD τ).loc main_arg0)) (m ((c.tc : Thread nD τ).loc main_arg1)) (m ((c.tc : Thread nD τ).loc main_arg2)), run_value m g,
    (θ_run Cert.InGatesReferenceIdeal.defs _ _).mono (fun _ r c => ⟨(r c).1.trans ((Cert.InGatesReferenceIdeal.value_eq _ _ _ ).trans (congr (congrArg₂ (rows (φ := .bf16) 6656 (by decide)) (h c).1 (h c).2.1) (h c).2.2)), (r c).2⟩)
      (Cert.InGatesReferenceIdeal.Value.run m' g')⟩

/-- The idealized kernel runs, its arguments end unchanged and every semaphore counter reads zero. -/
theorem ideal_frame : Cert.quiescent_InGatesIdeal := fun m ρ _ => frame m ρ

/-- The printed kernel runs, its arguments end unchanged and every semaphore counter reads zero. -/
theorem kernel_frame : Cert.quiescent_InGates := fun m ρ _ => Cert.InGates.Gen.frame m ρ

end Cert.InGatesIdeal

end
-- ==== Proof.Dw.AttnOut.lean ====
/- The projection of attention's output: the kernel and the reference compute one product over the extended reals. -/
module

public import proofs.«01_k».proof.Defs
public import proofs.«01_k».proof.Proof.Dw.Product
public import proofs.«01_k».proof.Proof.Gen.AttnOut.Frame
public import proofs.«01_k».proof.Proof.Gen.AttnOutIdeal.Frame
public import proofs.«01_k».proof.Proof.Gen.AttnOutReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.AttnOutReferenceIdeal

open Cert.AttnOutReferenceIdeal.Gen Cert.Product
open Idealize.ShloMosaic Idealize.SL.Sem

/-- The reference's term is the product. -/
theorem value_eq (a : FVec Ideal S4224x2048 .bf16) (b : FVec Ideal S4096x2048 .bf16) :
    (truncf .bf16 (Host.dotGeneral (φ₁ := .f32) (φ₂ := .f32) dot_S4224x2048_S2048x4096_S4224x4096_1_0_0_1_n_n none (extf .f32 a bitsLt_bf16_f32) (transpose S2048x4096 [1, 0] (extf .f32 b bitsLt_bf16_f32) transposes_S4096x2048_S2048x4096_1_0)) bitsLt_bf16_f32 : FVec Ideal S4224x4096 .bf16) = nt (φ := .bf16) a b := by
  refine funext fun y => ?_
  rw [ix2_coords y]
  unfold nt
  pointwise

/-- The reference runs and its arguments end unchanged. -/
theorem frame : Cert.quiescent_AttnOutReferenceIdeal := fun m ρ _ =>
  (θ_run defs _ _).mono (fun r h => ⟨fun c => (h c).2, sem_eq_zero_of_no_sems (by decide) r.2⟩) (Value.run (F := Ideal) m ρ)

end Cert.AttnOutReferenceIdeal

namespace Cert.AttnOutIdeal

open Cert.AttnOutIdeal.Gen Cert.Product
open Idealize.ShloMosaic Idealize.ShloMosaic.TcCoe Idealize.SL.Sem
open Idealize.ShloMosaic.Pipeline (Dat)

/-- A tile of the result, entry by entry. -/
theorem tile_at (x0 : Vec Ideal S1056x2048 .bf16) (x1 : Vec Ideal S1024x2048 .bf16) (i : Fin 1056) (j : Fin 1024) :
    (k0_pay1 (F := Ideal) x0 x1) (ix2 i j) = ∑ k : Fin 2048, x0 (ix2 i k) * x1 (ix2 j k) := by
  pointwise [k0_pay1]

theorem out_eq (x0 : Vec Ideal S1056x2048 .bf16) (x1 : Vec Ideal S1024x2048 .bf16) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![win0_2.index t 0, 0] ∧ win0_1.index t = ![win0_2.index t 1, 0] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 2 cfg0.N = nt (φ := .bf16) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1⟩ := index_at t
  have hy := ix2_coords (a := 1056) (b := 1024) y
  generalize hu : y 0 = u at hy
  generalize hv : y 1 = v at hy
  subst hy
  refine (tile_at _ _ u v).trans (Finset.sum_congr rfl fun k _ => congrArg₂ (· * ·) ?_ ?_)
  · blk_point [iblk, V, i0]
  · blk_point [iblk, V, i1]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = nt (φ := .bf16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_AttnOutIdeal_AttnOutReferenceIdeal := fun m g m' g' _ h =>
  ⟨fun c => nt (φ := .bf16) (m ((c.tc : Thread nD τ).loc main_arg0)) (m ((c.tc : Thread nD τ).loc main_arg1)), run_value m g,
    (θ_run Cert.AttnOutReferenceIdeal.defs _ _).mono (fun _ r c => ⟨(r c).1.trans ((Cert.AttnOutReferenceIdeal.value_eq _ _ ).trans (congrArg₂ (nt (φ := .bf16)) (h c).1 (h c).2)), (r c).2⟩)
      (Cert.AttnOutReferenceIdeal.Value.run m' g')⟩

/-- The idealized kernel runs, its arguments end unchanged and every semaphore counter reads zero. -/
theorem ideal_frame : Cert.quiescent_AttnOutIdeal := fun m ρ _ => frame m ρ

/-- The printed kernel runs, its arguments end unchanged and every semaphore counter reads zero. -/
theorem kernel_frame : Cert.quiescent_AttnOut := fun m ρ _ => Cert.AttnOut.Gen.frame m ρ

end Cert.AttnOutIdeal

end
-- ==== Proof.Dw.MixOut.lean ====
/- The residual stream after the mixer: the kernel and the reference compute one product over the extended reals. -/
module

public import proofs.«01_k».proof.Defs
public import proofs.«01_k».proof.Proof.Dw.Product
public import proofs.«01_k».proof.Proof.Gen.MixOut.Frame
public import proofs.«01_k».proof.Proof.Gen.MixOutIdeal.Frame
public import proofs.«01_k».proof.Proof.Gen.MixOutReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.MixOutReferenceIdeal

open Cert.MixOutReferenceIdeal.Gen Cert.Product
open Idealize.ShloMosaic Idealize.SL.Sem

/-- The reference's term is the product. -/
theorem value_eq (a : FVec Ideal S4224x4096 .bf16) (b : FVec Ideal S4096x4096 .bf16) (d : FVec Ideal S4224x4096 .f32) :
    (addf d (Host.dotGeneral (φ₁ := .f32) (φ₂ := .f32) dot_S4224x4096_S4096x4096_S4224x4096_1_0_0_1_n_n none (extf .f32 a bitsLt_bf16_f32) (extf .f32 b bitsLt_bf16_f32)) : FVec Ideal S4224x4096 .f32) = plus a b d := by
  refine funext fun y => ?_
  rw [ix2_coords y]
  unfold plus
  pointwise
  exact add_comm _ _

/-- The reference runs and its arguments end unchanged. -/
theorem frame : Cert.quiescent_MixOutReferenceIdeal := fun m ρ _ =>
  (θ_run defs _ _).mono (fun r h => ⟨fun c => (h c).2, sem_eq_zero_of_no_sems (by decide) r.2⟩) (Value.run (F := Ideal) m ρ)

end Cert.MixOutReferenceIdeal

namespace Cert.MixOutIdeal

open Cert.MixOutIdeal.Gen Cert.Product
open Idealize.ShloMosaic Idealize.ShloMosaic.TcCoe Idealize.SL.Sem
open Idealize.ShloMosaic.Pipeline (Dat)

/-- A tile of the result, entry by entry. -/
theorem tile_at (x0 : Vec Ideal S1056x4096 .bf16) (x1 : Vec Ideal S4096x512 .bf16) (x2 : Vec Ideal S1056x512 .f32) (i : Fin 1056) (j : Fin 512) :
    (k0_pay1 (F := Ideal) x0 x1 x2) (ix2 i j) = (∑ k : Fin 4096, x0 (ix2 i k) * x1 (ix2 k j)) + x2 (ix2 i j) := by
  pointwise [k0_pay1]

theorem out_eq (x0 : Vec Ideal S1056x4096 .bf16) (x1 : Vec Ideal S4096x512 .bf16) (x2 : Vec Ideal S1056x512 .f32) : out0_3 (F := Ideal) x0 x1 x2 = k0_pay1 x0 x1 x2 := by
  unfold out0_3
  rw [View.canon_unit_zero zeros, View.ld_unit_zero zeros, View.ld_unit_zero zeros, View.ld_unit_zero zeros]

/-- Which blocks a point reads, by the block it writes. -/
theorem index_at : ∀ t : Fin cfg0.N, win0_0.index t = ![win0_3.index t 0, 0] ∧ win0_1.index t = ![0, win0_3.index t 1] ∧ win0_2.index t = ![win0_3.index t 0, win0_3.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 3 cfg0.N = plus (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_eq]
  obtain ⟨i0, i1, i2⟩ := index_at t
  have hy := ix2_coords (a := 1056) (b := 512) y
  generalize hu : y 0 = u at hy
  generalize hv : y 1 = v at hy
  subst hy
  refine (tile_at _ _ _ u v).trans (congrArg₂ (· + ·) (Finset.sum_congr rfl fun k _ => congrArg₂ (· * ·) ?_ ?_) ?_)
  · blk_point [iblk, V, i0]
  · blk_point [iblk, V, i1]
  · blk_point [iblk, V, i2]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = plus (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m g) (unchanged m g))

/-- Over the extended reals the kernel and the reference compute one array. -/
theorem same_value : Cert.algebraic_MixOutIdeal_MixOutReferenceIdeal := fun m g m' g' _ h =>
  ⟨fun c => plus (m ((c.tc : Thread nD τ).loc main_arg0)) (m ((c.tc : Thread nD τ).loc main_arg1)) (m ((c.tc : Thread nD τ).loc main_arg2)), run_value m g,
    (θ_run Cert.MixOutReferenceIdeal.defs _ _).mono (fun _ r c => ⟨(r c).1.trans ((Cert.MixOutReferenceIdeal.value_eq _ _ _ ).trans (congr (congrArg₂ (plus) (h c).1 (h c).2.1) (h c).2.2)), (r c).2⟩)
      (Cert.MixOutReferenceIdeal.Value.run m' g')⟩

/-- The idealized kernel runs, its arguments end unchanged and every semaphore counter reads zero. -/
theorem ideal_frame : Cert.quiescent_MixOutIdeal := fun m ρ _ => frame m ρ

/-- The printed kernel runs, its arguments end unchanged and every semaphore counter reads zero. -/
theorem kernel_frame : Cert.quiescent_MixOut := fun m ρ _ => Cert.MixOut.Gen.frame m ρ

end Cert.MixOutIdeal

end
-- ==== Proof.Dw.FfnDown.lean ====
/- The residual stream after the feed-forward: the kernel and the reference compute one product over the extended reals. -/
module

public import proofs.«01_k».proof.Defs
public import proofs.«01_k».proof.Proof.Dw.Product
public import proofs.«01_k».proof.Proof.Gen.FfnDown.Frame
public import proofs.«01_k».proof.Proof.Gen.FfnDownIdeal.Frame
public import proofs.«01_k».proof.Proof.Gen.FfnDownReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.FfnDownReferenceIdeal

open Cert.FfnDownReferenceIdeal.Gen Cert.Product
open Idealize.ShloMosaic Idealize.SL.Sem

/-- The reference's term is the product. -/
theorem value_eq (a : FVec Ideal S4224x11008 .bf16) (b : FVec Ideal S11008x4096 .bf16) (d : FVec Ideal S4224x4096 .f32) :
    (addf d (Host.dotGeneral (φ₁ := .f32) (φ₂ := .f32) dot_S4224x11008_S11008x4096_S4224x4096_1_0_0_1_n_n none (extf .f32 a bitsLt_bf16_f32) (extf .f32 b bitsLt_bf16_f32)) : FVec Ideal S4224x4096 .f32) = plus a b d := by
  refine funext fun y => ?_
  rw [ix2_coords y]
  unfold plus
  pointwise
  exact add_comm _ _

/-- The reference runs and its arguments end unchanged. -/
theorem frame : Cert.quiescent_FfnDownReferenceIdeal := fun m ρ _ =>
  (θ_run defs _ _).mono (fun r h => ⟨fun c => (h c).2, sem_eq_zero_of_no_sems (by decide) r.2⟩) (Value.run (F := Ideal) m ρ)

end Cert.FfnDownReferenceIdeal

namespace Cert.FfnDownIdeal

open Cert.FfnDownIdeal.Gen Cert.Product
open Idealize.ShloMosaic Idealize.ShloMosaic.TcCoe Idealize.SL.Sem
open Idealize.ShloMosaic.Pipeline (Dat)

/-- A tile of the result, entry by entry. -/
theorem tile_at (x0 : Vec Ideal S528x11008 .bf16) (x1 : Vec Ideal S11008x512 .bf16) (x2 : Vec Ideal S528x512 .f32) (i : Fin 528) (j : Fin 512) :
    (k0_pay1 (F := Ideal) x0 x1 x2) (ix2 i j) = (∑ k : Fin 11008, x0 (ix2 i k) * x1 (ix2 k j)) + x2 (ix2 i j) := by
  pointwise [k0_pay1]

theorem out_eq (x0 : Vec Ideal S528x11008 .bf16) (x1 : Vec Ideal S11008x512 .bf16) (x2 : Vec Ideal S528x512 .f32) : out0_3 (F := Ideal) x0 x1 x2 = k0_pay1 x0 x1 x2 := by
  unfold out0_3
  rw [View.canon_unit_zero zeros, View.ld_unit_zero zeros, View.ld_unit_zero zeros, View.ld_unit_zero zeros]

/-- Which blocks a point reads, by the block it writes. -/
theorem index_at : ∀ t : Fin cfg0.N, win0_0.index t = ![win0_3.index t 0, 0] ∧ win0_1.index t = ![0, win0_3.index t 1] ∧ win0_2.index t = ![win0_3.index t 0, win0_3.index t 1] :=
  (by decide +kernel : ∀ t : Fin grid0.N, _)

variable (m : (ℓ : Loc nD τ sig) → Buf (Elt Ideal) ℓ) (g : Dev nD → PrngReg) (c : Dev nD)

/-- The kernel's array is the product. -/
theorem final : (dats m 0 c).arrAt 3 cfg0.N = plus (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_eq]
  obtain ⟨i0, i1, i2⟩ := index_at t
  have hy := ix2_coords (a := 528) (b := 512) y
  generalize hu : y 0 = u at hy
  generalize hv : y 1 = v at hy
  subst hy
  refine (tile_at _ _ _ u v).trans (congrArg₂ (· + ·) (Finset.sum_congr rfl fun k _ => congrArg₂ (· * ·) ?_ ?_) ?_)
  · blk_point [iblk, V, i0]
  · blk_point [iblk, V, i1]
  · blk_point [iblk, V, i2]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = plus (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m g) (unchanged m g))

/-- Over the extended reals the kernel and the reference compute one array. -/
theorem same_value : Cert.algebraic_FfnDownIdeal_FfnDownReferenceIdeal := fun m g m' g' _ h =>
  ⟨fun c => plus (m ((c.tc : Thread nD τ).loc main_arg0)) (m ((c.tc : Thread nD τ).loc main_arg1)) (m ((c.tc : Thread nD τ).loc main_arg2)), run_value m g,
    (θ_run Cert.FfnDownReferenceIdeal.defs _ _).mono (fun _ r c => ⟨(r c).1.trans ((Cert.FfnDownReferenceIdeal.value_eq _ _ _ ).trans (congr (congrArg₂ (plus) (h c).1 (h c).2.1) (h c).2.2)), (r c).2⟩)
      (Cert.FfnDownReferenceIdeal.Value.run m' g')⟩

/-- The idealized kernel runs, its arguments end unchanged and every semaphore counter reads zero. -/
theorem ideal_frame : Cert.quiescent_FfnDownIdeal := fun m ρ _ => frame m ρ

/-- The printed kernel runs, its arguments end unchanged and every semaphore counter reads zero. -/
theorem kernel_frame : Cert.quiescent_FfnDown := fun m ρ _ => Cert.FfnDown.Gen.frame m ρ

end Cert.FfnDownIdeal

end
-- ==== Proof.Dw.GateUpDx.lean ====
/- The gradient of the feed-forward layer's normalised input: the kernel, which sums in four steps, and the reference compute one product over the extended reals. -/
module

public import proofs.«01_k».proof.Defs
public import proofs.«01_k».proof.Proof.Dw.Product
public import proofs.«01_k».proof.Proof.Gen.GateUpDx.Frame
public import proofs.«01_k».proof.Proof.Gen.GateUpDxIdeal.Frame
public import proofs.«01_k».proof.Proof.Gen.GateUpDxReferenceIdeal.Run
public import Idealize.ShloMosaic.Lib.Pipeline.ValueKit
public import Idealize.ShloMosaic.Lib.Pipeline.ReadBack
public import Idealize.ShloMosaic.Lib.IdealHost
public import Idealize.ShloMosaic.Init
public import Idealize.ShloMosaic.Lib.Quiescent

@[expose] public section

set_option maxRecDepth 16384

noncomputable section

namespace Cert.GateUpDxReferenceIdeal

open Cert.GateUpDxReferenceIdeal.Gen Cert.Product
open Idealize.ShloMosaic Idealize.SL.Sem

/-- The two halves of the left array, one after the other along the contracted axis, times the right one. -/
def product (a : FVec Ideal S2x4224x11008 .bf16) (b : FVec Ideal S22016x4096 .bf16) : FVec Ideal S4224x4096 .f32 :=
  fun y => ∑ l : Fin 22016,
    a (ix3 (⟨l.val / 11008, Nat.div_lt_of_lt_mul l.isLt⟩ : Fin 2) (y 0) (⟨l.val % 11008, Nat.mod_lt _ (by decide)⟩ : Fin 11008)) * b (ix2 l (y 1))

/-- The reference's term is the product. -/
theorem value_eq (a : FVec Ideal S2x4224x11008 .bf16) (b : FVec Ideal S22016x4096 .bf16) :
    (Host.dotGeneral (φ₁ := .f32) (φ₂ := .f32) dot_S4224x22016_S4096x22016_S4224x4096_1_1_0_0_n_n none (concatenate S4224x22016 1 [⟨S4224x11008, (shapeCast _ (extractStridedSlice S1x4224x11008 ![0, 0, 0] (extf .f32 a bitsLt_bf16_f32) slices_S2x4224x11008_S1x4224x11008_0_0_0) shapeCasts_S1x4224x11008_S4224x11008)⟩, ⟨S4224x11008, (shapeCast _ (extractStridedSlice S1x4224x11008 ![1, 0, 0] (extf .f32 a bitsLt_bf16_f32) slices_S2x4224x11008_S1x4224x11008_1_0_0) shapeCasts_S1x4224x11008_S4224x11008)⟩] concatenates_S4224x11008_S4224x11008_S4224x22016_d1) (transpose S4096x22016 [1, 0] (extf .f32 b bitsLt_bf16_f32) transposes_S22016x4096_S4096x22016_1_0) : FVec Ideal S4224x4096 .f32) = product a b := by
  refine funext fun y => ?_
  rw [ix2_coords y]
  unfold product
  pointwise
  refine Eq.trans (congrArg₂ (fun p q : EReal => p + q) (Finset.sum_congr rfl fun l _ => ?_) (Finset.sum_congr rfl fun l _ => ?_))
    (Fin.sum_univ_add (a := 11008) (b := 11008) (fun l : Fin 22016 =>
      (a (ix3 (⟨l.val / 11008, Nat.div_lt_of_lt_mul l.isLt⟩ : Fin 2) (y 0) (⟨l.val % 11008, Nat.mod_lt _ (by decide)⟩ : Fin 11008)) * b (ix2 l (y 1)) : EReal))).symm
  · have hl : l.val < 11008 := l.isLt
    exact congrArg₂ (fun p q => (a (ix3 p (y 0) q) * b (ix2 ⟨l.val, by omega⟩ (y 1)) : EReal)) (Fin.ext (by show 0 = l.val / 11008; omega)) (Fin.ext (by show l.val = l.val % 11008; omega))
  · have hl : l.val < 11008 := l.isLt
    exact congrArg₂ (fun p q => (a (ix3 p (y 0) q) * b (ix2 ⟨11008 + l.val, by omega⟩ (y 1)) : EReal)) (Fin.ext (by show 1 = (11008 + l.val) / 11008; omega)) (Fin.ext (by show l.val = (11008 + l.val) % 11008; omega))

/-- The reference runs and its arguments end unchanged. -/
theorem frame : Cert.quiescent_GateUpDxReferenceIdeal := fun m ρ _ =>
  (θ_run defs _ _).mono (fun r h => ⟨fun c => (h c).2, sem_eq_zero_of_no_sems (by decide) r.2⟩) (Value.run (F := Ideal) m ρ)

end Cert.GateUpDxReferenceIdeal

namespace Cert.GateUpDxIdeal

open Cert.GateUpDxIdeal.Gen Cert.Product
open Idealize.ShloMosaic Idealize.ShloMosaic.TcCoe Idealize.SL.Sem
open Idealize.ShloMosaic.Pipeline (Dat)

/-- A tile's product, entry by entry. -/
theorem tile_at (x0 : Vec Ideal S1x1056x5504 .bf16) (x1 : Vec Ideal S5504x512 .bf16) (i : Fin 1056) (j : Fin 512) :
    (k0_pay1 (F := Ideal) x0 x1) (ix2 i j) = ∑ k : Fin 5504, x0 (ix3 0 i k) * x1 (ix2 k j) := by
  pointwise [k0_pay1]

/-- What the first point of four stores is its product. -/
theorem start_eq (x0 : Vec Ideal S1x1056x5504 .bf16) (x1 : Vec Ideal S5504x512 .bf16) : k0_pay2 (F := Ideal) x0 x1 = k0_pay1 x0 x1 := by
  unfold k0_pay2
  exact shapeCast_self _ _

/-- What a later point stores is the sum so far and its product. -/
theorem step_at (x0 : Vec Ideal S1x1056x5504 .bf16) (x1 : Vec Ideal S5504x512 .bf16) (x2 : Vec Ideal S1056x512 .f32) (i : S1056x512.Idx) :
    k0_pay3 (F := Ideal) x0 x1 x2 i = (x2 i : EReal) + k0_pay1 x0 x1 i := by
  unfold k0_pay3
  exact congrFun (shapeCast_self _ _) i

/-- Which blocks a point reads and which one it writes: four points in a row share the one they write. -/
theorem index_at : ∀ t : Fin cfg0.N, win0_0.index t = ![t.val % 4 / 2, t.val / 32, t.val % 4 % 2] ∧ win0_1.index t = ![t.val % 4, t.val / 4 % 8] ∧ win0_2.index t = ![t.val / 32, t.val / 4 % 8] :=
  (by decide +kernel : ∀ t : Fin grid0.N, _)

variable (m : (ℓ : Loc nD τ sig) → Buf (Elt Ideal) ℓ) (g : Dev nD → PrngReg) (c : Dev nD)

/-- What one point adds to the sum. -/
def term (t : Fin cfg0.N) : Vec Ideal S1056x512 .f32 := k0_pay1 (F := Ideal) (iblk m c 0 t) (iblk m c 1 t)

/-- The first point of four leaves its own product in the sum. -/
theorem sum_first (t : Fin cfg0.N) (h : t.val % 4 = 0) (i : S1056x512.Idx) :
    (outsAt0 m c t.val t.isLt).2 i = (0 : EReal) + term m c t i := by
  rw [outsAt0_A m c t h (by omega) (by omega), zero_add]
  frame_out
  rw [start_eq]
  rfl

/-- Each later point adds its product. -/
theorem sum_later (t : Fin cfg0.N) (h : ¬t.val % 4 = 0) (i : S1056x512.Idx) :
    (outsAt0 m c t.val t.isLt).2 i = ((outsAt0 m c (t.val - 1) (Nat.lt_of_le_of_lt (Nat.sub_le _ _) t.isLt)).2 i : EReal) + term m c t i := by
  by_cases h3 : t.val % 4 = 3
  · rw [outsAt0_C m c t h (by omega) h3]
    frame_out
    simp only [read_unread_whole]
    exact step_at _ _ _ i
  · rw [outsAt0_B m c t h (by omega) h3]
    frame_out
    simp only [read_unread_whole]
    exact step_at _ _ _ i

/-- The last point of four writes the sum. -/
theorem written (t : Fin cfg0.N) (h : t.val % 4 = 3) : (outsAt0 m c t.val t.isLt).1 = (outsAt0 m c t.val t.isLt).2 := by
  rw [outsAt0_C m c t (by omega) (by omega) h]
  frame_out

/-- After the last point of four the sum holds the four products. -/
theorem total (t : Fin cfg0.N) (h : t.val % 4 = 4 - 1) (i : S1056x512.Idx) :
    (outsAt0 m c t.val t.isLt).2 i = ∑ s : Fin 4, (term m c ⟨4 * (t.val / 4) + s.val, Pipeline.run_point_lt_of_flush t h s⟩ i : EReal) :=
  (Pipeline.eq_sum_fin_of_reset_step_apply_of_flush (M := EReal) (fun n hn => (outsAt0 m c n hn).2) 4 (fun _ => (0 : EReal)) (fun t i => term m c t i)
    (sum_first m c) (sum_later m c) t h i).trans (zero_add _)

/-- The kernel's array is the product. -/
theorem final : (dats m 0 c).arrAt 2 cfg0.N = Cert.GateUpDxReferenceIdeal.product (m ((c.tc : Thread nD τ).loc main_arg0)) (m ((c.tc : Thread nD τ).loc main_arg1)) := by
  refine (dats m 0 c).arrAt_eq_of_covers 2 _ (by decide +kernel) fun t hf y => ?_
  have h3 : t.val % 4 = 4 - 1 := (flush0_2 t).mp hf
  have h2 := (index_at t).2.2
  blk_simp
  rw [after0_2, written m c t h3]
  have hy := ix2_coords (a := 1056) (b := 512) y
  generalize hu : y 0 = u at hy
  generalize hv : y 1 = v at hy
  subst hy
  refine (total m c t h3 _).trans ((Finset.sum_congr rfl fun s _ => tile_at _ _ u v).trans (Fin.sum_mul_add_congr fun s k hl => congrArg₂ (· * ·) ?_ ?_))
  · have hs := index_at ⟨4 * (t.val / 4) + s.val, Pipeline.run_point_lt_of_flush t h3 s⟩
    obtain ⟨i0, i1, -⟩ := hs
    blk_point [iblk, V, i0, h2]
  · have hs := index_at ⟨4 * (t.val / 4) + s.val, Pipeline.run_point_lt_of_flush t h3 s⟩
    obtain ⟨i0, i1, -⟩ := hs
    blk_point [iblk, V, i1, h2]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = Cert.GateUpDxReferenceIdeal.product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_GateUpDxIdeal_GateUpDxReferenceIdeal := fun m g m' g' _ h =>
  ⟨fun c => Cert.GateUpDxReferenceIdeal.product (m ((c.tc : Thread nD τ).loc main_arg0)) (m ((c.tc : Thread nD τ).loc main_arg1)), run_value m g,
    (θ_run Cert.GateUpDxReferenceIdeal.defs _ _).mono (fun _ r c => ⟨(r c).1.trans ((Cert.GateUpDxReferenceIdeal.value_eq _ _ ).trans (congrArg₂ (Cert.GateUpDxReferenceIdeal.product) (h c).1 (h c).2)), (r c).2⟩)
      (Cert.GateUpDxReferenceIdeal.Value.run m' g')⟩

/-- The idealized kernel runs, its arguments end unchanged and every semaphore counter reads zero. -/
theorem ideal_frame : Cert.quiescent_GateUpDxIdeal := fun m ρ _ => frame m ρ

/-- The printed kernel runs, its arguments end unchanged and every semaphore counter reads zero. -/
theorem kernel_frame : Cert.quiescent_GateUpDx := fun m ρ _ => Cert.GateUpDx.Gen.frame m ρ

end Cert.GateUpDxIdeal

end
-- ==== Proof.Dw.InDx.lean ====
/- The gradient of the block's normalised input: the kernel, which sums in four steps, and the reference compute one product over the extended reals. -/
module

public import proofs.«01_k».proof.Defs
public import proofs.«01_k».proof.Proof.Dw.Product
public import proofs.«01_k».proof.Proof.Gen.InDx.Frame
public import proofs.«01_k».proof.Proof.Gen.InDxIdeal.Frame
public import proofs.«01_k».proof.Proof.Gen.InDxReferenceIdeal.Run
public import Idealize.ShloMosaic.Lib.Pipeline.ValueKit
public import Idealize.ShloMosaic.Lib.Pipeline.ReadBack
public import Idealize.ShloMosaic.Lib.IdealHost
public import Idealize.ShloMosaic.Init
public import Idealize.ShloMosaic.Lib.Quiescent

@[expose] public section

set_option maxRecDepth 16384

noncomputable section

namespace Cert.InDxReferenceIdeal

open Cert.InDxReferenceIdeal.Gen Cert.Product
open Idealize.ShloMosaic Idealize.SL.Sem

/-- The reference's term is the product. -/
theorem value_eq (a : FVec Ideal S4224x14848 .bf16) (b : FVec Ideal S14848x4096 .bf16) :
    (Host.dotGeneral (φ₁ := .f32) (φ₂ := .f32) dot_S4224x14848_S4096x14848_S4224x4096_1_1_0_0_n_n none (extf .f32 a bitsLt_bf16_f32) (transpose S4096x14848 [1, 0] (extf .f32 b bitsLt_bf16_f32) transposes_S14848x4096_S4096x14848_1_0) : FVec Ideal S4224x4096 .f32) = nn (φ := .f32) a b := by
  refine funext fun y => ?_
  rw [ix2_coords y]
  unfold nn
  pointwise

/-- The reference runs and its arguments end unchanged. -/
theorem frame : Cert.quiescent_InDxReferenceIdeal := fun m ρ _ =>
  (θ_run defs _ _).mono (fun r h => ⟨fun c => (h c).2, sem_eq_zero_of_no_sems (by decide) r.2⟩) (Value.run (F := Ideal) m ρ)

end Cert.InDxReferenceIdeal

namespace Cert.InDxIdeal

open Cert.InDxIdeal.Gen Cert.Product
open Idealize.ShloMosaic Idealize.ShloMosaic.TcCoe Idealize.SL.Sem
open Idealize.ShloMosaic.Pipeline (Dat)

/-- A tile's product, entry by entry. -/
theorem tile_at (x0 : Vec Ideal S1056x3712 .bf16) (x1 : Vec Ideal S3712x1024 .bf16) (i : Fin 1056) (j : Fin 1024) :
    (k0_pay1 (F := Ideal) x0 x1) (ix2 i j) = ∑ k : Fin 3712, x0 (ix2 i k) * x1 (ix2 k j) := by
  pointwise [k0_pay1]

/-- What the first point of four stores is its product. -/
theorem start_eq (x0 : Vec Ideal S1056x3712 .bf16) (x1 : Vec Ideal S3712x1024 .bf16) : k0_pay2 (F := Ideal) x0 x1 = k0_pay1 x0 x1 := by
  unfold k0_pay2
  exact shapeCast_self _ _

/-- What a later point stores is the sum so far and its product. -/
theorem step_at (x0 : Vec Ideal S1056x3712 .bf16) (x1 : Vec Ideal S3712x1024 .bf16) (x2 : Vec Ideal S1056x1024 .f32) (i : S1056x1024.Idx) :
    k0_pay3 (F := Ideal) x0 x1 x2 i = (x2 i : EReal) + k0_pay1 x0 x1 i := by
  unfold k0_pay3
  exact congrFun (shapeCast_self _ _) i

/-- Which blocks a point reads and which one it writes: four points in a row share the one they write. -/
theorem index_at : ∀ t : Fin cfg0.N, win0_0.index t = ![t.val / 16, t.val % 4] ∧ win0_1.index t = ![t.val % 4, t.val / 4 % 4] ∧ win0_2.index t = ![t.val / 16, t.val / 4 % 4] :=
  (by decide +kernel : ∀ t : Fin grid0.N, _)

variable (m : (ℓ : Loc nD τ sig) → Buf (Elt Ideal) ℓ) (g : Dev nD → PrngReg) (c : Dev nD)

/-- What one point adds to the sum. -/
def term (t : Fin cfg0.N) : Vec Ideal S1056x1024 .f32 := k0_pay1 (F := Ideal) (iblk m c 0 t) (iblk m c 1 t)

/-- The first point of four leaves its own product in the sum. -/
theorem sum_first (t : Fin cfg0.N) (h : t.val % 4 = 0) (i : S1056x1024.Idx) :
    (outsAt0 m c t.val t.isLt).2 i = (0 : EReal) + term m c t i := by
  rw [outsAt0_A m c t h (by omega) (by omega), zero_add]
  frame_out
  rw [start_eq]
  rfl

/-- Each later point adds its product. -/
theorem sum_later (t : Fin cfg0.N) (h : ¬t.val % 4 = 0) (i : S1056x1024.Idx) :
    (outsAt0 m c t.val t.isLt).2 i = ((outsAt0 m c (t.val - 1) (Nat.lt_of_le_of_lt (Nat.sub_le _ _) t.isLt)).2 i : EReal) + term m c t i := by
  by_cases h3 : t.val % 4 = 3
  · rw [outsAt0_C m c t h (by omega) h3]
    frame_out
    simp only [read_unread_whole]
    exact step_at _ _ _ i
  · rw [outsAt0_B m c t h (by omega) h3]
    frame_out
    simp only [read_unread_whole]
    exact step_at _ _ _ i

/-- The last point of four writes the sum. -/
theorem written (t : Fin cfg0.N) (h : t.val % 4 = 3) : (outsAt0 m c t.val t.isLt).1 = (outsAt0 m c t.val t.isLt).2 := by
  rw [outsAt0_C m c t (by omega) (by omega) h]
  frame_out

/-- After the last point of four the sum holds the four products. -/
theorem total (t : Fin cfg0.N) (h : t.val % 4 = 4 - 1) (i : S1056x1024.Idx) :
    (outsAt0 m c t.val t.isLt).2 i = ∑ s : Fin 4, (term m c ⟨4 * (t.val / 4) + s.val, Pipeline.run_point_lt_of_flush t h s⟩ i : EReal) :=
  (Pipeline.eq_sum_fin_of_reset_step_apply_of_flush (M := EReal) (fun n hn => (outsAt0 m c n hn).2) 4 (fun _ => (0 : EReal)) (fun t i => term m c t i)
    (sum_first m c) (sum_later m c) t h i).trans (zero_add _)

/-- The kernel's array is the product. -/
theorem final : (dats m 0 c).arrAt 2 cfg0.N = nn (φ := .f32) (m ((c.tc : Thread nD τ).loc main_arg0)) (m ((c.tc : Thread nD τ).loc main_arg1)) := by
  refine (dats m 0 c).arrAt_eq_of_covers 2 _ (by decide +kernel) fun t hf y => ?_
  have h3 : t.val % 4 = 4 - 1 := (flush0_2 t).mp hf
  have h2 := (index_at t).2.2
  blk_simp
  rw [after0_2, written m c t h3]
  have hy := ix2_coords (a := 1056) (b := 1024) y
  generalize hu : y 0 = u at hy
  generalize hv : y 1 = v at hy
  subst hy
  refine (total m c t h3 _).trans ((Finset.sum_congr rfl fun s _ => tile_at _ _ u v).trans (Fin.sum_mul_add_congr fun s k hl => congrArg₂ (· * ·) ?_ ?_))
  · have hs := index_at ⟨4 * (t.val / 4) + s.val, Pipeline.run_point_lt_of_flush t h3 s⟩
    obtain ⟨i0, i1, -⟩ := hs
    blk_point [iblk, V, i0, h2]
  · have hs := index_at ⟨4 * (t.val / 4) + s.val, Pipeline.run_point_lt_of_flush t h3 s⟩
    obtain ⟨i0, i1, -⟩ := hs
    blk_point [iblk, V, i1, h2]

/-- The run: the result at the product, the arguments unchanged. -/
theorem run_value : θ_run defs (onTc (τ := τ) (main (F := Ideal))) ⟨m, fun _ => 0, g⟩ fun r => ∀ c : Dev nD,
      r.2.mem ((c.tc : Thread nD τ).loc main_v0) = nn (φ := .f32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_InDxIdeal_InDxReferenceIdeal := fun m g m' g' _ h =>
  ⟨fun c => nn (φ := .f32) (m ((c.tc : Thread nD τ).loc main_arg0)) (m ((c.tc : Thread nD τ).loc main_arg1)), run_value m g,
    (θ_run Cert.InDxReferenceIdeal.defs _ _).mono (fun _ r c => ⟨(r c).1.trans ((Cert.InDxReferenceIdeal.value_eq _ _ ).trans (congrArg₂ (nn (φ := .f32)) (h c).1 (h c).2)), (r c).2⟩)
      (Cert.InDxReferenceIdeal.Value.run m' g')⟩

/-- The idealized kernel runs, its arguments end unchanged and every semaphore counter reads zero. -/
theorem ideal_frame : Cert.quiescent_InDxIdeal := fun m ρ _ => frame m ρ

/-- The printed kernel runs, its arguments end unchanged and every semaphore counter reads zero. -/
theorem kernel_frame : Cert.quiescent_InDx := fun m ρ _ => Cert.InDx.Gen.frame m ρ

end Cert.InDxIdeal

end
-- ==== Proof.Attn.Softmax.lean ====
/- The softmax of one row of 384 masked scores and a sink, and its gradient, over the extended reals: the weights by a
   reciprocal and by a division, and the gradient as a difference from the mean and as the quotient rule has it. -/
module

public import Idealize.ShloMosaic.PureOps.Ideal
public import Idealize.ShloMosaic.Lib.IdealHost
public import Mathlib.Data.EReal.Operations

@[expose] public section

noncomputable section

namespace Cert.Softmax

open Idealize.ShloMosaic

/-- An extended real that is a real. -/
def Fin' (x : EReal) : Prop := ∃ r : ℝ, x = (r : EReal)

theorem fin_sum {ι : Type} (s : Finset ι) (f : ι → EReal) (h : ∀ i, Fin' (f i)) : Fin' (∑ i ∈ s, f i) := by
  classical
  choose r hr using h
  refine ⟨∑ i ∈ s, r i, ?_⟩
  induction s using Finset.induction_on with
  | empty => simp
  | insert a s ha ih => rw [Finset.sum_insert ha, Finset.sum_insert ha, ih, hr, EReal.coe_add]

theorem fin_mul {x y : EReal} (hx : Fin' x) (hy : Fin' y) : Fin' (x * y) := by
  obtain ⟨a, rfl⟩ := hx
  obtain ⟨b, rfl⟩ := hy
  exact ⟨a * b, (EReal.coe_mul a b).symm⟩

/-- A real that is not negative goes into a sum. -/
theorem coe_mul_sum {ι : Type} (s : Finset ι) (f : ι → EReal) (c : ℝ) (hc : 0 ≤ c) : ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

section Row

variable (L : Fin 384 → Prop) [DecidablePred L] (t : Fin 384 → EReal) (σ : EReal) (dp : Fin 384 → EReal)

/-- The masked scores. -/
def score (j : Fin 384) : EReal := if L j then t j else ⊥
/-- The largest score, the sink's with them. -/
def top : EReal := max (Finset.univ.fold max ⊥ (score L t)) σ
/-- The exponentials. -/
def ex (j : Fin 384) : EReal := Ideal.exp (score L t j - top L t σ)
/-- The sink's exponential. -/
def exs : EReal := Ideal.exp (σ - top L t σ)
/-- The normalizer. -/
def Z : EReal := ∑ j, ex L t σ j + exs L t σ
/-- The weights. -/
def wt (j : Fin 384) : EReal := ex L t σ j * Ideal.div 1 (Z L t σ)
/-- The sink's weight. -/
def wts : EReal := exs L t σ * Ideal.div 1 (Z L t σ)
/-- The mean of the weights' gradient. -/
def mean : EReal := ∑ j, wt L t σ j * dp j
/-- The scores' gradient. -/
def grad (j : Fin 384) : EReal := wt L t σ j * (dp j - mean L t σ dp)
/-- The sink's gradient. -/
def grads : EReal := (0 - wts L t σ) * mean L t σ dp

variable (ht : ∀ j, L j → Fin' (t j)) (hσ : Fin' σ)

include ht hσ in
/-- The largest score is a real. -/
theorem top_fin : Fin' (top L t σ) := by
  obtain ⟨s, rfl⟩ := hσ
  have hbot : top L t (s : EReal) ≠ ⊥ := fun h => EReal.coe_ne_bot s (le_bot_iff.mp (h ▸ le_max_right _ _))
  have htop : top L t (s : EReal) ≠ ⊤ := by
    refine ne_of_lt (max_lt ?_ (EReal.coe_lt_top s))
    refine (Finset.fold_max_lt (c := ⊤)).mpr ⟨bot_lt_top, fun j _ => ?_⟩
    unfold score
    split
    · next h =>
      obtain ⟨r, hr⟩ := ht j h
      rw [hr]
      exact EReal.coe_lt_top r
    · exact bot_lt_top
  exact ⟨_, (EReal.coe_toReal htop hbot).symm⟩

include ht hσ in
/-- An exponential is a real and not negative. -/
theorem ex_fin (j : Fin 384) : ∃ r : ℝ, 0 ≤ r ∧ ex L t σ j = (r : EReal) := by
  obtain ⟨M, hM⟩ := top_fin L t σ ht hσ
  unfold ex score
  rw [hM]
  split
  · next h =>
    obtain ⟨r, hr⟩ := ht j h
    rw [hr]
    exact ⟨Real.exp (r - M), (Real.exp_pos _).le, rfl⟩
  · exact ⟨0, le_refl _, by rw [EReal.bot_sub]; rfl⟩

include ht hσ in
/-- A masked exponential is zero. -/
theorem ex_dead (j : Fin 384) (h : ¬L j) : ex L t σ j = 0 := by
  unfold ex score
  rw [if_neg h, EReal.bot_sub]
  rfl

include ht hσ in
/-- The sink's exponential is a real and positive. -/
theorem exs_fin : ∃ r : ℝ, 0 < r ∧ exs L t σ = (r : EReal) := by
  obtain ⟨M, hM⟩ := top_fin L t σ ht hσ
  obtain ⟨s, rfl⟩ := hσ
  unfold exs
  rw [hM]
  exact ⟨Real.exp (s - M), Real.exp_pos _, rfl⟩

include ht hσ in
/-- The normalizer is a real and positive. -/
theorem Z_fin : ∃ z : ℝ, 0 < z ∧ Z L t σ = (z : EReal) := by
  choose r hr0 hr using ex_fin L t σ ht hσ
  obtain ⟨s, hs0, hs⟩ := exs_fin L t σ ht hσ
  have hsum : ∀ S : Finset (Fin 384), ∑ j ∈ S, ex L t σ j = ((∑ j ∈ S, r j : ℝ) : EReal) := by
    intro S
    induction S using Finset.induction_on with
    | empty => simp
    | insert a S ha ih => rw [Finset.sum_insert ha, Finset.sum_insert ha, ih, hr, EReal.coe_add]
  refine ⟨∑ j, r j + s, add_pos_of_nonneg_of_pos (Finset.sum_nonneg fun j _ => hr0 j) hs0, ?_⟩
  unfold Z
  rw [hsum, hs, EReal.coe_add]

include ht hσ in
/-- A masked weight is zero. -/
theorem wt_dead (j : Fin 384) (h : ¬L j) : wt L t σ j = 0 := by
  unfold wt
  rw [ex_dead L t σ ht hσ j h, zero_mul]

include ht hσ in
/-- A masked score has no gradient. -/
theorem grad_dead (j : Fin 384) (h : ¬L j) : grad L t σ dp j = 0 := by
  unfold grad
  rw [wt_dead L t σ ht hσ j h, zero_mul]

include ht hσ in
/-- A weight is the exponential over the normalizer. -/
theorem wt_div (j : Fin 384) : Ideal.div (ex L t σ j) (Z L t σ) = wt L t σ j := by
  obtain ⟨z, hz, hZ⟩ := Z_fin L t σ ht hσ
  unfold wt
  rw [hZ, Ideal.div_coe hz.ne', Ideal.div_coe hz.ne', one_mul]

include ht hσ in
/-- The quotient rule's sum is the mean over the normalizer. -/
theorem quot_sum (dp' : Fin 384 → EReal) (hd : ∀ j, L j → dp' j = dp j) :
    ∃ y : ℝ, 0 ≤ y ∧ Ideal.div 1 (Z L t σ) = (y : EReal) ∧ (∀ x, Ideal.div x (Z L t σ) = x * (y : EReal)) ∧
      ∑ j, (dp' j * Ideal.div 1 (Z L t σ * Z L t σ)) * ex L t σ j = (y : EReal) * mean L t σ dp := by
  obtain ⟨z, hz, hZ⟩ := Z_fin L t σ ht hσ
  refine ⟨1 / z, (one_div_pos.mpr hz).le, ?_, fun x => ?_, ?_⟩
  · rw [hZ, Ideal.div_coe hz.ne', one_mul]
  · rw [hZ, Ideal.div_coe hz.ne']
  · unfold mean
    rw [← coe_mul_sum _ _ _ (one_div_pos.mpr hz).le]
    refine Finset.sum_congr rfl fun j _ => ?_
    by_cases h : L j
    · unfold wt
      rw [hd j h, hZ, ← EReal.coe_mul, Ideal.div_coe (mul_pos hz hz).ne', Ideal.div_coe hz.ne', one_mul, one_mul,
        show (1 / (z * z) : ℝ) = 1 / z * (1 / z) by field_simp, EReal.coe_mul]
      ac_rfl
    · rw [ex_dead L t σ ht hσ j h, wt_dead L t σ ht hσ j h, mul_zero, zero_mul, mul_zero]

include ht hσ in
/-- The quotient rule's gradient of a score is the kernel's. -/
theorem grad_quot (dp' : Fin 384 → EReal) (hd : ∀ j, L j → dp' j = dp j) (j : Fin 384) (h : L j) :
    (Ideal.div (dp' j) (Z L t σ) + -(∑ j, (dp' j * Ideal.div 1 (Z L t σ * Z L t σ)) * ex L t σ j)) * ex L t σ j = grad L t σ dp j := by
  obtain ⟨y, hy, h1, hx, hs⟩ := quot_sum L t σ dp ht hσ dp' hd
  unfold grad wt
  rw [hs, hx, h1, hd j h, sub_eq_add_neg, mul_comm (dp j), ← mul_neg,
    ← EReal.left_distrib_of_nonneg_of_ne_top (EReal.coe_nonneg.mpr hy) (EReal.coe_ne_top y)]
  ac_rfl

include ht hσ in
/-- The quotient rule's gradient of the sink is the kernel's. -/
theorem grads_quot (dp' : Fin 384 → EReal) (hd : ∀ j, L j → dp' j = dp j) :
    (Ideal.div 0 (Z L t σ) + -(∑ j, (dp' j * Ideal.div 1 (Z L t σ * Z L t σ)) * ex L t σ j)) * exs L t σ = grads L t σ dp := by
  obtain ⟨y, hy, h1, hx, hs⟩ := quot_sum L t σ dp ht hσ dp' hd
  unfold grads wts
  rw [hs, hx, h1, zero_mul, zero_add, zero_sub, EReal.neg_mul, EReal.neg_mul]
  refine congrArg Neg.neg ?_
  ac_rfl

end Row

end Cert.Softmax

end
-- ==== Proof.Dw.Gate.lean ====
/- The derivative of the gate, entry by entry, over the extended reals. -/
module

public import proofs.«01_k».proof.Proof.Attn.Softmax
public import Idealize.ShloMosaic.Lib.IdealHost
public import Idealize.ShloMosaic.Lib.Pointwise

@[expose] public section

noncomputable section

namespace Cert.Gate

open Idealize.ShloMosaic Cert.Softmax

/-- An index of three axes is its three coordinates. -/
theorem ix3_coords {a b c : ℕ} (y : (⟨3, ![a, b, c]⟩ : Shape).Idx) : y = ix3 (n0 := a) (n1 := b) (n2 := c) (y 0) (y 1) (y 2) :=
  funext fun d => by fin_cases d <;> rfl

/-- The logistic function of the gate. -/
def gate (g : EReal) : EReal := Ideal.div 1 (1 + Ideal.exp (-g))

/-- At minus infinity it is zero. -/
theorem gate_bot : gate ⊥ = 0 := by
  have e : Ideal.exp (-⊥) = ⊤ := by rw [EReal.neg_bot]; rfl
  have h : (1 : EReal) + ⊤ = ⊤ := by rw [← EReal.coe_one, EReal.coe_add_top]
  rw [gate, e, h]
  simp [Ideal.div]

/-- At plus infinity it is one. -/
theorem gate_top : gate ⊤ = 1 := by
  have e : Ideal.exp (-⊤) = 0 := by rw [EReal.neg_top]; rfl
  rw [gate, e]
  simp [Ideal.div]

/-- At a real it is a real. -/
theorem gate_real (r : ℝ) : Fin' (gate r) := by
  have h : (1 : ℝ) + Real.exp (-r) ≠ 0 := by positivity
  refine ⟨(1 + Real.exp (-r))⁻¹, ?_⟩
  have e : (1 : EReal) + Ideal.exp (-(r : EReal)) = ((1 + Real.exp (-r) : ℝ) : EReal) := by
    rw [← EReal.coe_neg, show Ideal.exp ((-r : ℝ) : EReal) = (Real.exp (-r) : EReal) from rfl, EReal.coe_add, EReal.coe_one]
  rw [gate, e, Ideal.div, if_neg (by exact_mod_cast h), one_mul, EReal.coe_inv]

/-- The gradient entering the gate: one product by the derivative is the sum of the product rule's two terms, the
    incoming gradient and the other factor being reals. -/
theorem product_rule {d u : EReal} (hd : Fin' d) (hu : Fin' u) (g : EReal) :
    d * u * (gate g * (1 + g * (1 - gate g))) = d * u * gate g + g * (d * u) * (gate g * (1 - gate g)) := by
  obtain ⟨x, hx⟩ := fin_mul hd hu
  rw [hx]
  induction g using EReal.rec with
  | bot => simp [gate_bot]
  | top =>
    have h : (1 : EReal) - 1 = 0 := by
      rw [← EReal.coe_one, ← EReal.coe_sub, sub_self, EReal.coe_zero]
    simp [gate_top, h]
  | coe r =>
    obtain ⟨s, hs⟩ := gate_real r
    rw [hs, ← EReal.coe_one]
    norm_cast
    ring

/-- The gradient of the other factor: the same three factors in another order. -/
theorem up_eq (d g : EReal) : d * g * gate g = g * gate g * d := by
  rw [mul_assoc, mul_comm]

end Cert.Gate

end
-- ==== Proof.Attn.Points.lean ====
/- What the attention backward's body does at a grid point, by the point's number: which of its three branches run,
   which windows it stores into, and where its buffers lie. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first branch (clearing the running sums) is taken at this point. -/
abbrev First (i : grid0.Coords) : Prop := k0_cond1 i = 1#1
/-- The body's second branch (a query block) is taken at this point. -/
abbrev Block (i : grid0.Coords) : Prop := k0_cond2 i = 1#1
/-- The body's third branch (handing out the last key block) is taken at this point. -/
abbrev Last (i : grid0.Coords) : Prop := k0_cond3 i = 1#1

theorem first_iff : ∀ t : Fin cfg0.N, First (grid0.coords t) ↔ t.val = 0 :=
  (by decide +kernel : ∀ t : Fin grid0.N, First (grid0.coords t) ↔ t.val = 0)
theorem block_iff : ∀ t : Fin cfg0.N, Block (grid0.coords t) ↔ t.val < 33 :=
  (by decide +kernel : ∀ t : Fin grid0.N, Block (grid0.coords t) ↔ t.val < 33)
theorem last_iff : ∀ t : Fin cfg0.N, Last (grid0.coords t) ↔ t.val = 33 :=
  (by decide +kernel : ∀ t : Fin grid0.N, Last (grid0.coords t) ↔ t.val = 33)

theorem N_eq : cfg0.N = 34 := N_0

theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl
theorem live_4 (t : Fin cfg0.N) : cfg0.idle 4 (grid0.coords t) = false := rfl
theorem live_5 (t : Fin cfg0.N) : cfg0.idle 5 (grid0.coords t) = false := rfl
theorem live_6 (t : Fin cfg0.N) : cfg0.idle 6 (grid0.coords t) = false := rfl
theorem live_7 (t : Fin cfg0.N) : cfg0.idle 7 (grid0.coords t) = false := rfl
theorem live_8 (t : Fin cfg0.N) : cfg0.idle 8 (grid0.coords t) = false := rfl
theorem live_9 : ∀ t : Fin cfg0.N, t.val < 33 → cfg0.idle 9 (grid0.coords t) = false := by decide +kernel
theorem idle_9 : ∀ t : Fin cfg0.N, t.val = 33 → cfg0.idle 9 (grid0.coords t) = true := by decide +kernel
theorem live_12 : ∀ t : Fin cfg0.N, t.val < 33 → cfg0.idle 12 (grid0.coords t) = false := by decide +kernel
theorem idle_12 : ∀ t : Fin cfg0.N, t.val = 33 → cfg0.idle 12 (grid0.coords t) = true := by decide +kernel
theorem live_13 : ∀ t : Fin cfg0.N, t.val < 33 → cfg0.idle 13 (grid0.coords t) = false := by decide +kernel
theorem idle_13 : ∀ t : Fin cfg0.N, t.val = 33 → cfg0.idle 13 (grid0.coords t) = true := by decide +kernel
theorem live_14 : ∀ t : Fin cfg0.N, t.val < 33 → cfg0.idle 14 (grid0.coords t) = false := by decide +kernel
theorem idle_14 : ∀ t : Fin cfg0.N, t.val = 33 → cfg0.idle 14 (grid0.coords t) = true := by decide +kernel
theorem live_10 : ∀ t : Fin cfg0.N, cfg0.idle 10 (grid0.coords t) = false := by decide +kernel
theorem live_11 : ∀ t : Fin cfg0.N, cfg0.idle 11 (grid0.coords t) = false := by decide +kernel
/-- Whether window 12's buffer is still as it was on entry, by the position: at position 0 only, and after the end. -/
def freshAt_12 : ℕ → Bool
  | 0 => true
  | n + 1 => (0x200000000 : ℕ).testBit n
theorem freshAt_12_step : ∀ t : Fin cfg0.N,
    freshAt_12 (t.val + 1) = ((cfg0.win 12).flush t || (cfg0.idle 12 (cfg0.grid.coords t) && freshAt_12 t.val)) := by decide +kernel
theorem fresh_12_eq (t : Fin cfg0.N) : cfg0.fresh 12 t.val = freshAt_12 t.val :=
  Pipeline.Cfg.fresh_tab cfg0 12 freshAt_12 rfl freshAt_12_step t.val (Nat.le_of_lt t.isLt)
theorem notFresh_12 : ∀ t : Fin cfg0.N, t.val ≠ 0 → cfg0.fresh 12 t.val = false := by
  intro t; rw [fresh_12_eq t]; revert t; decide +kernel
/-- Whether window 13's buffer is still as it was on entry, by the position: at position 0 only, and after the end. -/
def freshAt_13 : ℕ → Bool
  | 0 => true
  | n + 1 => (0x200000000 : ℕ).testBit n
theorem freshAt_13_step : ∀ t : Fin cfg0.N,
    freshAt_13 (t.val + 1) = ((cfg0.win 13).flush t || (cfg0.idle 13 (cfg0.grid.coords t) && freshAt_13 t.val)) := by decide +kernel
theorem fresh_13_eq (t : Fin cfg0.N) : cfg0.fresh 13 t.val = freshAt_13 t.val :=
  Pipeline.Cfg.fresh_tab cfg0 13 freshAt_13 rfl freshAt_13_step t.val (Nat.le_of_lt t.isLt)
theorem notFresh_13 : ∀ t : Fin cfg0.N, t.val ≠ 0 → cfg0.fresh 13 t.val = false := by
  intro t; rw [fresh_13_eq t]; revert t; decide +kernel
/-- Whether window 14's buffer is still as it was on entry, by the position: at position 0 only, and after the end. -/
def freshAt_14 : ℕ → Bool
  | 0 => true
  | n + 1 => (0x200000000 : ℕ).testBit n
theorem freshAt_14_step : ∀ t : Fin cfg0.N,
    freshAt_14 (t.val + 1) = ((cfg0.win 14).flush t || (cfg0.idle 14 (cfg0.grid.coords t) && freshAt_14 t.val)) := by decide +kernel
theorem fresh_14_eq (t : Fin cfg0.N) : cfg0.fresh 14 t.val = freshAt_14 t.val :=
  Pipeline.Cfg.fresh_tab cfg0 14 freshAt_14 rfl freshAt_14_step t.val (Nat.le_of_lt t.isLt)
theorem notFresh_14 : ∀ t : Fin cfg0.N, t.val ≠ 0 → cfg0.fresh 14 t.val = false := by
  intro t; rw [fresh_14_eq t]; revert t; decide +kernel
abbrev ms_0 (t : Fin cfg0.N) : Memref sig .tc .vmem S128x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S4x128x64 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S4x128x64 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S4x128x64 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S4x128x64 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S4x128x64 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S4x128x64 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x32 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S128x2048 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S4x128x64 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S4x128x64 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S4x128x64 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S4x128x64 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S1x128 .f32 := win0_14.stage (cfg0.slots t 14)
abbrev hs_14 (t : Fin cfg0.N) : (ms_14 t).IsWhole := hstage0_14 ((cfg0.slots t 14).cast nbuf0_14)
/-- The carried sum for the keys of the block just passed. -/
abbrev ckM : Memref sig .tc .vmem S4x128x64 .f32 := Memref.whole cc0_scratch0
/-- The carried sum for the values of the block just passed. -/
abbrev cvM : Memref sig .tc .vmem S4x128x64 .f32 := Memref.whole cc0_scratch1

/-- What the launch's scratch is on entry: the two carried buffers at anything, and the generator's register. -/
theorem PhiA_eq (c : Dev nD) :
    (Pipeline.ΦA spec0 c : sProp 𝕄)
      = iprop(iprop((∃ d, owns (c : Thread nD τ) ckM fullShare d) ∗ (∃ d, owns (c : Thread nD τ) cvM fullShare d)) ∗ (∃ r, prngReg c r)) := by
  unfold Pipeline.ΦA; rw [scopedRest0_eq]; simp only [ckM, cvM, owns_whole]; try rfl

end Cert.KernelIdeal.Attn

end
-- ==== Proof.Attn.Head.lean ====
/- The attention backward's block, head by head: what one key head's eight query heads contribute, as functions of the
   blocks the body loads, and how the eight windows and carried buffers are put together from the four heads. -/
module

public import proofs.«01_k».proof.Proof.Gen.KernelIdeal.Skeleton
public import Idealize.ShloMosaic.Lib.ValueIdx
public import Idealize.ShloMosaic.Lib.WholeRead
public import Idealize.ShloMosaic.Lib.WritesUnit
public import Idealize.ShloMosaic.Lib.Pointwise.Index

@[expose] public section

set_option maxRecDepth 16384

noncomputable section

namespace Cert.KernelIdeal.Attn

open Cert.KernelIdeal.Gen
open Idealize.ShloMosaic Idealize.ShloMosaic.TcCoe

variable {F : FTy → Type} [FloatOps F] [Named F]

/-! ## Loads -/

/-- Head `a` of a block of four heads. -/
def atHead {e : EltTy} (a : ℕ) (x : Vec F S4x128x64 e) : Vec F S1x128x64 e :=
  fun j => x (ix3 (n0 := 4) (n1 := 128) (n2 := 64) (Fin.ofNat 4 (a + (j 0).val)) (j 1) (j 2))

/-- The 64 columns from column `o`. -/
def atCol {e : EltTy} (o : ℕ) (x : Vec F S128x2048 e) : Vec F S128x64 e :=
  fun j => x (ix2 (n0 := 128) (n1 := 2048) (j 0) (Fin.ofNat 2048 (o + (j 1).val)))

/-- Lane `o` of the 32 sinks. -/
def atLane {e : EltTy} (o : ℕ) (x : Vec F S1x32 e) : Vec F S1x1 e :=
  fun j => x (ix2 (n0 := 1) (n1 := 32) (j 0) (Fin.ofNat 32 (o + (j 1).val)))

theorem load_head {e : EltTy} (m : Memref sig .tc .vmem S4x128x64 e) (h : m.IsWhole) (x : Vec F S4x128x64 e) (a : ℕ)
    (hb : ∀ d, (![a, 0, 0] : Fin 3 → ℕ) d + (![1, 128, 64] : Fin 3 → ℕ) d ≤ S4x128x64.size d) :
    View.readAt (Elt F) m.view (Rect.unit (s := S4x128x64) ![a, 0, 0] ![1, 128, 64] hb).toLoadRect (h.unread x) = atHead a x := by
  funext j
  have h0 : a + 1 ≤ 4 := hb 0
  have hj : (j 0).val < 1 := (j 0).isLt
  rw [h.readAt_unread]
  refine congrArg x (funext fun d => Fin.ext ?_)
  fin_cases d
  · show a + 1 * (j 0).val = (a + (j 0).val) % 4
    omega
  · show 0 + 1 * (j 1).val = (j 1).val
    omega
  · show 0 + 1 * (j 2).val = (j 2).val
    omega

theorem load_col {e : EltTy} (m : Memref sig .tc .vmem S128x2048 e) (h : m.IsWhole) (x : Vec F S128x2048 e) (o : ℕ)
    (hb : ∀ d, (![0, o] : Fin 2 → ℕ) d + (![128, 64] : Fin 2 → ℕ) d ≤ S128x2048.size d) :
    View.readAt (Elt F) m.view (Rect.unit (s := S128x2048) ![0, o] ![128, 64] hb).toLoadRect (h.unread x) = atCol o x := by
  funext j
  have h0 : o + 64 ≤ 2048 := hb 1
  have hj : (j 1).val < 64 := (j 1).isLt
  rw [h.readAt_unread]
  refine congrArg x (funext fun d => Fin.ext ?_)
  fin_cases d
  · show 0 + 1 * (j 0).val = (j 0).val
    omega
  · show o + 1 * (j 1).val = (o + (j 1).val) % 2048
    omega

theorem load_lane {e : EltTy} (m : Memref sig .tc .vmem S1x32 e) (h : m.IsWhole) (x : Vec F S1x32 e) (o : ℕ)
    (hb : ∀ d, (![0, o] : Fin 2 → ℕ) d + (![1, 1] : Fin 2 → ℕ) d ≤ S1x32.size d) :
    View.readAt (Elt F) m.view (Rect.unit (s := S1x32) ![0, o] ![1, 1] hb).toLoadRect (h.unread x) = atLane o x := by
  funext j
  have h0 : o + 1 ≤ 32 := hb 1
  have hj : (j 1).val < 1 := (j 1).isLt
  rw [h.readAt_unread]
  refine congrArg x (funext fun d => Fin.ext ?_)
  fin_cases d
  · show 0 + 1 * (j 0).val = (j 0).val
    omega
  · show o + 1 * (j 1).val = (o + (j 1).val) % 32
    omega

theorem load_all {e : EltTy} (m : Memref sig .tc .vmem S1x128 e) (h : m.IsWhole) (x : Vec F S1x128 e)
    (hb : ∀ d, (![0, 0] : Fin 2 → ℕ) d + (![1, 128] : Fin 2 → ℕ) d ≤ (![1, 128] : Fin 2 → ℕ) d) :
    View.readAt (Elt F) m.view (Rect.unit (s := S1x128) ![0, 0] ![1, 128] hb).toLoadRect (h.unread x) = x := by
  funext j
  rw [h.readAt_unread]
  refine congrArg x (funext fun d => Fin.ext ?_)
  fin_cases d
  · show 0 + 1 * (j 0).val = (j 0).val
    omega
  · show 0 + 1 * (j 1).val = (j 1).val
    omega

/-! ## One head -/

/-- The mask of query block `n`: 0 where a query sees the key, the named mask constant elsewhere. -/
def bias (n : ℕ) : FVec F S1024x384 .f32 := k0_pay6 (BitVec.ofNat 32 n)

/-- The head's keys: previous block, own block, meta keys. -/
def keys (a : ℕ) (xp xo xm : Vec F S4x128x64 .bf16) : FVec F S384x64 .bf16 := k0_pay8 (atHead a xp) (atHead a xo) (atHead a xm)

/-- Eight query heads' rows, one head below the other. -/
def rows8 (a : ℕ) (x : Vec F S128x2048 .bf16) : FVec F S1024x64 .bf16 :=
  k0_pay10 (atCol (512 * a) x) (atCol (512 * a + 64) x) (atCol (512 * a + 128) x) (atCol (512 * a + 192) x)
    (atCol (512 * a + 256) x) (atCol (512 * a + 320) x) (atCol (512 * a + 384) x) (atCol (512 * a + 448) x)

/-- Eight query heads' sinks, each down its head's 128 rows. -/
def sinks8 (a : ℕ) (x : Vec F S1x32 .f32) : FVec F S1024x1 .f32 :=
  k0_pay12 (atLane (8 * a) x) (atLane (8 * a + 1) x) (atLane (8 * a + 2) x) (atLane (8 * a + 3) x)
    (atLane (8 * a + 4) x) (atLane (8 * a + 5) x) (atLane (8 * a + 6) x) (atLane (8 * a + 7) x)

variable (b : FVec F S1024x384 .f32) (k v : FVec F S384x64 .bf16) (q d : FVec F S1024x64 .bf16) (s : FVec F S1024x1 .f32)

/-- The softmax weights. -/
def prob : FVec F S1024x384 .f32 := k0_pay18 b k q s
/-- The gradient of the scores. -/
def dscore : FVec F S1024x384 .bf16 := k0_pay21 b k v q d s
/-- The gradient of the sink, row by row. -/
def dsinkRow : FVec F S1024x1 .f32 := k0_pay22 b k v q d s
/-- The gradient of the head's 384 keys. -/
def dkeys (ds : FVec F S1024x384 .bf16) : FVec F S384x64 .f32 :=
  matmul dot_S1024x384_S1024x64_S384x64_0_0_1_1_n_n none ds q (broadcast S384x64 (Scalar.ofBits .f32 0x00000000#32))
/-- The gradient of the head's 384 values. -/
def dvals (p : FVec F S1024x384 .f32) : FVec F S384x64 .f32 := k0_pay41 d p
/-- The gradient of eight query heads' rows. -/
def drows (ds : FVec F S1024x384 .bf16) : FVec F S1024x64 .f32 := k0_pay31 k ds

/-- A third of a 384 row gradient, from row `o`, as a block of one head. -/
def third (o : ℕ) (ho : S384x64.Slices ![o, 0] S128x64) (g : FVec F S384x64 .f32) : FVec F S1x128x64 .f32 :=
  shapeCast S1x128x64 (extractStridedSlice S128x64 ![o, 0] g ho) shapeCasts_S128x64_S1x128x64
/-- A third of a 384 row gradient, from row `o`, added to a block of one head. -/
def addThird (o : ℕ) (ho : S384x64.Slices ![o, 0] S128x64) (x : FVec F S1x128x64 .f32) (g : FVec F S384x64 .f32) : FVec F S1x128x64 .f32 :=
  shapeCast S1x128x64 (addf (shapeCast S128x64 x shapeCasts_S1x128x64_S128x64) (extractStridedSlice S128x64 ![o, 0] g ho)) shapeCasts_S128x64_S1x128x64

/-- One query head's part of the sink gradient, put into its lane and added. -/
def lane (n o : ℕ) (ho : S1024x1.Slices ![o, 0] S128x1) (acc : FVec F S1x128 .f32) (g : FVec F S1024x1 .f32) : FVec F S1x128 .f32 :=
  addf acc (select (cmpi .eq (iota .tc S1x128 32 [1] iota_S1x128_d1_w32) (broadcast S1x128 (BitVec.ofNat 32 n)))
    (broadcastTo S1x128 (shapeCast S1x1 (shapeCast S1x1 (multiReduction .add [0] S1 (extractStridedSlice S128x1 ![o, 0] g ho) 0x00000000#32 reduces_S128x1_S1 (.inl rfl) rfl) shapeCasts_S1_S1x1) shapeCasts_S1x1_S1x1) broadcasts_S1x1_S1x128)
    (broadcast S1x128 (Scalar.ofBits .f32 0x00000000#32)))

/-- Eight query heads' parts of the sink gradient, added one after the other. -/
def lanes8 (a : ℕ) (acc : FVec F S1x128 .f32) (g : FVec F S1024x1 .f32) : FVec F S1x128 .f32 :=
  lane (8 * a + 7) 896 slices_S1024x1_o896_0_S128x1 (lane (8 * a + 6) 768 slices_S1024x1_o768_0_S128x1 (lane (8 * a + 5) 640 slices_S1024x1_o640_0_S128x1 (lane (8 * a + 4) 512 slices_S1024x1_o512_0_S128x1 (lane (8 * a + 3) 384 slices_S1024x1_o384_0_S128x1 (lane (8 * a + 2) 256 slices_S1024x1_o256_0_S128x1 (lane (8 * a + 1) 128 slices_S1024x1_o128_0_S128x1 (lane (8 * a) 0 slices_S1024x1_o0_0_S128x1 acc g) g) g) g) g) g) g) g

/-! ## The block -/

/-- Four heads put together. -/
def ofHeads {e : EltTy} (p : ℕ → Vec F S1x128x64 e) : Vec F S4x128x64 e :=
  fun j => p (j 0).val (ix3 (n0 := 1) (n1 := 128) (n2 := 64) 0 (j 1) (j 2))

/-- 32 query heads put side by side. -/
def ofCols {e : EltTy} (p : ℕ → Vec F S128x64 e) : Vec F S128x2048 e :=
  fun j => p ((j 1).val / 64) (ix2 (n0 := 128) (n1 := 64) (j 0) (Fin.ofNat 64 (j 1).val))

variable {F' : FTy → Type}

/-- Four stores, one a head, leave the four heads put together. -/
theorem read_heads {e : EltTy} (v : View sig .tc .vmem S4x128x64 e) (f : v.ty.Contents (Elt F)) (p : ℕ → Vec F S1x128x64 e)
    (h0 : ∀ d, (![0, 0, 0] : Fin 3 → ℕ) d + S1x128x64.size d ≤ S4x128x64.size d)
    (h1 : ∀ d, (![1, 0, 0] : Fin 3 → ℕ) d + S1x128x64.size d ≤ S4x128x64.size d)
    (h2 : ∀ d, (![2, 0, 0] : Fin 3 → ℕ) d + S1x128x64.size d ≤ S4x128x64.size d)
    (h3 : ∀ d, (![3, 0, 0] : Fin 3 → ℕ) d + S1x128x64.size d ≤ S4x128x64.size d)
    (p0 p1 p2 p3 : Vec F S1x128x64 e) (e0 : p0 = p 0) (e1 : p1 = p 1) (e2 : p2 = p 2) (e3 : p3 = p 3) :
    v.read (Elt F) (v.writes (Elt F) f
      [⟨Rect.unit (s := S4x128x64) ![3, 0, 0] S1x128x64.size h3, p3⟩, ⟨Rect.unit (s := S4x128x64) ![2, 0, 0] S1x128x64.size h2, p2⟩,
       ⟨Rect.unit (s := S4x128x64) ![1, 0, 0] S1x128x64.size h1, p1⟩, ⟨Rect.unit (s := S4x128x64) ![0, 0, 0] S1x128x64.size h0, p0⟩])
      = ofHeads p := by
  subst e0 e1 e2 e3
  funext y
  have hy : (y 0).val < 4 := (y 0).isLt
  have key : ∀ (a : ℕ) (hb : ∀ d, (![a, 0, 0] : Fin 3 → ℕ) d + S1x128x64.size d ≤ S4x128x64.size d) L, (y 0).val = a →
      v.read (Elt F) (v.writes (Elt F) f ((⟨Rect.unit (s := S4x128x64) ![a, 0, 0] S1x128x64.size hb, p a⟩ : View.Piece (Elt F) S4x128x64 e) :: L)) y = ofHeads p y := by
    intro a hb L ha
    subst ha
    refine View.read_writes_cons_unit_of_mem v f hb _ L y (ix3 (n0 := 1) (n1 := 128) (n2 := 64) 0 (y 1) (y 2)) rfl (fun d => ?_)
    fin_cases d
    · rfl
    · exact (Nat.zero_add _).symm
    · exact (Nat.zero_add _).symm
  have skip : ∀ (a : ℕ) (hb : ∀ d, (![a, 0, 0] : Fin 3 → ℕ) d + S1x128x64.size d ≤ S4x128x64.size d) w L, (y 0).val ≠ a →
      v.read (Elt F) (v.writes (Elt F) f ((⟨Rect.unit (s := S4x128x64) ![a, 0, 0] S1x128x64.size hb, w⟩ : View.Piece (Elt F) S4x128x64 e) :: L)) y
        = v.read (Elt F) (v.writes (Elt F) f L) y := by
    intro a hb w L ha
    refine View.read_writes_cons_unit_of_not_mem v f hb w L y rfl 0 ?_
    show (y 0).val < a ∨ a + 1 ≤ (y 0).val
    omega
  by_cases c3 : (y 0).val = 3
  · exact key 3 _ _ c3
  rw [skip 3 _ _ _ c3]
  by_cases c2 : (y 0).val = 2
  · exact key 2 _ _ c2
  rw [skip 2 _ _ _ c2]
  by_cases c1 : (y 0).val = 1
  · exact key 1 _ _ c1
  rw [skip 1 _ _ _ c1]
  exact key 0 _ _ (by omega)

/-- The stores of query heads `0 … n-1` in order, last first. -/
def colPieces {e : EltTy} (p : ℕ → Vec F S128x64 e) : (n : ℕ) → n ≤ 32 → List (View.Piece (Elt F) S128x2048 e)
  | 0, _ => []
  | n + 1, h => ⟨Rect.unit (s := S128x2048) ![0, 64 * n] S128x64.size (by
      intro d
      fin_cases d
      · show 0 + 128 ≤ 128
        omega
      · show 64 * n + 64 ≤ 2048
        omega), p n⟩ :: colPieces p n (Nat.le_of_succ_le h)

theorem read_colPieces {e : EltTy} (v : View sig .tc .vmem S128x2048 e) (f : v.ty.Contents (Elt F)) (p : ℕ → Vec F S128x64 e)
    (n : ℕ) (h : n ≤ 32) (y : S128x2048.Idx) (hy : (y 1).val < 64 * n) :
    v.read (Elt F) (v.writes (Elt F) f (colPieces p n h)) y = ofCols p y := by
  induction n with
  | zero => omega
  | succ n ih =>
    by_cases c : (y 1).val / 64 = n
    · subst c
      refine View.read_writes_cons_unit_of_mem v f _ _ _ y (ix2 (n0 := 128) (n1 := 64) (y 0) (Fin.ofNat 64 (y 1).val)) rfl (fun d => ?_)
      fin_cases d
      · exact (Nat.zero_add _).symm
      · show (y 1).val = 64 * ((y 1).val / 64) + (y 1).val % 64
        omega
    · refine (View.read_writes_cons_unit_of_not_mem v f _ _ _ y rfl 1 ?_).trans (ih (Nat.le_of_succ_le h) (by omega))
      show (y 1).val < 64 * n ∨ 64 * n + 64 ≤ (y 1).val
      omega

/-- 32 stores, one a query head, leave the query heads side by side. -/
theorem read_cols {e : EltTy} (v : View sig .tc .vmem S128x2048 e) (f : v.ty.Contents (Elt F)) (p : ℕ → Vec F S128x64 e)
    (L : List (View.Piece (Elt F) S128x2048 e)) (hL : L = colPieces p 32 (Nat.le_refl 32)) :
    v.read (Elt F) (v.writes (Elt F) f L) = ofCols p := by
  subst hL
  funext y
  exact read_colPieces v f p 32 _ y (by have : (y 1).val < 2048 := (y 1).isLt; omega)

/-- One store of the whole leaves what was stored. -/
theorem read_all {e : EltTy} (v : View sig .tc .vmem S1x128 e) (f : v.ty.Contents (Elt F)) (w : Vec F S1x128 e)
    (hb : ∀ d, (![0, 0] : Fin 2 → ℕ) d + S1x128.size d ≤ S1x128.size d) :
    v.read (Elt F) (v.writes (Elt F) f [⟨Rect.unit (s := S1x128) ![0, 0] S1x128.size hb, w⟩]) = w := by
  funext y
  refine (View.read_writes_cons_unit_of_mem v f hb w [] y y rfl (fun d => ?_))
  fin_cases d
  · exact (Nat.zero_add _).symm
  · exact (Nat.zero_add _).symm

/-- One store of a whole four head block leaves what was stored. -/
theorem read_whole {e : EltTy} (v : View sig .tc .vmem S4x128x64 e) (f : v.ty.Contents (Elt F)) (w : Vec F S4x128x64 e)
    (hb : ∀ d, (![0, 0, 0] : Fin 3 → ℕ) d + S4x128x64.size d ≤ S4x128x64.size d) :
    v.read (Elt F) (v.writes (Elt F) f [⟨Rect.unit (s := S4x128x64) ![0, 0, 0] S4x128x64.size hb, w⟩]) = w := by
  funext y
  refine (View.read_writes_cons_unit_of_mem v f hb w [] y y rfl (fun d => ?_))
  fin_cases d
  · exact (Nat.zero_add _).symm
  · exact (Nat.zero_add _).symm
  · exact (Nat.zero_add _).symm

theorem load_whole {e : EltTy} (m : Memref sig .tc .vmem S4x128x64 e) (h : m.IsWhole) (x : Vec F S4x128x64 e)
    (hb : ∀ d, (![0, 0, 0] : Fin 3 → ℕ) d + S4x128x64.size d ≤ S4x128x64.size d) :
    View.readAt (Elt F) m.view (Rect.unit (s := S4x128x64) ![0, 0, 0] S4x128x64.size hb).toLoadRect (h.unread x) = x := by
  funext j
  rw [h.readAt_unread]
  refine congrArg x (funext fun d => Fin.ext ?_)
  fin_cases d
  · show 0 + 1 * (j 0).val = (j 0).val
    omega
  · show 0 + 1 * (j 1).val = (j 1).val
    omega
  · show 0 + 1 * (j 2).val = (j 2).val
    omega

/-- The blocks a query block's step reads: queries, output gradients, the keys and values of the previous block, of the own
    block and of the meta keys, and the sinks. -/
structure Blocks (F : FTy → Type) where
  q : Vec F S128x2048 .bf16
  d : Vec F S128x2048 .bf16
  kp : Vec F S4x128x64 .bf16
  ko : Vec F S4x128x64 .bf16
  km : Vec F S4x128x64 .bf16
  vp : Vec F S4x128x64 .bf16
  vo : Vec F S4x128x64 .bf16
  vm : Vec F S4x128x64 .bf16
  s : Vec F S1x32 .f32

namespace Blocks

variable (n : ℕ) (x : Blocks F) (a : ℕ)

/-- Head `a`'s keys. -/
def k3 : FVec F S384x64 .bf16 := keys a x.kp x.ko x.km
/-- Head `a`'s values. -/
def v3 : FVec F S384x64 .bf16 := keys a x.vp x.vo x.vm
/-- Head `a`'s weights. -/
def p : FVec F S1024x384 .f32 := prob (bias n) (x.k3 a) (rows8 a x.q) (sinks8 a x.s)
/-- Head `a`'s score gradient. -/
def ds : FVec F S1024x384 .bf16 := dscore (bias n) (x.k3 a) (x.v3 a) (rows8 a x.q) (rows8 a x.d) (sinks8 a x.s)
/-- Head `a`'s sink gradient, row by row. -/
def dsk : FVec F S1024x1 .f32 := dsinkRow (bias n) (x.k3 a) (x.v3 a) (rows8 a x.q) (rows8 a x.d) (sinks8 a x.s)
/-- Head `a`'s key gradient. -/
def dk : FVec F S384x64 .f32 := dkeys (rows8 a x.q) (x.ds n a)
/-- Head `a`'s value gradient. -/
def dv : FVec F S384x64 .f32 := dvals (rows8 a x.d) (x.p n a)

/-- Rows of a stack of eight query heads, from row `o`. -/
def sub8 (g : FVec F S1024x64 .f32) (m : ℕ) : FVec F S128x64 .f32 :=
  match m with
  | 0 => extractStridedSlice S128x64 ![0, 0] g slices_S1024x64_o0_0_S128x64
  | 1 => extractStridedSlice S128x64 ![128, 0] g slices_S1024x64_o128_0_S128x64
  | 2 => extractStridedSlice S128x64 ![256, 0] g slices_S1024x64_o256_0_S128x64
  | 3 => extractStridedSlice S128x64 ![384, 0] g slices_S1024x64_o384_0_S128x64
  | 4 => extractStridedSlice S128x64 ![512, 0] g slices_S1024x64_o512_0_S128x64
  | 5 => extractStridedSlice S128x64 ![640, 0] g slices_S1024x64_o640_0_S128x64
  | 6 => extractStridedSlice S128x64 ![768, 0] g slices_S1024x64_o768_0_S128x64
  | _ => extractStridedSlice S128x64 ![896, 0] g slices_S1024x64_o896_0_S128x64

/-- The query gradient. -/
def dq : Vec F S128x2048 .f32 := ofCols fun m => sub8 (drows (x.k3 (m / 8)) (x.ds n (m / 8))) (m % 8)

/-- The key gradient handed out: what was carried, and the first third. -/
def dkOut (c : Vec F S4x128x64 .f32) : Vec F S4x128x64 .f32 := ofHeads fun a => addThird 0 slices_S384x64_o0_0_S128x64 (atHead a c) (x.dk n a)
def dvOut (c : Vec F S4x128x64 .f32) : Vec F S4x128x64 .f32 := ofHeads fun a => addThird 0 slices_S384x64_o0_0_S128x64 (atHead a c) (x.dv n a)
/-- The key gradient carried on: the second third. -/
def dkCarry : Vec F S4x128x64 .f32 := ofHeads fun a => third 128 slices_S384x64_o128_0_S128x64 (x.dk n a)
def dvCarry : Vec F S4x128x64 .f32 := ofHeads fun a => third 128 slices_S384x64_o128_0_S128x64 (x.dv n a)
/-- The meta keys' running gradient: the last third added. -/
def dkMeta (c : Vec F S4x128x64 .f32) : Vec F S4x128x64 .f32 := ofHeads fun a => addThird 256 slices_S384x64_o256_0_S128x64 (atHead a c) (x.dk n a)
def dvMeta (c : Vec F S4x128x64 .f32) : Vec F S4x128x64 .f32 := ofHeads fun a => addThird 256 slices_S384x64_o256_0_S128x64 (atHead a c) (x.dv n a)
/-- The sinks' running gradient. -/
def dsinkOut (c : Vec F S1x128 .f32) : Vec F S1x128 .f32 :=
  addf (shapeCast S1x128 c shapeCasts_S1x128_S1x128) (lanes8 3 (lanes8 2 (lanes8 1 (lanes8 0 k0_pay7 (x.dsk n 0)) (x.dsk n 1)) (x.dsk n 2)) (x.dsk n 3))

end Blocks

end Cert.KernelIdeal.Attn

end
-- ==== Proof.Attn.Block.lean ====
/- The run of the body at a query block: from the buffers it reads to the pieces it stores into each of the others. -/
module

public import proofs.«01_k».proof.Proof.Attn.Points
public import proofs.«01_k».proof.Proof.Attn.Head

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- What the body at a query block stores into each output and each carried buffer, last store first, and that it runs: from
    whole buffers, the inputs at the blocks `x`, the running sums and the carried buffers at what they hold, the other outputs
    at anything, to the inputs and those stores written. -/
def blockRun (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)

    (x : Blocks F) (x12 : Vec F S4x128x64 .f32) (x13 : Vec F S4x128x64 .f32) (x14 : Vec F S1x128 .f32) (x15 : Vec F S4x128x64 .f32) (x16 : Vec F S4x128x64 .f32) :
    Σ' (L9 : List (View.Piece (Elt F) S128x2048 .f32)), Σ' (L10 : List (View.Piece (Elt F) S4x128x64 .f32)), Σ' (L11 : List (View.Piece (Elt F) S4x128x64 .f32)), Σ' (L12 : List (View.Piece (Elt F) S4x128x64 .f32)), Σ' (L13 : List (View.Piece (Elt F) S4x128x64 .f32)), Σ' (L14 : List (View.Piece (Elt F) S1x128 .f32)), Σ' (L15 : List (View.Piece (Elt F) S4x128x64 .f32)), {L16 : List (View.Piece (Elt F) S4x128x64 .f32) // ∀ (E : Set ℕ) (K : PUnit → sProp 𝕄),
    iprop(owns (c : Thread nD τ) arg1 fullShare x.q ∗ owns (c : Thread nD τ) arg2 fullShare x.d ∗ owns (c : Thread nD τ) arg3 fullShare x.kp ∗ owns (c : Thread nD τ) arg4 fullShare x.ko ∗ owns (c : Thread nD τ) arg5 fullShare x.km ∗ owns (c : Thread nD τ) arg6 fullShare x.vp ∗ owns (c : Thread nD τ) arg7 fullShare x.vo ∗ owns (c : Thread nD τ) arg8 fullShare x.vm ∗ owns (c : Thread nD τ) arg9 fullShare x.s ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
      ∗ (iprop(owns (c : Thread nD τ) arg1 fullShare x.q ∗ owns (c : Thread nD τ) arg2 fullShare x.d ∗ owns (c : Thread nD τ) arg3 fullShare x.kp ∗ owns (c : Thread nD τ) arg4 fullShare x.ko ∗ owns (c : Thread nD τ) arg5 fullShare x.km ∗ owns (c : Thread nD τ) arg6 fullShare x.vp ∗ owns (c : Thread nD τ) arg7 fullShare x.vo ∗ owns (c : Thread nD τ) arg8 fullShare x.vm ∗ owns (c : Thread nD τ) arg9 fullShare x.s ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
      ⊢ wp frame (wpE (defs₀ (F := F)) Variants.none c none) E (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val)) K } := by
  refine ⟨?_, ?_, ?_, ?_, ?_, ?_, ?_, ?_, fun E K => ?run⟩
  case run =>
    rw [k0_part27_eq_skeleton]; unfold k0_part27_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg13.eq_unread hf12
    obtain rfl := harg14.eq_unread hf13
    obtain rfl := harg15.eq_unread hf14
    obtain rfl := harg16.eq_unread hf15
    obtain rfl := harg17.eq_unread hf16
    sl_exec
    sl_step
    iapply Hk
    isplitl [H0]
    · iexists _; isplitr; swap; iexact H0
      ipureintro; exact harg1.read_unread _
    isplitl [H1]
    · iexists _; isplitr; swap; iexact H1
      ipureintro; exact harg2.read_unread _
    isplitl [H2]
    · iexists _; isplitr; swap; iexact H2
      ipureintro; exact harg3.read_unread _
    isplitl [H3]
    · iexists _; isplitr; swap; iexact H3
      ipureintro; exact harg4.read_unread _
    isplitl [H4]
    · iexists _; isplitr; swap; iexact H4
      ipureintro; exact harg5.read_unread _
    isplitl [H5]
    · iexists _; isplitr; swap; iexact H5
      ipureintro; exact harg6.read_unread _
    isplitl [H6]
    · iexists _; isplitr; swap; iexact H6
      ipureintro; exact harg7.read_unread _
    isplitl [H7]
    · iexists _; isplitr; swap; iexact H7
      ipureintro; exact harg8.read_unread _
    isplitl [H8]
    · iexists _; isplitr; swap; iexact H8
      ipureintro; exact harg9.read_unread _
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

end Cert.KernelIdeal.Attn

end
-- ==== Proof.Attn.BlockQ.lean ====
/- What a query block leaves in the query gradient. -/
module

public import proofs.«01_k».proof.Proof.Attn.Block

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The query gradient, read back from the stores of a query block. -/
theorem block_9 (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)

    (x : Blocks F) (x12 : Vec F S4x128x64 .f32) (x13 : Vec F S4x128x64 .f32) (x14 : Vec F S1x128 .f32) (x15 : Vec F S4x128x64 .f32) (x16 : Vec F S4x128x64 .f32)
    (f : arg10.view.ty.Contents (Elt F)) :
    arg10.view.read (Elt F) (arg10.view.writes (Elt F) f (blockRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16).1) = x.dq (i 0).val := by
  unfold blockRun
  dsimp only
  simp only [blockRun.sl.r_14, blockRun.sl.v688, blockRun.sl.r_37, blockRun.sl.v488, blockRun.sl.r_68, blockRun.sl.v710, blockRun.sl.r_3, blockRun.sl.v932, blockRun.sl.r_30, blockRun.sl.r_55, blockRun.sl.r_12, blockRun.sl.r_88, blockRun.sl.r_84, blockRun.sl.r_70, blockRun.sl.r_65, blockRun.sl.r_7, blockRun.sl.r_61, blockRun.sl.r_33, blockRun.sl.r_71, blockRun.sl.v466, blockRun.sl.r_74, blockRun.sl.v481, blockRun.sl.r_41, blockRun.sl.r_29, blockRun.sl.r_36, blockRun.sl.v703, blockRun.sl.r_9, blockRun.sl.r_6, blockRun.sl.r_75, blockRun.sl.r_19, blockRun.sl.r_44, blockRun.sl.r_51, blockRun.sl.r_56, blockRun.sl.r_58, blockRun.sl.r_69, blockRun.sl.r_16, blockRun.sl.r_11, blockRun.sl.r_87, blockRun.sl.r_32, blockRun.sl.r_76, blockRun.sl.v49, blockRun.sl.r_64, blockRun.sl.r_52, blockRun.sl.r_38, blockRun.sl.r_59, blockRun.sl.r_42, blockRun.sl.r_31, blockRun.sl.r_27, blockRun.sl.r_40, blockRun.sl.r_53, blockRun.sl.r, blockRun.sl.r_79, blockRun.sl.r_80, blockRun.sl.v681, blockRun.sl.r_21, blockRun.sl.r_66, blockRun.sl.r_86, blockRun.sl.r_60, blockRun.sl.r_28, blockRun.sl.r_17, blockRun.sl.r_63, blockRun.sl.r_77, blockRun.sl.r_73, blockRun.sl.r_72, blockRun.sl.r_13, blockRun.sl.r_5, blockRun.sl.r_45, blockRun.sl.r_1, blockRun.sl.r_48, blockRun.sl.r_43, blockRun.sl.r_39, blockRun.sl.r_15, blockRun.sl.r_85, blockRun.sl.r_49, blockRun.sl.r_54, blockRun.sl.r_10, blockRun.sl.r_57, blockRun.sl.r_78, blockRun.sl.r_34, blockRun.sl.r_4, blockRun.sl.r_67, blockRun.sl.r_2, blockRun.sl.r_24, blockRun.sl.r_18, blockRun.sl.r_62, blockRun.sl.r_23, blockRun.sl.r_47, blockRun.sl.r_89, blockRun.sl.r_83, blockRun.sl.r_46, blockRun.sl.r_25, blockRun.sl.r_50, blockRun.sl.v459, blockRun.sl.v910, blockRun.sl.v903, blockRun.sl.r_20, blockRun.sl.r_82, blockRun.sl.r_26, blockRun.sl.r_81, blockRun.sl.v925, blockRun.sl.cst_204, blockRun.sl.r_22, blockRun.sl.r_35, blockRun.sl.r_8, load_head, load_col, load_lane]
  exact read_cols _ _ _ _ rfl

end Cert.KernelIdeal.Attn

end
-- ==== Proof.Attn.BlockKV.lean ====
/- What a query block leaves in the key and value gradients. -/
module

public import proofs.«01_k».proof.Proof.Attn.Block

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The key gradient handed out, read back from the stores of a query block. -/
theorem block_10 (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)

    (x : Blocks F) (x12 : Vec F S4x128x64 .f32) (x13 : Vec F S4x128x64 .f32) (x14 : Vec F S1x128 .f32) (x15 : Vec F S4x128x64 .f32) (x16 : Vec F S4x128x64 .f32)
    (f : arg11.view.ty.Contents (Elt F)) :
    arg11.view.read (Elt F) (arg11.view.writes (Elt F) f (blockRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16).2.1) = x.dkOut (i 0).val x15 := by
  unfold blockRun
  dsimp only
  simp only [blockRun.sl.r_14, blockRun.sl.v688, blockRun.sl.r_37, blockRun.sl.v488, blockRun.sl.r_68, blockRun.sl.v710, blockRun.sl.r_3, blockRun.sl.v932, blockRun.sl.r_30, blockRun.sl.r_55, blockRun.sl.r_12, blockRun.sl.r_88, blockRun.sl.r_84, blockRun.sl.r_70, blockRun.sl.r_65, blockRun.sl.r_7, blockRun.sl.r_61, blockRun.sl.r_33, blockRun.sl.r_71, blockRun.sl.v466, blockRun.sl.r_74, blockRun.sl.v481, blockRun.sl.r_41, blockRun.sl.r_29, blockRun.sl.r_36, blockRun.sl.v703, blockRun.sl.r_9, blockRun.sl.r_6, blockRun.sl.r_75, blockRun.sl.r_19, blockRun.sl.r_44, blockRun.sl.r_51, blockRun.sl.r_56, blockRun.sl.r_58, blockRun.sl.r_69, blockRun.sl.r_16, blockRun.sl.r_11, blockRun.sl.r_87, blockRun.sl.r_32, blockRun.sl.r_76, blockRun.sl.v49, blockRun.sl.r_64, blockRun.sl.r_52, blockRun.sl.r_38, blockRun.sl.r_59, blockRun.sl.r_42, blockRun.sl.r_31, blockRun.sl.r_27, blockRun.sl.r_40, blockRun.sl.r_53, blockRun.sl.r, blockRun.sl.r_79, blockRun.sl.r_80, blockRun.sl.v681, blockRun.sl.r_21, blockRun.sl.r_66, blockRun.sl.r_86, blockRun.sl.r_60, blockRun.sl.r_28, blockRun.sl.r_17, blockRun.sl.r_63, blockRun.sl.r_77, blockRun.sl.r_73, blockRun.sl.r_72, blockRun.sl.r_13, blockRun.sl.r_5, blockRun.sl.r_45, blockRun.sl.r_1, blockRun.sl.r_48, blockRun.sl.r_43, blockRun.sl.r_39, blockRun.sl.r_15, blockRun.sl.r_85, blockRun.sl.r_49, blockRun.sl.r_54, blockRun.sl.r_10, blockRun.sl.r_57, blockRun.sl.r_78, blockRun.sl.r_34, blockRun.sl.r_4, blockRun.sl.r_67, blockRun.sl.r_2, blockRun.sl.r_24, blockRun.sl.r_18, blockRun.sl.r_62, blockRun.sl.r_23, blockRun.sl.r_47, blockRun.sl.r_89, blockRun.sl.r_83, blockRun.sl.r_46, blockRun.sl.r_25, blockRun.sl.r_50, blockRun.sl.v459, blockRun.sl.v910, blockRun.sl.v903, blockRun.sl.r_20, blockRun.sl.r_82, blockRun.sl.r_26, blockRun.sl.r_81, blockRun.sl.v925, blockRun.sl.cst_204, blockRun.sl.r_22, blockRun.sl.r_35, blockRun.sl.r_8, load_head, load_col, load_lane]
  exact read_heads _ _ _ _ _ _ _ _ _ _ _ rfl rfl rfl rfl

/-- The value gradient handed out, read back from the stores of a query block. -/
theorem block_11 (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)

    (x : Blocks F) (x12 : Vec F S4x128x64 .f32) (x13 : Vec F S4x128x64 .f32) (x14 : Vec F S1x128 .f32) (x15 : Vec F S4x128x64 .f32) (x16 : Vec F S4x128x64 .f32)
    (f : arg12.view.ty.Contents (Elt F)) :
    arg12.view.read (Elt F) (arg12.view.writes (Elt F) f (blockRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16).2.2.1) = x.dvOut (i 0).val x16 := by
  unfold blockRun
  dsimp only
  simp only [blockRun.sl.r_14, blockRun.sl.v688, blockRun.sl.r_37, blockRun.sl.v488, blockRun.sl.r_68, blockRun.sl.v710, blockRun.sl.r_3, blockRun.sl.v932, blockRun.sl.r_30, blockRun.sl.r_55, blockRun.sl.r_12, blockRun.sl.r_88, blockRun.sl.r_84, blockRun.sl.r_70, blockRun.sl.r_65, blockRun.sl.r_7, blockRun.sl.r_61, blockRun.sl.r_33, blockRun.sl.r_71, blockRun.sl.v466, blockRun.sl.r_74, blockRun.sl.v481, blockRun.sl.r_41, blockRun.sl.r_29, blockRun.sl.r_36, blockRun.sl.v703, blockRun.sl.r_9, blockRun.sl.r_6, blockRun.sl.r_75, blockRun.sl.r_19, blockRun.sl.r_44, blockRun.sl.r_51, blockRun.sl.r_56, blockRun.sl.r_58, blockRun.sl.r_69, blockRun.sl.r_16, blockRun.sl.r_11, blockRun.sl.r_87, blockRun.sl.r_32, blockRun.sl.r_76, blockRun.sl.v49, blockRun.sl.r_64, blockRun.sl.r_52, blockRun.sl.r_38, blockRun.sl.r_59, blockRun.sl.r_42, blockRun.sl.r_31, blockRun.sl.r_27, blockRun.sl.r_40, blockRun.sl.r_53, blockRun.sl.r, blockRun.sl.r_79, blockRun.sl.r_80, blockRun.sl.v681, blockRun.sl.r_21, blockRun.sl.r_66, blockRun.sl.r_86, blockRun.sl.r_60, blockRun.sl.r_28, blockRun.sl.r_17, blockRun.sl.r_63, blockRun.sl.r_77, blockRun.sl.r_73, blockRun.sl.r_72, blockRun.sl.r_13, blockRun.sl.r_5, blockRun.sl.r_45, blockRun.sl.r_1, blockRun.sl.r_48, blockRun.sl.r_43, blockRun.sl.r_39, blockRun.sl.r_15, blockRun.sl.r_85, blockRun.sl.r_49, blockRun.sl.r_54, blockRun.sl.r_10, blockRun.sl.r_57, blockRun.sl.r_78, blockRun.sl.r_34, blockRun.sl.r_4, blockRun.sl.r_67, blockRun.sl.r_2, blockRun.sl.r_24, blockRun.sl.r_18, blockRun.sl.r_62, blockRun.sl.r_23, blockRun.sl.r_47, blockRun.sl.r_89, blockRun.sl.r_83, blockRun.sl.r_46, blockRun.sl.r_25, blockRun.sl.r_50, blockRun.sl.v459, blockRun.sl.v910, blockRun.sl.v903, blockRun.sl.r_20, blockRun.sl.r_82, blockRun.sl.r_26, blockRun.sl.r_81, blockRun.sl.v925, blockRun.sl.cst_204, blockRun.sl.r_22, blockRun.sl.r_35, blockRun.sl.r_8, load_head, load_col, load_lane]
  exact read_heads _ _ _ _ _ _ _ _ _ _ _ rfl rfl rfl rfl

/-- The running gradient of the meta keys, read back from the stores of a query block. -/
theorem block_12 (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)

    (x : Blocks F) (x12 : Vec F S4x128x64 .f32) (x13 : Vec F S4x128x64 .f32) (x14 : Vec F S1x128 .f32) (x15 : Vec F S4x128x64 .f32) (x16 : Vec F S4x128x64 .f32)
    (f : arg13.view.ty.Contents (Elt F)) :
    arg13.view.read (Elt F) (arg13.view.writes (Elt F) f (blockRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16).2.2.2.1) = x.dkMeta (i 0).val x12 := by
  unfold blockRun
  dsimp only
  simp only [blockRun.sl.r_14, blockRun.sl.v688, blockRun.sl.r_37, blockRun.sl.v488, blockRun.sl.r_68, blockRun.sl.v710, blockRun.sl.r_3, blockRun.sl.v932, blockRun.sl.r_30, blockRun.sl.r_55, blockRun.sl.r_12, blockRun.sl.r_88, blockRun.sl.r_84, blockRun.sl.r_70, blockRun.sl.r_65, blockRun.sl.r_7, blockRun.sl.r_61, blockRun.sl.r_33, blockRun.sl.r_71, blockRun.sl.v466, blockRun.sl.r_74, blockRun.sl.v481, blockRun.sl.r_41, blockRun.sl.r_29, blockRun.sl.r_36, blockRun.sl.v703, blockRun.sl.r_9, blockRun.sl.r_6, blockRun.sl.r_75, blockRun.sl.r_19, blockRun.sl.r_44, blockRun.sl.r_51, blockRun.sl.r_56, blockRun.sl.r_58, blockRun.sl.r_69, blockRun.sl.r_16, blockRun.sl.r_11, blockRun.sl.r_87, blockRun.sl.r_32, blockRun.sl.r_76, blockRun.sl.v49, blockRun.sl.r_64, blockRun.sl.r_52, blockRun.sl.r_38, blockRun.sl.r_59, blockRun.sl.r_42, blockRun.sl.r_31, blockRun.sl.r_27, blockRun.sl.r_40, blockRun.sl.r_53, blockRun.sl.r, blockRun.sl.r_79, blockRun.sl.r_80, blockRun.sl.v681, blockRun.sl.r_21, blockRun.sl.r_66, blockRun.sl.r_86, blockRun.sl.r_60, blockRun.sl.r_28, blockRun.sl.r_17, blockRun.sl.r_63, blockRun.sl.r_77, blockRun.sl.r_73, blockRun.sl.r_72, blockRun.sl.r_13, blockRun.sl.r_5, blockRun.sl.r_45, blockRun.sl.r_1, blockRun.sl.r_48, blockRun.sl.r_43, blockRun.sl.r_39, blockRun.sl.r_15, blockRun.sl.r_85, blockRun.sl.r_49, blockRun.sl.r_54, blockRun.sl.r_10, blockRun.sl.r_57, blockRun.sl.r_78, blockRun.sl.r_34, blockRun.sl.r_4, blockRun.sl.r_67, blockRun.sl.r_2, blockRun.sl.r_24, blockRun.sl.r_18, blockRun.sl.r_62, blockRun.sl.r_23, blockRun.sl.r_47, blockRun.sl.r_89, blockRun.sl.r_83, blockRun.sl.r_46, blockRun.sl.r_25, blockRun.sl.r_50, blockRun.sl.v459, blockRun.sl.v910, blockRun.sl.v903, blockRun.sl.r_20, blockRun.sl.r_82, blockRun.sl.r_26, blockRun.sl.r_81, blockRun.sl.v925, blockRun.sl.cst_204, blockRun.sl.r_22, blockRun.sl.r_35, blockRun.sl.r_8, load_head, load_col, load_lane]
  exact read_heads _ _ _ _ _ _ _ _ _ _ _ rfl rfl rfl rfl

/-- The running gradient of the meta values, read back from the stores of a query block. -/
theorem block_13 (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)

    (x : Blocks F) (x12 : Vec F S4x128x64 .f32) (x13 : Vec F S4x128x64 .f32) (x14 : Vec F S1x128 .f32) (x15 : Vec F S4x128x64 .f32) (x16 : Vec F S4x128x64 .f32)
    (f : arg14.view.ty.Contents (Elt F)) :
    arg14.view.read (Elt F) (arg14.view.writes (Elt F) f (blockRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16).2.2.2.2.1) = x.dvMeta (i 0).val x13 := by
  unfold blockRun
  dsimp only
  simp only [blockRun.sl.r_14, blockRun.sl.v688, blockRun.sl.r_37, blockRun.sl.v488, blockRun.sl.r_68, blockRun.sl.v710, blockRun.sl.r_3, blockRun.sl.v932, blockRun.sl.r_30, blockRun.sl.r_55, blockRun.sl.r_12, blockRun.sl.r_88, blockRun.sl.r_84, blockRun.sl.r_70, blockRun.sl.r_65, blockRun.sl.r_7, blockRun.sl.r_61, blockRun.sl.r_33, blockRun.sl.r_71, blockRun.sl.v466, blockRun.sl.r_74, blockRun.sl.v481, blockRun.sl.r_41, blockRun.sl.r_29, blockRun.sl.r_36, blockRun.sl.v703, blockRun.sl.r_9, blockRun.sl.r_6, blockRun.sl.r_75, blockRun.sl.r_19, blockRun.sl.r_44, blockRun.sl.r_51, blockRun.sl.r_56, blockRun.sl.r_58, blockRun.sl.r_69, blockRun.sl.r_16, blockRun.sl.r_11, blockRun.sl.r_87, blockRun.sl.r_32, blockRun.sl.r_76, blockRun.sl.v49, blockRun.sl.r_64, blockRun.sl.r_52, blockRun.sl.r_38, blockRun.sl.r_59, blockRun.sl.r_42, blockRun.sl.r_31, blockRun.sl.r_27, blockRun.sl.r_40, blockRun.sl.r_53, blockRun.sl.r, blockRun.sl.r_79, blockRun.sl.r_80, blockRun.sl.v681, blockRun.sl.r_21, blockRun.sl.r_66, blockRun.sl.r_86, blockRun.sl.r_60, blockRun.sl.r_28, blockRun.sl.r_17, blockRun.sl.r_63, blockRun.sl.r_77, blockRun.sl.r_73, blockRun.sl.r_72, blockRun.sl.r_13, blockRun.sl.r_5, blockRun.sl.r_45, blockRun.sl.r_1, blockRun.sl.r_48, blockRun.sl.r_43, blockRun.sl.r_39, blockRun.sl.r_15, blockRun.sl.r_85, blockRun.sl.r_49, blockRun.sl.r_54, blockRun.sl.r_10, blockRun.sl.r_57, blockRun.sl.r_78, blockRun.sl.r_34, blockRun.sl.r_4, blockRun.sl.r_67, blockRun.sl.r_2, blockRun.sl.r_24, blockRun.sl.r_18, blockRun.sl.r_62, blockRun.sl.r_23, blockRun.sl.r_47, blockRun.sl.r_89, blockRun.sl.r_83, blockRun.sl.r_46, blockRun.sl.r_25, blockRun.sl.r_50, blockRun.sl.v459, blockRun.sl.v910, blockRun.sl.v903, blockRun.sl.r_20, blockRun.sl.r_82, blockRun.sl.r_26, blockRun.sl.r_81, blockRun.sl.v925, blockRun.sl.cst_204, blockRun.sl.r_22, blockRun.sl.r_35, blockRun.sl.r_8, load_head, load_col, load_lane]
  exact read_heads _ _ _ _ _ _ _ _ _ _ _ rfl rfl rfl rfl

end Cert.KernelIdeal.Attn

end
-- ==== Proof.Attn.BlockS.lean ====
/- What a query block leaves in the sink gradient. -/
module

public import proofs.«01_k».proof.Proof.Attn.Block

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The running gradient of the sinks, read back from the stores of a query block. -/
theorem block_14 (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)

    (x : Blocks F) (x12 : Vec F S4x128x64 .f32) (x13 : Vec F S4x128x64 .f32) (x14 : Vec F S1x128 .f32) (x15 : Vec F S4x128x64 .f32) (x16 : Vec F S4x128x64 .f32)
    (f : arg15.view.ty.Contents (Elt F)) :
    arg15.view.read (Elt F) (arg15.view.writes (Elt F) f (blockRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16).2.2.2.2.2.1) = x.dsinkOut (i 0).val x14 := by
  unfold blockRun
  dsimp only
  simp only [blockRun.sl.r_14, blockRun.sl.v688, blockRun.sl.r_37, blockRun.sl.v488, blockRun.sl.r_68, blockRun.sl.v710, blockRun.sl.r_3, blockRun.sl.v932, blockRun.sl.r_30, blockRun.sl.r_55, blockRun.sl.r_12, blockRun.sl.r_88, blockRun.sl.r_84, blockRun.sl.r_70, blockRun.sl.r_65, blockRun.sl.r_7, blockRun.sl.r_61, blockRun.sl.r_33, blockRun.sl.r_71, blockRun.sl.v466, blockRun.sl.r_74, blockRun.sl.v481, blockRun.sl.r_41, blockRun.sl.r_29, blockRun.sl.r_36, blockRun.sl.v703, blockRun.sl.r_9, blockRun.sl.r_6, blockRun.sl.r_75, blockRun.sl.r_19, blockRun.sl.r_44, blockRun.sl.r_51, blockRun.sl.r_56, blockRun.sl.r_58, blockRun.sl.r_69, blockRun.sl.r_16, blockRun.sl.r_11, blockRun.sl.r_87, blockRun.sl.r_32, blockRun.sl.r_76, blockRun.sl.v49, blockRun.sl.r_64, blockRun.sl.r_52, blockRun.sl.r_38, blockRun.sl.r_59, blockRun.sl.r_42, blockRun.sl.r_31, blockRun.sl.r_27, blockRun.sl.r_40, blockRun.sl.r_53, blockRun.sl.r, blockRun.sl.r_79, blockRun.sl.r_80, blockRun.sl.v681, blockRun.sl.r_21, blockRun.sl.r_66, blockRun.sl.r_86, blockRun.sl.r_60, blockRun.sl.r_28, blockRun.sl.r_17, blockRun.sl.r_63, blockRun.sl.r_77, blockRun.sl.r_73, blockRun.sl.r_72, blockRun.sl.r_13, blockRun.sl.r_5, blockRun.sl.r_45, blockRun.sl.r_1, blockRun.sl.r_48, blockRun.sl.r_43, blockRun.sl.r_39, blockRun.sl.r_15, blockRun.sl.r_85, blockRun.sl.r_49, blockRun.sl.r_54, blockRun.sl.r_10, blockRun.sl.r_57, blockRun.sl.r_78, blockRun.sl.r_34, blockRun.sl.r_4, blockRun.sl.r_67, blockRun.sl.r_2, blockRun.sl.r_24, blockRun.sl.r_18, blockRun.sl.r_62, blockRun.sl.r_23, blockRun.sl.r_47, blockRun.sl.r_89, blockRun.sl.r_83, blockRun.sl.r_46, blockRun.sl.r_25, blockRun.sl.r_50, blockRun.sl.v459, blockRun.sl.v910, blockRun.sl.v903, blockRun.sl.r_20, blockRun.sl.r_82, blockRun.sl.r_26, blockRun.sl.r_81, blockRun.sl.v925, blockRun.sl.cst_204, blockRun.sl.r_22, blockRun.sl.r_35, blockRun.sl.r_8, load_head, load_col, load_lane, load_all]
  exact (read_all _ _ _ _).trans rfl

end Cert.KernelIdeal.Attn

end
-- ==== Proof.Attn.BlockC.lean ====
/- What a query block leaves in the two carried buffers. -/
module

public import proofs.«01_k».proof.Proof.Attn.Block

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The key gradient carried on, read back from the stores of a query block. -/
theorem block_15 (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)

    (x : Blocks F) (x12 : Vec F S4x128x64 .f32) (x13 : Vec F S4x128x64 .f32) (x14 : Vec F S1x128 .f32) (x15 : Vec F S4x128x64 .f32) (x16 : Vec F S4x128x64 .f32)
    (f : arg16.view.ty.Contents (Elt F)) :
    arg16.view.read (Elt F) (arg16.view.writes (Elt F) f (blockRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16).2.2.2.2.2.2.1) = x.dkCarry (i 0).val := by
  unfold blockRun
  dsimp only
  simp only [blockRun.sl.r_14, blockRun.sl.v688, blockRun.sl.r_37, blockRun.sl.v488, blockRun.sl.r_68, blockRun.sl.v710, blockRun.sl.r_3, blockRun.sl.v932, blockRun.sl.r_30, blockRun.sl.r_55, blockRun.sl.r_12, blockRun.sl.r_88, blockRun.sl.r_84, blockRun.sl.r_70, blockRun.sl.r_65, blockRun.sl.r_7, blockRun.sl.r_61, blockRun.sl.r_33, blockRun.sl.r_71, blockRun.sl.v466, blockRun.sl.r_74, blockRun.sl.v481, blockRun.sl.r_41, blockRun.sl.r_29, blockRun.sl.r_36, blockRun.sl.v703, blockRun.sl.r_9, blockRun.sl.r_6, blockRun.sl.r_75, blockRun.sl.r_19, blockRun.sl.r_44, blockRun.sl.r_51, blockRun.sl.r_56, blockRun.sl.r_58, blockRun.sl.r_69, blockRun.sl.r_16, blockRun.sl.r_11, blockRun.sl.r_87, blockRun.sl.r_32, blockRun.sl.r_76, blockRun.sl.v49, blockRun.sl.r_64, blockRun.sl.r_52, blockRun.sl.r_38, blockRun.sl.r_59, blockRun.sl.r_42, blockRun.sl.r_31, blockRun.sl.r_27, blockRun.sl.r_40, blockRun.sl.r_53, blockRun.sl.r, blockRun.sl.r_79, blockRun.sl.r_80, blockRun.sl.v681, blockRun.sl.r_21, blockRun.sl.r_66, blockRun.sl.r_86, blockRun.sl.r_60, blockRun.sl.r_28, blockRun.sl.r_17, blockRun.sl.r_63, blockRun.sl.r_77, blockRun.sl.r_73, blockRun.sl.r_72, blockRun.sl.r_13, blockRun.sl.r_5, blockRun.sl.r_45, blockRun.sl.r_1, blockRun.sl.r_48, blockRun.sl.r_43, blockRun.sl.r_39, blockRun.sl.r_15, blockRun.sl.r_85, blockRun.sl.r_49, blockRun.sl.r_54, blockRun.sl.r_10, blockRun.sl.r_57, blockRun.sl.r_78, blockRun.sl.r_34, blockRun.sl.r_4, blockRun.sl.r_67, blockRun.sl.r_2, blockRun.sl.r_24, blockRun.sl.r_18, blockRun.sl.r_62, blockRun.sl.r_23, blockRun.sl.r_47, blockRun.sl.r_89, blockRun.sl.r_83, blockRun.sl.r_46, blockRun.sl.r_25, blockRun.sl.r_50, blockRun.sl.v459, blockRun.sl.v910, blockRun.sl.v903, blockRun.sl.r_20, blockRun.sl.r_82, blockRun.sl.r_26, blockRun.sl.r_81, blockRun.sl.v925, blockRun.sl.cst_204, blockRun.sl.r_22, blockRun.sl.r_35, blockRun.sl.r_8, load_head, load_col, load_lane]
  exact read_heads _ _ _ _ _ _ _ _ _ _ _ rfl rfl rfl rfl

/-- The value gradient carried on, read back from the stores of a query block. -/
theorem block_16 (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)

    (x : Blocks F) (x12 : Vec F S4x128x64 .f32) (x13 : Vec F S4x128x64 .f32) (x14 : Vec F S1x128 .f32) (x15 : Vec F S4x128x64 .f32) (x16 : Vec F S4x128x64 .f32)
    (f : arg17.view.ty.Contents (Elt F)) :
    arg17.view.read (Elt F) (arg17.view.writes (Elt F) f (blockRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16).2.2.2.2.2.2.2.1) = x.dvCarry (i 0).val := by
  unfold blockRun
  dsimp only
  simp only [blockRun.sl.r_14, blockRun.sl.v688, blockRun.sl.r_37, blockRun.sl.v488, blockRun.sl.r_68, blockRun.sl.v710, blockRun.sl.r_3, blockRun.sl.v932, blockRun.sl.r_30, blockRun.sl.r_55, blockRun.sl.r_12, blockRun.sl.r_88, blockRun.sl.r_84, blockRun.sl.r_70, blockRun.sl.r_65, blockRun.sl.r_7, blockRun.sl.r_61, blockRun.sl.r_33, blockRun.sl.r_71, blockRun.sl.v466, blockRun.sl.r_74, blockRun.sl.v481, blockRun.sl.r_41, blockRun.sl.r_29, blockRun.sl.r_36, blockRun.sl.v703, blockRun.sl.r_9, blockRun.sl.r_6, blockRun.sl.r_75, blockRun.sl.r_19, blockRun.sl.r_44, blockRun.sl.r_51, blockRun.sl.r_56, blockRun.sl.r_58, blockRun.sl.r_69, blockRun.sl.r_16, blockRun.sl.r_11, blockRun.sl.r_87, blockRun.sl.r_32, blockRun.sl.r_76, blockRun.sl.v49, blockRun.sl.r_64, blockRun.sl.r_52, blockRun.sl.r_38, blockRun.sl.r_59, blockRun.sl.r_42, blockRun.sl.r_31, blockRun.sl.r_27, blockRun.sl.r_40, blockRun.sl.r_53, blockRun.sl.r, blockRun.sl.r_79, blockRun.sl.r_80, blockRun.sl.v681, blockRun.sl.r_21, blockRun.sl.r_66, blockRun.sl.r_86, blockRun.sl.r_60, blockRun.sl.r_28, blockRun.sl.r_17, blockRun.sl.r_63, blockRun.sl.r_77, blockRun.sl.r_73, blockRun.sl.r_72, blockRun.sl.r_13, blockRun.sl.r_5, blockRun.sl.r_45, blockRun.sl.r_1, blockRun.sl.r_48, blockRun.sl.r_43, blockRun.sl.r_39, blockRun.sl.r_15, blockRun.sl.r_85, blockRun.sl.r_49, blockRun.sl.r_54, blockRun.sl.r_10, blockRun.sl.r_57, blockRun.sl.r_78, blockRun.sl.r_34, blockRun.sl.r_4, blockRun.sl.r_67, blockRun.sl.r_2, blockRun.sl.r_24, blockRun.sl.r_18, blockRun.sl.r_62, blockRun.sl.r_23, blockRun.sl.r_47, blockRun.sl.r_89, blockRun.sl.r_83, blockRun.sl.r_46, blockRun.sl.r_25, blockRun.sl.r_50, blockRun.sl.v459, blockRun.sl.v910, blockRun.sl.v903, blockRun.sl.r_20, blockRun.sl.r_82, blockRun.sl.r_26, blockRun.sl.r_81, blockRun.sl.v925, blockRun.sl.cst_204, blockRun.sl.r_22, blockRun.sl.r_35, blockRun.sl.r_8, load_head, load_col, load_lane]
  exact read_heads _ _ _ _ _ _ _ _ _ _ _ rfl rfl rfl rfl

end Cert.KernelIdeal.Attn

end
-- ==== Proof.Attn.Body.lean ====
/- The body at each kind of grid point, its outputs named: the first query block, a later query block, and the last point. -/
module

public import proofs.«01_k».proof.Proof.Attn.BlockQ
public import proofs.«01_k».proof.Proof.Attn.BlockKV
public import proofs.«01_k».proof.Proof.Attn.BlockS
public import proofs.«01_k».proof.Proof.Attn.BlockC

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 800000 in
/-- A query block's step, its outputs named. -/
theorem block_spec (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)
     (x : Blocks F) (x12 x13 : Vec F S4x128x64 .f32) (x14 : Vec F S1x128 .f32) (x15 x16 : Vec F S4x128x64 .f32)
    (E : Set ℕ) (K : PUnit → sProp 𝕄) :
    iprop(owns (c : Thread nD τ) arg1 fullShare x.q ∗ owns (c : Thread nD τ) arg2 fullShare x.d ∗ owns (c : Thread nD τ) arg3 fullShare x.kp ∗ owns (c : Thread nD τ) arg4 fullShare x.ko ∗ owns (c : Thread nD τ) arg5 fullShare x.km ∗ owns (c : Thread nD τ) arg6 fullShare x.vp ∗ owns (c : Thread nD τ) arg7 fullShare x.vo ∗ owns (c : Thread nD τ) arg8 fullShare x.vm ∗ owns (c : Thread nD τ) arg9 fullShare x.s ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
      ∗ (iprop(owns (c : Thread nD τ) arg1 fullShare x.q ∗ owns (c : Thread nD τ) arg2 fullShare x.d ∗ owns (c : Thread nD τ) arg3 fullShare x.kp ∗ owns (c : Thread nD τ) arg4 fullShare x.ko ∗ owns (c : Thread nD τ) arg5 fullShare x.km ∗ owns (c : Thread nD τ) arg6 fullShare x.vp ∗ owns (c : Thread nD τ) arg7 fullShare x.vo ∗ owns (c : Thread nD τ) arg8 fullShare x.vm ∗ owns (c : Thread nD τ) arg9 fullShare x.s ∗ owns (c : Thread nD τ) arg10 fullShare (x.dq (i 0).val) ∗ owns (c : Thread nD τ) arg11 fullShare (x.dkOut (i 0).val x15) ∗ owns (c : Thread nD τ) arg12 fullShare (x.dvOut (i 0).val x16) ∗ owns (c : Thread nD τ) arg13 fullShare (x.dkMeta (i 0).val x12) ∗ owns (c : Thread nD τ) arg14 fullShare (x.dvMeta (i 0).val x13) ∗ owns (c : Thread nD τ) arg15 fullShare (x.dsinkOut (i 0).val x14) ∗ owns (c : Thread nD τ) arg16 fullShare (x.dkCarry (i 0).val) ∗ owns (c : Thread nD τ) arg17 fullShare (x.dvCarry (i 0).val)) -∗ K ⟨⟩))
      ⊢ wp frame (wpE (defs₀ (F := F)) Variants.none c none) E (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val)) K := by
  iintro ⟨H0, H1, H2, H3, H4, H5, H6, H7, H8, H9, H10, H11, H12, H13, H14, H15, H16, Hk⟩
  iapply (blockRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16).2.2.2.2.2.2.2.2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; iexact H9
    ipureintro; exact block_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16 f9
  isplitl [H10]
  · unfold owns; iexists _; isplitr; swap; iexact H10
    ipureintro; exact block_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16 f10
  isplitl [H11]
  · unfold owns; iexists _; isplitr; swap; iexact H11
    ipureintro; exact block_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16 f11
  isplitl [H12]
  · unfold owns; iexists _; isplitr; swap; iexact H12
    ipureintro; exact block_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16 f12
  isplitl [H13]
  · unfold owns; iexists _; isplitr; swap; iexact H13
    ipureintro; exact block_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16 f13
  isplitl [H14]
  · unfold owns; iexists _; isplitr; swap; iexact H14
    ipureintro; exact block_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16 f14
  isplitl [H15]
  · unfold owns; iexists _; isplitr; swap; iexact H15
    ipureintro; exact block_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16 f15
  unfold owns; iexists _; isplitr; swap; iexact H16
  ipureintro; exact block_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16 f16

set_option maxHeartbeats 800000 in
/-- The body at a later query block. -/
theorem bodyB (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)
    (hc0 : ¬First i) (hc1 : Block i) (hc2 : ¬Last i) (x : Blocks F) (x12 x13 : Vec F S4x128x64 .f32) (x14 : Vec F S1x128 .f32) (x15 x16 : Vec F S4x128x64 .f32)
    (E : Set ℕ) (K : PUnit → sProp 𝕄) :
    iprop(owns (c : Thread nD τ) arg1 fullShare x.q ∗ owns (c : Thread nD τ) arg2 fullShare x.d ∗ owns (c : Thread nD τ) arg3 fullShare x.kp ∗ owns (c : Thread nD τ) arg4 fullShare x.ko ∗ owns (c : Thread nD τ) arg5 fullShare x.km ∗ owns (c : Thread nD τ) arg6 fullShare x.vp ∗ owns (c : Thread nD τ) arg7 fullShare x.vo ∗ owns (c : Thread nD τ) arg8 fullShare x.vm ∗ owns (c : Thread nD τ) arg9 fullShare x.s ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
      ∗ (iprop(owns (c : Thread nD τ) arg1 fullShare x.q ∗ owns (c : Thread nD τ) arg2 fullShare x.d ∗ owns (c : Thread nD τ) arg3 fullShare x.kp ∗ owns (c : Thread nD τ) arg4 fullShare x.ko ∗ owns (c : Thread nD τ) arg5 fullShare x.km ∗ owns (c : Thread nD τ) arg6 fullShare x.vp ∗ owns (c : Thread nD τ) arg7 fullShare x.vo ∗ owns (c : Thread nD τ) arg8 fullShare x.vm ∗ owns (c : Thread nD τ) arg9 fullShare x.s ∗ owns (c : Thread nD τ) arg10 fullShare (x.dq (i 0).val) ∗ owns (c : Thread nD τ) arg11 fullShare (x.dkOut (i 0).val x15) ∗ owns (c : Thread nD τ) arg12 fullShare (x.dvOut (i 0).val x16) ∗ owns (c : Thread nD τ) arg13 fullShare (x.dkMeta (i 0).val x12) ∗ owns (c : Thread nD τ) arg14 fullShare (x.dvMeta (i 0).val x13) ∗ owns (c : Thread nD τ) arg15 fullShare (x.dsinkOut (i 0).val x14) ∗ owns (c : Thread nD τ) arg16 fullShare (x.dkCarry (i 0).val) ∗ owns (c : Thread nD τ) arg17 fullShare (x.dvCarry (i 0).val)) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attn_bwd_eq_skeleton]; unfold cc0_attn_bwd_skel
  simp only [dif_neg hc0, dif_pos hc1, dif_neg hc2]
  rw [show ∀ (p : Prog (TpuEff nD τ sig (Elt F) Λ₀ .tc) PUnit), (p >>= fun _ => pure PUnit.unit) = p from fun p => Prog.bind_pure p]
  exact block_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x x12 x13 x14 x15 x16 E _

set_option maxHeartbeats 800000 in
/-- The body at the first query block. -/
theorem bodyA (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)
    (hc0 : First i) (hc1 : Block i) (hc2 : ¬Last i) (x : Blocks F)
    (E : Set ℕ) (K : PUnit → sProp 𝕄) :
    iprop(owns (c : Thread nD τ) arg1 fullShare x.q ∗ owns (c : Thread nD τ) arg2 fullShare x.d ∗ owns (c : Thread nD τ) arg3 fullShare x.kp ∗ owns (c : Thread nD τ) arg4 fullShare x.ko ∗ owns (c : Thread nD τ) arg5 fullShare x.km ∗ owns (c : Thread nD τ) arg6 fullShare x.vp ∗ owns (c : Thread nD τ) arg7 fullShare x.vo ∗ owns (c : Thread nD τ) arg8 fullShare x.vm ∗ owns (c : Thread nD τ) arg9 fullShare x.s ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg1 fullShare x.q ∗ owns (c : Thread nD τ) arg2 fullShare x.d ∗ owns (c : Thread nD τ) arg3 fullShare x.kp ∗ owns (c : Thread nD τ) arg4 fullShare x.ko ∗ owns (c : Thread nD τ) arg5 fullShare x.km ∗ owns (c : Thread nD τ) arg6 fullShare x.vp ∗ owns (c : Thread nD τ) arg7 fullShare x.vo ∗ owns (c : Thread nD τ) arg8 fullShare x.vm ∗ owns (c : Thread nD τ) arg9 fullShare x.s ∗ owns (c : Thread nD τ) arg10 fullShare (x.dq (i 0).val) ∗ owns (c : Thread nD τ) arg11 fullShare (x.dkOut (i 0).val (k0_pay1 (F := F))) ∗ owns (c : Thread nD τ) arg12 fullShare (x.dvOut (i 0).val (k0_pay2 (F := F))) ∗ owns (c : Thread nD τ) arg13 fullShare (x.dkMeta (i 0).val (k0_pay3 (F := F))) ∗ owns (c : Thread nD τ) arg14 fullShare (x.dvMeta (i 0).val (k0_pay4 (F := F))) ∗ owns (c : Thread nD τ) arg15 fullShare (x.dsinkOut (i 0).val (k0_pay5 (F := F))) ∗ owns (c : Thread nD τ) arg16 fullShare (x.dkCarry (i 0).val) ∗ owns (c : Thread nD τ) arg17 fullShare (x.dvCarry (i 0).val)) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attn_bwd_eq_skeleton]; unfold cc0_attn_bwd_skel
  simp only [dif_pos hc0, dif_pos hc1, dif_neg hc2]
  generalize hp : k0_part27 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) = p
  unfold owns
  iintro ⟨H0, H1, H2, H3, H4, H5, H6, H7, H8, H9, H10, H11, ⟨%d12, %f12, -, H12⟩, ⟨%d13, %f13, -, H13⟩, ⟨%d14, %f14, -, H14⟩, ⟨%d15, %f15, -, H15⟩, ⟨%d16, %f16, -, H16⟩, Hk⟩
  sl_exec
  rw [show ∀ (q : Prog (TpuEff nD τ sig (Elt F) Λ₀ .tc) PUnit), (q >>= fun _ => pure PUnit.unit) = q from fun q => Prog.bind_pure q]
  subst hp
  iapply block_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x k0_pay3 k0_pay4 k0_pay5 k0_pay1 k0_pay2 E K
  isplitl [H0]; · unfold owns; iexact H0
  isplitl [H1]; · unfold owns; iexact H1
  isplitl [H2]; · unfold owns; iexact H2
  isplitl [H3]; · unfold owns; iexact H3
  isplitl [H4]; · unfold owns; iexact H4
  isplitl [H5]; · unfold owns; iexact H5
  isplitl [H6]; · unfold owns; iexact H6
  isplitl [H7]; · unfold owns; iexact H7
  isplitl [H8]; · unfold owns; iexact H8
  isplitl [H9]; · iexact H9
  isplitl [H10]; · iexact H10
  isplitl [H11]; · iexact H11
  isplitl [H12]
  · unfold owns; iexists _; isplitr; swap; iexact H12
    ipureintro; exact read_whole _ _ _ _
  isplitl [H13]
  · unfold owns; iexists _; isplitr; swap; iexact H13
    ipureintro; exact read_whole _ _ _ _
  isplitl [H14]
  · unfold owns; iexists _; isplitr; swap; iexact H14
    ipureintro; exact read_all _ _ _ _
  isplitl [H15]
  · unfold owns; iexists _; isplitr; swap; iexact H15
    ipureintro; exact read_whole _ _ _ _
  isplitl [H16]
  · unfold owns; iexists _; isplitr; swap; iexact H16
    ipureintro; exact read_whole _ _ _ _
  iexact Hk

set_option maxHeartbeats 800000 in
/-- The body at the last point: the carried buffers are handed out. -/
theorem bodyC (c : Dev nD) (i : grid0.Coords)
    (arg1 : Memref sig .tc .vmem S128x2048 .bf16) (harg1 : arg1.IsWhole)
    (arg2 : Memref sig .tc .vmem S128x2048 .bf16) (harg2 : arg2.IsWhole)
    (arg3 : Memref sig .tc .vmem S4x128x64 .bf16) (harg3 : arg3.IsWhole)
    (arg4 : Memref sig .tc .vmem S4x128x64 .bf16) (harg4 : arg4.IsWhole)
    (arg5 : Memref sig .tc .vmem S4x128x64 .bf16) (harg5 : arg5.IsWhole)
    (arg6 : Memref sig .tc .vmem S4x128x64 .bf16) (harg6 : arg6.IsWhole)
    (arg7 : Memref sig .tc .vmem S4x128x64 .bf16) (harg7 : arg7.IsWhole)
    (arg8 : Memref sig .tc .vmem S4x128x64 .bf16) (harg8 : arg8.IsWhole)
    (arg9 : Memref sig .tc .vmem S1x32 .f32) (harg9 : arg9.IsWhole)
    (arg10 : Memref sig .tc .vmem S128x2048 .f32) (harg10 : arg10.IsWhole)
    (arg11 : Memref sig .tc .vmem S4x128x64 .f32) (harg11 : arg11.IsWhole)
    (arg12 : Memref sig .tc .vmem S4x128x64 .f32) (harg12 : arg12.IsWhole)
    (arg13 : Memref sig .tc .vmem S4x128x64 .f32) (harg13 : arg13.IsWhole)
    (arg14 : Memref sig .tc .vmem S4x128x64 .f32) (harg14 : arg14.IsWhole)
    (arg15 : Memref sig .tc .vmem S1x128 .f32) (harg15 : arg15.IsWhole)
    (arg16 : Memref sig .tc .vmem S4x128x64 .f32) (harg16 : arg16.IsWhole)
    (arg17 : Memref sig .tc .vmem S4x128x64 .f32) (harg17 : arg17.IsWhole)
    (hc0 : ¬First i) (hc1 : ¬Block i) (hc2 : Last i) (x0 : Vec F S128x2048 .bf16) (x1 : Vec F S128x2048 .bf16) (x2 : Vec F S4x128x64 .bf16) (x3 : Vec F S4x128x64 .bf16) (x4 : Vec F S4x128x64 .bf16) (x5 : Vec F S4x128x64 .bf16) (x6 : Vec F S4x128x64 .bf16) (x7 : Vec F S4x128x64 .bf16) (x8 : Vec F S1x32 .f32) (x9 : Vec F S128x2048 .f32) (x12 : Vec F S4x128x64 .f32) (x13 : Vec F S4x128x64 .f32) (x14 : Vec F S1x128 .f32) (x15 : Vec F S4x128x64 .f32) (x16 : Vec F S4x128x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x15 ∗ owns (c : Thread nD τ) arg12 fullShare x16 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attn_bwd_eq_skeleton]; unfold cc0_attn_bwd_skel
  simp only [dif_neg hc0, dif_neg hc1, dif_pos hc2]
  unfold owns
  iintro ⟨H0, H1, H2, H3, H4, H5, H6, H7, H8, H9, ⟨%d10, %f10, -, H10⟩, ⟨%d11, %f11, -, H11⟩, H12, H13, H14, ⟨%f15, %hf15, H15⟩, ⟨%f16, %hf16, H16⟩, Hk⟩
  obtain rfl := harg16.eq_unread hf15
  obtain rfl := harg17.eq_unread hf16
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; iexact H10
    ipureintro; exact (read_whole _ _ _ _).trans (load_whole _ harg16 x15 _)
  isplitl [H11]
  · iexists _; isplitr; swap; iexact H11
    ipureintro; exact (read_whole _ _ _ _).trans (load_whole _ harg17 x16 _)
  isplitl [H12]; · iexact H12
  isplitl [H13]; · iexact H13
  isplitl [H14]; · iexact H14
  isplitl [H15]
  · iexists _; isplitr; swap; iexact H15
    ipureintro; exact harg16.read_unread _
  iexists _; isplitr; swap; iexact H16
  ipureintro; exact harg17.read_unread _

end Cert.KernelIdeal.Attn

end
-- ==== Proof.Attn.Grid.lean ====
/- The launch: what every buffer holds after each grid point, the run of the whole grid, and the frame. -/
module

public import proofs.«01_k».proof.Proof.Attn.Body

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem coord_val : ∀ t : Fin cfg0.N, ((grid0.coords t) 0).val = t.val :=
  (by decide +kernel : ∀ t : Fin grid0.N, ((grid0.coords t) 0).val = t.val)

/-- Grid point `n`, the last one from 33 on. -/
def pt (n : ℕ) : Fin cfg0.N := ⟨min n 33, by rw [N_eq]; omega⟩

theorem pt_val (t : Fin cfg0.N) : pt t.val = t := Fin.ext (by
  have : t.val < 34 := lt_of_lt_of_eq t.isLt N_eq
  show min t.val 33 = t.val
  omega)

/-- The blocks the body loads at point `n`. -/
def blocks (c : Dev nD) (n : ℕ) : Blocks F where
  q := iblk m c 0 (pt n)
  d := iblk m c 1 (pt n)
  kp := iblk m c 2 (pt n)
  ko := iblk m c 3 (pt n)
  km := iblk m c 4 (pt n)
  vp := iblk m c 5 (pt n)
  vo := iblk m c 6 (pt n)
  vm := iblk m c 7 (pt n)
  s := iblk m c 8 (pt n)

/-- What the query gradient's buffer holds after point `n`: the last point leaves it alone. -/
def dqAt (c : Dev nD) (n : ℕ) : Vec F S128x2048 .f32 := (blocks m c (min n 32)).dq (min n 32)
/-- The carried key gradient after point `n`: the last point leaves it alone. -/
def ckAt (c : Dev nD) (n : ℕ) : Vec F S4x128x64 .f32 := (blocks m c (min n 32)).dkCarry (min n 32)
/-- The carried value gradient after point `n`. -/
def cvAt (c : Dev nD) (n : ℕ) : Vec F S4x128x64 .f32 := (blocks m c (min n 32)).dvCarry (min n 32)
/-- The carried key gradient as point `n` finds it, once cleared at the first. -/
def ckIn (c : Dev nD) : ℕ → Vec F S4x128x64 .f32
  | 0 => k0_pay1
  | n + 1 => ckAt m c n
/-- The carried value gradient as point `n` finds it, once cleared at the first. -/
def cvIn (c : Dev nD) : ℕ → Vec F S4x128x64 .f32
  | 0 => k0_pay2
  | n + 1 => cvAt m c n
/-- The key gradient handed out at point `n`. -/
def dkAt (c : Dev nD) (n : ℕ) : Vec F S4x128x64 .f32 := if n < 33 then (blocks m c n).dkOut n (ckIn m c n) else ckIn m c n
/-- The value gradient handed out at point `n`. -/
def dvAt (c : Dev nD) (n : ℕ) : Vec F S4x128x64 .f32 := if n < 33 then (blocks m c n).dvOut n (cvIn m c n) else cvIn m c n
/-- The meta keys' running gradient after point `n`. -/
def dkmAt (c : Dev nD) : ℕ → Vec F S4x128x64 .f32
  | 0 => (blocks m c 0).dkMeta 0 k0_pay3
  | n + 1 => if n + 1 < 33 then (blocks m c (n + 1)).dkMeta (n + 1) (dkmAt c n) else dkmAt c n
/-- The meta values' running gradient after point `n`. -/
def dvmAt (c : Dev nD) : ℕ → Vec F S4x128x64 .f32
  | 0 => (blocks m c 0).dvMeta 0 k0_pay4
  | n + 1 => if n + 1 < 33 then (blocks m c (n + 1)).dvMeta (n + 1) (dvmAt c n) else dvmAt c n
/-- The sinks' running gradient after point `n`. -/
def dsAt (c : Dev nD) : ℕ → Vec F S1x128 .f32
  | 0 => (blocks m c 0).dsinkOut 0 k0_pay5
  | n + 1 => if n + 1 < 33 then (blocks m c (n + 1)).dsinkOut (n + 1) (dsAt c n) else dsAt c n

/-- The carried buffers and the generator's register before point `n`. -/
def PhiN (c : Dev nD) : ℕ → sProp 𝕄
  | 0 => Pipeline.ΦA spec0 c
  | n + 1 => iprop(iprop(owns (c : Thread nD τ) ckM fullShare (ckAt m c n) ∗ owns (c : Thread nD τ) cvM fullShare (cvAt m c n)) ∗ (∃ r, prngReg c r))

/-- The launch's proof data: the arrays as the region finds them; after the body each input's buffer at its block and each
    output's at its named contents; the carried buffers between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqAt m c t.val
    | ⟨10, _⟩ => dkAt m c t.val
    | ⟨11, _⟩ => dvAt m c t.val
    | ⟨12, _⟩ => dkmAt m c t.val
    | ⟨13, _⟩ => dvmAt m c t.val
    | ⟨14, _⟩ => dsAt m c t.val
  Φ t := PhiN m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = dqAt m c t.val := by dsimp only [dats]
theorem after_10 (c : Dev nD) (t : Fin cfg0.N) : (dats m 0 c).after 10 t = dkAt m c t.val := by dsimp only [dats]
theorem after_11 (c : Dev nD) (t : Fin cfg0.N) : (dats m 0 c).after 11 t = dvAt m c t.val := by dsimp only [dats]
theorem after_12 (c : Dev nD) (t : Fin cfg0.N) : (dats m 0 c).after 12 t = dkmAt m c t.val := by dsimp only [dats]
theorem after_13 (c : Dev nD) (t : Fin cfg0.N) : (dats m 0 c).after 13 t = dvmAt m c t.val := by dsimp only [dats]
theorem after_14 (c : Dev nD) (t : Fin cfg0.N) : (dats m 0 c).after 14 t = dsAt m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- Whether window 9's buffer is still as it was after its last write-back: not at the last point. -/
theorem notFresh_9 : ∀ t : Fin cfg0.N, t.val = 33 → cfg0.fresh 9 t.val = false := by decide +kernel

theorem last_of (t : Fin cfg0.N) (h : ¬t.val < 33) : t.val = 33 := by
  have : t.val < 34 := lt_of_lt_of_eq t.isLt N_eq
  omega

/-- The last point leaves output 9 alone. -/
theorem carry_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [after_9, after_9]
  by_cases h : t.val < 33
  · rw [live_9 t h] at hi
    exact absurd hi Bool.false_ne_true
  · have h33 := last_of t h
    show dqAt m c t.val = dqAt m c (t.val - 1)
    rw [h33]
    rfl

/-- What output 9's buffer holds when the body finds it unwritten-back: what the point before left. -/
theorem before_9 (c : Dev nD) (t : Fin cfg0.N) (h : cfg0.fresh 9 t.val = false) (d) :
    (dats m 0 c).before 9 t d = dqAt m c (t.val - 1) := by
  rw [Dat.before_out_traj _ 9 rfl (fun _ _ => rfl) (carry_9 m c) t.val t rfl d, if_neg (by rw [h]; exact Bool.false_ne_true)]
  dsimp only [dats]

/-- The last point leaves output 12 alone. -/
theorem carry_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  rw [after_12, after_12]
  by_cases h : t.val < 33
  · rw [live_12 t h] at hi
    exact absurd hi Bool.false_ne_true
  · have h33 := last_of t h
    show dkmAt m c t.val = dkmAt m c (t.val - 1)
    rw [h33]
    exact if_neg (show ¬(32 + 1 < 33) by decide)

/-- What output 12's buffer holds when the body finds it unwritten-back: what the point before left. -/
theorem before_12 (c : Dev nD) (t : Fin cfg0.N) (h : cfg0.fresh 12 t.val = false) (d) :
    (dats m 0 c).before 12 t d = dkmAt m c (t.val - 1) := by
  rw [Dat.before_out_traj _ 12 rfl (fun _ _ => rfl) (carry_12 m c) t.val t rfl d, if_neg (by rw [h]; exact Bool.false_ne_true)]
  dsimp only [dats]

/-- The last point leaves output 13 alone. -/
theorem carry_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  rw [after_13, after_13]
  by_cases h : t.val < 33
  · rw [live_13 t h] at hi
    exact absurd hi Bool.false_ne_true
  · have h33 := last_of t h
    show dvmAt m c t.val = dvmAt m c (t.val - 1)
    rw [h33]
    exact if_neg (show ¬(32 + 1 < 33) by decide)

/-- What output 13's buffer holds when the body finds it unwritten-back: what the point before left. -/
theorem before_13 (c : Dev nD) (t : Fin cfg0.N) (h : cfg0.fresh 13 t.val = false) (d) :
    (dats m 0 c).before 13 t d = dvmAt m c (t.val - 1) := by
  rw [Dat.before_out_traj _ 13 rfl (fun _ _ => rfl) (carry_13 m c) t.val t rfl d, if_neg (by rw [h]; exact Bool.false_ne_true)]
  dsimp only [dats]

/-- The last point leaves output 14 alone. -/
theorem carry_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  rw [after_14, after_14]
  by_cases h : t.val < 33
  · rw [live_14 t h] at hi
    exact absurd hi Bool.false_ne_true
  · have h33 := last_of t h
    show dsAt m c t.val = dsAt m c (t.val - 1)
    rw [h33]
    exact if_neg (show ¬(32 + 1 < 33) by decide)

/-- What output 14's buffer holds when the body finds it unwritten-back: what the point before left. -/
theorem before_14 (c : Dev nD) (t : Fin cfg0.N) (h : cfg0.fresh 14 t.val = false) (d) :
    (dats m 0 c).before 14 t d = dsAt m c (t.val - 1) := by
  rw [Dat.before_out_traj _ 14 rfl (fun _ _ => rfl) (carry_14 m c) t.val t rfl d, if_neg (by rw [h]; exact Bool.false_ne_true)]
  dsimp only [dats]

/-- What the body leaves in a window it stores into, or whose block the point writes back. -/
theorem leaves_eq (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]
    cases cfg0.idle w (cfg0.grid.coords t) <;> rfl

theorem flush_9 : ∀ t : Fin cfg0.N, t.val = 33 → (cfg0.win 9).flush t = true := by decide +kernel
theorem stored_9 (t : Fin cfg0.N) : cfg0.idle 9 (grid0.coords t) = false ∨ (cfg0.win 9).flush t = true := by
  by_cases h : t.val < 33
  · exact .inl (live_9 t h)
  · exact .inr (flush_9 t (last_of t h))
theorem flush_12 : ∀ t : Fin cfg0.N, t.val = 33 → (cfg0.win 12).flush t = true := by decide +kernel
theorem stored_12 (t : Fin cfg0.N) : cfg0.idle 12 (grid0.coords t) = false ∨ (cfg0.win 12).flush t = true := by
  by_cases h : t.val < 33
  · exact .inl (live_12 t h)
  · exact .inr (flush_12 t (last_of t h))
theorem flush_13 : ∀ t : Fin cfg0.N, t.val = 33 → (cfg0.win 13).flush t = true := by decide +kernel
theorem stored_13 (t : Fin cfg0.N) : cfg0.idle 13 (grid0.coords t) = false ∨ (cfg0.win 13).flush t = true := by
  by_cases h : t.val < 33
  · exact .inl (live_13 t h)
  · exact .inr (flush_13 t (last_of t h))
theorem flush_14 : ∀ t : Fin cfg0.N, t.val = 33 → (cfg0.win 14).flush t = true := by decide +kernel
theorem stored_14 (t : Fin cfg0.N) : cfg0.idle 14 (grid0.coords t) = false ∨ (cfg0.win 14).flush t = true := by
  by_cases h : t.val < 33
  · exact .inl (live_14 t h)
  · exact .inr (flush_14 t (last_of t h))

/-- The body's precondition at a point. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d)))
/-- The body's postcondition at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- What the outputs hold after a query block past the first. -/
theorem at_block (c : Dev nD) (t : Fin cfg0.N) (h : t.val < 33) :
    dqAt m c t.val = (blocks m c t.val).dq t.val ∧ dkAt m c t.val = (blocks m c t.val).dkOut t.val (ckIn m c t.val)
    ∧ dvAt m c t.val = (blocks m c t.val).dvOut t.val (cvIn m c t.val)
    ∧ ckAt m c t.val = (blocks m c t.val).dkCarry t.val ∧ cvAt m c t.val = (blocks m c t.val).dvCarry t.val := by
  have e : min t.val 32 = t.val := by omega
  refine ⟨?_, if_pos h, if_pos h, ?_, ?_⟩
  · unfold dqAt; rw [e]
  · unfold ckAt; rw [e]
  · unfold cvAt; rw [e]

/-- What the running sums hold after a query block past the first. -/
theorem at_next (c : Dev nD) (n : ℕ) (h0 : n ≠ 0) (h : n < 33) :
    dkmAt m c n = (blocks m c n).dkMeta n (dkmAt m c (n - 1)) ∧ dvmAt m c n = (blocks m c n).dvMeta n (dvmAt m c (n - 1))
    ∧ dsAt m c n = (blocks m c n).dsinkOut n (dsAt m c (n - 1)) ∧ ckIn m c n = ckAt m c (n - 1) ∧ cvIn m c n = cvAt m c (n - 1) := by
  cases n with
  | zero => exact absurd rfl h0
  | succ n => exact ⟨if_pos h, if_pos h, if_pos h, rfl, rfl⟩

/-- What the last point finds is what it leaves. -/
theorem at_last (c : Dev nD) :
    dqAt m c 33 = dqAt m c (33 - 1) ∧ dkAt m c 33 = ckAt m c (33 - 1) ∧ dvAt m c 33 = cvAt m c (33 - 1)
    ∧ dkmAt m c 33 = dkmAt m c (33 - 1) ∧ dvmAt m c 33 = dvmAt m c (33 - 1) ∧ dsAt m c 33 = dsAt m c (33 - 1)
    ∧ ckAt m c 33 = ckAt m c (33 - 1) ∧ cvAt m c 33 = cvAt m c (33 - 1) := by
  have h : ¬(32 + 1 < 33) := by decide
  exact ⟨rfl, if_neg h, if_neg h, if_neg h, if_neg h, if_neg h, rfl, rfl⟩

theorem Phi_pos (c : Dev nD) (n : ℕ) (h : n ≠ 0) :
    PhiN m c n = iprop(iprop(owns (c : Thread nD τ) ckM fullShare (ckAt m c (n - 1)) ∗ owns (c : Thread nD τ) cvM fullShare (cvAt m c (n - 1))) ∗ (∃ r, prngReg c r)) := by
  cases n with
  | zero => exact absurd rfl h
  | succ n => rfl

/-- A point's blocks, field by field. -/
theorem blocks_eq (c : Dev nD) (t : Fin cfg0.N) : blocks m c t.val = ⟨iblk m c 0 t, iblk m c 1 t, iblk m c 2 t, iblk m c 3 t, iblk m c 4 t, iblk m c 5 t, iblk m c 6 t, iblk m c 7 t, iblk m c 8 t⟩ := by
  unfold blocks
  rw [pt_val]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = iprop(iprop(owns (c : Thread nD τ) ckM fullShare (ckAt m c t.val) ∗ owns (c : Thread nD τ) cvM fullShare (cvAt m c t.val)) ∗ (∃ r, prngReg c r)) from rfl]
  rw [show (dats m 0 c).Φ t.castSucc = PhiN m c t.val from rfl]
  rw [leaves_eq m c 0 t (.inl (live_0 t)), after_0]
  rw [leaves_eq m c 1 t (.inl (live_1 t)), after_1]
  rw [leaves_eq m c 2 t (.inl (live_2 t)), after_2]
  rw [leaves_eq m c 3 t (.inl (live_3 t)), after_3]
  rw [leaves_eq m c 4 t (.inl (live_4 t)), after_4]
  rw [leaves_eq m c 5 t (.inl (live_5 t)), after_5]
  rw [leaves_eq m c 6 t (.inl (live_6 t)), after_6]
  rw [leaves_eq m c 7 t (.inl (live_7 t)), after_7]
  rw [leaves_eq m c 8 t (.inl (live_8 t)), after_8]
  rw [leaves_eq m c 9 t (stored_9 t), after_9]
  rw [leaves_eq m c 10 t (.inl (live_10 t)), after_10]
  rw [leaves_eq m c 11 t (.inl (live_11 t)), after_11]
  rw [leaves_eq m c 12 t (stored_12 t), after_12]
  rw [leaves_eq m c 13 t (stored_13 t), after_13]
  rw [leaves_eq m c 14 t (stored_14 t), after_14]
  have hn : t.val < 34 := lt_of_lt_of_eq t.isLt N_eq
  have hb := blocks_eq m c t
  by_cases h1 : t.val < 33
  · obtain ⟨e9, e10, e11, e15, e16⟩ := at_block m c t h1
    rw [e9, e10, e11, e15, e16]
    by_cases h0 : t.val = 0
    · rw [h0, show PhiN m c 0 = Pipeline.ΦA spec0 c from rfl, PhiA_eq]
      have hA := bodyA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) ckM (Memref.isWhole_whole _) cvM (Memref.isWhole_whole _) ((first_iff t).mpr h0) ((block_iff t).mpr h1) (fun h => absurd ((last_iff t).mp h) (by omega)) (blocks m c t.val) Set.univ
      rw [coord_val t, hb, h0] at hA
      dsimp only at hA
      rw [show dkmAt m c 0 = (blocks m c 0).dkMeta 0 k0_pay3 from rfl, show dvmAt m c 0 = (blocks m c 0).dvMeta 0 k0_pay4 from rfl, show dsAt m c 0 = (blocks m c 0).dsinkOut 0 k0_pay5 from rfl, show ckIn m c 0 = k0_pay1 from rfl, show cvIn m c 0 = k0_pay2 from rfl]
      rw [h0] at hb
      rw [hb]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply hA
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · obtain ⟨e12, e13, e14, i15, i16⟩ := at_next m c t.val h0 h1
      rw [e12, e13, e14, i15, i16, Phi_pos m c t.val h0]
      simp only [before_12 m c t (notFresh_12 t h0), before_13 m c t (notFresh_13 t h0), before_14 m c t (notFresh_14 t h0)]
      have hB := fun x12 x13 x14 x15 x16 => bodyB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) ckM (Memref.isWhole_whole _) cvM (Memref.isWhole_whole _) (fun h => h0 ((first_iff t).mp h)) ((block_iff t).mpr h1) (fun h => absurd ((last_iff t).mp h) (by omega)) (blocks m c t.val) x12 x13 x14 x15 x16 Set.univ
      rw [coord_val t, hb] at hB
      dsimp only at hB
      rw [hb]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply hB
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, H10, H11, H12, H13, H14, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  · have h33 := last_of t h1
    obtain ⟨e9, e10, e11, e12, e13, e14, e15, e16⟩ := at_last m c
    have h0 : t.val ≠ 0 := by omega
    rw [Phi_pos m c t.val h0]
    simp only [before_9 m c t (notFresh_9 t h33), before_12 m c t (notFresh_12 t h0), before_13 m c t (notFresh_13 t h0), before_14 m c t (notFresh_14 t h0)]
    have hC := fun x0 x1 x2 x3 x4 x5 x6 x7 x8 x9 x12 x13 x14 x15 x16 => bodyC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) ckM (Memref.isWhole_whole _) cvM (Memref.isWhole_whole _) (fun h => h0 ((first_iff t).mp h)) (fun h => h1 ((block_iff t).mp h)) ((last_iff t).mpr h33) x0 x1 x2 x3 x4 x5 x6 x7 x8 x9 x12 x13 x14 x15 x16 Set.univ
    rw [h33, e9, e10, e11, e12, e13, e14, e15, e16]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply hC
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, H10, H11, H12, H13, H14, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiN m c (Fin.last cfg0.N).val from rfl,
    Phi_pos m c _ (by rw [Fin.val_last, N_eq]; decide), PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: from any memory with zero counters every execution ends, the arrays at what the proof data says, every
    counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 (defs₀ (F := F)) Variants.none m ρ main
    (hbody := fun c => (body_obligation m c).loose) (hq := fun _ _ _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The frame: every execution ends, the arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.KernelIdeal.Attn

end
-- ==== Proof.Attn.Canon.lean ====
/- Sliding-window attention with meta keys and sinks, and its gradient, as formulas over the extended reals: which key
   column a query row sees, a row's scores and the gradients of queries, keys, values and sinks. -/
module

public import proofs.«01_k».proof.Proof.Attn.Softmax
public import Idealize.ShloMosaic.Lib.WordCmp

@[expose] public section

noncomputable section

namespace Cert.Band

open Idealize.ShloMosaic Idealize.ShloMosaic.WordCmp Cert.Softmax

/-- The five arguments: queries, keys, values, sinks and the output's gradient. -/
structure In where
  q : Fin 4224 → Fin 2048 → EReal
  k : Fin 4 → Fin 4352 → Fin 64 → EReal
  v : Fin 4 → Fin 4352 → Fin 64 → EReal
  s : Fin 32 → EReal
  d : Fin 4224 → Fin 2048 → EReal

/-- Row `r` of query block `n`. -/
def row (n : Fin 33) (r : Fin 128) : Fin 4224 := ⟨n.val * 128 + r.val, by omega⟩
/-- Column `l` of query head `g` of key head `h`. -/
def col (h : Fin 4) (g : Fin 8) (l : Fin 64) : Fin 2048 := ⟨(h.val * 8 + g.val) * 64 + l.val, by omega⟩
/-- Query head `g` of key head `h`. -/
def hd (h : Fin 4) (g : Fin 8) : Fin 32 := ⟨h.val * 8 + g.val, by omega⟩
/-- The row of the shared keys that column `j` of block `n` reads: the previous block, the block itself, the meta keys. -/
def key (n : Fin 33) (j : Fin 384) : Fin 4352 := if h : j.val < 256 then ⟨n.val * 128 + j.val, by omega⟩ else ⟨128 + (j.val - 256), by omega⟩

/-- Query row `r` of block `n` sees column `j < 256`: a key after the padding and the meta keys, not after the query and
    fewer than 128 before it. -/
def near (n : Fin 33) (r : Fin 128) (j : ℕ) : Prop := 256 ≤ n.val * 128 + j ∧ j ≤ r.val + 128 ∧ r.val < j
/-- Query row `r` of block `n` sees meta key `j`. -/
def meta' (n : Fin 33) (r : Fin 128) (j : ℕ) : Prop := j + 112 ≤ n.val * 128 + r.val
/-- Query row `r` of block `n` sees column `j`. -/
def live (n : Fin 33) (r : Fin 128) (j : Fin 384) : Prop :=
  (j.val < 256 ∧ near n r j.val) ∨ (368 ≤ j.val ∧ meta' n r (j.val - 368))

instance (n : Fin 33) (r : Fin 128) (j : ℕ) : Decidable (near n r j) := by unfold near; infer_instance
instance (n : Fin 33) (r : Fin 128) (j : ℕ) : Decidable (meta' n r j) := by unfold meta'; infer_instance
instance (n : Fin 33) (r : Fin 128) : DecidablePred (live n r) := fun j => by unfold live; infer_instance

theorem live_row (n : Fin 33) (r : Fin 128) (j : Fin 384) (h : live n r j) : 112 ≤ n.val * 128 + r.val := by
  unfold live near meta' at h
  omega

theorem live_key (n : Fin 33) (r : Fin 128) (j : Fin 384) (h : live n r j) : 240 ≤ (key n j).val := by
  unfold live near meta' at h
  unfold key
  split
  · show 240 ≤ n.val * 128 + j.val
    omega
  · show 240 ≤ 128 + (j.val - 256)
    omega

theorem live_mid (n : Fin 33) (r : Fin 128) (j : Fin 384) (h : 256 ≤ j.val) (h' : j.val < 368) : ¬live n r j := by
  rintro (c | c) <;> omega

variable (A : In)

/-- The scores before masking. -/
def In.t (n : Fin 33) (h : Fin 4) (g : Fin 8) (r : Fin 128) (j : Fin 384) : EReal :=
  ∑ l : Fin 64, A.q (row n r) (col h g l) * A.k h (key n j) l
/-- The gradient of the weights. -/
def In.dp (n : Fin 33) (h : Fin 4) (g : Fin 8) (r : Fin 128) (j : Fin 384) : EReal :=
  ∑ l : Fin 64, A.d (row n r) (col h g l) * A.v h (key n j) l
/-- The weights. -/
def In.w (n : Fin 33) (h : Fin 4) (g : Fin 8) (r : Fin 128) (j : Fin 384) : EReal :=
  wt (live n r) (A.t n h g r) (A.s (hd h g)) j
/-- The gradient of the scores. -/
def In.ds (n : Fin 33) (h : Fin 4) (g : Fin 8) (r : Fin 128) (j : Fin 384) : EReal :=
  grad (live n r) (A.t n h g r) (A.s (hd h g)) (A.dp n h g r) j
/-- One row's part of the gradient of the sink. -/
def In.dk (n : Fin 33) (h : Fin 4) (g : Fin 8) (r : Fin 128) : EReal :=
  grads (live n r) (A.t n h g r) (A.s (hd h g)) (A.dp n h g r)

/-- The scores' operands and the sinks are reals. -/
structure In.Real : Prop where
  q : ∀ a b, Fin' (A.q a b)
  k : ∀ a b c, Fin' (A.k a b c)
  s : ∀ a, Fin' (A.s a)

variable {A}

theorem In.Real.t (R : A.Real) (n : Fin 33) (h : Fin 4) (g : Fin 8) (r : Fin 128) (j : Fin 384) : Fin' (A.t n h g r j) :=
  fin_sum _ _ fun _ => fin_mul (R.q _ _) (R.k _ _ _)

theorem In.Real.w_dead (R : A.Real) {n : Fin 33} (h : Fin 4) (g : Fin 8) {r : Fin 128} {j : Fin 384} (hl : ¬live n r j) : A.w n h g r j = 0 :=
  wt_dead _ _ _ (fun j _ => R.t n h g r j) (R.s _) j hl

theorem In.Real.ds_dead (R : A.Real) {n : Fin 33} (h : Fin 4) (g : Fin 8) {r : Fin 128} {j : Fin 384} (hl : ¬live n r j) : A.ds n h g r j = 0 :=
  grad_dead _ _ _ _ (fun j _ => R.t n h g r j) (R.s _) j hl

variable (A)

/-- The gradient of the queries. -/
def In.dQ (n : Fin 33) (h : Fin 4) (g : Fin 8) (r : Fin 128) (l : Fin 64) : EReal :=
  ∑ j : Fin 384, A.ds n h g r j * A.k h (key n j) l
/-- Block `n`'s part of the gradient of its 384 keys. -/
def In.dK (n : Fin 33) (h : Fin 4) (j : Fin 384) (l : Fin 64) : EReal :=
  ∑ g : Fin 8, ∑ r : Fin 128, A.ds n h g r j * A.q (row n r) (col h g l)
/-- Block `n`'s part of the gradient of its 384 values. -/
def In.dV (n : Fin 33) (h : Fin 4) (j : Fin 384) (l : Fin 64) : EReal :=
  ∑ g : Fin 8, ∑ r : Fin 128, A.w n h g r j * A.d (row n r) (col h g l)
/-- Block `n`'s part of the gradient of a sink. -/
def In.dS (n : Fin 33) (h : Fin 4) (g : Fin 8) : EReal := ∑ r : Fin 128, A.dk n h g r

/-- A key's or value's gradient: its part in its own block and its part in the next. -/
def two (n : Fin 33) (r : Fin 128) (f : Fin 33 → Fin 384 → EReal) : EReal :=
  f n ⟨128 + r.val, by omega⟩ + if c : n.val < 32 then f ⟨n.val + 1, by omega⟩ ⟨r.val, by omega⟩ else 0

variable {A}

theorem In.Real.dQ_pad (R : A.Real) (n : Fin 33) (h : Fin 4) (g : Fin 8) (r : Fin 128) (l : Fin 64) (c : ¬112 ≤ n.val * 128 + r.val) : A.dQ n h g r l = 0 :=
  Finset.sum_eq_zero fun _ _ => by rw [R.ds_dead h g fun q => c (live_row n r _ q), zero_mul]

theorem In.Real.dK_dead (R : A.Real) (n : Fin 33) (h : Fin 4) (j : Fin 384) (l : Fin 64) (c : ∀ r, ¬live n r j) : A.dK n h j l = 0 :=
  Finset.sum_eq_zero fun _ _ => Finset.sum_eq_zero fun r _ => by rw [R.ds_dead h _ (c r), zero_mul]

theorem In.Real.dV_dead (R : A.Real) (n : Fin 33) (h : Fin 4) (j : Fin 384) (l : Fin 64) (c : ∀ r, ¬live n r j) : A.dV n h j l = 0 :=
  Finset.sum_eq_zero fun _ _ => Finset.sum_eq_zero fun r _ => by rw [R.w_dead h _ (c r), zero_mul]

theorem two_pad (n : Fin 33) (r : Fin 128) (f : Fin 33 → Fin 384 → EReal) (c : ¬112 ≤ n.val * 128 + r.val)
    (hf : ∀ n j, (∀ r, ¬live n r j) → f n j = 0) : two n r f = 0 := by
  have dead : ∀ (n' : Fin 33) (j : Fin 384), j.val < 256 → n'.val * 128 + j.val < 256 → f n' j = 0 := fun n' j h1 h2 => hf n' j fun r' q => by
    unfold live near meta' at q
    omega
  unfold two
  rw [dead n _ (by show 128 + r.val < 256; omega) (by show n.val * 128 + (128 + r.val) < 256; omega), zero_add]
  split
  · exact dead _ _ (by show r.val < 256; omega) (by show (n.val + 1) * 128 + r.val < 256; omega)
  · rfl

theorem meta_dead (n : Fin 33) (m : Fin 128) (c : ¬112 ≤ m.val) (r : Fin 128) : ¬live n r ⟨256 + m.val, by omega⟩ :=
  live_mid n r _ (Nat.le_add_right 256 m.val) (by show 256 + m.val < 368; omega)

variable (A)

/-! ## Positions as 32-bit words -/

theorem toInt_nat (a : ℕ) (h : a < 2147483648) : (BitVec.ofNat 32 a).toInt = (a : ℤ) := by
  rw [BitVec.toInt_eq_toNat_of_lt, BitVec.toNat_ofNat, Nat.mod_eq_of_lt] <;> (try rw [BitVec.toNat_ofNat]) <;> omega

theorem toInt_add {x y : BitVec 32} {a b : ℤ} (hx : x.toInt = a) (hy : y.toInt = b) (h : -2147483648 ≤ a + b) (h' : a + b < 2147483648) :
    (x + y).toInt = a + b := by
  rw [BitVec.toInt_add, hx, hy, Int.bmod_eq_of_le] <;> omega

theorem toInt_sub {x y : BitVec 32} {a b : ℤ} (hx : x.toInt = a) (hy : y.toInt = b) (h : -2147483648 ≤ a - b) (h' : a - b < 2147483648) :
    (x - y).toInt = a - b := by
  rw [BitVec.toInt_sub, hx, hy, Int.bmod_eq_of_le] <;> omega

theorem toInt_mul {x : BitVec 32} {a : ℤ} (hx : x.toInt = a) (h : -1000000 ≤ a) (h' : a < 1000000) :
    (x * 128#32).toInt = a * 128 := by
  rw [BitVec.toInt_mul, hx, show (128#32 : BitVec 32).toInt = 128 from rfl, Int.bmod_eq_of_le] <;> omega

/-- The position of query row `r` of block `n`, counted after the padding. -/
theorem qpos (n : Fin 33) (r : Fin 128) :
    (BitVec.ofNat 32 n.val * 128#32 + BitVec.ofNat 32 r.val - 112#32).toInt = (n.val : ℤ) * 128 + r.val - 112 := by
  have hn := n.isLt
  have hr := r.isLt
  refine toInt_sub (toInt_add (toInt_mul (toInt_nat n.val ?_) ?_ ?_) (toInt_nat r.val ?_) ?_ ?_) (toInt_nat 112 ?_) ?_ ?_ <;> omega

/-- The position of key column `j` of block `n`, counted after the padding. -/
theorem kpos (n : Fin 33) (j : ℕ) (hj : j < 384) :
    ((BitVec.ofNat 32 n.val - 1#32) * 128#32 + BitVec.ofNat 32 j - 112#32).toInt = ((n.val : ℤ) - 1) * 128 + j - 112 := by
  have hn := n.isLt
  refine toInt_sub (toInt_add (toInt_mul (toInt_sub (toInt_nat n.val ?_) (toInt_nat 1 ?_) ?_ ?_) ?_ ?_) (toInt_nat j ?_) ?_ ?_) (toInt_nat 112 ?_) ?_ ?_ <;> omega

/-- The position of meta key column `j`. -/
theorem mpos (j : ℕ) (hj : j < 384) : (BitVec.ofNat 32 j - 256#32 - 112#32).toInt = (j : ℤ) - 256 - 112 := by
  refine toInt_sub (toInt_sub (toInt_nat j ?_) (toInt_nat 256 ?_) ?_ ?_) (toInt_nat 112 ?_) ?_ ?_ <;> omega

/-- The window's three comparisons. -/
theorem near_word (n : Fin 33) (r : Fin 128) (j : ℕ) (hj : j < 384) :
    IntOp.andi (IntOp.andi
        (IntOp.cmpi .sge ((BitVec.ofNat 32 n.val - 1#32) * 128#32 + BitVec.ofNat 32 j - 112#32) 16#32)
        (IntOp.cmpi .sle ((BitVec.ofNat 32 n.val - 1#32) * 128#32 + BitVec.ofNat 32 j - 112#32) (BitVec.ofNat 32 n.val * 128#32 + BitVec.ofNat 32 r.val - 112#32)))
      (IntOp.cmpi .slt ((BitVec.ofNat 32 n.val * 128#32 + BitVec.ofNat 32 r.val - 112#32) - ((BitVec.ofNat 32 n.val - 1#32) * 128#32 + BitVec.ofNat 32 j - 112#32)) 128#32)
      = BitVec.ofBool (decide (near n r j)) := by
  have hn := n.isLt
  have hr := r.isLt
  rw [cmpi_sge_eq, cmpi_sle_eq, cmpi_slt_eq, toInt_sub (qpos n r) (kpos n j hj) (by omega) (by omega), qpos, kpos n j hj,
    show (16#32 : BitVec 32).toInt = 16 from rfl, show (128#32 : BitVec 32).toInt = 128 from rfl, andi_ofBool, andi_ofBool,
    ← Bool.decide_and, ← Bool.decide_and]
  refine congrArg BitVec.ofBool (decide_eq_decide.mpr ?_)
  unfold near
  omega

/-- The meta keys' comparison. -/
theorem meta_word (n : Fin 33) (r : Fin 128) (j : ℕ) (hj : j < 384) :
    IntOp.cmpi .sle (BitVec.ofNat 32 j) (BitVec.ofNat 32 n.val * 128#32 + BitVec.ofNat 32 r.val - 112#32) = BitVec.ofBool (decide (meta' n r j)) := by
  have hn := n.isLt
  have hr := r.isLt
  rw [cmpi_sle_eq, qpos, toInt_nat j (by omega)]
  refine congrArg BitVec.ofBool (decide_eq_decide.mpr ?_)
  unfold meta'
  omega

theorem live_band (n : Fin 33) (r : Fin 128) (j : Fin 256) : live n r ⟨j.val, by omega⟩ ↔ near n r j.val := by
  have := j.isLt
  show (j.val < 256 ∧ near n r j.val) ∨ (368 ≤ j.val ∧ meta' n r (j.val - 368)) ↔ _
  constructor
  · rintro (h | h)
    · exact h.2
    · omega
  · exact fun h => .inl ⟨this, h⟩

theorem live_meta (n : Fin 33) (r : Fin 128) (j : Fin 16) : live n r ⟨368 + j.val, by omega⟩ ↔ meta' n r j.val := by
  show (368 + j.val < 256 ∧ near n r (368 + j.val)) ∨ (368 ≤ 368 + j.val ∧ meta' n r (368 + j.val - 368)) ↔ _
  rw [Nat.add_sub_cancel_left]
  constructor
  · rintro (h | h)
    · omega
    · exact h.2
  · exact fun h => .inr ⟨by omega, h⟩

/-! ## Sums over the columns -/

/-- A sum over 384 columns of which 256 … 367 vanish. -/
theorem sum384 (f : Fin 384 → EReal) (hm : ∀ j : Fin 384, 256 ≤ j.val → j.val < 368 → f j = 0) :
    ∑ j, f j = ∑ j : Fin 256, f ⟨j.val, by omega⟩ + ∑ j : Fin 16, f ⟨368 + j.val, by omega⟩ := by
  have h1 := Fin.sum_univ_add (a := 256) (b := 128) f
  have h2 := Fin.sum_univ_add (a := 112) (b := 16) fun i => f (Fin.natAdd 256 i)
  have h3 : ∑ i : Fin 112, f (Fin.natAdd 256 (Fin.castAdd 16 i)) = 0 :=
    Finset.sum_eq_zero fun i _ => hm _ (Nat.le_add_right 256 i.val) (by show 256 + i.val < 368; omega)
  rw [h3, zero_add] at h2
  refine h1.trans (congrArg₂ (· + ·) rfl (h2.trans (Finset.sum_congr rfl fun i _ => congrArg f (Fin.ext ?_))))
  show 256 + (112 + i.val) = 368 + i.val
  omega

/-- A sum over 273 columns: 256 of the window, 16 meta keys and the sink. -/
theorem sum273 (F : Fin 273 → EReal) :
    ∑ j, F j = ∑ j : Fin 256, F ⟨j.val, by omega⟩ + ∑ j : Fin 16, F ⟨256 + j.val, by omega⟩ + F ⟨272, by omega⟩ := by
  have h1 := Fin.sum_univ_add (a := 272) (b := 1) F
  have h2 := Fin.sum_univ_add (a := 256) (b := 16) fun i => F (Fin.castAdd 1 i)
  rw [h2] at h1
  refine h1.trans (congrArg₂ (· + ·) rfl ?_)
  rw [Fin.sum_univ_one]
  rfl

end Cert.Band

end
-- ==== Proof.Attn.Ker1.lean ====
/- One key head of the attention backward's body read at an index, over the extended reals and arbitrary operands. -/
module

public import proofs.«01_k».proof.Proof.Attn.Head
public import proofs.«01_k».proof.Proof.Attn.Canon
public import Idealize.ShloMosaic.Lib.Pointwise

@[expose] public section

set_option maxRecDepth 16384

noncomputable section

namespace Cert.KernelIdeal.Attn

open Cert.KernelIdeal Cert.KernelIdeal.Gen Cert.Softmax
open Idealize.ShloMosaic Idealize.ShloMosaic.TcCoe

variable (b : FVec Ideal S1024x384 .f32) (k v : FVec Ideal S384x64 .bf16) (q d : FVec Ideal S1024x64 .bf16) (s : FVec Ideal S1024x1 .f32)
variable (R : Fin 1024) (L : Fin 384 → Prop) [DecidablePred L]

/-- A row's scores before masking. -/
def tR (j : Fin 384) : EReal := ∑ l : Fin 64, q (ix2 R l) * k (ix2 j l)
/-- A row's sink. -/
def sR : EReal := s (ix2 R 0)

variable (hb : ∀ j, b (ix2 R j) = if L j then 0 else ⊥)
include hb

theorem p13_at (j : Fin 384) : k0_pay13 b k q (ix2 R j) = score L (tR k q R) j := by
  pointwise [k0_pay13]
  rw [hb]
  unfold score tR
  by_cases c : L j
  · rw [if_pos c]
    refine Eq.trans ?_ (if_pos c).symm
    rw [add_zero]
  · rw [if_neg c]
    refine Eq.trans ?_ (if_neg c).symm
    rw [EReal.add_bot]

theorem p14_at : k0_pay14 b k q s (ix2 R 0) = top L (tR k q R) (sR s R) := by
  have h := p13_at b k q R L hb
  pointwise [k0_pay14, h]
  rw [show Ideal.ofBits .f32 0xFF800000#32 = ⊥ by simp [Ideal.ofBits, Ideal.ieee]]
  rfl

theorem p15_at (j : Fin 384) : k0_pay15 b k q s (ix2 R j) = ex L (tR k q R) (sR s R) j := by
  have h := p13_at b k q R L hb
  have h' := p14_at b k q s R L hb
  pointwise [k0_pay15, h, h']
  rfl

theorem p16_at : k0_pay16 b k q s (ix2 R 0) = exs L (tR k q R) (sR s R) := by
  have h' := p14_at b k q s R L hb
  pointwise [k0_pay16, h']
  rfl

theorem p17_at : k0_pay17 b k q s (ix2 R 0) = Ideal.div 1 (Z L (tR k q R) (sR s R)) := by
  have h := p15_at b k q s R L hb
  have h' := p16_at b k q s R L hb
  pointwise [k0_pay17, h, h']
  rfl

theorem prob_at (j : Fin 384) : prob b k q s (ix2 R j) = wt L (tR k q R) (sR s R) j := by
  have h := p15_at b k q s R L hb
  have h' := p17_at b k q s R L hb
  pointwise [prob, k0_pay18, h, h']
  rfl

omit hb in
theorem p19_at (j : Fin 384) : k0_pay19 v d (ix2 R j) = tR v d R j := by
  pointwise [k0_pay19]
  rfl

theorem p20_at : k0_pay20 b k v q d s (ix2 R 0) = mean L (tR k q R) (sR s R) (tR v d R) := by
  have h := prob_at b k q s R L hb
  unfold prob at h
  have h' := p19_at v d R
  pointwise [k0_pay20, h, h']
  rfl

theorem dscore_at (j : Fin 384) : dscore b k v q d s (ix2 R j) = grad L (tR k q R) (sR s R) (tR v d R) j := by
  have h := prob_at b k q s R L hb
  unfold prob at h
  have h' := p19_at v d R
  have h'' := p20_at b k v q d s R L hb
  pointwise [dscore, k0_pay21, h, h', h'']
  rfl

theorem dsinkRow_at : dsinkRow b k v q d s (ix2 R 0) = grads L (tR k q R) (sR s R) (tR v d R) := by
  have h := p16_at b k q s R L hb
  have h' := p17_at b k q s R L hb
  have h'' := p20_at b k v q d s R L hb
  pointwise [dsinkRow, k0_pay22, h, h', h'']
  rfl

omit hb

theorem dkeys_at (ds : FVec Ideal S1024x384 .bf16) (j : Fin 384) (l : Fin 64) :
    dkeys q ds (ix2 j l) = ∑ R : Fin 1024, ds (ix2 R j) * q (ix2 R l) := by
  pointwise [dkeys]

theorem dvals_at (p : FVec Ideal S1024x384 .f32) (j : Fin 384) (l : Fin 64) :
    dvals d p (ix2 j l) = ∑ R : Fin 1024, p (ix2 R j) * d (ix2 R l) := by
  pointwise [dvals, k0_pay41]

theorem drows_at (ds : FVec Ideal S1024x384 .bf16) (l : Fin 64) :
    drows k ds (ix2 R l) = ∑ j : Fin 384, ds (ix2 R j) * k (ix2 j l) := by
  pointwise [drows, k0_pay31]

end Cert.KernelIdeal.Attn

end
-- ==== Proof.Attn.Ker2.lean ====
/- The kernel's mask and its stacks of heads read at an index. -/
module

public import proofs.«01_k».proof.Proof.Attn.Head
public import proofs.«01_k».proof.Proof.Attn.Canon
public import Idealize.ShloMosaic.Lib.Pointwise

@[expose] public section

set_option maxRecDepth 16384

noncomputable section

namespace Cert.KernelIdeal.Attn

open Cert.KernelIdeal Cert.KernelIdeal.Gen Cert.Softmax Cert.Band
open Idealize.ShloMosaic Idealize.ShloMosaic.TcCoe Idealize.ShloMosaic.WordCmp

/-- Row `r` of the eight stacked query heads' head `g`. -/
def stk (g : Fin 8) (r : Fin 128) : Fin 1024 := ⟨g.val * 128 + r.val, by omega⟩

theorem keys_at (a : Fin 4) (xp xo xm : Vec Ideal S4x128x64 .bf16) (j : Fin 384) (l : Fin 64) :
    keys a.val xp xo xm (ix2 j l)
      = if h1 : j.val < 128 then xp (ix3 a ⟨j.val, h1⟩ l)
        else if h2 : j.val < 256 then xo (ix3 a ⟨j.val - 128, by omega⟩ l) else xm (ix3 a ⟨j.val - 256, by omega⟩ l) := by
  have hp : ∀ (y : Vec Ideal S4x128x64 .bf16) (i : Fin 128), atHead a.val y (ix3 0 i l) = y (ix3 a i l) := fun y i =>
    congrArg y (funext fun d => Fin.ext (by
      fin_cases d
      · show (a.val + 0) % 4 = a.val
        omega
      · rfl
      · rfl))
  unfold keys
  pointwise [k0_pay8]
  by_cases h1 : j.val < 128
  · refine Eq.trans ?_ (dif_pos h1).symm
    split_ifs <;> exact hp xp _
  by_cases h2 : j.val < 256
  · refine Eq.trans ?_ ((dif_neg h1).trans (dif_pos h2)).symm
    split_ifs <;> first
      | exact hp xo _
      | omega
  · refine Eq.trans ?_ ((dif_neg h1).trans (dif_neg h2)).symm
    split_ifs <;> first
      | exact (hp xm _).trans (congrArg (fun i => xm (ix3 a i l)) (Fin.ext (Nat.sub_sub j.val 128 128)))
      | omega

theorem rows8_at (a : Fin 4) (x : Vec Ideal S128x2048 .bf16) (g : Fin 8) (r : Fin 128) (l : Fin 64) :
    rows8 a.val x (ix2 (stk g r) l) = x (ix2 r (col a g l)) := by
  have hp : ∀ (m : ℕ) (i : Fin 128), m = g.val → i.val = r.val → atCol (512 * a.val + 64 * m) x (ix2 i l) = x (ix2 r (col a g l)) := by
    rintro m i rfl h
    refine congrArg x (funext fun d => Fin.ext ?_)
    have := a.isLt
    fin_cases d
    · exact h
    · show (512 * a.val + 64 * g.val + l.val) % 2048 = (a.val * 8 + g.val) * 64 + l.val
      omega
  unfold rows8
  pointwise [k0_pay10, stk]
  split_ifs <;> first
    | exact hp 0 _ (by omega) (by show g.val * 128 + r.val = r.val; omega)
    | exact hp 1 _ (by omega) (by show g.val * 128 + r.val - 128 = r.val; omega)
    | exact hp 2 _ (by omega) (by show g.val * 128 + r.val - 128 - 128 = r.val; omega)
    | exact hp 3 _ (by omega) (by show g.val * 128 + r.val - 128 - 128 - 128 = r.val; omega)
    | exact hp 4 _ (by omega) (by show g.val * 128 + r.val - 128 - 128 - 128 - 128 = r.val; omega)
    | exact hp 5 _ (by omega) (by show g.val * 128 + r.val - 128 - 128 - 128 - 128 - 128 = r.val; omega)
    | exact hp 6 _ (by omega) (by show g.val * 128 + r.val - 128 - 128 - 128 - 128 - 128 - 128 = r.val; omega)
    | exact hp 7 _ (by omega) (by show g.val * 128 + r.val - 128 - 128 - 128 - 128 - 128 - 128 - 128 = r.val; omega)

theorem sinks8_at (a : Fin 4) (x : Vec Ideal S1x32 .f32) (g : Fin 8) (r : Fin 128) :
    sinks8 a.val x (ix2 (stk g r) 0) = x (ix2 0 (hd a g)) := by
  have hp : ∀ (m : ℕ), m = g.val → atLane (8 * a.val + m) x (ix2 0 0) = x (ix2 0 (hd a g)) := by
    rintro m rfl
    refine congrArg x (funext fun d => Fin.ext ?_)
    have := a.isLt
    fin_cases d
    · rfl
    · show (8 * a.val + g.val + 0) % 32 = a.val * 8 + g.val
      omega
  unfold sinks8
  pointwise [k0_pay12, stk]
  split_ifs <;> first
    | exact hp 0 (by omega)
    | exact hp 1 (by omega)
    | exact hp 2 (by omega)
    | exact hp 3 (by omega)
    | exact hp 4 (by omega)
    | exact hp 5 (by omega)
    | exact hp 6 (by omega)
    | exact hp 7 (by omega)

/-- The mask at row `r` and column `j` of query block `n`, by words. -/
def maskWord (n j r : ℕ) : EReal :=
  Scalar.select
    (IntOp.ori
      (IntOp.andi
        (IntOp.andi
          (IntOp.andi (IntOp.cmpi .slt (BitVec.ofNat 32 j) 256#32)
            (IntOp.cmpi .sge (IntOp.subi (IntOp.addi (Scalar.muli (Scalar.subi (BitVec.ofNat 32 n) 1#32) 128#32) (BitVec.ofNat 32 j)) 112#32) 16#32))
          (IntOp.cmpi .sle (IntOp.subi (IntOp.addi (Scalar.muli (Scalar.subi (BitVec.ofNat 32 n) 1#32) 128#32) (BitVec.ofNat 32 j)) 112#32)
            (IntOp.subi (IntOp.addi (Scalar.muli (BitVec.ofNat 32 n) 128#32) (BitVec.ofNat 32 r)) 112#32)))
        (IntOp.cmpi .slt
          (IntOp.subi (IntOp.subi (IntOp.addi (Scalar.muli (BitVec.ofNat 32 n) 128#32) (BitVec.ofNat 32 r)) 112#32)
            (IntOp.subi (IntOp.addi (Scalar.muli (Scalar.subi (BitVec.ofNat 32 n) 1#32) 128#32) (BitVec.ofNat 32 j)) 112#32))
          128#32))
      (IntOp.andi
        (IntOp.andi (IntOp.cmpi .sge (BitVec.ofNat 32 j) 256#32) (IntOp.cmpi .sge (IntOp.subi (IntOp.subi (BitVec.ofNat 32 j) 256#32) 112#32) 0#32))
        (IntOp.cmpi .sle (IntOp.subi (IntOp.subi (BitVec.ofNat 32 j) 256#32) 112#32)
          (IntOp.subi (IntOp.addi (Scalar.muli (BitVec.ofNat 32 n) 128#32) (BitVec.ofNat 32 r)) 112#32))))
    0 (Named.named (F := Ideal) (φ := .f32) κ "mask" 0xF149F2CA#32)

theorem maskWord_at (n : Fin 33) (r : Fin 128) (j : Fin 384) : maskWord n.val j.val r.val = if live n r j then 0 else ⊥ := by
  have hn := n.isLt
  have hr := r.isLt
  have hj := j.isLt
  have hq : (IntOp.subi (IntOp.addi (Scalar.muli (BitVec.ofNat 32 n.val) 128#32) (BitVec.ofNat 32 r.val)) 112#32).toInt = _ := qpos n r
  have hk : (IntOp.subi (IntOp.addi (Scalar.muli (Scalar.subi (BitVec.ofNat 32 n.val) 1#32) 128#32) (BitVec.ofNat 32 j.val)) 112#32).toInt = _ := kpos n j.val hj
  have hm : (IntOp.subi (IntOp.subi (BitVec.ofNat 32 j.val) 256#32) 112#32).toInt = _ := mpos j.val hj
  have hd : (IntOp.subi (IntOp.subi (IntOp.addi (Scalar.muli (BitVec.ofNat 32 n.val) 128#32) (BitVec.ofNat 32 r.val)) 112#32)
      (IntOp.subi (IntOp.addi (Scalar.muli (Scalar.subi (BitVec.ofNat 32 n.val) 1#32) 128#32) (BitVec.ofNat 32 j.val)) 112#32)).toInt = _ :=
    toInt_sub (qpos n r) (kpos n j.val hj) (by omega) (by omega)
  have hN : Named.named (F := Ideal) (φ := .f32) κ "mask" 0xF149F2CA#32 = (⊥ : EReal) := IdealRules.named_const.ideal_named_scalar _ _ _ _ rfl
  unfold maskWord
  rw [hN, cmpi_slt_eq, cmpi_slt_eq, cmpi_sge_eq, cmpi_sge_eq, cmpi_sge_eq, cmpi_sle_eq, cmpi_sle_eq, hd, hm, hq, hk, toInt_nat j.val (by omega),
    show (16#32 : BitVec 32).toInt = 16 from rfl, show (128#32 : BitVec 32).toInt = 128 from rfl, show (256#32 : BitVec 32).toInt = 256 from rfl,
    show (0#32 : BitVec 32).toInt = 0 from rfl]
  simp only [andi_ofBool, ori_ofBool, ← Bool.decide_and, ← Bool.decide_or]
  have key : ∀ (p : Prop) [Decidable p], (p ↔ live n r j) → Scalar.select (BitVec.ofBool (decide p)) (0 : EReal) ⊥ = if live n r j then 0 else ⊥ := by
    intro p _ hp
    by_cases c : live n r j
    · rw [decide_eq_true (hp.mpr c), if_pos c]
      rfl
    · rw [decide_eq_false (fun q => c (hp.mp q)), if_neg c]
      rfl
  refine key _ ?_
  unfold live near meta'
  omega

theorem bias_at (n : Fin 33) (g : Fin 8) (r : Fin 128) (j : Fin 384) :
    bias (F := Ideal) n.val (ix2 (stk g r) j) = if live n r j then 0 else ⊥ := by
  have hp : ∀ m, m = r.val → maskWord n.val j.val m = maskWord n.val j.val r.val := fun m h => congrArg _ h
  refine Eq.trans ?_ (maskWord_at n r j)
  pointwise [bias, k0_pay6, stk]
  split_ifs <;> exact hp _ (by omega)

end Cert.KernelIdeal.Attn

end
-- ==== Proof.Attn.Ker3.lean ====
/- A query block's step over the extended reals: what it hands out and carries, by the formulas. -/
module

public import proofs.«01_k».proof.Proof.Attn.Ker1
public import proofs.«01_k».proof.Proof.Attn.Ker2
public import Idealize.ShloMosaic.Lib.Pointwise

@[expose] public section

set_option maxRecDepth 16384

noncomputable section

namespace Cert.KernelIdeal.Attn

open Cert.KernelIdeal Cert.KernelIdeal.Gen Cert.Softmax Cert.Band
open Idealize.ShloMosaic Idealize.ShloMosaic.TcCoe Idealize.ShloMosaic.WordCmp

/-- The blocks of step `n` are the arguments' rows that query block `n` reads. -/
structure Holds (x : Blocks Ideal) (A : In) (n : Fin 33) : Prop where
  q : ∀ r c, x.q (ix2 r c) = A.q (row n r) c
  d : ∀ r c, x.d (ix2 r c) = A.d (row n r) c
  kp : ∀ (a : Fin 4) (i : Fin 128) (l : Fin 64), x.kp (ix3 a i l) = A.k a ⟨n.val * 128 + i.val, by omega⟩ l
  ko : ∀ (a : Fin 4) (i : Fin 128) (l : Fin 64), x.ko (ix3 a i l) = A.k a ⟨(n.val + 1) * 128 + i.val, by omega⟩ l
  km : ∀ (a : Fin 4) (i : Fin 128) (l : Fin 64), x.km (ix3 a i l) = A.k a ⟨128 + i.val, by omega⟩ l
  vp : ∀ (a : Fin 4) (i : Fin 128) (l : Fin 64), x.vp (ix3 a i l) = A.v a ⟨n.val * 128 + i.val, by omega⟩ l
  vo : ∀ (a : Fin 4) (i : Fin 128) (l : Fin 64), x.vo (ix3 a i l) = A.v a ⟨(n.val + 1) * 128 + i.val, by omega⟩ l
  vm : ∀ (a : Fin 4) (i : Fin 128) (l : Fin 64), x.vm (ix3 a i l) = A.v a ⟨128 + i.val, by omega⟩ l
  s : ∀ o : Fin 32, x.s (ix2 0 o) = A.s o

/-- Three blocks one below the other are the 384 rows `key` names. -/
theorem keys_of (a : Fin 4) (n : Fin 33) (xp xo xm : Vec Ideal S4x128x64 .bf16) (K : Fin 4 → Fin 4352 → Fin 64 → EReal)
    (hp : ∀ (a : Fin 4) (i : Fin 128) (l : Fin 64), xp (ix3 a i l) = K a ⟨n.val * 128 + i.val, by omega⟩ l)
    (ho : ∀ (a : Fin 4) (i : Fin 128) (l : Fin 64), xo (ix3 a i l) = K a ⟨(n.val + 1) * 128 + i.val, by omega⟩ l)
    (hm : ∀ (a : Fin 4) (i : Fin 128) (l : Fin 64), xm (ix3 a i l) = K a ⟨128 + i.val, by omega⟩ l) (j : Fin 384) (l : Fin 64) :
    keys a.val xp xo xm (ix2 j l) = K a (key n j) l := by
  refine (keys_at a xp xo xm j l).trans ?_
  unfold key
  by_cases h1 : j.val < 128
  · refine (dif_pos h1).trans ((hp a _ l).trans (congrArg (fun i => K a i l) (Fin.ext ?_)))
    rw [dif_pos (by omega)]
  refine (dif_neg h1).trans ?_
  by_cases h2 : j.val < 256
  · refine (dif_pos h2).trans ((ho a _ l).trans (congrArg (fun i => K a i l) (Fin.ext ?_)))
    rw [dif_pos h2]
    show (n.val + 1) * 128 + (j.val - 128) = n.val * 128 + j.val
    omega
  · refine (dif_neg h2).trans ((hm a _ l).trans (congrArg (fun i => K a i l) (Fin.ext ?_)))
    rw [dif_neg h2]

theorem sum_stk (f : Fin 1024 → EReal) : ∑ R, f R = ∑ g : Fin 8, ∑ r : Fin 128, f (stk g r) := Fin.sum_univ_tiles 8 128 rfl f

variable {x : Blocks Ideal} {A : In} {n : Fin 33} (H : Holds x A n) (a : Fin 4) (g : Fin 8) (r : Fin 128)
include H

theorem k3_at (j : Fin 384) (l : Fin 64) : x.k3 a.val (ix2 j l) = A.k a (key n j) l := keys_of a n _ _ _ A.k H.kp H.ko H.km j l
theorem v3_at (j : Fin 384) (l : Fin 64) : x.v3 a.val (ix2 j l) = A.v a (key n j) l := keys_of a n _ _ _ A.v H.vp H.vo H.vm j l
theorem q8_at (l : Fin 64) : rows8 a.val x.q (ix2 (stk g r) l) = A.q (row n r) (col a g l) := (rows8_at a x.q g r l).trans (H.q _ _)
theorem d8_at (l : Fin 64) : rows8 a.val x.d (ix2 (stk g r) l) = A.d (row n r) (col a g l) := (rows8_at a x.d g r l).trans (H.d _ _)

theorem t_at : tR (x.k3 a.val) (rows8 a.val x.q) (stk g r) = A.t n a g r :=
  funext fun j => Finset.sum_congr rfl fun l _ => by rw [q8_at H, k3_at H]
theorem dp_at : tR (x.v3 a.val) (rows8 a.val x.d) (stk g r) = A.dp n a g r :=
  funext fun j => Finset.sum_congr rfl fun l _ => by rw [d8_at H, v3_at H]
theorem s_at : sR (sinks8 a.val x.s) (stk g r) = A.s (hd a g) := (sinks8_at a x.s g r).trans (H.s _)

theorem w_at (j : Fin 384) : x.p n.val a.val (ix2 (stk g r) j) = A.w n a g r j := by
  refine (prob_at _ _ _ _ (stk g r) (live n r) (bias_at n g r) j).trans ?_
  rw [t_at H, s_at H]
  rfl

theorem ds_at (j : Fin 384) : x.ds n.val a.val (ix2 (stk g r) j) = A.ds n a g r j := by
  refine (dscore_at _ _ _ _ _ _ (stk g r) (live n r) (bias_at n g r) j).trans ?_
  rw [t_at H, s_at H, dp_at H]
  rfl

theorem dsk_at : x.dsk n.val a.val (ix2 (stk g r) 0) = A.dk n a g r := by
  refine (dsinkRow_at _ _ _ _ _ _ (stk g r) (live n r) (bias_at n g r)).trans ?_
  rw [t_at H, s_at H, dp_at H]
  rfl

theorem dk_at (j : Fin 384) (l : Fin 64) : x.dk n.val a.val (ix2 j l) = A.dK n a j l := by
  refine (dkeys_at _ _ j l).trans ((sum_stk _).trans ?_)
  exact Finset.sum_congr rfl fun g _ => Finset.sum_congr rfl fun r _ => by rw [ds_at H, q8_at H]

theorem dv_at (j : Fin 384) (l : Fin 64) : x.dv n.val a.val (ix2 j l) = A.dV n a j l := by
  refine (dvals_at _ _ j l).trans ((sum_stk _).trans ?_)
  exact Finset.sum_congr rfl fun g _ => Finset.sum_congr rfl fun r _ => by rw [w_at H, d8_at H]

theorem drows_of (l : Fin 64) : drows (x.k3 a.val) (x.ds n.val a.val) (ix2 (stk g r) l) = A.dQ n a g r l := by
  refine (drows_at _ (stk g r) _ l).trans ?_
  exact Finset.sum_congr rfl fun j _ => by rw [ds_at H, k3_at H]

omit H

theorem sub8_at (G : FVec Ideal S1024x64 .f32) (l : Fin 64) : Blocks.sub8 G g.val (ix2 r l) = G (ix2 (stk g r) l) := by
  have hp : ∀ (m : ℕ) (hm : S1024x64.Slices ![128 * m, 0] S128x64), m = g.val →
      extractStridedSlice S128x64 ![128 * m, 0] G hm (ix2 r l) = G (ix2 (stk g r) l) := by
    rintro m hm rfl
    refine congrArg G (funext fun d => Fin.ext ?_)
    fin_cases d
    · show 128 * g.val + r.val = g.val * 128 + r.val
      omega
    · exact Nat.zero_add _
  match g with
  | ⟨0, _⟩ => exact hp 0 slices_S1024x64_o0_0_S128x64 rfl
  | ⟨1, _⟩ => exact hp 1 slices_S1024x64_o128_0_S128x64 rfl
  | ⟨2, _⟩ => exact hp 2 slices_S1024x64_o256_0_S128x64 rfl
  | ⟨3, _⟩ => exact hp 3 slices_S1024x64_o384_0_S128x64 rfl
  | ⟨4, _⟩ => exact hp 4 slices_S1024x64_o512_0_S128x64 rfl
  | ⟨5, _⟩ => exact hp 5 slices_S1024x64_o640_0_S128x64 rfl
  | ⟨6, _⟩ => exact hp 6 slices_S1024x64_o768_0_S128x64 rfl
  | ⟨7, _⟩ => exact hp 7 slices_S1024x64_o896_0_S128x64 rfl

theorem third_at (o : ℕ) (ho : S384x64.Slices ![o, 0] S128x64) (h : o + 128 ≤ 384) (G : FVec Ideal S384x64 .f32) (i : Fin 128) (l : Fin 64) :
    third o ho G (ix3 0 i l) = G (ix2 ⟨o + i.val, by omega⟩ l) := by
  pointwise [third]

theorem addThird_at (o : ℕ) (ho : S384x64.Slices ![o, 0] S128x64) (h : o + 128 ≤ 384) (y : FVec Ideal S1x128x64 .f32) (G : FVec Ideal S384x64 .f32)
    (i : Fin 128) (l : Fin 64) : addThird o ho y G (ix3 0 i l) = y (ix3 0 i l) + G (ix2 ⟨o + i.val, by omega⟩ l) := by
  pointwise [addThird]

theorem atHead_at (y : Vec Ideal S4x128x64 .f32) (i : Fin 128) (l : Fin 64) : atHead a.val y (ix3 0 i l) = y (ix3 a i l) :=
  congrArg y (funext fun d => Fin.ext (by
    fin_cases d
    · show (a.val + 0) % 4 = a.val
      omega
    · rfl
    · rfl))

include H

/-- The query gradient. -/
theorem dq_at (l : Fin 64) : x.dq n.val (ix2 r (col a g l)) = A.dQ n a g r l := by
  have h1 : ((a.val * 8 + g.val) * 64 + l.val) / 64 = a.val * 8 + g.val := by omega
  have h2 : (Fin.ofNat 64 ((a.val * 8 + g.val) * 64 + l.val)) = l := Fin.ext (by
    show ((a.val * 8 + g.val) * 64 + l.val) % 64 = l.val
    omega)
  show Blocks.sub8 (drows (x.k3 (((a.val * 8 + g.val) * 64 + l.val) / 64 / 8)) (x.ds n.val (((a.val * 8 + g.val) * 64 + l.val) / 64 / 8)))
    (((a.val * 8 + g.val) * 64 + l.val) / 64 % 8) (ix2 r (Fin.ofNat 64 ((a.val * 8 + g.val) * 64 + l.val))) = _
  rw [h1, h2, show (a.val * 8 + g.val) / 8 = a.val by omega, show (a.val * 8 + g.val) % 8 = g.val by omega]
  exact (sub8_at g r _ l).trans (drows_of H a g r l)

variable (c : Vec Ideal S4x128x64 .f32) (i : Fin 128) (l : Fin 64)

/-- The key gradient handed out. -/
theorem dkOut_at : x.dkOut n.val c (ix3 a i l) = c (ix3 a i l) + A.dK n a ⟨i.val, by omega⟩ l := by
  show addThird 0 slices_S384x64_o0_0_S128x64 (atHead a.val c) (x.dk n.val a.val) (ix3 0 i l) = _
  rw [addThird_at 0 _ (by omega), atHead_at, dk_at H]
  exact congrArg (fun j => c (ix3 a i l) + A.dK n a j l) (Fin.ext (Nat.zero_add _))
/-- The value gradient handed out. -/
theorem dvOut_at : x.dvOut n.val c (ix3 a i l) = c (ix3 a i l) + A.dV n a ⟨i.val, by omega⟩ l := by
  show addThird 0 slices_S384x64_o0_0_S128x64 (atHead a.val c) (x.dv n.val a.val) (ix3 0 i l) = _
  rw [addThird_at 0 _ (by omega), atHead_at, dv_at H]
  exact congrArg (fun j => c (ix3 a i l) + A.dV n a j l) (Fin.ext (Nat.zero_add _))
/-- The key gradient carried. -/
theorem dkCarry_at : x.dkCarry n.val (ix3 a i l) = A.dK n a ⟨128 + i.val, by omega⟩ l :=
  (third_at 128 slices_S384x64_o128_0_S128x64 (by omega) (x.dk n.val a.val) i l).trans (dk_at H a _ l)
/-- The value gradient carried. -/
theorem dvCarry_at : x.dvCarry n.val (ix3 a i l) = A.dV n a ⟨128 + i.val, by omega⟩ l :=
  (third_at 128 slices_S384x64_o128_0_S128x64 (by omega) (x.dv n.val a.val) i l).trans (dv_at H a _ l)
/-- The meta keys' running gradient. -/
theorem dkMeta_at : x.dkMeta n.val c (ix3 a i l) = c (ix3 a i l) + A.dK n a ⟨256 + i.val, by omega⟩ l := by
  show addThird 256 slices_S384x64_o256_0_S128x64 (atHead a.val c) (x.dk n.val a.val) (ix3 0 i l) = _
  rw [addThird_at 256 _ (by omega), atHead_at, dk_at H]
/-- The meta values' running gradient. -/
theorem dvMeta_at : x.dvMeta n.val c (ix3 a i l) = c (ix3 a i l) + A.dV n a ⟨256 + i.val, by omega⟩ l := by
  show addThird 256 slices_S384x64_o256_0_S128x64 (atHead a.val c) (x.dv n.val a.val) (ix3 0 i l) = _
  rw [addThird_at 256 _ (by omega), atHead_at, dv_at H]

end Cert.KernelIdeal.Attn

end
-- ==== Proof.Attn.Ker4.lean ====
/- The sink gradient's lanes: what a step adds to each. -/
module

public import proofs.«01_k».proof.Proof.Attn.Ker3

@[expose] public section

set_option maxRecDepth 16384

noncomputable section

namespace Cert.KernelIdeal.Attn

open Cert.KernelIdeal Cert.KernelIdeal.Gen Cert.Softmax Cert.Band
open Idealize.ShloMosaic Idealize.ShloMosaic.TcCoe Idealize.ShloMosaic.WordCmp

theorem lane_at (N o : ℕ) (hN : N < 128) (ho : S1024x1.Slices ![o, 0] S128x1) (h : o + 128 ≤ 1024) (acc : FVec Ideal S1x128 .f32) (G : FVec Ideal S1024x1 .f32)
    (c : Fin 128) : lane N o ho acc G (ix2 0 c) = acc (ix2 0 c) + if c.val = N then ∑ r : Fin 128, G (ix2 ⟨o + r.val, by omega⟩ 0) else 0 := by
  pointwise [lane]
  refine congrArg (acc (ix2 0 c) + ·) ?_
  by_cases e : c.val = N
  · rw [if_pos e, e]
    exact if_pos (by simp [IntOp.cmpi])
  · rw [if_neg e]
    have hc := c.isLt
    have : BitVec.ofNat 32 c.val ≠ BitVec.ofNat 32 N := fun q => e (by
      have := congrArg BitVec.toNat q
      rw [BitVec.toNat_ofNat, BitVec.toNat_ofNat] at this
      omega)
    exact if_neg (by simp [IntOp.cmpi, beq_false_of_ne this])

theorem lanes8_at (a : Fin 4) (acc : FVec Ideal S1x128 .f32) (G : FVec Ideal S1024x1 .f32) (c : Fin 128) :
    lanes8 a.val acc G (ix2 0 c)
      = acc (ix2 0 c) + if c.val / 8 = a.val then ∑ r : Fin 128, G (ix2 (stk ⟨c.val % 8, by omega⟩ r) 0) else 0 := by
  have hs : ∀ (g : Fin 8), c.val % 8 = g.val → ∑ r : Fin 128, G (ix2 ⟨128 * g.val + r.val, by omega⟩ 0) = ∑ r : Fin 128, G (ix2 (stk ⟨c.val % 8, by omega⟩ r) 0) :=
    fun g hg => Finset.sum_congr rfl fun r _ => congrArg (fun i => G (ix2 i 0)) (Fin.ext (by
      show 128 * g.val + r.val = c.val % 8 * 128 + r.val
      omega))
  unfold lanes8
  rw [lane_at _ _ (by omega) _ (by omega), lane_at _ _ (by omega) _ (by omega), lane_at _ _ (by omega) _ (by omega), lane_at _ _ (by omega) _ (by omega),
    lane_at _ _ (by omega) _ (by omega), lane_at _ _ (by omega) _ (by omega), lane_at _ _ (by omega) _ (by omega), lane_at _ _ (by omega) _ (by omega)]
  by_cases h : c.val / 8 = a.val
  · rw [if_pos h]
    obtain ⟨g, hg⟩ : ∃ g : Fin 8, c.val % 8 = g.val := ⟨⟨c.val % 8, by omega⟩, rfl⟩
    rw [← hs g hg]
    have hc : c.val = 8 * a.val + g.val := by omega
    rw [hc]
    fin_cases g <;> simp
  · rw [if_neg h]
    repeat rw [if_neg (by omega)]
    simp only [add_zero]

variable {x : Blocks Ideal} {A : In} {n : Fin 33} (H : Holds x A n)
include H

theorem dsinkOut_at (y : Vec Ideal S1x128 .f32) (c : Fin 128) :
    x.dsinkOut n.val y (ix2 0 c)
      = y (ix2 0 c) + if h : c.val < 32 then A.dS n ⟨c.val / 8, by omega⟩ ⟨c.val % 8, by omega⟩ else 0 := by
  have h0 : (k0_pay7 : FVec Ideal S1x128 .f32) (ix2 0 c) = 0 := by
    pointwise [k0_pay7]
  have hd : ∀ a : Fin 4, c.val / 8 = a.val → ∑ r : Fin 128, x.dsk n.val a.val (ix2 (stk ⟨c.val % 8, by omega⟩ r) 0) = A.dS n a ⟨c.val % 8, by omega⟩ :=
    fun a _ => Finset.sum_congr rfl fun r _ => dsk_at H a _ r
  have hy : shapeCast S1x128 y shapeCasts_S1x128_S1x128 (ix2 0 c) = y (ix2 0 c) := by
    pointwise
  show shapeCast S1x128 y shapeCasts_S1x128_S1x128 (ix2 0 c)
    + lanes8 (3 : Fin 4).val (lanes8 (2 : Fin 4).val (lanes8 (1 : Fin 4).val (lanes8 (0 : Fin 4).val k0_pay7 (x.dsk n.val (0 : Fin 4).val)) (x.dsk n.val (1 : Fin 4).val))
      (x.dsk n.val (2 : Fin 4).val)) (x.dsk n.val (3 : Fin 4).val) (ix2 0 c) = _
  rw [hy, lanes8_at, lanes8_at, lanes8_at, lanes8_at, h0]
  refine congrArg (y (ix2 0 c) + ·) ?_
  by_cases h : c.val < 32
  · rw [dif_pos h]
    obtain ⟨a, ha⟩ : ∃ a : Fin 4, c.val / 8 = a.val := ⟨⟨c.val / 8, by omega⟩, rfl⟩
    rw [show (⟨c.val / 8, by omega⟩ : Fin 4) = a from Fin.ext ha, ← hd a ha, ha]
    fin_cases a <;> simp
  · rw [dif_neg h]
    have : ∀ a : Fin 4, ¬c.val / 8 = a.val := fun a => by omega
    rw [if_neg (this 0), if_neg (this 1), if_neg (this 2), if_neg (this 3)]
    simp only [add_zero]

end Cert.KernelIdeal.Attn

end
-- ==== Proof.Attn.Out.lean ====
/- The six results as arrays. -/
module

public import proofs.«01_k».proof.Proof.Attn.Canon
public import Idealize.ShloMosaic.Lib.ValueIdx

@[expose] public section

noncomputable section

namespace Cert.Band

open Idealize.ShloMosaic

variable (A : In)

theorem In.eq_of {A B : In} (hq : ∀ a b, A.q a b = B.q a b) (hk : ∀ a b c, A.k a b c = B.k a b c) (hv : ∀ a b c, A.v a b c = B.v a b c)
    (hs : ∀ a, A.s a = B.s a) (hd : ∀ a b, A.d a b = B.d a b) : A = B := by
  cases A
  cases B
  obtain rfl := funext fun a => funext fun b => hq a b
  obtain rfl := funext fun a => funext fun b => funext fun c => hk a b c
  obtain rfl := funext fun a => funext fun b => funext fun c => hv a b c
  obtain rfl := funext hs
  obtain rfl := funext fun a => funext fun b => hd a b
  rfl

/-- The queries' gradient at row `i`, column `c`. -/
def gQ (i c : ℕ) : EReal := A.dQ (Fin.ofNat 33 (i / 128)) (Fin.ofNat 4 (c / 512)) (Fin.ofNat 8 (c / 64)) (Fin.ofNat 128 i) (Fin.ofNat 64 c)

theorem gQ_at (n : Fin 33) (h : Fin 4) (g : Fin 8) (r : Fin 128) (l : Fin 64) (i c : ℕ) (hi : i = n.val * 128 + r.val) (hc : c = (h.val * 8 + g.val) * 64 + l.val) :
    gQ A i c = A.dQ n h g r l := by
  subst hi hc
  unfold gQ
  have e1 : Fin.ofNat 33 ((n.val * 128 + r.val) / 128) = n := Fin.ext (by show (n.val * 128 + r.val) / 128 % 33 = n.val; omega)
  have e2 : Fin.ofNat 4 (((h.val * 8 + g.val) * 64 + l.val) / 512) = h := Fin.ext (by show ((h.val * 8 + g.val) * 64 + l.val) / 512 % 4 = h.val; omega)
  have e3 : Fin.ofNat 8 (((h.val * 8 + g.val) * 64 + l.val) / 64) = g := Fin.ext (by show ((h.val * 8 + g.val) * 64 + l.val) / 64 % 8 = g.val; omega)
  have e4 : Fin.ofNat 128 (n.val * 128 + r.val) = r := Fin.ext (by show (n.val * 128 + r.val) % 128 = r.val; omega)
  have e5 : Fin.ofNat 64 ((h.val * 8 + g.val) * 64 + l.val) = l := Fin.ext (by show ((h.val * 8 + g.val) * 64 + l.val) % 64 = l.val; omega)
  rw [e1, e2, e3, e4, e5]

/-- A key's or value's gradient at row `i` of the shared array without its first block. -/
def gT (f : Fin 33 → Fin 384 → EReal) (i : ℕ) : EReal := two (Fin.ofNat 33 (i / 128)) (Fin.ofNat 128 i) f

theorem gT_at (f : Fin 33 → Fin 384 → EReal) (n : Fin 33) (r : Fin 128) (i : ℕ) (hi : i = n.val * 128 + r.val) : gT f i = two n r f := by
  subst hi
  unfold gT
  have e1 : Fin.ofNat 33 ((n.val * 128 + r.val) / 128) = n := Fin.ext (by show (n.val * 128 + r.val) / 128 % 33 = n.val; omega)
  have e4 : Fin.ofNat 128 (n.val * 128 + r.val) = r := Fin.ext (by show (n.val * 128 + r.val) % 128 = r.val; omega)
  rw [e1, e4]

/-- A row of 4224 by its block and its place in the block. -/
theorem exists_row (i : Fin 4224) : ∃ n r, i = row n r :=
  ⟨⟨i.val / 128, by omega⟩, ⟨i.val % 128, by omega⟩, Fin.ext (by show i.val = i.val / 128 * 128 + i.val % 128; omega)⟩

/-- A column of 2048 by its key head, query head and place. -/
theorem exists_col (i : Fin 2048) : ∃ h g l, i = col h g l :=
  ⟨⟨i.val / 512, by omega⟩, ⟨i.val / 64 % 8, by omega⟩, ⟨i.val % 64, by omega⟩, Fin.ext (by
    show i.val = (i.val / 512 * 8 + i.val / 64 % 8) * 64 + i.val % 64
    omega)⟩

/-- The queries' gradient. -/
def oQ (j : (⟨2, ![4224, 2048]⟩ : Shape).Idx) : EReal := gQ A (j 0).val (j 1).val
/-- The keys' gradient. -/
def oK (j : (⟨3, ![4, 4224, 64]⟩ : Shape).Idx) : EReal := gT (fun n i => A.dK n (j 0) i (j 2)) (j 1).val
/-- The values' gradient. -/
def oV (j : (⟨3, ![4, 4224, 64]⟩ : Shape).Idx) : EReal := gT (fun n i => A.dV n (j 0) i (j 2)) (j 1).val
/-- The meta keys' gradient. -/
def oMk (j : (⟨3, ![4, 128, 64]⟩ : Shape).Idx) : EReal := ∑ n : Fin 33, A.dK n (j 0) ⟨256 + (j 1).val, by have : (j 1).val < 128 := (j 1).isLt; omega⟩ (j 2)
/-- The meta values' gradient. -/
def oMv (j : (⟨3, ![4, 128, 64]⟩ : Shape).Idx) : EReal := ∑ n : Fin 33, A.dV n (j 0) ⟨256 + (j 1).val, by have : (j 1).val < 128 := (j 1).isLt; omega⟩ (j 2)
/-- The sinks' gradient. -/
def oS (j : (⟨2, ![1, 128]⟩ : Shape).Idx) : EReal :=
  if c : (j 1).val < 32 then ∑ n : Fin 33, A.dS n ⟨(j 1).val / 8, by omega⟩ ⟨(j 1).val % 8, by omega⟩ else 0

end Cert.Band

end
-- ==== Proof.Attn.Arr.lean ====
/- The kernel's blocks as parts of its arguments. -/
module

public import proofs.«01_k».proof.Proof.Attn.Grid
public import proofs.«01_k».proof.Proof.Attn.Ker4
public import proofs.«01_k».proof.Proof.Attn.Out
public import Idealize.ShloMosaic.Lib.Pipeline.ValueKit

@[expose] public section

set_option maxRecDepth 16384

noncomputable section

namespace Cert.KernelIdeal.Attn

open Cert.KernelIdeal Cert.KernelIdeal.Gen Cert.Softmax Cert.Band
open Idealize.ShloMosaic Idealize.ShloMosaic.TcCoe Idealize.SL.Sem
open Idealize.ShloMosaic.Pipeline (Dat)

variable (m : (ℓ : Loc nD τ sig) → Buf (Elt Ideal) ℓ) (c : Dev nD)

/-- The kernel's arguments by their indices. -/
def args : In where
  q a b := (show FVec Ideal S4224x2048 .bf16 from m ((c.tc : Thread nD τ).loc main_arg0)) (ix2 a b)
  k a b d := (show FVec Ideal S4x4352x64 .bf16 from m ((c.tc : Thread nD τ).loc main_arg1)) (ix3 a b d)
  v a b d := (show FVec Ideal S4x4352x64 .bf16 from m ((c.tc : Thread nD τ).loc main_arg2)) (ix3 a b d)
  s a := (show FVec Ideal S1x32 .f32 from m ((c.tc : Thread nD τ).loc main_arg3)) (ix2 0 a)
  d a b := (show FVec Ideal S4224x2048 .bf16 from m ((c.tc : Thread nD τ).loc main_arg4)) (ix2 a b)

theorem idxIn : ∀ t : Fin cfg0.N, t.val < 33 → win0_0.index t = ![t.val, 0] ∧ win0_1.index t = ![t.val, 0] ∧ win0_2.index t = ![0, t.val, 0]
    ∧ win0_3.index t = ![0, t.val + 1, 0] ∧ win0_4.index t = ![0, 1, 0] ∧ win0_5.index t = ![0, t.val, 0] ∧ win0_6.index t = ![0, t.val + 1, 0]
    ∧ win0_7.index t = ![0, 1, 0] ∧ win0_8.index t = ![0, 0] :=
  (by decide +kernel : ∀ t : Fin grid0.N, _)

theorem idxOut : ∀ t : Fin cfg0.N, win0_9.index t = ![min t.val 32, 0] ∧ win0_10.index t = ![0, t.val - 1, 0] ∧ win0_11.index t = ![0, t.val - 1, 0]
    ∧ win0_12.index t = ![0, 0, 0] ∧ win0_13.index t = ![0, 0, 0] ∧ win0_14.index t = ![0, 0] :=
  (by decide +kernel : ∀ t : Fin grid0.N, _)

theorem pt_of (n : Fin 33) : (pt n.val).val = n.val := by
  show min n.val 33 = n.val
  omega

/-- A step's blocks are the arguments' rows its query block reads. -/
theorem holds (n : Fin 33) : Holds (blocks m c n.val) (args m c) n := by
  have ht := pt_of n
  unfold blocks
  generalize pt n.val = t at ht ⊢
  have h0 : t.val < 33 := by omega
  obtain ⟨i0, i1, i2, i3, i4, i5, i6, i7, i8⟩ := idxIn t h0
  refine ⟨fun r c' => ?_, fun r c' => ?_, fun a i l => ?_, fun a i l => ?_, fun a i l => ?_, fun a i l => ?_, fun a i l => ?_, fun a i l => ?_, fun o => ?_⟩
  · show iblk m c 0 t (ix2 r c') = m ((c.tc : Thread nD τ).loc main_arg0) (ix2 (row n r) c')
    blk_point [iblk, V, i0, row]
  · show iblk m c 1 t (ix2 r c') = m ((c.tc : Thread nD τ).loc main_arg4) (ix2 (row n r) c')
    blk_point [iblk, V, i1, row]
  · show iblk m c 2 t (ix3 a i l) = m ((c.tc : Thread nD τ).loc main_arg1) (ix3 a ⟨n.val * 128 + i.val, by omega⟩ l)
    blk_point [iblk, V, i2]
  · show iblk m c 3 t (ix3 a i l) = m ((c.tc : Thread nD τ).loc main_arg1) (ix3 a ⟨(n.val + 1) * 128 + i.val, by omega⟩ l)
    blk_point [iblk, V, i3]
  · show iblk m c 4 t (ix3 a i l) = m ((c.tc : Thread nD τ).loc main_arg1) (ix3 a ⟨128 + i.val, by omega⟩ l)
    blk_point [iblk, V, i4]
  · show iblk m c 5 t (ix3 a i l) = m ((c.tc : Thread nD τ).loc main_arg2) (ix3 a ⟨n.val * 128 + i.val, by omega⟩ l)
    blk_point [iblk, V, i5]
  · show iblk m c 6 t (ix3 a i l) = m ((c.tc : Thread nD τ).loc main_arg2) (ix3 a ⟨(n.val + 1) * 128 + i.val, by omega⟩ l)
    blk_point [iblk, V, i6]
  · show iblk m c 7 t (ix3 a i l) = m ((c.tc : Thread nD τ).loc main_arg2) (ix3 a ⟨128 + i.val, by omega⟩ l)
    blk_point [iblk, V, i7]
  · show iblk m c 8 t (ix2 0 o) = m ((c.tc : Thread nD τ).loc main_arg3) (ix2 0 o)
    blk_point [iblk, V, i8]

/-! ## What the buffers hold -/

theorem dqAt_at (n : ℕ) (r : Fin 128) (c' : Fin 2048) : dqAt m c n (ix2 r c') = gQ (args m c) (min n 32 * 128 + r.val) c'.val := by
  obtain ⟨h, g, l, rfl⟩ := exists_col c'
  exact (dq_at (holds m c ⟨min n 32, by omega⟩) h g r l).trans (gQ_at _ ⟨min n 32, by omega⟩ h g r l _ _ rfl rfl).symm

theorem dkAt_at (n : ℕ) (hn : n < 33) (a : Fin 4) (r : Fin 128) (l : Fin 64) :
    dkAt m c (n + 1) (ix3 a r l) = two ⟨n, hn⟩ r fun k i => (args m c).dK k a i l := by
  have hc : ckIn m c (n + 1) (ix3 a r l) = (args m c).dK ⟨n, hn⟩ a ⟨128 + r.val, by omega⟩ l := by
    show (blocks m c (min n 32)).dkCarry (min n 32) (ix3 a r l) = _
    rw [show min n 32 = n by omega]
    exact dkCarry_at (holds m c ⟨n, hn⟩) a r l
  unfold two dkAt
  by_cases h : n < 32
  · rw [if_pos (by omega), dif_pos h]
    exact (dkOut_at (holds m c ⟨n + 1, by omega⟩) a _ r l).trans (congrArg (· + _) hc)
  · rw [if_neg (by omega), dif_neg h, add_zero]
    exact hc

theorem dvAt_at (n : ℕ) (hn : n < 33) (a : Fin 4) (r : Fin 128) (l : Fin 64) :
    dvAt m c (n + 1) (ix3 a r l) = two ⟨n, hn⟩ r fun k i => (args m c).dV k a i l := by
  have hc : cvIn m c (n + 1) (ix3 a r l) = (args m c).dV ⟨n, hn⟩ a ⟨128 + r.val, by omega⟩ l := by
    show (blocks m c (min n 32)).dvCarry (min n 32) (ix3 a r l) = _
    rw [show min n 32 = n by omega]
    exact dvCarry_at (holds m c ⟨n, hn⟩) a r l
  unfold two dvAt
  by_cases h : n < 32
  · rw [if_pos (by omega), dif_pos h]
    exact (dvOut_at (holds m c ⟨n + 1, by omega⟩) a _ r l).trans (congrArg (· + _) hc)
  · rw [if_neg (by omega), dif_neg h, add_zero]
    exact hc

/-- A running sum, at every point. -/
theorem running (f : Fin 33 → EReal) (g : ℕ → EReal) (h0 : g 0 = f 0) (h1 : ∀ n (hn : n + 1 < 33), g (n + 1) = g n + f ⟨n + 1, hn⟩) :
    g 32 = ∑ n, f n := by
  have h : ∀ n (hn : n < 33), g n = ∑ k : Fin (n + 1), f ⟨k.val, by omega⟩ := by
    intro n
    induction n with
    | zero => exact fun _ => h0.trans (Fin.sum_univ_one fun k : Fin 1 => f ⟨k.val, by omega⟩).symm
    | succ n ih => exact fun hn => (h1 n hn).trans ((congrArg (· + _) (ih (by omega))).trans (Fin.sum_univ_castSucc (fun k : Fin (n + 1 + 1) => f ⟨k.val, by omega⟩)).symm)
  exact h 32 (by omega)

theorem pay3_at (j) : (k0_pay3 : FVec Ideal S4x128x64 .f32) j = 0 := by pointwise [k0_pay3]
theorem pay4_at (j) : (k0_pay4 : FVec Ideal S4x128x64 .f32) j = 0 := by pointwise [k0_pay4]
theorem pay5_at (j) : (k0_pay5 : FVec Ideal S1x128 .f32) j = 0 := by pointwise [k0_pay5]

theorem dkmAt_at (a : Fin 4) (r : Fin 128) (l : Fin 64) : dkmAt m c 32 (ix3 a r l) = ∑ n : Fin 33, (args m c).dK n a ⟨256 + r.val, by omega⟩ l := by
  refine running (fun n => (args m c).dK n a ⟨256 + r.val, by omega⟩ l) (fun n => dkmAt m c n (ix3 a r l)) ?_ fun n hn => ?_
  · exact (dkMeta_at (holds m c 0) a _ r l).trans ((congrArg (· + _) (pay3_at _)).trans (zero_add _))
  · exact (congrFun (at_next m c (n + 1) (by omega) hn).1 _).trans (dkMeta_at (holds m c ⟨n + 1, hn⟩) a _ r l)

theorem dvmAt_at (a : Fin 4) (r : Fin 128) (l : Fin 64) : dvmAt m c 32 (ix3 a r l) = ∑ n : Fin 33, (args m c).dV n a ⟨256 + r.val, by omega⟩ l := by
  refine running (fun n => (args m c).dV n a ⟨256 + r.val, by omega⟩ l) (fun n => dvmAt m c n (ix3 a r l)) ?_ fun n hn => ?_
  · exact (dvMeta_at (holds m c 0) a _ r l).trans ((congrArg (· + _) (pay4_at _)).trans (zero_add _))
  · exact (congrFun (at_next m c (n + 1) (by omega) hn).2.1 _).trans (dvMeta_at (holds m c ⟨n + 1, hn⟩) a _ r l)

theorem dsAt_at (o : Fin 128) : dsAt m c 32 (ix2 0 o)
    = if h : o.val < 32 then ∑ n : Fin 33, (args m c).dS n ⟨o.val / 8, by omega⟩ ⟨o.val % 8, by omega⟩ else 0 := by
  refine (running (fun n => if h : o.val < 32 then (args m c).dS n ⟨o.val / 8, by omega⟩ ⟨o.val % 8, by omega⟩ else 0) (fun n => dsAt m c n (ix2 0 o)) ?_ fun n hn => ?_).trans ?_
  · exact (dsinkOut_at (holds m c 0) _ o).trans ((congrArg (· + _) (pay5_at _)).trans (zero_add _))
  · exact (congrFun (at_next m c (n + 1) (by omega) hn).2.2.1 _).trans (dsinkOut_at (holds m c ⟨n + 1, hn⟩) _ o)
  · by_cases h : o.val < 32
    · simp only [dif_pos h]
    · simp only [dif_neg h, Finset.sum_const_zero]

/-! ## The arrays -/

theorem ix2_eta {a b : ℕ} (y : (⟨2, ![a, b]⟩ : Shape).Idx) : y = ix2 (n0 := a) (n1 := b) (y 0) (y 1) :=
  funext fun d => by fin_cases d <;> rfl
theorem ix3_eta {a b d : ℕ} (y : (⟨3, ![a, b, d]⟩ : Shape).Idx) : y = ix3 (n0 := a) (n1 := b) (n2 := d) (y 0) (y 1) (y 2) :=
  funext fun d => by fin_cases d <;> rfl

theorem flush_pos : ∀ t : Fin cfg0.N, ((cfg0.win 10).flush t = true → t.val ≠ 0) ∧ ((cfg0.win 11).flush t = true → t.val ≠ 0)
    ∧ ((cfg0.win 12).flush t = true → t.val = 33) ∧ ((cfg0.win 13).flush t = true → t.val = 33) ∧ ((cfg0.win 14).flush t = true → t.val = 33) :=
  (by decide +kernel : ∀ t : Fin grid0.N, _)

theorem final_9 : (dats m 0 c).arrAt 9 cfg0.N = oQ (args m c) := by
  refine (dats m 0 c).arrAt_eq_of_covers 9 _ (by decide +kernel) fun t hf y => ?_
  blk_simp
  rw [after_9]
  have hy : dqAt m c t.val y = dqAt m c t.val (ix2 (n0 := 128) (n1 := 2048) (y 0) (y 1)) := congrArg (dqAt m c t.val) (ix2_eta y)
  refine hy.trans ((dqAt_at m c t.val (y 0) (y 1)).trans ?_)
  obtain ⟨i9, _⟩ := idxOut t
  refine congrArg₂ (gQ (args m c)) ?_ ?_
  · blk_simp [i9]
  · blk_simp [i9]

theorem final_10 : (dats m 0 c).arrAt 10 cfg0.N = oK (args m c) := by
  refine (dats m 0 c).arrAt_eq_of_covers 10 _ (by decide +kernel) fun t hf y => ?_
  blk_simp
  rw [after_10]
  have h0 := (flush_pos t).1 hf
  have h1 : t.val < 34 := lt_of_lt_of_eq t.isLt N_eq
  have hy : dkAt m c t.val y = dkAt m c (t.val - 1 + 1) (ix3 (n0 := 4) (n1 := 128) (n2 := 64) (y 0) (y 1) (y 2)) := by
    rw [show t.val - 1 + 1 = t.val by omega]
    exact congrArg (dkAt m c t.val) (ix3_eta y)
  refine hy.trans ((dkAt_at m c (t.val - 1) (by omega) (y 0) (y 1) (y 2)).trans ?_)
  have i := (idxOut t).2.1
  have e : (win0_10.blk t).view.emb y = ix3 (n0 := 4) (n1 := 4224) (n2 := 64) (y 0) (row ⟨t.val - 1, by omega⟩ (y 1)) (y 2) := by
    refine funext fun d => Fin.ext ?_
    fin_cases d
    all_goals
      blk_simp [i]
      rfl
  rw [e]
  exact (gT_at _ ⟨t.val - 1, by omega⟩ (y 1) _ rfl).symm

theorem final_11 : (dats m 0 c).arrAt 11 cfg0.N = oV (args m c) := by
  refine (dats m 0 c).arrAt_eq_of_covers 11 _ (by decide +kernel) fun t hf y => ?_
  blk_simp
  rw [after_11]
  have h0 := (flush_pos t).2.1 hf
  have h1 : t.val < 34 := lt_of_lt_of_eq t.isLt N_eq
  have hy : dvAt m c t.val y = dvAt m c (t.val - 1 + 1) (ix3 (n0 := 4) (n1 := 128) (n2 := 64) (y 0) (y 1) (y 2)) := by
    rw [show t.val - 1 + 1 = t.val by omega]
    exact congrArg (dvAt m c t.val) (ix3_eta y)
  refine hy.trans ((dvAt_at m c (t.val - 1) (by omega) (y 0) (y 1) (y 2)).trans ?_)
  have i := (idxOut t).2.2.1
  have e : (win0_11.blk t).view.emb y = ix3 (n0 := 4) (n1 := 4224) (n2 := 64) (y 0) (row ⟨t.val - 1, by omega⟩ (y 1)) (y 2) := by
    refine funext fun d => Fin.ext ?_
    fin_cases d
    all_goals
      blk_simp [i]
      rfl
  rw [e]
  exact (gT_at _ ⟨t.val - 1, by omega⟩ (y 1) _ rfl).symm

theorem final_12 : (dats m 0 c).arrAt 12 cfg0.N = oMk (args m c) := by
  refine (dats m 0 c).arrAt_eq_of_covers 12 _ (by decide +kernel) fun t hf y => ?_
  blk_simp
  rw [after_12]
  have hy : dkmAt m c t.val y = dkmAt m c 32 (ix3 (n0 := 4) (n1 := 128) (n2 := 64) (y 0) (y 1) (y 2)) := by
    rw [(flush_pos t).2.2.1 hf]
    exact (congrFun (at_last m c).2.2.2.1 y).trans (congrArg (dkmAt m c 32) (ix3_eta y))
  refine hy.trans ((dkmAt_at m c (y 0) (y 1) (y 2)).trans ?_)
  have i := (idxOut t).2.2.2.1
  have e : (win0_12.blk t).view.emb y = ix3 (n0 := 4) (n1 := 128) (n2 := 64) (y 0) (y 1) (y 2) := by
    refine funext fun d => Fin.ext ?_
    fin_cases d
    all_goals
      blk_simp [i]
      rfl
  rw [e]
  rfl

theorem final_13 : (dats m 0 c).arrAt 13 cfg0.N = oMv (args m c) := by
  refine (dats m 0 c).arrAt_eq_of_covers 13 _ (by decide +kernel) fun t hf y => ?_
  blk_simp
  rw [after_13]
  have hy : dvmAt m c t.val y = dvmAt m c 32 (ix3 (n0 := 4) (n1 := 128) (n2 := 64) (y 0) (y 1) (y 2)) := by
    rw [(flush_pos t).2.2.2.1 hf]
    exact (congrFun (at_last m c).2.2.2.2.1 y).trans (congrArg (dvmAt m c 32) (ix3_eta y))
  refine hy.trans ((dvmAt_at m c (y 0) (y 1) (y 2)).trans ?_)
  have i := (idxOut t).2.2.2.2.1
  have e : (win0_13.blk t).view.emb y = ix3 (n0 := 4) (n1 := 128) (n2 := 64) (y 0) (y 1) (y 2) := by
    refine funext fun d => Fin.ext ?_
    fin_cases d
    all_goals
      blk_simp [i]
      rfl
  rw [e]
  rfl

theorem final_14 : (dats m 0 c).arrAt 14 cfg0.N = oS (args m c) := by
  refine (dats m 0 c).arrAt_eq_of_covers 14 _ (by decide +kernel) fun t hf y => ?_
  blk_simp
  rw [after_14]
  have y0 : (y 0).val = 0 := Nat.lt_one_iff.mp (y 0).isLt
  have ey : y = ix2 (n0 := 1) (n1 := 128) 0 (y 1) := funext fun d => Fin.ext (by
    fin_cases d
    · exact y0
    · rfl)
  have hy : dsAt m c t.val y = dsAt m c 32 (ix2 (n0 := 1) (n1 := 128) 0 (y 1)) := by
    rw [(flush_pos t).2.2.2.2 hf]
    exact (congrFun (at_last m c).2.2.2.2.2.1 y).trans (congrArg (dsAt m c 32) ey)
  refine hy.trans ((dsAt_at m c (y 1)).trans ?_)
  have i := (idxOut t).2.2.2.2.2
  have e : (win0_14.blk t).view.emb y = ix2 (n0 := 1) (n1 := 128) (y 0) (y 1) := by
    refine funext fun d => Fin.ext ?_
    fin_cases d
    · blk_simp [i]
    · blk_simp [i]
      rfl
  rw [e]
  rfl

/-- The run: the six results are the arrays of the formulas, the arguments end unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0_0) = oQ (args m c)
      ∧ r.2.mem ((c.tc : Thread nD τ).loc main_v0_1) = oK (args m c)
      ∧ r.2.mem ((c.tc : Thread nD τ).loc main_v0_2) = oV (args m c)
      ∧ r.2.mem ((c.tc : Thread nD τ).loc main_v0_3) = oMk (args m c)
      ∧ r.2.mem ((c.tc : Thread nD τ).loc main_v0_4) = oMv (args m c)
      ∧ r.2.mem ((c.tc : Thread nD τ).loc main_v0_5) = oS (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.out_eq c 9).trans (final_9 m c), (h.1.out_eq c 10).trans (final_10 m c), (h.1.out_eq c 11).trans (final_11 m c),
      (h.1.out_eq c 12).trans (final_12 m c), (h.1.out_eq c 13).trans (final_13 m c), (h.1.out_eq c 14).trans (final_14 m c), h.2.1 c⟩)
    (Idealize.ShloMosaic.θ_run_and (run m ρ) (frame m ρ))

end Cert.KernelIdeal.Attn

end
-- ==== Proof.Attn.Pre.lean ====
/- The precondition: queries, keys and sinks are reals. -/
module

public import proofs.«01_k».proof.Defs
public import proofs.«01_k».proof.Proof.Gen.Pre_finite_scores
public import proofs.«01_k».proof.Proof.Attn.Arr
public import Idealize.ShloMosaic.Lib.Pointwise

@[expose] public section

noncomputable section

namespace Cert.KernelIdeal.Attn

open Cert.KernelIdeal Cert.KernelIdeal.Gen Cert.Softmax Cert.Band
open Idealize.ShloMosaic Idealize.ShloMosaic.TcCoe

/-- An extended real between the two infinities is a real. -/
theorem fin_of (x : EReal) (h : IntOp.andi (BitVec.ofBool (decide (Ideal.ofBits .f32 4286578688#32 < x)))
    (BitVec.ofBool (decide (x < Ideal.ofBits .f32 2139095040#32))) = 1#1) : Fin' x := by
  rw [show Ideal.ofBits .f32 4286578688#32 = ⊥ by simp [Ideal.ofBits, Ideal.ieee],
    show Ideal.ofBits .f32 2139095040#32 = ⊤ by simp [Ideal.ofBits, Ideal.ieee]] at h
  by_cases h1 : ⊥ < x
  · by_cases h2 : x < ⊤
    · exact ⟨x.toReal, (EReal.coe_toReal h2.ne h1.ne').symm⟩
    · rw [decide_eq_false h2, decide_eq_true h1] at h
      exact absurd h (by decide)
  · rw [decide_eq_false h1] at h
    exfalso
    generalize decide (x < ⊤) = b at h
    revert h
    cases b <;> decide

variable (q : FVec Ideal S4224x2048 .bf16) (k : FVec Ideal S4x4352x64 .bf16) (v : FVec Ideal S4x4352x64 .bf16) (s : FVec Ideal S1x32 .f32) (d : FVec Ideal S4224x2048 .bf16)

theorem fin_q (j) (h : (Cert.Pre_finite_scores.fn q k v s d).1 j = 1#1) : Fin' (q j) := by
  unfold Cert.Pre_finite_scores.fn at h
  pointwise at h
  exact fin_of _ h

theorem fin_k (j) (h : (Cert.Pre_finite_scores.fn q k v s d).2.1 j = 1#1) : Fin' (k j) := by
  unfold Cert.Pre_finite_scores.fn at h
  pointwise at h
  exact fin_of _ h

theorem fin_s (j) (h : (Cert.Pre_finite_scores.fn q k v s d).2.2 j = 1#1) : Fin' (s j) := by
  unfold Cert.Pre_finite_scores.fn at h
  pointwise at h
  exact fin_of _ h

/-- Under the precondition the kernel's queries, keys and sinks are reals. -/
theorem real_of (m : (ℓ : Loc nD τ sig) → Buf (Elt Ideal) ℓ) (h : Cert.Pre_KernelIdeal_finite_scores m) (c : Dev nD) : (args m c).Real where
  q a b := fin_q _ _ _ _ _ (ix2 a b) (congrFun (h c).1 (ix2 a b))
  k a b d := fin_k _ _ _ _ _ (ix3 a b d) (congrFun (h c).2.1 (ix3 a b d))
  s a := fin_s _ _ _ _ _ (ix2 0 a) (congrFun (h c).2.2 (ix2 0 a))

end Cert.KernelIdeal.Attn

end
-- ==== Proof.Dw.SwigluDx.lean ====
/- The gradient through the gated feed-forward unit: the kernel and the reference compute one pair of arrays over the extended reals. -/
module

public import proofs.«01_k».proof.Defs
public import proofs.«01_k».proof.Proof.Dw.Product
public import proofs.«01_k».proof.Proof.Dw.Gate
public import proofs.«01_k».proof.Proof.Attn.Pre
public import proofs.«01_k».proof.Proof.Gen.Pre_finite_products
public import proofs.«01_k».proof.Proof.Gen.SwigluDx.Frame
public import proofs.«01_k».proof.Proof.Gen.SwigluDxIdeal.Frame
public import proofs.«01_k».proof.Proof.Gen.SwigluDxReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.SwigluDxReferenceIdeal

open Cert.SwigluDxReferenceIdeal.Gen Cert.Product Cert.Gate Cert.Softmax
open Idealize.ShloMosaic Idealize.SL.Sem

variable (x : FVec Ideal S4224x4096 .bf16) (w : FVec Ideal S11008x4096 .bf16) (g : FVec Ideal S4224x11008 .bf16) (u : FVec Ideal S4224x11008 .bf16)

/-- The gradient of the unit's result: the incoming gradient times the transposed weight. -/
def inner (i : Fin 4224) (j : Fin 11008) : EReal := ∑ k : Fin 4096, x (ix2 i k) * w (ix2 j k)

/-- The two gradients, the gate's by the product rule and the other factor's. -/
def pair : FVec Ideal S2x4224x11008 .bf16 := fun y =>
  if (y 0).val = 0 then
    inner x w (y 1) (y 2) * u (ix2 (y 1) (y 2)) * gate (g (ix2 (y 1) (y 2)))
      + g (ix2 (y 1) (y 2)) * (inner x w (y 1) (y 2) * u (ix2 (y 1) (y 2))) * (gate (g (ix2 (y 1) (y 2))) * (1 - gate (g (ix2 (y 1) (y 2)))))
  else g (ix2 (y 1) (y 2)) * gate (g (ix2 (y 1) (y 2))) * inner x w (y 1) (y 2)

/-- The reference's term is the pair. -/
theorem value_eq : (truncf .bf16 (concatenate S2x4224x11008 0 [⟨S1x4224x11008, (broadcastInDim S1x4224x11008 ![1, 2] bcast_S4224x11008_S1x4224x11008_1_2 (addf (mulf (mulf (Host.dotGeneral (φ₁ := .f32) (φ₂ := .f32) dot_S4224x4096_S11008x4096_S4224x11008_1_1_0_0_n_n none (extf .f32 x bitsLt_bf16_f32) (extf .f32 w bitsLt_bf16_f32)) (extf .f32 u bitsLt_bf16_f32)) (Host.divf (broadcastInDim S4224x11008 ![] bcast_S_S4224x11008 (constant S_ .f32 0x3F800000#32)) (addf (broadcastInDim S4224x11008 ![] bcast_S_S4224x11008 (constant S_ .f32 0x3F800000#32)) (Host.exp (Host.negf (extf .f32 g bitsLt_bf16_f32)))))) (mulf (mulf (extf .f32 g bitsLt_bf16_f32) (mulf (Host.dotGeneral (φ₁ := .f32) (φ₂ := .f32) dot_S4224x4096_S11008x4096_S4224x11008_1_1_0_0_n_n none (extf .f32 x bitsLt_bf16_f32) (extf .f32 w bitsLt_bf16_f32)) (extf .f32 u bitsLt_bf16_f32))) (mulf (Host.divf (broadcastInDim S4224x11008 ![] bcast_S_S4224x11008 (constant S_ .f32 0x3F800000#32)) (addf (broadcastInDim S4224x11008 ![] bcast_S_S4224x11008 (constant S_ .f32 0x3F800000#32)) (Host.exp (Host.negf (extf .f32 g bitsLt_bf16_f32))))) (subf (broadcastInDim S4224x11008 ![] bcast_S_S4224x11008 (constant S_ .f32 0x3F800000#32)) (Host.divf (broadcastInDim S4224x11008 ![] bcast_S_S4224x11008 (constant S_ .f32 0x3F800000#32)) (addf (broadcastInDim S4224x11008 ![] bcast_S_S4224x11008 (constant S_ .f32 0x3F800000#32)) (Host.exp (Host.negf (extf .f32 g bitsLt_bf16_f32))))))))))⟩, ⟨S1x4224x11008, (broadcastInDim S1x4224x11008 ![1, 2] bcast_S4224x11008_S1x4224x11008_1_2 (mulf (mulf (extf .f32 g bitsLt_bf16_f32) (Host.divf (broadcastInDim S4224x11008 ![] bcast_S_S4224x11008 (constant S_ .f32 0x3F800000#32)) (addf (broadcastInDim S4224x11008 ![] bcast_S_S4224x11008 (constant S_ .f32 0x3F800000#32)) (Host.exp (Host.negf (extf .f32 g bitsLt_bf16_f32)))))) (Host.dotGeneral (φ₁ := .f32) (φ₂ := .f32) dot_S4224x4096_S11008x4096_S4224x11008_1_1_0_0_n_n none (extf .f32 x bitsLt_bf16_f32) (extf .f32 w bitsLt_bf16_f32))))⟩] concatenates_S1x4224x11008_S1x4224x11008_S2x4224x11008_d0) bitsLt_bf16_f32 : FVec Ideal S2x4224x11008 .bf16) = pair x w g u := by
  refine funext fun y => ?_
  rw [ix3_coords y]
  unfold pair inner gate
  pointwise
  by_cases h : (y 0).val = 0
  · rw [dif_pos (by omega), if_pos h]
  · rw [dif_neg (by omega), if_neg h]

/-- The reference runs and its arguments end unchanged. -/
theorem frame : Cert.quiescent_SwigluDxReferenceIdeal := fun m ρ _ =>
  (θ_run defs _ _).mono (fun r h => ⟨fun c => (h c).2, sem_eq_zero_of_no_sems (by decide) r.2⟩) (Value.run (F := Ideal) m ρ)

/-- The same two gradients, the gate's as one product by the derivative. -/
def factored : FVec Ideal S2x4224x11008 .bf16 := fun y =>
  if (y 0).val = 0 then
    inner x w (y 1) (y 2) * u (ix2 (y 1) (y 2)) * (gate (g (ix2 (y 1) (y 2))) * (1 + g (ix2 (y 1) (y 2)) * (1 - gate (g (ix2 (y 1) (y 2))))))
  else inner x w (y 1) (y 2) * g (ix2 (y 1) (y 2)) * gate (g (ix2 (y 1) (y 2)))

/-- Where the incoming gradient, the weight and the other factor are reals, the two forms are one. -/
theorem factored_eq (hx : ∀ j, Fin' (x j)) (hw : ∀ j, Fin' (w j)) (hu : ∀ j, Fin' (u j)) : factored x w g u = pair x w g u := by
  refine funext fun y => ?_
  unfold factored pair
  split
  · exact product_rule (fin_sum _ _ fun k => fin_mul (hx _) (hw _)) (hu _) _
  · exact up_eq _ _

end Cert.SwigluDxReferenceIdeal

namespace Cert.SwigluDxIdeal

open Cert.SwigluDxIdeal.Gen Cert.Product Cert.Gate Cert.Softmax
open Idealize.ShloMosaic Idealize.ShloMosaic.TcCoe Idealize.SL.Sem
open Idealize.ShloMosaic.Pipeline (Dat)

variable (x0 : Vec Ideal S1056x4096 .bf16) (x1 : Vec Ideal S256x4096 .bf16) (x2 : Vec Ideal S1056x256 .bf16) (x3 : Vec Ideal S1056x256 .bf16)

/-- A tile of the gate's gradient, entry by entry. -/
theorem gate_at (o : Fin 1) (i : Fin 1056) (j : Fin 256) : (k0_pay4 (F := Ideal) x0 x1 x2 x3) (ix3 o i j)
    = (∑ k : Fin 4096, x0 (ix2 i k) * x1 (ix2 j k)) * x3 (ix2 i j) * (gate (x2 (ix2 i j)) * (1 + x2 (ix2 i j) * (1 - gate (x2 (ix2 i j))))) := by
  unfold gate
  pointwise [k0_pay4, k0_pay3, k0_pay2, k0_pay1]
  simp only [zero_sub]

/-- A tile of the other factor's gradient, entry by entry. -/
theorem up_at (o : Fin 1) (i : Fin 1056) (j : Fin 256) : (k0_pay5 (F := Ideal) x0 x1 x2) (ix3 o i j)
    = (∑ k : Fin 4096, x0 (ix2 i k) * x1 (ix2 j k)) * x2 (ix2 i j) * gate (x2 (ix2 i j)) := by
  unfold gate
  pointwise [k0_pay5, k0_pay3, k0_pay2, k0_pay1]
  simp only [zero_sub]

/-- What a point leaves, entry by entry. -/
theorem out_at (p : Fin 2) (i : Fin 1056) (j : Fin 256) : (out0_4 (F := Ideal) x0 x1 x2 x3) (ix3 p i j)
    = if p.val = 0 then (∑ k : Fin 4096, x0 (ix2 i k) * x1 (ix2 j k)) * x3 (ix2 i j) * (gate (x2 (ix2 i j)) * (1 + x2 (ix2 i j) * (1 - gate (x2 (ix2 i j)))))
      else (∑ k : Fin 4096, x0 (ix2 i k) * x1 (ix2 j k)) * x2 (ix2 i j) * gate (x2 (ix2 i j)) := by
  unfold out0_4
  rw [View.ld_unit_zero zeros, View.ld_unit_zero zeros, View.ld_unit_zero zeros, View.ld_unit_zero zeros]
  canon_tiles x h
  · have e : x = ix3 0 i j := (ix3_coords x).trans (by rw [show x 0 = (0 : Fin 1) from Fin.ext (by show (x 0).val = 0; omega), show i = x 1 from Fin.ext h1, show j = x 2 from Fin.ext h2])
    have hp : p.val = 1 + (x 0).val := h0
    rw [if_neg (by omega), e, up_at]
  · have e : x = ix3 0 i j := (ix3_coords x).trans (by rw [show x 0 = (0 : Fin 1) from Fin.ext (by show (x 0).val = 0; omega), show i = x 1 from Fin.ext h1, show j = x 2 from Fin.ext h2])
    have hp : p.val = (x 0).val := h0
    rw [if_pos (by omega), e, gate_at]

/-- Which blocks a point reads, by the block it writes. -/
theorem index_at : ∀ t : Fin cfg0.N, win0_0.index t = ![win0_4.index t 1, 0] ∧ win0_1.index t = ![win0_4.index t 2, 0]
    ∧ win0_2.index t = ![win0_4.index t 1, win0_4.index t 2] ∧ win0_3.index t = ![win0_4.index t 1, win0_4.index t 2] ∧ win0_4.index t 0 = 0 :=
  (by decide +kernel : ∀ t : Fin grid0.N, _)

variable (m : (ℓ : Loc nD τ sig) → Buf (Elt Ideal) ℓ) (g : Dev nD → PrngReg) (c : Dev nD)

/-- The kernel's array is the two gradients. -/
theorem final : (dats m 0 c).arrAt 4 cfg0.N = Cert.SwigluDxReferenceIdeal.factored (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  obtain ⟨i0, i1, i2, i3, i4⟩ := index_at t
  have hy := ix3_coords (a := 2) (b := 1056) (c := 256) y
  generalize hu : y 0 = p at hy
  generalize hv : y 1 = u at hy
  generalize hw : y 2 = v at hy
  subst hy
  refine (out_at _ _ _ _ p u v).trans ?_
  unfold Cert.SwigluDxReferenceIdeal.factored Cert.SwigluDxReferenceIdeal.inner gate
  refine if_congr ?_ ?_ ?_
  · have e : (((win0_4.blk t).view.emb (ix3 p u v)) 0 : ℕ) = p.val := by
      blk_simp [i4]
    rw [e]
  · blk_point [iblk, V, i0, i1, i2, i3, i4]
  · blk_point [iblk, V, i0, i1, i2, i3, i4]

/-- Under the precondition the incoming gradient, the weight and the other factor are reals. -/
theorem real_of (h : Cert.Pre_SwigluDxIdeal_finite_products m) :
    (∀ j, Fin' ((m ((c.tc : Thread nD τ).loc main_arg0)) j)) ∧ (∀ j, Fin' ((m ((c.tc : Thread nD τ).loc main_arg1)) j)) ∧ ∀ j, Fin' ((m ((c.tc : Thread nD τ).loc main_arg3)) j) := by
  refine ⟨fun j => ?_, fun j => ?_, fun j => ?_⟩
  · have e := congrFun (h c).1 j
    unfold Cert.Pre_finite_products.fn at e
    pointwise at e
    exact Cert.KernelIdeal.Attn.fin_of _ e
  · have e := congrFun (h c).2.1 j
    unfold Cert.Pre_finite_products.fn at e
    pointwise at e
    exact Cert.KernelIdeal.Attn.fin_of _ e
  · have e := congrFun (h c).2.2 j
    unfold Cert.Pre_finite_products.fn at e
    pointwise at e
    exact Cert.KernelIdeal.Attn.fin_of _ e

/-- The run: the result at the two gradients, the arguments unchanged. -/
theorem run_value (h : Cert.Pre_SwigluDxIdeal_finite_products m) : θ_run defs (onTc (τ := τ) (main (F := Ideal))) ⟨m, fun _ => 0, g⟩ fun r => ∀ c : Dev nD,
      r.2.mem ((c.tc : Thread nD τ).loc main_v0) = Cert.SwigluDxReferenceIdeal.pair (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ r c => ⟨((r.1 c).1 4).trans ((final m c).trans (Cert.SwigluDxReferenceIdeal.factored_eq _ _ _ _ (real_of m c h).1 (real_of m c h).2.1 (real_of m c h).2.2)), r.2 c⟩)
    (θ_run_and (run_main m g) (unchanged m g))

/-- Over the extended reals the kernel and the reference compute one array. -/
theorem same_value : Cert.algebraic_SwigluDxIdeal_SwigluDxReferenceIdeal_pre_finite_products := fun m g m' g' hp h =>
  ⟨fun c => Cert.SwigluDxReferenceIdeal.pair (m ((c.tc : Thread nD τ).loc main_arg0)) (m ((c.tc : Thread nD τ).loc main_arg1)) (m ((c.tc : Thread nD τ).loc main_arg2)) (m ((c.tc : Thread nD τ).loc main_arg3)), run_value m g hp,
    (θ_run Cert.SwigluDxReferenceIdeal.defs _ _).mono (fun _ r c => ⟨(r c).1.trans ((Cert.SwigluDxReferenceIdeal.value_eq _ _ _ _).trans (by rw [(h c).1, (h c).2.1, (h c).2.2.1, (h c).2.2.2])), (r c).2⟩)
      (Cert.SwigluDxReferenceIdeal.Value.run m' g')⟩

/-- The idealized kernel runs, its arguments end unchanged and every semaphore counter reads zero. -/
theorem ideal_frame : Cert.quiescent_SwigluDxIdeal := fun m ρ _ => frame m ρ

/-- The printed kernel runs, its arguments end unchanged and every semaphore counter reads zero. -/
theorem kernel_frame : Cert.quiescent_SwigluDx := fun m ρ _ => Cert.SwigluDx.Gen.frame m ρ

end Cert.SwigluDxIdeal

end
-- ==== Proof.Dw.Moments.lean ====
/- One AdamW step, entry by entry, over the extended reals. -/
module

public import Idealize.ShloMosaic.Lib.Pointwise

@[expose] public section

noncomputable section

namespace Cert.Moments

open Idealize.ShloMosaic

/-- The first moment of an entry: nine tenths of the old one and a tenth of the gradient. -/
def firstOf (g a : EReal) : EReal := Ideal.ofBits .f32 0x3F666666#32 * a + Ideal.ofBits .f32 0x3DCCCCCD#32 * g

/-- The second moment of an entry: 0.999 of the old one and a thousandth of the gradient's square. -/
def secondOf (g b : EReal) : EReal := Ideal.ofBits .f32 0x3F7FBE77#32 * b + Ideal.ofBits .f32 0x3A83126F#32 * (g * g)

/-- The step of an entry: minus a thousandth of the first moment over the root of the second, both corrected for their
    start at zero, and of the weight's decay. -/
def stepOf (p g a b : EReal) : EReal :=
  Ideal.ofBits .f32 0xBA83126F#32 *
    (Ideal.div (Ideal.div (firstOf g a) (Ideal.ofBits .f32 0x3F26BD02#32))
        (Ideal.sqrt (Ideal.div (secondOf g b) (Ideal.ofBits .f32 0x3C231ACC#32)) + Ideal.ofBits .f32 0x322BCC77#32)
      + Ideal.ofBits .f32 0x3C23D70A#32 * p)

variable {s : Shape}

def first (g a : FVec Ideal s .f32) : FVec Ideal s .f32 := fun y => firstOf (g y) (a y)
def second (g b : FVec Ideal s .f32) : FVec Ideal s .f32 := fun y => secondOf (g y) (b y)
def step (p g a b : FVec Ideal s .f32) : FVec Ideal s .f32 := fun y => stepOf (p y) (g y) (a y) (b y)

end Cert.Moments

end
-- ==== Proof.Dw.AdamWide.lean ====
/- The AdamW update of a wide weight: the kernel and the reference compute one step over the extended reals. -/
module

public import proofs.«01_k».proof.Defs
public import proofs.«01_k».proof.Proof.Dw.Product
public import proofs.«01_k».proof.Proof.Dw.Moments
public import proofs.«01_k».proof.Proof.Gen.AdamWide.Frame
public import proofs.«01_k».proof.Proof.Gen.AdamWideIdeal.Frame
public import proofs.«01_k».proof.Proof.Gen.AdamWideReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.AdamWideReferenceIdeal

open Cert.AdamWideReferenceIdeal.Gen Cert.Product Cert.Moments
open Idealize.ShloMosaic Idealize.SL.Sem

variable (p g a b : FVec Ideal S2048x512 .f32)

/-- The reference's first moment. -/
theorem first_eq : (addf (mulf (broadcastInDim S2048x512 ![] bcast_S_S2048x512 (constant S_ .f32 0x3F666666#32)) a) (mulf (broadcastInDim S2048x512 ![] bcast_S_S2048x512 (constant S_ .f32 0x3DCCCCCD#32)) g) : FVec Ideal S2048x512 .f32) = first g a := by
  refine funext fun y => ?_
  rw [ix2_coords y]
  unfold first firstOf
  pointwise

/-- The reference's second moment. -/
theorem second_eq : (addf (mulf (broadcastInDim S2048x512 ![] bcast_S_S2048x512 (constant S_ .f32 0x3F7FBE77#32)) b) (mulf (broadcastInDim S2048x512 ![] bcast_S_S2048x512 (constant S_ .f32 0x3A83126F#32)) (mulf g g)) : FVec Ideal S2048x512 .f32) = second g b := by
  refine funext fun y => ?_
  rw [ix2_coords y]
  unfold second secondOf
  pointwise

/-- The reference's step. -/
theorem step_eq : (mulf (broadcastInDim S2048x512 ![] bcast_S_S2048x512 (constant S_ .f32 0xBA83126F#32)) (addf (Host.divf (Host.divf (addf (mulf (broadcastInDim S2048x512 ![] bcast_S_S2048x512 (constant S_ .f32 0x3F666666#32)) a) (mulf (broadcastInDim S2048x512 ![] bcast_S_S2048x512 (constant S_ .f32 0x3DCCCCCD#32)) g)) (broadcastInDim S2048x512 ![] bcast_S_S2048x512 (constant S_ .f32 0x3F26BD02#32))) (addf (Host.sqrt (Host.divf (addf (mulf (broadcastInDim S2048x512 ![] bcast_S_S2048x512 (constant S_ .f32 0x3F7FBE77#32)) b) (mulf (broadcastInDim S2048x512 ![] bcast_S_S2048x512 (constant S_ .f32 0x3A83126F#32)) (mulf g g))) (broadcastInDim S2048x512 ![] bcast_S_S2048x512 (constant S_ .f32 0x3C231ACC#32)))) (broadcastInDim S2048x512 ![] bcast_S_S2048x512 (constant S_ .f32 0x322BCC77#32)))) (mulf (broadcastInDim S2048x512 ![] bcast_S_S2048x512 (constant S_ .f32 0x3C23D70A#32)) p)) : FVec Ideal S2048x512 .f32) = step p g a b := by
  refine funext fun y => ?_
  rw [ix2_coords y]
  unfold step stepOf firstOf secondOf
  pointwise

/-- The reference runs and its arguments end unchanged. -/
theorem frame : Cert.quiescent_AdamWideReferenceIdeal := fun m ρ _ =>
  (θ_run defs _ _).mono (fun r h => ⟨fun c => (h c).2.2.2, sem_eq_zero_of_no_sems (by decide) r.2⟩) (Value.run (F := Ideal) m ρ)

end Cert.AdamWideReferenceIdeal

namespace Cert.AdamWideIdeal

open Cert.AdamWideIdeal.Gen Cert.Product Cert.Moments
open Idealize.ShloMosaic Idealize.ShloMosaic.TcCoe Idealize.SL.Sem
open Idealize.ShloMosaic.Pipeline (Dat)

section
variable (x0 x1 x2 x3 : Vec Ideal S1024x512 .f32)

/-- A tile of the first moment, of the second and of the step. -/
theorem first_tile : k0_pay1 (F := Ideal) x1 x2 = first x1 x2 := by
  refine funext fun y => ?_
  rw [ix2_coords y]
  unfold first firstOf
  pointwise [k0_pay1]

theorem second_tile : k0_pay2 (F := Ideal) x1 x3 = second x1 x3 := by
  refine funext fun y => ?_
  rw [ix2_coords y]
  unfold second secondOf
  pointwise [k0_pay2]

theorem step_tile : k0_pay3 (F := Ideal) x0 x1 x2 x3 = step x0 x1 x2 x3 := by
  refine funext fun y => ?_
  rw [ix2_coords y]
  unfold step stepOf firstOf secondOf
  pointwise [k0_pay1, k0_pay2, k0_pay3]

theorem out_step : out0_4 (F := Ideal) x0 x1 x2 x3 = step x0 x1 x2 x3 := by
  unfold out0_4
  rw [View.canon_unit_zero zeros, View.ld_unit_zero zeros, View.ld_unit_zero zeros, View.ld_unit_zero zeros, View.ld_unit_zero zeros, step_tile]

theorem out_first : out0_5 (F := Ideal) x0 x1 x2 x3 = first x1 x2 := by
  unfold out0_5
  rw [View.canon_unit_zero zeros, View.ld_unit_zero zeros, View.ld_unit_zero zeros, first_tile]

theorem out_second : out0_6 (F := Ideal) x0 x1 x2 x3 = second x1 x3 := by
  unfold out0_6
  rw [View.canon_unit_zero zeros, View.ld_unit_zero zeros, View.ld_unit_zero zeros, second_tile]

end

/-- Every window stands at the same block. -/
theorem index_at : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (g : Dev nD → PrngReg) (c : Dev nD)

/-- The parameter, its gradient and its two moments as launched. -/
abbrev arg0 : FVec Ideal S2048x512 .f32 := m ((c.tc : Thread nD τ).loc main_arg0)
abbrev arg1 : FVec Ideal S2048x512 .f32 := m ((c.tc : Thread nD τ).loc main_arg1)
abbrev arg2 : FVec Ideal S2048x512 .f32 := m ((c.tc : Thread nD τ).loc main_arg2)
abbrev arg3 : FVec Ideal S2048x512 .f32 := m ((c.tc : Thread nD τ).loc main_arg3)

/-- The kernel's step. -/
theorem final_step : (dats m 0 c).arrAt 4 cfg0.N = step (arg0 m c) (arg1 m c) (arg2 m c) (arg3 m c) := by
  refine (dats m 0 c).arrAt_eq_of_covers 4 _ (by decide +kernel) fun t hf y => ?_
  blk_simp
  rw [after0_4, out_step]
  obtain ⟨i0, i1, i2, i3, i4, i5, i6⟩ := index_at t
  have hy := ix2_coords y
  generalize y 0 = u at hy
  generalize y 1 = v at hy
  subst hy
  unfold step
  congr 1
  all_goals blk_point [iblk, V, i0, i1, i2, i3, i4]

/-- The kernel's first moment. -/
theorem final_first : (dats m 0 c).arrAt 5 cfg0.N = first (arg1 m c) (arg2 m c) := by
  refine (dats m 0 c).arrAt_eq_of_covers 5 _ (by decide +kernel) fun t hf y => ?_
  blk_simp
  rw [after0_5, out_first]
  obtain ⟨i0, i1, i2, i3, i4, i5, i6⟩ := index_at t
  have hy := ix2_coords y
  generalize y 0 = u at hy
  generalize y 1 = v at hy
  subst hy
  unfold first
  congr 1
  all_goals blk_point [iblk, V, i0, i1, i2, i3, i5]

/-- The kernel's second moment. -/
theorem final_second : (dats m 0 c).arrAt 6 cfg0.N = second (arg1 m c) (arg3 m c) := by
  refine (dats m 0 c).arrAt_eq_of_covers 6 _ (by decide +kernel) fun t hf y => ?_
  blk_simp
  rw [after0_6, out_second]
  obtain ⟨i0, i1, i2, i3, i4, i5, i6⟩ := index_at t
  have hy := ix2_coords y
  generalize y 0 = u at hy
  generalize y 1 = v at hy
  subst hy
  unfold second
  congr 1
  all_goals blk_point [iblk, V, i0, i1, i2, i3, i6]

/-- The run: the step and both moments, the arguments unchanged. -/
theorem run_value : θ_run defs (onTc (τ := τ) (main (F := Ideal))) ⟨m, fun _ => 0, g⟩ fun r => ∀ c : Dev nD,
      r.2.mem ((c.tc : Thread nD τ).loc main_v0_0) = step (arg0 m c) (arg1 m c) (arg2 m c) (arg3 m c)
      ∧ r.2.mem ((c.tc : Thread nD τ).loc main_v0_1) = first (arg1 m c) (arg2 m c)
      ∧ r.2.mem ((c.tc : Thread nD τ).loc main_v0_2) = second (arg1 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final_step m c), ((h.1 c).1 5).trans (final_first m c), ((h.1 c).1 6).trans (final_second m c), h.2 c⟩)
    (θ_run_and (run_main m g) (unchanged m g))

/-- Over the extended reals the kernel and the reference compute the same step and moments. -/
theorem same_value : Cert.algebraic_AdamWideIdeal_AdamWideReferenceIdeal := fun m g m' g' _ h =>
  ⟨fun c => step (arg0 m c) (arg1 m c) (arg2 m c) (arg3 m c), fun c => first (arg1 m c) (arg2 m c), fun c => second (arg1 m c) (arg3 m c),
    run_value m g,
    (θ_run Cert.AdamWideReferenceIdeal.defs _ _).mono (fun _ r c => by
      obtain ⟨h0, h1, h2, h3⟩ := h c
      obtain ⟨r0, r1, r2, rest⟩ := r c
      refine ⟨r0.trans ?_, r1.trans ?_, r2.trans ?_, rest⟩
      · rw [h0, h1, h2, h3]
        exact Cert.AdamWideReferenceIdeal.step_eq _ _ _ _
      · rw [h1, h2]
        exact Cert.AdamWideReferenceIdeal.first_eq _ _
      · rw [h1, h3]
        exact Cert.AdamWideReferenceIdeal.second_eq _ _)
      (Cert.AdamWideReferenceIdeal.Value.run m' g')⟩

/-- The idealized kernel runs, its arguments end unchanged and every semaphore counter reads zero. -/
theorem ideal_frame : Cert.quiescent_AdamWideIdeal := fun m ρ _ => frame m ρ

/-- The printed kernel runs, its arguments end unchanged and every semaphore counter reads zero. -/
theorem kernel_frame : Cert.quiescent_AdamWide := fun m ρ _ => Cert.AdamWide.Gen.frame m ρ

end Cert.AdamWideIdeal

end
-- ==== Proof.Dw.AdamSmall.lean ====
/- The AdamW update of the small weights in one slab: the kernel and the reference compute one step over the extended reals. -/
module

public import proofs.«01_k».proof.Defs
public import proofs.«01_k».proof.Proof.Dw.Product
public import proofs.«01_k».proof.Proof.Dw.Moments
public import proofs.«01_k».proof.Proof.Gen.AdamSmall.Frame
public import proofs.«01_k».proof.Proof.Gen.AdamSmallIdeal.Frame
public import proofs.«01_k».proof.Proof.Gen.AdamSmallReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.AdamSmallReferenceIdeal

open Cert.AdamSmallReferenceIdeal.Gen Cert.Product Cert.Moments
open Idealize.ShloMosaic Idealize.SL.Sem

variable (p g a b : FVec Ideal S424x128 .f32)

/-- The reference's first moment. -/
theorem first_eq : (addf (mulf (broadcastInDim S424x128 ![] bcast_S_S424x128 (constant S_ .f32 0x3F666666#32)) a) (mulf (broadcastInDim S424x128 ![] bcast_S_S424x128 (constant S_ .f32 0x3DCCCCCD#32)) g) : FVec Ideal S424x128 .f32) = first g a := by
  refine funext fun y => ?_
  rw [ix2_coords y]
  unfold first firstOf
  pointwise

/-- The reference's second moment. -/
theorem second_eq : (addf (mulf (broadcastInDim S424x128 ![] bcast_S_S424x128 (constant S_ .f32 0x3F7FBE77#32)) b) (mulf (broadcastInDim S424x128 ![] bcast_S_S424x128 (constant S_ .f32 0x3A83126F#32)) (mulf g g)) : FVec Ideal S424x128 .f32) = second g b := by
  refine funext fun y => ?_
  rw [ix2_coords y]
  unfold second secondOf
  pointwise

/-- The reference's step. -/
theorem step_eq : (mulf (broadcastInDim S424x128 ![] bcast_S_S424x128 (constant S_ .f32 0xBA83126F#32)) (addf (Host.divf (Host.divf (addf (mulf (broadcastInDim S424x128 ![] bcast_S_S424x128 (constant S_ .f32 0x3F666666#32)) a) (mulf (broadcastInDim S424x128 ![] bcast_S_S424x128 (constant S_ .f32 0x3DCCCCCD#32)) g)) (broadcastInDim S424x128 ![] bcast_S_S424x128 (constant S_ .f32 0x3F26BD02#32))) (addf (Host.sqrt (Host.divf (addf (mulf (broadcastInDim S424x128 ![] bcast_S_S424x128 (constant S_ .f32 0x3F7FBE77#32)) b) (mulf (broadcastInDim S424x128 ![] bcast_S_S424x128 (constant S_ .f32 0x3A83126F#32)) (mulf g g))) (broadcastInDim S424x128 ![] bcast_S_S424x128 (constant S_ .f32 0x3C231ACC#32)))) (broadcastInDim S424x128 ![] bcast_S_S424x128 (constant S_ .f32 0x322BCC77#32)))) (mulf (broadcastInDim S424x128 ![] bcast_S_S424x128 (constant S_ .f32 0x3C23D70A#32)) p)) : FVec Ideal S424x128 .f32) = step p g a b := by
  refine funext fun y => ?_
  rw [ix2_coords y]
  unfold step stepOf firstOf secondOf
  pointwise

/-- The reference runs and its arguments end unchanged. -/
theorem frame : Cert.quiescent_AdamSmallReferenceIdeal := fun m ρ _ =>
  (θ_run defs _ _).mono (fun r h => ⟨fun c => (h c).2.2.2, sem_eq_zero_of_no_sems (by decide) r.2⟩) (Value.run (F := Ideal) m ρ)

end Cert.AdamSmallReferenceIdeal

namespace Cert.AdamSmallIdeal

open Cert.AdamSmallIdeal.Gen Cert.Product Cert.Moments
open Idealize.ShloMosaic Idealize.ShloMosaic.TcCoe Idealize.SL.Sem
open Idealize.ShloMosaic.Pipeline (Dat)

section
variable (x0 x1 x2 x3 : Vec Ideal S424x128 .f32)

/-- A tile of the first moment, of the second and of the step. -/
theorem first_tile : k0_pay1 (F := Ideal) x1 x2 = first x1 x2 := by
  refine funext fun y => ?_
  rw [ix2_coords y]
  unfold first firstOf
  pointwise [k0_pay1]

theorem second_tile : k0_pay2 (F := Ideal) x1 x3 = second x1 x3 := by
  refine funext fun y => ?_
  rw [ix2_coords y]
  unfold second secondOf
  pointwise [k0_pay2]

theorem step_tile : k0_pay3 (F := Ideal) x0 x1 x2 x3 = step x0 x1 x2 x3 := by
  refine funext fun y => ?_
  rw [ix2_coords y]
  unfold step stepOf firstOf secondOf
  pointwise [k0_pay1, k0_pay2, k0_pay3]

theorem out_step : out0_4 (F := Ideal) x0 x1 x2 x3 = step x0 x1 x2 x3 := by
  unfold out0_4
  rw [View.canon_unit_zero zeros, View.ld_unit_zero zeros, View.ld_unit_zero zeros, View.ld_unit_zero zeros, View.ld_unit_zero zeros, step_tile]

theorem out_first : out0_5 (F := Ideal) x0 x1 x2 x3 = first x1 x2 := by
  unfold out0_5
  rw [View.canon_unit_zero zeros, View.ld_unit_zero zeros, View.ld_unit_zero zeros, first_tile]

theorem out_second : out0_6 (F := Ideal) x0 x1 x2 x3 = second x1 x3 := by
  unfold out0_6
  rw [View.canon_unit_zero zeros, View.ld_unit_zero zeros, View.ld_unit_zero zeros, second_tile]

end

/-- Every window stands at the same block. -/
theorem index_at : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (g : Dev nD → PrngReg) (c : Dev nD)

/-- The parameter, its gradient and its two moments as launched. -/
abbrev arg0 : FVec Ideal S424x128 .f32 := m ((c.tc : Thread nD τ).loc main_arg0)
abbrev arg1 : FVec Ideal S424x128 .f32 := m ((c.tc : Thread nD τ).loc main_arg1)
abbrev arg2 : FVec Ideal S424x128 .f32 := m ((c.tc : Thread nD τ).loc main_arg2)
abbrev arg3 : FVec Ideal S424x128 .f32 := m ((c.tc : Thread nD τ).loc main_arg3)

/-- The kernel's step. -/
theorem final_step : (dats m 0 c).arrAt 4 cfg0.N = step (arg0 m c) (arg1 m c) (arg2 m c) (arg3 m c) := by
  refine (dats m 0 c).arrAt_eq_of_covers 4 _ (by decide +kernel) fun t hf y => ?_
  blk_simp
  rw [after0_4, out_step]
  obtain ⟨i0, i1, i2, i3, i4, i5, i6⟩ := index_at t
  have hy := ix2_coords y
  generalize y 0 = u at hy
  generalize y 1 = v at hy
  subst hy
  unfold step
  congr 1
  all_goals blk_point [iblk, V, i0, i1, i2, i3, i4]

/-- The kernel's first moment. -/
theorem final_first : (dats m 0 c).arrAt 5 cfg0.N = first (arg1 m c) (arg2 m c) := by
  refine (dats m 0 c).arrAt_eq_of_covers 5 _ (by decide +kernel) fun t hf y => ?_
  blk_simp
  rw [after0_5, out_first]
  obtain ⟨i0, i1, i2, i3, i4, i5, i6⟩ := index_at t
  have hy := ix2_coords y
  generalize y 0 = u at hy
  generalize y 1 = v at hy
  subst hy
  unfold first
  congr 1
  all_goals blk_point [iblk, V, i0, i1, i2, i3, i5]

/-- The kernel's second moment. -/
theorem final_second : (dats m 0 c).arrAt 6 cfg0.N = second (arg1 m c) (arg3 m c) := by
  refine (dats m 0 c).arrAt_eq_of_covers 6 _ (by decide +kernel) fun t hf y => ?_
  blk_simp
  rw [after0_6, out_second]
  obtain ⟨i0, i1, i2, i3, i4, i5, i6⟩ := index_at t
  have hy := ix2_coords y
  generalize y 0 = u at hy
  generalize y 1 = v at hy
  subst hy
  unfold second
  congr 1
  all_goals blk_point [iblk, V, i0, i1, i2, i3, i6]

/-- The run: the step and both moments, the arguments unchanged. -/
theorem run_value : θ_run defs (onTc (τ := τ) (main (F := Ideal))) ⟨m, fun _ => 0, g⟩ fun r => ∀ c : Dev nD,
      r.2.mem ((c.tc : Thread nD τ).loc main_v0_0) = step (arg0 m c) (arg1 m c) (arg2 m c) (arg3 m c)
      ∧ r.2.mem ((c.tc : Thread nD τ).loc main_v0_1) = first (arg1 m c) (arg2 m c)
      ∧ r.2.mem ((c.tc : Thread nD τ).loc main_v0_2) = second (arg1 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final_step m c), ((h.1 c).1 5).trans (final_first m c), ((h.1 c).1 6).trans (final_second m c), h.2 c⟩)
    (θ_run_and (run_main m g) (unchanged m g))

/-- Over the extended reals the kernel and the reference compute the same step and moments. -/
theorem same_value : Cert.algebraic_AdamSmallIdeal_AdamSmallReferenceIdeal := fun m g m' g' _ h =>
  ⟨fun c => step (arg0 m c) (arg1 m c) (arg2 m c) (arg3 m c), fun c => first (arg1 m c) (arg2 m c), fun c => second (arg1 m c) (arg3 m c),
    run_value m g,
    (θ_run Cert.AdamSmallReferenceIdeal.defs _ _).mono (fun _ r c => by
      obtain ⟨h0, h1, h2, h3⟩ := h c
      obtain ⟨r0, r1, r2, rest⟩ := r c
      refine ⟨r0.trans ?_, r1.trans ?_, r2.trans ?_, rest⟩
      · rw [h0, h1, h2, h3]
        exact Cert.AdamSmallReferenceIdeal.step_eq _ _ _ _
      · rw [h1, h2]
        exact Cert.AdamSmallReferenceIdeal.first_eq _ _
      · rw [h1, h3]
        exact Cert.AdamSmallReferenceIdeal.second_eq _ _)
      (Cert.AdamSmallReferenceIdeal.Value.run m' g')⟩

/-- The idealized kernel runs, its arguments end unchanged and every semaphore counter reads zero. -/
theorem ideal_frame : Cert.quiescent_AdamSmallIdeal := fun m ρ _ => frame m ρ

/-- The printed kernel runs, its arguments end unchanged and every semaphore counter reads zero. -/
theorem kernel_frame : Cert.quiescent_AdamSmall := fun m ρ _ => Cert.AdamSmall.Gen.frame m ρ

end Cert.AdamSmallIdeal

end
-- ==== Proof.Dw.SumSmall.lean ====
/- The sum of the eight devices' slabs of loss and small gradients: the kernel and the reference compute one sum over the extended reals. -/
module

public import proofs.«01_k».proof.Defs
public import proofs.«01_k».proof.Proof.Dw.Product
public import proofs.«01_k».proof.Proof.Gen.SumSmall.Frame
public import proofs.«01_k».proof.Proof.Gen.SumSmallIdeal.Frame
public import proofs.«01_k».proof.Proof.Gen.SumSmallReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.Blocks

open Idealize.ShloMosaic

/-- The sum of a stack of matrices. -/
def total {n r c : ℕ} (a : FVec Ideal ⟨3, ![n, r, c]⟩ .f32) : FVec Ideal ⟨2, ![r, c]⟩ .f32 := fun y => ∑ k : Fin n, a (ix3 k (y 0) (y 1))

end Cert.Blocks

namespace Cert.SumSmallReferenceIdeal

open Cert.SumSmallReferenceIdeal.Gen Cert.Product Cert.Blocks
open Idealize.ShloMosaic Idealize.SL.Sem

/-- The reference's sum. -/
theorem total_eq (a : FVec Ideal S8x1304x128 .f32) :
    (Host.reduceAdd a (constant S_ .f32 0x00000000#32) reducesTo_S8x1304x128_S1304x128_d0 h_S_ : FVec Ideal S1304x128 .f32) = total a := by
  refine funext fun y => ?_
  rw [ix2_coords y]
  unfold total
  pointwise

/-- The reference runs and its arguments end unchanged. -/
theorem frame : Cert.quiescent_SumSmallReferenceIdeal := fun m ρ _ =>
  (θ_run defs _ _).mono (fun r h => ⟨fun c => (h c).2, sem_eq_zero_of_no_sems (by decide) r.2⟩) (Value.run (F := Ideal) m ρ)

end Cert.SumSmallReferenceIdeal

namespace Cert.SumSmallIdeal

open Cert.SumSmallIdeal.Gen Cert.Product Cert.Blocks
open Idealize.ShloMosaic Idealize.ShloMosaic.TcCoe Idealize.SL.Sem
open Idealize.ShloMosaic.Pipeline (Dat)

/-- A tile of the sum. -/
theorem out_total (x0 : Vec Ideal S8x8x128 .f32) : out0_1 (F := Ideal) x0 = total x0 := by
  unfold out0_1
  rw [View.canon_unit_zero zeros]
  refine funext fun y => ?_
  rw [ix2_coords y]
  unfold total
  pointwise [k0_pay1]
  rw [Fin.sum_univ_eight]

/-- The input's window stands at the output's rows. -/
theorem index_at : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ) (g : Dev nD → PrngReg) (c : Dev nD)

/-- The eight slabs as launched. -/
abbrev arg0 : FVec Ideal S8x1304x128 .f32 := m ((c.tc : Thread nD τ).loc main_arg0)

/-- The kernel's sum. -/
theorem final_total : (dats m 0 c).arrAt 1 cfg0.N = total (arg0 m c) := by
  refine (dats m 0 c).arrAt_eq_of_covers 1 _ (by decide +kernel) fun t hf y => ?_
  blk_simp
  rw [after0_1, out_total]
  obtain ⟨i0, i1⟩ := index_at t
  have hy := ix2_coords y
  generalize y 0 = u at hy
  generalize y 1 = v at hy
  subst hy
  unfold total
  blk_point [iblk, V, i0, i1]

/-- The run: the sum, the arguments unchanged. -/
theorem run_value : θ_run defs (onTc (τ := τ) (main (F := Ideal))) ⟨m, fun _ => 0, g⟩ fun r => ∀ c : Dev nD,
      r.2.mem ((c.tc : Thread nD τ).loc main_v0) = total (arg0 m c)
      ∧ r.2.mem ((c.tc : Thread nD τ).loc main_arg0) = m ((c.tc : Thread nD τ).loc main_arg0) :=
  (θ_run defs _ _).mono (fun _ h c => ⟨((h.1 c).1 1).trans (final_total m c), h.2 c⟩)
    (θ_run_and (run_main m g) (unchanged m g))

/-- Over the extended reals the kernel and the reference compute the same sum. -/
theorem same_value : Cert.algebraic_SumSmallIdeal_SumSmallReferenceIdeal := fun m g m' g' _ h =>
  ⟨fun c => total (arg0 m c), run_value m g,
    (θ_run Cert.SumSmallReferenceIdeal.defs _ _).mono (fun _ r c => by
      obtain ⟨r0, rest⟩ := r c
      refine ⟨r0.trans ?_, rest⟩
      rw [h c]
      exact Cert.SumSmallReferenceIdeal.total_eq _)
      (Cert.SumSmallReferenceIdeal.Value.run m' g')⟩

/-- The idealized kernel runs, its arguments end unchanged and every semaphore counter reads zero. -/
theorem ideal_frame : Cert.quiescent_SumSmallIdeal := fun m ρ _ => frame m ρ

/-- The printed kernel runs, its arguments end unchanged and every semaphore counter reads zero. -/
theorem kernel_frame : Cert.quiescent_SumSmall := fun m ρ _ => Cert.SumSmall.Gen.frame m ρ

end Cert.SumSmallIdeal

end
-- ==== Proof.Dw.Chips.lean ====
/- The sum over four chips of which one holds its own summand: the chip's number, and the sum as a sum over the chips. -/
module

public import proofs.«01_k».proof.Proof.Dw.Product
public import Idealize.ShloMosaic.Lib.Pipeline.ValueKit
public import Idealize.ShloMosaic.Lib.IdealHost
public import Idealize.ShloMosaic.Init

@[expose] public section

set_option maxRecDepth 16384

noncomputable section

namespace Cert.Chips

open Idealize.ShloMosaic

/-- The word of a chip is one of the four. -/
theorem lt_four (v : BitVec 32) (h0 : IntOp.cmpi .sge v 0#32 = 1#1) (h1 : IntOp.cmpi .slt v 4#32 = 1#1) : v.toNat < 4 := by
  have ofBool_eq_one (p : Bool) : (BitVec.ofBool p = 1#1) ↔ p = true := by cases p <;> decide
  simp only [IntOp.cmpi, ofBool_eq_one, BitVec.sle_eq_decide, BitVec.slt_eq_decide, decide_eq_true_eq,
    BitVec.toInt_eq_toNat_cond, BitVec.toNat_ofNat, Nat.reducePow, Nat.reduceMod] at h0 h1
  omega

/-- An index of a one-element table. -/
theorem idx_one (x y : (⟨1, ![1]⟩ : Shape).Idx) : x = y := funext fun a => by
  fin_cases a
  exact Subsingleton.elim (α := Fin 1) _ _

/-- A choice by a comparison of words. -/
theorem select_word {α : Type} (v w : BitVec 32) (a b : α) : Scalar.select (Scalar.cmpi .eq v w) a b = if v = w then a else b := by
  by_cases h : v = w
  · subst h; simp [Scalar.select, Scalar.cmpi, IntOp.cmpi]
  · simp [Scalar.select, Scalar.cmpi, IntOp.cmpi, h, beq_eq_false_iff_ne.mpr h]

/-- Of the four summands of an entry, a chip takes its own from `ps` and the others' from `rx`. -/
def summand (v : BitVec 32) (ps rx : Fin 4 → EReal) (k : Fin 4) : EReal := if v = BitVec.ofNat 32 k.val then ps k else rx k

variable {r c : ℕ}

/-- The sum over the four chips. -/
def gathered (v : BitVec 32) (ps rx : FVec Ideal ⟨3, ![4, r, c]⟩ .bf16) : FVec Ideal ⟨2, ![r, c]⟩ .f32 :=
  fun y => ∑ k : Fin 4, summand v (fun k => ps (ix3 k (y 0) (y 1))) (fun k => rx (ix3 k (y 0) (y 1))) k

/-- … of a tile, the chip's own summand given alone. -/
def gatheredTile (v : BitVec 32) (ps : FVec Ideal ⟨3, ![1, r, c]⟩ .bf16) (rx : FVec Ideal ⟨3, ![4, r, c]⟩ .bf16) : FVec Ideal ⟨2, ![r, c]⟩ .f32 :=
  fun y => ∑ k : Fin 4, summand v (fun _ => ps (ix3 0 (y 0) (y 1))) (fun k => rx (ix3 k (y 0) (y 1))) k

/-- An index whose second coordinate lies below one. -/
theorem start_two (f : Fin 2 → ℕ) (h : f 1 < 1) (a : Fin 2) : (![f 0, 0] : Fin 2 → ℕ) a = f a :=
  match a with
  | 0 => rfl
  | 1 => (Nat.lt_one_iff.mp h).symm

/-- A function of two, three or four arguments at equal ones. -/
theorem equal_two {α β ε : Type} (f : α → β → ε) {a a' : α} {b b' : β} (h : a = a') (i : b = b') : f a b = f a' b' := by
  subst h i; rfl

theorem equal_three {α β γ ε : Type} (f : α → β → γ → ε) {a a' : α} {b b' : β} {c c' : γ} (h : a = a') (i : b = b') (j : c = c') : f a b c = f a' b' c' := by
  subst h i j; rfl

theorem equal_four {α β γ δ ε : Type} (f : α → β → γ → δ → ε) {a a' : α} {b b' : β} {c c' : γ} {d d' : δ} (h : a = a') (i : b = b') (j : c = c') (k : d = d') :
    f a b c d = f a' b' c' d' := by
  subst h i j k; rfl

end Cert.Chips

end
-- ==== Proof.Dw.SumAttn.lean ====
/- The sum over the four chips of the gradient of the attention's output projection: the kernel and the reference compute one sum over the extended reals. -/
module

public import proofs.«01_k».proof.Defs
public import proofs.«01_k».proof.Proof.Dw.Product
public import proofs.«01_k».proof.Proof.Dw.Gate
public import proofs.«01_k».proof.Proof.Dw.Chips
public import proofs.«01_k».proof.Proof.Gen.Pre_chip_for_attn
public import proofs.«01_k».proof.Proof.Gen.SumAttn.Frame
public import proofs.«01_k».proof.Proof.Gen.SumAttnIdeal.Frame
public import proofs.«01_k».proof.Proof.Gen.SumAttnReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.SumAttn

open Cert.SumAttn.Gen Cert.Chips
open Idealize.ShloMosaic Idealize.ShloMosaic.TcCoe Idealize.SL.Sem

/-- Under the precondition the block of the chip's own summand lies inside its array. -/
theorem ok_of_pre (m : (ℓ : Loc nD τ sig) → Buf (Elt Bits) ℓ) (h : Cert.Pre_SumAttn m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_attn.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 2 := hi; omega : ((i 0).val + 1) * 256 ≤ 512)
  | 2 => exact (by decide : (0 + 1) * 2048 ≤ 2048)

end Cert.SumAttn

namespace Cert.SumAttnReferenceIdeal

open Cert.SumAttnReferenceIdeal.Gen Cert.Product Cert.Chips
open Idealize.ShloMosaic Idealize.ShloMosaic.ValueKit Idealize.SL.Sem

/-- The reference's sum over the chips, the own summand chosen by a comparison with the chip's number. -/
theorem gathered_eq (v : IVec S1 32) (ps rx : FVec Ideal S4x512x2048 .bf16) :
    (Host.reduceAdd (select (broadcastInDim S4x512x2048 ![0, 1, 2] bcast_S4x1x1_S4x512x2048_0_1_2 (cmpi .eq (shapeCast _ (iotaInDim S4 32 0) shapeCasts_S4_S4x1x1) (broadcastInDim S4x1x1 ![0, 1, 2] bcast_S1x1x1_S4x1x1_0_1_2 (broadcastInDim S1x1x1 ![2] bcast_S1_S1x1x1_2 v)))) (extf .f32 ps bitsLt_bf16_f32) (extf .f32 rx bitsLt_bf16_f32)) (constant S_ .f32 0x00000000#32) reducesTo_S4x512x2048_S512x2048_d0 h_S_ : FVec Ideal S512x2048 .f32)
      = gathered (v (ix1 0)) ps rx := by
  refine funext fun y => ?_
  rw [ix2_coords y]
  generalize y 0 = u
  generalize y 1 = w
  unfold gathered summand
  pointwise
  exact Finset.sum_congr rfl fun k _ => (select_word _ _ _ _).trans (if_congr eq_comm rfl rfl)

/-- The reference runs and its arguments end unchanged. -/
theorem frame : Cert.quiescent_SumAttnReferenceIdeal := fun m ρ _ =>
  (θ_run defs _ _).mono (fun r h => ⟨fun c => (h c).2, sem_eq_zero_of_no_sems (by decide) r.2⟩) (Value.run (F := Ideal) m ρ)

theorem frame_pre : Cert.quiescent_SumAttnReferenceIdeal_pre_chip_for_attn := fun m ρ _ =>
  (θ_run defs _ _).mono (fun r h => ⟨fun c => (h c).2, sem_eq_zero_of_no_sems (by decide) r.2⟩) (Value.run (F := Ideal) m ρ)

end Cert.SumAttnReferenceIdeal

namespace Cert.SumAttnIdeal

open Cert.SumAttnIdeal.Gen Cert.Product Cert.Chips
open Idealize.ShloMosaic Idealize.ShloMosaic.TcCoe Idealize.SL.Sem
open Idealize.ShloMosaic.Pipeline (Dat)

/-- Under the precondition the block of the chip's own summand lies inside its array. -/
theorem ok_of_pre (m : (ℓ : Loc nD τ sig) → Buf (Elt Ideal) ℓ) (h : Cert.Pre_SumAttnIdeal m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_attn.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 2 := hi; omega : ((i 0).val + 1) * 256 ≤ 512)
  | 2 => exact (by decide : (0 + 1) * 2048 ≤ 2048)

/-- A tile of the sum. -/
theorem grad_tile (v : BitVec 32) (x0 : Vec Ideal S1x256x2048 .bf16) (x1 : Vec Ideal S4x256x2048 .bf16) :
    k0_pay1 (F := Ideal) v x0
      (View.ld x1 (Rect.unit ![0, 0, 0] ![1, 256, 2048] inb_S4x256x2048_S1x256x2048_0_0_0))
      (View.ld x1 (Rect.unit ![1, 0, 0] ![1, 256, 2048] inb_S4x256x2048_S1x256x2048_1_0_0))
      (View.ld x1 (Rect.unit ![2, 0, 0] ![1, 256, 2048] inb_S4x256x2048_S1x256x2048_2_0_0))
      (View.ld x1 (Rect.unit ![3, 0, 0] ![1, 256, 2048] inb_S4x256x2048_S1x256x2048_3_0_0)) = gatheredTile v x0 x1 := by
  refine funext fun y => ?_
  rw [ix2_coords y]
  unfold gatheredTile summand
  pointwise [k0_pay1]
  simp only [select_word]
  rw [Fin.sum_univ_four]
  rfl

/-- The windows whose blocks do not depend on the chip, and the point's coordinate. -/
theorem index_at : ∀ t : Fin grid0.N, cc0_transform_1 (grid0.coords t) = ![0, t.val, 0] ∧ cc0_transform_2 (grid0.coords t) = ![t.val, 0]
    ∧ (grid0.coords t 0).val = t.val := by decide +kernel

variable (m : (ℓ : Loc nD τ sig) → Buf (Elt Ideal) ℓ) (g : Dev nD → PrngReg) (c : Dev nD) (hO : Ok m)

/-- The chip's number, its own summands and the received ones as launched. -/
abbrev word : BitVec 32 := m ((c.tc : Thread nD τ).loc main_arg0) (ix1 0)
abbrev arg1 : FVec Ideal S4x512x2048 .bf16 := m ((c.tc : Thread nD τ).loc main_arg1)
abbrev arg2 : FVec Ideal S4x512x2048 .bf16 := m ((c.tc : Thread nD τ).loc main_arg2)

/-- The table's one word is the chip's number. -/
theorem table_word : (tbl m).at 0 (Rect.unit ![0] S1.size inb_S1_S1_0) numel1_S1 = word m c := by
  obtain rfl : c = 0 := Subsingleton.elim _ _
  exact congrArg (tbl m 0) (idx_one _ _)

theorem out_grad (t : Fin (cfgM m hO).N) : outsAt0 m hO c t = gatheredTile (word m c) (iblk m hO c 0 t) (iblk m hO c 1 t) := by
  unfold outsAt0
  frame_out
  exact (grad_tile _ _ _).trans (equal_three gatheredTile (table_word m c) ((hs0_0 m hO t).read_unread _) ((hs0_1 m hO t).read_unread _))

theorem index0 (t : Fin (cfgM m hO).N) : ((cfgM m hO).win 0).index t = ![(word m c).toNat, t.val, 0] := by
  show cc0_transform_0 inb_S1_S1_0 numel1_S1 (tbl m) (grid0.coords t) = _
  have h : (grid0.coords t 0).val = t.val := (index_at t).2.2
  refine congrArg₂ (fun a b : ℕ => (![a, b, 0] : Fin 3 → ℕ)) (congrArg BitVec.toNat (table_word m c)) ?_
  exact (BitVec.toNat_ofNat _ _).trans ((Nat.mod_eq_of_lt (h ▸ lt_trans t.isLt (by decide : grid0.N < 2 ^ 32))).trans h)

/-- Row `u` of the block at point `t`. -/
def row (t : Fin grid0.N) (u : Fin 256) : Fin 512 := ⟨t.val * 256 + u.val, by have h : t.val < 2 := t.isLt; omega⟩

/-- A block's index, its size and the place in the block give the place in the array. -/
theorem place (t : Fin grid0.N) (u : Fin 256) (v : Fin 2048) (a : Fin 2) : (![t.val, 0] : Fin 2 → ℕ) a * S256x2048.size a + (ix2 (n0 := 256) (n1 := 2048) u v a).val
    = (ix2 (n0 := 512) (n1 := 2048) (row t u) v a).val :=
  match a with
  | 0 => rfl
  | 1 => (by omega : 0 * 2048 + v.val = v.val)

theorem place_own (t : Fin grid0.N) (k : Fin 4) (u : Fin 256) (v : Fin 2048) (a : Fin 3) : (![k.val, t.val, 0] : Fin 3 → ℕ) a * S1x256x2048.size a + (ix3 (n0 := 1) (n1 := 256) (n2 := 2048) 0 u v a).val
    = (ix3 (n0 := 4) (n1 := 512) (n2 := 2048) k (row t u) v a).val :=
  match a with
  | 0 => (by omega : k.val * 1 + 0 = k.val)
  | 1 => rfl
  | 2 => (by omega : 0 * 2048 + v.val = v.val)

theorem place_all (t : Fin grid0.N) (k : Fin 4) (u : Fin 256) (v : Fin 2048) (a : Fin 3) : (![0, t.val, 0] : Fin 3 → ℕ) a * S4x256x2048.size a + (ix3 (n0 := 4) (n1 := 256) (n2 := 2048) k u v a).val
    = (ix3 (n0 := 4) (n1 := 512) (n2 := 2048) k (row t u) v a).val :=
  match a with
  | 0 => (by omega : 0 * 4 + k.val = k.val)
  | 1 => rfl
  | 2 => (by omega : 0 * 2048 + v.val = v.val)

variable (t : Fin (cfgM m hO).N)

/-- Where the blocks lie in their arrays. -/
theorem emb0 (k : Fin 4) (h : (word m c).toNat = k.val) (u : Fin 256) (v : Fin 2048) :
    (((cfgM m hO).win 0).blk t).view.emb (ix3 (n0 := 1) (n1 := 256) (n2 := 2048) 0 u v) = ix3 (n0 := 4) (n1 := 512) (n2 := 2048) k (row t u) v := by
  refine funext fun a => Fin.ext ?_
  refine (Pipeline.Window.rect_emb_val ((cfgM m hO).win 0) t _ a).trans ?_
  rw [index0 m c hO t, h]
  exact place_own t k u v a

theorem emb1 (k : Fin 4) (u : Fin 256) (v : Fin 2048) :
    (((cfgM m hO).win 1).blk t).view.emb (ix3 (n0 := 4) (n1 := 256) (n2 := 2048) k u v) = ix3 (n0 := 4) (n1 := 512) (n2 := 2048) k (row t u) v := by
  refine funext fun a => Fin.ext ?_
  refine (Pipeline.Window.rect_emb_val ((cfgM m hO).win 1) t _ a).trans ?_
  rw [show ((cfgM m hO).win 1).index t = ![0, t.val, 0] from (index_at t).1]
  exact place_all t k u v a

theorem emb2 (u : Fin 256) (v : Fin 2048) :
    (((cfgM m hO).win 2).blk t).view.emb (ix2 (n0 := 256) (n1 := 2048) u v) = ix2 (n0 := 512) (n1 := 2048) (row t u) v := by
  refine funext fun a => Fin.ext ?_
  refine (Pipeline.Window.rect_emb_val ((cfgM m hO).win 2) t _ a).trans ?_
  rw [show ((cfgM m hO).win 2).index t = ![t.val, 0] from (index_at t).2.1]
  exact place t u v a

/-- The blocks cover the array. -/
theorem covers2 : ((cfgM m hO).win 2).Covers := by
  refine ⟨(by decide : ∀ a : Fin 2, 0 < S256x2048.size a), fun β => ?_⟩
  have b0 : (β (0 : Fin 2)).val < grid0.N := lt_of_lt_of_le (β (0 : Fin 2)).isLt (by decide : (512 + 256 - 1) / 256 ≤ grid0.N)
  have b1 : (β (1 : Fin 2)).val < 1 := lt_of_lt_of_le (β (1 : Fin 2)).isLt (by decide : (2048 + 2048 - 1) / 2048 ≤ 1)
  refine ⟨⟨_, b0⟩, flush0_2 _ _, fun a => ⟨?_, .inl rfl⟩⟩
  rw [show ((cfgM m hO).win 2).index ⟨_, b0⟩ = ![(β (0 : Fin 2)).val, 0] from (index_at ⟨_, b0⟩).2.1]
  exact start_two (fun a : Fin 2 => (β a).val) b1 a

/-- A tile's sum is the array's. -/
theorem grad_point (u : Fin 256) (v : Fin 2048) :
    gatheredTile (word m c) (iblk m hO c 0 t) (iblk m hO c 1 t) (ix2 u v) = gathered (word m c) (arg1 m c) (arg2 m c) (ix2 (row t u) v) := by
  refine Finset.sum_congr rfl fun k _ => ?_
  unfold summand
  by_cases h : word m c = BitVec.ofNat 32 k.val
  · refine (if_pos h).trans (Eq.trans ?_ (if_pos h).symm)
    have hk : (word m c).toNat = k.val := by
      rw [h, BitVec.toNat_ofNat]
      exact Nat.mod_eq_of_lt (lt_trans k.isLt (by decide))
    exact congrArg (arg1 m c) (emb0 m c hO t k hk u v)
  · refine (if_neg h).trans (Eq.trans ?_ (if_neg h).symm)
    exact congrArg (arg2 m c) (emb1 m hO t k u v)

/-- The kernel's sum. -/
theorem final_grad : (dats m hO 0 c).arrAt 2 (cfgM m hO).N = gathered (word m c) (arg1 m c) (arg2 m c) := by
  refine (dats m hO 0 c).arrAt_eq_of_covers 2 _ (covers2 m hO) fun t hf (y : S256x2048.Idx) => ?_
  obtain ⟨u, v, rfl⟩ : ∃ u v, y = ix2 u v := ⟨_, _, ix2_coords y⟩
  rw [emb2 m hO t u v]
  refine (congrFun ((after0_2 m hO c t).trans (out_grad m c hO t)) (ix2 u v)).trans ?_
  exact grad_point m c hO t u v

include hO in
/-- The run: the sum, the arguments unchanged. -/
theorem run_value : θ_run defs (onTc (τ := τ) (main (F := Ideal))) ⟨m, fun _ => 0, g⟩ fun r => ∀ c : Dev nD,
      r.2.mem ((c.tc : Thread nD τ).loc main_v0) = gathered (word m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 2).trans (final_grad m c hO), h.2 c⟩)
    (θ_run_and (run_main m g hO) (unchanged m g hO))

/-- Over the extended reals the kernel and the reference compute the same sum. -/
theorem same_value : Cert.algebraic_SumAttnIdeal_SumAttnReferenceIdeal := fun m g m' g' hpre h =>
  ⟨fun c => gathered (word m c) (arg1 m c) (arg2 m c), run_value m g (ok_of_pre m hpre),
    (θ_run Cert.SumAttnReferenceIdeal.defs _ _).mono (fun _ r c => by
      obtain ⟨h0, h1, h2⟩ := h c
      obtain ⟨r0, rest⟩ := r c
      refine ⟨r0.trans ?_, rest⟩
      rw [h0, h1, h2]
      exact Cert.SumAttnReferenceIdeal.gathered_eq _ _ _)
      (Cert.SumAttnReferenceIdeal.Value.run m' g')⟩

/-- The idealized kernel runs, its arguments end unchanged and every semaphore counter reads zero. -/
theorem ideal_frame : Cert.quiescent_SumAttnIdeal := fun m ρ h => frame m ρ (ok_of_pre m h)

/-- The printed kernel runs, its arguments end unchanged and every semaphore counter reads zero. -/
theorem kernel_frame : Cert.quiescent_SumAttn := fun m ρ h => Cert.SumAttn.Gen.frame m ρ (Cert.SumAttn.ok_of_pre m h)

end Cert.SumAttnIdeal

end
-- ==== Proof.Dw.StepDown.lean ====
/- The sum over the four chips of the MLP down projection's gradient and its AdamW update: the kernel and the reference compute one gradient and one step over the extended reals. -/
module

public import proofs.«01_k».proof.Defs
public import proofs.«01_k».proof.Proof.Dw.Product
public import proofs.«01_k».proof.Proof.Dw.Gate
public import proofs.«01_k».proof.Proof.Dw.Moments
public import proofs.«01_k».proof.Proof.Dw.Chips
public import proofs.«01_k».proof.Proof.Gen.Pre_chip_for_down
public import proofs.«01_k».proof.Proof.Gen.StepDown.Frame
public import proofs.«01_k».proof.Proof.Gen.StepDownIdeal.Frame
public import proofs.«01_k».proof.Proof.Gen.StepDownReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.StepDown

open Cert.StepDown.Gen Cert.Chips
open Idealize.ShloMosaic Idealize.ShloMosaic.TcCoe Idealize.SL.Sem

/-- Under the precondition the block of the chip's own summand lies inside its array. -/
theorem ok_of_pre (m : (ℓ : Loc nD τ sig) → Buf (Elt Bits) ℓ) (h : Cert.Pre_StepDown m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_down.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 43 := hi; omega : ((i 0).val + 1) * 32 ≤ 1376)
  | 2 => exact (by decide : (0 + 1) * 4096 ≤ 4096)

end Cert.StepDown

namespace Cert.StepDownReferenceIdeal

open Cert.StepDownReferenceIdeal.Gen Cert.Product Cert.Moments Cert.Chips
open Idealize.ShloMosaic Idealize.ShloMosaic.ValueKit Idealize.SL.Sem

/-- The reference's gradient: the sum over the chips, the own summand chosen by a comparison with the chip's number. -/
theorem gathered_eq (v : IVec S1 32) (ps rx : FVec Ideal S4x1376x4096 .bf16) :
    (Host.reduceAdd (select (broadcastInDim S4x1376x4096 ![0, 1, 2] bcast_S4x1x1_S4x1376x4096_0_1_2 (cmpi .eq (shapeCast _ (iotaInDim S4 32 0) shapeCasts_S4_S4x1x1) (broadcastInDim S4x1x1 ![0, 1, 2] bcast_S1x1x1_S4x1x1_0_1_2 (broadcastInDim S1x1x1 ![2] bcast_S1_S1x1x1_2 v)))) (extf .f32 ps bitsLt_bf16_f32) (extf .f32 rx bitsLt_bf16_f32)) (constant S_ .f32 0x00000000#32) reducesTo_S4x1376x4096_S1376x4096_d0 h_S_ : FVec Ideal S1376x4096 .f32)
      = gathered (v (ix1 0)) ps rx := by
  refine funext fun y => ?_
  rw [ix2_coords y]
  generalize y 0 = u
  generalize y 1 = w
  unfold gathered summand
  pointwise
  exact Finset.sum_congr rfl fun k _ => (select_word _ _ _ _).trans (if_congr eq_comm rfl rfl)

variable (p g a b : FVec Ideal S1376x4096 .f32)

/-- The reference's first moment. -/
theorem first_eq : (addf (mulf (broadcastInDim S1376x4096 ![] bcast_S_S1376x4096 (constant S_ .f32 0x3F666666#32)) a) (mulf (broadcastInDim S1376x4096 ![] bcast_S_S1376x4096 (constant S_ .f32 0x3DCCCCCD#32)) g) : FVec Ideal S1376x4096 .f32) = first g a := by
  refine funext fun y => ?_
  rw [ix2_coords y]
  unfold first firstOf
  pointwise

/-- The reference's second moment. -/
theorem second_eq : (addf (mulf (broadcastInDim S1376x4096 ![] bcast_S_S1376x4096 (constant S_ .f32 0x3F7FBE77#32)) b) (mulf (broadcastInDim S1376x4096 ![] bcast_S_S1376x4096 (constant S_ .f32 0x3A83126F#32)) (mulf g g)) : FVec Ideal S1376x4096 .f32) = second g b := by
  refine funext fun y => ?_
  rw [ix2_coords y]
  unfold second secondOf
  pointwise

/-- The reference's step. -/
theorem step_eq : (mulf (broadcastInDim S1376x4096 ![] bcast_S_S1376x4096 (constant S_ .f32 0xBA83126F#32)) (addf (Host.divf (Host.divf (addf (mulf (broadcastInDim S1376x4096 ![] bcast_S_S1376x4096 (constant S_ .f32 0x3F666666#32)) a) (mulf (broadcastInDim S1376x4096 ![] bcast_S_S1376x4096 (constant S_ .f32 0x3DCCCCCD#32)) g)) (broadcastInDim S1376x4096 ![] bcast_S_S1376x4096 (constant S_ .f32 0x3F26BD02#32))) (addf (Host.sqrt (Host.divf (addf (mulf (broadcastInDim S1376x4096 ![] bcast_S_S1376x4096 (constant S_ .f32 0x3F7FBE77#32)) b) (mulf (broadcastInDim S1376x4096 ![] bcast_S_S1376x4096 (constant S_ .f32 0x3A83126F#32)) (mulf g g))) (broadcastInDim S1376x4096 ![] bcast_S_S1376x4096 (constant S_ .f32 0x3C231ACC#32)))) (broadcastInDim S1376x4096 ![] bcast_S_S1376x4096 (constant S_ .f32 0x322BCC77#32)))) (mulf (broadcastInDim S1376x4096 ![] bcast_S_S1376x4096 (constant S_ .f32 0x3C23D70A#32)) p)) : FVec Ideal S1376x4096 .f32) = step p g a b := by
  refine funext fun y => ?_
  rw [ix2_coords y]
  unfold step stepOf firstOf secondOf
  pointwise

/-- The reference runs and its arguments end unchanged. -/
theorem frame : Cert.quiescent_StepDownReferenceIdeal := fun m ρ _ =>
  (θ_run defs _ _).mono (fun r h => ⟨fun c => (h c).2.2.2.2, sem_eq_zero_of_no_sems (by decide) r.2⟩) (Value.run (F := Ideal) m ρ)

theorem frame_pre : Cert.quiescent_StepDownReferenceIdeal_pre_chip_for_down := fun m ρ _ =>
  (θ_run defs _ _).mono (fun r h => ⟨fun c => (h c).2.2.2.2, sem_eq_zero_of_no_sems (by decide) r.2⟩) (Value.run (F := Ideal) m ρ)

end Cert.StepDownReferenceIdeal

namespace Cert.StepDownIdeal

open Cert.StepDownIdeal.Gen Cert.Product Cert.Moments Cert.Chips
open Idealize.ShloMosaic Idealize.ShloMosaic.TcCoe Idealize.SL.Sem
open Idealize.ShloMosaic.Pipeline (Dat)

/-- Under the precondition the block of the chip's own summand lies inside its array. -/
theorem ok_of_pre (m : (ℓ : Loc nD τ sig) → Buf (Elt Ideal) ℓ) (h : Cert.Pre_StepDownIdeal m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_down.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 43 := hi; omega : ((i 0).val + 1) * 32 ≤ 1376)
  | 2 => exact (by decide : (0 + 1) * 4096 ≤ 4096)

/-- A tile of the gradient, of the two moments and of the step. -/
theorem grad_tile (v : BitVec 32) (x0 : Vec Ideal S1x32x4096 .bf16) (x1 : Vec Ideal S4x32x4096 .bf16) :
    k0_pay4 (F := Ideal) v x0
      (View.ld x1 (Rect.unit ![0, 0, 0] ![1, 32, 4096] inb_S4x32x4096_S1x32x4096_0_0_0))
      (View.ld x1 (Rect.unit ![1, 0, 0] ![1, 32, 4096] inb_S4x32x4096_S1x32x4096_1_0_0))
      (View.ld x1 (Rect.unit ![2, 0, 0] ![1, 32, 4096] inb_S4x32x4096_S1x32x4096_2_0_0))
      (View.ld x1 (Rect.unit ![3, 0, 0] ![1, 32, 4096] inb_S4x32x4096_S1x32x4096_3_0_0)) = gatheredTile v x0 x1 := by
  refine funext fun y => ?_
  rw [ix2_coords y]
  unfold gatheredTile summand
  pointwise [k0_pay4]
  simp only [select_word]
  rw [Fin.sum_univ_four]
  rfl

variable (x : FVec Ideal S32x4096 .f32) (x2 x3 x4 : Vec Ideal S32x4096 .f32)

theorem first_tile : k0_pay1 (F := Ideal) x x3 = first x x3 := by
  refine funext fun y => ?_
  rw [ix2_coords y]
  unfold first firstOf
  pointwise [k0_pay1]

theorem second_tile : k0_pay2 (F := Ideal) x x4 = second x x4 := by
  refine funext fun y => ?_
  rw [ix2_coords y]
  unfold second secondOf
  pointwise [k0_pay2]

theorem step_tile : k0_pay3 (F := Ideal) x x2 x3 x4 = step x2 x x3 x4 := by
  refine funext fun y => ?_
  rw [ix2_coords y]
  unfold step stepOf firstOf secondOf
  pointwise [k0_pay1, k0_pay2, k0_pay3]

/-- The windows whose blocks do not depend on the chip, and the point's coordinate. -/
theorem index_at : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]
    ∧ (grid0.coords t 0).val = t.val := by decide +kernel

variable (m : (ℓ : Loc nD τ sig) → Buf (Elt Ideal) ℓ) (g : Dev nD → PrngReg) (c : Dev nD) (hO : Ok m)

/-- The chip's number, its own summands, the received ones, the weight and its two moments as launched. -/
abbrev word : BitVec 32 := m ((c.tc : Thread nD τ).loc main_arg0) (ix1 0)
abbrev arg1 : FVec Ideal S4x1376x4096 .bf16 := m ((c.tc : Thread nD τ).loc main_arg1)
abbrev arg2 : FVec Ideal S4x1376x4096 .bf16 := m ((c.tc : Thread nD τ).loc main_arg2)
abbrev arg3 : FVec Ideal S1376x4096 .f32 := m ((c.tc : Thread nD τ).loc main_arg3)
abbrev arg4 : FVec Ideal S1376x4096 .f32 := m ((c.tc : Thread nD τ).loc main_arg4)
abbrev arg5 : FVec Ideal S1376x4096 .f32 := m ((c.tc : Thread nD τ).loc main_arg5)

/-- The table's one word is the chip's number. -/
theorem table_word : (tbl m).at 0 (Rect.unit ![0] S1.size inb_S1_S1_0) numel1_S1 = word m c := by
  obtain rfl : c = 0 := Subsingleton.elim _ _
  exact congrArg (tbl m 0) (idx_one _ _)

theorem out_grad (t : Fin (cfgM m hO).N) : (outsAt0 m hO c t).1 = gatheredTile (word m c) (iblk m hO c 0 t) (iblk m hO c 1 t) := by
  unfold outsAt0
  frame_out
  exact (grad_tile _ _ _).trans (equal_three gatheredTile (table_word m c) ((hs0_0 m hO t).read_unread _) ((hs0_1 m hO t).read_unread _))

theorem out_step (t : Fin (cfgM m hO).N) : (outsAt0 m hO c t).2.1
    = step (iblk m hO c 2 t : FVec Ideal S32x4096 .f32) (gatheredTile (word m c) (iblk m hO c 0 t) (iblk m hO c 1 t)) (iblk m hO c 3 t) (iblk m hO c 4 t) := by
  unfold outsAt0
  frame_out
  exact (step_tile _ _ _ _).trans (equal_four step ((hs0_2 m hO t).read_unread _) ((grad_tile _ _ _).trans (equal_three gatheredTile (table_word m c) ((hs0_0 m hO t).read_unread _) ((hs0_1 m hO t).read_unread _))) ((hs0_3 m hO t).read_unread _) ((hs0_4 m hO t).read_unread _))

theorem out_first (t : Fin (cfgM m hO).N) : (outsAt0 m hO c t).2.2.1
    = first (gatheredTile (word m c) (iblk m hO c 0 t) (iblk m hO c 1 t)) (iblk m hO c 3 t) := by
  unfold outsAt0
  frame_out
  exact (first_tile _ _).trans (equal_two first ((grad_tile _ _ _).trans (equal_three gatheredTile (table_word m c) ((hs0_0 m hO t).read_unread _) ((hs0_1 m hO t).read_unread _))) ((hs0_3 m hO t).read_unread _))

theorem out_second (t : Fin (cfgM m hO).N) : (outsAt0 m hO c t).2.2.2
    = second (gatheredTile (word m c) (iblk m hO c 0 t) (iblk m hO c 1 t)) (iblk m hO c 4 t) := by
  unfold outsAt0
  frame_out
  exact (second_tile _ _).trans (equal_two second ((grad_tile _ _ _).trans (equal_three gatheredTile (table_word m c) ((hs0_0 m hO t).read_unread _) ((hs0_1 m hO t).read_unread _))) ((hs0_4 m hO t).read_unread _))

theorem index0 (t : Fin (cfgM m hO).N) : ((cfgM m hO).win 0).index t = ![(word m c).toNat, t.val, 0] := by
  show cc0_transform_0 inb_S1_S1_0 numel1_S1 (tbl m) (grid0.coords t) = _
  have h : (grid0.coords t 0).val = t.val := (index_at t).2.2.2.2.2.2.2.2
  refine congrArg₂ (fun a b : ℕ => (![a, b, 0] : Fin 3 → ℕ)) (congrArg BitVec.toNat (table_word m c)) ?_
  exact (BitVec.toNat_ofNat _ _).trans ((Nat.mod_eq_of_lt (h ▸ lt_trans t.isLt (by decide : grid0.N < 2 ^ 32))).trans h)

/-- Row `u` of the block at point `t`. -/
def row (t : Fin grid0.N) (u : Fin 32) : Fin 1376 := ⟨t.val * 32 + u.val, by have h : t.val < 43 := t.isLt; omega⟩

/-- A block's index, its size and the place in the block give the place in the array. -/
theorem place (t : Fin grid0.N) (u : Fin 32) (v : Fin 4096) (a : Fin 2) : (![t.val, 0] : Fin 2 → ℕ) a * S32x4096.size a + (ix2 (n0 := 32) (n1 := 4096) u v a).val
    = (ix2 (n0 := 1376) (n1 := 4096) (row t u) v a).val :=
  match a with
  | 0 => rfl
  | 1 => (by omega : 0 * 4096 + v.val = v.val)

theorem place_own (t : Fin grid0.N) (k : Fin 4) (u : Fin 32) (v : Fin 4096) (a : Fin 3) : (![k.val, t.val, 0] : Fin 3 → ℕ) a * S1x32x4096.size a + (ix3 (n0 := 1) (n1 := 32) (n2 := 4096) 0 u v a).val
    = (ix3 (n0 := 4) (n1 := 1376) (n2 := 4096) k (row t u) v a).val :=
  match a with
  | 0 => (by omega : k.val * 1 + 0 = k.val)
  | 1 => rfl
  | 2 => (by omega : 0 * 4096 + v.val = v.val)

theorem place_all (t : Fin grid0.N) (k : Fin 4) (u : Fin 32) (v : Fin 4096) (a : Fin 3) : (![0, t.val, 0] : Fin 3 → ℕ) a * S4x32x4096.size a + (ix3 (n0 := 4) (n1 := 32) (n2 := 4096) k u v a).val
    = (ix3 (n0 := 4) (n1 := 1376) (n2 := 4096) k (row t u) v a).val :=
  match a with
  | 0 => (by omega : 0 * 4 + k.val = k.val)
  | 1 => rfl
  | 2 => (by omega : 0 * 4096 + v.val = v.val)

variable (t : Fin (cfgM m hO).N)

/-- Where the blocks lie in their arrays. -/
theorem emb0 (k : Fin 4) (h : (word m c).toNat = k.val) (u : Fin 32) (v : Fin 4096) :
    (((cfgM m hO).win 0).blk t).view.emb (ix3 (n0 := 1) (n1 := 32) (n2 := 4096) 0 u v) = ix3 (n0 := 4) (n1 := 1376) (n2 := 4096) k (row t u) v := by
  refine funext fun a => Fin.ext ?_
  refine (Pipeline.Window.rect_emb_val ((cfgM m hO).win 0) t _ a).trans ?_
  rw [index0 m c hO t, h]
  exact place_own t k u v a

theorem emb1 (k : Fin 4) (u : Fin 32) (v : Fin 4096) :
    (((cfgM m hO).win 1).blk t).view.emb (ix3 (n0 := 4) (n1 := 32) (n2 := 4096) k u v) = ix3 (n0 := 4) (n1 := 1376) (n2 := 4096) k (row t u) v := by
  refine funext fun a => Fin.ext ?_
  refine (Pipeline.Window.rect_emb_val ((cfgM m hO).win 1) t _ a).trans ?_
  rw [show ((cfgM m hO).win 1).index t = ![0, t.val, 0] from (index_at t).1]
  exact place_all t k u v a

theorem emb2 (u : Fin 32) (v : Fin 4096) :
    (((cfgM m hO).win 2).blk t).view.emb (ix2 (n0 := 32) (n1 := 4096) u v) = ix2 (n0 := 1376) (n1 := 4096) (row t u) v := by
  refine funext fun a => Fin.ext ?_
  refine (Pipeline.Window.rect_emb_val ((cfgM m hO).win 2) t _ a).trans ?_
  rw [show ((cfgM m hO).win 2).index t = ![t.val, 0] from (index_at t).2.1]
  exact place t u v a

theorem emb3 (u : Fin 32) (v : Fin 4096) :
    (((cfgM m hO).win 3).blk t).view.emb (ix2 (n0 := 32) (n1 := 4096) u v) = ix2 (n0 := 1376) (n1 := 4096) (row t u) v := by
  refine funext fun a => Fin.ext ?_
  refine (Pipeline.Window.rect_emb_val ((cfgM m hO).win 3) t _ a).trans ?_
  rw [show ((cfgM m hO).win 3).index t = ![t.val, 0] from (index_at t).2.2.1]
  exact place t u v a

theorem emb4 (u : Fin 32) (v : Fin 4096) :
    (((cfgM m hO).win 4).blk t).view.emb (ix2 (n0 := 32) (n1 := 4096) u v) = ix2 (n0 := 1376) (n1 := 4096) (row t u) v := by
  refine funext fun a => Fin.ext ?_
  refine (Pipeline.Window.rect_emb_val ((cfgM m hO).win 4) t _ a).trans ?_
  rw [show ((cfgM m hO).win 4).index t = ![t.val, 0] from (index_at t).2.2.2.1]
  exact place t u v a

theorem emb5 (u : Fin 32) (v : Fin 4096) :
    (((cfgM m hO).win 5).blk t).view.emb (ix2 (n0 := 32) (n1 := 4096) u v) = ix2 (n0 := 1376) (n1 := 4096) (row t u) v := by
  refine funext fun a => Fin.ext ?_
  refine (Pipeline.Window.rect_emb_val ((cfgM m hO).win 5) t _ a).trans ?_
  rw [show ((cfgM m hO).win 5).index t = ![t.val, 0] from (index_at t).2.2.2.2.1]
  exact place t u v a

/-- The blocks cover the array. -/
theorem covers5 : ((cfgM m hO).win 5).Covers := by
  refine ⟨(by decide : ∀ a : Fin 2, 0 < S32x4096.size a), fun β => ?_⟩
  have b0 : (β (0 : Fin 2)).val < grid0.N := lt_of_lt_of_le (β (0 : Fin 2)).isLt (by decide : (1376 + 32 - 1) / 32 ≤ grid0.N)
  have b1 : (β (1 : Fin 2)).val < 1 := lt_of_lt_of_le (β (1 : Fin 2)).isLt (by decide : (4096 + 4096 - 1) / 4096 ≤ 1)
  refine ⟨⟨_, b0⟩, flush0_5 _ _, fun a => ⟨?_, .inl rfl⟩⟩
  rw [show ((cfgM m hO).win 5).index ⟨_, b0⟩ = ![(β (0 : Fin 2)).val, 0] from (index_at ⟨_, b0⟩).2.2.2.2.1]
  exact start_two (fun a : Fin 2 => (β a).val) b1 a

theorem emb6 (u : Fin 32) (v : Fin 4096) :
    (((cfgM m hO).win 6).blk t).view.emb (ix2 (n0 := 32) (n1 := 4096) u v) = ix2 (n0 := 1376) (n1 := 4096) (row t u) v := by
  refine funext fun a => Fin.ext ?_
  refine (Pipeline.Window.rect_emb_val ((cfgM m hO).win 6) t _ a).trans ?_
  rw [show ((cfgM m hO).win 6).index t = ![t.val, 0] from (index_at t).2.2.2.2.2.1]
  exact place t u v a

/-- The blocks cover the array. -/
theorem covers6 : ((cfgM m hO).win 6).Covers := by
  refine ⟨(by decide : ∀ a : Fin 2, 0 < S32x4096.size a), fun β => ?_⟩
  have b0 : (β (0 : Fin 2)).val < grid0.N := lt_of_lt_of_le (β (0 : Fin 2)).isLt (by decide : (1376 + 32 - 1) / 32 ≤ grid0.N)
  have b1 : (β (1 : Fin 2)).val < 1 := lt_of_lt_of_le (β (1 : Fin 2)).isLt (by decide : (4096 + 4096 - 1) / 4096 ≤ 1)
  refine ⟨⟨_, b0⟩, flush0_6 _ _, fun a => ⟨?_, .inl rfl⟩⟩
  rw [show ((cfgM m hO).win 6).index ⟨_, b0⟩ = ![(β (0 : Fin 2)).val, 0] from (index_at ⟨_, b0⟩).2.2.2.2.2.1]
  exact start_two (fun a : Fin 2 => (β a).val) b1 a

theorem emb7 (u : Fin 32) (v : Fin 4096) :
    (((cfgM m hO).win 7).blk t).view.emb (ix2 (n0 := 32) (n1 := 4096) u v) = ix2 (n0 := 1376) (n1 := 4096) (row t u) v := by
  refine funext fun a => Fin.ext ?_
  refine (Pipeline.Window.rect_emb_val ((cfgM m hO).win 7) t _ a).trans ?_
  rw [show ((cfgM m hO).win 7).index t = ![t.val, 0] from (index_at t).2.2.2.2.2.2.1]
  exact place t u v a

/-- The blocks cover the array. -/
theorem covers7 : ((cfgM m hO).win 7).Covers := by
  refine ⟨(by decide : ∀ a : Fin 2, 0 < S32x4096.size a), fun β => ?_⟩
  have b0 : (β (0 : Fin 2)).val < grid0.N := lt_of_lt_of_le (β (0 : Fin 2)).isLt (by decide : (1376 + 32 - 1) / 32 ≤ grid0.N)
  have b1 : (β (1 : Fin 2)).val < 1 := lt_of_lt_of_le (β (1 : Fin 2)).isLt (by decide : (4096 + 4096 - 1) / 4096 ≤ 1)
  refine ⟨⟨_, b0⟩, flush0_7 _ _, fun a => ⟨?_, .inl rfl⟩⟩
  rw [show ((cfgM m hO).win 7).index ⟨_, b0⟩ = ![(β (0 : Fin 2)).val, 0] from (index_at ⟨_, b0⟩).2.2.2.2.2.2.1]
  exact start_two (fun a : Fin 2 => (β a).val) b1 a

theorem emb8 (u : Fin 32) (v : Fin 4096) :
    (((cfgM m hO).win 8).blk t).view.emb (ix2 (n0 := 32) (n1 := 4096) u v) = ix2 (n0 := 1376) (n1 := 4096) (row t u) v := by
  refine funext fun a => Fin.ext ?_
  refine (Pipeline.Window.rect_emb_val ((cfgM m hO).win 8) t _ a).trans ?_
  rw [show ((cfgM m hO).win 8).index t = ![t.val, 0] from (index_at t).2.2.2.2.2.2.2.1]
  exact place t u v a

/-- The blocks cover the array. -/
theorem covers8 : ((cfgM m hO).win 8).Covers := by
  refine ⟨(by decide : ∀ a : Fin 2, 0 < S32x4096.size a), fun β => ?_⟩
  have b0 : (β (0 : Fin 2)).val < grid0.N := lt_of_lt_of_le (β (0 : Fin 2)).isLt (by decide : (1376 + 32 - 1) / 32 ≤ grid0.N)
  have b1 : (β (1 : Fin 2)).val < 1 := lt_of_lt_of_le (β (1 : Fin 2)).isLt (by decide : (4096 + 4096 - 1) / 4096 ≤ 1)
  refine ⟨⟨_, b0⟩, flush0_8 _ _, fun a => ⟨?_, .inl rfl⟩⟩
  rw [show ((cfgM m hO).win 8).index ⟨_, b0⟩ = ![(β (0 : Fin 2)).val, 0] from (index_at ⟨_, b0⟩).2.2.2.2.2.2.2.1]
  exact start_two (fun a : Fin 2 => (β a).val) b1 a

/-- A tile's gradient is the array's. -/
theorem grad_point (u : Fin 32) (v : Fin 4096) :
    gatheredTile (word m c) (iblk m hO c 0 t) (iblk m hO c 1 t) (ix2 u v) = gathered (word m c) (arg1 m c) (arg2 m c) (ix2 (row t u) v) := by
  refine Finset.sum_congr rfl fun k _ => ?_
  unfold summand
  by_cases h : word m c = BitVec.ofNat 32 k.val
  · refine (if_pos h).trans (Eq.trans ?_ (if_pos h).symm)
    have hk : (word m c).toNat = k.val := by
      rw [h, BitVec.toNat_ofNat]
      exact Nat.mod_eq_of_lt (lt_trans k.isLt (by decide))
    exact congrArg (arg1 m c) (emb0 m c hO t k hk u v)
  · refine (if_neg h).trans (Eq.trans ?_ (if_neg h).symm)
    exact congrArg (arg2 m c) (emb1 m hO t k u v)

/-- The kernel's gradient. -/
theorem final_grad : (dats m hO 0 c).arrAt 5 (cfgM m hO).N = gathered (word m c) (arg1 m c) (arg2 m c) := by
  refine (dats m hO 0 c).arrAt_eq_of_covers 5 _ (covers5 m hO) fun t hf (y : S32x4096.Idx) => ?_
  obtain ⟨u, v, rfl⟩ : ∃ u v, y = ix2 u v := ⟨_, _, ix2_coords y⟩
  rw [emb5 m hO t u v]
  refine (congrFun ((after0_5 m hO c t).trans (out_grad m c hO t)) (ix2 u v)).trans ?_
  exact grad_point m c hO t u v

/-- The kernel's step. -/
theorem final_step : (dats m hO 0 c).arrAt 6 (cfgM m hO).N = step (arg3 m c) (gathered (word m c) (arg1 m c) (arg2 m c)) (arg4 m c) (arg5 m c) := by
  refine (dats m hO 0 c).arrAt_eq_of_covers 6 _ (covers6 m hO) fun t hf (y : S32x4096.Idx) => ?_
  obtain ⟨u, v, rfl⟩ : ∃ u v, y = ix2 u v := ⟨_, _, ix2_coords y⟩
  rw [emb6 m hO t u v]
  refine (congrFun ((after0_6 m hO c t).trans (out_step m c hO t)) (ix2 u v)).trans ?_
  have e2 : iblk m hO c 2 t (ix2 u v) = arg3 m c (ix2 (row t u) v) := congrArg (arg3 m c) (emb2 m hO t u v)
  have e3 : iblk m hO c 3 t (ix2 u v) = arg4 m c (ix2 (row t u) v) := congrArg (arg4 m c) (emb3 m hO t u v)
  have e4 : iblk m hO c 4 t (ix2 u v) = arg5 m c (ix2 (row t u) v) := congrArg (arg5 m c) (emb4 m hO t u v)
  unfold step
  rw [e2, e3, e4, grad_point m c hO t u v]

/-- The kernel's first moment. -/
theorem final_first : (dats m hO 0 c).arrAt 7 (cfgM m hO).N = first (gathered (word m c) (arg1 m c) (arg2 m c)) (arg4 m c) := by
  refine (dats m hO 0 c).arrAt_eq_of_covers 7 _ (covers7 m hO) fun t hf (y : S32x4096.Idx) => ?_
  obtain ⟨u, v, rfl⟩ : ∃ u v, y = ix2 u v := ⟨_, _, ix2_coords y⟩
  rw [emb7 m hO t u v]
  refine (congrFun ((after0_7 m hO c t).trans (out_first m c hO t)) (ix2 u v)).trans ?_
  have e3 : iblk m hO c 3 t (ix2 u v) = arg4 m c (ix2 (row t u) v) := congrArg (arg4 m c) (emb3 m hO t u v)
  unfold first
  rw [e3, grad_point m c hO t u v]

/-- The kernel's second moment. -/
theorem final_second : (dats m hO 0 c).arrAt 8 (cfgM m hO).N = second (gathered (word m c) (arg1 m c) (arg2 m c)) (arg5 m c) := by
  refine (dats m hO 0 c).arrAt_eq_of_covers 8 _ (covers8 m hO) fun t hf (y : S32x4096.Idx) => ?_
  obtain ⟨u, v, rfl⟩ : ∃ u v, y = ix2 u v := ⟨_, _, ix2_coords y⟩
  rw [emb8 m hO t u v]
  refine (congrFun ((after0_8 m hO c t).trans (out_second m c hO t)) (ix2 u v)).trans ?_
  have e4 : iblk m hO c 4 t (ix2 u v) = arg5 m c (ix2 (row t u) v) := congrArg (arg5 m c) (emb4 m hO t u v)
  unfold second
  rw [e4, grad_point m c hO t u v]

include hO in
/-- The run: the gradient, the step and both moments, the arguments unchanged. -/
theorem run_value : θ_run defs (onTc (τ := τ) (main (F := Ideal))) ⟨m, fun _ => 0, g⟩ fun r => ∀ c : Dev nD,
      r.2.mem ((c.tc : Thread nD τ).loc main_v0_0) = gathered (word m c) (arg1 m c) (arg2 m c)
      ∧ r.2.mem ((c.tc : Thread nD τ).loc main_v0_1) = step (arg3 m c) (gathered (word m c) (arg1 m c) (arg2 m c)) (arg4 m c) (arg5 m c)
      ∧ r.2.mem ((c.tc : Thread nD τ).loc main_v0_2) = first (gathered (word m c) (arg1 m c) (arg2 m c)) (arg4 m c)
      ∧ r.2.mem ((c.tc : Thread nD τ).loc main_v0_3) = second (gathered (word m c) (arg1 m c) (arg2 m c)) (arg5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 5).trans (final_grad m c hO), ((h.1 c).1 6).trans (final_step m c hO), ((h.1 c).1 7).trans (final_first m c hO), ((h.1 c).1 8).trans (final_second m c hO), h.2 c⟩)
    (θ_run_and (run_main m g hO) (unchanged m g hO))

/-- Over the extended reals the kernel and the reference compute the same gradient, step and moments. -/
theorem same_value : Cert.algebraic_StepDownIdeal_StepDownReferenceIdeal := fun m g m' g' hpre h =>
  ⟨fun c => gathered (word m c) (arg1 m c) (arg2 m c), fun c => step (arg3 m c) (gathered (word m c) (arg1 m c) (arg2 m c)) (arg4 m c) (arg5 m c),
    fun c => first (gathered (word m c) (arg1 m c) (arg2 m c)) (arg4 m c), fun c => second (gathered (word m c) (arg1 m c) (arg2 m c)) (arg5 m c),
    run_value m g (ok_of_pre m hpre),
    (θ_run Cert.StepDownReferenceIdeal.defs _ _).mono (fun _ r c => by
      obtain ⟨h0, h1, h2, h3, h4, h5⟩ := h c
      obtain ⟨r0, r1, r2, r3, rest⟩ := r c
      refine ⟨r0.trans ?_, r1.trans ?_, r2.trans ?_, r3.trans ?_, rest⟩
      · rw [h0, h1, h2]
        exact Cert.StepDownReferenceIdeal.gathered_eq _ _ _
      · rw [h0, h1, h2, h3, h4, h5]
        refine (Cert.StepDownReferenceIdeal.step_eq _ _ _ _).trans ?_
        exact congrArg (fun x => step _ x _ _) (Cert.StepDownReferenceIdeal.gathered_eq _ _ _)
      · rw [h0, h1, h2, h4]
        refine (Cert.StepDownReferenceIdeal.first_eq _ _).trans ?_
        exact congrArg (fun x => first x _) (Cert.StepDownReferenceIdeal.gathered_eq _ _ _)
      · rw [h0, h1, h2, h5]
        refine (Cert.StepDownReferenceIdeal.second_eq _ _).trans ?_
        exact congrArg (fun x => second x _) (Cert.StepDownReferenceIdeal.gathered_eq _ _ _))
      (Cert.StepDownReferenceIdeal.Value.run m' g')⟩

/-- The idealized kernel runs, its arguments end unchanged and every semaphore counter reads zero. -/
theorem ideal_frame : Cert.quiescent_StepDownIdeal := fun m ρ h => frame m ρ (ok_of_pre m h)

/-- The printed kernel runs, its arguments end unchanged and every semaphore counter reads zero. -/
theorem kernel_frame : Cert.quiescent_StepDown := fun m ρ h => Cert.StepDown.Gen.frame m ρ (Cert.StepDown.ok_of_pre m h)

end Cert.StepDownIdeal

end
-- ==== Proof.Dw.StepGateUp.lean ====
/- The sum over the four chips of the MLP gate and up projection's gradient and its AdamW update: the kernel and the reference compute one gradient and one step over the extended reals. -/
module

public import proofs.«01_k».proof.Defs
public import proofs.«01_k».proof.Proof.Dw.Product
public import proofs.«01_k».proof.Proof.Dw.Gate
public import proofs.«01_k».proof.Proof.Dw.Moments
public import proofs.«01_k».proof.Proof.Dw.Chips
public import proofs.«01_k».proof.Proof.Gen.Pre_chip_for_gate_up
public import proofs.«01_k».proof.Proof.Gen.StepGateUp.Frame
public import proofs.«01_k».proof.Proof.Gen.StepGateUpIdeal.Frame
public import proofs.«01_k».proof.Proof.Gen.StepGateUpReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.StepGateUp

open Cert.StepGateUp.Gen Cert.Chips
open Idealize.ShloMosaic Idealize.ShloMosaic.TcCoe Idealize.SL.Sem

/-- Under the precondition the block of the chip's own summand lies inside its array. -/
theorem ok_of_pre (m : (ℓ : Loc nD τ sig) → Buf (Elt Bits) ℓ) (h : Cert.Pre_StepGateUp m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_gate_up.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 43 := hi; omega : ((i 0).val + 1) * 64 ≤ 2752)
  | 2 => exact (by decide : (0 + 1) * 4096 ≤ 4096)

end Cert.StepGateUp

namespace Cert.StepGateUpReferenceIdeal

open Cert.StepGateUpReferenceIdeal.Gen Cert.Product Cert.Moments Cert.Chips
open Idealize.ShloMosaic Idealize.ShloMosaic.ValueKit Idealize.SL.Sem

/-- The reference's gradient: the sum over the chips, the own summand chosen by a comparison with the chip's number. -/
theorem gathered_eq (v : IVec S1 32) (ps rx : FVec Ideal S4x2752x4096 .bf16) :
    (Host.reduceAdd (select (broadcastInDim S4x2752x4096 ![0, 1, 2] bcast_S4x1x1_S4x2752x4096_0_1_2 (cmpi .eq (shapeCast _ (iotaInDim S4 32 0) shapeCasts_S4_S4x1x1) (broadcastInDim S4x1x1 ![0, 1, 2] bcast_S1x1x1_S4x1x1_0_1_2 (broadcastInDim S1x1x1 ![2] bcast_S1_S1x1x1_2 v)))) (extf .f32 ps bitsLt_bf16_f32) (extf .f32 rx bitsLt_bf16_f32)) (constant S_ .f32 0x00000000#32) reducesTo_S4x2752x4096_S2752x4096_d0 h_S_ : FVec Ideal S2752x4096 .f32)
      = gathered (v (ix1 0)) ps rx := by
  refine funext fun y => ?_
  rw [ix2_coords y]
  generalize y 0 = u
  generalize y 1 = w
  unfold gathered summand
  pointwise
  exact Finset.sum_congr rfl fun k _ => (select_word _ _ _ _).trans (if_congr eq_comm rfl rfl)

variable (p g a b : FVec Ideal S2752x4096 .f32)

/-- The reference's first moment. -/
theorem first_eq : (addf (mulf (broadcastInDim S2752x4096 ![] bcast_S_S2752x4096 (constant S_ .f32 0x3F666666#32)) a) (mulf (broadcastInDim S2752x4096 ![] bcast_S_S2752x4096 (constant S_ .f32 0x3DCCCCCD#32)) g) : FVec Ideal S2752x4096 .f32) = first g a := by
  refine funext fun y => ?_
  rw [ix2_coords y]
  unfold first firstOf
  pointwise

/-- The reference's second moment. -/
theorem second_eq : (addf (mulf (broadcastInDim S2752x4096 ![] bcast_S_S2752x4096 (constant S_ .f32 0x3F7FBE77#32)) b) (mulf (broadcastInDim S2752x4096 ![] bcast_S_S2752x4096 (constant S_ .f32 0x3A83126F#32)) (mulf g g)) : FVec Ideal S2752x4096 .f32) = second g b := by
  refine funext fun y => ?_
  rw [ix2_coords y]
  unfold second secondOf
  pointwise

/-- The reference's step. -/
theorem step_eq : (mulf (broadcastInDim S2752x4096 ![] bcast_S_S2752x4096 (constant S_ .f32 0xBA83126F#32)) (addf (Host.divf (Host.divf (addf (mulf (broadcastInDim S2752x4096 ![] bcast_S_S2752x4096 (constant S_ .f32 0x3F666666#32)) a) (mulf (broadcastInDim S2752x4096 ![] bcast_S_S2752x4096 (constant S_ .f32 0x3DCCCCCD#32)) g)) (broadcastInDim S2752x4096 ![] bcast_S_S2752x4096 (constant S_ .f32 0x3F26BD02#32))) (addf (Host.sqrt (Host.divf (addf (mulf (broadcastInDim S2752x4096 ![] bcast_S_S2752x4096 (constant S_ .f32 0x3F7FBE77#32)) b) (mulf (broadcastInDim S2752x4096 ![] bcast_S_S2752x4096 (constant S_ .f32 0x3A83126F#32)) (mulf g g))) (broadcastInDim S2752x4096 ![] bcast_S_S2752x4096 (constant S_ .f32 0x3C231ACC#32)))) (broadcastInDim S2752x4096 ![] bcast_S_S2752x4096 (constant S_ .f32 0x322BCC77#32)))) (mulf (broadcastInDim S2752x4096 ![] bcast_S_S2752x4096 (constant S_ .f32 0x3C23D70A#32)) p)) : FVec Ideal S2752x4096 .f32) = step p g a b := by
  refine funext fun y => ?_
  rw [ix2_coords y]
  unfold step stepOf firstOf secondOf
  pointwise

/-- The reference runs and its arguments end unchanged. -/
theorem frame : Cert.quiescent_StepGateUpReferenceIdeal := fun m ρ _ =>
  (θ_run defs _ _).mono (fun r h => ⟨fun c => (h c).2.2.2.2, sem_eq_zero_of_no_sems (by decide) r.2⟩) (Value.run (F := Ideal) m ρ)

theorem frame_pre : Cert.quiescent_StepGateUpReferenceIdeal_pre_chip_for_gate_up := fun m ρ _ =>
  (θ_run defs _ _).mono (fun r h => ⟨fun c => (h c).2.2.2.2, sem_eq_zero_of_no_sems (by decide) r.2⟩) (Value.run (F := Ideal) m ρ)

end Cert.StepGateUpReferenceIdeal

namespace Cert.StepGateUpIdeal

open Cert.StepGateUpIdeal.Gen Cert.Product Cert.Moments Cert.Chips
open Idealize.ShloMosaic Idealize.ShloMosaic.TcCoe Idealize.SL.Sem
open Idealize.ShloMosaic.Pipeline (Dat)

/-- Under the precondition the block of the chip's own summand lies inside its array. -/
theorem ok_of_pre (m : (ℓ : Loc nD τ sig) → Buf (Elt Ideal) ℓ) (h : Cert.Pre_StepGateUpIdeal m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_gate_up.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 43 := hi; omega : ((i 0).val + 1) * 64 ≤ 2752)
  | 2 => exact (by decide : (0 + 1) * 4096 ≤ 4096)

/-- A tile of the gradient, of the two moments and of the step. -/
theorem grad_tile (v : BitVec 32) (x0 : Vec Ideal S1x64x4096 .bf16) (x1 : Vec Ideal S4x64x4096 .bf16) :
    k0_pay4 (F := Ideal) v x0
      (View.ld x1 (Rect.unit ![0, 0, 0] ![1, 64, 4096] inb_S4x64x4096_S1x64x4096_0_0_0))
      (View.ld x1 (Rect.unit ![1, 0, 0] ![1, 64, 4096] inb_S4x64x4096_S1x64x4096_1_0_0))
      (View.ld x1 (Rect.unit ![2, 0, 0] ![1, 64, 4096] inb_S4x64x4096_S1x64x4096_2_0_0))
      (View.ld x1 (Rect.unit ![3, 0, 0] ![1, 64, 4096] inb_S4x64x4096_S1x64x4096_3_0_0)) = gatheredTile v x0 x1 := by
  refine funext fun y => ?_
  rw [ix2_coords y]
  unfold gatheredTile summand
  pointwise [k0_pay4]
  simp only [select_word]
  rw [Fin.sum_univ_four]
  rfl

variable (x : FVec Ideal S64x4096 .f32) (x2 x3 x4 : Vec Ideal S64x4096 .f32)

theorem first_tile : k0_pay1 (F := Ideal) x x3 = first x x3 := by
  refine funext fun y => ?_
  rw [ix2_coords y]
  unfold first firstOf
  pointwise [k0_pay1]

theorem second_tile : k0_pay2 (F := Ideal) x x4 = second x x4 := by
  refine funext fun y => ?_
  rw [ix2_coords y]
  unfold second secondOf
  pointwise [k0_pay2]

theorem step_tile : k0_pay3 (F := Ideal) x x2 x3 x4 = step x2 x x3 x4 := by
  refine funext fun y => ?_
  rw [ix2_coords y]
  unfold step stepOf firstOf secondOf
  pointwise [k0_pay1, k0_pay2, k0_pay3]

/-- The windows whose blocks do not depend on the chip, and the point's coordinate. -/
theorem index_at : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]
    ∧ (grid0.coords t 0).val = t.val := by decide +kernel

variable (m : (ℓ : Loc nD τ sig) → Buf (Elt Ideal) ℓ) (g : Dev nD → PrngReg) (c : Dev nD) (hO : Ok m)

/-- The chip's number, its own summands, the received ones, the weight and its two moments as launched. -/
abbrev word : BitVec 32 := m ((c.tc : Thread nD τ).loc main_arg0) (ix1 0)
abbrev arg1 : FVec Ideal S4x2752x4096 .bf16 := m ((c.tc : Thread nD τ).loc main_arg1)
abbrev arg2 : FVec Ideal S4x2752x4096 .bf16 := m ((c.tc : Thread nD τ).loc main_arg2)
abbrev arg3 : FVec Ideal S2752x4096 .f32 := m ((c.tc : Thread nD τ).loc main_arg3)
abbrev arg4 : FVec Ideal S2752x4096 .f32 := m ((c.tc : Thread nD τ).loc main_arg4)
abbrev arg5 : FVec Ideal S2752x4096 .f32 := m ((c.tc : Thread nD τ).loc main_arg5)

/-- The table's one word is the chip's number. -/
theorem table_word : (tbl m).at 0 (Rect.unit ![0] S1.size inb_S1_S1_0) numel1_S1 = word m c := by
  obtain rfl : c = 0 := Subsingleton.elim _ _
  exact congrArg (tbl m 0) (idx_one _ _)

theorem out_grad (t : Fin (cfgM m hO).N) : (outsAt0 m hO c t).1 = gatheredTile (word m c) (iblk m hO c 0 t) (iblk m hO c 1 t) := by
  unfold outsAt0
  frame_out
  exact (grad_tile _ _ _).trans (equal_three gatheredTile (table_word m c) ((hs0_0 m hO t).read_unread _) ((hs0_1 m hO t).read_unread _))

theorem out_step (t : Fin (cfgM m hO).N) : (outsAt0 m hO c t).2.1
    = step (iblk m hO c 2 t : FVec Ideal S64x4096 .f32) (gatheredTile (word m c) (iblk m hO c 0 t) (iblk m hO c 1 t)) (iblk m hO c 3 t) (iblk m hO c 4 t) := by
  unfold outsAt0
  frame_out
  exact (step_tile _ _ _ _).trans (equal_four step ((hs0_2 m hO t).read_unread _) ((grad_tile _ _ _).trans (equal_three gatheredTile (table_word m c) ((hs0_0 m hO t).read_unread _) ((hs0_1 m hO t).read_unread _))) ((hs0_3 m hO t).read_unread _) ((hs0_4 m hO t).read_unread _))

theorem out_first (t : Fin (cfgM m hO).N) : (outsAt0 m hO c t).2.2.1
    = first (gatheredTile (word m c) (iblk m hO c 0 t) (iblk m hO c 1 t)) (iblk m hO c 3 t) := by
  unfold outsAt0
  frame_out
  exact (first_tile _ _).trans (equal_two first ((grad_tile _ _ _).trans (equal_three gatheredTile (table_word m c) ((hs0_0 m hO t).read_unread _) ((hs0_1 m hO t).read_unread _))) ((hs0_3 m hO t).read_unread _))

theorem out_second (t : Fin (cfgM m hO).N) : (outsAt0 m hO c t).2.2.2
    = second (gatheredTile (word m c) (iblk m hO c 0 t) (iblk m hO c 1 t)) (iblk m hO c 4 t) := by
  unfold outsAt0
  frame_out
  exact (second_tile _ _).trans (equal_two second ((grad_tile _ _ _).trans (equal_three gatheredTile (table_word m c) ((hs0_0 m hO t).read_unread _) ((hs0_1 m hO t).read_unread _))) ((hs0_4 m hO t).read_unread _))

theorem index0 (t : Fin (cfgM m hO).N) : ((cfgM m hO).win 0).index t = ![(word m c).toNat, t.val, 0] := by
  show cc0_transform_0 inb_S1_S1_0 numel1_S1 (tbl m) (grid0.coords t) = _
  have h : (grid0.coords t 0).val = t.val := (index_at t).2.2.2.2.2.2.2.2
  refine congrArg₂ (fun a b : ℕ => (![a, b, 0] : Fin 3 → ℕ)) (congrArg BitVec.toNat (table_word m c)) ?_
  exact (BitVec.toNat_ofNat _ _).trans ((Nat.mod_eq_of_lt (h ▸ lt_trans t.isLt (by decide : grid0.N < 2 ^ 32))).trans h)

/-- Row `u` of the block at point `t`. -/
def row (t : Fin grid0.N) (u : Fin 64) : Fin 2752 := ⟨t.val * 64 + u.val, by have h : t.val < 43 := t.isLt; omega⟩

/-- A block's index, its size and the place in the block give the place in the array. -/
theorem place (t : Fin grid0.N) (u : Fin 64) (v : Fin 4096) (a : Fin 2) : (![t.val, 0] : Fin 2 → ℕ) a * S64x4096.size a + (ix2 (n0 := 64) (n1 := 4096) u v a).val
    = (ix2 (n0 := 2752) (n1 := 4096) (row t u) v a).val :=
  match a with
  | 0 => rfl
  | 1 => (by omega : 0 * 4096 + v.val = v.val)

theorem place_own (t : Fin grid0.N) (k : Fin 4) (u : Fin 64) (v : Fin 4096) (a : Fin 3) : (![k.val, t.val, 0] : Fin 3 → ℕ) a * S1x64x4096.size a + (ix3 (n0 := 1) (n1 := 64) (n2 := 4096) 0 u v a).val
    = (ix3 (n0 := 4) (n1 := 2752) (n2 := 4096) k (row t u) v a).val :=
  match a with
  | 0 => (by omega : k.val * 1 + 0 = k.val)
  | 1 => rfl
  | 2 => (by omega : 0 * 4096 + v.val = v.val)

theorem place_all (t : Fin grid0.N) (k : Fin 4) (u : Fin 64) (v : Fin 4096) (a : Fin 3) : (![0, t.val, 0] : Fin 3 → ℕ) a * S4x64x4096.size a + (ix3 (n0 := 4) (n1 := 64) (n2 := 4096) k u v a).val
    = (ix3 (n0 := 4) (n1 := 2752) (n2 := 4096) k (row t u) v a).val :=
  match a with
  | 0 => (by omega : 0 * 4 + k.val = k.val)
  | 1 => rfl
  | 2 => (by omega : 0 * 4096 + v.val = v.val)

variable (t : Fin (cfgM m hO).N)

/-- Where the blocks lie in their arrays. -/
theorem emb0 (k : Fin 4) (h : (word m c).toNat = k.val) (u : Fin 64) (v : Fin 4096) :
    (((cfgM m hO).win 0).blk t).view.emb (ix3 (n0 := 1) (n1 := 64) (n2 := 4096) 0 u v) = ix3 (n0 := 4) (n1 := 2752) (n2 := 4096) k (row t u) v := by
  refine funext fun a => Fin.ext ?_
  refine (Pipeline.Window.rect_emb_val ((cfgM m hO).win 0) t _ a).trans ?_
  rw [index0 m c hO t, h]
  exact place_own t k u v a

theorem emb1 (k : Fin 4) (u : Fin 64) (v : Fin 4096) :
    (((cfgM m hO).win 1).blk t).view.emb (ix3 (n0 := 4) (n1 := 64) (n2 := 4096) k u v) = ix3 (n0 := 4) (n1 := 2752) (n2 := 4096) k (row t u) v := by
  refine funext fun a => Fin.ext ?_
  refine (Pipeline.Window.rect_emb_val ((cfgM m hO).win 1) t _ a).trans ?_
  rw [show ((cfgM m hO).win 1).index t = ![0, t.val, 0] from (index_at t).1]
  exact place_all t k u v a

theorem emb2 (u : Fin 64) (v : Fin 4096) :
    (((cfgM m hO).win 2).blk t).view.emb (ix2 (n0 := 64) (n1 := 4096) u v) = ix2 (n0 := 2752) (n1 := 4096) (row t u) v := by
  refine funext fun a => Fin.ext ?_
  refine (Pipeline.Window.rect_emb_val ((cfgM m hO).win 2) t _ a).trans ?_
  rw [show ((cfgM m hO).win 2).index t = ![t.val, 0] from (index_at t).2.1]
  exact place t u v a

theorem emb3 (u : Fin 64) (v : Fin 4096) :
    (((cfgM m hO).win 3).blk t).view.emb (ix2 (n0 := 64) (n1 := 4096) u v) = ix2 (n0 := 2752) (n1 := 4096) (row t u) v := by
  refine funext fun a => Fin.ext ?_
  refine (Pipeline.Window.rect_emb_val ((cfgM m hO).win 3) t _ a).trans ?_
  rw [show ((cfgM m hO).win 3).index t = ![t.val, 0] from (index_at t).2.2.1]
  exact place t u v a

theorem emb4 (u : Fin 64) (v : Fin 4096) :
    (((cfgM m hO).win 4).blk t).view.emb (ix2 (n0 := 64) (n1 := 4096) u v) = ix2 (n0 := 2752) (n1 := 4096) (row t u) v := by
  refine funext fun a => Fin.ext ?_
  refine (Pipeline.Window.rect_emb_val ((cfgM m hO).win 4) t _ a).trans ?_
  rw [show ((cfgM m hO).win 4).index t = ![t.val, 0] from (index_at t).2.2.2.1]
  exact place t u v a

theorem emb5 (u : Fin 64) (v : Fin 4096) :
    (((cfgM m hO).win 5).blk t).view.emb (ix2 (n0 := 64) (n1 := 4096) u v) = ix2 (n0 := 2752) (n1 := 4096) (row t u) v := by
  refine funext fun a => Fin.ext ?_
  refine (Pipeline.Window.rect_emb_val ((cfgM m hO).win 5) t _ a).trans ?_
  rw [show ((cfgM m hO).win 5).index t = ![t.val, 0] from (index_at t).2.2.2.2.1]
  exact place t u v a

/-- The blocks cover the array. -/
theorem covers5 : ((cfgM m hO).win 5).Covers := by
  refine ⟨(by decide : ∀ a : Fin 2, 0 < S64x4096.size a), fun β => ?_⟩
  have b0 : (β (0 : Fin 2)).val < grid0.N := lt_of_lt_of_le (β (0 : Fin 2)).isLt (by decide : (2752 + 64 - 1) / 64 ≤ grid0.N)
  have b1 : (β (1 : Fin 2)).val < 1 := lt_of_lt_of_le (β (1 : Fin 2)).isLt (by decide : (4096 + 4096 - 1) / 4096 ≤ 1)
  refine ⟨⟨_, b0⟩, flush0_5 _ _, fun a => ⟨?_, .inl rfl⟩⟩
  rw [show ((cfgM m hO).win 5).index ⟨_, b0⟩ = ![(β (0 : Fin 2)).val, 0] from (index_at ⟨_, b0⟩).2.2.2.2.1]
  exact start_two (fun a : Fin 2 => (β a).val) b1 a

theorem emb6 (u : Fin 64) (v : Fin 4096) :
    (((cfgM m hO).win 6).blk t).view.emb (ix2 (n0 := 64) (n1 := 4096) u v) = ix2 (n0 := 2752) (n1 := 4096) (row t u) v := by
  refine funext fun a => Fin.ext ?_
  refine (Pipeline.Window.rect_emb_val ((cfgM m hO).win 6) t _ a).trans ?_
  rw [show ((cfgM m hO).win 6).index t = ![t.val, 0] from (index_at t).2.2.2.2.2.1]
  exact place t u v a

/-- The blocks cover the array. -/
theorem covers6 : ((cfgM m hO).win 6).Covers := by
  refine ⟨(by decide : ∀ a : Fin 2, 0 < S64x4096.size a), fun β => ?_⟩
  have b0 : (β (0 : Fin 2)).val < grid0.N := lt_of_lt_of_le (β (0 : Fin 2)).isLt (by decide : (2752 + 64 - 1) / 64 ≤ grid0.N)
  have b1 : (β (1 : Fin 2)).val < 1 := lt_of_lt_of_le (β (1 : Fin 2)).isLt (by decide : (4096 + 4096 - 1) / 4096 ≤ 1)
  refine ⟨⟨_, b0⟩, flush0_6 _ _, fun a => ⟨?_, .inl rfl⟩⟩
  rw [show ((cfgM m hO).win 6).index ⟨_, b0⟩ = ![(β (0 : Fin 2)).val, 0] from (index_at ⟨_, b0⟩).2.2.2.2.2.1]
  exact start_two (fun a : Fin 2 => (β a).val) b1 a

theorem emb7 (u : Fin 64) (v : Fin 4096) :
    (((cfgM m hO).win 7).blk t).view.emb (ix2 (n0 := 64) (n1 := 4096) u v) = ix2 (n0 := 2752) (n1 := 4096) (row t u) v := by
  refine funext fun a => Fin.ext ?_
  refine (Pipeline.Window.rect_emb_val ((cfgM m hO).win 7) t _ a).trans ?_
  rw [show ((cfgM m hO).win 7).index t = ![t.val, 0] from (index_at t).2.2.2.2.2.2.1]
  exact place t u v a

/-- The blocks cover the array. -/
theorem covers7 : ((cfgM m hO).win 7).Covers := by
  refine ⟨(by decide : ∀ a : Fin 2, 0 < S64x4096.size a), fun β => ?_⟩
  have b0 : (β (0 : Fin 2)).val < grid0.N := lt_of_lt_of_le (β (0 : Fin 2)).isLt (by decide : (2752 + 64 - 1) / 64 ≤ grid0.N)
  have b1 : (β (1 : Fin 2)).val < 1 := lt_of_lt_of_le (β (1 : Fin 2)).isLt (by decide : (4096 + 4096 - 1) / 4096 ≤ 1)
  refine ⟨⟨_, b0⟩, flush0_7 _ _, fun a => ⟨?_, .inl rfl⟩⟩
  rw [show ((cfgM m hO).win 7).index ⟨_, b0⟩ = ![(β (0 : Fin 2)).val, 0] from (index_at ⟨_, b0⟩).2.2.2.2.2.2.1]
  exact start_two (fun a : Fin 2 => (β a).val) b1 a

theorem emb8 (u : Fin 64) (v : Fin 4096) :
    (((cfgM m hO).win 8).blk t).view.emb (ix2 (n0 := 64) (n1 := 4096) u v) = ix2 (n0 := 2752) (n1 := 4096) (row t u) v := by
  refine funext fun a => Fin.ext ?_
  refine (Pipeline.Window.rect_emb_val ((cfgM m hO).win 8) t _ a).trans ?_
  rw [show ((cfgM m hO).win 8).index t = ![t.val, 0] from (index_at t).2.2.2.2.2.2.2.1]
  exact place t u v a

/-- The blocks cover the array. -/
theorem covers8 : ((cfgM m hO).win 8).Covers := by
  refine ⟨(by decide : ∀ a : Fin 2, 0 < S64x4096.size a), fun β => ?_⟩
  have b0 : (β (0 : Fin 2)).val < grid0.N := lt_of_lt_of_le (β (0 : Fin 2)).isLt (by decide : (2752 + 64 - 1) / 64 ≤ grid0.N)
  have b1 : (β (1 : Fin 2)).val < 1 := lt_of_lt_of_le (β (1 : Fin 2)).isLt (by decide : (4096 + 4096 - 1) / 4096 ≤ 1)
  refine ⟨⟨_, b0⟩, flush0_8 _ _, fun a => ⟨?_, .inl rfl⟩⟩
  rw [show ((cfgM m hO).win 8).index ⟨_, b0⟩ = ![(β (0 : Fin 2)).val, 0] from (index_at ⟨_, b0⟩).2.2.2.2.2.2.2.1]
  exact start_two (fun a : Fin 2 => (β a).val) b1 a

/-- A tile's gradient is the array's. -/
theorem grad_point (u : Fin 64) (v : Fin 4096) :
    gatheredTile (word m c) (iblk m hO c 0 t) (iblk m hO c 1 t) (ix2 u v) = gathered (word m c) (arg1 m c) (arg2 m c) (ix2 (row t u) v) := by
  refine Finset.sum_congr rfl fun k _ => ?_
  unfold summand
  by_cases h : word m c = BitVec.ofNat 32 k.val
  · refine (if_pos h).trans (Eq.trans ?_ (if_pos h).symm)
    have hk : (word m c).toNat = k.val := by
      rw [h, BitVec.toNat_ofNat]
      exact Nat.mod_eq_of_lt (lt_trans k.isLt (by decide))
    exact congrArg (arg1 m c) (emb0 m c hO t k hk u v)
  · refine (if_neg h).trans (Eq.trans ?_ (if_neg h).symm)
    exact congrArg (arg2 m c) (emb1 m hO t k u v)

/-- The kernel's gradient. -/
theorem final_grad : (dats m hO 0 c).arrAt 5 (cfgM m hO).N = gathered (word m c) (arg1 m c) (arg2 m c) := by
  refine (dats m hO 0 c).arrAt_eq_of_covers 5 _ (covers5 m hO) fun t hf (y : S64x4096.Idx) => ?_
  obtain ⟨u, v, rfl⟩ : ∃ u v, y = ix2 u v := ⟨_, _, ix2_coords y⟩
  rw [emb5 m hO t u v]
  refine (congrFun ((after0_5 m hO c t).trans (out_grad m c hO t)) (ix2 u v)).trans ?_
  exact grad_point m c hO t u v

/-- The kernel's step. -/
theorem final_step : (dats m hO 0 c).arrAt 6 (cfgM m hO).N = step (arg3 m c) (gathered (word m c) (arg1 m c) (arg2 m c)) (arg4 m c) (arg5 m c) := by
  refine (dats m hO 0 c).arrAt_eq_of_covers 6 _ (covers6 m hO) fun t hf (y : S64x4096.Idx) => ?_
  obtain ⟨u, v, rfl⟩ : ∃ u v, y = ix2 u v := ⟨_, _, ix2_coords y⟩
  rw [emb6 m hO t u v]
  refine (congrFun ((after0_6 m hO c t).trans (out_step m c hO t)) (ix2 u v)).trans ?_
  have e2 : iblk m hO c 2 t (ix2 u v) = arg3 m c (ix2 (row t u) v) := congrArg (arg3 m c) (emb2 m hO t u v)
  have e3 : iblk m hO c 3 t (ix2 u v) = arg4 m c (ix2 (row t u) v) := congrArg (arg4 m c) (emb3 m hO t u v)
  have e4 : iblk m hO c 4 t (ix2 u v) = arg5 m c (ix2 (row t u) v) := congrArg (arg5 m c) (emb4 m hO t u v)
  unfold step
  rw [e2, e3, e4, grad_point m c hO t u v]

/-- The kernel's first moment. -/
theorem final_first : (dats m hO 0 c).arrAt 7 (cfgM m hO).N = first (gathered (word m c) (arg1 m c) (arg2 m c)) (arg4 m c) := by
  refine (dats m hO 0 c).arrAt_eq_of_covers 7 _ (covers7 m hO) fun t hf (y : S64x4096.Idx) => ?_
  obtain ⟨u, v, rfl⟩ : ∃ u v, y = ix2 u v := ⟨_, _, ix2_coords y⟩
  rw [emb7 m hO t u v]
  refine (congrFun ((after0_7 m hO c t).trans (out_first m c hO t)) (ix2 u v)).trans ?_
  have e3 : iblk m hO c 3 t (ix2 u v) = arg4 m c (ix2 (row t u) v) := congrArg (arg4 m c) (emb3 m hO t u v)
  unfold first
  rw [e3, grad_point m c hO t u v]

/-- The kernel's second moment. -/
theorem final_second : (dats m hO 0 c).arrAt 8 (cfgM m hO).N = second (gathered (word m c) (arg1 m c) (arg2 m c)) (arg5 m c) := by
  refine (dats m hO 0 c).arrAt_eq_of_covers 8 _ (covers8 m hO) fun t hf (y : S64x4096.Idx) => ?_
  obtain ⟨u, v, rfl⟩ : ∃ u v, y = ix2 u v := ⟨_, _, ix2_coords y⟩
  rw [emb8 m hO t u v]
  refine (congrFun ((after0_8 m hO c t).trans (out_second m c hO t)) (ix2 u v)).trans ?_
  have e4 : iblk m hO c 4 t (ix2 u v) = arg5 m c (ix2 (row t u) v) := congrArg (arg5 m c) (emb4 m hO t u v)
  unfold second
  rw [e4, grad_point m c hO t u v]

include hO in
/-- The run: the gradient, the step and both moments, the arguments unchanged. -/
theorem run_value : θ_run defs (onTc (τ := τ) (main (F := Ideal))) ⟨m, fun _ => 0, g⟩ fun r => ∀ c : Dev nD,
      r.2.mem ((c.tc : Thread nD τ).loc main_v0_0) = gathered (word m c) (arg1 m c) (arg2 m c)
      ∧ r.2.mem ((c.tc : Thread nD τ).loc main_v0_1) = step (arg3 m c) (gathered (word m c) (arg1 m c) (arg2 m c)) (arg4 m c) (arg5 m c)
      ∧ r.2.mem ((c.tc : Thread nD τ).loc main_v0_2) = first (gathered (word m c) (arg1 m c) (arg2 m c)) (arg4 m c)
      ∧ r.2.mem ((c.tc : Thread nD τ).loc main_v0_3) = second (gathered (word m c) (arg1 m c) (arg2 m c)) (arg5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 5).trans (final_grad m c hO), ((h.1 c).1 6).trans (final_step m c hO), ((h.1 c).1 7).trans (final_first m c hO), ((h.1 c).1 8).trans (final_second m c hO), h.2 c⟩)
    (θ_run_and (run_main m g hO) (unchanged m g hO))

/-- Over the extended reals the kernel and the reference compute the same gradient, step and moments. -/
theorem same_value : Cert.algebraic_StepGateUpIdeal_StepGateUpReferenceIdeal := fun m g m' g' hpre h =>
  ⟨fun c => gathered (word m c) (arg1 m c) (arg2 m c), fun c => step (arg3 m c) (gathered (word m c) (arg1 m c) (arg2 m c)) (arg4 m c) (arg5 m c),
    fun c => first (gathered (word m c) (arg1 m c) (arg2 m c)) (arg4 m c), fun c => second (gathered (word m c) (arg1 m c) (arg2 m c)) (arg5 m c),
    run_value m g (ok_of_pre m hpre),
    (θ_run Cert.StepGateUpReferenceIdeal.defs _ _).mono (fun _ r c => by
      obtain ⟨h0, h1, h2, h3, h4, h5⟩ := h c
      obtain ⟨r0, r1, r2, r3, rest⟩ := r c
      refine ⟨r0.trans ?_, r1.trans ?_, r2.trans ?_, r3.trans ?_, rest⟩
      · rw [h0, h1, h2]
        exact Cert.StepGateUpReferenceIdeal.gathered_eq _ _ _
      · rw [h0, h1, h2, h3, h4, h5]
        refine (Cert.StepGateUpReferenceIdeal.step_eq _ _ _ _).trans ?_
        exact congrArg (fun x => step _ x _ _) (Cert.StepGateUpReferenceIdeal.gathered_eq _ _ _)
      · rw [h0, h1, h2, h4]
        refine (Cert.StepGateUpReferenceIdeal.first_eq _ _).trans ?_
        exact congrArg (fun x => first x _) (Cert.StepGateUpReferenceIdeal.gathered_eq _ _ _)
      · rw [h0, h1, h2, h5]
        refine (Cert.StepGateUpReferenceIdeal.second_eq _ _).trans ?_
        exact congrArg (fun x => second x _) (Cert.StepGateUpReferenceIdeal.gathered_eq _ _ _))
      (Cert.StepGateUpReferenceIdeal.Value.run m' g')⟩

/-- The idealized kernel runs, its arguments end unchanged and every semaphore counter reads zero. -/
theorem ideal_frame : Cert.quiescent_StepGateUpIdeal := fun m ρ h => frame m ρ (ok_of_pre m h)

/-- The printed kernel runs, its arguments end unchanged and every semaphore counter reads zero. -/
theorem kernel_frame : Cert.quiescent_StepGateUp := fun m ρ h => Cert.StepGateUp.Gen.frame m ρ (Cert.StepGateUp.ok_of_pre m h)

end Cert.StepGateUpIdeal

end
-- ==== Proof.Dw.StepOut.lean ====
/- The sum over the four chips of the output projection's gradient and its AdamW update: the kernel and the reference compute one gradient and one step over the extended reals. -/
module

public import proofs.«01_k».proof.Defs
public import proofs.«01_k».proof.Proof.Dw.Product
public import proofs.«01_k».proof.Proof.Dw.Gate
public import proofs.«01_k».proof.Proof.Dw.Moments
public import proofs.«01_k».proof.Proof.Dw.Chips
public import proofs.«01_k».proof.Proof.Gen.Pre_chip_for_out
public import proofs.«01_k».proof.Proof.Gen.StepOut.Frame
public import proofs.«01_k».proof.Proof.Gen.StepOutIdeal.Frame
public import proofs.«01_k».proof.Proof.Gen.StepOutReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.StepOut

open Cert.StepOut.Gen Cert.Chips
open Idealize.ShloMosaic Idealize.ShloMosaic.TcCoe Idealize.SL.Sem

/-- Under the precondition the block of the chip's own summand lies inside its array. -/
theorem ok_of_pre (m : (ℓ : Loc nD τ sig) → Buf (Elt Bits) ℓ) (h : Cert.Pre_StepOut m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_out.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 4 := hi; omega : ((i 0).val + 1) * 128 ≤ 512)
  | 2 => exact (by decide : (0 + 1) * 4096 ≤ 4096)

end Cert.StepOut

namespace Cert.StepOutReferenceIdeal

open Cert.StepOutReferenceIdeal.Gen Cert.Product Cert.Moments Cert.Chips
open Idealize.ShloMosaic Idealize.ShloMosaic.ValueKit Idealize.SL.Sem

/-- The reference's gradient: the sum over the chips, the own summand chosen by a comparison with the chip's number. -/
theorem gathered_eq (v : IVec S1 32) (ps rx : FVec Ideal S4x512x4096 .bf16) :
    (Host.reduceAdd (select (broadcastInDim S4x512x4096 ![0, 1, 2] bcast_S4x1x1_S4x512x4096_0_1_2 (cmpi .eq (shapeCast _ (iotaInDim S4 32 0) shapeCasts_S4_S4x1x1) (broadcastInDim S4x1x1 ![0, 1, 2] bcast_S1x1x1_S4x1x1_0_1_2 (broadcastInDim S1x1x1 ![2] bcast_S1_S1x1x1_2 v)))) (extf .f32 ps bitsLt_bf16_f32) (extf .f32 rx bitsLt_bf16_f32)) (constant S_ .f32 0x00000000#32) reducesTo_S4x512x4096_S512x4096_d0 h_S_ : FVec Ideal S512x4096 .f32)
      = gathered (v (ix1 0)) ps rx := by
  refine funext fun y => ?_
  rw [ix2_coords y]
  generalize y 0 = u
  generalize y 1 = w
  unfold gathered summand
  pointwise
  exact Finset.sum_congr rfl fun k _ => (select_word _ _ _ _).trans (if_congr eq_comm rfl rfl)

variable (p g a b : FVec Ideal S512x4096 .f32)

/-- The reference's first moment. -/
theorem first_eq : (addf (mulf (broadcastInDim S512x4096 ![] bcast_S_S512x4096 (constant S_ .f32 0x3F666666#32)) a) (mulf (broadcastInDim S512x4096 ![] bcast_S_S512x4096 (constant S_ .f32 0x3DCCCCCD#32)) g) : FVec Ideal S512x4096 .f32) = first g a := by
  refine funext fun y => ?_
  rw [ix2_coords y]
  unfold first firstOf
  pointwise

/-- The reference's second moment. -/
theorem second_eq : (addf (mulf (broadcastInDim S512x4096 ![] bcast_S_S512x4096 (constant S_ .f32 0x3F7FBE77#32)) b) (mulf (broadcastInDim S512x4096 ![] bcast_S_S512x4096 (constant S_ .f32 0x3A83126F#32)) (mulf g g)) : FVec Ideal S512x4096 .f32) = second g b := by
  refine funext fun y => ?_
  rw [ix2_coords y]
  unfold second secondOf
  pointwise

/-- The reference's step. -/
theorem step_eq : (mulf (broadcastInDim S512x4096 ![] bcast_S_S512x4096 (constant S_ .f32 0xBA83126F#32)) (addf (Host.divf (Host.divf (addf (mulf (broadcastInDim S512x4096 ![] bcast_S_S512x4096 (constant S_ .f32 0x3F666666#32)) a) (mulf (broadcastInDim S512x4096 ![] bcast_S_S512x4096 (constant S_ .f32 0x3DCCCCCD#32)) g)) (broadcastInDim S512x4096 ![] bcast_S_S512x4096 (constant S_ .f32 0x3F26BD02#32))) (addf (Host.sqrt (Host.divf (addf (mulf (broadcastInDim S512x4096 ![] bcast_S_S512x4096 (constant S_ .f32 0x3F7FBE77#32)) b) (mulf (broadcastInDim S512x4096 ![] bcast_S_S512x4096 (constant S_ .f32 0x3A83126F#32)) (mulf g g))) (broadcastInDim S512x4096 ![] bcast_S_S512x4096 (constant S_ .f32 0x3C231ACC#32)))) (broadcastInDim S512x4096 ![] bcast_S_S512x4096 (constant S_ .f32 0x322BCC77#32)))) (mulf (broadcastInDim S512x4096 ![] bcast_S_S512x4096 (constant S_ .f32 0x3C23D70A#32)) p)) : FVec Ideal S512x4096 .f32) = step p g a b := by
  refine funext fun y => ?_
  rw [ix2_coords y]
  unfold step stepOf firstOf secondOf
  pointwise

/-- The reference runs and its arguments end unchanged. -/
theorem frame : Cert.quiescent_StepOutReferenceIdeal := fun m ρ _ =>
  (θ_run defs _ _).mono (fun r h => ⟨fun c => (h c).2.2.2.2, sem_eq_zero_of_no_sems (by decide) r.2⟩) (Value.run (F := Ideal) m ρ)

theorem frame_pre : Cert.quiescent_StepOutReferenceIdeal_pre_chip_for_out := fun m ρ _ =>
  (θ_run defs _ _).mono (fun r h => ⟨fun c => (h c).2.2.2.2, sem_eq_zero_of_no_sems (by decide) r.2⟩) (Value.run (F := Ideal) m ρ)

end Cert.StepOutReferenceIdeal

namespace Cert.StepOutIdeal

open Cert.StepOutIdeal.Gen Cert.Product Cert.Moments Cert.Chips
open Idealize.ShloMosaic Idealize.ShloMosaic.TcCoe Idealize.SL.Sem
open Idealize.ShloMosaic.Pipeline (Dat)

/-- Under the precondition the block of the chip's own summand lies inside its array. -/
theorem ok_of_pre (m : (ℓ : Loc nD τ sig) → Buf (Elt Ideal) ℓ) (h : Cert.Pre_StepOutIdeal m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_out.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 4 := hi; omega : ((i 0).val + 1) * 128 ≤ 512)
  | 2 => exact (by decide : (0 + 1) * 4096 ≤ 4096)

/-- A tile of the gradient, of the two moments and of the step. -/
theorem grad_tile (v : BitVec 32) (x0 : Vec Ideal S1x128x4096 .bf16) (x1 : Vec Ideal S4x128x4096 .bf16) :
    k0_pay4 (F := Ideal) v x0
      (View.ld x1 (Rect.unit ![0, 0, 0] ![1, 128, 4096] inb_S4x128x4096_S1x128x4096_0_0_0))
      (View.ld x1 (Rect.unit ![1, 0, 0] ![1, 128, 4096] inb_S4x128x4096_S1x128x4096_1_0_0))
      (View.ld x1 (Rect.unit ![2, 0, 0] ![1, 128, 4096] inb_S4x128x4096_S1x128x4096_2_0_0))
      (View.ld x1 (Rect.unit ![3, 0, 0] ![1, 128, 4096] inb_S4x128x4096_S1x128x4096_3_0_0)) = gatheredTile v x0 x1 := by
  refine funext fun y => ?_
  rw [ix2_coords y]
  unfold gatheredTile summand
  pointwise [k0_pay4]
  simp only [select_word]
  rw [Fin.sum_univ_four]
  rfl

variable (x : FVec Ideal S128x4096 .f32) (x2 x3 x4 : Vec Ideal S128x4096 .f32)

theorem first_tile : k0_pay1 (F := Ideal) x x3 = first x x3 := by
  refine funext fun y => ?_
  rw [ix2_coords y]
  unfold first firstOf
  pointwise [k0_pay1]

theorem second_tile : k0_pay2 (F := Ideal) x x4 = second x x4 := by
  refine funext fun y => ?_
  rw [ix2_coords y]
  unfold second secondOf
  pointwise [k0_pay2]

theorem step_tile : k0_pay3 (F := Ideal) x x2 x3 x4 = step x2 x x3 x4 := by
  refine funext fun y => ?_
  rw [ix2_coords y]
  unfold step stepOf firstOf secondOf
  pointwise [k0_pay1, k0_pay2, k0_pay3]

/-- The windows whose blocks do not depend on the chip, and the point's coordinate. -/
theorem index_at : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]
    ∧ (grid0.coords t 0).val = t.val := by decide +kernel

variable (m : (ℓ : Loc nD τ sig) → Buf (Elt Ideal) ℓ) (g : Dev nD → PrngReg) (c : Dev nD) (hO : Ok m)

/-- The chip's number, its own summands, the received ones, the weight and its two moments as launched. -/
abbrev word : BitVec 32 := m ((c.tc : Thread nD τ).loc main_arg0) (ix1 0)
abbrev arg1 : FVec Ideal S4x512x4096 .bf16 := m ((c.tc : Thread nD τ).loc main_arg1)
abbrev arg2 : FVec Ideal S4x512x4096 .bf16 := m ((c.tc : Thread nD τ).loc main_arg2)
abbrev arg3 : FVec Ideal S512x4096 .f32 := m ((c.tc : Thread nD τ).loc main_arg3)
abbrev arg4 : FVec Ideal S512x4096 .f32 := m ((c.tc : Thread nD τ).loc main_arg4)
abbrev arg5 : FVec Ideal S512x4096 .f32 := m ((c.tc : Thread nD τ).loc main_arg5)

/-- The table's one word is the chip's number. -/
theorem table_word : (tbl m).at 0 (Rect.unit ![0] S1.size inb_S1_S1_0) numel1_S1 = word m c := by
  obtain rfl : c = 0 := Subsingleton.elim _ _
  exact congrArg (tbl m 0) (idx_one _ _)

theorem out_grad (t : Fin (cfgM m hO).N) : (outsAt0 m hO c t).1 = gatheredTile (word m c) (iblk m hO c 0 t) (iblk m hO c 1 t) := by
  unfold outsAt0
  frame_out
  exact (grad_tile _ _ _).trans (equal_three gatheredTile (table_word m c) ((hs0_0 m hO t).read_unread _) ((hs0_1 m hO t).read_unread _))

theorem out_step (t : Fin (cfgM m hO).N) : (outsAt0 m hO c t).2.1
    = step (iblk m hO c 2 t : FVec Ideal S128x4096 .f32) (gatheredTile (word m c) (iblk m hO c 0 t) (iblk m hO c 1 t)) (iblk m hO c 3 t) (iblk m hO c 4 t) := by
  unfold outsAt0
  frame_out
  exact (step_tile _ _ _ _).trans (equal_four step ((hs0_2 m hO t).read_unread _) ((grad_tile _ _ _).trans (equal_three gatheredTile (table_word m c) ((hs0_0 m hO t).read_unread _) ((hs0_1 m hO t).read_unread _))) ((hs0_3 m hO t).read_unread _) ((hs0_4 m hO t).read_unread _))

theorem out_first (t : Fin (cfgM m hO).N) : (outsAt0 m hO c t).2.2.1
    = first (gatheredTile (word m c) (iblk m hO c 0 t) (iblk m hO c 1 t)) (iblk m hO c 3 t) := by
  unfold outsAt0
  frame_out
  exact (first_tile _ _).trans (equal_two first ((grad_tile _ _ _).trans (equal_three gatheredTile (table_word m c) ((hs0_0 m hO t).read_unread _) ((hs0_1 m hO t).read_unread _))) ((hs0_3 m hO t).read_unread _))

theorem out_second (t : Fin (cfgM m hO).N) : (outsAt0 m hO c t).2.2.2
    = second (gatheredTile (word m c) (iblk m hO c 0 t) (iblk m hO c 1 t)) (iblk m hO c 4 t) := by
  unfold outsAt0
  frame_out
  exact (second_tile _ _).trans (equal_two second ((grad_tile _ _ _).trans (equal_three gatheredTile (table_word m c) ((hs0_0 m hO t).read_unread _) ((hs0_1 m hO t).read_unread _))) ((hs0_4 m hO t).read_unread _))

theorem index0 (t : Fin (cfgM m hO).N) : ((cfgM m hO).win 0).index t = ![(word m c).toNat, t.val, 0] := by
  show cc0_transform_0 inb_S1_S1_0 numel1_S1 (tbl m) (grid0.coords t) = _
  have h : (grid0.coords t 0).val = t.val := (index_at t).2.2.2.2.2.2.2.2
  refine congrArg₂ (fun a b : ℕ => (![a, b, 0] : Fin 3 → ℕ)) (congrArg BitVec.toNat (table_word m c)) ?_
  exact (BitVec.toNat_ofNat _ _).trans ((Nat.mod_eq_of_lt (h ▸ lt_trans t.isLt (by decide : grid0.N < 2 ^ 32))).trans h)

/-- Row `u` of the block at point `t`. -/
def row (t : Fin grid0.N) (u : Fin 128) : Fin 512 := ⟨t.val * 128 + u.val, by have h : t.val < 4 := t.isLt; omega⟩

/-- A block's index, its size and the place in the block give the place in the array. -/
theorem place (t : Fin grid0.N) (u : Fin 128) (v : Fin 4096) (a : Fin 2) : (![t.val, 0] : Fin 2 → ℕ) a * S128x4096.size a + (ix2 (n0 := 128) (n1 := 4096) u v a).val
    = (ix2 (n0 := 512) (n1 := 4096) (row t u) v a).val :=
  match a with
  | 0 => rfl
  | 1 => (by omega : 0 * 4096 + v.val = v.val)

theorem place_own (t : Fin grid0.N) (k : Fin 4) (u : Fin 128) (v : Fin 4096) (a : Fin 3) : (![k.val, t.val, 0] : Fin 3 → ℕ) a * S1x128x4096.size a + (ix3 (n0 := 1) (n1 := 128) (n2 := 4096) 0 u v a).val
    = (ix3 (n0 := 4) (n1 := 512) (n2 := 4096) k (row t u) v a).val :=
  match a with
  | 0 => (by omega : k.val * 1 + 0 = k.val)
  | 1 => rfl
  | 2 => (by omega : 0 * 4096 + v.val = v.val)

theorem place_all (t : Fin grid0.N) (k : Fin 4) (u : Fin 128) (v : Fin 4096) (a : Fin 3) : (![0, t.val, 0] : Fin 3 → ℕ) a * S4x128x4096.size a + (ix3 (n0 := 4) (n1 := 128) (n2 := 4096) k u v a).val
    = (ix3 (n0 := 4) (n1 := 512) (n2 := 4096) k (row t u) v a).val :=
  match a with
  | 0 => (by omega : 0 * 4 + k.val = k.val)
  | 1 => rfl
  | 2 => (by omega : 0 * 4096 + v.val = v.val)

variable (t : Fin (cfgM m hO).N)

/-- Where the blocks lie in their arrays. -/
theorem emb0 (k : Fin 4) (h : (word m c).toNat = k.val) (u : Fin 128) (v : Fin 4096) :
    (((cfgM m hO).win 0).blk t).view.emb (ix3 (n0 := 1) (n1 := 128) (n2 := 4096) 0 u v) = ix3 (n0 := 4) (n1 := 512) (n2 := 4096) k (row t u) v := by
  refine funext fun a => Fin.ext ?_
  refine (Pipeline.Window.rect_emb_val ((cfgM m hO).win 0) t _ a).trans ?_
  rw [index0 m c hO t, h]
  exact place_own t k u v a

theorem emb1 (k : Fin 4) (u : Fin 128) (v : Fin 4096) :
    (((cfgM m hO).win 1).blk t).view.emb (ix3 (n0 := 4) (n1 := 128) (n2 := 4096) k u v) = ix3 (n0 := 4) (n1 := 512) (n2 := 4096) k (row t u) v := by
  refine funext fun a => Fin.ext ?_
  refine (Pipeline.Window.rect_emb_val ((cfgM m hO).win 1) t _ a).trans ?_
  rw [show ((cfgM m hO).win 1).index t = ![0, t.val, 0] from (index_at t).1]
  exact place_all t k u v a

theorem emb2 (u : Fin 128) (v : Fin 4096) :
    (((cfgM m hO).win 2).blk t).view.emb (ix2 (n0 := 128) (n1 := 4096) u v) = ix2 (n0 := 512) (n1 := 4096) (row t u) v := by
  refine funext fun a => Fin.ext ?_
  refine (Pipeline.Window.rect_emb_val ((cfgM m hO).win 2) t _ a).trans ?_
  rw [show ((cfgM m hO).win 2).index t = ![t.val, 0] from (index_at t).2.1]
  exact place t u v a

theorem emb3 (u : Fin 128) (v : Fin 4096) :
    (((cfgM m hO).win 3).blk t).view.emb (ix2 (n0 := 128) (n1 := 4096) u v) = ix2 (n0 := 512) (n1 := 4096) (row t u) v := by
  refine funext fun a => Fin.ext ?_
  refine (Pipeline.Window.rect_emb_val ((cfgM m hO).win 3) t _ a).trans ?_
  rw [show ((cfgM m hO).win 3).index t = ![t.val, 0] from (index_at t).2.2.1]
  exact place t u v a

theorem emb4 (u : Fin 128) (v : Fin 4096) :
    (((cfgM m hO).win 4).blk t).view.emb (ix2 (n0 := 128) (n1 := 4096) u v) = ix2 (n0 := 512) (n1 := 4096) (row t u) v := by
  refine funext fun a => Fin.ext ?_
  refine (Pipeline.Window.rect_emb_val ((cfgM m hO).win 4) t _ a).trans ?_
  rw [show ((cfgM m hO).win 4).index t = ![t.val, 0] from (index_at t).2.2.2.1]
  exact place t u v a

theorem emb5 (u : Fin 128) (v : Fin 4096) :
    (((cfgM m hO).win 5).blk t).view.emb (ix2 (n0 := 128) (n1 := 4096) u v) = ix2 (n0 := 512) (n1 := 4096) (row t u) v := by
  refine funext fun a => Fin.ext ?_
  refine (Pipeline.Window.rect_emb_val ((cfgM m hO).win 5) t _ a).trans ?_
  rw [show ((cfgM m hO).win 5).index t = ![t.val, 0] from (index_at t).2.2.2.2.1]
  exact place t u v a

/-- The blocks cover the array. -/
theorem covers5 : ((cfgM m hO).win 5).Covers := by
  refine ⟨(by decide : ∀ a : Fin 2, 0 < S128x4096.size a), fun β => ?_⟩
  have b0 : (β (0 : Fin 2)).val < grid0.N := lt_of_lt_of_le (β (0 : Fin 2)).isLt (by decide : (512 + 128 - 1) / 128 ≤ grid0.N)
  have b1 : (β (1 : Fin 2)).val < 1 := lt_of_lt_of_le (β (1 : Fin 2)).isLt (by decide : (4096 + 4096 - 1) / 4096 ≤ 1)
  refine ⟨⟨_, b0⟩, flush0_5 _ _, fun a => ⟨?_, .inl rfl⟩⟩
  rw [show ((cfgM m hO).win 5).index ⟨_, b0⟩ = ![(β (0 : Fin 2)).val, 0] from (index_at ⟨_, b0⟩).2.2.2.2.1]
  exact start_two (fun a : Fin 2 => (β a).val) b1 a

theorem emb6 (u : Fin 128) (v : Fin 4096) :
    (((cfgM m hO).win 6).blk t).view.emb (ix2 (n0 := 128) (n1 := 4096) u v) = ix2 (n0 := 512) (n1 := 4096) (row t u) v := by
  refine funext fun a => Fin.ext ?_
  refine (Pipeline.Window.rect_emb_val ((cfgM m hO).win 6) t _ a).trans ?_
  rw [show ((cfgM m hO).win 6).index t = ![t.val, 0] from (index_at t).2.2.2.2.2.1]
  exact place t u v a

/-- The blocks cover the array. -/
theorem covers6 : ((cfgM m hO).win 6).Covers := by
  refine ⟨(by decide : ∀ a : Fin 2, 0 < S128x4096.size a), fun β => ?_⟩
  have b0 : (β (0 : Fin 2)).val < grid0.N := lt_of_lt_of_le (β (0 : Fin 2)).isLt (by decide : (512 + 128 - 1) / 128 ≤ grid0.N)
  have b1 : (β (1 : Fin 2)).val < 1 := lt_of_lt_of_le (β (1 : Fin 2)).isLt (by decide : (4096 + 4096 - 1) / 4096 ≤ 1)
  refine ⟨⟨_, b0⟩, flush0_6 _ _, fun a => ⟨?_, .inl rfl⟩⟩
  rw [show ((cfgM m hO).win 6).index ⟨_, b0⟩ = ![(β (0 : Fin 2)).val, 0] from (index_at ⟨_, b0⟩).2.2.2.2.2.1]
  exact start_two (fun a : Fin 2 => (β a).val) b1 a

theorem emb7 (u : Fin 128) (v : Fin 4096) :
    (((cfgM m hO).win 7).blk t).view.emb (ix2 (n0 := 128) (n1 := 4096) u v) = ix2 (n0 := 512) (n1 := 4096) (row t u) v := by
  refine funext fun a => Fin.ext ?_
  refine (Pipeline.Window.rect_emb_val ((cfgM m hO).win 7) t _ a).trans ?_
  rw [show ((cfgM m hO).win 7).index t = ![t.val, 0] from (index_at t).2.2.2.2.2.2.1]
  exact place t u v a

/-- The blocks cover the array. -/
theorem covers7 : ((cfgM m hO).win 7).Covers := by
  refine ⟨(by decide : ∀ a : Fin 2, 0 < S128x4096.size a), fun β => ?_⟩
  have b0 : (β (0 : Fin 2)).val < grid0.N := lt_of_lt_of_le (β (0 : Fin 2)).isLt (by decide : (512 + 128 - 1) / 128 ≤ grid0.N)
  have b1 : (β (1 : Fin 2)).val < 1 := lt_of_lt_of_le (β (1 : Fin 2)).isLt (by decide : (4096 + 4096 - 1) / 4096 ≤ 1)
  refine ⟨⟨_, b0⟩, flush0_7 _ _, fun a => ⟨?_, .inl rfl⟩⟩
  rw [show ((cfgM m hO).win 7).index ⟨_, b0⟩ = ![(β (0 : Fin 2)).val, 0] from (index_at ⟨_, b0⟩).2.2.2.2.2.2.1]
  exact start_two (fun a : Fin 2 => (β a).val) b1 a

theorem emb8 (u : Fin 128) (v : Fin 4096) :
    (((cfgM m hO).win 8).blk t).view.emb (ix2 (n0 := 128) (n1 := 4096) u v) = ix2 (n0 := 512) (n1 := 4096) (row t u) v := by
  refine funext fun a => Fin.ext ?_
  refine (Pipeline.Window.rect_emb_val ((cfgM m hO).win 8) t _ a).trans ?_
  rw [show ((cfgM m hO).win 8).index t = ![t.val, 0] from (index_at t).2.2.2.2.2.2.2.1]
  exact place t u v a

/-- The blocks cover the array. -/
theorem covers8 : ((cfgM m hO).win 8).Covers := by
  refine ⟨(by decide : ∀ a : Fin 2, 0 < S128x4096.size a), fun β => ?_⟩
  have b0 : (β (0 : Fin 2)).val < grid0.N := lt_of_lt_of_le (β (0 : Fin 2)).isLt (by decide : (512 + 128 - 1) / 128 ≤ grid0.N)
  have b1 : (β (1 : Fin 2)).val < 1 := lt_of_lt_of_le (β (1 : Fin 2)).isLt (by decide : (4096 + 4096 - 1) / 4096 ≤ 1)
  refine ⟨⟨_, b0⟩, flush0_8 _ _, fun a => ⟨?_, .inl rfl⟩⟩
  rw [show ((cfgM m hO).win 8).index ⟨_, b0⟩ = ![(β (0 : Fin 2)).val, 0] from (index_at ⟨_, b0⟩).2.2.2.2.2.2.2.1]
  exact start_two (fun a : Fin 2 => (β a).val) b1 a

/-- A tile's gradient is the array's. -/
theorem grad_point (u : Fin 128) (v : Fin 4096) :
    gatheredTile (word m c) (iblk m hO c 0 t) (iblk m hO c 1 t) (ix2 u v) = gathered (word m c) (arg1 m c) (arg2 m c) (ix2 (row t u) v) := by
  refine Finset.sum_congr rfl fun k _ => ?_
  unfold summand
  by_cases h : word m c = BitVec.ofNat 32 k.val
  · refine (if_pos h).trans (Eq.trans ?_ (if_pos h).symm)
    have hk : (word m c).toNat = k.val := by
      rw [h, BitVec.toNat_ofNat]
      exact Nat.mod_eq_of_lt (lt_trans k.isLt (by decide))
    exact congrArg (arg1 m c) (emb0 m c hO t k hk u v)
  · refine (if_neg h).trans (Eq.trans ?_ (if_neg h).symm)
    exact congrArg (arg2 m c) (emb1 m hO t k u v)

/-- The kernel's gradient. -/
theorem final_grad : (dats m hO 0 c).arrAt 5 (cfgM m hO).N = gathered (word m c) (arg1 m c) (arg2 m c) := by
  refine (dats m hO 0 c).arrAt_eq_of_covers 5 _ (covers5 m hO) fun t hf (y : S128x4096.Idx) => ?_
  obtain ⟨u, v, rfl⟩ : ∃ u v, y = ix2 u v := ⟨_, _, ix2_coords y⟩
  rw [emb5 m hO t u v]
  refine (congrFun ((after0_5 m hO c t).trans (out_grad m c hO t)) (ix2 u v)).trans ?_
  exact grad_point m c hO t u v

/-- The kernel's step. -/
theorem final_step : (dats m hO 0 c).arrAt 6 (cfgM m hO).N = step (arg3 m c) (gathered (word m c) (arg1 m c) (arg2 m c)) (arg4 m c) (arg5 m c) := by
  refine (dats m hO 0 c).arrAt_eq_of_covers 6 _ (covers6 m hO) fun t hf (y : S128x4096.Idx) => ?_
  obtain ⟨u, v, rfl⟩ : ∃ u v, y = ix2 u v := ⟨_, _, ix2_coords y⟩
  rw [emb6 m hO t u v]
  refine (congrFun ((after0_6 m hO c t).trans (out_step m c hO t)) (ix2 u v)).trans ?_
  have e2 : iblk m hO c 2 t (ix2 u v) = arg3 m c (ix2 (row t u) v) := congrArg (arg3 m c) (emb2 m hO t u v)
  have e3 : iblk m hO c 3 t (ix2 u v) = arg4 m c (ix2 (row t u) v) := congrArg (arg4 m c) (emb3 m hO t u v)
  have e4 : iblk m hO c 4 t (ix2 u v) = arg5 m c (ix2 (row t u) v) := congrArg (arg5 m c) (emb4 m hO t u v)
  unfold step
  rw [e2, e3, e4, grad_point m c hO t u v]

/-- The kernel's first moment. -/
theorem final_first : (dats m hO 0 c).arrAt 7 (cfgM m hO).N = first (gathered (word m c) (arg1 m c) (arg2 m c)) (arg4 m c) := by
  refine (dats m hO 0 c).arrAt_eq_of_covers 7 _ (covers7 m hO) fun t hf (y : S128x4096.Idx) => ?_
  obtain ⟨u, v, rfl⟩ : ∃ u v, y = ix2 u v := ⟨_, _, ix2_coords y⟩
  rw [emb7 m hO t u v]
  refine (congrFun ((after0_7 m hO c t).trans (out_first m c hO t)) (ix2 u v)).trans ?_
  have e3 : iblk m hO c 3 t (ix2 u v) = arg4 m c (ix2 (row t u) v) := congrArg (arg4 m c) (emb3 m hO t u v)
  unfold first
  rw [e3, grad_point m c hO t u v]

/-- The kernel's second moment. -/
theorem final_second : (dats m hO 0 c).arrAt 8 (cfgM m hO).N = second (gathered (word m c) (arg1 m c) (arg2 m c)) (arg5 m c) := by
  refine (dats m hO 0 c).arrAt_eq_of_covers 8 _ (covers8 m hO) fun t hf (y : S128x4096.Idx) => ?_
  obtain ⟨u, v, rfl⟩ : ∃ u v, y = ix2 u v := ⟨_, _, ix2_coords y⟩
  rw [emb8 m hO t u v]
  refine (congrFun ((after0_8 m hO c t).trans (out_second m c hO t)) (ix2 u v)).trans ?_
  have e4 : iblk m hO c 4 t (ix2 u v) = arg5 m c (ix2 (row t u) v) := congrArg (arg5 m c) (emb4 m hO t u v)
  unfold second
  rw [e4, grad_point m c hO t u v]

include hO in
/-- The run: the gradient, the step and both moments, the arguments unchanged. -/
theorem run_value : θ_run defs (onTc (τ := τ) (main (F := Ideal))) ⟨m, fun _ => 0, g⟩ fun r => ∀ c : Dev nD,
      r.2.mem ((c.tc : Thread nD τ).loc main_v0_0) = gathered (word m c) (arg1 m c) (arg2 m c)
      ∧ r.2.mem ((c.tc : Thread nD τ).loc main_v0_1) = step (arg3 m c) (gathered (word m c) (arg1 m c) (arg2 m c)) (arg4 m c) (arg5 m c)
      ∧ r.2.mem ((c.tc : Thread nD τ).loc main_v0_2) = first (gathered (word m c) (arg1 m c) (arg2 m c)) (arg4 m c)
      ∧ r.2.mem ((c.tc : Thread nD τ).loc main_v0_3) = second (gathered (word m c) (arg1 m c) (arg2 m c)) (arg5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 5).trans (final_grad m c hO), ((h.1 c).1 6).trans (final_step m c hO), ((h.1 c).1 7).trans (final_first m c hO), ((h.1 c).1 8).trans (final_second m c hO), h.2 c⟩)
    (θ_run_and (run_main m g hO) (unchanged m g hO))

/-- Over the extended reals the kernel and the reference compute the same gradient, step and moments. -/
theorem same_value : Cert.algebraic_StepOutIdeal_StepOutReferenceIdeal := fun m g m' g' hpre h =>
  ⟨fun c => gathered (word m c) (arg1 m c) (arg2 m c), fun c => step (arg3 m c) (gathered (word m c) (arg1 m c) (arg2 m c)) (arg4 m c) (arg5 m c),
    fun c => first (gathered (word m c) (arg1 m c) (arg2 m c)) (arg4 m c), fun c => second (gathered (word m c) (arg1 m c) (arg2 m c)) (arg5 m c),
    run_value m g (ok_of_pre m hpre),
    (θ_run Cert.StepOutReferenceIdeal.defs _ _).mono (fun _ r c => by
      obtain ⟨h0, h1, h2, h3, h4, h5⟩ := h c
      obtain ⟨r0, r1, r2, r3, rest⟩ := r c
      refine ⟨r0.trans ?_, r1.trans ?_, r2.trans ?_, r3.trans ?_, rest⟩
      · rw [h0, h1, h2]
        exact Cert.StepOutReferenceIdeal.gathered_eq _ _ _
      · rw [h0, h1, h2, h3, h4, h5]
        refine (Cert.StepOutReferenceIdeal.step_eq _ _ _ _).trans ?_
        exact congrArg (fun x => step _ x _ _) (Cert.StepOutReferenceIdeal.gathered_eq _ _ _)
      · rw [h0, h1, h2, h4]
        refine (Cert.StepOutReferenceIdeal.first_eq _ _).trans ?_
        exact congrArg (fun x => first x _) (Cert.StepOutReferenceIdeal.gathered_eq _ _ _)
      · rw [h0, h1, h2, h5]
        refine (Cert.StepOutReferenceIdeal.second_eq _ _).trans ?_
        exact congrArg (fun x => second x _) (Cert.StepOutReferenceIdeal.gathered_eq _ _ _))
      (Cert.StepOutReferenceIdeal.Value.run m' g')⟩

/-- The idealized kernel runs, its arguments end unchanged and every semaphore counter reads zero. -/
theorem ideal_frame : Cert.quiescent_StepOutIdeal := fun m ρ h => frame m ρ (ok_of_pre m h)

/-- The printed kernel runs, its arguments end unchanged and every semaphore counter reads zero. -/
theorem kernel_frame : Cert.quiescent_StepOut := fun m ρ h => Cert.StepOut.Gen.frame m ρ (Cert.StepOut.ok_of_pre m h)

end Cert.StepOutIdeal

end
-- ==== Proof.Dw.StepIn.lean ====
/- The sum over the four chips of the input projection's gradient and its AdamW update: the kernel and the reference compute one gradient and one step over the extended reals. -/
module

public import proofs.«01_k».proof.Defs
public import proofs.«01_k».proof.Proof.Dw.Product
public import proofs.«01_k».proof.Proof.Dw.Gate
public import proofs.«01_k».proof.Proof.Dw.Moments
public import proofs.«01_k».proof.Proof.Dw.Chips
public import proofs.«01_k».proof.Proof.Gen.Pre_chip_for_in
public import proofs.«01_k».proof.Proof.Gen.StepIn.Frame
public import proofs.«01_k».proof.Proof.Gen.StepInIdeal.Frame
public import proofs.«01_k».proof.Proof.Gen.StepInReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.StepIn

open Cert.StepIn.Gen Cert.Chips
open Idealize.ShloMosaic Idealize.ShloMosaic.TcCoe Idealize.SL.Sem

/-- Under the precondition the block of the chip's own summand lies inside its array. -/
theorem ok_of_pre (m : (ℓ : Loc nD τ sig) → Buf (Elt Bits) ℓ) (h : Cert.Pre_StepIn m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_in.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 29 := hi; omega : ((i 0).val + 1) * 64 ≤ 1856)
  | 2 => exact (by decide : (0 + 1) * 4096 ≤ 4096)

end Cert.StepIn

namespace Cert.StepInReferenceIdeal

open Cert.StepInReferenceIdeal.Gen Cert.Product Cert.Moments Cert.Chips
open Idealize.ShloMosaic Idealize.ShloMosaic.ValueKit Idealize.SL.Sem

/-- The reference's gradient: the sum over the chips, the own summand chosen by a comparison with the chip's number. -/
theorem gathered_eq (v : IVec S1 32) (ps rx : FVec Ideal S4x1856x4096 .bf16) :
    (Host.reduceAdd (select (broadcastInDim S4x1856x4096 ![0, 1, 2] bcast_S4x1x1_S4x1856x4096_0_1_2 (cmpi .eq (shapeCast _ (iotaInDim S4 32 0) shapeCasts_S4_S4x1x1) (broadcastInDim S4x1x1 ![0, 1, 2] bcast_S1x1x1_S4x1x1_0_1_2 (broadcastInDim S1x1x1 ![2] bcast_S1_S1x1x1_2 v)))) (extf .f32 ps bitsLt_bf16_f32) (extf .f32 rx bitsLt_bf16_f32)) (constant S_ .f32 0x00000000#32) reducesTo_S4x1856x4096_S1856x4096_d0 h_S_ : FVec Ideal S1856x4096 .f32)
      = gathered (v (ix1 0)) ps rx := by
  refine funext fun y => ?_
  rw [ix2_coords y]
  generalize y 0 = u
  generalize y 1 = w
  unfold gathered summand
  pointwise
  exact Finset.sum_congr rfl fun k _ => (select_word _ _ _ _).trans (if_congr eq_comm rfl rfl)

variable (p g a b : FVec Ideal S1856x4096 .f32)

/-- The reference's first moment. -/
theorem first_eq : (addf (mulf (broadcastInDim S1856x4096 ![] bcast_S_S1856x4096 (constant S_ .f32 0x3F666666#32)) a) (mulf (broadcastInDim S1856x4096 ![] bcast_S_S1856x4096 (constant S_ .f32 0x3DCCCCCD#32)) g) : FVec Ideal S1856x4096 .f32) = first g a := by
  refine funext fun y => ?_
  rw [ix2_coords y]
  unfold first firstOf
  pointwise

/-- The reference's second moment. -/
theorem second_eq : (addf (mulf (broadcastInDim S1856x4096 ![] bcast_S_S1856x4096 (constant S_ .f32 0x3F7FBE77#32)) b) (mulf (broadcastInDim S1856x4096 ![] bcast_S_S1856x4096 (constant S_ .f32 0x3A83126F#32)) (mulf g g)) : FVec Ideal S1856x4096 .f32) = second g b := by
  refine funext fun y => ?_
  rw [ix2_coords y]
  unfold second secondOf
  pointwise

/-- The reference's step. -/
theorem step_eq : (mulf (broadcastInDim S1856x4096 ![] bcast_S_S1856x4096 (constant S_ .f32 0xBA83126F#32)) (addf (Host.divf (Host.divf (addf (mulf (broadcastInDim S1856x4096 ![] bcast_S_S1856x4096 (constant S_ .f32 0x3F666666#32)) a) (mulf (broadcastInDim S1856x4096 ![] bcast_S_S1856x4096 (constant S_ .f32 0x3DCCCCCD#32)) g)) (broadcastInDim S1856x4096 ![] bcast_S_S1856x4096 (constant S_ .f32 0x3F26BD02#32))) (addf (Host.sqrt (Host.divf (addf (mulf (broadcastInDim S1856x4096 ![] bcast_S_S1856x4096 (constant S_ .f32 0x3F7FBE77#32)) b) (mulf (broadcastInDim S1856x4096 ![] bcast_S_S1856x4096 (constant S_ .f32 0x3A83126F#32)) (mulf g g))) (broadcastInDim S1856x4096 ![] bcast_S_S1856x4096 (constant S_ .f32 0x3C231ACC#32)))) (broadcastInDim S1856x4096 ![] bcast_S_S1856x4096 (constant S_ .f32 0x322BCC77#32)))) (mulf (broadcastInDim S1856x4096 ![] bcast_S_S1856x4096 (constant S_ .f32 0x3C23D70A#32)) p)) : FVec Ideal S1856x4096 .f32) = step p g a b := by
  refine funext fun y => ?_
  rw [ix2_coords y]
  unfold step stepOf firstOf secondOf
  pointwise

/-- The reference runs and its arguments end unchanged. -/
theorem frame : Cert.quiescent_StepInReferenceIdeal := fun m ρ _ =>
  (θ_run defs _ _).mono (fun r h => ⟨fun c => (h c).2.2.2.2, sem_eq_zero_of_no_sems (by decide) r.2⟩) (Value.run (F := Ideal) m ρ)

theorem frame_pre : Cert.quiescent_StepInReferenceIdeal_pre_chip_for_in := fun m ρ _ =>
  (θ_run defs _ _).mono (fun r h => ⟨fun c => (h c).2.2.2.2, sem_eq_zero_of_no_sems (by decide) r.2⟩) (Value.run (F := Ideal) m ρ)

end Cert.StepInReferenceIdeal

namespace Cert.StepInIdeal

open Cert.StepInIdeal.Gen Cert.Product Cert.Moments Cert.Chips
open Idealize.ShloMosaic Idealize.ShloMosaic.TcCoe Idealize.SL.Sem
open Idealize.ShloMosaic.Pipeline (Dat)

/-- Under the precondition the block of the chip's own summand lies inside its array. -/
theorem ok_of_pre (m : (ℓ : Loc nD τ sig) → Buf (Elt Ideal) ℓ) (h : Cert.Pre_StepInIdeal m) : Ok m := by
  unfold Ok ok0
  intro i
  have hv : (tbl m 0 (ix1 0) : BitVec 32).toNat < 4 := by
    obtain ⟨a, b⟩ := h 0
    have a := congrFun a (ix1 0)
    have b := congrFun b (ix1 0)
    simp only [Pre_chip_for_in.fn, cmpi, broadcastInDim, constantI] at a b
    exact lt_four _ a b
  have hi := (i 0).isLt
  have e : cc0_transform_0 inb_S1_S1_0 numel1_S1 (tbl m) i = ![(tbl m 0 (ix1 0) : BitVec 32).toNat, (i 0).val, 0] := by
    have w : (tbl m).at 0 (Rect.unit ![0] S1.size inb_S1_S1_0) numel1_S1 = tbl m 0 (ix1 0) := congrArg (tbl m 0) (idx_one _ _)
    exact congrArg₂ (fun a b : ℕ => (![a, b, 0] : Fin 3 → ℕ)) (congrArg BitVec.toNat w) ((BitVec.toNat_ofNat _ _).trans (Nat.mod_eq_of_lt (lt_trans hi (by decide))))
  refine ⟨fun a => ?_, .inr (Affine.block_words_dvd (of_decide_eq_true rfl) (by decide))⟩
  rw [e]
  match a with
  | 0 => exact (by omega : (BitVec.toNat (tbl m 0 (ix1 0)) + 1) * 1 ≤ 4)
  | 1 => exact (by have : (i 0).val < 29 := hi; omega : ((i 0).val + 1) * 64 ≤ 1856)
  | 2 => exact (by decide : (0 + 1) * 4096 ≤ 4096)

/-- A tile of the gradient, of the two moments and of the step. -/
theorem grad_tile (v : BitVec 32) (x0 : Vec Ideal S1x64x4096 .bf16) (x1 : Vec Ideal S4x64x4096 .bf16) :
    k0_pay4 (F := Ideal) v x0
      (View.ld x1 (Rect.unit ![0, 0, 0] ![1, 64, 4096] inb_S4x64x4096_S1x64x4096_0_0_0))
      (View.ld x1 (Rect.unit ![1, 0, 0] ![1, 64, 4096] inb_S4x64x4096_S1x64x4096_1_0_0))
      (View.ld x1 (Rect.unit ![2, 0, 0] ![1, 64, 4096] inb_S4x64x4096_S1x64x4096_2_0_0))
      (View.ld x1 (Rect.unit ![3, 0, 0] ![1, 64, 4096] inb_S4x64x4096_S1x64x4096_3_0_0)) = gatheredTile v x0 x1 := by
  refine funext fun y => ?_
  rw [ix2_coords y]
  unfold gatheredTile summand
  pointwise [k0_pay4]
  simp only [select_word]
  rw [Fin.sum_univ_four]
  rfl

variable (x : FVec Ideal S64x4096 .f32) (x2 x3 x4 : Vec Ideal S64x4096 .f32)

theorem first_tile : k0_pay1 (F := Ideal) x x3 = first x x3 := by
  refine funext fun y => ?_
  rw [ix2_coords y]
  unfold first firstOf
  pointwise [k0_pay1]

theorem second_tile : k0_pay2 (F := Ideal) x x4 = second x x4 := by
  refine funext fun y => ?_
  rw [ix2_coords y]
  unfold second secondOf
  pointwise [k0_pay2]

theorem step_tile : k0_pay3 (F := Ideal) x x2 x3 x4 = step x2 x x3 x4 := by
  refine funext fun y => ?_
  rw [ix2_coords y]
  unfold step stepOf firstOf secondOf
  pointwise [k0_pay1, k0_pay2, k0_pay3]

/-- The windows whose blocks do not depend on the chip, and the point's coordinate. -/
theorem index_at : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]
    ∧ (grid0.coords t 0).val = t.val := by decide +kernel

variable (m : (ℓ : Loc nD τ sig) → Buf (Elt Ideal) ℓ) (g : Dev nD → PrngReg) (c : Dev nD) (hO : Ok m)

/-- The chip's number, its own summands, the received ones, the weight and its two moments as launched. -/
abbrev word : BitVec 32 := m ((c.tc : Thread nD τ).loc main_arg0) (ix1 0)
abbrev arg1 : FVec Ideal S4x1856x4096 .bf16 := m ((c.tc : Thread nD τ).loc main_arg1)
abbrev arg2 : FVec Ideal S4x1856x4096 .bf16 := m ((c.tc : Thread nD τ).loc main_arg2)
abbrev arg3 : FVec Ideal S1856x4096 .f32 := m ((c.tc : Thread nD τ).loc main_arg3)
abbrev arg4 : FVec Ideal S1856x4096 .f32 := m ((c.tc : Thread nD τ).loc main_arg4)
abbrev arg5 : FVec Ideal S1856x4096 .f32 := m ((c.tc : Thread nD τ).loc main_arg5)

/-- The table's one word is the chip's number. -/
theorem table_word : (tbl m).at 0 (Rect.unit ![0] S1.size inb_S1_S1_0) numel1_S1 = word m c := by
  obtain rfl : c = 0 := Subsingleton.elim _ _
  exact congrArg (tbl m 0) (idx_one _ _)

theorem out_grad (t : Fin (cfgM m hO).N) : (outsAt0 m hO c t).1 = gatheredTile (word m c) (iblk m hO c 0 t) (iblk m hO c 1 t) := by
  unfold outsAt0
  frame_out
  exact (grad_tile _ _ _).trans (equal_three gatheredTile (table_word m c) ((hs0_0 m hO t).read_unread _) ((hs0_1 m hO t).read_unread _))

theorem out_step (t : Fin (cfgM m hO).N) : (outsAt0 m hO c t).2.1
    = step (iblk m hO c 2 t : FVec Ideal S64x4096 .f32) (gatheredTile (word m c) (iblk m hO c 0 t) (iblk m hO c 1 t)) (iblk m hO c 3 t) (iblk m hO c 4 t) := by
  unfold outsAt0
  frame_out
  exact (step_tile _ _ _ _).trans (equal_four step ((hs0_2 m hO t).read_unread _) ((grad_tile _ _ _).trans (equal_three gatheredTile (table_word m c) ((hs0_0 m hO t).read_unread _) ((hs0_1 m hO t).read_unread _))) ((hs0_3 m hO t).read_unread _) ((hs0_4 m hO t).read_unread _))

theorem out_first (t : Fin (cfgM m hO).N) : (outsAt0 m hO c t).2.2.1
    = first (gatheredTile (word m c) (iblk m hO c 0 t) (iblk m hO c 1 t)) (iblk m hO c 3 t) := by
  unfold outsAt0
  frame_out
  exact (first_tile _ _).trans (equal_two first ((grad_tile _ _ _).trans (equal_three gatheredTile (table_word m c) ((hs0_0 m hO t).read_unread _) ((hs0_1 m hO t).read_unread _))) ((hs0_3 m hO t).read_unread _))

theorem out_second (t : Fin (cfgM m hO).N) : (outsAt0 m hO c t).2.2.2
    = second (gatheredTile (word m c) (iblk m hO c 0 t) (iblk m hO c 1 t)) (iblk m hO c 4 t) := by
  unfold outsAt0
  frame_out
  exact (second_tile _ _).trans (equal_two second ((grad_tile _ _ _).trans (equal_three gatheredTile (table_word m c) ((hs0_0 m hO t).read_unread _) ((hs0_1 m hO t).read_unread _))) ((hs0_4 m hO t).read_unread _))

theorem index0 (t : Fin (cfgM m hO).N) : ((cfgM m hO).win 0).index t = ![(word m c).toNat, t.val, 0] := by
  show cc0_transform_0 inb_S1_S1_0 numel1_S1 (tbl m) (grid0.coords t) = _
  have h : (grid0.coords t 0).val = t.val := (index_at t).2.2.2.2.2.2.2.2
  refine congrArg₂ (fun a b : ℕ => (![a, b, 0] : Fin 3 → ℕ)) (congrArg BitVec.toNat (table_word m c)) ?_
  exact (BitVec.toNat_ofNat _ _).trans ((Nat.mod_eq_of_lt (h ▸ lt_trans t.isLt (by decide : grid0.N < 2 ^ 32))).trans h)

/-- Row `u` of the block at point `t`. -/
def row (t : Fin grid0.N) (u : Fin 64) : Fin 1856 := ⟨t.val * 64 + u.val, by have h : t.val < 29 := t.isLt; omega⟩

/-- A block's index, its size and the place in the block give the place in the array. -/
theorem place (t : Fin grid0.N) (u : Fin 64) (v : Fin 4096) (a : Fin 2) : (![t.val, 0] : Fin 2 → ℕ) a * S64x4096.size a + (ix2 (n0 := 64) (n1 := 4096) u v a).val
    = (ix2 (n0 := 1856) (n1 := 4096) (row t u) v a).val :=
  match a with
  | 0 => rfl
  | 1 => (by omega : 0 * 4096 + v.val = v.val)

theorem place_own (t : Fin grid0.N) (k : Fin 4) (u : Fin 64) (v : Fin 4096) (a : Fin 3) : (![k.val, t.val, 0] : Fin 3 → ℕ) a * S1x64x4096.size a + (ix3 (n0 := 1) (n1 := 64) (n2 := 4096) 0 u v a).val
    = (ix3 (n0 := 4) (n1 := 1856) (n2 := 4096) k (row t u) v a).val :=
  match a with
  | 0 => (by omega : k.val * 1 + 0 = k.val)
  | 1 => rfl
  | 2 => (by omega : 0 * 4096 + v.val = v.val)

theorem place_all (t : Fin grid0.N) (k : Fin 4) (u : Fin 64) (v : Fin 4096) (a : Fin 3) : (![0, t.val, 0] : Fin 3 → ℕ) a * S4x64x4096.size a + (ix3 (n0 := 4) (n1 := 64) (n2 := 4096) k u v a).val
    = (ix3 (n0 := 4) (n1 := 1856) (n2 := 4096) k (row t u) v a).val :=
  match a with
  | 0 => (by omega : 0 * 4 + k.val = k.val)
  | 1 => rfl
  | 2 => (by omega : 0 * 4096 + v.val = v.val)

variable (t : Fin (cfgM m hO).N)

/-- Where the blocks lie in their arrays. -/
theorem emb0 (k : Fin 4) (h : (word m c).toNat = k.val) (u : Fin 64) (v : Fin 4096) :
    (((cfgM m hO).win 0).blk t).view.emb (ix3 (n0 := 1) (n1 := 64) (n2 := 4096) 0 u v) = ix3 (n0 := 4) (n1 := 1856) (n2 := 4096) k (row t u) v := by
  refine funext fun a => Fin.ext ?_
  refine (Pipeline.Window.rect_emb_val ((cfgM m hO).win 0) t _ a).trans ?_
  rw [index0 m c hO t, h]
  exact place_own t k u v a

theorem emb1 (k : Fin 4) (u : Fin 64) (v : Fin 4096) :
    (((cfgM m hO).win 1).blk t).view.emb (ix3 (n0 := 4) (n1 := 64) (n2 := 4096) k u v) = ix3 (n0 := 4) (n1 := 1856) (n2 := 4096) k (row t u) v := by
  refine funext fun a => Fin.ext ?_
  refine (Pipeline.Window.rect_emb_val ((cfgM m hO).win 1) t _ a).trans ?_
  rw [show ((cfgM m hO).win 1).index t = ![0, t.val, 0] from (index_at t).1]
  exact place_all t k u v a

theorem emb2 (u : Fin 64) (v : Fin 4096) :
    (((cfgM m hO).win 2).blk t).view.emb (ix2 (n0 := 64) (n1 := 4096) u v) = ix2 (n0 := 1856) (n1 := 4096) (row t u) v := by
  refine funext fun a => Fin.ext ?_
  refine (Pipeline.Window.rect_emb_val ((cfgM m hO).win 2) t _ a).trans ?_
  rw [show ((cfgM m hO).win 2).index t = ![t.val, 0] from (index_at t).2.1]
  exact place t u v a

theorem emb3 (u : Fin 64) (v : Fin 4096) :
    (((cfgM m hO).win 3).blk t).view.emb (ix2 (n0 := 64) (n1 := 4096) u v) = ix2 (n0 := 1856) (n1 := 4096) (row t u) v := by
  refine funext fun a => Fin.ext ?_
  refine (Pipeline.Window.rect_emb_val ((cfgM m hO).win 3) t _ a).trans ?_
  rw [show ((cfgM m hO).win 3).index t = ![t.val, 0] from (index_at t).2.2.1]
  exact place t u v a

theorem emb4 (u : Fin 64) (v : Fin 4096) :
    (((cfgM m hO).win 4).blk t).view.emb (ix2 (n0 := 64) (n1 := 4096) u v) = ix2 (n0 := 1856) (n1 := 4096) (row t u) v := by
  refine funext fun a => Fin.ext ?_
  refine (Pipeline.Window.rect_emb_val ((cfgM m hO).win 4) t _ a).trans ?_
  rw [show ((cfgM m hO).win 4).index t = ![t.val, 0] from (index_at t).2.2.2.1]
  exact place t u v a

theorem emb5 (u : Fin 64) (v : Fin 4096) :
    (((cfgM m hO).win 5).blk t).view.emb (ix2 (n0 := 64) (n1 := 4096) u v) = ix2 (n0 := 1856) (n1 := 4096) (row t u) v := by
  refine funext fun a => Fin.ext ?_
  refine (Pipeline.Window.rect_emb_val ((cfgM m hO).win 5) t _ a).trans ?_
  rw [show ((cfgM m hO).win 5).index t = ![t.val, 0] from (index_at t).2.2.2.2.1]
  exact place t u v a

/-- The blocks cover the array. -/
theorem covers5 : ((cfgM m hO).win 5).Covers := by
  refine ⟨(by decide : ∀ a : Fin 2, 0 < S64x4096.size a), fun β => ?_⟩
  have b0 : (β (0 : Fin 2)).val < grid0.N := lt_of_lt_of_le (β (0 : Fin 2)).isLt (by decide : (1856 + 64 - 1) / 64 ≤ grid0.N)
  have b1 : (β (1 : Fin 2)).val < 1 := lt_of_lt_of_le (β (1 : Fin 2)).isLt (by decide : (4096 + 4096 - 1) / 4096 ≤ 1)
  refine ⟨⟨_, b0⟩, flush0_5 _ _, fun a => ⟨?_, .inl rfl⟩⟩
  rw [show ((cfgM m hO).win 5).index ⟨_, b0⟩ = ![(β (0 : Fin 2)).val, 0] from (index_at ⟨_, b0⟩).2.2.2.2.1]
  exact start_two (fun a : Fin 2 => (β a).val) b1 a

theorem emb6 (u : Fin 64) (v : Fin 4096) :
    (((cfgM m hO).win 6).blk t).view.emb (ix2 (n0 := 64) (n1 := 4096) u v) = ix2 (n0 := 1856) (n1 := 4096) (row t u) v := by
  refine funext fun a => Fin.ext ?_
  refine (Pipeline.Window.rect_emb_val ((cfgM m hO).win 6) t _ a).trans ?_
  rw [show ((cfgM m hO).win 6).index t = ![t.val, 0] from (index_at t).2.2.2.2.2.1]
  exact place t u v a

/-- The blocks cover the array. -/
theorem covers6 : ((cfgM m hO).win 6).Covers := by
  refine ⟨(by decide : ∀ a : Fin 2, 0 < S64x4096.size a), fun β => ?_⟩
  have b0 : (β (0 : Fin 2)).val < grid0.N := lt_of_lt_of_le (β (0 : Fin 2)).isLt (by decide : (1856 + 64 - 1) / 64 ≤ grid0.N)
  have b1 : (β (1 : Fin 2)).val < 1 := lt_of_lt_of_le (β (1 : Fin 2)).isLt (by decide : (4096 + 4096 - 1) / 4096 ≤ 1)
  refine ⟨⟨_, b0⟩, flush0_6 _ _, fun a => ⟨?_, .inl rfl⟩⟩
  rw [show ((cfgM m hO).win 6).index ⟨_, b0⟩ = ![(β (0 : Fin 2)).val, 0] from (index_at ⟨_, b0⟩).2.2.2.2.2.1]
  exact start_two (fun a : Fin 2 => (β a).val) b1 a

theorem emb7 (u : Fin 64) (v : Fin 4096) :
    (((cfgM m hO).win 7).blk t).view.emb (ix2 (n0 := 64) (n1 := 4096) u v) = ix2 (n0 := 1856) (n1 := 4096) (row t u) v := by
  refine funext fun a => Fin.ext ?_
  refine (Pipeline.Window.rect_emb_val ((cfgM m hO).win 7) t _ a).trans ?_
  rw [show ((cfgM m hO).win 7).index t = ![t.val, 0] from (index_at t).2.2.2.2.2.2.1]
  exact place t u v a

/-- The blocks cover the array. -/
theorem covers7 : ((cfgM m hO).win 7).Covers := by
  refine ⟨(by decide : ∀ a : Fin 2, 0 < S64x4096.size a), fun β => ?_⟩
  have b0 : (β (0 : Fin 2)).val < grid0.N := lt_of_lt_of_le (β (0 : Fin 2)).isLt (by decide : (1856 + 64 - 1) / 64 ≤ grid0.N)
  have b1 : (β (1 : Fin 2)).val < 1 := lt_of_lt_of_le (β (1 : Fin 2)).isLt (by decide : (4096 + 4096 - 1) / 4096 ≤ 1)
  refine ⟨⟨_, b0⟩, flush0_7 _ _, fun a => ⟨?_, .inl rfl⟩⟩
  rw [show ((cfgM m hO).win 7).index ⟨_, b0⟩ = ![(β (0 : Fin 2)).val, 0] from (index_at ⟨_, b0⟩).2.2.2.2.2.2.1]
  exact start_two (fun a : Fin 2 => (β a).val) b1 a

theorem emb8 (u : Fin 64) (v : Fin 4096) :
    (((cfgM m hO).win 8).blk t).view.emb (ix2 (n0 := 64) (n1 := 4096) u v) = ix2 (n0 := 1856) (n1 := 4096) (row t u) v := by
  refine funext fun a => Fin.ext ?_
  refine (Pipeline.Window.rect_emb_val ((cfgM m hO).win 8) t _ a).trans ?_
  rw [show ((cfgM m hO).win 8).index t = ![t.val, 0] from (index_at t).2.2.2.2.2.2.2.1]
  exact place t u v a

/-- The blocks cover the array. -/
theorem covers8 : ((cfgM m hO).win 8).Covers := by
  refine ⟨(by decide : ∀ a : Fin 2, 0 < S64x4096.size a), fun β => ?_⟩
  have b0 : (β (0 : Fin 2)).val < grid0.N := lt_of_lt_of_le (β (0 : Fin 2)).isLt (by decide : (1856 + 64 - 1) / 64 ≤ grid0.N)
  have b1 : (β (1 : Fin 2)).val < 1 := lt_of_lt_of_le (β (1 : Fin 2)).isLt (by decide : (4096 + 4096 - 1) / 4096 ≤ 1)
  refine ⟨⟨_, b0⟩, flush0_8 _ _, fun a => ⟨?_, .inl rfl⟩⟩
  rw [show ((cfgM m hO).win 8).index ⟨_, b0⟩ = ![(β (0 : Fin 2)).val, 0] from (index_at ⟨_, b0⟩).2.2.2.2.2.2.2.1]
  exact start_two (fun a : Fin 2 => (β a).val) b1 a

/-- A tile's gradient is the array's. -/
theorem grad_point (u : Fin 64) (v : Fin 4096) :
    gatheredTile (word m c) (iblk m hO c 0 t) (iblk m hO c 1 t) (ix2 u v) = gathered (word m c) (arg1 m c) (arg2 m c) (ix2 (row t u) v) := by
  refine Finset.sum_congr rfl fun k _ => ?_
  unfold summand
  by_cases h : word m c = BitVec.ofNat 32 k.val
  · refine (if_pos h).trans (Eq.trans ?_ (if_pos h).symm)
    have hk : (word m c).toNat = k.val := by
      rw [h, BitVec.toNat_ofNat]
      exact Nat.mod_eq_of_lt (lt_trans k.isLt (by decide))
    exact congrArg (arg1 m c) (emb0 m c hO t k hk u v)
  · refine (if_neg h).trans (Eq.trans ?_ (if_neg h).symm)
    exact congrArg (arg2 m c) (emb1 m hO t k u v)

/-- The kernel's gradient. -/
theorem final_grad : (dats m hO 0 c).arrAt 5 (cfgM m hO).N = gathered (word m c) (arg1 m c) (arg2 m c) := by
  refine (dats m hO 0 c).arrAt_eq_of_covers 5 _ (covers5 m hO) fun t hf (y : S64x4096.Idx) => ?_
  obtain ⟨u, v, rfl⟩ : ∃ u v, y = ix2 u v := ⟨_, _, ix2_coords y⟩
  rw [emb5 m hO t u v]
  refine (congrFun ((after0_5 m hO c t).trans (out_grad m c hO t)) (ix2 u v)).trans ?_
  exact grad_point m c hO t u v

/-- The kernel's step. -/
theorem final_step : (dats m hO 0 c).arrAt 6 (cfgM m hO).N = step (arg3 m c) (gathered (word m c) (arg1 m c) (arg2 m c)) (arg4 m c) (arg5 m c) := by
  refine (dats m hO 0 c).arrAt_eq_of_covers 6 _ (covers6 m hO) fun t hf (y : S64x4096.Idx) => ?_
  obtain ⟨u, v, rfl⟩ : ∃ u v, y = ix2 u v := ⟨_, _, ix2_coords y⟩
  rw [emb6 m hO t u v]
  refine (congrFun ((after0_6 m hO c t).trans (out_step m c hO t)) (ix2 u v)).trans ?_
  have e2 : iblk m hO c 2 t (ix2 u v) = arg3 m c (ix2 (row t u) v) := congrArg (arg3 m c) (emb2 m hO t u v)
  have e3 : iblk m hO c 3 t (ix2 u v) = arg4 m c (ix2 (row t u) v) := congrArg (arg4 m c) (emb3 m hO t u v)
  have e4 : iblk m hO c 4 t (ix2 u v) = arg5 m c (ix2 (row t u) v) := congrArg (arg5 m c) (emb4 m hO t u v)
  unfold step
  rw [e2, e3, e4, grad_point m c hO t u v]

/-- The kernel's first moment. -/
theorem final_first : (dats m hO 0 c).arrAt 7 (cfgM m hO).N = first (gathered (word m c) (arg1 m c) (arg2 m c)) (arg4 m c) := by
  refine (dats m hO 0 c).arrAt_eq_of_covers 7 _ (covers7 m hO) fun t hf (y : S64x4096.Idx) => ?_
  obtain ⟨u, v, rfl⟩ : ∃ u v, y = ix2 u v := ⟨_, _, ix2_coords y⟩
  rw [emb7 m hO t u v]
  refine (congrFun ((after0_7 m hO c t).trans (out_first m c hO t)) (ix2 u v)).trans ?_
  have e3 : iblk m hO c 3 t (ix2 u v) = arg4 m c (ix2 (row t u) v) := congrArg (arg4 m c) (emb3 m hO t u v)
  unfold first
  rw [e3, grad_point m c hO t u v]

/-- The kernel's second moment. -/
theorem final_second : (dats m hO 0 c).arrAt 8 (cfgM m hO).N = second (gathered (word m c) (arg1 m c) (arg2 m c)) (arg5 m c) := by
  refine (dats m hO 0 c).arrAt_eq_of_covers 8 _ (covers8 m hO) fun t hf (y : S64x4096.Idx) => ?_
  obtain ⟨u, v, rfl⟩ : ∃ u v, y = ix2 u v := ⟨_, _, ix2_coords y⟩
  rw [emb8 m hO t u v]
  refine (congrFun ((after0_8 m hO c t).trans (out_second m c hO t)) (ix2 u v)).trans ?_
  have e4 : iblk m hO c 4 t (ix2 u v) = arg5 m c (ix2 (row t u) v) := congrArg (arg5 m c) (emb4 m hO t u v)
  unfold second
  rw [e4, grad_point m c hO t u v]

include hO in
/-- The run: the gradient, the step and both moments, the arguments unchanged. -/
theorem run_value : θ_run defs (onTc (τ := τ) (main (F := Ideal))) ⟨m, fun _ => 0, g⟩ fun r => ∀ c : Dev nD,
      r.2.mem ((c.tc : Thread nD τ).loc main_v0_0) = gathered (word m c) (arg1 m c) (arg2 m c)
      ∧ r.2.mem ((c.tc : Thread nD τ).loc main_v0_1) = step (arg3 m c) (gathered (word m c) (arg1 m c) (arg2 m c)) (arg4 m c) (arg5 m c)
      ∧ r.2.mem ((c.tc : Thread nD τ).loc main_v0_2) = first (gathered (word m c) (arg1 m c) (arg2 m c)) (arg4 m c)
      ∧ r.2.mem ((c.tc : Thread nD τ).loc main_v0_3) = second (gathered (word m c) (arg1 m c) (arg2 m c)) (arg5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 5).trans (final_grad m c hO), ((h.1 c).1 6).trans (final_step m c hO), ((h.1 c).1 7).trans (final_first m c hO), ((h.1 c).1 8).trans (final_second m c hO), h.2 c⟩)
    (θ_run_and (run_main m g hO) (unchanged m g hO))

/-- Over the extended reals the kernel and the reference compute the same gradient, step and moments. -/
theorem same_value : Cert.algebraic_StepInIdeal_StepInReferenceIdeal := fun m g m' g' hpre h =>
  ⟨fun c => gathered (word m c) (arg1 m c) (arg2 m c), fun c => step (arg3 m c) (gathered (word m c) (arg1 m c) (arg2 m c)) (arg4 m c) (arg5 m c),
    fun c => first (gathered (word m c) (arg1 m c) (arg2 m c)) (arg4 m c), fun c => second (gathered (word m c) (arg1 m c) (arg2 m c)) (arg5 m c),
    run_value m g (ok_of_pre m hpre),
    (θ_run Cert.StepInReferenceIdeal.defs _ _).mono (fun _ r c => by
      obtain ⟨h0, h1, h2, h3, h4, h5⟩ := h c
      obtain ⟨r0, r1, r2, r3, rest⟩ := r c
      refine ⟨r0.trans ?_, r1.trans ?_, r2.trans ?_, r3.trans ?_, rest⟩
      · rw [h0, h1, h2]
        exact Cert.StepInReferenceIdeal.gathered_eq _ _ _
      · rw [h0, h1, h2, h3, h4, h5]
        refine (Cert.StepInReferenceIdeal.step_eq _ _ _ _).trans ?_
        exact congrArg (fun x => step _ x _ _) (Cert.StepInReferenceIdeal.gathered_eq _ _ _)
      · rw [h0, h1, h2, h4]
        refine (Cert.StepInReferenceIdeal.first_eq _ _).trans ?_
        exact congrArg (fun x => first x _) (Cert.StepInReferenceIdeal.gathered_eq _ _ _)
      · rw [h0, h1, h2, h5]
        refine (Cert.StepInReferenceIdeal.second_eq _ _).trans ?_
        exact congrArg (fun x => second x _) (Cert.StepInReferenceIdeal.gathered_eq _ _ _))
      (Cert.StepInReferenceIdeal.Value.run m' g')⟩

/-- The idealized kernel runs, its arguments end unchanged and every semaphore counter reads zero. -/
theorem ideal_frame : Cert.quiescent_StepInIdeal := fun m ρ h => frame m ρ (ok_of_pre m h)

/-- The printed kernel runs, its arguments end unchanged and every semaphore counter reads zero. -/
theorem kernel_frame : Cert.quiescent_StepIn := fun m ρ h => Cert.StepIn.Gen.frame m ρ (Cert.StepIn.ok_of_pre m h)

end Cert.StepInIdeal

end
-- ==== Proof.Dw.ConvGate.lean ====
/- The gated merge: the kernel and the reference compute one pair of arrays over the extended reals. -/
module

public import proofs.«01_k».proof.Defs
public import proofs.«01_k».proof.Proof.Dw.Product
public import proofs.«01_k».proof.Proof.Dw.Gate
public import proofs.«01_k».proof.Proof.Gen.ConvGate.Frame
public import proofs.«01_k».proof.Proof.Gen.ConvGateIdeal.Frame
public import proofs.«01_k».proof.Proof.Gen.ConvGateReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.ConvGateReferenceIdeal

open Cert.ConvGateReferenceIdeal.Gen Cert.Product
open Cert.Gate (gate)
open Idealize.ShloMosaic Idealize.SL.Sem

/-- The branch: the product with the transposed weight, and the bias. -/
def branch (a : FVec Ideal S4224x2048 .bf16) (w : FVec Ideal S4096x2048 .bf16) (b : FVec Ideal S1x4096 .f32) : FVec Ideal S4224x4096 .bf16 := fun y =>
  (∑ k : Fin 2048, a (ix2 (y 0) k) * w (ix2 (y 1) k)) + b (ix2 0 (y 1))

/-- The merge: the other branch by the first half of the gates, this one by the second half. -/
def merged (a : FVec Ideal S4224x2048 .bf16) (w : FVec Ideal S4096x2048 .bf16) (b : FVec Ideal S1x4096 .f32) (p : FVec Ideal S4224x4096 .bf16) (z : FVec Ideal S4224x8192 .bf16) : FVec Ideal S4224x4096 .bf16 := fun y =>
  gate (z (ix2 (y 0) ⟨(y 1).val, by have h : (y 1).val < 4096 := (y 1).isLt; omega⟩)) * p y
    + gate (z (ix2 (y 0) ⟨4096 + (y 1).val, by have h : (y 1).val < 4096 := (y 1).isLt; omega⟩)) * ((∑ k : Fin 2048, a (ix2 (y 0) k) * w (ix2 (y 1) k)) + b (ix2 0 (y 1)))

/-- The reference's first term is the branch. -/
theorem branch_eq (a : FVec Ideal S4224x2048 .bf16) (w : FVec Ideal S4096x2048 .bf16) (b : FVec Ideal S1x4096 .f32) :
    (truncf .bf16 (addf (Host.dotGeneral (φ₁ := .f32) (φ₂ := .f32) dot_S4224x2048_S2048x4096_S4224x4096_1_0_0_1_n_n none (extf .f32 a bitsLt_bf16_f32) (transpose S2048x4096 [1, 0] (extf .f32 w bitsLt_bf16_f32) transposes_S4096x2048_S2048x4096_1_0)) (broadcastInDim S4224x4096 ![0, 1] bcast_S1x4096_S4224x4096_0_1 b)) bitsLt_bf16_f32 : FVec Ideal S4224x4096 .bf16) = branch a w b := by
  refine funext fun y => ?_
  unfold branch
  pointwise

/-- The reference's second term is the merge. -/
theorem merged_eq (a : FVec Ideal S4224x2048 .bf16) (w : FVec Ideal S4096x2048 .bf16) (b : FVec Ideal S1x4096 .f32) (p : FVec Ideal S4224x4096 .bf16) (z : FVec Ideal S4224x8192 .bf16) :
    (truncf .bf16 (addf (mulf (Host.divf (broadcastInDim S4224x4096 ![] bcast_S_S4224x4096 (constant S_ .f32 0x3F800000#32)) (addf (broadcastInDim S4224x4096 ![] bcast_S_S4224x4096 (constant S_ .f32 0x3F800000#32)) (Host.exp (Host.negf (extractStridedSlice S4224x4096 ![0, 0] (extf .f32 z bitsLt_bf16_f32) slices_S4224x8192_S4224x4096_0_0))))) (extf .f32 p bitsLt_bf16_f32)) (mulf (Host.divf (broadcastInDim S4224x4096 ![] bcast_S_S4224x4096 (constant S_ .f32 0x3F800000#32)) (addf (broadcastInDim S4224x4096 ![] bcast_S_S4224x4096 (constant S_ .f32 0x3F800000#32)) (Host.exp (Host.negf (extractStridedSlice S4224x4096 ![0, 4096] (extf .f32 z bitsLt_bf16_f32) slices_S4224x8192_S4224x4096_0_4096))))) (addf (Host.dotGeneral (φ₁ := .f32) (φ₂ := .f32) dot_S4224x2048_S2048x4096_S4224x4096_1_0_0_1_n_n none (extf .f32 a bitsLt_bf16_f32) (transpose S2048x4096 [1, 0] (extf .f32 w bitsLt_bf16_f32) transposes_S4096x2048_S2048x4096_1_0)) (broadcastInDim S4224x4096 ![0, 1] bcast_S1x4096_S4224x4096_0_1 b)))) bitsLt_bf16_f32 : FVec Ideal S4224x4096 .bf16) = merged a w b p z := by
  refine funext fun y => ?_
  unfold merged gate
  pointwise

/-- The reference runs and its arguments end unchanged. -/
theorem frame : Cert.quiescent_ConvGateReferenceIdeal := fun m ρ _ =>
  (θ_run defs _ _).mono (fun r h => ⟨fun c => (h c).2.2, sem_eq_zero_of_no_sems (by decide) r.2⟩) (Value.run (F := Ideal) m ρ)

end Cert.ConvGateReferenceIdeal

namespace Cert.ConvGateIdeal

open Cert.ConvGateIdeal.Gen Cert.Product
open Cert.Gate (gate)
open Cert.ConvGateReferenceIdeal (branch merged)
open Idealize.ShloMosaic Idealize.ShloMosaic.TcCoe Idealize.SL.Sem
open Idealize.ShloMosaic.Pipeline (Dat)

section

variable (x0 : Vec Ideal S1056x2048 .bf16) (x1 : Vec Ideal S1024x2048 .bf16) (x2 : Vec Ideal S1x1024 .f32) (x3 x4 x5 : Vec Ideal S1056x1024 .bf16) (i : Fin 1056) (j : Fin 1024)

/-- A tile of the branch, entry by entry. -/
theorem branch_at : (k0_pay1 (F := Ideal) x0 x1 x2) (ix2 i j) = (∑ k : Fin 2048, x0 (ix2 i k) * x1 (ix2 j k)) + x2 (ix2 0 j) := by
  pointwise [k0_pay1]

/-- A tile of the merge, entry by entry. -/
theorem merged_at : (k0_pay2 (F := Ideal) x0 x1 x2 x4 x5 x3) (ix2 i j)
    = gate (x4 (ix2 i j)) * x3 (ix2 i j) + gate (x5 (ix2 i j)) * ((∑ k : Fin 2048, x0 (ix2 i k) * x1 (ix2 j k)) + x2 (ix2 0 j)) := by
  unfold gate
  rw [← zero_sub, ← zero_sub]
  pointwise [k0_pay1, k0_pay2]

theorem branch_out : out0_6 (F := Ideal) x0 x1 x2 x3 x4 x5 = k0_pay1 x0 x1 x2 := by
  unfold out0_6
  rw [View.canon_unit_zero zeros, View.ld_unit_zero zeros, View.ld_unit_zero zeros, View.ld_unit_zero zeros]

theorem merged_out : out0_7 (F := Ideal) x0 x1 x2 x3 x4 x5 = k0_pay2 x0 x1 x2 x4 x5 x3 := by
  unfold out0_7
  rw [View.canon_unit_zero zeros, View.ld_unit_zero zeros, View.ld_unit_zero zeros, View.ld_unit_zero zeros, View.ld_unit_zero zeros, View.ld_unit_zero zeros, View.ld_unit_zero zeros]

end

/-- Which blocks a point reads, by the block it writes. -/
theorem index_at : ∀ t : Fin cfg0.N, win0_0.index t = ![win0_6.index t 0, 0] ∧ win0_1.index t = ![win0_6.index t 1, 0] ∧ win0_2.index t = ![0, win0_6.index t 1]
    ∧ win0_3.index t = ![win0_6.index t 0, win0_6.index t 1] ∧ win0_4.index t = ![win0_6.index t 0, win0_6.index t 1] ∧ win0_5.index t = ![win0_6.index t 0, win0_6.index t 1 + 4] ∧ win0_7.index t = ![win0_6.index t 0, win0_6.index t 1] :=
  (by decide +kernel : ∀ t : Fin grid0.N, _)

variable (m : (ℓ : Loc nD τ sig) → Buf (Elt Ideal) ℓ) (g : Dev nD → PrngReg) (c : Dev nD)

/-- The kernel's first array is the branch. -/
theorem final_branch : (dats m 0 c).arrAt 6 cfg0.N = branch (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  blk_simp
  rw [after0_6, branch_out]
  obtain ⟨i0, i1, i2, i3, i4, i5, i7⟩ := index_at t
  have hy := ix2_coords (a := 1056) (b := 1024) y
  generalize hu : y 0 = u at hy
  generalize hv : y 1 = v at hy
  subst hy
  refine (branch_at _ _ _ u v).trans (congrArg₂ (· + ·) (Finset.sum_congr rfl fun k _ => congrArg₂ (· * ·) ?_ ?_) ?_)
  · blk_point [iblk, V, i0]
  · blk_point [iblk, V, i1]
  · blk_point [iblk, V, i2]

/-- Its second array is the merge. -/
theorem final_merged : (dats m 0 c).arrAt 7 cfg0.N = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7, merged_out]
  obtain ⟨i0, i1, i2, i3, i4, i5, i7⟩ := index_at t
  have hy := ix2_coords (a := 1056) (b := 1024) y
  generalize hu : y 0 = u at hy
  generalize hv : y 1 = v at hy
  subst hy
  refine (merged_at _ _ _ _ _ _ u v).trans (congrArg₂ (· + ·) (congrArg₂ (· * ·) (congrArg gate ?_) ?_)
    (congrArg₂ (· * ·) (congrArg gate ?_) (congrArg₂ (· + ·) (Finset.sum_congr rfl fun k _ => congrArg₂ (· * ·) ?_ ?_) ?_)))
  · blk_point [iblk, V, i4, i7]
  · blk_point [iblk, V, i3, i7]
  · blk_point [iblk, V, i5, i7]
  · blk_point [iblk, V, i0, i7]
  · blk_point [iblk, V, i1, i7]
  · blk_point [iblk, V, i2, i7]

/-- The run: the results at the branch and the merge, the arguments unchanged. -/
theorem run_value : θ_run defs (onTc (τ := τ) (main (F := Ideal))) ⟨m, fun _ => 0, g⟩ fun r => ∀ c : Dev nD,
      r.2.mem ((c.tc : Thread nD τ).loc main_v0_0) = branch (m ((c.tc : Thread nD τ).loc main_arg0)) (m ((c.tc : Thread nD τ).loc main_arg1)) (m ((c.tc : Thread nD τ).loc main_arg2))
      ∧ r.2.mem ((c.tc : Thread nD τ).loc main_v0_1) = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 6).trans (final_branch m c), ((h.1 c).1 7).trans (final_merged m c), h.2 c⟩) (θ_run_and (run_main m g) (unchanged m g))

/-- Over the extended reals the kernel and the reference compute one pair of arrays. -/
theorem same_value : Cert.algebraic_ConvGateIdeal_ConvGateReferenceIdeal := fun m g m' g' _ h =>
  ⟨fun c => branch (m ((c.tc : Thread nD τ).loc main_arg0)) (m ((c.tc : Thread nD τ).loc main_arg1)) (m ((c.tc : Thread nD τ).loc main_arg2)), fun c => merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    run_value m g,
    (θ_run Cert.ConvGateReferenceIdeal.defs _ _).mono (fun _ r c => by
      obtain ⟨h0, h1, h2, h3, h4⟩ := h c
      obtain ⟨r0, r1, rest⟩ := r c
      refine ⟨r0.trans ?_, r1.trans ?_, rest⟩
      · rw [h0, h1, h2]
        exact Cert.ConvGateReferenceIdeal.branch_eq _ _ _
      · rw [h0, h1, h2, h3, h4]
        exact Cert.ConvGateReferenceIdeal.merged_eq _ _ _ _ _)
      (Cert.ConvGateReferenceIdeal.Value.run m' g')⟩

/-- The idealized kernel runs, its arguments end unchanged and every semaphore counter reads zero. -/
theorem ideal_frame : Cert.quiescent_ConvGateIdeal := fun m ρ _ => frame m ρ

/-- The printed kernel runs, its arguments end unchanged and every semaphore counter reads zero. -/
theorem kernel_frame : Cert.quiescent_ConvGate := fun m ρ _ => Cert.ConvGate.Gen.frame m ρ

end Cert.ConvGateIdeal

end
-- ==== Proof.Dw.FfnNorm.lean ====
/- The second RMS norm: the kernel and the reference compute one array over the extended reals. -/
module

public import proofs.«01_k».proof.Defs
public import proofs.«01_k».proof.Proof.Dw.Product
public import proofs.«01_k».proof.Proof.Gen.FfnNorm.Frame
public import proofs.«01_k».proof.Proof.Gen.FfnNormIdeal.Frame
public import proofs.«01_k».proof.Proof.Gen.FfnNormReferenceIdeal.Run
public import Idealize.ShloMosaic.Lib.Pipeline.ValueKit
public import Idealize.ShloMosaic.Lib.IdealHost
public import Idealize.ShloMosaic.Init
public import Idealize.ShloMosaic.Lib.Quiescent

@[expose] public section

set_option maxRecDepth 16384

noncomputable section

namespace Cert.FfnNormReferenceIdeal

open Cert.FfnNormReferenceIdeal.Gen Cert.Product
open Idealize.ShloMosaic Idealize.SL.Sem

/-- Every row over the root of the mean of its squares, scaled column by column. -/
def normed (x : FVec Ideal S4224x4096 .f32) (g : FVec Ideal S1x4096 .f32) : FVec Ideal S4224x4096 .bf16 := fun y =>
  x y * Ideal.rsqrt (Ideal.div (∑ k : Fin 4096, x (ix2 (y 0) k) * x (ix2 (y 0) k)) (Ideal.ofBits .f32 0x45800000#32) + Ideal.ofBits .f32 0x358637BD#32) * g (ix2 0 (y 1))

/-- The reference's term is that array. -/
theorem value_eq (x : FVec Ideal S4224x4096 .f32) (g : FVec Ideal S1x4096 .f32) :
    (truncf .bf16 (mulf (mulf x (broadcastInDim S4224x4096 ![0, 1] bcast_S4224x1_S4224x4096_0_1 (Host.rsqrt (addf (Host.divf (broadcastInDim S4224x1 ![0] bcast_S4224_S4224x1_0 (Host.reduceAdd (mulf x x) (constant S_ .f32 0x00000000#32) reducesTo_S4224x4096_S4224_d1 h_S_)) (broadcastInDim S4224x1 ![] bcast_S_S4224x1 (constant S_ .f32 0x45800000#32))) (broadcastInDim S4224x1 ![] bcast_S_S4224x1 (constant S_ .f32 0x358637BD#32)))))) (broadcastInDim S4224x4096 ![0, 1] bcast_S1x4096_S4224x4096_0_1 g)) bitsLt_bf16_f32 : FVec Ideal S4224x4096 .bf16) = normed x g := by
  refine funext fun y => ?_
  unfold normed
  pointwise

/-- The reference runs and its arguments end unchanged. -/
theorem frame : Cert.quiescent_FfnNormReferenceIdeal := fun m ρ _ =>
  (θ_run defs _ _).mono (fun r h => ⟨fun c => (h c).2, sem_eq_zero_of_no_sems (by decide) r.2⟩) (Value.run (F := Ideal) m ρ)

end Cert.FfnNormReferenceIdeal

namespace Cert.FfnNormIdeal

open Cert.FfnNormIdeal.Gen Cert.Product
open Cert.FfnNormReferenceIdeal (normed)
open Idealize.ShloMosaic Idealize.ShloMosaic.TcCoe Idealize.SL.Sem
open Idealize.ShloMosaic.Pipeline (Dat)

/-- A band of the result, entry by entry. -/
theorem tile_at (x0 : Vec Ideal S128x4096 .f32) (x1 : Vec Ideal S1x4096 .f32) (i : Fin 128) (j : Fin 4096) : (k0_pay1 (F := Ideal) x0 x1) (ix2 i j)
    = x0 (ix2 i j) * Ideal.rsqrt (Ideal.div (∑ k : Fin 4096, x0 (ix2 i k) * x0 (ix2 i k)) (Ideal.ofBits .f32 0x45800000#32) + Ideal.ofBits .f32 0x358637BD#32) * x1 (ix2 0 j) := by
  pointwise [k0_pay1]

theorem out_eq (x0 : Vec Ideal S128x4096 .f32) (x1 : Vec Ideal S1x4096 .f32) : out0_2 (F := Ideal) x0 x1 = k0_pay1 x0 x1 := by
  unfold out0_2
  rw [View.canon_unit_zero zeros, View.ld_unit_zero zeros, View.ld_unit_zero zeros]

/-- Which blocks a point reads, by the block it writes. -/
theorem index_at : ∀ t : Fin cfg0.N, win0_0.index t = ![win0_2.index t 0, 0] ∧ win0_1.index t = ![0, 0] ∧ win0_2.index t 1 = 0 :=
  (by decide +kernel : ∀ t : Fin grid0.N, _)

variable (m : (ℓ : Loc nD τ sig) → Buf (Elt Ideal) ℓ) (g : Dev nD → PrngReg) (c : Dev nD)

/-- The kernel's array is the normed one. -/
theorem final : (dats m 0 c).arrAt 2 cfg0.N = normed (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨i0, i1, i2⟩ := index_at t
  have hy := ix2_coords (a := 128) (b := 4096) y
  generalize hu : y 0 = u at hy
  generalize hv : y 1 = v at hy
  subst hy
  refine (tile_at _ _ u v).trans ?_
  unfold normed
  refine congrArg₂ (· * ·) (congrArg₂ (· * ·) ?_ (congrArg (fun s => Ideal.rsqrt (Ideal.div s (Ideal.ofBits .f32 0x45800000#32) + Ideal.ofBits .f32 0x358637BD#32)) (Finset.sum_congr rfl fun k _ => congrArg₂ (· * ·) ?_ ?_))) ?_
  · blk_point [iblk, V, i0, i2]
  · blk_point [iblk, V, i0, i2]
  · blk_point [iblk, V, i0, i2]
  · blk_point [iblk, V, i1, i2]

/-- The run: the result at the normed array, the arguments unchanged. -/
theorem run_value : θ_run defs (onTc (τ := τ) (main (F := Ideal))) ⟨m, fun _ => 0, g⟩ fun r => ∀ c : Dev nD,
      r.2.mem ((c.tc : Thread nD τ).loc main_v0) = normed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m g) (unchanged m g))

/-- Over the extended reals the kernel and the reference compute one array. -/
theorem same_value : Cert.algebraic_FfnNormIdeal_FfnNormReferenceIdeal := fun m g m' g' _ h =>
  ⟨fun c => normed (m ((c.tc : Thread nD τ).loc main_arg0)) (m ((c.tc : Thread nD τ).loc main_arg1)), run_value m g,
    (θ_run Cert.FfnNormReferenceIdeal.defs _ _).mono (fun _ r c => ⟨(r c).1.trans ((Cert.FfnNormReferenceIdeal.value_eq _ _).trans (congrArg₂ normed (h c).1 (h c).2)), (r c).2⟩)
      (Cert.FfnNormReferenceIdeal.Value.run m' g')⟩

/-- The idealized kernel runs, its arguments end unchanged and every semaphore counter reads zero. -/
theorem ideal_frame : Cert.quiescent_FfnNormIdeal := fun m ρ _ => frame m ρ

/-- The printed kernel runs, its arguments end unchanged and every semaphore counter reads zero. -/
theorem kernel_frame : Cert.quiescent_FfnNorm := fun m ρ _ => Cert.FfnNorm.Gen.frame m ρ

end Cert.FfnNormIdeal

end
-- ==== Proof.Attn.Same.lean ====
/- The printed kernel and its idealization have one text but for the named mask constant; read at its own bits, the
   constant is the printed one, and the idealization's run over the machine's floats is the printed kernel's. -/
module

public import proofs.«01_k».proof.Defs
public import proofs.«01_k».proof.Proof.Attn.Grid
public import proofs.«01_k».proof.Proof.Gen.Kernel

@[expose] public section

set_option maxRecDepth 16384

noncomputable section

namespace Cert.Kernel.Attn

open Idealize.ShloMosaic Idealize.SL.Sem

/-- A named constant read at the bits it is printed with. -/
@[reducible] def plain : Named Bits := ⟨fun _ _ φ bits => Scalar.ofBits φ bits⟩

set_option maxHeartbeats 4000000 in
/-- The two bodies are one. -/
theorem bodies : Cert.Kernel.cc0_attn_bwd (F := Bits) = (letI := plain; Cert.KernelIdeal.cc0_attn_bwd (F := Bits))  := rfl

set_option maxHeartbeats 4000000 in
/-- The two kernels' body tables are one. -/
theorem defs₀_eq : Cert.Kernel.defs₀ (F := Bits) = (letI := plain; Cert.KernelIdeal.defs₀ (F := Bits)) :=
  congrArg Defs.onTc (funext fun l => match l with
    | 0 => rfl
    | ⟨_ + 1, h⟩ => absurd h (Nat.not_lt.2 (Nat.le_add_left _ _)))

set_option maxHeartbeats 4000000 in
/-- The two programs' body tables are one. -/
theorem defs_eq : Cert.Kernel.defs (F := Bits) = (letI := plain; Cert.KernelIdeal.defs (F := Bits)) :=
  congrArg (Pipeline.defs (Cert.Kernel.pcfgs (F := Bits))) defs₀_eq

set_option maxHeartbeats 4000000 in
/-- The printed kernel runs, its arguments end unchanged and every semaphore counter reads zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Eq.mpr (congrArg (fun D => θ_run D (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)) defs_eq)
    (letI := plain; Cert.KernelIdeal.Attn.frame (F := Bits) m ρ)

end Cert.Kernel.Attn

end
-- ==== Proof.Attn.Ref1.lean ====
/- The reference's operands read at an index. -/
module

public import proofs.«01_k».proof.Proof.Gen.ReferenceIdeal.Run
public import proofs.«01_k».proof.Proof.Attn.Canon
public import Idealize.ShloMosaic.Lib.Pointwise

@[expose] public section

set_option maxRecDepth 16384

noncomputable section

namespace Cert.ReferenceIdeal.Attn

open Cert.ReferenceIdeal Cert.ReferenceIdeal.Gen Cert.ReferenceIdeal.Value Cert.Band
open Idealize.ShloMosaic Idealize.ShloMosaic.TcCoe Idealize.SL.Sem Idealize.ShloMosaic.StableHlo

variable (V0 : Valuation τ sig (Elt Ideal))

/-- The reference's arguments by their indices. -/
def args : In where
  q a b := (show FVec Ideal S4224x2048 .bf16 from V0 (Proc.devRef .tc main_arg0)) (ix2 a b)
  k a b c := (show FVec Ideal S4x4352x64 .bf16 from V0 (Proc.devRef .tc main_arg1)) (ix3 a b c)
  v a b c := (show FVec Ideal S4x4352x64 .bf16 from V0 (Proc.devRef .tc main_arg2)) (ix3 a b c)
  s a := (show FVec Ideal S1x32 .f32 from V0 (Proc.devRef .tc main_arg3)) (ix2 0 a)
  d a b := (show FVec Ideal S4224x2048 .bf16 from V0 (Proc.devRef .tc main_arg4)) (ix2 a b)

theorem v5_at (a : Fin 4112) (h : Fin 4) (l : Fin 64) :
    (res_main_v5 V0 : FVec Ideal S4112x4x64 .f32) (ix3 a h l) = (args V0).k h ⟨240 + a.val, by omega⟩ l := by
  pointwise [res_main_v5, args]

theorem v9_at (a : Fin 16) (h : Fin 4) (l : Fin 64) :
    (res_main_v9 V0 : FVec Ideal S16x4x64 .f32) (ix3 a h l) = (args V0).k h ⟨240 + a.val, by omega⟩ l := by
  pointwise [res_main_v9, v5_at]

theorem v14_at (n : Fin 33) (r : Fin 128) (h : Fin 4) (g : Fin 8) (l : Fin 64) :
    (res_main_v14 V0 : FVec Ideal S33x128x4x8x64 .f32) (ix5 n r h g l)
      = if 112 ≤ n.val * 128 + r.val then (args V0).q (row n r) (col h g l) else 0 := by
  pointwise [res_main_v14, args]
  by_cases c : n.val * 128 + r.val < 112
  · rw [dif_pos c, if_neg (by omega)]
  · rw [dif_neg c]
    refine Eq.trans ?_ (if_pos (by omega)).symm
    refine congrArg (V0 (Proc.devRef .tc main_arg0)) ((ix2_inj ..).2 ⟨Fin.ext ?_, rfl⟩)
    show 112 + (n.val * 128 + r.val - 112) = n.val * 128 + r.val
    omega

theorem v18_at (n : Fin 33) (r : Fin 128) (h : Fin 4) (l : Fin 64) :
    (res_main_v18 V0 : FVec Ideal S33x128x4x64 .f32) (ix4 n r h l)
      = if 112 ≤ n.val * 128 + r.val then (args V0).k h ⟨128 + n.val * 128 + r.val, by omega⟩ l else 0 := by
  pointwise [res_main_v18, v5_at]
  by_cases c : n.val * 128 + r.val < 112
  · rw [dif_pos c, if_neg (by omega)]
  · rw [dif_neg c]
    refine Eq.trans ?_ (if_pos (by omega)).symm
    refine congrArg (fun a => (args V0).k h a l) (Fin.ext ?_)
    show 240 + (n.val * 128 + r.val - 112) = 128 + n.val * 128 + r.val
    omega

theorem v33_at (n : Fin 33) (j : Fin 256) (h : Fin 4) (l : Fin 64) :
    (res_main_v33 V0 : FVec Ideal S33x256x4x64 .f32) (ix4 n j h l)
      = if 240 ≤ n.val * 128 + j.val then (args V0).k h ⟨n.val * 128 + j.val, by omega⟩ l else 0 := by
  pointwise [res_main_v33, v18_at]
  have hk : ∀ (a b : Fin 4352), a.val = b.val → (args V0).k h a l = (args V0).k h b l := fun a b e => by rw [Fin.ext e]
  by_cases c : j.val < 128
  · rw [dif_pos c]
    by_cases c1 : n.val < 1
    · rw [dif_pos c1, if_neg (by omega)]
    · rw [dif_neg c1]
      by_cases c2 : 112 ≤ (n.val - 1) * 128 + j.val
      · rw [if_pos c2]
        refine Eq.trans ?_ (if_pos (by omega)).symm
        exact hk _ _ (by show 128 + (n.val - 1) * 128 + j.val = n.val * 128 + j.val; omega)
      · rw [if_neg c2, if_neg (by omega)]
  · rw [dif_neg c]
    by_cases c2 : 112 ≤ n.val * 128 + (j.val - 128)
    · rw [if_pos c2]
      refine Eq.trans ?_ (if_pos (by omega)).symm
      exact hk _ _ (by show 128 + n.val * 128 + (j.val - 128) = n.val * 128 + j.val; omega)
    · rw [if_neg c2, if_neg (by omega)]

theorem v8_at (a : Fin 4112) (h : Fin 4) (l : Fin 64) :
    (res_main_v8 V0 : FVec Ideal S4112x4x64 .f32) (ix3 a h l) = (args V0).v h ⟨240 + a.val, by omega⟩ l := by
  pointwise [res_main_v8, args]

theorem v10_at (a : Fin 16) (h : Fin 4) (l : Fin 64) :
    (res_main_v10 V0 : FVec Ideal S16x4x64 .f32) (ix3 a h l) = (args V0).v h ⟨240 + a.val, by omega⟩ l := by
  pointwise [res_main_v10, v8_at]

theorem v22_at (n : Fin 33) (r : Fin 128) (h : Fin 4) (l : Fin 64) :
    (res_main_v22 V0 : FVec Ideal S33x128x4x64 .f32) (ix4 n r h l)
      = if 112 ≤ n.val * 128 + r.val then (args V0).v h ⟨128 + n.val * 128 + r.val, by omega⟩ l else 0 := by
  pointwise [res_main_v22, v8_at]
  by_cases c : n.val * 128 + r.val < 112
  · rw [dif_pos c, if_neg (by omega)]
  · rw [dif_neg c]
    refine Eq.trans ?_ (if_pos (by omega)).symm
    refine congrArg (fun a => (args V0).v h a l) (Fin.ext ?_)
    show 240 + (n.val * 128 + r.val - 112) = 128 + n.val * 128 + r.val
    omega

theorem v34_at (n : Fin 33) (j : Fin 256) (h : Fin 4) (l : Fin 64) :
    (res_main_v34 V0 : FVec Ideal S33x256x4x64 .f32) (ix4 n j h l)
      = if 240 ≤ n.val * 128 + j.val then (args V0).v h ⟨n.val * 128 + j.val, by omega⟩ l else 0 := by
  pointwise [res_main_v34, v22_at]
  have hk : ∀ (a b : Fin 4352), a.val = b.val → (args V0).v h a l = (args V0).v h b l := fun a b e => by rw [Fin.ext e]
  by_cases c : j.val < 128
  · rw [dif_pos c]
    by_cases c1 : n.val < 1
    · rw [dif_pos c1, if_neg (by omega)]
    · rw [dif_neg c1]
      by_cases c2 : 112 ≤ (n.val - 1) * 128 + j.val
      · rw [if_pos c2]
        refine Eq.trans ?_ (if_pos (by omega)).symm
        exact hk _ _ (by show 128 + (n.val - 1) * 128 + j.val = n.val * 128 + j.val; omega)
      · rw [if_neg c2, if_neg (by omega)]
  · rw [dif_neg c]
    by_cases c2 : 112 ≤ n.val * 128 + (j.val - 128)
    · rw [if_pos c2]
      refine Eq.trans ?_ (if_pos (by omega)).symm
      exact hk _ _ (by show 128 + n.val * 128 + (j.val - 128) = n.val * 128 + j.val; omega)
    · rw [if_neg c2, if_neg (by omega)]

theorem v61_at (n : Fin 33) (r : Fin 128) :
    (res_main_v61 V0 : IVec S33x128x1 32) (ix3 n r 0) = BitVec.ofNat 32 n.val * 128#32 + BitVec.ofNat 32 r.val - 112#32 := by
  pointwise [res_main_v61, res_main_v40]
  rfl

theorem v62_at (n : Fin 33) (j : Fin 256) :
    (res_main_v62 V0 : IVec S33x1x256 32) (ix3 n 0 j) = (BitVec.ofNat 32 n.val - 1#32) * 128#32 + BitVec.ofNat 32 j.val - 112#32 := by
  pointwise [res_main_v62, res_main_v40]
  rfl

theorem v82_at (n : Fin 33) (h : Fin 4) (g : Fin 8) (r : Fin 128) (j : Fin 256) :
    (res_main_v82_1 V0 : IVec S33x4x8x128x256 1) (ix5 n h g r j) = BitVec.ofBool (decide (near n r j)) := by
  pointwise [res_main_v82_1, v61_at, v62_at]
  exact near_word n r j.val (by omega)

theorem v84_at (n : Fin 33) (h : Fin 4) (g : Fin 8) (r : Fin 128) (j : Fin 16) :
    (res_main_v84_1 V0 : IVec S33x4x8x128x16 1) (ix5 n h g r j) = BitVec.ofBool (decide (meta' n r j)) := by
  pointwise [res_main_v84_1, v61_at]
  exact meta_word n r j.val (by omega)

end Cert.ReferenceIdeal.Attn

end
-- ==== Proof.Attn.RefOps.lean ====
/- The reference's row operations read at an index, over arbitrary operands. -/
module

public import proofs.«01_k».proof.Proof.Gen.ReferenceIdeal.Run
public import proofs.«01_k».proof.Proof.Attn.Canon
public import Idealize.ShloMosaic.Lib.Pointwise

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem Idealize.ShloMosaic.StableHlo

variable (a e d : FVec Ideal S33x4x8x128x273 .f32) (b : FVec Ideal S33x4x8x128 .f32) (z : FVec Ideal S33x4x8x128x1 .f32)
variable (n : Fin 33) (h : Fin 4) (g : Fin 8) (r : Fin 128)

theorem negInf : Ideal.ofBits .f32 0xFF800000#32 = ⊥ := by simp [Ideal.ofBits, Ideal.ieee]

theorem drop_iff (i : S33x4x8x128x273.Idx) :
    reducesTo_S33x4x8x128x273_S33x4x8x128_d4.drop i = ix4 n h g r ↔ ∃ k : Fin 273, ix5 n h g r k = i := by
  constructor
  · intro e
    refine ⟨i 4, funext fun a => Fin.ext ?_⟩
    fin_cases a
    · exact (congrArg Fin.val (congrFun e 0)).symm
    · exact (congrArg Fin.val (congrFun e 1)).symm
    · exact (congrArg Fin.val (congrFun e 2)).symm
    · exact (congrArg Fin.val (congrFun e 3)).symm
    · rfl
  · rintro ⟨k, rfl⟩
    refine funext fun a => Fin.ext ?_
    fin_cases a <;> rfl

/-- A row's largest entry. -/
theorem maxRow_at : Host.reduce FloatOps.maximumf a (constant S_ .f32 0xFF800000#32) reducesTo_S33x4x8x128x273_S33x4x8x128_d4 h_S_ (ix4 n h g r)
    = Finset.univ.fold max ⊥ fun k : Fin 273 => a (ix5 n h g r k) := by
  pointwise
  rw [negInf]

/-- The exponential of a row minus its largest entry. -/
theorem expRow_at (j : Fin 273) :
    Host.exp (subf a (broadcastInDim S33x4x8x128x273 ![0, 1, 2, 3, 4] bcast_S33x4x8x128x1_S33x4x8x128x273_0_1_2_3_4 (broadcastInDim S33x4x8x128x1 ![0, 1, 2, 3] bcast_S33x4x8x128_S33x4x8x128x1_0_1_2_3 (maximumf (broadcastInDim S33x4x8x128 ![] bcast_S_S33x4x8x128 (constant S_ .f32 0xFF800000#32)) b)))) (ix5 n h g r j)
      = Ideal.exp (a (ix5 n h g r j) - b (ix4 n h g r)) := by
  pointwise
  rw [negInf, max_eq_right bot_le]

/-- A row's sum. -/
theorem sumRow_at : broadcastInDim S33x4x8x128x1 ![0, 1, 2, 3] bcast_S33x4x8x128_S33x4x8x128x1_0_1_2_3 (Host.reduceAdd e (constant S_ .f32 0x00000000#32) reducesTo_S33x4x8x128x273_S33x4x8x128_d4 h_S_) (ix5 n h g r 0)
    = ∑ k : Fin 273, e (ix5 n h g r k) := by
  pointwise

/-- A row over its sum. -/
theorem divRow_at (j : Fin 273) :
    Host.divf e (broadcastInDim S33x4x8x128x273 ![0, 1, 2, 3, 4] bcast_S33x4x8x128x1_S33x4x8x128x273_0_1_2_3_4 z) (ix5 n h g r j)
      = Ideal.div (e (ix5 n h g r j)) (z (ix5 n h g r 0)) := by
  pointwise

/-- The quotient rule along a row. -/
theorem gradRow_at (j : Fin 273) :
    mulf (addf (Host.divf d (broadcastInDim S33x4x8x128x273 ![0, 1, 2, 3, 4] bcast_S33x4x8x128x1_S33x4x8x128x273_0_1_2_3_4 z)) (broadcastInDim S33x4x8x128x273 ![0, 1, 2, 3] bcast_S33x4x8x128_S33x4x8x128x273_0_1_2_3 (Host.reduceAdd (Host.negf (shapeCast S33x4x8x128x1 (Host.reduceAdd (mulf (mulf d (broadcastInDim S33x4x8x128x273 ![0, 1, 2, 3, 4] bcast_S33x4x8x128x1_S33x4x8x128x273_0_1_2_3_4 (Host.divf (broadcastInDim S33x4x8x128x1 ![] bcast_S_S33x4x8x128x1 (constant S_ .f32 0x3F800000#32)) (mulf z z)))) e) (constant S_ .f32 0x00000000#32) reducesTo_S33x4x8x128x273_S33x4x8x128_d4 h_S_) shapeCasts_S33x4x8x128_S33x4x8x128x1)) (constant S_ .f32 0x00000000#32) reducesTo_S33x4x8x128x1_S33x4x8x128_d4 h_S_))) e (ix5 n h g r j)
      = (Ideal.div (d (ix5 n h g r j)) (z (ix5 n h g r 0)) + -∑ k : Fin 273, d (ix5 n h g r k) * Ideal.div 1 (z (ix5 n h g r 0) * z (ix5 n h g r 0)) * e (ix5 n h g r k)) * e (ix5 n h g r j) := by
  pointwise
  rw [Fin.sum_univ_one]

variable (pm : FVec Ideal S33x4x8x128x16 .f32) (pb : FVec Ideal S33x4x8x128x256 .f32)

/-- The two padded parts of the gradient of the weights. -/
def padSum : FVec Ideal S33x4x8x128x273 .f32 :=
  addf (pad S33x4x8x128x273 ![0, 0, 0, 0, 256] ![0, 0, 0, 0, 1] ![0, 0, 0, 0, 0] pm (constant S_ .f32 0x00000000#32) pads_S33x4x8x128x16_S33x4x8x128x273_000_000_000_000_25610 h_S_)
    (pad S33x4x8x128x273 ![0, 0, 0, 0, 0] ![0, 0, 0, 0, 17] ![0, 0, 0, 0, 0] pb (constant S_ .f32 0x00000000#32) pads_S33x4x8x128x256_S33x4x8x128x273_000_000_000_000_0170 h_S_)

theorem pad_band (j : Fin 256) : padSum pm pb (ix5 n h g r ⟨j.val, by omega⟩) = pb (ix5 n h g r j) := by
  pointwise [padSum]
  rw [dif_neg (fun q => q.1), zero_add]

theorem pad_meta (j : Fin 16) : padSum pm pb (ix5 n h g r ⟨256 + j.val, by omega⟩) = pm (ix5 n h g r j) := by
  pointwise [padSum]

theorem pad_sink : padSum pm pb (ix5 n h g r ⟨272, by omega⟩) = 0 := by
  pointwise [padSum]

end Cert.ReferenceIdeal.Attn

end
-- ==== Proof.Attn.Ref2.lean ====
/- The reference's scores, their exponentials and the gradient of the weights read at an index. -/
module

public import proofs.«01_k».proof.Proof.Attn.Ref1
public import proofs.«01_k».proof.Proof.Attn.RefOps

@[expose] public section

set_option maxRecDepth 16384

noncomputable section

namespace Cert.ReferenceIdeal.Attn

open Cert.ReferenceIdeal Cert.ReferenceIdeal.Gen Cert.ReferenceIdeal.Value Cert.Band Cert.Softmax
open Idealize.ShloMosaic Idealize.ShloMosaic.TcCoe Idealize.SL.Sem Idealize.ShloMosaic.StableHlo

variable (V0 : Valuation τ sig (Elt Ideal)) (n : Fin 33) (h : Fin 4) (g : Fin 8) (r : Fin 128)

/-- The masked scores of one row. -/
def sc : Fin 384 → EReal := score (live n r) ((args V0).t n h g r)
/-- The largest score of one row. -/
def tp : EReal := top (live n r) ((args V0).t n h g r) ((args V0).s (hd h g))
/-- The normalizer of one row. -/
def zz : EReal := Z (live n r) ((args V0).t n h g r) ((args V0).s (hd h g))

/-- The reference's row of 273 scores. -/
def s273 (j : Fin 273) : EReal := (res_main_v88 V0 : FVec Ideal S33x4x8x128x273 .f32) (ix5 n h g r j)
/-- The reference's row of 273 exponentials. -/
def e273 (j : Fin 273) : EReal := (res_main_v109 V0 : FVec Ideal S33x4x8x128x273 .f32) (ix5 n h g r j)
/-- The reference's row of 273 gradients of weights. -/
def d273 (j : Fin 273) : EReal := (res_main_v141 V0 : FVec Ideal S33x4x8x128x273 .f32) (ix5 n h g r j)

theorem v88_eq (j : Fin 273) : (res_main_v88 V0 : FVec Ideal S33x4x8x128x273 .f32) (ix5 n h g r j) = s273 V0 n h g r j := rfl
theorem v109_eq (j : Fin 273) : (res_main_v109 V0 : FVec Ideal S33x4x8x128x273 .f32) (ix5 n h g r j) = e273 V0 n h g r j := rfl
theorem v141_eq (j : Fin 273) : (res_main_v141 V0 : FVec Ideal S33x4x8x128x273 .f32) (ix5 n h g r j) = d273 V0 n h g r j := rfl

theorem s_band (j : Fin 256) : s273 V0 n h g r ⟨j.val, by omega⟩ = sc V0 n h g r ⟨j.val, by omega⟩ := by
  unfold s273 sc score
  by_cases c : near n r j.val
  · rw [if_pos ((live_band n r j).mpr c)]
    unfold In.t
    pointwise [res_main_v88, v82_at, v33_at, v14_at]
    rw [if_pos c]
    refine Finset.sum_congr rfl fun l _ => ?_
    rw [if_pos (live_row n r _ ((live_band n r j).mpr c)), if_pos (by unfold near at c; omega), mul_comm]
    refine congrArg (_ * ·) (congrArg (fun a => (args V0).k h a l) (Fin.ext ?_))
    unfold key
    rw [dif_pos j.isLt]
  · rw [if_neg fun q => c ((live_band n r j).mp q)]
    pointwise [res_main_v88, v82_at]
    rw [if_neg c, negInf]

theorem s_meta (j : Fin 16) : s273 V0 n h g r ⟨256 + j.val, by omega⟩ = sc V0 n h g r ⟨368 + j.val, by omega⟩ := by
  unfold s273 sc score
  by_cases c : meta' n r j.val
  · rw [if_pos ((live_meta n r j).mpr c)]
    unfold In.t
    pointwise [res_main_v88, v84_at, v9_at, v14_at]
    rw [if_pos c]
    refine Finset.sum_congr rfl fun l _ => ?_
    rw [if_pos (live_row n r _ ((live_meta n r j).mpr c)), mul_comm]
    refine congrArg (_ * ·) (congrArg (fun a => (args V0).k h a l) (Fin.ext ?_))
    unfold key
    rw [dif_neg (by show ¬368 + j.val < 256; omega)]
    show 240 + j.val = 128 + (368 + j.val - 256)
    omega
  · rw [if_neg fun q => c ((live_meta n r j).mp q)]
    pointwise [res_main_v88, v84_at]
    rw [if_neg c, negInf]

theorem s_sink : s273 V0 n h g r ⟨272, by omega⟩ = (args V0).s (hd h g) := by
  unfold s273
  pointwise [res_main_v88, args]
  rfl

theorem fold_tp : Finset.univ.fold max ⊥ (s273 V0 n h g r) = tp V0 n h g r := by
  unfold tp
  refine eq_of_forall_ge_iff fun c => ?_
  rw [Finset.fold_max_le]
  unfold top
  rw [max_le_iff, Finset.fold_max_le]
  constructor
  · rintro ⟨_, hc⟩
    have hk : ∀ k, s273 V0 n h g r k ≤ c := fun k => hc k (Finset.mem_univ _)
    refine ⟨⟨bot_le, fun j _ => ?_⟩, (s_sink V0 n h g r).symm.trans_le (hk _)⟩
    by_cases c1 : j.val < 256
    · exact (s_band V0 n h g r ⟨j.val, c1⟩).symm.trans_le (hk _)
    by_cases c2 : 368 ≤ j.val
    · have e := s_meta V0 n h g r ⟨j.val - 368, by omega⟩
      have ej : (⟨368 + (j.val - 368), by omega⟩ : Fin 384) = j := Fin.ext (by show 368 + (j.val - 368) = j.val; omega)
      have e' : s273 V0 n h g r ⟨256 + (j.val - 368), by omega⟩ = score (live n r) ((args V0).t n h g r) j := e.trans (congrArg (sc V0 n h g r) ej)
      exact e'.symm.trans_le (hk _)
    · unfold score
      rw [if_neg (live_mid n r j (by omega) (by omega))]
      exact bot_le
  · rintro ⟨⟨_, hj⟩, hs⟩
    refine ⟨bot_le, fun k _ => ?_⟩
    show s273 V0 n h g r k ≤ c
    by_cases c1 : k.val < 256
    · exact (s_band V0 n h g r ⟨k.val, c1⟩).trans_le (hj _ (Finset.mem_univ _))
    by_cases c2 : k.val < 272
    · have e := s_meta V0 n h g r ⟨k.val - 256, by omega⟩
      have ek : (⟨256 + (k.val - 256), by omega⟩ : Fin 273) = k := Fin.ext (by show 256 + (k.val - 256) = k.val; omega)
      exact ((congrArg (s273 V0 n h g r) ek).symm.trans e).trans_le (hj _ (Finset.mem_univ _))
    · have ek : k = ⟨272, by omega⟩ := Fin.ext (by show k.val = 272; omega)
      rw [ek, s_sink]
      exact hs

theorem v89_at : (res_main_v89 V0 : FVec Ideal S33x4x8x128 .f32) (ix4 n h g r) = tp V0 n h g r :=
  (maxRow_at (res_main_v88 V0) n h g r).trans (fold_tp V0 n h g r)

theorem e_at (j : Fin 273) : e273 V0 n h g r j = Ideal.exp (s273 V0 n h g r j - tp V0 n h g r) :=
  (expRow_at (res_main_v88 V0) (res_main_v89 V0) n h g r j).trans (congrArg (fun x => Ideal.exp (s273 V0 n h g r j - x)) (v89_at V0 n h g r))

theorem e_band (j : Fin 256) : e273 V0 n h g r ⟨j.val, by omega⟩ = ex (live n r) ((args V0).t n h g r) ((args V0).s (hd h g)) ⟨j.val, by omega⟩ := by
  rw [e_at, s_band]
  rfl

theorem e_meta (j : Fin 16) : e273 V0 n h g r ⟨256 + j.val, by omega⟩ = ex (live n r) ((args V0).t n h g r) ((args V0).s (hd h g)) ⟨368 + j.val, by omega⟩ := by
  rw [e_at, s_meta]
  rfl

theorem e_sink : e273 V0 n h g r ⟨272, by omega⟩ = exs (live n r) ((args V0).t n h g r) ((args V0).s (hd h g)) := by
  rw [e_at, s_sink]
  rfl

theorem ex_mid (R : (args V0).Real) (j : Fin 384) (h1 : 256 ≤ j.val) (h2 : j.val < 368) :
    ex (live n r) ((args V0).t n h g r) ((args V0).s (hd h g)) j = 0 :=
  ex_dead _ _ _ (fun j _ => R.t n h g r j) (R.s _) j (live_mid n r j h1 h2)

theorem v111_at (R : (args V0).Real) : (res_main_v111 V0 : FVec Ideal S33x4x8x128x1 .f32) (ix5 n h g r 0) = zz V0 n h g r := by
  refine (sumRow_at (res_main_v109 V0) n h g r).trans ?_
  unfold zz Z
  refine (sum273 (e273 V0 n h g r)).trans ?_
  rw [sum384 _ (fun j => ex_mid V0 n h g r R j), e_sink]
  exact congrArg (· + _) (congrArg₂ (· + ·) (Finset.sum_congr rfl fun j _ => e_band V0 n h g r j) (Finset.sum_congr rfl fun j _ => e_meta V0 n h g r j))

theorem v113_at (R : (args V0).Real) (j : Fin 273) :
    (res_main_v113 V0 : FVec Ideal S33x4x8x128x273 .f32) (ix5 n h g r j) = Ideal.div (e273 V0 n h g r j) (zz V0 n h g r) :=
  (divRow_at (res_main_v109 V0) (res_main_v111 V0) n h g r j).trans (congrArg (Ideal.div (e273 V0 n h g r j)) (v111_at V0 n h g r R))

theorem w_band (R : (args V0).Real) (j : Fin 256) :
    (res_main_v117 V0 : FVec Ideal S33x4x8x128x256 .f32) (ix5 n h g r j) = (args V0).w n h g r ⟨j.val, by omega⟩ := by
  pointwise [res_main_v117]
  exact (v113_at V0 n h g r R _).trans ((congrArg (Ideal.div · _) (e_band V0 n h g r j)).trans (wt_div _ _ _ (fun j _ => R.t n h g r j) (R.s _) _))

theorem w_meta (R : (args V0).Real) (j : Fin 16) :
    (res_main_v118 V0 : FVec Ideal S33x4x8x128x16 .f32) (ix5 n h g r j) = (args V0).w n h g r ⟨368 + j.val, by omega⟩ := by
  pointwise [res_main_v118]
  exact (v113_at V0 n h g r R _).trans ((congrArg (Ideal.div · _) (e_meta V0 n h g r j)).trans (wt_div _ _ _ (fun j _ => R.t n h g r j) (R.s _) _))

theorem v129_at (l : Fin 64) :
    (res_main_v129 V0 : FVec Ideal S33x128x4x8x64 .f32) (ix5 n r h g l)
      = if 112 ≤ n.val * 128 + r.val then (args V0).d (row n r) (col h g l) else 0 := by
  pointwise [res_main_v129, args]
  by_cases c : 112 ≤ n.val * 128 + r.val
  · rw [dif_pos ⟨⟨c, by omega⟩, by omega⟩]
    refine Eq.trans ?_ (if_pos c).symm
    refine congrArg (V0 (Proc.devRef .tc main_arg4)) ((ix2_inj ..).2 ⟨Fin.ext ?_, Fin.ext ?_⟩)
    · show 112 + (n.val * 128 + r.val - 112) = n.val * 128 + r.val
      omega
    · show h.val * 512 + g.val * 64 + l.val = (h.val * 8 + g.val) * 64 + l.val
      omega
  · rw [dif_neg fun q => c q.1.1]
    exact (if_neg c).symm

theorem v130_at (l : Fin 64) :
    (res_main_v130 V0 : FVec Ideal S4x64x33x8x128 .f32) (ix5 h l n g r)
      = if 112 ≤ n.val * 128 + r.val then (args V0).d (row n r) (col h g l) else 0 := by
  pointwise [res_main_v130, v129_at]

theorem v135_at (l : Fin 64) :
    (res_main_v135 V0 : FVec Ideal S33x4x64x8x128 .f32) (ix5 n h l g r)
      = if 112 ≤ n.val * 128 + r.val then (args V0).d (row n r) (col h g l) else 0 := by
  pointwise [res_main_v135, v129_at]

end Cert.ReferenceIdeal.Attn

end
-- ==== Proof.Attn.Ref3.lean ====
/- The reference's gradients of weights and scores read at an index. -/
module

public import proofs.«01_k».proof.Proof.Attn.Ref2

@[expose] public section

set_option maxRecDepth 16384

noncomputable section

namespace Cert.ReferenceIdeal.Attn

open Cert.ReferenceIdeal Cert.ReferenceIdeal.Gen Cert.ReferenceIdeal.Value Cert.Band Cert.Softmax
open Idealize.ShloMosaic Idealize.ShloMosaic.TcCoe Idealize.SL.Sem Idealize.ShloMosaic.StableHlo

variable (V0 : Valuation τ sig (Elt Ideal)) (n : Fin 33) (h : Fin 4) (g : Fin 8) (r : Fin 128)

/-- The reference's product of the output's gradient with the window's values. -/
def dband : FVec Ideal S33x4x8x128x256 .f32 :=
  Host.dotGeneral (φ₁ := .f32) (φ₂ := .f32) dot_S33x4x64x8x128_S33x256x4x64_S33x4x8x128x256_2_3_34_1_01_02 none (res_main_v135 V0) (res_main_v34 V0)
/-- The reference's product of the output's gradient with the meta values. -/
def dmeta : FVec Ideal S33x4x8x128x16 .f32 :=
  transpose S33x4x8x128x16 [1, 0, 2, 3, 4] (Host.dotGeneral (φ₁ := .f32) (φ₂ := .f32) dot_S4x64x33x8x128_S16x4x64_S4x33x8x128x16_1_2_234_0_0_1 none (res_main_v130 V0) (res_main_v10 V0)) transposes_S4x33x8x128x16_S33x4x8x128x16_1_0_2_3_4

theorem dband_at (j : Fin 256) (hl : live n r ⟨j.val, by omega⟩) : dband V0 (ix5 n h g r j) = (args V0).dp n h g r ⟨j.val, by omega⟩ := by
  have c := live_key n r _ hl
  unfold key at c
  rw [dif_pos j.isLt] at c
  unfold In.dp
  pointwise [dband, v135_at, v34_at]
  refine Finset.sum_congr rfl fun l _ => ?_
  rw [if_pos (live_row n r _ hl), if_pos c]
  refine congrArg (_ * ·) (congrArg (fun a => (args V0).v h a l) (Fin.ext ?_))
  unfold key
  rw [dif_pos j.isLt]

theorem dmeta_at (j : Fin 16) (hl : live n r ⟨368 + j.val, by omega⟩) : dmeta V0 (ix5 n h g r j) = (args V0).dp n h g r ⟨368 + j.val, by omega⟩ := by
  unfold In.dp
  pointwise [dmeta, v130_at, v10_at]
  refine Finset.sum_congr rfl fun l _ => ?_
  rw [if_pos (live_row n r _ hl)]
  refine congrArg (_ * ·) (congrArg (fun a => (args V0).v h a l) (Fin.ext ?_))
  unfold key
  rw [dif_neg (by show ¬368 + j.val < 256; omega)]
  show 240 + j.val = 128 + (368 + j.val - 256)
  omega

theorem d_band (j : Fin 256) : d273 V0 n h g r ⟨j.val, by omega⟩ = dband V0 (ix5 n h g r j) :=
  pad_band n h g r (dmeta V0) (dband V0) j

theorem d_meta (j : Fin 16) : d273 V0 n h g r ⟨256 + j.val, by omega⟩ = dmeta V0 (ix5 n h g r j) :=
  pad_meta n h g r (dmeta V0) (dband V0) j

theorem d_sink : d273 V0 n h g r ⟨272, by omega⟩ = 0 :=
  pad_sink n h g r (dmeta V0) (dband V0)

/-- The reference's row of 273 gradients of scores. -/
def g273 (j : Fin 273) : EReal := (res_main_v153 V0 : FVec Ideal S33x4x8x128x273 .f32) (ix5 n h g r j)

theorem g_at (R : (args V0).Real) (j : Fin 273) :
    g273 V0 n h g r j
      = (Ideal.div (d273 V0 n h g r j) (zz V0 n h g r)
          + -∑ k : Fin 273, d273 V0 n h g r k * Ideal.div 1 (zz V0 n h g r * zz V0 n h g r) * e273 V0 n h g r k)
        * e273 V0 n h g r j := by
  rw [← v111_at V0 n h g r R]
  exact gradRow_at (res_main_v109 V0) (res_main_v141 V0) (res_main_v111 V0) n h g r j

/-- The gradient of the weights over the kernel's 384 columns. -/
def d384 (j : Fin 384) : EReal :=
  if h1 : j.val < 256 then dband V0 (ix5 n h g r ⟨j.val, h1⟩)
  else if h2 : 368 ≤ j.val then dmeta V0 (ix5 n h g r ⟨j.val - 368, by omega⟩) else 0

theorem d384_live (j : Fin 384) (hl : live n r j) : d384 V0 n h g r j = (args V0).dp n h g r j := by
  unfold d384
  by_cases h1 : j.val < 256
  · rw [dif_pos h1]
    exact dband_at V0 n h g r ⟨j.val, h1⟩ hl
  · have h2 : 368 ≤ j.val := by
      rcases hl with q | q <;> omega
    have ej : (⟨368 + (j.val - 368), by omega⟩ : Fin 384) = j := Fin.ext (by show 368 + (j.val - 368) = j.val; omega)
    rw [dif_neg h1, dif_pos h2]
    exact (dmeta_at V0 n h g r ⟨j.val - 368, by omega⟩ (ej.symm ▸ hl)).trans (congrArg ((args V0).dp n h g r) ej)

theorem d384_band (j : Fin 256) : d384 V0 n h g r ⟨j.val, by omega⟩ = d273 V0 n h g r ⟨j.val, by omega⟩ := by
  rw [d_band]
  exact dif_pos j.isLt

theorem d384_meta (j : Fin 16) : d384 V0 n h g r ⟨368 + j.val, by omega⟩ = d273 V0 n h g r ⟨256 + j.val, by omega⟩ := by
  rw [d_meta]
  refine (dif_neg (show ¬368 + j.val < 256 by omega)).trans ((dif_pos (show 368 ≤ 368 + j.val by omega)).trans ?_)
  exact congrArg (fun q => dmeta V0 (ix5 n h g r q)) (Fin.ext (Nat.add_sub_cancel_left 368 j.val))

theorem g_sum (R : (args V0).Real) :
    ∑ k : Fin 273, d273 V0 n h g r k * Ideal.div 1 (zz V0 n h g r * zz V0 n h g r) * e273 V0 n h g r k
      = ∑ k : Fin 384, d384 V0 n h g r k * Ideal.div 1 (zz V0 n h g r * zz V0 n h g r)
          * ex (live n r) ((args V0).t n h g r) ((args V0).s (hd h g)) k := by
  rw [sum273, sum384 _ (fun j h1 h2 => by rw [ex_mid V0 n h g r R j h1 h2, mul_zero]), d_sink, zero_mul, zero_mul, add_zero]
  refine congrArg₂ (· + ·) (Finset.sum_congr rfl fun j _ => ?_) (Finset.sum_congr rfl fun j _ => ?_)
  · rw [d384_band, e_band]
  · rw [d384_meta, e_meta]

theorem g_band (R : (args V0).Real) (j : Fin 256) (hl : live n r ⟨j.val, by omega⟩) :
    g273 V0 n h g r ⟨j.val, by omega⟩ = (args V0).ds n h g r ⟨j.val, by omega⟩ := by
  rw [g_at V0 n h g r R, g_sum V0 n h g r R, e_band, ← d384_band]
  exact grad_quot _ _ _ _ (fun j _ => R.t n h g r j) (R.s _) _ (d384_live V0 n h g r) _ hl

theorem g_meta (R : (args V0).Real) (j : Fin 16) (hl : live n r ⟨368 + j.val, by omega⟩) :
    g273 V0 n h g r ⟨256 + j.val, by omega⟩ = (args V0).ds n h g r ⟨368 + j.val, by omega⟩ := by
  rw [g_at V0 n h g r R, g_sum V0 n h g r R, e_meta, ← d384_meta]
  exact grad_quot _ _ _ _ (fun j _ => R.t n h g r j) (R.s _) _ (d384_live V0 n h g r) _ hl

theorem g_sink (R : (args V0).Real) : g273 V0 n h g r ⟨272, by omega⟩ = (args V0).dk n h g r := by
  rw [g_at V0 n h g r R, g_sum V0 n h g r R, e_sink, d_sink]
  exact grads_quot _ _ _ _ (fun j _ => R.t n h g r j) (R.s _) _ (d384_live V0 n h g r)

end Cert.ReferenceIdeal.Attn

end
-- ==== Proof.Attn.Ref4.lean ====
/- The reference's gradients of queries, keys and values read at an index. -/
module

public import proofs.«01_k».proof.Proof.Attn.Ref3

@[expose] public section

set_option maxRecDepth 16384

noncomputable section

namespace Cert.ReferenceIdeal.Attn

open Cert.ReferenceIdeal Cert.ReferenceIdeal.Gen Cert.ReferenceIdeal.Value Cert.Band Cert.Softmax
open Idealize.ShloMosaic Idealize.ShloMosaic.TcCoe Idealize.SL.Sem Idealize.ShloMosaic.StableHlo

/-! ## The operations over arbitrary operands -/

section ops

variable (G : FVec Ideal S33x4x8x128x273 .f32) (n : Fin 33) (h : Fin 4) (g : Fin 8) (r : Fin 128) (l : Fin 64)

theorem selBand_at (c : IVec S33x4x8x128x256 1) (j : Fin 256) :
    transpose S33x4x256x128x8 [0, 1, 4, 3, 2] (select c (extractStridedSlice S33x4x8x128x256 ![0, 0, 0, 0, 0] G slices_S33x4x8x128x273_S33x4x8x128x256_0_0_0_0_0) (broadcastInDim S33x4x8x128x256 ![] bcast_S_S33x4x8x128x256 (constant S_ .f32 0x00000000#32))) transposes_S33x4x8x128x256_S33x4x256x128x8_0_1_4_3_2 (ix5 n h j r g)
      = Scalar.select (c (ix5 n h g r j)) (G (ix5 n h g r ⟨j.val, by omega⟩)) 0 := by
  pointwise

theorem selMeta_at (c : IVec S33x4x8x128x16 1) (j : Fin 16) :
    transpose S4x16x33x128x8 [1, 4, 0, 3, 2] (select c (extractStridedSlice S33x4x8x128x16 ![0, 0, 0, 0, 256] G slices_S33x4x8x128x273_S33x4x8x128x16_0_0_0_0_256) (broadcastInDim S33x4x8x128x16 ![] bcast_S_S33x4x8x128x16 (constant S_ .f32 0x00000000#32))) transposes_S33x4x8x128x16_S4x16x33x128x8_1_4_0_3_2 (ix5 h j n r g)
      = Scalar.select (c (ix5 n h g r j)) (G (ix5 n h g r ⟨256 + j.val, by omega⟩)) 0 := by
  pointwise

variable (D : FVec Ideal S33x4x64x8x128 .f32) (W : FVec Ideal S33x4x8x128x256 .f32) (T : FVec Ideal S33x4x256x128x8 .f32) (Q : FVec Ideal S33x128x4x8x64 .f32)
variable (U : FVec Ideal S4x16x33x128x8 .f32) (M : FVec Ideal S16x4x64 .f32) (K : FVec Ideal S33x256x4x64 .f32)

theorem dvBand_at (j : Fin 256) :
    transpose S33x256x4x64 [0, 3, 1, 2] (Host.dotGeneral dot_S33x4x64x8x128_S33x4x8x128x256_S33x4x64x256_34_23_2_4_01_01 none D W) transposes_S33x4x64x256_S33x256x4x64_0_3_1_2 (ix4 n j h l)
      = ∑ g : Fin 8, ∑ r : Fin 128, D (ix5 n h l g r) * W (ix5 n h g r j) := by
  pointwise

theorem dkBand_at (j : Fin 256) :
    transpose S33x256x4x64 [0, 2, 1, 3] (Host.dotGeneral dot_S33x4x256x128x8_S33x128x4x8x64_S33x4x256x64_34_13_2_4_01_02 none T Q) transposes_S33x4x256x64_S33x256x4x64_0_2_1_3 (ix4 n j h l)
      = ∑ r : Fin 128, ∑ g : Fin 8, T (ix5 n h j r g) * Q (ix5 n r h g l) := by
  pointwise

theorem dqSum_at :
    addf (transpose S33x128x4x8x64 [1, 2, 0, 3, 4] (Host.dotGeneral dot_S4x16x33x128x8_S16x4x64_S4x33x128x8x64_1_0_234_2_0_1 none U M) transposes_S4x33x128x8x64_S33x128x4x8x64_1_2_0_3_4) (transpose S33x128x4x8x64 [0, 2, 1, 3, 4] (Host.dotGeneral dot_S33x4x256x128x8_S33x256x4x64_S33x4x128x8x64_2_1_34_3_01_02 none T K) transposes_S33x4x128x8x64_S33x128x4x8x64_0_2_1_3_4) (ix5 n r h g l)
      = ∑ j : Fin 16, U (ix5 h j n r g) * M (ix3 j h l) + ∑ j : Fin 256, T (ix5 n h j r g) * K (ix4 n j h l) := by
  pointwise

/-- Rows of the keys' gradient: a block's second half and the next block's first half. -/
theorem fold_at (X : FVec Ideal S33x256x4x64 .f32) :
    shapeCast S4224x4x64 (addf (extractStridedSlice S33x128x4x64 ![0, 128, 0, 0] X slices_S33x256x4x64_S33x128x4x64_0_128_0_0) (pad S33x128x4x64 ![0, 0, 0, 0] ![1, 0, 0, 0] ![0, 0, 0, 0] (extractStridedSlice S32x128x4x64 ![1, 0, 0, 0] (extractStridedSlice S33x128x4x64 ![0, 0, 0, 0] X slices_S33x256x4x64_S33x128x4x64_0_0_0_0) slices_S33x128x4x64_S32x128x4x64_1_0_0_0) (constant S_ .f32 0x00000000#32) pads_S32x128x4x64_S33x128x4x64_010_000_000_000 h_S_)) shapeCasts_S33x128x4x64_S4224x4x64 (ix3 (row n r) h l)
      = X (ix4 n ⟨128 + r.val, by omega⟩ h l) + if c : n.val < 32 then X (ix4 ⟨n.val + 1, by omega⟩ ⟨r.val, by omega⟩ h l) else 0 := by
  pointwise [row]
  refine congrArg (X (ix4 n ⟨128 + r.val, by omega⟩ h l) + ·) ?_
  by_cases c : n.val < 32
  · rw [dif_pos c, dif_pos c]
    exact congrArg (fun i => X (ix4 i ⟨r.val, by omega⟩ h l)) (Fin.ext (Nat.add_comm 1 n.val))
  · rw [dif_neg c, dif_neg c]

theorem unrow_at (X : FVec Ideal S33x128x4x8x64 .f32) :
    shapeCast S4224x32x64 X shapeCasts_S33x128x4x8x64_S4224x32x64 (ix3 (row n r) (hd h g) l) = X (ix5 n r h g l) := by
  pointwise [row, hd]

end ops

variable (V0 : Valuation τ sig (Elt Ideal)) (n : Fin 33) (h : Fin 4) (g : Fin 8) (r : Fin 128) (l : Fin 64)

theorem v168_at (R : (args V0).Real) (j : Fin 256) :
    (res_main_v168 V0 : FVec Ideal S33x4x256x128x8 .f32) (ix5 n h j r g) = (args V0).ds n h g r ⟨j.val, by omega⟩ := by
  refine (selBand_at (res_main_v153 V0) n h g r (res_main_v82_1 V0) j).trans ?_
  refine (congrArg (fun c => Scalar.select c (g273 V0 n h g r ⟨j.val, by omega⟩) (0 : EReal)) (v82_at V0 n h g r j)).trans ?_
  by_cases c : near n r j.val
  · rw [decide_eq_true c]
    exact g_band V0 n h g r R j ((live_band n r j).mpr c)
  · rw [decide_eq_false c]
    exact (R.ds_dead h g fun q => c ((live_band n r j).mp q)).symm

theorem v163_at (R : (args V0).Real) (j : Fin 16) :
    (res_main_v163 V0 : FVec Ideal S4x16x33x128x8 .f32) (ix5 h j n r g) = (args V0).ds n h g r ⟨368 + j.val, by omega⟩ := by
  refine (selMeta_at (res_main_v153 V0) n h g r (res_main_v84_1 V0) j).trans ?_
  refine (congrArg (fun c => Scalar.select c (g273 V0 n h g r ⟨256 + j.val, by omega⟩) (0 : EReal)) (v84_at V0 n h g r j)).trans ?_
  by_cases c : meta' n r j.val
  · rw [decide_eq_true c]
    exact g_meta V0 n h g r R j ((live_meta n r j).mpr c)
  · rw [decide_eq_false c]
    exact (R.ds_dead h g fun q => c ((live_meta n r j).mp q)).symm

theorem v138_at (R : (args V0).Real) (j : Fin 256) :
    (res_main_v138 V0 : FVec Ideal S33x256x4x64 .f32) (ix4 n j h l) = (args V0).dV n h ⟨j.val, by omega⟩ l := by
  refine (dvBand_at n h l (res_main_v135 V0) (res_main_v117 V0) j).trans (Finset.sum_congr rfl fun g _ => Finset.sum_congr rfl fun r _ => ?_)
  rw [v135_at, w_band V0 n h g r R]
  by_cases c : live n r ⟨j.val, by omega⟩
  · rw [if_pos (live_row n r _ c), mul_comm]
  · rw [R.w_dead h g c, mul_zero, zero_mul]

theorem v173_at (R : (args V0).Real) (j : Fin 256) :
    (res_main_v173 V0 : FVec Ideal S33x256x4x64 .f32) (ix4 n j h l) = (args V0).dK n h ⟨j.val, by omega⟩ l := by
  refine (dkBand_at n h l (res_main_v168 V0) (res_main_v14 V0) j).trans ((Finset.sum_comm).trans (Finset.sum_congr rfl fun g _ => Finset.sum_congr rfl fun r _ => ?_))
  rw [v168_at V0 n h g r R, v14_at]
  by_cases c : live n r ⟨j.val, by omega⟩
  · rw [if_pos (live_row n r _ c)]
  · rw [R.ds_dead h g c, zero_mul, zero_mul]

theorem v192_at (R : (args V0).Real) :
    (res_main_v192 V0 : FVec Ideal S4224x32x64 .f32) (ix3 (row n r) (hd h g) l) = (args V0).dQ n h g r l := by
  refine (unrow_at n h g r l _).trans ((dqSum_at n h g r l (res_main_v168 V0) (res_main_v163 V0) (res_main_v9 V0) (res_main_v33 V0)).trans ?_)
  unfold In.dQ
  rw [sum384 _ (fun j h1 h2 => by rw [R.ds_dead h g (live_mid n r j h1 h2), zero_mul]), add_comm]
  refine congrArg₂ (· + ·) (Finset.sum_congr rfl fun j _ => ?_) (Finset.sum_congr rfl fun j _ => ?_)
  · rw [v168_at V0 n h g r R, v33_at]
    by_cases c : live n r ⟨j.val, by omega⟩
    · have ck := live_key n r _ c
      unfold key at ck ⊢
      rw [dif_pos j.isLt] at ck ⊢
      rw [if_pos ck]
    · rw [R.ds_dead h g c, zero_mul, zero_mul]
  · rw [v163_at V0 n h g r R, v9_at]
    refine congrArg (_ * ·) (congrArg (fun a => (args V0).k h a l) (Fin.ext ?_))
    unfold key
    rw [dif_neg (by show ¬368 + j.val < 256; omega)]
    show 240 + j.val = 128 + (368 + j.val - 256)
    omega

theorem v186_at (R : (args V0).Real) :
    (res_main_v186 V0 : FVec Ideal S4224x4x64 .f32) (ix3 (row n r) h l) = two n r fun n j => (args V0).dV n h j l := by
  refine (fold_at n h r l (res_main_v138 V0)).trans ?_
  unfold two
  rw [v138_at V0 n h l R]
  congr 1
  by_cases c : n.val < 32
  · rw [dif_pos c, dif_pos c, v138_at V0 _ h l R]
  · rw [dif_neg c, dif_neg c]

theorem v189_at (R : (args V0).Real) :
    (res_main_v189 V0 : FVec Ideal S4224x4x64 .f32) (ix3 (row n r) h l) = two n r fun n j => (args V0).dK n h j l := by
  refine (fold_at n h r l (res_main_v173 V0)).trans ?_
  unfold two
  rw [v173_at V0 n h l R]
  congr 1
  by_cases c : n.val < 32
  · rw [dif_pos c, dif_pos c, v173_at V0 _ h l R]
  · rw [dif_neg c, dif_neg c]

end Cert.ReferenceIdeal.Attn

end
-- ==== Proof.Attn.Ref5.lean ====
/- The reference's six results read at an index. -/
module

public import proofs.«01_k».proof.Proof.Attn.Ref4
public import Idealize.ShloMosaic.Lib.IdealHost

@[expose] public section

set_option maxRecDepth 16384

noncomputable section

namespace Cert.ReferenceIdeal.Attn

open Cert.ReferenceIdeal Cert.ReferenceIdeal.Gen Cert.ReferenceIdeal.Value Cert.Band Cert.Softmax
open Idealize.ShloMosaic Idealize.ShloMosaic.TcCoe Idealize.SL.Sem Idealize.ShloMosaic.StableHlo

/-! ## The operations over arbitrary operands -/

section ops

/-- The contracted axes of the meta keys' product: block, row, query head. -/
def mkEquiv : dot_S4x16x33x128x8_S33x128x4x8x64_S4x16x64_234_013_1_4_0_2.contr.Idx ≃ Fin 33 × Fin 128 × Fin 8 where
  toFun q := (q ⟨0, by decide⟩, q ⟨1, by decide⟩, q ⟨2, by decide⟩)
  invFun p a := match a with
    | ⟨0, _⟩ => p.1
    | ⟨1, _⟩ => p.2.1
    | ⟨2, _⟩ => p.2.2
  left_inv q := funext fun a => match a with
    | ⟨0, _⟩ => rfl
    | ⟨1, _⟩ => rfl
    | ⟨2, _⟩ => rfl
  right_inv _ := rfl

/-- The contracted axes of the meta values' product: block, query head, row. -/
def mvEquiv : dot_S4x64x33x8x128_S33x4x8x128x16_S4x64x16_234_023_1_4_0_1.contr.Idx ≃ Fin 33 × Fin 8 × Fin 128 where
  toFun q := (q ⟨0, by decide⟩, q ⟨1, by decide⟩, q ⟨2, by decide⟩)
  invFun p a := match a with
    | ⟨0, _⟩ => p.1
    | ⟨1, _⟩ => p.2.1
    | ⟨2, _⟩ => p.2.2
  left_inv q := funext fun a => match a with
    | ⟨0, _⟩ => rfl
    | ⟨1, _⟩ => rfl
    | ⟨2, _⟩ => rfl
  right_inv _ := rfl

theorem padZero : (FloatOps.sitofp .f32 (0#32) : Ideal .f32) = (0 : EReal) := by
  show (((0#32 : BitVec 32).toInt : ℝ) : EReal) = 0
  norm_num

variable (n : Fin 33) (h : Fin 4) (g : Fin 8) (r : Fin 128) (l : Fin 64)

/-- The queries' gradient after its padding rows are cleared. -/
theorem outQ_at (X : FVec Ideal S4224x32x64 .f32) :
    pad S4224x2048 ![112, 0] ![0, 0] ![0, 0] (shapeCast S4112x2048 (extractStridedSlice S4112x32x64 ![112, 0, 0] X slices_S4224x32x64_S4112x32x64_112_0_0) shapeCasts_S4112x32x64_S4112x2048) (sitofp .f32 (constantI S_ 32 0#32)) pads_S4112x2048_S4224x2048_11200_000 h_S_ (ix2 (row n r) (col h g l))
      = if 112 ≤ n.val * 128 + r.val then X (ix3 (row n r) (hd h g) l) else 0 := by
  pointwise [row, col, hd]
  by_cases c : 112 ≤ n.val * 128 + r.val
  · rw [dif_pos ⟨⟨c, by omega⟩, by omega⟩]
    refine Eq.trans ?_ (if_pos c).symm
    refine congrArg X ((ix3_inj ..).2 ⟨Fin.ext ?_, Fin.ext ?_, rfl⟩)
    · show 112 + (n.val * 128 + r.val - 112) = n.val * 128 + r.val
      omega
    · show ((h.val * 8 + g.val) * 64 + l.val) / 64 = h.val * 8 + g.val
      omega
  · rw [dif_neg fun q => c q.1.1, if_neg c, padZero]

/-- The keys' or values' gradient after its padding rows are cleared. -/
theorem outK_at (X : FVec Ideal S4224x4x64 .f32) :
    pad S4x4224x64 ![0, 112, 0] ![0, 0, 0] ![0, 0, 0] (transpose S4x4112x64 [1, 0, 2] (extractStridedSlice S4112x4x64 ![112, 0, 0] X slices_S4224x4x64_S4112x4x64_112_0_0) transposes_S4112x4x64_S4x4112x64_1_0_2) (sitofp .f32 (constantI S_ 32 0#32)) pads_S4x4112x64_S4x4224x64_000_11200_000 h_S_ (ix3 h (row n r) l)
      = if 112 ≤ n.val * 128 + r.val then X (ix3 (row n r) h l) else 0 := by
  pointwise [row]
  by_cases c : 112 ≤ n.val * 128 + r.val
  · rw [dif_pos ⟨c, by omega⟩]
    refine Eq.trans ?_ (if_pos c).symm
    refine congrArg (fun i => X (ix3 i h l)) (Fin.ext ?_)
    show 112 + (n.val * 128 + r.val - 112) = n.val * 128 + r.val
    omega
  · rw [dif_neg fun q => c q.1, if_neg c, padZero]

/-- The meta keys' gradient after padding. -/
theorem outM_at (X : FVec Ideal S4x16x64 .f32) (m : Fin 128) :
    pad S4x128x64 ![0, 112, 0] ![0, 0, 0] ![0, 0, 0] (transpose S4x16x64 [1, 0, 2] (transpose S16x4x64 [1, 0, 2] X transposes_S4x16x64_S16x4x64_1_0_2) transposes_S16x4x64_S4x16x64_1_0_2) (sitofp .f32 (constantI S_ 32 0#32)) pads_S4x16x64_S4x128x64_000_11200_000 h_S_ (ix3 h m l)
      = if c : 112 ≤ m.val then X (ix3 h ⟨m.val - 112, by omega⟩ l) else 0 := by
  pointwise
  by_cases c : 112 ≤ m.val
  · rw [dif_pos ⟨c, by omega⟩, dif_pos c]
  · rw [dif_neg fun q => c q.1, dif_neg c, padZero]

/-- The meta values' gradient after padding. -/
theorem outMv_at (X : FVec Ideal S4x64x16 .f32) (m : Fin 128) :
    pad S4x128x64 ![0, 112, 0] ![0, 0, 0] ![0, 0, 0] (transpose S4x16x64 [1, 0, 2] (transpose S16x4x64 [2, 0, 1] X transposes_S4x64x16_S16x4x64_2_0_1) transposes_S16x4x64_S4x16x64_1_0_2) (sitofp .f32 (constantI S_ 32 0#32)) pads_S4x16x64_S4x128x64_000_11200_000 h_S_ (ix3 h m l)
      = if c : 112 ≤ m.val then X (ix3 h l ⟨m.val - 112, by omega⟩) else 0 := by
  pointwise
  by_cases c : 112 ≤ m.val
  · rw [dif_pos ⟨c, by omega⟩, dif_pos c]
  · rw [dif_neg fun q => c q.1, dif_neg c, padZero]

/-- The sinks' gradient after padding. -/
theorem outS_at (X : FVec Ideal S4x8 .f32) (o : Fin 128) :
    pad S1x128 ![0, 0] ![0, 96] ![0, 0] (shapeCast S1x32 X shapeCasts_S4x8_S1x32) (sitofp .f32 (constantI S_ 32 0#32)) pads_S1x32_S1x128_000_0960 h_S_ (ix2 0 o)
      = if c : o.val < 32 then X (ix2 ⟨o.val / 8, by omega⟩ ⟨o.val % 8, by omega⟩) else 0 := by
  pointwise
  rw [padZero]

/-- The meta keys' gradient, a sum over blocks, rows and query heads. -/
theorem dotMk_at (U : FVec Ideal S4x16x33x128x8 .f32) (Q : FVec Ideal S33x128x4x8x64 .f32) (m : Fin 16) :
    Host.dotGeneral dot_S4x16x33x128x8_S33x128x4x8x64_S4x16x64_234_013_1_4_0_2 none U Q (ix3 h m l)
      = ∑ n : Fin 33, ∑ r : Fin 128, ∑ g : Fin 8, U (ix5 h m n r g) * Q (ix5 n r h g l) := by
  pointwise
  refine (zero_add _).trans ?_
  rw [← Equiv.sum_comp mkEquiv.symm, Fintype.sum_prod_type]
  refine Finset.sum_congr rfl fun n _ => (Fintype.sum_prod_type _).trans (Finset.sum_congr rfl fun r _ => Finset.sum_congr rfl fun g _ => congrArg₂ (· * ·) (congrArg U ?_) (congrArg Q ?_))
  · refine funext fun a => Fin.ext ?_
    match a with
    | ⟨0, _⟩ => rfl
    | ⟨1, _⟩ => rfl
    | ⟨2, _⟩ => rfl
    | ⟨3, _⟩ => rfl
    | ⟨4, _⟩ => rfl
  · refine funext fun a => Fin.ext ?_
    match a with
    | ⟨0, _⟩ => rfl
    | ⟨1, _⟩ => rfl
    | ⟨2, _⟩ => rfl
    | ⟨3, _⟩ => rfl
    | ⟨4, _⟩ => rfl

/-- The meta values' gradient, a sum over blocks, query heads and rows. -/
theorem dotMv_at (D : FVec Ideal S4x64x33x8x128 .f32) (W : FVec Ideal S33x4x8x128x16 .f32) (m : Fin 16) :
    Host.dotGeneral dot_S4x64x33x8x128_S33x4x8x128x16_S4x64x16_234_023_1_4_0_1 none D W (ix3 h l m)
      = ∑ n : Fin 33, ∑ g : Fin 8, ∑ r : Fin 128, D (ix5 h l n g r) * W (ix5 n h g r m) := by
  pointwise
  refine (zero_add _).trans ?_
  rw [← Equiv.sum_comp mvEquiv.symm, Fintype.sum_prod_type]
  refine Finset.sum_congr rfl fun n _ => (Fintype.sum_prod_type _).trans (Finset.sum_congr rfl fun g _ => Finset.sum_congr rfl fun r _ => congrArg₂ (· * ·) (congrArg D ?_) (congrArg W ?_))
  · refine funext fun a => Fin.ext ?_
    match a with
    | ⟨0, _⟩ => rfl
    | ⟨1, _⟩ => rfl
    | ⟨2, _⟩ => rfl
    | ⟨3, _⟩ => rfl
    | ⟨4, _⟩ => rfl
  · refine funext fun a => Fin.ext ?_
    match a with
    | ⟨0, _⟩ => rfl
    | ⟨1, _⟩ => rfl
    | ⟨2, _⟩ => rfl
    | ⟨3, _⟩ => rfl
    | ⟨4, _⟩ => rfl

/-- The two sums over blocks, rows and axes of extent one. -/
theorem red1_at (X : FVec Ideal S1x4x8x1x1 .f32) :
    Host.reduceAdd X (constant S_ .f32 0x00000000#32) reducesTo_S1x4x8x1x1_S4x8_d0_3_4 h_S_ (ix2 h g) = X (ix5 0 h g 0 0) := by
  refine (ValueIdx.hostReduceAdd_apply X _ _ h_S_ (ix2 h g)).trans ?_
  unfold Ideal.hostReduceAdd
  rw [Finset.sum_filter_eq_sum_of_fiber (fun i => reducesTo_S1x4x8x1x1_S4x8_d0_3_4.drop i = ix2 h g) (fun _ : Unit => ix5 0 h g 0 0) (fun _ _ _ => rfl) fun i => ?_]
  · pointwise
    exact Fintype.sum_unique _
  constructor
  · intro e
    refine ⟨(), funext fun a => Fin.ext ?_⟩
    fin_cases a
    · exact (Nat.lt_one_iff.mp (i 0).isLt).symm
    · exact (congrArg Fin.val (congrFun e 0)).symm
    · exact (congrArg Fin.val (congrFun e 1)).symm
    · exact (Nat.lt_one_iff.mp (i 3).isLt).symm
    · exact (Nat.lt_one_iff.mp (i 4).isLt).symm
  · rintro ⟨k, rfl⟩
    refine funext fun a => Fin.ext ?_
    fin_cases a <;> rfl

theorem red2_at (X : FVec Ideal S33x4x8x128x1 .f32) :
    Host.reduceAdd X (constant S_ .f32 0x00000000#32) reducesTo_S33x4x8x128x1_S4x8_d0_3_4 h_S_ (ix2 h g) = ∑ n : Fin 33, ∑ r : Fin 128, X (ix5 n h g r 0) := by
  refine (ValueIdx.hostReduceAdd_apply X _ _ h_S_ (ix2 h g)).trans ?_
  unfold Ideal.hostReduceAdd
  rw [Finset.sum_filter_eq_sum_of_fiber (fun i => reducesTo_S33x4x8x128x1_S4x8_d0_3_4.drop i = ix2 h g) (fun p : Fin 33 × Fin 128 => ix5 p.1 h g p.2 0)
    (fun _ _ e => Prod.ext (congrFun e 0) (congrFun e 3)) fun i => ?_]
  · rw [Fintype.sum_prod_type]
    pointwise
  constructor
  · intro e
    refine ⟨(i 0, i 3), funext fun a => Fin.ext ?_⟩
    fin_cases a
    · rfl
    · exact (congrArg Fin.val (congrFun e 0)).symm
    · exact (congrArg Fin.val (congrFun e 1)).symm
    · rfl
    · exact (Nat.lt_one_iff.mp (i 4).isLt).symm
  · rintro ⟨k, rfl⟩
    refine funext fun a => Fin.ext ?_
    fin_cases a <;> rfl

/-- The sinks' gradient, a sum over blocks and rows. -/
theorem sumS_at (G : FVec Ideal S33x4x8x128x273 .f32) :
    Host.reduceAdd (broadcastInDim S1x4x8x1x1 ![1, 2] bcast_S4x8_S1x4x8x1x1_1_2 (Host.reduceAdd (extractStridedSlice S33x4x8x128x1 ![0, 0, 0, 0, 272] G slices_S33x4x8x128x273_S33x4x8x128x1_0_0_0_0_272) (constant S_ .f32 0x00000000#32) reducesTo_S33x4x8x128x1_S4x8_d0_3_4 h_S_)) (constant S_ .f32 0x00000000#32) reducesTo_S1x4x8x1x1_S4x8_d0_3_4 h_S_ (ix2 h g)
      = ∑ n : Fin 33, ∑ r : Fin 128, G (ix5 n h g r ⟨272, by omega⟩) := by
  refine (red1_at h g _).trans ?_
  refine Eq.trans (b := Host.reduceAdd (extractStridedSlice S33x4x8x128x1 ![0, 0, 0, 0, 272] G slices_S33x4x8x128x273_S33x4x8x128x1_0_0_0_0_272) (constant S_ .f32 0x00000000#32) reducesTo_S33x4x8x128x1_S4x8_d0_3_4 h_S_ (ix2 h g)) ?_ ?_
  · generalize Host.reduceAdd (extractStridedSlice S33x4x8x128x1 ![0, 0, 0, 0, 272] G slices_S33x4x8x128x273_S33x4x8x128x1_0_0_0_0_272) (constant S_ .f32 0x00000000#32) reducesTo_S33x4x8x128x1_S4x8_d0_3_4 h_S_ = Y
    pointwise
  · refine (red2_at h g _).trans (Finset.sum_congr rfl fun n _ => Finset.sum_congr rfl fun r _ => ?_)
    pointwise

end ops

variable (V0 : Valuation τ sig (Elt Ideal)) (R : (args V0).Real) (n : Fin 33) (h : Fin 4) (g : Fin 8) (r : Fin 128) (l : Fin 64)

theorem meta_col (m : Fin 128) (c : 112 ≤ m.val) : (⟨368 + (m.val - 112), by omega⟩ : Fin 384) = ⟨256 + m.val, by omega⟩ :=
  Fin.ext (by show 368 + (m.val - 112) = 256 + m.val; omega)

include R

/-- The gradient of the meta keys. -/
theorem metaK_at (m : Fin 16) :
    Host.dotGeneral (φ₁ := .f32) (φ₂ := .f32) dot_S4x16x33x128x8_S33x128x4x8x64_S4x16x64_234_013_1_4_0_2 none (res_main_v163 V0) (res_main_v14 V0) (ix3 h m l)
      = ∑ n : Fin 33, (args V0).dK n h ⟨368 + m.val, by omega⟩ l := by
  refine (dotMk_at h l (res_main_v163 V0) (res_main_v14 V0) m).trans (Finset.sum_congr rfl fun n _ =>
    (Finset.sum_comm).trans (Finset.sum_congr rfl fun g _ => Finset.sum_congr rfl fun r _ => ?_))
  rw [v163_at V0 n h g r R, v14_at]
  by_cases c : live n r ⟨368 + m.val, by omega⟩
  · rw [if_pos (live_row n r _ c)]
  · rw [R.ds_dead h g c, zero_mul, zero_mul]

/-- The gradient of the meta values. -/
theorem metaV_at (m : Fin 16) :
    Host.dotGeneral (φ₁ := .f32) (φ₂ := .f32) dot_S4x64x33x8x128_S33x4x8x128x16_S4x64x16_234_023_1_4_0_1 none (res_main_v130 V0) (res_main_v118 V0) (ix3 h l m)
      = ∑ n : Fin 33, (args V0).dV n h ⟨368 + m.val, by omega⟩ l := by
  refine (dotMv_at h l (res_main_v130 V0) (res_main_v118 V0) m).trans (Finset.sum_congr rfl fun n _ =>
    Finset.sum_congr rfl fun g _ => Finset.sum_congr rfl fun r _ => ?_)
  rw [v130_at, w_meta V0 n h g r R]
  by_cases c : live n r ⟨368 + m.val, by omega⟩
  · rw [if_pos (live_row n r _ c), mul_comm]
  · rw [R.w_dead h g c, mul_zero, zero_mul]

/-- The first result: the queries' gradient. -/
theorem q_at :
    pad S4224x2048 ![112, 0] ![0, 0] ![0, 0] (shapeCast S4112x2048 (extractStridedSlice S4112x32x64 ![112, 0, 0] (show FVec Ideal S4224x32x64 .f32 from res_main_v192 V0) slices_S4224x32x64_S4112x32x64_112_0_0) shapeCasts_S4112x32x64_S4112x2048) (sitofp .f32 (constantI S_ 32 0#32)) pads_S4112x2048_S4224x2048_11200_000 h_S_ (ix2 (row n r) (col h g l))
      = (args V0).dQ n h g r l := by
  refine (outQ_at n h g r l (res_main_v192 V0)).trans ?_
  by_cases c : 112 ≤ n.val * 128 + r.val
  · exact (if_pos c).trans (v192_at V0 n h g r l R)
  · exact (if_neg c).trans (R.dQ_pad n h g r l c).symm

/-- The second result: the keys' gradient. -/
theorem k_at :
    pad S4x4224x64 ![0, 112, 0] ![0, 0, 0] ![0, 0, 0] (transpose S4x4112x64 [1, 0, 2] (extractStridedSlice S4112x4x64 ![112, 0, 0] (show FVec Ideal S4224x4x64 .f32 from res_main_v189 V0) slices_S4224x4x64_S4112x4x64_112_0_0) transposes_S4112x4x64_S4x4112x64_1_0_2) (sitofp .f32 (constantI S_ 32 0#32)) pads_S4x4112x64_S4x4224x64_000_11200_000 h_S_ (ix3 h (row n r) l)
      = two n r fun n j => (args V0).dK n h j l := by
  refine (outK_at n h r l (res_main_v189 V0)).trans ?_
  by_cases c : 112 ≤ n.val * 128 + r.val
  · exact (if_pos c).trans (v189_at V0 n h r l R)
  · exact (if_neg c).trans (two_pad n r _ c fun n j hd => R.dK_dead n h j l hd).symm

/-- The third result: the values' gradient. -/
theorem v_at :
    pad S4x4224x64 ![0, 112, 0] ![0, 0, 0] ![0, 0, 0] (transpose S4x4112x64 [1, 0, 2] (extractStridedSlice S4112x4x64 ![112, 0, 0] (show FVec Ideal S4224x4x64 .f32 from res_main_v186 V0) slices_S4224x4x64_S4112x4x64_112_0_0) transposes_S4112x4x64_S4x4112x64_1_0_2) (sitofp .f32 (constantI S_ 32 0#32)) pads_S4x4112x64_S4x4224x64_000_11200_000 h_S_ (ix3 h (row n r) l)
      = two n r fun n j => (args V0).dV n h j l := by
  refine (outK_at n h r l (res_main_v186 V0)).trans ?_
  by_cases c : 112 ≤ n.val * 128 + r.val
  · exact (if_pos c).trans (v186_at V0 n h r l R)
  · exact (if_neg c).trans (two_pad n r _ c fun n j hd => R.dV_dead n h j l hd).symm

/-- The fourth result: the meta keys' gradient. -/
theorem mk_at (m : Fin 128) :
    pad S4x128x64 ![0, 112, 0] ![0, 0, 0] ![0, 0, 0] (transpose S4x16x64 [1, 0, 2] (transpose S16x4x64 [1, 0, 2] (Host.dotGeneral (φ₁ := .f32) (φ₂ := .f32) dot_S4x16x33x128x8_S33x128x4x8x64_S4x16x64_234_013_1_4_0_2 none (res_main_v163 V0) (res_main_v14 V0)) transposes_S4x16x64_S16x4x64_1_0_2) transposes_S16x4x64_S4x16x64_1_0_2) (sitofp .f32 (constantI S_ 32 0#32)) pads_S4x16x64_S4x128x64_000_11200_000 h_S_ (ix3 h m l)
      = ∑ n : Fin 33, (args V0).dK n h ⟨256 + m.val, by omega⟩ l := by
  refine (outM_at h l _ m).trans ?_
  by_cases c : 112 ≤ m.val
  · refine (dif_pos c).trans ((metaK_at V0 R h l _).trans (Finset.sum_congr rfl fun n _ => ?_))
    exact congrArg (fun j => (args V0).dK n h j l) (meta_col m c)
  · exact (dif_neg c).trans (Finset.sum_eq_zero fun n _ => R.dK_dead n h _ l (meta_dead n m c)).symm

/-- The fifth result: the meta values' gradient. -/
theorem mv_at (m : Fin 128) :
    pad S4x128x64 ![0, 112, 0] ![0, 0, 0] ![0, 0, 0] (transpose S4x16x64 [1, 0, 2] (transpose S16x4x64 [2, 0, 1] (Host.dotGeneral (φ₁ := .f32) (φ₂ := .f32) dot_S4x64x33x8x128_S33x4x8x128x16_S4x64x16_234_023_1_4_0_1 none (res_main_v130 V0) (res_main_v118 V0)) transposes_S4x64x16_S16x4x64_2_0_1) transposes_S16x4x64_S4x16x64_1_0_2) (sitofp .f32 (constantI S_ 32 0#32)) pads_S4x16x64_S4x128x64_000_11200_000 h_S_ (ix3 h m l)
      = ∑ n : Fin 33, (args V0).dV n h ⟨256 + m.val, by omega⟩ l := by
  refine (outMv_at h l _ m).trans ?_
  by_cases c : 112 ≤ m.val
  · refine (dif_pos c).trans ((metaV_at V0 R h l _).trans (Finset.sum_congr rfl fun n _ => ?_))
    exact congrArg (fun j => (args V0).dV n h j l) (meta_col m c)
  · exact (dif_neg c).trans (Finset.sum_eq_zero fun n _ => R.dV_dead n h _ l (meta_dead n m c)).symm

/-- The sixth result: the sinks' gradient. -/
theorem s_at (o : Fin 128) :
    pad S1x128 ![0, 0] ![0, 96] ![0, 0] (shapeCast S1x32 (Host.reduceAdd (broadcastInDim S1x4x8x1x1 ![1, 2] bcast_S4x8_S1x4x8x1x1_1_2 (Host.reduceAdd (extractStridedSlice S33x4x8x128x1 ![0, 0, 0, 0, 272] (show FVec Ideal S33x4x8x128x273 .f32 from res_main_v153 V0) slices_S33x4x8x128x273_S33x4x8x128x1_0_0_0_0_272) (constant S_ .f32 0x00000000#32) reducesTo_S33x4x8x128x1_S4x8_d0_3_4 h_S_)) (constant S_ .f32 0x00000000#32) reducesTo_S1x4x8x1x1_S4x8_d0_3_4 h_S_) shapeCasts_S4x8_S1x32) (sitofp .f32 (constantI S_ 32 0#32)) pads_S1x32_S1x128_000_0960 h_S_ (ix2 0 o)
      = if c : o.val < 32 then ∑ n : Fin 33, (args V0).dS n ⟨o.val / 8, by omega⟩ ⟨o.val % 8, by omega⟩ else 0 := by
  refine (outS_at _ o).trans ?_
  by_cases c : o.val < 32
  · refine (dif_pos c).trans (Eq.trans ?_ (dif_pos c).symm)
    exact (sumS_at _ _ (res_main_v153 V0)).trans (Finset.sum_congr rfl fun n _ => Finset.sum_congr rfl fun r _ => g_sink V0 n _ _ r R)
  · rw [dif_neg c, dif_neg c]

end Cert.ReferenceIdeal.Attn

end
-- ==== Proof.Attn.Ref6.lean ====
/- The reference's run: its six results are the arrays of the formulas. -/
module

public import proofs.«01_k».proof.Proof.Attn.Ref5
public import proofs.«01_k».proof.Proof.Attn.Out

@[expose] public section

noncomputable section

namespace Cert.ReferenceIdeal.Attn

open Cert.ReferenceIdeal Cert.ReferenceIdeal.Gen Cert.ReferenceIdeal.Value Cert.Softmax Cert.Band
open Idealize.ShloMosaic Idealize.ShloMosaic.TcCoe Idealize.SL.Sem Idealize.ShloMosaic.StableHlo

/-- Two arrays of 4224 rows and 2048 columns are equal when they agree at every head. -/
theorem ext_q {f g : (⟨2, ![4224, 2048]⟩ : Shape).Idx → EReal}
    (e : ∀ n h k r l, f (ix2 (row n r) (col h k l)) = g (ix2 (row n r) (col h k l))) : f = g := by
  funext j
  obtain ⟨n, r, hr⟩ := exists_row (j 0)
  obtain ⟨h, k, l, hl⟩ := exists_col (j 1)
  have hj : j = ix2 (row n r) (col h k l) := funext fun d => by
    fin_cases d
    · exact hr
    · exact hl
  rw [hj]
  exact e n h k r l

/-- Two arrays of four heads and 4224 rows are equal when they agree block by block. -/
theorem ext_k {f g : (⟨3, ![4, 4224, 64]⟩ : Shape).Idx → EReal}
    (e : ∀ (h : Fin 4) n r (l : Fin 64), f (ix3 h (row n r) l) = g (ix3 h (row n r) l)) : f = g := by
  funext j
  obtain ⟨n, r, hr⟩ := exists_row (j 1)
  have hj : j = ix3 (n0 := 4) (n1 := 4224) (n2 := 64) (j 0) (row n r) (j 2) := funext fun d => by
    fin_cases d
    · rfl
    · exact hr
    · rfl
  rw [hj]
  exact e (j 0) n r (j 2)

theorem ext_m {f g : (⟨3, ![4, 128, 64]⟩ : Shape).Idx → EReal}
    (e : ∀ (h : Fin 4) (r : Fin 128) (l : Fin 64), f (ix3 h r l) = g (ix3 h r l)) : f = g := by
  funext j
  have hj : j = ix3 (n0 := 4) (n1 := 128) (n2 := 64) (j 0) (j 1) (j 2) := funext fun d => by fin_cases d <;> rfl
  rw [hj]
  exact e (j 0) (j 1) (j 2)

theorem ext_s {f g : (⟨2, ![1, 128]⟩ : Shape).Idx → EReal} (e : ∀ o : Fin 128, f (ix2 0 o) = g (ix2 0 o)) : f = g := by
  funext j
  have hj : j = ix2 (n0 := 1) (n1 := 128) 0 (j 1) := funext fun d => Fin.ext (by
    fin_cases d
    · exact Nat.lt_one_iff.mp (j 0).isLt
    · rfl)
  rw [hj]
  exact e (j 1)

theorem run_value (m : (ℓ : Loc nD τ sig) → Buf (Elt Ideal) ℓ) (ρ : Dev nD → PrngReg) (R : ∀ c, (args (launchContents m c)).Real) :
    θ_run defs (onTc (τ := τ) (main (F := Ideal))) ⟨m, fun _ => 0, ρ⟩ (fun r => ∀ c : Dev nD,
      r.2.mem ((c.tc : Thread nD τ).loc main_v196) = oQ (args (launchContents m c))
      ∧ r.2.mem ((c.tc : Thread nD τ).loc main_v198) = oK (args (launchContents m c))
      ∧ r.2.mem ((c.tc : Thread nD τ).loc main_v200) = oV (args (launchContents m c))
      ∧ r.2.mem ((c.tc : Thread nD τ).loc main_v202) = oMk (args (launchContents m c))
      ∧ r.2.mem ((c.tc : Thread nD τ).loc main_v204) = oMv (args (launchContents m c))
      ∧ r.2.mem ((c.tc : Thread nD τ).loc main_v205) = oS (args (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ w c => ⟨
      (w c).1.trans (ext_q fun n h g r l => (q_at (launchContents m c) (R c) n h g r l).trans (gQ_at _ n h g r l _ _ rfl rfl).symm),
      (w c).2.1.trans (ext_k fun h n r l => (k_at (launchContents m c) (R c) n h r l).trans (gT_at _ n r _ rfl).symm),
      (w c).2.2.1.trans (ext_k fun h n r l => (v_at (launchContents m c) (R c) n h r l).trans (gT_at _ n r _ rfl).symm),
      (w c).2.2.2.1.trans (ext_m fun h r l => mk_at (launchContents m c) (R c) h l r),
      (w c).2.2.2.2.1.trans (ext_m fun h r l => mv_at (launchContents m c) (R c) h l r),
      (w c).2.2.2.2.2.1.trans (ext_s fun o => s_at (launchContents m c) (R c) o), (w c).2.2.2.2.2.2⟩)
    (Cert.ReferenceIdeal.Value.run (F := Ideal) m ρ)

end Cert.ReferenceIdeal.Attn

end
-- ==== Proof.lean ====
/-
  The certificate: the sliding-window attention's backward kernel (`kernel` in the statement) against the gradient of the
  forward pass (`reference`); the step's products with the weights, each a program of its own against the gradient or the
  line of the forward pass it computes; the gradient through the gated unit; the gated merge and a norm; two calls of the AdamW step; and six sums over the
  devices, four of them with the AdamW step behind. For the
  attention: the frames of the kernel, of its idealization and of the reference, the ledger entry of the one named constant
  (the mask), and the equality of the six results over the extended reals; the kernel's run is Proof/Attn/Grid.lean. For
  each of the other programs: the three frames and the equality, in Proof/Dw.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Dw.GateUpDw
public import proofs.«01_k».proof.Proof.Dw.InDw
public import proofs.«01_k».proof.Proof.Dw.DownDw
public import proofs.«01_k».proof.Proof.Dw.MixDw
public import proofs.«01_k».proof.Proof.Dw.AttnDw
public import proofs.«01_k».proof.Proof.Dw.ConvDw
public import proofs.«01_k».proof.Proof.Dw.MixDx
public import proofs.«01_k».proof.Proof.Dw.AttnDx
public import proofs.«01_k».proof.Proof.Dw.ConvDx
public import proofs.«01_k».proof.Proof.Dw.InQ
public import proofs.«01_k».proof.Proof.Dw.InKv
public import proofs.«01_k».proof.Proof.Dw.InConv
public import proofs.«01_k».proof.Proof.Dw.InGates
public import proofs.«01_k».proof.Proof.Dw.AttnOut
public import proofs.«01_k».proof.Proof.Dw.MixOut
public import proofs.«01_k».proof.Proof.Dw.FfnDown
public import proofs.«01_k».proof.Proof.Dw.GateUpDx
public import proofs.«01_k».proof.Proof.Dw.InDx
public import proofs.«01_k».proof.Proof.Dw.SwigluDx
public import proofs.«01_k».proof.Proof.Dw.AdamWide
public import proofs.«01_k».proof.Proof.Dw.AdamSmall
public import proofs.«01_k».proof.Proof.Dw.SumSmall
public import proofs.«01_k».proof.Proof.Dw.SumAttn
public import proofs.«01_k».proof.Proof.Dw.StepDown
public import proofs.«01_k».proof.Proof.Dw.StepGateUp
public import proofs.«01_k».proof.Proof.Dw.StepOut
public import proofs.«01_k».proof.Proof.Dw.StepIn
public import proofs.«01_k».proof.Proof.Dw.ConvGate
public import proofs.«01_k».proof.Proof.Dw.FfnNorm
public import proofs.«01_k».proof.Proof.Attn.Same
public import proofs.«01_k».proof.Proof.Attn.Pre
public import proofs.«01_k».proof.Proof.Attn.Ref6
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs, its arguments end unchanged and every semaphore counter reads zero: the generated run. -/
theorem kernel_frame : Cert.quiescent_Kernel := fun m ρ _ => Cert.Kernel.Attn.frame m ρ

/-- The idealized kernel runs, its arguments end unchanged and every semaphore counter reads zero. -/
theorem ideal_frame : Cert.quiescent_KernelIdeal := fun m ρ _ => Cert.KernelIdeal.Attn.frame m ρ

/-- The reference runs and its arguments end unchanged; it declares no semaphore. -/
theorem reference_frame : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- The named mask constant is negative infinity at the ideal instance. -/
theorem mask_entry : Cert.preserves_Kernel_KernelIdeal :=
  IdealRules.named_const.statement Cert.KernelIdeal.κ "mask" .f32 0xF149F2CA#32 ⊥ rfl

/-- The two programs' arguments agree. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Attn.args (StableHlo.launchContents m' c) = Cert.KernelIdeal.Attn.args m c :=
  Cert.Band.In.eq_of (fun a b => congrFun h0 (ix2 a b)) (fun a b d => congrFun h1 (ix3 a b d)) (fun a b d => congrFun h2 (ix3 a b d))
    (fun a => congrFun h3 (ix2 0 a)) (fun a b => congrFun h4 (ix2 a b))

/-- Over the extended reals the kernel and the reference compute the same six arrays of any arguments whose queries, keys
    and sinks are reals. -/
theorem same_values : Cert.algebraic_KernelIdeal_ReferenceIdeal_pre_finite_scores := by
  intro m g m' g' hp hagree
  have hA : ∀ c, Cert.ReferenceIdeal.Attn.args (StableHlo.launchContents m' c) = Cert.KernelIdeal.Attn.args m c := fun c =>
    args_eq m m' c (hagree c).1 (hagree c).2.1 (hagree c).2.2.1 (hagree c).2.2.2.1 (hagree c).2.2.2.2
  have hr := Cert.ReferenceIdeal.Attn.run_value m' g' fun c => (hA c).symm ▸ Cert.KernelIdeal.Attn.real_of m hp c
  simp only [hA] at hr
  exact ⟨fun c => Cert.Band.oQ (Cert.KernelIdeal.Attn.args m c), fun c => Cert.Band.oK (Cert.KernelIdeal.Attn.args m c),
    fun c => Cert.Band.oV (Cert.KernelIdeal.Attn.args m c), fun c => Cert.Band.oMk (Cert.KernelIdeal.Attn.args m c),
    fun c => Cert.Band.oMv (Cert.KernelIdeal.Attn.args m c), fun c => Cert.Band.oS (Cert.KernelIdeal.Attn.args m c),
    Cert.KernelIdeal.Attn.run_value m g, hr⟩

/-- Every claim. -/
theorem claim : Cert.Claim := ⟨Cert.Kernel.Gen.facts, Cert.KernelIdeal.Gen.facts, Cert.ReferenceIdeal.Gen.facts,
  Cert.GateUpDw.Gen.facts, Cert.GateUpDwIdeal.Gen.facts, Cert.GateUpDwReferenceIdeal.Gen.facts,
  Cert.InDw.Gen.facts, Cert.InDwIdeal.Gen.facts, Cert.InDwReferenceIdeal.Gen.facts,
  Cert.DownDw.Gen.facts, Cert.DownDwIdeal.Gen.facts, Cert.DownDwReferenceIdeal.Gen.facts,
  Cert.MixDw.Gen.facts, Cert.MixDwIdeal.Gen.facts, Cert.MixDwReferenceIdeal.Gen.facts,
  Cert.AttnDw.Gen.facts, Cert.AttnDwIdeal.Gen.facts, Cert.AttnDwReferenceIdeal.Gen.facts,
  Cert.ConvDw.Gen.facts, Cert.ConvDwIdeal.Gen.facts, Cert.ConvDwReferenceIdeal.Gen.facts,
  Cert.MixDx.Gen.facts, Cert.MixDxIdeal.Gen.facts, Cert.MixDxReferenceIdeal.Gen.facts,
  Cert.AttnDx.Gen.facts, Cert.AttnDxIdeal.Gen.facts, Cert.AttnDxReferenceIdeal.Gen.facts,
  Cert.ConvDx.Gen.facts, Cert.ConvDxIdeal.Gen.facts, Cert.ConvDxReferenceIdeal.Gen.facts,
  Cert.InQ.Gen.facts, Cert.InQIdeal.Gen.facts, Cert.InQReferenceIdeal.Gen.facts,
  Cert.InKv.Gen.facts, Cert.InKvIdeal.Gen.facts, Cert.InKvReferenceIdeal.Gen.facts,
  Cert.InConv.Gen.facts, Cert.InConvIdeal.Gen.facts, Cert.InConvReferenceIdeal.Gen.facts,
  Cert.InGates.Gen.facts, Cert.InGatesIdeal.Gen.facts, Cert.InGatesReferenceIdeal.Gen.facts,
  Cert.AttnOut.Gen.facts, Cert.AttnOutIdeal.Gen.facts, Cert.AttnOutReferenceIdeal.Gen.facts,
  Cert.MixOut.Gen.facts, Cert.MixOutIdeal.Gen.facts, Cert.MixOutReferenceIdeal.Gen.facts,
  Cert.FfnDown.Gen.facts, Cert.FfnDownIdeal.Gen.facts, Cert.FfnDownReferenceIdeal.Gen.facts,
  Cert.GateUpDx.Gen.facts, Cert.GateUpDxIdeal.Gen.facts, Cert.GateUpDxReferenceIdeal.Gen.facts,
  Cert.InDx.Gen.facts, Cert.InDxIdeal.Gen.facts, Cert.InDxReferenceIdeal.Gen.facts,
  Cert.SwigluDx.Gen.facts, Cert.SwigluDxIdeal.Gen.facts, Cert.SwigluDxReferenceIdeal.Gen.facts,
  Cert.AdamWide.Gen.facts, Cert.AdamWideIdeal.Gen.facts, Cert.AdamWideReferenceIdeal.Gen.facts,
  Cert.AdamSmall.Gen.facts, Cert.AdamSmallIdeal.Gen.facts, Cert.AdamSmallReferenceIdeal.Gen.facts,
  Cert.SumSmall.Gen.facts, Cert.SumSmallIdeal.Gen.facts, Cert.SumSmallReferenceIdeal.Gen.facts,
  Cert.SumAttn.Gen.facts, Cert.SumAttnIdeal.Gen.facts, Cert.SumAttnReferenceIdeal.Gen.facts,
  Cert.StepDown.Gen.facts, Cert.StepDownIdeal.Gen.facts, Cert.StepDownReferenceIdeal.Gen.facts,
  Cert.StepGateUp.Gen.facts, Cert.StepGateUpIdeal.Gen.facts, Cert.StepGateUpReferenceIdeal.Gen.facts,
  Cert.StepOut.Gen.facts, Cert.StepOutIdeal.Gen.facts, Cert.StepOutReferenceIdeal.Gen.facts,
  Cert.StepIn.Gen.facts, Cert.StepInIdeal.Gen.facts, Cert.StepInReferenceIdeal.Gen.facts,
  Cert.ConvGate.Gen.facts, Cert.ConvGateIdeal.Gen.facts, Cert.ConvGateReferenceIdeal.Gen.facts,
  Cert.FfnNorm.Gen.facts, Cert.FfnNormIdeal.Gen.facts, Cert.FfnNormReferenceIdeal.Gen.facts,
  Cert.Pre_finite_scores.Gen.facts, Cert.Pre_finite_products.Gen.facts, Cert.Pre_chip_for_attn.Gen.facts,
  Cert.Pre_chip_for_down.Gen.facts, Cert.Pre_chip_for_gate_up.Gen.facts, Cert.Pre_chip_for_out.Gen.facts, Cert.Pre_chip_for_in.Gen.facts,
  kernel_frame, ideal_frame, fun m ρ _ => ideal_frame m ρ trivial, reference_frame, fun m ρ _ => reference_frame m ρ trivial,
  Cert.GateUpDwIdeal.kernel_frame, Cert.GateUpDwIdeal.ideal_frame, Cert.GateUpDwReferenceIdeal.frame,
  Cert.InDwIdeal.kernel_frame, Cert.InDwIdeal.ideal_frame, Cert.InDwReferenceIdeal.frame,
  Cert.DownDwIdeal.kernel_frame, Cert.DownDwIdeal.ideal_frame, Cert.DownDwReferenceIdeal.frame,
  Cert.MixDwIdeal.kernel_frame, Cert.MixDwIdeal.ideal_frame, Cert.MixDwReferenceIdeal.frame,
  Cert.AttnDwIdeal.kernel_frame, Cert.AttnDwIdeal.ideal_frame, Cert.AttnDwReferenceIdeal.frame,
  Cert.ConvDwIdeal.kernel_frame, Cert.ConvDwIdeal.ideal_frame, Cert.ConvDwReferenceIdeal.frame,
  Cert.MixDxIdeal.kernel_frame, Cert.MixDxIdeal.ideal_frame, Cert.MixDxReferenceIdeal.frame,
  Cert.AttnDxIdeal.kernel_frame, Cert.AttnDxIdeal.ideal_frame, Cert.AttnDxReferenceIdeal.frame,
  Cert.ConvDxIdeal.kernel_frame, Cert.ConvDxIdeal.ideal_frame, Cert.ConvDxReferenceIdeal.frame,
  Cert.InQIdeal.kernel_frame, Cert.InQIdeal.ideal_frame, Cert.InQReferenceIdeal.frame,
  Cert.InKvIdeal.kernel_frame, Cert.InKvIdeal.ideal_frame, Cert.InKvReferenceIdeal.frame,
  Cert.InConvIdeal.kernel_frame, Cert.InConvIdeal.ideal_frame, Cert.InConvReferenceIdeal.frame,
  Cert.InGatesIdeal.kernel_frame, Cert.InGatesIdeal.ideal_frame, Cert.InGatesReferenceIdeal.frame,
  Cert.AttnOutIdeal.kernel_frame, Cert.AttnOutIdeal.ideal_frame, Cert.AttnOutReferenceIdeal.frame,
  Cert.MixOutIdeal.kernel_frame, Cert.MixOutIdeal.ideal_frame, Cert.MixOutReferenceIdeal.frame,
  Cert.FfnDownIdeal.kernel_frame, Cert.FfnDownIdeal.ideal_frame, Cert.FfnDownReferenceIdeal.frame,
  Cert.GateUpDxIdeal.kernel_frame, Cert.GateUpDxIdeal.ideal_frame, Cert.GateUpDxReferenceIdeal.frame,
  Cert.InDxIdeal.kernel_frame, Cert.InDxIdeal.ideal_frame, Cert.InDxReferenceIdeal.frame,
  Cert.SwigluDxIdeal.kernel_frame, Cert.SwigluDxIdeal.ideal_frame, fun m ρ _ => Cert.SwigluDxIdeal.ideal_frame m ρ trivial, Cert.SwigluDxReferenceIdeal.frame,
  fun m ρ _ => Cert.SwigluDxReferenceIdeal.frame m ρ trivial,
  Cert.AdamWideIdeal.kernel_frame, Cert.AdamWideIdeal.ideal_frame, Cert.AdamWideReferenceIdeal.frame,
  Cert.AdamSmallIdeal.kernel_frame, Cert.AdamSmallIdeal.ideal_frame, Cert.AdamSmallReferenceIdeal.frame,
  Cert.SumSmallIdeal.kernel_frame, Cert.SumSmallIdeal.ideal_frame, Cert.SumSmallReferenceIdeal.frame,
  Cert.SumAttnIdeal.kernel_frame, Cert.SumAttnIdeal.ideal_frame, Cert.SumAttnReferenceIdeal.frame, Cert.SumAttnReferenceIdeal.frame_pre,
  Cert.StepDownIdeal.kernel_frame, Cert.StepDownIdeal.ideal_frame, Cert.StepDownReferenceIdeal.frame, Cert.StepDownReferenceIdeal.frame_pre,
  Cert.StepGateUpIdeal.kernel_frame, Cert.StepGateUpIdeal.ideal_frame, Cert.StepGateUpReferenceIdeal.frame, Cert.StepGateUpReferenceIdeal.frame_pre,
  Cert.StepOutIdeal.kernel_frame, Cert.StepOutIdeal.ideal_frame, Cert.StepOutReferenceIdeal.frame, Cert.StepOutReferenceIdeal.frame_pre,
  Cert.StepInIdeal.kernel_frame, Cert.StepInIdeal.ideal_frame, Cert.StepInReferenceIdeal.frame, Cert.StepInReferenceIdeal.frame_pre,
  Cert.ConvGateIdeal.kernel_frame, Cert.ConvGateIdeal.ideal_frame, Cert.ConvGateReferenceIdeal.frame,
  Cert.FfnNormIdeal.kernel_frame, Cert.FfnNormIdeal.ideal_frame, Cert.FfnNormReferenceIdeal.frame,
  mask_entry, same_values,
  Cert.GateUpDwIdeal.same_value,
  Cert.InDwIdeal.same_value,
  Cert.DownDwIdeal.same_value,
  Cert.MixDwIdeal.same_value,
  Cert.AttnDwIdeal.same_value,
  Cert.ConvDwIdeal.same_value,
  Cert.MixDxIdeal.same_value,
  Cert.AttnDxIdeal.same_value,
  Cert.ConvDxIdeal.same_value,
  Cert.InQIdeal.same_value,
  Cert.InKvIdeal.same_value,
  Cert.InConvIdeal.same_value,
  Cert.InGatesIdeal.same_value,
  Cert.AttnOutIdeal.same_value,
  Cert.MixOutIdeal.same_value,
  Cert.FfnDownIdeal.same_value,
  Cert.GateUpDxIdeal.same_value,
  Cert.InDxIdeal.same_value,
  Cert.SwigluDxIdeal.same_value,
  Cert.AdamWideIdeal.same_value,
  Cert.AdamSmallIdeal.same_value,
  Cert.SumSmallIdeal.same_value,
  Cert.SumAttnIdeal.same_value,
  Cert.StepDownIdeal.same_value,
  Cert.StepGateUpIdeal.same_value,
  Cert.StepOutIdeal.same_value,
  Cert.StepInIdeal.same_value,
  Cert.ConvGateIdeal.same_value,
  Cert.FfnNormIdeal.same_value⟩

end Cert.Proof

end
